-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Kernel37Ideal_finite_qkv [hPre_finite_qkv : Cert.Pre_finite_qkv.Facts] (m : (ℓ : Loc Cert.Kernel37Ideal.nD Cert.Kernel37Ideal.τ Cert.Kernel37Ideal.sig) → Buf (Elt Ideal) ℓ) : Prop :=
  ∀ c : Dev Cert.Kernel37Ideal.nD,
    (Cert.Pre_finite_qkv.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1)) (m ((c.tc : Thread Cert.Kernel37Ideal.nD Cert.Kernel37Ideal.τ).loc Cert.Kernel37Ideal.main_arg2))) = (fun _ => 1#1)

def Pre_Reference37Ideal (m : (ℓ : Loc Cert.Reference37Ideal.nD Cert.Reference37Ideal.τ Cert.Reference37Ideal.sig) → Buf (Elt Ideal) ℓ) : Prop :=
  True

def Pre_Reference37Ideal_finite_qkv [hPre_finite_qkv : Cert.Pre_finite_qkv.Facts] (m : (ℓ : Loc Cert.Reference37Ideal.nD Cert.Reference37Ideal.τ Cert.Reference37Ideal.sig) → Buf (Elt Ideal) ℓ) : Prop :=
  ∀ c : Dev Cert.Reference37Ideal.nD,
    (Cert.Pre_finite_qkv.fn (F := Ideal) (m ((c.tc : Thread Cert.Reference37Ideal.nD Cert.Reference37Ideal.τ).loc Cert.Reference37Ideal.main_arg0)) (m ((c.tc : Thread Cert.Reference37Ideal.nD Cert.Reference37Ideal.τ).loc Cert.Reference37Ideal.main_arg1)) (m ((c.tc : Thread Cert.Reference37Ideal.nD Cert.Reference37Ideal.τ).loc Cert.Reference37Ideal.main_arg2))) = (fun _ => 1#1)

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Kernel38Ideal_finite_memory [hPre_finite_memory : Cert.Pre_finite_memory.Facts] (m : (ℓ : Loc Cert.Kernel38Ideal.nD Cert.Kernel38Ideal.τ Cert.Kernel38Ideal.sig) → Buf (Elt Ideal) ℓ) : Prop :=
  ∀ c : Dev Cert.Kernel38Ideal.nD,
    (Cert.Pre_finite_memory.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1)) (m ((c.tc : Thread Cert.Kernel38Ideal.nD Cert.Kernel38Ideal.τ).loc Cert.Kernel38Ideal.main_arg2)) (m ((c.tc : Thread Cert.Kernel38Ideal.nD Cert.Kernel38Ideal.τ).loc Cert.Kernel38Ideal.main_arg3))) = (fun _ => 1#1)

def Pre_Reference38Ideal (m : (ℓ : Loc Cert.Reference38Ideal.nD Cert.Reference38Ideal.τ Cert.Reference38Ideal.sig) → Buf (Elt Ideal) ℓ) : Prop :=
  True

def Pre_Reference38Ideal_finite_memory [hPre_finite_memory : Cert.Pre_finite_memory.Facts] (m : (ℓ : Loc Cert.Reference38Ideal.nD Cert.Reference38Ideal.τ Cert.Reference38Ideal.sig) → Buf (Elt Ideal) ℓ) : Prop :=
  ∀ c : Dev Cert.Reference38Ideal.nD,
    (Cert.Pre_finite_memory.fn (F := Ideal) (m ((c.tc : Thread Cert.Reference38Ideal.nD Cert.Reference38Ideal.τ).loc Cert.Reference38Ideal.main_arg0)) (m ((c.tc : Thread Cert.Reference38Ideal.nD Cert.Reference38Ideal.τ).loc Cert.Reference38Ideal.main_arg1)) (m ((c.tc : Thread Cert.Reference38Ideal.nD Cert.Reference38Ideal.τ).loc Cert.Reference38Ideal.main_arg2)) (m ((c.tc : Thread Cert.Reference38Ideal.nD Cert.Reference38Ideal.τ).loc Cert.Reference38Ideal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Kernel37Ideal_pre_finite_qkv [hKernel37Ideal : Cert.Kernel37Ideal.Facts] [hPre_finite_qkv : Cert.Pre_finite_qkv.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal_finite_qkv m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Reference37Ideal_pre_finite_qkv [hReference37Ideal : Cert.Reference37Ideal.Facts] [hPre_finite_qkv : Cert.Pre_finite_qkv.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal_finite_qkv m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Kernel38Ideal_pre_finite_memory [hKernel38Ideal : Cert.Kernel38Ideal.Facts] [hPre_finite_memory : Cert.Pre_finite_memory.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal_finite_memory m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Reference38Ideal_pre_finite_memory [hReference38Ideal : Cert.Reference38Ideal.Facts] [hPre_finite_memory : Cert.Pre_finite_memory.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal_finite_memory m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel37_Kernel37Ideal : Prop :=
  IdealRules.named_const.Statement Cert.Kernel37Ideal.κ "mask" .f32 0xF149F2CA#32 ⊥

def algebraic_Kernel37Ideal_Reference37Ideal_pre_finite_qkv [hKernel37Ideal : Cert.Kernel37Ideal.Facts] [hReference37Ideal : Cert.Reference37Ideal.Facts] [hPre_finite_qkv : Cert.Pre_finite_qkv.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal_finite_qkv m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v7_0)) (v1 : (c : Dev Cert.Kernel37Ideal.nD) → Buf (Elt Ideal) ((c.tc : Thread Cert.Kernel37Ideal.nD Cert.Kernel37Ideal.τ).loc Cert.Kernel37Ideal.main_v7_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v7_0) = v0 c
          ∧ r.2.mem ((c.tc : Thread Cert.Kernel37Ideal.nD Cert.Kernel37Ideal.τ).loc Cert.Kernel37Ideal.main_v7_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v39) = v0 c
          ∧ r.2.mem ((c.tc : Thread Cert.Reference37Ideal.nD Cert.Reference37Ideal.τ).loc Cert.Reference37Ideal.main_v40) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal_pre_finite_memory [hKernel38Ideal : Cert.Kernel38Ideal.Facts] [hReference38Ideal : Cert.Reference38Ideal.Facts] [hPre_finite_memory : Cert.Pre_finite_memory.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal_finite_memory m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v4_0)) (v1 : (c : Dev Cert.Kernel38Ideal.nD) → Buf (Elt Ideal) ((c.tc : Thread Cert.Kernel38Ideal.nD Cert.Kernel38Ideal.τ).loc Cert.Kernel38Ideal.main_v4_1)) (v2 : (c : Dev Cert.Kernel38Ideal.nD) → Buf (Elt Ideal) ((c.tc : Thread Cert.Kernel38Ideal.nD Cert.Kernel38Ideal.τ).loc Cert.Kernel38Ideal.main_v4_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v4_0) = v0 c
          ∧ r.2.mem ((c.tc : Thread Cert.Kernel38Ideal.nD Cert.Kernel38Ideal.τ).loc Cert.Kernel38Ideal.main_v4_1) = v1 c
          ∧ r.2.mem ((c.tc : Thread Cert.Kernel38Ideal.nD Cert.Kernel38Ideal.τ).loc Cert.Kernel38Ideal.main_v4_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v63) = v0 c
          ∧ r.2.mem ((c.tc : Thread Cert.Reference38Ideal.nD Cert.Reference38Ideal.τ).loc Cert.Reference38Ideal.main_v61) = v1 c
          ∧ r.2.mem ((c.tc : Thread Cert.Reference38Ideal.nD Cert.Reference38Ideal.τ).loc Cert.Reference38Ideal.main_v60) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v4)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v4)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v4) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v3) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v3) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v4)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v2) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v5) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v2) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v5) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v5) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v5) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v2) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v5) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)) →
    ∃ (v0 : (c : Dev Cert.Kernel39Ideal.nD) → Buf (Elt Ideal) ((c.tc : Thread Cert.Kernel39Ideal.nD Cert.Kernel39Ideal.τ).loc Cert.Kernel39Ideal.main_v3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v3) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v20) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2))

def Claim : Prop :=
  ∃ (hKernel : Cert.Kernel.Facts) (hKernelIdeal : Cert.KernelIdeal.Facts) (hReferenceIdeal : Cert.ReferenceIdeal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel39 : Cert.Kernel39.Facts) (hKernel39Ideal : Cert.Kernel39Ideal.Facts) (hReference39Ideal : Cert.Reference39Ideal.Facts) (hPre_finite : Cert.Pre_finite.Facts) (hPre_finite_qkv : Cert.Pre_finite_qkv.Facts) (hPre_finite_memory : Cert.Pre_finite_memory.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel37 (hKernel37 := hKernel37)
    ∧ quiescent_Kernel37Ideal (hKernel37Ideal := hKernel37Ideal)
    ∧ quiescent_Kernel37Ideal_pre_finite_qkv (hKernel37Ideal := hKernel37Ideal) (hPre_finite_qkv := hPre_finite_qkv)
    ∧ quiescent_Reference37Ideal (hReference37Ideal := hReference37Ideal)
    ∧ quiescent_Reference37Ideal_pre_finite_qkv (hReference37Ideal := hReference37Ideal) (hPre_finite_qkv := hPre_finite_qkv)
    ∧ quiescent_Kernel38 (hKernel38 := hKernel38)
    ∧ quiescent_Kernel38Ideal (hKernel38Ideal := hKernel38Ideal)
    ∧ quiescent_Kernel38Ideal_pre_finite_memory (hKernel38Ideal := hKernel38Ideal) (hPre_finite_memory := hPre_finite_memory)
    ∧ quiescent_Reference38Ideal (hReference38Ideal := hReference38Ideal)
    ∧ quiescent_Reference38Ideal_pre_finite_memory (hReference38Ideal := hReference38Ideal) (hPre_finite_memory := hPre_finite_memory)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel39 (hKernel39 := hKernel39)
    ∧ quiescent_Kernel39Ideal (hKernel39Ideal := hKernel39Ideal)
    ∧ quiescent_Reference39Ideal (hReference39Ideal := hReference39Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel37_Kernel37Ideal
    ∧ algebraic_Kernel37Ideal_Reference37Ideal_pre_finite_qkv (hKernel37Ideal := hKernel37Ideal) (hReference37Ideal := hReference37Ideal) (hPre_finite_qkv := hPre_finite_qkv)
    ∧ preserves_Kernel38_Kernel38Ideal
    ∧ algebraic_Kernel38Ideal_Reference38Ideal_pre_finite_memory (hKernel38Ideal := hKernel38Ideal) (hReference38Ideal := hReference38Ideal) (hPre_finite_memory := hPre_finite_memory)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel39_Kernel39Ideal
    ∧ algebraic_Kernel39Ideal_Reference39Ideal (hKernel39Ideal := hKernel39Ideal) (hReference39Ideal := hReference39Ideal)
-- ==== Pre_finite.lean ====
abbrev S4096x8x128 : Shape := ⟨3, ![4096, 8, 128]⟩
abbrev S_ : Shape := ⟨0, ![]⟩

class Facts : Prop where
  bcast_S_S4096x8x128 : S_.BroadcastsInDim S4096x8x128 (![] : Fin 0 → Fin S4096x8x128.rank)
  reducesTo_S4096x8x128_S_d0_1_2 : S4096x8x128.ReducesTo [0, 1, 2] S_
  h_S_ : 0 < S_.numel

variable [Facts]

def fn_part1 {F : FTy → Type} [FloatOps F] (main_v13 : IVec S_ 1) (main_v16 : IVec S4096x8x128 1) : IVec S_ 1 :=
  let main_c_5 : IVec S_ 1 := constantI S_ 1 1#1
  let main_v17 : IVec S_ 1 := (fun x v => Host.reduce IntOp.andi x v reducesTo_S4096x8x128_S_d0_1_2 h_S_) main_v16 main_c_5
  let main_v18 : IVec S_ 1 := andi main_v13 main_v17
  main_v18

def fn {F : FTy → Type} [FloatOps F] (main_arg0 : FVec F S4096x8x128 .f32) (main_arg1 : FVec F S4096x8x128 .f32) (main_arg2 : FVec F S4096x8x128 .f32) (main_arg3 : FVec F S4096x8x128 .f32) : IVec S_ 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_c : IVec S_ 1 := constantI S_ 1 1#1
  let main_v3 : IVec S_ 1 := (fun x v => Host.reduce IntOp.andi x v reducesTo_S4096x8x128_S_d0_1_2 h_S_) main_v2 main_c
  let main_v4 : FVec F S4096x8x128 .f32 := Host.absf main_arg1
  let main_cst_0 : FVec F S_ .f32 := constant S_ .f32 0x7F800000#32
  let main_v5 : FVec F S4096x8x128 .f32 := broadcastInDim S4096x8x128 ![] bcast_S_S4096x8x128 main_cst_0
  let main_v6 : IVec S4096x8x128 1 := cmpf .olt main_v4 main_v5
  let main_c_1 : IVec S_ 1 := constantI S_ 1 1#1
  let main_v7 : IVec S_ 1 := (fun x v => Host.reduce IntOp.andi x v reducesTo_S4096x8x128_S_d0_1_2 h_S_) main_v6 main_c_1
  let main_v8 : IVec S_ 1 := andi main_v3 main_v7
  let main_v9 : FVec F S4096x8x128 .f32 := Host.absf main_arg2
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  let main_c_3 : IVec S_ 1 := constantI S_ 1 1#1
  let main_v12 : IVec S_ 1 := (fun x v => Host.reduce IntOp.andi x v reducesTo_S4096x8x128_S_d0_1_2 h_S_) main_v11 main_c_3
  let main_v13 : IVec S_ 1 := andi main_v8 main_v12
  let main_v14 : FVec F S4096x8x128 .f32 := Host.absf main_arg3
  let main_cst_4 : FVec F S_ .f32 := constant S_ .f32 0x7F800000#32
  let main_v15 : FVec F S4096x8x128 .f32 := broadcastInDim S4096x8x128 ![] bcast_S_S4096x8x128 main_cst_4
  let main_v16 : IVec S4096x8x128 1 := cmpf .olt main_v14 main_v15
  fn_part1 (F := F) main_v13 main_v16
-- ==== Pre_finite_memory.lean ====
abbrev S4096x1024 : Shape := ⟨2, ![4096, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S256x1024 .f32) (main_arg2 : FVec F S256x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite_qkv.lean ====
abbrev S4096x8x128 : Shape := ⟨3, ![4096, 8, 128]⟩
abbrev S_ : Shape := ⟨0, ![]⟩

class Facts : Prop where
  bcast_S_S4096x8x128 : S_.BroadcastsInDim S4096x8x128 (![] : Fin 0 → Fin S4096x8x128.rank)
  reducesTo_S4096x8x128_S_d0_1_2 : S4096x8x128.ReducesTo [0, 1, 2] S_
  h_S_ : 0 < S_.numel

variable [Facts]

def fn {F : FTy → Type} [FloatOps F] (main_arg0 : FVec F S4096x8x128 .f32) (main_arg1 : FVec F S4096x8x128 .f32) (main_arg2 : FVec F S4096x8x128 .f32) : IVec S_ 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_c : IVec S_ 1 := constantI S_ 1 1#1
  let main_v3 : IVec S_ 1 := (fun x v => Host.reduce IntOp.andi x v reducesTo_S4096x8x128_S_d0_1_2 h_S_) main_v2 main_c
  let main_v4 : FVec F S4096x8x128 .f32 := Host.absf main_arg1
  let main_cst_0 : FVec F S_ .f32 := constant S_ .f32 0x7F800000#32
  let main_v5 : FVec F S4096x8x128 .f32 := broadcastInDim S4096x8x128 ![] bcast_S_S4096x8x128 main_cst_0
  let main_v6 : IVec S4096x8x128 1 := cmpf .olt main_v4 main_v5
  let main_c_1 : IVec S_ 1 := constantI S_ 1 1#1
  let main_v7 : IVec S_ 1 := (fun x v => Host.reduce IntOp.andi x v reducesTo_S4096x8x128_S_d0_1_2 h_S_) main_v6 main_c_1
  let main_v8 : IVec S_ 1 := andi main_v3 main_v7
  let main_v9 : FVec F S4096x8x128 .f32 := Host.absf main_arg2
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  let main_c_3 : IVec S_ 1 := constantI S_ 1 1#1
  let main_v12 : IVec S_ 1 := (fun x v => Host.reduce IntOp.andi x v reducesTo_S4096x8x128_S_d0_1_2 h_S_) main_v11 main_c_3
  let main_v13 : IVec S_ 1 := andi main_v8 main_v12
  main_v13
-- ==== Kernel.lean ====
abbrev S4096x8x128 : Shape := ⟨3, ![4096, 8, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S1024x4096 : Shape := ⟨2, ![1024, 4096]⟩
abbrev S8x1x4096 : Shape := ⟨3, ![8, 1, 4096]⟩
abbrev S512x128 : Shape := ⟨2, ![512, 128]⟩
abbrev S4096x128 : Shape := ⟨2, ![4096, 128]⟩
abbrev S128x512 : Shape := ⟨2, ![128, 512]⟩
abbrev S1x1x512 : Shape := ⟨3, ![1, 1, 512]⟩
abbrev S128x4096 : Shape := ⟨2, ![128, 4096]⟩
abbrev S512 : Shape := ⟨1, ![512]⟩
abbrev S1x512 : Shape := ⟨2, ![1, 512]⟩
abbrev S512x512 : Shape := ⟨2, ![512, 512]⟩

abbrev nBuf : Space → Nat
  | .hbm => 69
  | .vmem => 19
  | .smem => 0
  | _ => 0

abbrev bufTy : (tb : Table) → Fin (tcTables nBuf tb) → BufTy
  | .hbm, ⟨0, _⟩ => ⟨S4096x8x128, .f32⟩
  | .hbm, ⟨1, _⟩ => ⟨S4096x8x128, .f32⟩
  | .hbm, ⟨2, _⟩ => ⟨S4096x8x128, .f32⟩
  | .hbm, ⟨3, _⟩ => ⟨S4096x8x128, .f32⟩
  | .hbm, ⟨4, _⟩ => ⟨S8x4096x4096, .f32⟩
  | .hbm, ⟨5, _⟩ => ⟨S4096, .i32⟩
  | .hbm, ⟨6, _⟩ => ⟨S1x4096, .i32⟩
  | .hbm, ⟨7, _⟩ => ⟨S4096x1, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S8x4096x4096, .i1⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x4096, .f32⟩
  | .hbm, ⟨28, _⟩ => ⟨S4096, .i32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S_, .f32⟩
  | .hbm, ⟨35, _⟩ => ⟨S_, .f32⟩
  | .hbm, ⟨36, _⟩ => ⟨S8x4096x4096, .i1⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .f32⟩
  | .hbm, ⟨44, _⟩ => ⟨S8x4096x1, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S8x4096x4096, .f32⟩
  | .hbm, ⟨52, _⟩ => ⟨S8x4096x4096, .f32⟩
  | .hbm, ⟨53, _⟩ => ⟨S8x128x4096, .f32⟩
  | .hbm, ⟨54, _⟩ => ⟨S4096x8x128, .f32⟩
  | .hbm, ⟨55, _⟩ => ⟨S4096x1024, .f32⟩
  | .hbm, ⟨56, _⟩ => ⟨S1024x4096, .f32⟩
  | .hbm, ⟨57, _⟩ => ⟨S4096x1024, .f32⟩
  | .hbm, ⟨58, _⟩ => ⟨S1024x4096, .f32⟩
  | .hbm, ⟨59, _⟩ => ⟨S4096x1024, .f32⟩
  | .hbm, ⟨60, _⟩ => ⟨S4096x1024, .bf16⟩
  | .hbm, ⟨61, _⟩ => ⟨S4096x1024, .f32⟩
  | .hbm, ⟨62, _⟩ => ⟨S4096x1024, .bf16⟩
  | .hbm, ⟨63, _⟩ => ⟨S4096x1024, .f32⟩
  | .hbm, ⟨64, _⟩ => ⟨S4096x1024, .bf16⟩
  | .hbm, ⟨65, _⟩ => ⟨S8x1x4096, .f32⟩
  | .hbm, ⟨66, _⟩ => ⟨S4096x1024, .f32⟩
  | .hbm, ⟨67, _⟩ => ⟨S4096x1024, .f32⟩
  | .hbm, ⟨68, _⟩ => ⟨S1024x4096, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S1x1x512, .f32⟩
  | .local _ .vmem, ⟨11, _⟩ => ⟨S1x1x512, .f32⟩
  | .local _ .vmem, ⟨12, _⟩ => ⟨S512x128, .f32⟩
  | .local _ .vmem, ⟨13, _⟩ => ⟨S512x128, .f32⟩
  | .local _ .vmem, ⟨14, _⟩ => ⟨S4096x128, .f32⟩
  | .local _ .vmem, ⟨15, _⟩ => ⟨S4096x128, .f32⟩
  | .local _ .vmem, ⟨16, _⟩ => ⟨S128x4096, .f32⟩
  | .local _ .vmem, ⟨17, _⟩ => ⟨S128x4096, .f32⟩
  | .local _ .vmem, ⟨18, _⟩ => ⟨S128x4096, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49_0 : Ref sig .tc := ⟨.hbm, 66, rfl⟩
abbrev main_v49_1 : Ref sig .tc := ⟨.hbm, 67, rfl⟩
abbrev main_v49_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_18 : BitVec 32 := 1#32
  ⟨c0_i32_16, v39, c1_i32_18⟩
def k0_mult1 (i : grid0.Coords) (k0_t1 : Fin (k0_t1_loop i).trips) : BitVec 32 :=
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let c512_i32_67 : BitVec 32 := 512#32
  let v149 : BitVec 32 := Scalar.muli v145 c512_i32_67
  v149
def k0_off1 (i : grid0.Coords) (k0_t1 : Fin (k0_t1_loop i).trips) : Fin 2 → Nat :=
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let c512_i32_67 : BitVec 32 := 512#32
  let v149 : BitVec 32 := Scalar.muli v145 c512_i32_67
  let v150 : BitVec 32 := v149
  let v151 : Index := Scalar.indexCast v150
  let c0_68 : Index := 0#32
  ![v151.toNat, 0]
def k0_mult2 (i : grid0.Coords) (k0_t1 : Fin (k0_t1_loop i).trips) : BitVec 32 :=
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let c512_i32_70 : BitVec 32 := 512#32
  let v158 : BitVec 32 := Scalar.muli v145 c512_i32_70
  v158
def k0_mult3 (i : grid0.Coords) (k0_t1 : Fin (k0_t1_loop i).trips) : BitVec 32 :=
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let c512_i32_73 : BitVec 32 := 512#32
  let v168 : BitVec 32 := Scalar.muli v145 c512_i32_73
  v168
def k0_off2 (i : grid0.Coords) (k0_t1 : Fin (k0_t1_loop i).trips) : Fin 2 → Nat :=
  let c0_74 : Index := 0#32
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let c512_i32_73 : BitVec 32 := 512#32
  let v168 : BitVec 32 := Scalar.muli v145 c512_i32_73
  let v169 : BitVec 32 := v168
  let v170 : Index := Scalar.indexCast v169
  ![0, v170.toNat]
def k0_mult4 (i : grid0.Coords) (k0_t1 : Fin (k0_t1_loop i).trips) : BitVec 32 :=
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let c1_i32_66 : BitVec 32 := 1#32
  let v148 : BitVec 32 := Scalar.addi v145 c1_i32_66
  let c512_i32_81 : BitVec 32 := 512#32
  let v188 : BitVec 32 := Scalar.muli v148 c512_i32_81
  v188
def k0_off3 (i : grid0.Coords) (k0_t1 : Fin (k0_t1_loop i).trips) (c1_i32_66 : BitVec 32) : Fin 2 → Nat :=
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let v148 : BitVec 32 := Scalar.addi v145 c1_i32_66
  let c512_i32_81 : BitVec 32 := 512#32
  let v188 : BitVec 32 := Scalar.muli v148 c512_i32_81
  let v189 : BitVec 32 := v188
  let v190 : Index := Scalar.indexCast v189
  let c0_82 : Index := 0#32
  ![v190.toNat, 0]
def k0_mult5 (i : grid0.Coords) (k0_t1 : Fin (k0_t1_loop i).trips) : BitVec 32 :=
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let c1_i32_66 : BitVec 32 := 1#32
  let v148 : BitVec 32 := Scalar.addi v145 c1_i32_66
  let c512_i32_84 : BitVec 32 := 512#32
  let v197 : BitVec 32 := Scalar.muli v148 c512_i32_84
  v197
def k0_mult6 (i : grid0.Coords) (k0_t1 : Fin (k0_t1_loop i).trips) : BitVec 32 :=
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let c1_i32_66 : BitVec 32 := 1#32
  let v148 : BitVec 32 := Scalar.addi v145 c1_i32_66
  let c512_i32_87 : BitVec 32 := 512#32
  let v207 : BitVec 32 := Scalar.muli v148 c512_i32_87
  v207
def k0_off4 (i : grid0.Coords) (k0_t1 : Fin (k0_t1_loop i).trips) (c1_i32_66 : BitVec 32) : Fin 2 → Nat :=
  let c0_88 : Index := 0#32
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let v148 : BitVec 32 := Scalar.addi v145 c1_i32_66
  let c512_i32_87 : BitVec 32 := 512#32
  let v207 : BitVec 32 := Scalar.muli v148 c512_i32_87
  let v208 : BitVec 32 := v207
  let v209 : Index := Scalar.indexCast v208
  ![0, v209.toNat]
def k0_mult7 (i : grid0.Coords) (k0_t1 : Fin (k0_t1_loop i).trips) : BitVec 32 :=
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let c2_i32_65 : BitVec 32 := 2#32
  let v147 : BitVec 32 := Scalar.addi v145 c2_i32_65
  let c512_i32_95 : BitVec 32 := 512#32
  let v227 : BitVec 32 := Scalar.muli v147 c512_i32_95
  v227
def k0_mult8 (i : grid0.Coords) (k0_t1 : Fin (k0_t1_loop i).trips) : BitVec 32 :=
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let c2_i32_65 : BitVec 32 := 2#32
  let v147 : BitVec 32 := Scalar.addi v145 c2_i32_65
  let c512_i32_98 : BitVec 32 := 512#32
  let v236 : BitVec 32 := Scalar.muli v147 c512_i32_98
  v236
def k0_mult9 (i : grid0.Coords) (k0_t1 : Fin (k0_t1_loop i).trips) : BitVec 32 :=
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let c2_i32_65 : BitVec 32 := 2#32
  let v147 : BitVec 32 := Scalar.addi v145 c2_i32_65
  let c512_i32_101 : BitVec 32 := 512#32
  let v246 : BitVec 32 := Scalar.muli v147 c512_i32_101
  v246
def k0_mult10 (i : grid0.Coords) (k0_t1 : Fin (k0_t1_loop i).trips) : BitVec 32 :=
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let c3_i32 : BitVec 32 := 3#32
  let v146 : BitVec 32 := Scalar.addi v145 c3_i32
  let c512_i32_109 : BitVec 32 := 512#32
  let v266 : BitVec 32 := Scalar.muli v146 c512_i32_109
  v266
def k0_mult11 (i : grid0.Coords) (k0_t1 : Fin (k0_t1_loop i).trips) : BitVec 32 :=
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let c3_i32 : BitVec 32 := 3#32
  let v146 : BitVec 32 := Scalar.addi v145 c3_i32
  let c512_i32_112 : BitVec 32 := 512#32
  let v275 : BitVec 32 := Scalar.muli v146 c512_i32_112
  v275
def k0_mult12 (i : grid0.Coords) (k0_t1 : Fin (k0_t1_loop i).trips) : BitVec 32 :=
  let c0_i32_64 : BitVec 32 := 0#32
  let c4_i32_63 : BitVec 32 := 4#32
  let c0_i32_16 : BitVec 32 := 0#32
  let c1_i32_18 : BitVec 32 := 1#32
  let arg12 : BitVec 32 := Scf.iv c0_i32_16 c1_i32_18 k0_t1
  let v144 : BitVec 32 := Scalar.muli c4_i32_63 arg12
  let v145 : BitVec 32 := Scalar.addi c0_i32_64 v144
  let c3_i32 : BitVec 32 := 3#32
  let v146 : BitVec 32 := Scalar.addi v145 c3_i32
  let c512_i32_115 : BitVec 32 := 512#32
  let v285 : BitVec 32 := Scalar.muli v146 c512_i32_115
  v285
@[reducible] def k0_t2_loop (i : grid0.Coords) : Scf.Loop 32 :=
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let v36 : BitVec 32 := Scalar.addi c0_i32_16 v35
  let c1_i32_19 : BitVec 32 := 1#32
  ⟨v39, v36, c1_i32_19⟩
def k0_mult13 (i : grid0.Coords) (k0_t2 : Fin (k0_t2_loop i).trips) : BitVec 32 :=
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let c512_i32_67 : BitVec 32 := 512#32
  let v149 : BitVec 32 := Scalar.muli v145 c512_i32_67
  v149
def k0_off5 (i : grid0.Coords) (k0_t2 : Fin (k0_t2_loop i).trips) : Fin 2 → Nat :=
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let c512_i32_67 : BitVec 32 := 512#32
  let v149 : BitVec 32 := Scalar.muli v145 c512_i32_67
  let v150 : BitVec 32 := v149
  let v151 : Index := Scalar.indexCast v150
  let c0_68 : Index := 0#32
  ![v151.toNat, 0]
def k0_mult14 (i : grid0.Coords) (k0_t2 : Fin (k0_t2_loop i).trips) : BitVec 32 :=
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let c512_i32_70 : BitVec 32 := 512#32
  let v158 : BitVec 32 := Scalar.muli v145 c512_i32_70
  v158
def k0_mult15 (i : grid0.Coords) (k0_t2 : Fin (k0_t2_loop i).trips) : BitVec 32 :=
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let c512_i32_73 : BitVec 32 := 512#32
  let v168 : BitVec 32 := Scalar.muli v145 c512_i32_73
  v168
def k0_off6 (i : grid0.Coords) (k0_t2 : Fin (k0_t2_loop i).trips) : Fin 2 → Nat :=
  let c0_74 : Index := 0#32
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let c512_i32_73 : BitVec 32 := 512#32
  let v168 : BitVec 32 := Scalar.muli v145 c512_i32_73
  let v169 : BitVec 32 := v168
  let v170 : Index := Scalar.indexCast v169
  ![0, v170.toNat]
def k0_mult16 (i : grid0.Coords) (k0_t2 : Fin (k0_t2_loop i).trips) : BitVec 32 :=
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let c1_i32_66 : BitVec 32 := 1#32
  let v148 : BitVec 32 := Scalar.addi v145 c1_i32_66
  let c512_i32_81 : BitVec 32 := 512#32
  let v188 : BitVec 32 := Scalar.muli v148 c512_i32_81
  v188
def k0_off7 (i : grid0.Coords) (k0_t2 : Fin (k0_t2_loop i).trips) (c1_i32_66 : BitVec 32) : Fin 2 → Nat :=
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let v148 : BitVec 32 := Scalar.addi v145 c1_i32_66
  let c512_i32_81 : BitVec 32 := 512#32
  let v188 : BitVec 32 := Scalar.muli v148 c512_i32_81
  let v189 : BitVec 32 := v188
  let v190 : Index := Scalar.indexCast v189
  let c0_82 : Index := 0#32
  ![v190.toNat, 0]
def k0_mult17 (i : grid0.Coords) (k0_t2 : Fin (k0_t2_loop i).trips) : BitVec 32 :=
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let c1_i32_66 : BitVec 32 := 1#32
  let v148 : BitVec 32 := Scalar.addi v145 c1_i32_66
  let c512_i32_84 : BitVec 32 := 512#32
  let v197 : BitVec 32 := Scalar.muli v148 c512_i32_84
  v197
def k0_mult18 (i : grid0.Coords) (k0_t2 : Fin (k0_t2_loop i).trips) : BitVec 32 :=
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let c1_i32_66 : BitVec 32 := 1#32
  let v148 : BitVec 32 := Scalar.addi v145 c1_i32_66
  let c512_i32_87 : BitVec 32 := 512#32
  let v207 : BitVec 32 := Scalar.muli v148 c512_i32_87
  v207
def k0_off8 (i : grid0.Coords) (k0_t2 : Fin (k0_t2_loop i).trips) (c1_i32_66 : BitVec 32) : Fin 2 → Nat :=
  let c0_88 : Index := 0#32
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let v148 : BitVec 32 := Scalar.addi v145 c1_i32_66
  let c512_i32_87 : BitVec 32 := 512#32
  let v207 : BitVec 32 := Scalar.muli v148 c512_i32_87
  let v208 : BitVec 32 := v207
  let v209 : Index := Scalar.indexCast v208
  ![0, v209.toNat]
def k0_mult19 (i : grid0.Coords) (k0_t2 : Fin (k0_t2_loop i).trips) : BitVec 32 :=
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let c2_i32_65 : BitVec 32 := 2#32
  let v147 : BitVec 32 := Scalar.addi v145 c2_i32_65
  let c512_i32_95 : BitVec 32 := 512#32
  let v227 : BitVec 32 := Scalar.muli v147 c512_i32_95
  v227
def k0_mult20 (i : grid0.Coords) (k0_t2 : Fin (k0_t2_loop i).trips) : BitVec 32 :=
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let c2_i32_65 : BitVec 32 := 2#32
  let v147 : BitVec 32 := Scalar.addi v145 c2_i32_65
  let c512_i32_98 : BitVec 32 := 512#32
  let v236 : BitVec 32 := Scalar.muli v147 c512_i32_98
  v236
def k0_mult21 (i : grid0.Coords) (k0_t2 : Fin (k0_t2_loop i).trips) : BitVec 32 :=
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let c2_i32_65 : BitVec 32 := 2#32
  let v147 : BitVec 32 := Scalar.addi v145 c2_i32_65
  let c512_i32_101 : BitVec 32 := 512#32
  let v246 : BitVec 32 := Scalar.muli v147 c512_i32_101
  v246
def k0_mult22 (i : grid0.Coords) (k0_t2 : Fin (k0_t2_loop i).trips) : BitVec 32 :=
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let c3_i32 : BitVec 32 := 3#32
  let v146 : BitVec 32 := Scalar.addi v145 c3_i32
  let c512_i32_109 : BitVec 32 := 512#32
  let v266 : BitVec 32 := Scalar.muli v146 c512_i32_109
  v266
def k0_mult23 (i : grid0.Coords) (k0_t2 : Fin (k0_t2_loop i).trips) : BitVec 32 :=
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let c3_i32 : BitVec 32 := 3#32
  let v146 : BitVec 32 := Scalar.addi v145 c3_i32
  let c512_i32_112 : BitVec 32 := 512#32
  let v275 : BitVec 32 := Scalar.muli v146 c512_i32_112
  v275
def k0_mult24 (i : grid0.Coords) (k0_t2 : Fin (k0_t2_loop i).trips) : BitVec 32 :=
  let c0_i32_64 : BitVec 32 := 0#32
  let c4_i32_63 : BitVec 32 := 4#32
  let c0_i32_16 : BitVec 32 := 0#32
  let arg1 : BitVec 32 := BitVec.ofNat 32 (i 1).val
  let c0_i32_10 : BitVec 32 := 0#32
  let v17 : BitVec 32 := Scalar.subi arg1 c0_i32_10
  let c0_i32_11 : BitVec 32 := 0#32
  let v19 : BitVec 1 := Scalar.cmpi .sgt v17 c0_i32_11
  let v20 : BitVec 32 := Scalar.extui v19
  let c0_i32_12 : BitVec 32 := 0#32
  let v21 : BitVec 1 := Scalar.cmpi .slt v17 c0_i32_12
  let v22 : BitVec 32 := Scalar.extui v21
  let v23 : BitVec 32 := Scalar.subi v20 v22
  let c4_i32 : BitVec 32 := 4#32
  let c0_i32_13 : BitVec 32 := 0#32
  let v24 : BitVec 1 := Scalar.cmpi .sgt c4_i32 c0_i32_13
  let v25 : BitVec 32 := Scalar.extui v24
  let c0_i32_14 : BitVec 32 := 0#32
  let v26 : BitVec 1 := Scalar.cmpi .slt c4_i32 c0_i32_14
  let v27 : BitVec 32 := Scalar.extui v26
  let v28 : BitVec 32 := Scalar.subi v25 v27
  let v29 : BitVec 1 := Scalar.cmpi .ne v23 v28
  let v30 : BitVec 32 := Scalar.remsi v17 c4_i32
  let c0_i32_15 : BitVec 32 := 0#32
  let v31 : BitVec 1 := Scalar.cmpi .ne v30 c0_i32_15
  let v32 : BitVec 1 := Scalar.andi v29 v31
  let v18 : BitVec 32 := Scalar.divsi v17 c4_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg12 : BitVec 32 := Scf.iv v39 c1_i32_19 k0_t2
  let v144 : BitVec 32 := Scalar.muli c4_i32_63 arg12
  let v145 : BitVec 32 := Scalar.addi c0_i32_64 v144
  let c3_i32 : BitVec 32 := 3#32
  let v146 : BitVec 32 := Scalar.addi v145 c3_i32
  let c512_i32_115 : BitVec 32 := 512#32
  let v285 : BitVec 32 := Scalar.muli v146 c512_i32_115
  v285
def k0_cond2 (i : grid0.Coords) : BitVec 1 :=
  let arg1 : BitVec 32 := BitVec.ofNat 32 (i 1).val
  let c0_i32_10 : BitVec 32 := 0#32
  let v17 : BitVec 32 := Scalar.subi arg1 c0_i32_10
  let c4_i32_29 : BitVec 32 := 4#32
  let c0_i32_30 : BitVec 32 := 0#32
  let v61 : BitVec 1 := Scalar.cmpi .eq c4_i32_29 c0_i32_30
  let c1_i32_31 : BitVec 32 := 1#32
  let v62 : BitVec 32 := Scalar.select v61 c1_i32_31 c4_i32_29
  let v63 : BitVec 32 := Scalar.remsi v17 v62
  let c0_i32_33 : BitVec 32 := 0#32
  let v65 : BitVec 1 := Scalar.cmpi .slt v63 c0_i32_33
  let c0_i32_34 : BitVec 32 := 0#32
  let v66 : BitVec 1 := Scalar.cmpi .slt v62 c0_i32_34
  let v67 : BitVec 1 := Scalar.xori v65 v66
  let c0_i32_32 : BitVec 32 := 0#32
  let v64 : BitVec 1 := Scalar.cmpi .ne v63 c0_i32_32
  let v68 : BitVec 1 := Scalar.andi v67 v64
  let v69 : BitVec 32 := Scalar.addi v63 v62
  let v70 : BitVec 32 := Scalar.select v68 v69 v63
  let c2_i32 : BitVec 32 := 2#32
  let v71 : BitVec 1 := Scalar.cmpi .sge v70 c2_i32
  let v72 : BitVec 32 := Scalar.extui v71
  let c0_i32_35 : BitVec 32 := 0#32
  let v73 : BitVec 1 := Scalar.cmpi .ne v72 c0_i32_35
  v73

def k0_mult25 (i : grid0.Coords) : BitVec 32 :=
  let c0_i32_28 : BitVec 32 := 0#32
  let c4_i32_27 : BitVec 32 := 4#32
  let arg1 : BitVec 32 := BitVec.ofNat 32 (i 1).val
  let c0_i32_10 : BitVec 32 := 0#32
  let v17 : BitVec 32 := Scalar.subi arg1 c0_i32_10
  let c0_i32_21 : BitVec 32 := 0#32
  let v43 : BitVec 1 := Scalar.cmpi .sgt v17 c0_i32_21
  let v44 : BitVec 32 := Scalar.extui v43
  let c0_i32_22 : BitVec 32 := 0#32
  let v45 : BitVec 1 := Scalar.cmpi .slt v17 c0_i32_22
  let v46 : BitVec 32 := Scalar.extui v45
  let v47 : BitVec 32 := Scalar.subi v44 v46
  let c4_i32_20 : BitVec 32 := 4#32
  let c0_i32_23 : BitVec 32 := 0#32
  let v48 : BitVec 1 := Scalar.cmpi .sgt c4_i32_20 c0_i32_23
  let v49 : BitVec 32 := Scalar.extui v48
  let c0_i32_24 : BitVec 32 := 0#32
  let v50 : BitVec 1 := Scalar.cmpi .slt c4_i32_20 c0_i32_24
  let v51 : BitVec 32 := Scalar.extui v50
  let v52 : BitVec 32 := Scalar.subi v49 v51
  let v53 : BitVec 1 := Scalar.cmpi .ne v47 v52
  let v54 : BitVec 32 := Scalar.remsi v17 c4_i32_20
  let c0_i32_25 : BitVec 32 := 0#32
  let v55 : BitVec 1 := Scalar.cmpi .ne v54 c0_i32_25
  let v56 : BitVec 1 := Scalar.andi v53 v55
  let v42 : BitVec 32 := Scalar.divsi v17 c4_i32_20
  let c1_i32_26 : BitVec 32 := 1#32
  let v57 : BitVec 32 := Scalar.subi v42 c1_i32_26
  let v58 : BitVec 32 := Scalar.select v56 v57 v42
  let v59 : BitVec 32 := Scalar.muli c4_i32_27 v58
  let v60 : BitVec 32 := Scalar.addi c0_i32_28 v59
  let c512_i32_64 : BitVec 32 := 512#32
  let v145 : BitVec 32 := Scalar.muli v60 c512_i32_64
  v145
def k0_off9 (i : grid0.Coords) : Fin 2 → Nat :=
  let c0_i32_28 : BitVec 32 := 0#32
  let c4_i32_27 : BitVec 32 := 4#32
  let arg1 : BitVec 32 := BitVec.ofNat 32 (i 1).val
  let c0_i32_10 : BitVec 32 := 0#32
  let v17 : BitVec 32 := Scalar.subi arg1 c0_i32_10
  let c0_i32_21 : BitVec 32 := 0#32
  let v43 : BitVec 1 := Scalar.cmpi .sgt v17 c0_i32_21
  let v44 : BitVec 32 := Scalar.extui v43
  let c0_i32_22 : BitVec 32 := 0#32
  let v45 : BitVec 1 := Scalar.cmpi .slt v17 c0_i32_22
  let v46 : BitVec 32 := Scalar.extui v45
  let v47 : BitVec 32 := Scalar.subi v44 v46
  let c4_i32_20 : BitVec 32 := 4#32
  let c0_i32_23 : BitVec 32 := 0#32
  let v48 : BitVec 1 := Scalar.cmpi .sgt c4_i32_20 c0_i32_23
  let v49 : BitVec 32 := Scalar.extui v48
  let c0_i32_24 : BitVec 32 := 0#32
  let v50 : BitVec 1 := Scalar.cmpi .slt c4_i32_20 c0_i32_24
  let v51 : BitVec 32 := Scalar.extui v50
  let v52 : BitVec 32 := Scalar.subi v49 v51
  let v53 : BitVec 1 := Scalar.cmpi .ne v47 v52
  let v54 : BitVec 32 := Scalar.remsi v17 c4_i32_20
  let c0_i32_25 : BitVec 32 := 0#32
  let v55 : BitVec 1 := Scalar.cmpi .ne v54 c0_i32_25
  let v56 : BitVec 1 := Scalar.andi v53 v55
  let v42 : BitVec 32 := Scalar.divsi v17 c4_i32_20
  let c1_i32_26 : BitVec 32 := 1#32
  let v57 : BitVec 32 := Scalar.subi v42 c1_i32_26
  let v58 : BitVec 32 := Scalar.select v56 v57 v42
  let v59 : BitVec 32 := Scalar.muli c4_i32_27 v58
  let v60 : BitVec 32 := Scalar.addi c0_i32_28 v59
  let c512_i32_64 : BitVec 32 := 512#32
  let v145 : BitVec 32 := Scalar.muli v60 c512_i32_64
  let v146 : BitVec 32 := v145
  let v147 : Index := Scalar.indexCast v146
  let c0_65 : Index := 0#32
  ![v147.toNat, 0]
def k0_mult26 (i : grid0.Coords) : BitVec 32 :=
  let c0_i32_28 : BitVec 32 := 0#32
  let c4_i32_27 : BitVec 32 := 4#32
  let arg1 : BitVec 32 := BitVec.ofNat 32 (i 1).val
  let c0_i32_10 : BitVec 32 := 0#32
  let v17 : BitVec 32 := Scalar.subi arg1 c0_i32_10
  let c0_i32_21 : BitVec 32 := 0#32
  let v43 : BitVec 1 := Scalar.cmpi .sgt v17 c0_i32_21
  let v44 : BitVec 32 := Scalar.extui v43
  let c0_i32_22 : BitVec 32 := 0#32
  let v45 : BitVec 1 := Scalar.cmpi .slt v17 c0_i32_22
  let v46 : BitVec 32 := Scalar.extui v45
  let v47 : BitVec 32 := Scalar.subi v44 v46
  let c4_i32_20 : BitVec 32 := 4#32
  let c0_i32_23 : BitVec 32 := 0#32
  let v48 : BitVec 1 := Scalar.cmpi .sgt c4_i32_20 c0_i32_23
  let v49 : BitVec 32 := Scalar.extui v48
  let c0_i32_24 : BitVec 32 := 0#32
  let v50 : BitVec 1 := Scalar.cmpi .slt c4_i32_20 c0_i32_24
  let v51 : BitVec 32 := Scalar.extui v50
  let v52 : BitVec 32 := Scalar.subi v49 v51
  let v53 : BitVec 1 := Scalar.cmpi .ne v47 v52
  let v54 : BitVec 32 := Scalar.remsi v17 c4_i32_20
  let c0_i32_25 : BitVec 32 := 0#32
  let v55 : BitVec 1 := Scalar.cmpi .ne v54 c0_i32_25
  let v56 : BitVec 1 := Scalar.andi v53 v55
  let v42 : BitVec 32 := Scalar.divsi v17 c4_i32_20
  let c1_i32_26 : BitVec 32 := 1#32
  let v57 : BitVec 32 := Scalar.subi v42 c1_i32_26
  let v58 : BitVec 32 := Scalar.select v56 v57 v42
  let v59 : BitVec 32 := Scalar.muli c4_i32_27 v58
  let v60 : BitVec 32 := Scalar.addi c0_i32_28 v59
  let c512_i32_67 : BitVec 32 := 512#32
  let v154 : BitVec 32 := Scalar.muli v60 c512_i32_67
  v154
def k0_mult27 (i : grid0.Coords) : BitVec 32 :=
  let c0_i32_28 : BitVec 32 := 0#32
  let c4_i32_27 : BitVec 32 := 4#32
  let arg1 : BitVec 32 := BitVec.ofNat 32 (i 1).val
  let c0_i32_10 : BitVec 32 := 0#32
  let v17 : BitVec 32 := Scalar.subi arg1 c0_i32_10
  let c0_i32_21 : BitVec 32 := 0#32
  let v43 : BitVec 1 := Scalar.cmpi .sgt v17 c0_i32_21
  let v44 : BitVec 32 := Scalar.extui v43
  let c0_i32_22 : BitVec 32 := 0#32
  let v45 : BitVec 1 := Scalar.cmpi .slt v17 c0_i32_22
  let v46 : BitVec 32 := Scalar.extui v45
  let v47 : BitVec 32 := Scalar.subi v44 v46
  let c4_i32_20 : BitVec 32 := 4#32
  let c0_i32_23 : BitVec 32 := 0#32
  let v48 : BitVec 1 := Scalar.cmpi .sgt c4_i32_20 c0_i32_23
  let v49 : BitVec 32 := Scalar.extui v48
  let c0_i32_24 : BitVec 32 := 0#32
  let v50 : BitVec 1 := Scalar.cmpi .slt c4_i32_20 c0_i32_24
  let v51 : BitVec 32 := Scalar.extui v50
  let v52 : BitVec 32 := Scalar.subi v49 v51
  let v53 : BitVec 1 := Scalar.cmpi .ne v47 v52
  let v54 : BitVec 32 := Scalar.remsi v17 c4_i32_20
  let c0_i32_25 : BitVec 32 := 0#32
  let v55 : BitVec 1 := Scalar.cmpi .ne v54 c0_i32_25
  let v56 : BitVec 1 := Scalar.andi v53 v55
  let v42 : BitVec 32 := Scalar.divsi v17 c4_i32_20
  let c1_i32_26 : BitVec 32 := 1#32
  let v57 : BitVec 32 := Scalar.subi v42 c1_i32_26
  let v58 : BitVec 32 := Scalar.select v56 v57 v42
  let v59 : BitVec 32 := Scalar.muli c4_i32_27 v58
  let v60 : BitVec 32 := Scalar.addi c0_i32_28 v59
  let c512_i32_70 : BitVec 32 := 512#32
  let v164 : BitVec 32 := Scalar.muli v60 c512_i32_70
  v164
def k0_off10 (i : grid0.Coords) : Fin 2 → Nat :=
  let c0_71 : Index := 0#32
  let c0_i32_28 : BitVec 32 := 0#32
  let c4_i32_27 : BitVec 32 := 4#32
  let arg1 : BitVec 32 := BitVec.ofNat 32 (i 1).val
  let c0_i32_10 : BitVec 32 := 0#32
  let v17 : BitVec 32 := Scalar.subi arg1 c0_i32_10
  let c0_i32_21 : BitVec 32 := 0#32
  let v43 : BitVec 1 := Scalar.cmpi .sgt v17 c0_i32_21
  let v44 : BitVec 32 := Scalar.extui v43
  let c0_i32_22 : BitVec 32 := 0#32
  let v45 : BitVec 1 := Scalar.cmpi .slt v17 c0_i32_22
  let v46 : BitVec 32 := Scalar.extui v45
  let v47 : BitVec 32 := Scalar.subi v44 v46
  let c4_i32_20 : BitVec 32 := 4#32
  let c0_i32_23 : BitVec 32 := 0#32
  let v48 : BitVec 1 := Scalar.cmpi .sgt c4_i32_20 c0_i32_23
  let v49 : BitVec 32 := Scalar.extui v48
  let c0_i32_24 : BitVec 32 := 0#32
  let v50 : BitVec 1 := Scalar.cmpi .slt c4_i32_20 c0_i32_24
  let v51 : BitVec 32 := Scalar.extui v50
  let v52 : BitVec 32 := Scalar.subi v49 v51
  let v53 : BitVec 1 := Scalar.cmpi .ne v47 v52
  let v54 : BitVec 32 := Scalar.remsi v17 c4_i32_20
  let c0_i32_25 : BitVec 32 := 0#32
  let v55 : BitVec 1 := Scalar.cmpi .ne v54 c0_i32_25
  let v56 : BitVec 1 := Scalar.andi v53 v55
  let v42 : BitVec 32 := Scalar.divsi v17 c4_i32_20
  let c1_i32_26 : BitVec 32 := 1#32
  let v57 : BitVec 32 := Scalar.subi v42 c1_i32_26
  let v58 : BitVec 32 := Scalar.select v56 v57 v42
  let v59 : BitVec 32 := Scalar.muli c4_i32_27 v58
  let v60 : BitVec 32 := Scalar.addi c0_i32_28 v59
  let c512_i32_70 : BitVec 32 := 512#32
  let v164 : BitVec 32 := Scalar.muli v60 c512_i32_70
  let v165 : BitVec 32 := v164
  let v166 : Index := Scalar.indexCast v165
  ![0, v166.toNat]
def k0_mult28 (i : grid0.Coords) : BitVec 32 :=
  let c0_i32_28 : BitVec 32 := 0#32
  let c4_i32_27 : BitVec 32 := 4#32
  let arg1 : BitVec 32 := BitVec.ofNat 32 (i 1).val
  let c0_i32_10 : BitVec 32 := 0#32
  let v17 : BitVec 32 := Scalar.subi arg1 c0_i32_10
  let c0_i32_21 : BitVec 32 := 0#32
  let v43 : BitVec 1 := Scalar.cmpi .sgt v17 c0_i32_21
  let v44 : BitVec 32 := Scalar.extui v43
  let c0_i32_22 : BitVec 32 := 0#32
  let v45 : BitVec 1 := Scalar.cmpi .slt v17 c0_i32_22
  let v46 : BitVec 32 := Scalar.extui v45
  let v47 : BitVec 32 := Scalar.subi v44 v46
  let c4_i32_20 : BitVec 32 := 4#32
  let c0_i32_23 : BitVec 32 := 0#32
  let v48 : BitVec 1 := Scalar.cmpi .sgt c4_i32_20 c0_i32_23
  let v49 : BitVec 32 := Scalar.extui v48
  let c0_i32_24 : BitVec 32 := 0#32
  let v50 : BitVec 1 := Scalar.cmpi .slt c4_i32_20 c0_i32_24
  let v51 : BitVec 32 := Scalar.extui v50
  let v52 : BitVec 32 := Scalar.subi v49 v51
  let v53 : BitVec 1 := Scalar.cmpi .ne v47 v52
  let v54 : BitVec 32 := Scalar.remsi v17 c4_i32_20
  let c0_i32_25 : BitVec 32 := 0#32
  let v55 : BitVec 1 := Scalar.cmpi .ne v54 c0_i32_25
  let v56 : BitVec 1 := Scalar.andi v53 v55
  let v42 : BitVec 32 := Scalar.divsi v17 c4_i32_20
  let c1_i32_26 : BitVec 32 := 1#32
  let v57 : BitVec 32 := Scalar.subi v42 c1_i32_26
  let v58 : BitVec 32 := Scalar.select v56 v57 v42
  let v59 : BitVec 32 := Scalar.muli c4_i32_27 v58
  let v60 : BitVec 32 := Scalar.addi c0_i32_28 v59
  let c1_i32_63 : BitVec 32 := 1#32
  let v144 : BitVec 32 := Scalar.addi v60 c1_i32_63
  let c512_i32_78 : BitVec 32 := 512#32
  let v184 : BitVec 32 := Scalar.muli v144 c512_i32_78
  v184
def k0_off11 (i : grid0.Coords) : Fin 2 → Nat :=
  let c0_i32_28 : BitVec 32 := 0#32
  let c4_i32_27 : BitVec 32 := 4#32
  let arg1 : BitVec 32 := BitVec.ofNat 32 (i 1).val
  let c0_i32_10 : BitVec 32 := 0#32
  let v17 : BitVec 32 := Scalar.subi arg1 c0_i32_10
  let c0_i32_21 : BitVec 32 := 0#32
  let v43 : BitVec 1 := Scalar.cmpi .sgt v17 c0_i32_21
  let v44 : BitVec 32 := Scalar.extui v43
  let c0_i32_22 : BitVec 32 := 0#32
  let v45 : BitVec 1 := Scalar.cmpi .slt v17 c0_i32_22
  let v46 : BitVec 32 := Scalar.extui v45
  let v47 : BitVec 32 := Scalar.subi v44 v46
  let c4_i32_20 : BitVec 32 := 4#32
  let c0_i32_23 : BitVec 32 := 0#32
  let v48 : BitVec 1 := Scalar.cmpi .sgt c4_i32_20 c0_i32_23
  let v49 : BitVec 32 := Scalar.extui v48
  let c0_i32_24 : BitVec 32 := 0#32
  let v50 : BitVec 1 := Scalar.cmpi .slt c4_i32_20 c0_i32_24
  let v51 : BitVec 32 := Scalar.extui v50
  let v52 : BitVec 32 := Scalar.subi v49 v51
  let v53 : BitVec 1 := Scalar.cmpi .ne v47 v52
  let v54 : BitVec 32 := Scalar.remsi v17 c4_i32_20
  let c0_i32_25 : BitVec 32 := 0#32
  let v55 : BitVec 1 := Scalar.cmpi .ne v54 c0_i32_25
  let v56 : BitVec 1 := Scalar.andi v53 v55
  let v42 : BitVec 32 := Scalar.divsi v17 c4_i32_20
  let c1_i32_26 : BitVec 32 := 1#32
  let v57 : BitVec 32 := Scalar.subi v42 c1_i32_26
  let v58 : BitVec 32 := Scalar.select v56 v57 v42
  let v59 : BitVec 32 := Scalar.muli c4_i32_27 v58
  let v60 : BitVec 32 := Scalar.addi c0_i32_28 v59
  let c1_i32_63 : BitVec 32 := 1#32
  let v144 : BitVec 32 := Scalar.addi v60 c1_i32_63
  let c512_i32_78 : BitVec 32 := 512#32
  let v184 : BitVec 32 := Scalar.muli v144 c512_i32_78
  let v185 : BitVec 32 := v184
  let v186 : Index := Scalar.indexCast v185
  let c0_79 : Index := 0#32
  ![v186.toNat, 0]
def k0_mult29 (i : grid0.Coords) : BitVec 32 :=
  let c0_i32_28 : BitVec 32 := 0#32
  let c4_i32_27 : BitVec 32 := 4#32
  let arg1 : BitVec 32 := BitVec.ofNat 32 (i 1).val
  let c0_i32_10 : BitVec 32 := 0#32
  let v17 : BitVec 32 := Scalar.subi arg1 c0_i32_10
  let c0_i32_21 : BitVec 32 := 0#32
  let v43 : BitVec 1 := Scalar.cmpi .sgt v17 c0_i32_21
  let v44 : BitVec 32 := Scalar.extui v43
  let c0_i32_22 : BitVec 32 := 0#32
  let v45 : BitVec 1 := Scalar.cmpi .slt v17 c0_i32_22
  let v46 : BitVec 32 := Scalar.extui v45
  let v47 : BitVec 32 := Scalar.subi v44 v46
  let c4_i32_20 : BitVec 32 := 4#32
  let c0_i32_23 : BitVec 32 := 0#32
  let v48 : BitVec 1 := Scalar.cmpi .sgt c4_i32_20 c0_i32_23
  let v49 : BitVec 32 := Scalar.extui v48
  let c0_i32_24 : BitVec 32 := 0#32
  let v50 : BitVec 1 := Scalar.cmpi .slt c4_i32_20 c0_i32_24
  let v51 : BitVec 32 := Scalar.extui v50
  let v52 : BitVec 32 := Scalar.subi v49 v51
  let v53 : BitVec 1 := Scalar.cmpi .ne v47 v52
  let v54 : BitVec 32 := Scalar.remsi v17 c4_i32_20
  let c0_i32_25 : BitVec 32 := 0#32
  let v55 : BitVec 1 := Scalar.cmpi .ne v54 c0_i32_25
  let v56 : BitVec 1 := Scalar.andi v53 v55
  let v42 : BitVec 32 := Scalar.divsi v17 c4_i32_20
  let c1_i32_26 : BitVec 32 := 1#32
  let v57 : BitVec 32 := Scalar.subi v42 c1_i32_26
  let v58 : BitVec 32 := Scalar.select v56 v57 v42
  let v59 : BitVec 32 := Scalar.muli c4_i32_27 v58
  let v60 : BitVec 32 := Scalar.addi c0_i32_28 v59
  let c1_i32_63 : BitVec 32 := 1#32
  let v144 : BitVec 32 := Scalar.addi v60 c1_i32_63
  let c512_i32_81 : BitVec 32 := 512#32
  let v193 : BitVec 32 := Scalar.muli v144 c512_i32_81
  v193
def k0_mult30 (i : grid0.Coords) : BitVec 32 :=
  let c0_i32_28 : BitVec 32 := 0#32
  let c4_i32_27 : BitVec 32 := 4#32
  let arg1 : BitVec 32 := BitVec.ofNat 32 (i 1).val
  let c0_i32_10 : BitVec 32 := 0#32
  let v17 : BitVec 32 := Scalar.subi arg1 c0_i32_10
  let c0_i32_21 : BitVec 32 := 0#32
  let v43 : BitVec 1 := Scalar.cmpi .sgt v17 c0_i32_21
  let v44 : BitVec 32 := Scalar.extui v43
  let c0_i32_22 : BitVec 32 := 0#32
  let v45 : BitVec 1 := Scalar.cmpi .slt v17 c0_i32_22
  let v46 : BitVec 32 := Scalar.extui v45
  let v47 : BitVec 32 := Scalar.subi v44 v46
  let c4_i32_20 : BitVec 32 := 4#32
  let c0_i32_23 : BitVec 32 := 0#32
  let v48 : BitVec 1 := Scalar.cmpi .sgt c4_i32_20 c0_i32_23
  let v49 : BitVec 32 := Scalar.extui v48
  let c0_i32_24 : BitVec 32 := 0#32
  let v50 : BitVec 1 := Scalar.cmpi .slt c4_i32_20 c0_i32_24
  let v51 : BitVec 32 := Scalar.extui v50
  let v52 : BitVec 32 := Scalar.subi v49 v51
  let v53 : BitVec 1 := Scalar.cmpi .ne v47 v52
  let v54 : BitVec 32 := Scalar.remsi v17 c4_i32_20
  let c0_i32_25 : BitVec 32 := 0#32
  let v55 : BitVec 1 := Scalar.cmpi .ne v54 c0_i32_25
  let v56 : BitVec 1 := Scalar.andi v53 v55
  let v42 : BitVec 32 := Scalar.divsi v17 c4_i32_20
  let c1_i32_26 : BitVec 32 := 1#32
  let v57 : BitVec 32 := Scalar.subi v42 c1_i32_26
  let v58 : BitVec 32 := Scalar.select v56 v57 v42
  let v59 : BitVec 32 := Scalar.muli c4_i32_27 v58
  let v60 : BitVec 32 := Scalar.addi c0_i32_28 v59
  let c1_i32_63 : BitVec 32 := 1#32
  let v144 : BitVec 32 := Scalar.addi v60 c1_i32_63
  let c512_i32_84 : BitVec 32 := 512#32
  let v203 : BitVec 32 := Scalar.muli v144 c512_i32_84
  v203
def k0_off12 (i : grid0.Coords) : Fin 2 → Nat :=
  let c0_85 : Index := 0#32
  let c0_i32_28 : BitVec 32 := 0#32
  let c4_i32_27 : BitVec 32 := 4#32
  let arg1 : BitVec 32 := BitVec.ofNat 32 (i 1).val
  let c0_i32_10 : BitVec 32 := 0#32
  let v17 : BitVec 32 := Scalar.subi arg1 c0_i32_10
  let c0_i32_21 : BitVec 32 := 0#32
  let v43 : BitVec 1 := Scalar.cmpi .sgt v17 c0_i32_21
  let v44 : BitVec 32 := Scalar.extui v43
  let c0_i32_22 : BitVec 32 := 0#32
  let v45 : BitVec 1 := Scalar.cmpi .slt v17 c0_i32_22
  let v46 : BitVec 32 := Scalar.extui v45
  let v47 : BitVec 32 := Scalar.subi v44 v46
  let c4_i32_20 : BitVec 32 := 4#32
  let c0_i32_23 : BitVec 32 := 0#32
  let v48 : BitVec 1 := Scalar.cmpi .sgt c4_i32_20 c0_i32_23
  let v49 : BitVec 32 := Scalar.extui v48
  let c0_i32_24 : BitVec 32 := 0#32
  let v50 : BitVec 1 := Scalar.cmpi .slt c4_i32_20 c0_i32_24
  let v51 : BitVec 32 := Scalar.extui v50
  let v52 : BitVec 32 := Scalar.subi v49 v51
  let v53 : BitVec 1 := Scalar.cmpi .ne v47 v52
  let v54 : BitVec 32 := Scalar.remsi v17 c4_i32_20
  let c0_i32_25 : BitVec 32 := 0#32
  let v55 : BitVec 1 := Scalar.cmpi .ne v54 c0_i32_25
  let v56 : BitVec 1 := Scalar.andi v53 v55
  let v42 : BitVec 32 := Scalar.divsi v17 c4_i32_20
  let c1_i32_26 : BitVec 32 := 1#32
  let v57 : BitVec 32 := Scalar.subi v42 c1_i32_26
  let v58 : BitVec 32 := Scalar.select v56 v57 v42
  let v59 : BitVec 32 := Scalar.muli c4_i32_27 v58
  let v60 : BitVec 32 := Scalar.addi c0_i32_28 v59
  let c1_i32_63 : BitVec 32 := 1#32
  let v144 : BitVec 32 := Scalar.addi v60 c1_i32_63
  let c512_i32_84 : BitVec 32 := 512#32
  let v203 : BitVec 32 := Scalar.muli v144 c512_i32_84
  let v204 : BitVec 32 := v203
  let v205 : Index := Scalar.indexCast v204
  ![0, v205.toNat]
def k0_cond3 (i : grid0.Coords) : BitVec 1 :=
  let arg1 : BitVec 32 := BitVec.ofNat 32 (i 1).val
  let c0_i32_10 : BitVec 32 := 0#32
  let v17 : BitVec 32 := Scalar.subi arg1 c0_i32_10
  let c2_i32_36 : BitVec 32 := 2#32
  let c0_i32_37 : BitVec 32 := 0#32
  let v75 : BitVec 1 := Scalar.cmpi .eq c2_i32_36 c0_i32_37
  let c1_i32_38 : BitVec 32 := 1#32
  let v76 : BitVec 32 := Scalar.select v75 c1_i32_38 c2_i32_36
  let v77 : BitVec 32 := Scalar.remsi v17 v76
  let c0_i32_40 : BitVec 32 := 0#32
  let v79 : BitVec 1 := Scalar.cmpi .slt v77 c0_i32_40
  let c0_i32_41 : BitVec 32 := 0#32
  let v80 : BitVec 1 := Scalar.cmpi .slt v76 c0_i32_41
  let v81 : BitVec 1 := Scalar.xori v79 v80
  let c0_i32_39 : BitVec 32 := 0#32
  let v78 : BitVec 1 := Scalar.cmpi .ne v77 c0_i32_39
  let v82 : BitVec 1 := Scalar.andi v81 v78
  let v83 : BitVec 32 := Scalar.addi v77 v76
  let v84 : BitVec 32 := Scalar.select v82 v83 v77
  let c1_i32_42 : BitVec 32 := 1#32
  let v85 : BitVec 1 := Scalar.cmpi .eq v84 c1_i32_42
  let v86 : BitVec 32 := Scalar.extui v85
  let c0_i32_43 : BitVec 32 := 0#32
  let v87 : BitVec 1 := Scalar.cmpi .ne v86 c0_i32_43
  v87

def k0_mult31 (i : grid0.Coords) : BitVec 32 :=
  let arg1 : BitVec 32 := BitVec.ofNat 32 (i 1).val
  let c1_i32_63 : BitVec 32 := 1#32
  let v144 : BitVec 32 := Scalar.subi arg1 c1_i32_63
  let c512_i32_64 : BitVec 32 := 512#32
  let v145 : BitVec 32 := Scalar.muli v144 c512_i32_64
  v145
def k0_off13 (i : grid0.Coords) : Fin 2 → Nat :=
  let arg1 : BitVec 32 := BitVec.ofNat 32 (i 1).val
  let c1_i32_63 : BitVec 32 := 1#32
  let v144 : BitVec 32 := Scalar.subi arg1 c1_i32_63
  let c512_i32_64 : BitVec 32 := 512#32
  let v145 : BitVec 32 := Scalar.muli v144 c512_i32_64
  let v146 : BitVec 32 := v145
  let v147 : Index := Scalar.indexCast v146
  let c0_65 : Index := 0#32
  ![v147.toNat, 0]
def k0_mult32 (i : grid0.Coords) : BitVec 32 :=
  let arg1 : BitVec 32 := BitVec.ofNat 32 (i 1).val
  let c1_i32_63 : BitVec 32 := 1#32
  let v144 : BitVec 32 := Scalar.subi arg1 c1_i32_63
  let c512_i32_67 : BitVec 32 := 512#32
  let v154 : BitVec 32 := Scalar.muli v144 c512_i32_67
  v154
def k0_mult33 (i : grid0.Coords) : BitVec 32 :=
  let arg1 : BitVec 32 := BitVec.ofNat 32 (i 1).val
  let c1_i32_63 : BitVec 32 := 1#32
  let v144 : BitVec 32 := Scalar.subi arg1 c1_i32_63
  let c512_i32_70 : BitVec 32 := 512#32
  let v164 : BitVec 32 := Scalar.muli v144 c512_i32_70
  v164
def k0_off14 (i : grid0.Coords) : Fin 2 → Nat :=
  let c0_71 : Index := 0#32
  let arg1 : BitVec 32 := BitVec.ofNat 32 (i 1).val
  let c1_i32_63 : BitVec 32 := 1#32
  let v144 : BitVec 32 := Scalar.subi arg1 c1_i32_63
  let c512_i32_70 : BitVec 32 := 512#32
  let v164 : BitVec 32 := Scalar.muli v144 c512_i32_70
  let v165 : BitVec 32 := v164
  let v166 : Index := Scalar.indexCast v165
  ![0, v166.toNat]
def k0_mult34 (i : grid0.Coords) : BitVec 32 :=
  let arg1 : BitVec 32 := BitVec.ofNat 32 (i 1).val
  let c512_i32 : BitVec 32 := 512#32
  let v89 : BitVec 32 := Scalar.muli arg1 c512_i32
  v89
def k0_off15 (i : grid0.Coords) : Fin 2 → Nat :=
  let arg1 : BitVec 32 := BitVec.ofNat 32 (i 1).val
  let c512_i32 : BitVec 32 := 512#32
  let v89 : BitVec 32 := Scalar.muli arg1 c512_i32
  let v90 : BitVec 32 := v89
  let v91 : Index := Scalar.indexCast v90
  let c0_44 : Index := 0#32
  ![v91.toNat, 0]
def k0_mult35 (i : grid0.Coords) : BitVec 32 :=
  let arg1 : BitVec 32 := BitVec.ofNat 32 (i 1).val
  let c512_i32_49 : BitVec 32 := 512#32
  let v109 : BitVec 32 := Scalar.muli arg1 c512_i32_49
  v109
def k0_mult36 (i : grid0.Coords) : BitVec 32 :=
  let arg1 : BitVec 32 := BitVec.ofNat 32 (i 1).val
  let c512_i32_52 : BitVec 32 := 512#32
  let v119 : BitVec 32 := Scalar.muli arg1 c512_i32_52
  v119
def k0_off16 (i : grid0.Coords) : Fin 2 → Nat :=
  let c0_53 : Index := 0#32
  let arg1 : BitVec 32 := BitVec.ofNat 32 (i 1).val
  let c512_i32_52 : BitVec 32 := 512#32
  let v119 : BitVec 32 := Scalar.muli arg1 c512_i32_52
  let v120 : BitVec 32 := v119
  let v121 : Index := Scalar.indexCast v120
  ![0, v121.toNat]
def k0_cond4 (i : grid0.Coords) : BitVec 1 :=
  let arg1 : BitVec 32 := BitVec.ofNat 32 (i 1).val
  let c7_i32 : BitVec 32 := 7#32
  let v141 : BitVec 1 := Scalar.cmpi .eq arg1 c7_i32
  let v142 : BitVec 32 := Scalar.extui v141
  let c0_i32_62 : BitVec 32 := 0#32
  let v143 : BitVec 1 := Scalar.cmpi .ne v142 c0_i32_62
  v143

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x8x128 : Shape := ⟨3, ![4096, 8, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩
abbrev S4096x1024 : Shape := ⟨2, ![4096, 1024]⟩
abbrev S1024x4096 : Shape := ⟨2, ![1024, 4096]⟩

abbrev nBuf : Space → Nat
  | .hbm => 87
  | .vmem => 0
  | .smem => 0
  | _ => 0

abbrev bufTy : (tb : Table) → Fin (tcTables nBuf tb) → BufTy
  | .hbm, ⟨0, _⟩ => ⟨S4096x8x128, .f32⟩
  | .hbm, ⟨1, _⟩ => ⟨S4096x8x128, .f32⟩
  | .hbm, ⟨2, _⟩ => ⟨S4096x8x128, .f32⟩
  | .hbm, ⟨3, _⟩ => ⟨S4096x8x128, .f32⟩
  | .hbm, ⟨4, _⟩ => ⟨S8x4096x4096, .f32⟩
  | .hbm, ⟨5, _⟩ => ⟨S4096, .i32⟩
  | .hbm, ⟨6, _⟩ => ⟨S1x4096, .i32⟩
  | .hbm, ⟨7, _⟩ => ⟨S4096x1, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S8x4096x4096, .i1⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S8x4096x4096, .f32⟩
  | .hbm, ⟨22, _⟩ => ⟨S8x4096x4096, .i1⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .i1⟩
  | .hbm, ⟨32, _⟩ => ⟨S_, .f32⟩
  | .hbm, ⟨33, _⟩ => ⟨S8x4096, .f32⟩
  | .hbm, ⟨34, _⟩ => ⟨S8x4096, .i1⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S8x4096, .f32⟩
  | .hbm, ⟨43, _⟩ => ⟨S8x4096x1, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S8x4096x4096, .f32⟩
  | .hbm, ⟨51, _⟩ => ⟨S8x4096x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x128x4096, .f32⟩
  | .hbm, ⟨57, _⟩ => ⟨S4096x8x128, .f32⟩
  | .hbm, ⟨58, _⟩ => ⟨S8x128x4096, .f32⟩
  | .hbm, ⟨59, _⟩ => ⟨S8x4096x4096, .f32⟩
  | .hbm, ⟨60, _⟩ => ⟨S8x128x4096, .f32⟩
  | .hbm, ⟨61, _⟩ => ⟨S4096x8x128, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S8x4096x1, .f32⟩
  | .hbm, ⟨69, _⟩ => ⟨S8x4096x4096, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S_, .f32⟩
  | .hbm, ⟨77, _⟩ => ⟨S8x4096x4096, .f32⟩
  | .hbm, ⟨78, _⟩ => ⟨S8x4096x4096, .f32⟩
  | .hbm, ⟨79, _⟩ => ⟨S8x4096x128, .f32⟩
  | .hbm, ⟨80, _⟩ => ⟨S4096x8x128, .f32⟩
  | .hbm, ⟨81, _⟩ => ⟨S8x4096x128, .f32⟩
  | .hbm, ⟨82, _⟩ => ⟨S4096x8x128, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S1024x4096, .f32⟩
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_v7_1 : Ref sig .tc := ⟨.hbm, 13, rfl⟩
abbrev main_call0_v2 : Ref sig .tc := ⟨.hbm, 14, rfl⟩
abbrev main_v7_0 : Ref sig .tc := ⟨.hbm, 15, rfl⟩
abbrev main_call0_cst : Ref sig .tc := ⟨.hbm, 16, rfl⟩
abbrev main_v7_2 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Kernel37.lean ====
abbrev S4096x8x128 : Shape := ⟨3, ![4096, 8, 128]⟩
abbrev S4096x1024 : Shape := ⟨2, ![4096, 1024]⟩
abbrev S1024x4096 : Shape := ⟨2, ![1024, 4096]⟩
abbrev S8x1x4096 : Shape := ⟨3, ![8, 1, 4096]⟩
abbrev S512x128 : Shape := ⟨2, ![512, 128]⟩
abbrev S4096x128 : Shape := ⟨2, ![4096, 128]⟩
abbrev S128x4096 : Shape := ⟨2, ![128, 4096]⟩
abbrev S128x512 : Shape := ⟨2, ![128, 512]⟩
abbrev S1x1x512 : Shape := ⟨3, ![1, 1, 512]⟩
abbrev S1x512 : Shape := ⟨2, ![1, 512]⟩
abbrev S512x512 : Shape := ⟨2, ![512, 512]⟩
abbrev S512 : Shape := ⟨1, ![512]⟩

abbrev nBuf : Space → Nat
  | .hbm => 12
  | .vmem => 10
  | .smem => 0
  | _ => 0

abbrev bufTy : (tb : Table) → Fin (tcTables nBuf tb) → BufTy
  | .hbm, ⟨0, _⟩ => ⟨S4096x8x128, .f32⟩
  | .hbm, ⟨1, _⟩ => ⟨S4096x8x128, .f32⟩
  | .hbm, ⟨2, _⟩ => ⟨S4096x8x128, .f32⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x4096, .f32⟩
  | .hbm, ⟨11, _⟩ => ⟨S8x1x4096, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S128x4096, .bf16⟩
  | .local _ .vmem, ⟨5, _⟩ => ⟨S128x4096, .bf16⟩
  | .local _ .vmem, ⟨6, _⟩ => ⟨S128x512, .f32⟩
  | .local _ .vmem, ⟨7, _⟩ => ⟨S128x512, .f32⟩
  | .local _ .vmem, ⟨8, _⟩ => ⟨S1x1x512, .f32⟩
  | .local _ .vmem, ⟨9, _⟩ => ⟨S1x1x512, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_8 : BitVec 32 := 0#32
  let arg1 : BitVec 32 := BitVec.ofNat 32 (i 1).val
  let c0_i32 : BitVec 32 := 0#32
  let v5 : BitVec 32 := Scalar.subi arg1 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4_i32 : BitVec 32 := 4#32
  let c0_i32_5 : BitVec 32 := 0#32
  let v12 : BitVec 1 := Scalar.cmpi .sgt c4_i32 c0_i32_5
  let v13 : BitVec 32 := Scalar.extui v12
  let c0_i32_6 : BitVec 32 := 0#32
  let v14 : BitVec 1 := Scalar.cmpi .slt c4_i32 c0_i32_6
  let v15 : BitVec 32 := Scalar.extui v14
  let v16 : BitVec 32 := Scalar.subi v13 v15
  let v17 : BitVec 1 := Scalar.cmpi .ne v11 v16
  let v18 : BitVec 32 := Scalar.remsi v5 c4_i32
  let c0_i32_7 : BitVec 32 := 0#32
  let v19 : BitVec 1 := Scalar.cmpi .ne v18 c0_i32_7
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_10 : BitVec 32 := 1#32
  ⟨c0_i32_8, v27, c1_i32_10⟩
def k0_mult1 (i : grid0.Coords) (k0_t1 : Fin (k0_t1_loop i).trips) : BitVec 32 :=
  let c0_i32_52 : BitVec 32 := 0#32
  let c4_i32_51 : BitVec 32 := 4#32
  let c0_i32_8 : BitVec 32 := 0#32
  let c1_i32_10 : BitVec 32 := 1#32
  let arg7 : BitVec 32 := Scf.iv c0_i32_8 c1_i32_10 k0_t1
  let v124 : BitVec 32 := Scalar.muli c4_i32_51 arg7
  let v125 : BitVec 32 := Scalar.addi c0_i32_52 v124
  let c512_i32_55 : BitVec 32 := 512#32
  let v129 : BitVec 32 := Scalar.muli v125 c512_i32_55
  v129
def k0_off1 (i : grid0.Coords) (k0_t1 : Fin (k0_t1_loop i).trips) : Fin 2 → Nat :=
  let c0_i32_52 : BitVec 32 := 0#32
  let c4_i32_51 : BitVec 32 := 4#32
  let c0_i32_8 : BitVec 32 := 0#32
  let c1_i32_10 : BitVec 32 := 1#32
  let arg7 : BitVec 32 := Scf.iv c0_i32_8 c1_i32_10 k0_t1
  let v124 : BitVec 32 := Scalar.muli c4_i32_51 arg7
  let v125 : BitVec 32 := Scalar.addi c0_i32_52 v124
  let c512_i32_55 : BitVec 32 := 512#32
  let v129 : BitVec 32 := Scalar.muli v125 c512_i32_55
  let v130 : BitVec 32 := v129
  let v131 : Index := Scalar.indexCast v130
  let c0_56 : Index := 0#32
  ![v131.toNat, 0]
def k0_mult2 (i : grid0.Coords) (k0_t1 : Fin (k0_t1_loop i).trips) : BitVec 32 :=
  let c0_i32_52 : BitVec 32 := 0#32
  let c4_i32_51 : BitVec 32 := 4#32
  let c0_i32_8 : BitVec 32 := 0#32
  let c1_i32_10 : BitVec 32 := 1#32
  let arg7 : BitVec 32 := Scf.iv c0_i32_8 c1_i32_10 k0_t1
  let v124 : BitVec 32 := Scalar.muli c4_i32_51 arg7
  let v125 : BitVec 32 := Scalar.addi c0_i32_52 v124
  let c512_i32_60 : BitVec 32 := 512#32
  let v149 : BitVec 32 := Scalar.muli v125 c512_i32_60
  v149
def k0_off2 (i : grid0.Coords) (k0_t1 : Fin (k0_t1_loop i).trips) : Fin 2 → Nat :=
  let c0_61 : Index := 0#32
  let c0_i32_52 : BitVec 32 := 0#32
  let c4_i32_51 : BitVec 32 := 4#32
  let c0_i32_8 : BitVec 32 := 0#32
  let c1_i32_10 : BitVec 32 := 1#32
  let arg7 : BitVec 32 := Scf.iv c0_i32_8 c1_i32_10 k0_t1
  let v124 : BitVec 32 := Scalar.muli c4_i32_51 arg7
  let v125 : BitVec 32 := Scalar.addi c0_i32_52 v124
  let c512_i32_60 : BitVec 32 := 512#32
  let v149 : BitVec 32 := Scalar.muli v125 c512_i32_60
  let v150 : BitVec 32 := v149
  let v151 : Index := Scalar.indexCast v150
  ![0, v151.toNat]
def k0_mult3 (i : grid0.Coords) (k0_t1 : Fin (k0_t1_loop i).trips) : BitVec 32 :=
  let c0_i32_52 : BitVec 32 := 0#32
  let c4_i32_51 : BitVec 32 := 4#32
  let c0_i32_8 : BitVec 32 := 0#32
  let c1_i32_10 : BitVec 32 := 1#32
  let arg7 : BitVec 32 := Scf.iv c0_i32_8 c1_i32_10 k0_t1
  let v124 : BitVec 32 := Scalar.muli c4_i32_51 arg7
  let v125 : BitVec 32 := Scalar.addi c0_i32_52 v124
  let c1_i32_54 : BitVec 32 := 1#32
  let v128 : BitVec 32 := Scalar.addi v125 c1_i32_54
  let c512_i32_63 : BitVec 32 := 512#32
  let v157 : BitVec 32 := Scalar.muli v128 c512_i32_63
  v157
def k0_off3 (i : grid0.Coords) (k0_t1 : Fin (k0_t1_loop i).trips) (c1_i32_54 : BitVec 32) : Fin 2 → Nat :=
  let c0_i32_52 : BitVec 32 := 0#32
  let c4_i32_51 : BitVec 32 := 4#32
  let c0_i32_8 : BitVec 32 := 0#32
  let c1_i32_10 : BitVec 32 := 1#32
  let arg7 : BitVec 32 := Scf.iv c0_i32_8 c1_i32_10 k0_t1
  let v124 : BitVec 32 := Scalar.muli c4_i32_51 arg7
  let v125 : BitVec 32 := Scalar.addi c0_i32_52 v124
  let v128 : BitVec 32 := Scalar.addi v125 c1_i32_54
  let c512_i32_63 : BitVec 32 := 512#32
  let v157 : BitVec 32 := Scalar.muli v128 c512_i32_63
  let v158 : BitVec 32 := v157
  let v159 : Index := Scalar.indexCast v158
  let c0_64 : Index := 0#32
  ![v159.toNat, 0]
def k0_mult4 (i : grid0.Coords) (k0_t1 : Fin (k0_t1_loop i).trips) : BitVec 32 :=
  let c0_i32_52 : BitVec 32 := 0#32
  let c4_i32_51 : BitVec 32 := 4#32
  let c0_i32_8 : BitVec 32 := 0#32
  let c1_i32_10 : BitVec 32 := 1#32
  let arg7 : BitVec 32 := Scf.iv c0_i32_8 c1_i32_10 k0_t1
  let v124 : BitVec 32 := Scalar.muli c4_i32_51 arg7
  let v125 : BitVec 32 := Scalar.addi c0_i32_52 v124
  let c1_i32_54 : BitVec 32 := 1#32
  let v128 : BitVec 32 := Scalar.addi v125 c1_i32_54
  let c512_i32_68 : BitVec 32 := 512#32
  let v177 : BitVec 32 := Scalar.muli v128 c512_i32_68
  v177
def k0_off4 (i : grid0.Coords) (k0_t1 : Fin (k0_t1_loop i).trips) (c1_i32_54 : BitVec 32) : Fin 2 → Nat :=
  let c0_69 : Index := 0#32
  let c0_i32_52 : BitVec 32 := 0#32
  let c4_i32_51 : BitVec 32 := 4#32
  let c0_i32_8 : BitVec 32 := 0#32
  let c1_i32_10 : BitVec 32 := 1#32
  let arg7 : BitVec 32 := Scf.iv c0_i32_8 c1_i32_10 k0_t1
  let v124 : BitVec 32 := Scalar.muli c4_i32_51 arg7
  let v125 : BitVec 32 := Scalar.addi c0_i32_52 v124
  let v128 : BitVec 32 := Scalar.addi v125 c1_i32_54
  let c512_i32_68 : BitVec 32 := 512#32
  let v177 : BitVec 32 := Scalar.muli v128 c512_i32_68
  let v178 : BitVec 32 := v177
  let v179 : Index := Scalar.indexCast v178
  ![0, v179.toNat]
def k0_mult5 (i : grid0.Coords) (k0_t1 : Fin (k0_t1_loop i).trips) : BitVec 32 :=
  let c0_i32_52 : BitVec 32 := 0#32
  let c4_i32_51 : BitVec 32 := 4#32
  let c0_i32_8 : BitVec 32 := 0#32
  let c1_i32_10 : BitVec 32 := 1#32
  let arg7 : BitVec 32 := Scf.iv c0_i32_8 c1_i32_10 k0_t1
  let v124 : BitVec 32 := Scalar.muli c4_i32_51 arg7
  let v125 : BitVec 32 := Scalar.addi c0_i32_52 v124
  let c2_i32_53 : BitVec 32 := 2#32
  let v127 : BitVec 32 := Scalar.addi v125 c2_i32_53
  let c512_i32_71 : BitVec 32 := 512#32
  let v185 : BitVec 32 := Scalar.muli v127 c512_i32_71
  v185
def k0_mult6 (i : grid0.Coords) (k0_t1 : Fin (k0_t1_loop i).trips) : BitVec 32 :=
  let c0_i32_52 : BitVec 32 := 0#32
  let c4_i32_51 : BitVec 32 := 4#32
  let c0_i32_8 : BitVec 32 := 0#32
  let c1_i32_10 : BitVec 32 := 1#32
  let arg7 : BitVec 32 := Scf.iv c0_i32_8 c1_i32_10 k0_t1
  let v124 : BitVec 32 := Scalar.muli c4_i32_51 arg7
  let v125 : BitVec 32 := Scalar.addi c0_i32_52 v124
  let c2_i32_53 : BitVec 32 := 2#32
  let v127 : BitVec 32 := Scalar.addi v125 c2_i32_53
  let c512_i32_76 : BitVec 32 := 512#32
  let v205 : BitVec 32 := Scalar.muli v127 c512_i32_76
  v205
def k0_mult7 (i : grid0.Coords) (k0_t1 : Fin (k0_t1_loop i).trips) : BitVec 32 :=
  let c0_i32_52 : BitVec 32 := 0#32
  let c4_i32_51 : BitVec 32 := 4#32
  let c0_i32_8 : BitVec 32 := 0#32
  let c1_i32_10 : BitVec 32 := 1#32
  let arg7 : BitVec 32 := Scf.iv c0_i32_8 c1_i32_10 k0_t1
  let v124 : BitVec 32 := Scalar.muli c4_i32_51 arg7
  let v125 : BitVec 32 := Scalar.addi c0_i32_52 v124
  let c3_i32 : BitVec 32 := 3#32
  let v126 : BitVec 32 := Scalar.addi v125 c3_i32
  let c512_i32_79 : BitVec 32 := 512#32
  let v213 : BitVec 32 := Scalar.muli v126 c512_i32_79
  v213
def k0_mult8 (i : grid0.Coords) (k0_t1 : Fin (k0_t1_loop i).trips) : BitVec 32 :=
  let c0_i32_52 : BitVec 32 := 0#32
  let c4_i32_51 : BitVec 32 := 4#32
  let c0_i32_8 : BitVec 32 := 0#32
  let c1_i32_10 : BitVec 32 := 1#32
  let arg7 : BitVec 32 := Scf.iv c0_i32_8 c1_i32_10 k0_t1
  let v124 : BitVec 32 := Scalar.muli c4_i32_51 arg7
  let v125 : BitVec 32 := Scalar.addi c0_i32_52 v124
  let c3_i32 : BitVec 32 := 3#32
  let v126 : BitVec 32 := Scalar.addi v125 c3_i32
  let c512_i32_84 : BitVec 32 := 512#32
  let v233 : BitVec 32 := Scalar.muli v126 c512_i32_84
  v233
@[reducible] def k0_t2_loop (i : grid0.Coords) : Scf.Loop 32 :=
  let c0_i32_8 : BitVec 32 := 0#32
  let arg1 : BitVec 32 := BitVec.ofNat 32 (i 1).val
  let c0_i32 : BitVec 32 := 0#32
  let v5 : BitVec 32 := Scalar.subi arg1 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4_i32 : BitVec 32 := 4#32
  let c0_i32_5 : BitVec 32 := 0#32
  let v12 : BitVec 1 := Scalar.cmpi .sgt c4_i32 c0_i32_5
  let v13 : BitVec 32 := Scalar.extui v12
  let c0_i32_6 : BitVec 32 := 0#32
  let v14 : BitVec 1 := Scalar.cmpi .slt c4_i32 c0_i32_6
  let v15 : BitVec 32 := Scalar.extui v14
  let v16 : BitVec 32 := Scalar.subi v13 v15
  let v17 : BitVec 1 := Scalar.cmpi .ne v11 v16
  let v18 : BitVec 32 := Scalar.remsi v5 c4_i32
  let c0_i32_7 : BitVec 32 := 0#32
  let v19 : BitVec 1 := Scalar.cmpi .ne v18 c0_i32_7
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let v24 : BitVec 32 := Scalar.addi c0_i32_8 v23
  let c1_i32_11 : BitVec 32 := 1#32
  ⟨v27, v24, c1_i32_11⟩
def k0_mult9 (i : grid0.Coords) (k0_t2 : Fin (k0_t2_loop i).trips) : BitVec 32 :=
  let c0_i32_52 : BitVec 32 := 0#32
  let c4_i32_51 : BitVec 32 := 4#32
  let c0_i32_8 : BitVec 32 := 0#32
  let arg1 : BitVec 32 := BitVec.ofNat 32 (i 1).val
  let c0_i32 : BitVec 32 := 0#32
  let v5 : BitVec 32 := Scalar.subi arg1 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4_i32 : BitVec 32 := 4#32
  let c0_i32_5 : BitVec 32 := 0#32
  let v12 : BitVec 1 := Scalar.cmpi .sgt c4_i32 c0_i32_5
  let v13 : BitVec 32 := Scalar.extui v12
  let c0_i32_6 : BitVec 32 := 0#32
  let v14 : BitVec 1 := Scalar.cmpi .slt c4_i32 c0_i32_6
  let v15 : BitVec 32 := Scalar.extui v14
  let v16 : BitVec 32 := Scalar.subi v13 v15
  let v17 : BitVec 1 := Scalar.cmpi .ne v11 v16
  let v18 : BitVec 32 := Scalar.remsi v5 c4_i32
  let c0_i32_7 : BitVec 32 := 0#32
  let v19 : BitVec 1 := Scalar.cmpi .ne v18 c0_i32_7
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v124 : BitVec 32 := Scalar.muli c4_i32_51 arg7
  let v125 : BitVec 32 := Scalar.addi c0_i32_52 v124
  let c512_i32_55 : BitVec 32 := 512#32
  let v129 : BitVec 32 := Scalar.muli v125 c512_i32_55
  v129
def k0_off5 (i : grid0.Coords) (k0_t2 : Fin (k0_t2_loop i).trips) : Fin 2 → Nat :=
  let c0_i32_52 : BitVec 32 := 0#32
  let c4_i32_51 : BitVec 32 := 4#32
  let c0_i32_8 : BitVec 32 := 0#32
  let arg1 : BitVec 32 := BitVec.ofNat 32 (i 1).val
  let c0_i32 : BitVec 32 := 0#32
  let v5 : BitVec 32 := Scalar.subi arg1 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4_i32 : BitVec 32 := 4#32
  let c0_i32_5 : BitVec 32 := 0#32
  let v12 : BitVec 1 := Scalar.cmpi .sgt c4_i32 c0_i32_5
  let v13 : BitVec 32 := Scalar.extui v12
  let c0_i32_6 : BitVec 32 := 0#32
  let v14 : BitVec 1 := Scalar.cmpi .slt c4_i32 c0_i32_6
  let v15 : BitVec 32 := Scalar.extui v14
  let v16 : BitVec 32 := Scalar.subi v13 v15
  let v17 : BitVec 1 := Scalar.cmpi .ne v11 v16
  let v18 : BitVec 32 := Scalar.remsi v5 c4_i32
  let c0_i32_7 : BitVec 32 := 0#32
  let v19 : BitVec 1 := Scalar.cmpi .ne v18 c0_i32_7
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v124 : BitVec 32 := Scalar.muli c4_i32_51 arg7
  let v125 : BitVec 32 := Scalar.addi c0_i32_52 v124
  let c512_i32_55 : BitVec 32 := 512#32
  let v129 : BitVec 32 := Scalar.muli v125 c512_i32_55
  let v130 : BitVec 32 := v129
  let v131 : Index := Scalar.indexCast v130
  let c0_56 : Index := 0#32
  ![v131.toNat, 0]
def k0_mult10 (i : grid0.Coords) (k0_t2 : Fin (k0_t2_loop i).trips) : BitVec 32 :=
  let c0_i32_52 : BitVec 32 := 0#32
  let c4_i32_51 : BitVec 32 := 4#32
  let c0_i32_8 : BitVec 32 := 0#32
  let arg1 : BitVec 32 := BitVec.ofNat 32 (i 1).val
  let c0_i32 : BitVec 32 := 0#32
  let v5 : BitVec 32 := Scalar.subi arg1 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4_i32 : BitVec 32 := 4#32
  let c0_i32_5 : BitVec 32 := 0#32
  let v12 : BitVec 1 := Scalar.cmpi .sgt c4_i32 c0_i32_5
  let v13 : BitVec 32 := Scalar.extui v12
  let c0_i32_6 : BitVec 32 := 0#32
  let v14 : BitVec 1 := Scalar.cmpi .slt c4_i32 c0_i32_6
  let v15 : BitVec 32 := Scalar.extui v14
  let v16 : BitVec 32 := Scalar.subi v13 v15
  let v17 : BitVec 1 := Scalar.cmpi .ne v11 v16
  let v18 : BitVec 32 := Scalar.remsi v5 c4_i32
  let c0_i32_7 : BitVec 32 := 0#32
  let v19 : BitVec 1 := Scalar.cmpi .ne v18 c0_i32_7
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v124 : BitVec 32 := Scalar.muli c4_i32_51 arg7
  let v125 : BitVec 32 := Scalar.addi c0_i32_52 v124
  let c512_i32_60 : BitVec 32 := 512#32
  let v149 : BitVec 32 := Scalar.muli v125 c512_i32_60
  v149
def k0_off6 (i : grid0.Coords) (k0_t2 : Fin (k0_t2_loop i).trips) : Fin 2 → Nat :=
  let c0_61 : Index := 0#32
  let c0_i32_52 : BitVec 32 := 0#32
  let c4_i32_51 : BitVec 32 := 4#32
  let c0_i32_8 : BitVec 32 := 0#32
  let arg1 : BitVec 32 := BitVec.ofNat 32 (i 1).val
  let c0_i32 : BitVec 32 := 0#32
  let v5 : BitVec 32 := Scalar.subi arg1 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4_i32 : BitVec 32 := 4#32
  let c0_i32_5 : BitVec 32 := 0#32
  let v12 : BitVec 1 := Scalar.cmpi .sgt c4_i32 c0_i32_5
  let v13 : BitVec 32 := Scalar.extui v12
  let c0_i32_6 : BitVec 32 := 0#32
  let v14 : BitVec 1 := Scalar.cmpi .slt c4_i32 c0_i32_6
  let v15 : BitVec 32 := Scalar.extui v14
  let v16 : BitVec 32 := Scalar.subi v13 v15
  let v17 : BitVec 1 := Scalar.cmpi .ne v11 v16
  let v18 : BitVec 32 := Scalar.remsi v5 c4_i32
  let c0_i32_7 : BitVec 32 := 0#32
  let v19 : BitVec 1 := Scalar.cmpi .ne v18 c0_i32_7
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v124 : BitVec 32 := Scalar.muli c4_i32_51 arg7
  let v125 : BitVec 32 := Scalar.addi c0_i32_52 v124
  let c512_i32_60 : BitVec 32 := 512#32
  let v149 : BitVec 32 := Scalar.muli v125 c512_i32_60
  let v150 : BitVec 32 := v149
  let v151 : Index := Scalar.indexCast v150
  ![0, v151.toNat]
def k0_mult11 (i : grid0.Coords) (k0_t2 : Fin (k0_t2_loop i).trips) : BitVec 32 :=
  let c0_i32_52 : BitVec 32 := 0#32
  let c4_i32_51 : BitVec 32 := 4#32
  let c0_i32_8 : BitVec 32 := 0#32
  let arg1 : BitVec 32 := BitVec.ofNat 32 (i 1).val
  let c0_i32 : BitVec 32 := 0#32
  let v5 : BitVec 32 := Scalar.subi arg1 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4_i32 : BitVec 32 := 4#32
  let c0_i32_5 : BitVec 32 := 0#32
  let v12 : BitVec 1 := Scalar.cmpi .sgt c4_i32 c0_i32_5
  let v13 : BitVec 32 := Scalar.extui v12
  let c0_i32_6 : BitVec 32 := 0#32
  let v14 : BitVec 1 := Scalar.cmpi .slt c4_i32 c0_i32_6
  let v15 : BitVec 32 := Scalar.extui v14
  let v16 : BitVec 32 := Scalar.subi v13 v15
  let v17 : BitVec 1 := Scalar.cmpi .ne v11 v16
  let v18 : BitVec 32 := Scalar.remsi v5 c4_i32
  let c0_i32_7 : BitVec 32 := 0#32
  let v19 : BitVec 1 := Scalar.cmpi .ne v18 c0_i32_7
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v124 : BitVec 32 := Scalar.muli c4_i32_51 arg7
  let v125 : BitVec 32 := Scalar.addi c0_i32_52 v124
  let c1_i32_54 : BitVec 32 := 1#32
  let v128 : BitVec 32 := Scalar.addi v125 c1_i32_54
  let c512_i32_63 : BitVec 32 := 512#32
  let v157 : BitVec 32 := Scalar.muli v128 c512_i32_63
  v157
def k0_off7 (i : grid0.Coords) (k0_t2 : Fin (k0_t2_loop i).trips) (c1_i32_54 : BitVec 32) : Fin 2 → Nat :=
  let c0_i32_52 : BitVec 32 := 0#32
  let c4_i32_51 : BitVec 32 := 4#32
  let c0_i32_8 : BitVec 32 := 0#32
  let arg1 : BitVec 32 := BitVec.ofNat 32 (i 1).val
  let c0_i32 : BitVec 32 := 0#32
  let v5 : BitVec 32 := Scalar.subi arg1 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4_i32 : BitVec 32 := 4#32
  let c0_i32_5 : BitVec 32 := 0#32
  let v12 : BitVec 1 := Scalar.cmpi .sgt c4_i32 c0_i32_5
  let v13 : BitVec 32 := Scalar.extui v12
  let c0_i32_6 : BitVec 32 := 0#32
  let v14 : BitVec 1 := Scalar.cmpi .slt c4_i32 c0_i32_6
  let v15 : BitVec 32 := Scalar.extui v14
  let v16 : BitVec 32 := Scalar.subi v13 v15
  let v17 : BitVec 1 := Scalar.cmpi .ne v11 v16
  let v18 : BitVec 32 := Scalar.remsi v5 c4_i32
  let c0_i32_7 : BitVec 32 := 0#32
  let v19 : BitVec 1 := Scalar.cmpi .ne v18 c0_i32_7
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v124 : BitVec 32 := Scalar.muli c4_i32_51 arg7
  let v125 : BitVec 32 := Scalar.addi c0_i32_52 v124
  let v128 : BitVec 32 := Scalar.addi v125 c1_i32_54
  let c512_i32_63 : BitVec 32 := 512#32
  let v157 : BitVec 32 := Scalar.muli v128 c512_i32_63
  let v158 : BitVec 32 := v157
  let v159 : Index := Scalar.indexCast v158
  let c0_64 : Index := 0#32
  ![v159.toNat, 0]
def k0_mult12 (i : grid0.Coords) (k0_t2 : Fin (k0_t2_loop i).trips) : BitVec 32 :=
  let c0_i32_52 : BitVec 32 := 0#32
  let c4_i32_51 : BitVec 32 := 4#32
  let c0_i32_8 : BitVec 32 := 0#32
  let arg1 : BitVec 32 := BitVec.ofNat 32 (i 1).val
  let c0_i32 : BitVec 32 := 0#32
  let v5 : BitVec 32 := Scalar.subi arg1 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4_i32 : BitVec 32 := 4#32
  let c0_i32_5 : BitVec 32 := 0#32
  let v12 : BitVec 1 := Scalar.cmpi .sgt c4_i32 c0_i32_5
  let v13 : BitVec 32 := Scalar.extui v12
  let c0_i32_6 : BitVec 32 := 0#32
  let v14 : BitVec 1 := Scalar.cmpi .slt c4_i32 c0_i32_6
  let v15 : BitVec 32 := Scalar.extui v14
  let v16 : BitVec 32 := Scalar.subi v13 v15
  let v17 : BitVec 1 := Scalar.cmpi .ne v11 v16
  let v18 : BitVec 32 := Scalar.remsi v5 c4_i32
  let c0_i32_7 : BitVec 32 := 0#32
  let v19 : BitVec 1 := Scalar.cmpi .ne v18 c0_i32_7
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v124 : BitVec 32 := Scalar.muli c4_i32_51 arg7
  let v125 : BitVec 32 := Scalar.addi c0_i32_52 v124
  let c1_i32_54 : BitVec 32 := 1#32
  let v128 : BitVec 32 := Scalar.addi v125 c1_i32_54
  let c512_i32_68 : BitVec 32 := 512#32
  let v177 : BitVec 32 := Scalar.muli v128 c512_i32_68
  v177
def k0_off8 (i : grid0.Coords) (k0_t2 : Fin (k0_t2_loop i).trips) (c1_i32_54 : BitVec 32) : Fin 2 → Nat :=
  let c0_69 : Index := 0#32
  let c0_i32_52 : BitVec 32 := 0#32
  let c4_i32_51 : BitVec 32 := 4#32
  let c0_i32_8 : BitVec 32 := 0#32
  let arg1 : BitVec 32 := BitVec.ofNat 32 (i 1).val
  let c0_i32 : BitVec 32 := 0#32
  let v5 : BitVec 32 := Scalar.subi arg1 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4_i32 : BitVec 32 := 4#32
  let c0_i32_5 : BitVec 32 := 0#32
  let v12 : BitVec 1 := Scalar.cmpi .sgt c4_i32 c0_i32_5
  let v13 : BitVec 32 := Scalar.extui v12
  let c0_i32_6 : BitVec 32 := 0#32
  let v14 : BitVec 1 := Scalar.cmpi .slt c4_i32 c0_i32_6
  let v15 : BitVec 32 := Scalar.extui v14
  let v16 : BitVec 32 := Scalar.subi v13 v15
  let v17 : BitVec 1 := Scalar.cmpi .ne v11 v16
  let v18 : BitVec 32 := Scalar.remsi v5 c4_i32
  let c0_i32_7 : BitVec 32 := 0#32
  let v19 : BitVec 1 := Scalar.cmpi .ne v18 c0_i32_7
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v124 : BitVec 32 := Scalar.muli c4_i32_51 arg7
  let v125 : BitVec 32 := Scalar.addi c0_i32_52 v124
  let v128 : BitVec 32 := Scalar.addi v125 c1_i32_54
  let c512_i32_68 : BitVec 32 := 512#32
  let v177 : BitVec 32 := Scalar.muli v128 c512_i32_68
  let v178 : BitVec 32 := v177
  let v179 : Index := Scalar.indexCast v178
  ![0, v179.toNat]
def k0_mult13 (i : grid0.Coords) (k0_t2 : Fin (k0_t2_loop i).trips) : BitVec 32 :=
  let c0_i32_52 : BitVec 32 := 0#32
  let c4_i32_51 : BitVec 32 := 4#32
  let c0_i32_8 : BitVec 32 := 0#32
  let arg1 : BitVec 32 := BitVec.ofNat 32 (i 1).val
  let c0_i32 : BitVec 32 := 0#32
  let v5 : BitVec 32 := Scalar.subi arg1 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4_i32 : BitVec 32 := 4#32
  let c0_i32_5 : BitVec 32 := 0#32
  let v12 : BitVec 1 := Scalar.cmpi .sgt c4_i32 c0_i32_5
  let v13 : BitVec 32 := Scalar.extui v12
  let c0_i32_6 : BitVec 32 := 0#32
  let v14 : BitVec 1 := Scalar.cmpi .slt c4_i32 c0_i32_6
  let v15 : BitVec 32 := Scalar.extui v14
  let v16 : BitVec 32 := Scalar.subi v13 v15
  let v17 : BitVec 1 := Scalar.cmpi .ne v11 v16
  let v18 : BitVec 32 := Scalar.remsi v5 c4_i32
  let c0_i32_7 : BitVec 32 := 0#32
  let v19 : BitVec 1 := Scalar.cmpi .ne v18 c0_i32_7
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v124 : BitVec 32 := Scalar.muli c4_i32_51 arg7
  let v125 : BitVec 32 := Scalar.addi c0_i32_52 v124
  let c2_i32_53 : BitVec 32 := 2#32
  let v127 : BitVec 32 := Scalar.addi v125 c2_i32_53
  let c512_i32_71 : BitVec 32 := 512#32
  let v185 : BitVec 32 := Scalar.muli v127 c512_i32_71
  v185
def k0_mult14 (i : grid0.Coords) (k0_t2 : Fin (k0_t2_loop i).trips) : BitVec 32 :=
  let c0_i32_52 : BitVec 32 := 0#32
  let c4_i32_51 : BitVec 32 := 4#32
  let c0_i32_8 : BitVec 32 := 0#32
  let arg1 : BitVec 32 := BitVec.ofNat 32 (i 1).val
  let c0_i32 : BitVec 32 := 0#32
  let v5 : BitVec 32 := Scalar.subi arg1 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4_i32 : BitVec 32 := 4#32
  let c0_i32_5 : BitVec 32 := 0#32
  let v12 : BitVec 1 := Scalar.cmpi .sgt c4_i32 c0_i32_5
  let v13 : BitVec 32 := Scalar.extui v12
  let c0_i32_6 : BitVec 32 := 0#32
  let v14 : BitVec 1 := Scalar.cmpi .slt c4_i32 c0_i32_6
  let v15 : BitVec 32 := Scalar.extui v14
  let v16 : BitVec 32 := Scalar.subi v13 v15
  let v17 : BitVec 1 := Scalar.cmpi .ne v11 v16
  let v18 : BitVec 32 := Scalar.remsi v5 c4_i32
  let c0_i32_7 : BitVec 32 := 0#32
  let v19 : BitVec 1 := Scalar.cmpi .ne v18 c0_i32_7
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v124 : BitVec 32 := Scalar.muli c4_i32_51 arg7
  let v125 : BitVec 32 := Scalar.addi c0_i32_52 v124
  let c2_i32_53 : BitVec 32 := 2#32
  let v127 : BitVec 32 := Scalar.addi v125 c2_i32_53
  let c512_i32_76 : BitVec 32 := 512#32
  let v205 : BitVec 32 := Scalar.muli v127 c512_i32_76
  v205
def k0_mult15 (i : grid0.Coords) (k0_t2 : Fin (k0_t2_loop i).trips) : BitVec 32 :=
  let c0_i32_52 : BitVec 32 := 0#32
  let c4_i32_51 : BitVec 32 := 4#32
  let c0_i32_8 : BitVec 32 := 0#32
  let arg1 : BitVec 32 := BitVec.ofNat 32 (i 1).val
  let c0_i32 : BitVec 32 := 0#32
  let v5 : BitVec 32 := Scalar.subi arg1 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4_i32 : BitVec 32 := 4#32
  let c0_i32_5 : BitVec 32 := 0#32
  let v12 : BitVec 1 := Scalar.cmpi .sgt c4_i32 c0_i32_5
  let v13 : BitVec 32 := Scalar.extui v12
  let c0_i32_6 : BitVec 32 := 0#32
  let v14 : BitVec 1 := Scalar.cmpi .slt c4_i32 c0_i32_6
  let v15 : BitVec 32 := Scalar.extui v14
  let v16 : BitVec 32 := Scalar.subi v13 v15
  let v17 : BitVec 1 := Scalar.cmpi .ne v11 v16
  let v18 : BitVec 32 := Scalar.remsi v5 c4_i32
  let c0_i32_7 : BitVec 32 := 0#32
  let v19 : BitVec 1 := Scalar.cmpi .ne v18 c0_i32_7
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v124 : BitVec 32 := Scalar.muli c4_i32_51 arg7
  let v125 : BitVec 32 := Scalar.addi c0_i32_52 v124
  let c3_i32 : BitVec 32 := 3#32
  let v126 : BitVec 32 := Scalar.addi v125 c3_i32
  let c512_i32_79 : BitVec 32 := 512#32
  let v213 : BitVec 32 := Scalar.muli v126 c512_i32_79
  v213
def k0_mult16 (i : grid0.Coords) (k0_t2 : Fin (k0_t2_loop i).trips) : BitVec 32 :=
  let c0_i32_52 : BitVec 32 := 0#32
  let c4_i32_51 : BitVec 32 := 4#32
  let c0_i32_8 : BitVec 32 := 0#32
  let arg1 : BitVec 32 := BitVec.ofNat 32 (i 1).val
  let c0_i32 : BitVec 32 := 0#32
  let v5 : BitVec 32 := Scalar.subi arg1 c0_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4_i32 : BitVec 32 := 4#32
  let c0_i32_5 : BitVec 32 := 0#32
  let v12 : BitVec 1 := Scalar.cmpi .sgt c4_i32 c0_i32_5
  let v13 : BitVec 32 := Scalar.extui v12
  let c0_i32_6 : BitVec 32 := 0#32
  let v14 : BitVec 1 := Scalar.cmpi .slt c4_i32 c0_i32_6
  let v15 : BitVec 32 := Scalar.extui v14
  let v16 : BitVec 32 := Scalar.subi v13 v15
  let v17 : BitVec 1 := Scalar.cmpi .ne v11 v16
  let v18 : BitVec 32 := Scalar.remsi v5 c4_i32
  let c0_i32_7 : BitVec 32 := 0#32
  let v19 : BitVec 1 := Scalar.cmpi .ne v18 c0_i32_7
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v124 : BitVec 32 := Scalar.muli c4_i32_51 arg7
  let v125 : BitVec 32 := Scalar.addi c0_i32_52 v124
  let c3_i32 : BitVec 32 := 3#32
  let v126 : BitVec 32 := Scalar.addi v125 c3_i32
  let c512_i32_84 : BitVec 32 := 512#32
  let v233 : BitVec 32 := Scalar.muli v126 c512_i32_84
  v233
def k0_cond1 (i : grid0.Coords) : BitVec 1 :=
  let arg1 : BitVec 32 := BitVec.ofNat 32 (i 1).val
  let c0_i32 : BitVec 32 := 0#32
  let v5 : BitVec 32 := Scalar.subi arg1 c0_i32
  let c4_i32_21 : BitVec 32 := 4#32
  let c0_i32_22 : BitVec 32 := 0#32
  let v49 : BitVec 1 := Scalar.cmpi .eq c4_i32_21 c0_i32_22
  let c1_i32_23 : BitVec 32 := 1#32
  let v50 : BitVec 32 := Scalar.select v49 c1_i32_23 c4_i32_21
  let v51 : BitVec 32 := Scalar.remsi v5 v50
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let c0_i32_24 : BitVec 32 := 0#32
  let v52 : BitVec 1 := Scalar.cmpi .ne v51 c0_i32_24
  let v56 : BitVec 1 := Scalar.andi v55 v52
  let v57 : BitVec 32 := Scalar.addi v51 v50
  let v58 : BitVec 32 := Scalar.select v56 v57 v51
  let c2_i32 : BitVec 32 := 2#32
  let v59 : BitVec 1 := Scalar.cmpi .sge v58 c2_i32
  let v60 : BitVec 32 := Scalar.extui v59
  let c0_i32_27 : BitVec 32 := 0#32
  let v61 : BitVec 1 := Scalar.cmpi .ne v60 c0_i32_27
  v61

def k0_mult17 (i : grid0.Coords) : BitVec 32 :=
  let c0_i32_20 : BitVec 32 := 0#32
  let c4_i32_19 : BitVec 32 := 4#32
  let arg1 : BitVec 32 := BitVec.ofNat 32 (i 1).val
  let c0_i32 : BitVec 32 := 0#32
  let v5 : BitVec 32 := Scalar.subi arg1 c0_i32
  let c0_i32_13 : BitVec 32 := 0#32
  let v31 : BitVec 1 := Scalar.cmpi .sgt v5 c0_i32_13
  let v32 : BitVec 32 := Scalar.extui v31
  let c0_i32_14 : BitVec 32 := 0#32
  let v33 : BitVec 1 := Scalar.cmpi .slt v5 c0_i32_14
  let v34 : BitVec 32 := Scalar.extui v33
  let v35 : BitVec 32 := Scalar.subi v32 v34
  let c4_i32_12 : BitVec 32 := 4#32
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v5 c4_i32_12
  let c0_i32_17 : BitVec 32 := 0#32
  let v43 : BitVec 1 := Scalar.cmpi .ne v42 c0_i32_17
  let v44 : BitVec 1 := Scalar.andi v41 v43
  let v30 : BitVec 32 := Scalar.divsi v5 c4_i32_12
  let c1_i32_18 : BitVec 32 := 1#32
  let v45 : BitVec 32 := Scalar.subi v30 c1_i32_18
  let v46 : BitVec 32 := Scalar.select v44 v45 v30
  let v47 : BitVec 32 := Scalar.muli c4_i32_19 v46
  let v48 : BitVec 32 := Scalar.addi c0_i32_20 v47
  let c512_i32_52 : BitVec 32 := 512#32
  let v125 : BitVec 32 := Scalar.muli v48 c512_i32_52
  v125
def k0_off9 (i : grid0.Coords) : Fin 2 → Nat :=
  let c0_i32_20 : BitVec 32 := 0#32
  let c4_i32_19 : BitVec 32 := 4#32
  let arg1 : BitVec 32 := BitVec.ofNat 32 (i 1).val
  let c0_i32 : BitVec 32 := 0#32
  let v5 : BitVec 32 := Scalar.subi arg1 c0_i32
  let c0_i32_13 : BitVec 32 := 0#32
  let v31 : BitVec 1 := Scalar.cmpi .sgt v5 c0_i32_13
  let v32 : BitVec 32 := Scalar.extui v31
  let c0_i32_14 : BitVec 32 := 0#32
  let v33 : BitVec 1 := Scalar.cmpi .slt v5 c0_i32_14
  let v34 : BitVec 32 := Scalar.extui v33
  let v35 : BitVec 32 := Scalar.subi v32 v34
  let c4_i32_12 : BitVec 32 := 4#32
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v5 c4_i32_12
  let c0_i32_17 : BitVec 32 := 0#32
  let v43 : BitVec 1 := Scalar.cmpi .ne v42 c0_i32_17
  let v44 : BitVec 1 := Scalar.andi v41 v43
  let v30 : BitVec 32 := Scalar.divsi v5 c4_i32_12
  let c1_i32_18 : BitVec 32 := 1#32
  let v45 : BitVec 32 := Scalar.subi v30 c1_i32_18
  let v46 : BitVec 32 := Scalar.select v44 v45 v30
  let v47 : BitVec 32 := Scalar.muli c4_i32_19 v46
  let v48 : BitVec 32 := Scalar.addi c0_i32_20 v47
  let c512_i32_52 : BitVec 32 := 512#32
  let v125 : BitVec 32 := Scalar.muli v48 c512_i32_52
  let v126 : BitVec 32 := v125
  let v127 : Index := Scalar.indexCast v126
  let c0_53 : Index := 0#32
  ![v127.toNat, 0]
def k0_mult18 (i : grid0.Coords) : BitVec 32 :=
  let c0_i32_20 : BitVec 32 := 0#32
  let c4_i32_19 : BitVec 32 := 4#32
  let arg1 : BitVec 32 := BitVec.ofNat 32 (i 1).val
  let c0_i32 : BitVec 32 := 0#32
  let v5 : BitVec 32 := Scalar.subi arg1 c0_i32
  let c0_i32_13 : BitVec 32 := 0#32
  let v31 : BitVec 1 := Scalar.cmpi .sgt v5 c0_i32_13
  let v32 : BitVec 32 := Scalar.extui v31
  let c0_i32_14 : BitVec 32 := 0#32
  let v33 : BitVec 1 := Scalar.cmpi .slt v5 c0_i32_14
  let v34 : BitVec 32 := Scalar.extui v33
  let v35 : BitVec 32 := Scalar.subi v32 v34
  let c4_i32_12 : BitVec 32 := 4#32
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v5 c4_i32_12
  let c0_i32_17 : BitVec 32 := 0#32
  let v43 : BitVec 1 := Scalar.cmpi .ne v42 c0_i32_17
  let v44 : BitVec 1 := Scalar.andi v41 v43
  let v30 : BitVec 32 := Scalar.divsi v5 c4_i32_12
  let c1_i32_18 : BitVec 32 := 1#32
  let v45 : BitVec 32 := Scalar.subi v30 c1_i32_18
  let v46 : BitVec 32 := Scalar.select v44 v45 v30
  let v47 : BitVec 32 := Scalar.muli c4_i32_19 v46
  let v48 : BitVec 32 := Scalar.addi c0_i32_20 v47
  let c512_i32_57 : BitVec 32 := 512#32
  let v145 : BitVec 32 := Scalar.muli v48 c512_i32_57
  v145
def k0_off10 (i : grid0.Coords) : Fin 2 → Nat :=
  let c0_58 : Index := 0#32
  let c0_i32_20 : BitVec 32 := 0#32
  let c4_i32_19 : BitVec 32 := 4#32
  let arg1 : BitVec 32 := BitVec.ofNat 32 (i 1).val
  let c0_i32 : BitVec 32 := 0#32
  let v5 : BitVec 32 := Scalar.subi arg1 c0_i32
  let c0_i32_13 : BitVec 32 := 0#32
  let v31 : BitVec 1 := Scalar.cmpi .sgt v5 c0_i32_13
  let v32 : BitVec 32 := Scalar.extui v31
  let c0_i32_14 : BitVec 32 := 0#32
  let v33 : BitVec 1 := Scalar.cmpi .slt v5 c0_i32_14
  let v34 : BitVec 32 := Scalar.extui v33
  let v35 : BitVec 32 := Scalar.subi v32 v34
  let c4_i32_12 : BitVec 32 := 4#32
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v5 c4_i32_12
  let c0_i32_17 : BitVec 32 := 0#32
  let v43 : BitVec 1 := Scalar.cmpi .ne v42 c0_i32_17
  let v44 : BitVec 1 := Scalar.andi v41 v43
  let v30 : BitVec 32 := Scalar.divsi v5 c4_i32_12
  let c1_i32_18 : BitVec 32 := 1#32
  let v45 : BitVec 32 := Scalar.subi v30 c1_i32_18
  let v46 : BitVec 32 := Scalar.select v44 v45 v30
  let v47 : BitVec 32 := Scalar.muli c4_i32_19 v46
  let v48 : BitVec 32 := Scalar.addi c0_i32_20 v47
  let c512_i32_57 : BitVec 32 := 512#32
  let v145 : BitVec 32 := Scalar.muli v48 c512_i32_57
  let v146 : BitVec 32 := v145
  let v147 : Index := Scalar.indexCast v146
  ![0, v147.toNat]
def k0_mult19 (i : grid0.Coords) : BitVec 32 :=
  let c0_i32_20 : BitVec 32 := 0#32
  let c4_i32_19 : BitVec 32 := 4#32
  let arg1 : BitVec 32 := BitVec.ofNat 32 (i 1).val
  let c0_i32 : BitVec 32 := 0#32
  let v5 : BitVec 32 := Scalar.subi arg1 c0_i32
  let c0_i32_13 : BitVec 32 := 0#32
  let v31 : BitVec 1 := Scalar.cmpi .sgt v5 c0_i32_13
  let v32 : BitVec 32 := Scalar.extui v31
  let c0_i32_14 : BitVec 32 := 0#32
  let v33 : BitVec 1 := Scalar.cmpi .slt v5 c0_i32_14
  let v34 : BitVec 32 := Scalar.extui v33
  let v35 : BitVec 32 := Scalar.subi v32 v34
  let c4_i32_12 : BitVec 32 := 4#32
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v5 c4_i32_12
  let c0_i32_17 : BitVec 32 := 0#32
  let v43 : BitVec 1 := Scalar.cmpi .ne v42 c0_i32_17
  let v44 : BitVec 1 := Scalar.andi v41 v43
  let v30 : BitVec 32 := Scalar.divsi v5 c4_i32_12
  let c1_i32_18 : BitVec 32 := 1#32
  let v45 : BitVec 32 := Scalar.subi v30 c1_i32_18
  let v46 : BitVec 32 := Scalar.select v44 v45 v30
  let v47 : BitVec 32 := Scalar.muli c4_i32_19 v46
  let v48 : BitVec 32 := Scalar.addi c0_i32_20 v47
  let c1_i32_51 : BitVec 32 := 1#32
  let v124 : BitVec 32 := Scalar.addi v48 c1_i32_51
  let c512_i32_60 : BitVec 32 := 512#32
  let v153 : BitVec 32 := Scalar.muli v124 c512_i32_60
  v153
def k0_off11 (i : grid0.Coords) : Fin 2 → Nat :=
  let c0_i32_20 : BitVec 32 := 0#32
  let c4_i32_19 : BitVec 32 := 4#32
  let arg1 : BitVec 32 := BitVec.ofNat 32 (i 1).val
  let c0_i32 : BitVec 32 := 0#32
  let v5 : BitVec 32 := Scalar.subi arg1 c0_i32
  let c0_i32_13 : BitVec 32 := 0#32
  let v31 : BitVec 1 := Scalar.cmpi .sgt v5 c0_i32_13
  let v32 : BitVec 32 := Scalar.extui v31
  let c0_i32_14 : BitVec 32 := 0#32
  let v33 : BitVec 1 := Scalar.cmpi .slt v5 c0_i32_14
  let v34 : BitVec 32 := Scalar.extui v33
  let v35 : BitVec 32 := Scalar.subi v32 v34
  let c4_i32_12 : BitVec 32 := 4#32
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v5 c4_i32_12
  let c0_i32_17 : BitVec 32 := 0#32
  let v43 : BitVec 1 := Scalar.cmpi .ne v42 c0_i32_17
  let v44 : BitVec 1 := Scalar.andi v41 v43
  let v30 : BitVec 32 := Scalar.divsi v5 c4_i32_12
  let c1_i32_18 : BitVec 32 := 1#32
  let v45 : BitVec 32 := Scalar.subi v30 c1_i32_18
  let v46 : BitVec 32 := Scalar.select v44 v45 v30
  let v47 : BitVec 32 := Scalar.muli c4_i32_19 v46
  let v48 : BitVec 32 := Scalar.addi c0_i32_20 v47
  let c1_i32_51 : BitVec 32 := 1#32
  let v124 : BitVec 32 := Scalar.addi v48 c1_i32_51
  let c512_i32_60 : BitVec 32 := 512#32
  let v153 : BitVec 32 := Scalar.muli v124 c512_i32_60
  let v154 : BitVec 32 := v153
  let v155 : Index := Scalar.indexCast v154
  let c0_61 : Index := 0#32
  ![v155.toNat, 0]
def k0_mult20 (i : grid0.Coords) : BitVec 32 :=
  let c0_i32_20 : BitVec 32 := 0#32
  let c4_i32_19 : BitVec 32 := 4#32
  let arg1 : BitVec 32 := BitVec.ofNat 32 (i 1).val
  let c0_i32 : BitVec 32 := 0#32
  let v5 : BitVec 32 := Scalar.subi arg1 c0_i32
  let c0_i32_13 : BitVec 32 := 0#32
  let v31 : BitVec 1 := Scalar.cmpi .sgt v5 c0_i32_13
  let v32 : BitVec 32 := Scalar.extui v31
  let c0_i32_14 : BitVec 32 := 0#32
  let v33 : BitVec 1 := Scalar.cmpi .slt v5 c0_i32_14
  let v34 : BitVec 32 := Scalar.extui v33
  let v35 : BitVec 32 := Scalar.subi v32 v34
  let c4_i32_12 : BitVec 32 := 4#32
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v5 c4_i32_12
  let c0_i32_17 : BitVec 32 := 0#32
  let v43 : BitVec 1 := Scalar.cmpi .ne v42 c0_i32_17
  let v44 : BitVec 1 := Scalar.andi v41 v43
  let v30 : BitVec 32 := Scalar.divsi v5 c4_i32_12
  let c1_i32_18 : BitVec 32 := 1#32
  let v45 : BitVec 32 := Scalar.subi v30 c1_i32_18
  let v46 : BitVec 32 := Scalar.select v44 v45 v30
  let v47 : BitVec 32 := Scalar.muli c4_i32_19 v46
  let v48 : BitVec 32 := Scalar.addi c0_i32_20 v47
  let c1_i32_51 : BitVec 32 := 1#32
  let v124 : BitVec 32 := Scalar.addi v48 c1_i32_51
  let c512_i32_65 : BitVec 32 := 512#32
  let v173 : BitVec 32 := Scalar.muli v124 c512_i32_65
  v173
def k0_off12 (i : grid0.Coords) : Fin 2 → Nat :=
  let c0_66 : Index := 0#32
  let c0_i32_20 : BitVec 32 := 0#32
  let c4_i32_19 : BitVec 32 := 4#32
  let arg1 : BitVec 32 := BitVec.ofNat 32 (i 1).val
  let c0_i32 : BitVec 32 := 0#32
  let v5 : BitVec 32 := Scalar.subi arg1 c0_i32
  let c0_i32_13 : BitVec 32 := 0#32
  let v31 : BitVec 1 := Scalar.cmpi .sgt v5 c0_i32_13
  let v32 : BitVec 32 := Scalar.extui v31
  let c0_i32_14 : BitVec 32 := 0#32
  let v33 : BitVec 1 := Scalar.cmpi .slt v5 c0_i32_14
  let v34 : BitVec 32 := Scalar.extui v33
  let v35 : BitVec 32 := Scalar.subi v32 v34
  let c4_i32_12 : BitVec 32 := 4#32
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v5 c4_i32_12
  let c0_i32_17 : BitVec 32 := 0#32
  let v43 : BitVec 1 := Scalar.cmpi .ne v42 c0_i32_17
  let v44 : BitVec 1 := Scalar.andi v41 v43
  let v30 : BitVec 32 := Scalar.divsi v5 c4_i32_12
  let c1_i32_18 : BitVec 32 := 1#32
  let v45 : BitVec 32 := Scalar.subi v30 c1_i32_18
  let v46 : BitVec 32 := Scalar.select v44 v45 v30
  let v47 : BitVec 32 := Scalar.muli c4_i32_19 v46
  let v48 : BitVec 32 := Scalar.addi c0_i32_20 v47
  let c1_i32_51 : BitVec 32 := 1#32
  let v124 : BitVec 32 := Scalar.addi v48 c1_i32_51
  let c512_i32_65 : BitVec 32 := 512#32
  let v173 : BitVec 32 := Scalar.muli v124 c512_i32_65
  let v174 : BitVec 32 := v173
  let v175 : Index := Scalar.indexCast v174
  ![0, v175.toNat]
def k0_cond2 (i : grid0.Coords) : BitVec 1 :=
  let arg1 : BitVec 32 := BitVec.ofNat 32 (i 1).val
  let c0_i32 : BitVec 32 := 0#32
  let v5 : BitVec 32 := Scalar.subi arg1 c0_i32
  let c2_i32_28 : BitVec 32 := 2#32
  let c0_i32_29 : BitVec 32 := 0#32
  let v63 : BitVec 1 := Scalar.cmpi .eq c2_i32_28 c0_i32_29
  let c1_i32_30 : BitVec 32 := 1#32
  let v64 : BitVec 32 := Scalar.select v63 c1_i32_30 c2_i32_28
  let v65 : BitVec 32 := Scalar.remsi v5 v64
  let c0_i32_32 : BitVec 32 := 0#32
  let v67 : BitVec 1 := Scalar.cmpi .slt v65 c0_i32_32
  let c0_i32_33 : BitVec 32 := 0#32
  let v68 : BitVec 1 := Scalar.cmpi .slt v64 c0_i32_33
  let v69 : BitVec 1 := Scalar.xori v67 v68
  let c0_i32_31 : BitVec 32 := 0#32
  let v66 : BitVec 1 := Scalar.cmpi .ne v65 c0_i32_31
  let v70 : BitVec 1 := Scalar.andi v69 v66
  let v71 : BitVec 32 := Scalar.addi v65 v64
  let v72 : BitVec 32 := Scalar.select v70 v71 v65
  let c1_i32_34 : BitVec 32 := 1#32
  let v73 : BitVec 1 := Scalar.cmpi .eq v72 c1_i32_34
  let v74 : BitVec 32 := Scalar.extui v73
  let c0_i32_35 : BitVec 32 := 0#32
  let v75 : BitVec 1 := Scalar.cmpi .ne v74 c0_i32_35
  v75

def k0_mult21 (i : grid0.Coords) : BitVec 32 :=
  let arg1 : BitVec 32 := BitVec.ofNat 32 (i 1).val
  let c1_i32_51 : BitVec 32 := 1#32
  let v124 : BitVec 32 := Scalar.subi arg1 c1_i32_51
  let c512_i32_52 : BitVec 32 := 512#32
  let v125 : BitVec 32 := Scalar.muli v124 c512_i32_52
  v125
def k0_off13 (i : grid0.Coords) : Fin 2 → Nat :=
  let arg1 : BitVec 32 := BitVec.ofNat 32 (i 1).val
  let c1_i32_51 : BitVec 32 := 1#32
  let v124 : BitVec 32 := Scalar.subi arg1 c1_i32_51
  let c512_i32_52 : BitVec 32 := 512#32
  let v125 : BitVec 32 := Scalar.muli v124 c512_i32_52
  let v126 : BitVec 32 := v125
  let v127 : Index := Scalar.indexCast v126
  let c0_53 : Index := 0#32
  ![v127.toNat, 0]
def k0_mult22 (i : grid0.Coords) : BitVec 32 :=
  let arg1 : BitVec 32 := BitVec.ofNat 32 (i 1).val
  let c1_i32_51 : BitVec 32 := 1#32
  let v124 : BitVec 32 := Scalar.subi arg1 c1_i32_51
  let c512_i32_57 : BitVec 32 := 512#32
  let v145 : BitVec 32 := Scalar.muli v124 c512_i32_57
  v145
def k0_off14 (i : grid0.Coords) : Fin 2 → Nat :=
  let c0_58 : Index := 0#32
  let arg1 : BitVec 32 := BitVec.ofNat 32 (i 1).val
  let c1_i32_51 : BitVec 32 := 1#32
  let v124 : BitVec 32 := Scalar.subi arg1 c1_i32_51
  let c512_i32_57 : BitVec 32 := 512#32
  let v145 : BitVec 32 := Scalar.muli v124 c512_i32_57
  let v146 : BitVec 32 := v145
  let v147 : Index := Scalar.indexCast v146
  ![0, v147.toNat]
def k0_mult23 (i : grid0.Coords) : BitVec 32 :=
  let arg1 : BitVec 32 := BitVec.ofNat 32 (i 1).val
  let c512_i32 : BitVec 32 := 512#32
  let v77 : BitVec 32 := Scalar.muli arg1 c512_i32
  v77
def k0_off15 (i : grid0.Coords) : Fin 2 → Nat :=
  let arg1 : BitVec 32 := BitVec.ofNat 32 (i 1).val
  let c512_i32 : BitVec 32 := 512#32
  let v77 : BitVec 32 := Scalar.muli arg1 c512_i32
  let v78 : BitVec 32 := v77
  let v79 : Index := Scalar.indexCast v78
  let c0_36 : Index := 0#32
  ![v79.toNat, 0]
def k0_mult24 (i : grid0.Coords) : BitVec 32 :=
  let arg1 : BitVec 32 := BitVec.ofNat 32 (i 1).val
  let c512_i32_43 : BitVec 32 := 512#32
  let v108 : BitVec 32 := Scalar.muli arg1 c512_i32_43
  v108
def k0_off16 (i : grid0.Coords) : Fin 2 → Nat :=
  let c0_44 : Index := 0#32
  let arg1 : BitVec 32 := BitVec.ofNat 32 (i 1).val
  let c512_i32_43 : BitVec 32 := 512#32
  let v108 : BitVec 32 := Scalar.muli arg1 c512_i32_43
  let v109 : BitVec 32 := v108
  let v110 : Index := Scalar.indexCast v109
  ![0, v110.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel37Ideal.lean ====
variable {F : FTy → Type} [FloatOps F] [Named F]
def κ : String → Option EReal := fun
  | "mask" => some ⊥
  | _ => none
-- ==== Reference37Ideal.lean ====
abbrev S4096x8x128 : Shape := ⟨3, ![4096, 8, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S1024x4096 : Shape := ⟨2, ![1024, 4096]⟩
abbrev S8x1x4096 : Shape := ⟨3, ![8, 1, 4096]⟩

abbrev nBuf : Space → Nat
  | .hbm => 57
  | .vmem => 0
  | .smem => 0
  | _ => 0

abbrev bufTy : (tb : Table) → Fin (tcTables nBuf tb) → BufTy
  | .hbm, ⟨0, _⟩ => ⟨S4096x8x128, .f32⟩
  | .hbm, ⟨1, _⟩ => ⟨S4096x8x128, .f32⟩
  | .hbm, ⟨2, _⟩ => ⟨S4096x8x128, .f32⟩
  | .hbm, ⟨3, _⟩ => ⟨S8x4096x4096, .f32⟩
  | .hbm, ⟨4, _⟩ => ⟨S4096, .i32⟩
  | .hbm, ⟨5, _⟩ => ⟨S1x4096, .i32⟩
  | .hbm, ⟨6, _⟩ => ⟨S4096x1, .i32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S_, .f32⟩
  | .hbm, ⟨11, _⟩ => ⟨S_, .f32⟩
  | .hbm, ⟨12, _⟩ => ⟨S8x4096x4096, .i1⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x4096, .f32⟩
  | .hbm, ⟨27, _⟩ => ⟨S4096, .i32⟩
  | .hbm, ⟨28, _⟩ => ⟨S1x4096, .i32⟩
  | .hbm, ⟨29, _⟩ => ⟨S4096x1, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S8x4096x4096, .i1⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S8x4096, .f32⟩
  | .hbm, ⟨43, _⟩ => ⟨S8x4096x1, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S8x4096x4096, .f32⟩
  | .hbm, ⟨51, _⟩ => ⟨S8x4096x4096, .f32⟩
  | .hbm, ⟨52, _⟩ => ⟨S8x128x4096, .f32⟩
  | .hbm, ⟨53, _⟩ => ⟨S4096x8x128, .f32⟩
  | .hbm, ⟨54, _⟩ => ⟨S4096x1024, .f32⟩
  | .hbm, ⟨55, _⟩ => ⟨S1024x4096, .f32⟩
  | .hbm, ⟨56, _⟩ => ⟨S8x1x4096, .f32⟩
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel38.lean ====
abbrev S4096x1024 : Shape := ⟨2, ![4096, 1024]⟩
abbrev S256x1024 : Shape := ⟨2, ![256, 1024]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256x1024, .f32⟩
  | .hbm, ⟨3, _⟩ => ⟨S4096x1024, .f32⟩
  | .hbm, ⟨4, _⟩ => ⟨S4096x1024, .bf16⟩
  | .hbm, ⟨5, _⟩ => ⟨S256x1024, .bf16⟩
  | .hbm, ⟨6, _⟩ => ⟨S256x1024, .bf16⟩
  | .hbm, ⟨7, _⟩ => ⟨S4096x1024, .bf16⟩
  | .hbm, ⟨8, _⟩ => ⟨S4096x1024, .bf16⟩
  | .hbm, ⟨9, _⟩ => ⟨S256x1024, .f32⟩
  | .hbm, ⟨10, _⟩ => ⟨S256x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference38Ideal.lean ====
abbrev S4096x1024 : Shape := ⟨2, ![4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256x1024, .f32⟩
  | .hbm, ⟨3, _⟩ => ⟨S4096x1024, .f32⟩
  | .hbm, ⟨4, _⟩ => ⟨S4096x4x256, .f32⟩
  | .hbm, ⟨5, _⟩ => ⟨S256x4x256, .f32⟩
  | .hbm, ⟨6, _⟩ => ⟨S256x4x256, .f32⟩
  | .hbm, ⟨7, _⟩ => ⟨S4x4096x256, .f32⟩
  | .hbm, ⟨8, _⟩ => ⟨S_, .f32⟩
  | .hbm, ⟨9, _⟩ => ⟨S4x4096x256, .f32⟩
  | .hbm, ⟨10, _⟩ => ⟨S4x4096x256, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S4x4096x256, .f32⟩
  | .hbm, ⟨15, _⟩ => ⟨S4x4096x256, .i1⟩
  | .hbm, ⟨16, _⟩ => ⟨S4x4096x256, .f32⟩
  | .hbm, ⟨17, _⟩ => ⟨S_, .f32⟩
  | .hbm, ⟨18, _⟩ => ⟨S4x4096, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .i1⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096, .f32⟩
  | .hbm, ⟨36, _⟩ => ⟨S4x4096x1, .f32⟩
  | .hbm, ⟨37, _⟩ => ⟨S4x4096x256, .f32⟩
  | .hbm, ⟨38, _⟩ => ⟨S4x4096x256, .f32⟩
  | .hbm, ⟨39, _⟩ => ⟨S4x4096x256, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S4x4096x256, .f32⟩
  | .hbm, ⟨44, _⟩ => ⟨S4x4096x256, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S4x256x4096, .f32⟩
  | .hbm, ⟨50, _⟩ => ⟨S4096x4x256, .f32⟩
  | .hbm, ⟨51, _⟩ => ⟨S4096x1024, .f32⟩
  | .hbm, ⟨52, _⟩ => ⟨S4096x4x256, .f32⟩
  | .hbm, ⟨53, _⟩ => ⟨S4x256x4096, .f32⟩
  | .hbm, ⟨54, _⟩ => ⟨S4x4096x256, .f32⟩
  | .hbm, ⟨55, _⟩ => ⟨S4x256x256, .f32⟩
  | .hbm, ⟨56, _⟩ => ⟨S256x4x256, .f32⟩
  | .hbm, ⟨57, _⟩ => ⟨S4x4096x256, .f32⟩
  | .hbm, ⟨58, _⟩ => ⟨S4x4096x256, .f32⟩
  | .hbm, ⟨59, _⟩ => ⟨S4x4096x256, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S4x4096x1, .f32⟩
  | .hbm, ⟨64, _⟩ => ⟨S4x4096x256, .f32⟩
  | .hbm, ⟨65, _⟩ => ⟨S4x4096x256, .f32⟩
  | .hbm, ⟨66, _⟩ => ⟨S_, .f32⟩
  | .hbm, ⟨67, _⟩ => ⟨S4x4096, .f32⟩
  | .hbm, ⟨68, _⟩ => ⟨S4x4096x256, .f32⟩
  | .hbm, ⟨69, _⟩ => ⟨S4x4096x256, .f32⟩
  | .hbm, ⟨70, _⟩ => ⟨S4x4096x256, .f32⟩
  | .hbm, ⟨71, _⟩ => ⟨S_, .f32⟩
  | .hbm, ⟨72, _⟩ => ⟨S4x4096x256, .f32⟩
  | .hbm, ⟨73, _⟩ => ⟨S4x4096x256, .f32⟩
  | .hbm, ⟨74, _⟩ => ⟨S4x256x256, .f32⟩
  | .hbm, ⟨75, _⟩ => ⟨S256x4x256, .f32⟩
  | .hbm, ⟨76, _⟩ => ⟨S4x4096x256, .f32⟩
  | .hbm, ⟨77, _⟩ => ⟨S4096x4x256, .f32⟩
  | .hbm, ⟨78, _⟩ => ⟨S256x1024, .f32⟩
  | .hbm, ⟨79, _⟩ => ⟨S256x1024, .f32⟩
  | .hbm, ⟨80, _⟩ => ⟨S4096x1024, .f32⟩
  | .hbm, ⟨81, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S4x1024x1024 : Shape := ⟨3, ![4, 1024, 1024]⟩
abbrev S_ : Shape := ⟨0, ![]⟩
abbrev S4x3328x1024 : Shape := ⟨3, ![4, 3328, 1024]⟩
abbrev S1024x1024 : Shape := ⟨2, ![1024, 1024]⟩
abbrev S1x1024x1024 : Shape := ⟨3, ![1, 1024, 1024]⟩

abbrev nBuf : Space → Nat
  | .hbm => 11
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S_, .i32⟩
  | .hbm, ⟨5, _⟩ => ⟨S_, .f32⟩
  | .hbm, ⟨6, _⟩ => ⟨S4x3328x1024, .f32⟩
  | .hbm, ⟨7, _⟩ => ⟨S4096x1024, .bf16⟩
  | .hbm, ⟨8, _⟩ => ⟨S4x3328x1024, .bf16⟩
  | .hbm, ⟨9, _⟩ => ⟨S4096x4096, .bf16⟩
  | .hbm, ⟨10, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_9 : BitVec 32 := 0#32
  let v14 : BitVec 1 := Scalar.cmpi .eq arg2 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S4x3328x1024 : Shape := ⟨3, ![4, 3328, 1024]⟩
abbrev S1024x1024 : Shape := ⟨2, ![1024, 1024]⟩
abbrev S1x1024x1024 : Shape := ⟨3, ![1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4x3328x1024, .f32⟩
  | .hbm, ⟨3, _⟩ => ⟨S4096x4096, .bf16⟩
  | .hbm, ⟨4, _⟩ => ⟨S4096x1024, .bf16⟩
  | .hbm, ⟨5, _⟩ => ⟨S4x3328x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S4x3328x1024 : Shape := ⟨3, ![4, 3328, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4x3328x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4x1024x1024, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x3328x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v7 : Ref sig .tc := ⟨.hbm, 16, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S4x3328x1024 : Shape := ⟨3, ![4, 3328, 1024]⟩
abbrev S1024x1024 : Shape := ⟨2, ![1024, 1024]⟩
abbrev S1x1024x1024 : Shape := ⟨3, ![1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4x3328x1024, .f32⟩
  | .hbm, ⟨3, _⟩ => ⟨S4096x1024, .bf16⟩
  | .hbm, ⟨4, _⟩ => ⟨S4096x4096, .bf16⟩
  | .hbm, ⟨5, _⟩ => ⟨S4x3328x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi c1_i32_5 arg0
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S4x3328x1024 : Shape := ⟨3, ![4, 3328, 1024]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4x3328x1024, .f32⟩
  | .hbm, ⟨3, _⟩ => ⟨S_, .f32⟩
  | .hbm, ⟨4, _⟩ => ⟨S1024x4096, .f32⟩
  | .hbm, ⟨5, _⟩ => ⟨S4096x4096, .f32⟩
  | .hbm, ⟨6, _⟩ => ⟨S4096x1024, .f32⟩
  | .hbm, ⟨7, _⟩ => ⟨S1024x4096, .f32⟩
  | .hbm, ⟨8, _⟩ => ⟨S1024x4x1024, .f32⟩
  | .hbm, ⟨9, _⟩ => ⟨S4x1024x1024, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4x3328x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Kernel5.lean ====
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S_ : Shape := ⟨0, ![]⟩
abbrev S4x3328x1024 : Shape := ⟨3, ![4, 3328, 1024]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S1024x4x1024, .f32⟩
  | .hbm, ⟨3, _⟩ => ⟨S4x1024x1024, .f32⟩
  | .hbm, ⟨4, _⟩ => ⟨S_, .i32⟩
  | .hbm, ⟨5, _⟩ => ⟨S_, .f32⟩
  | .hbm, ⟨6, _⟩ => ⟨S4x3328x1024, .f32⟩
  | .hbm, ⟨7, _⟩ => ⟨S4096x4096, .bf16⟩
  | .hbm, ⟨8, _⟩ => ⟨S4x3328x1024, .bf16⟩
  | .hbm, ⟨9, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi c1_i32_5 arg1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S1024x4096 : Shape := ⟨2, ![1024, 4096]⟩
abbrev S4096x4096 : Shape := ⟨2, ![4096, 4096]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S4096x1024 : Shape := ⟨2, ![4096, 1024]⟩
abbrev S4096x2560 : Shape := ⟨2, ![4096, 2560]⟩
abbrev S1024x2560 : Shape := ⟨2, ![1024, 2560]⟩
abbrev S1024x1024 : Shape := ⟨2, ![1024, 1024]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S4096x1024, .bf16⟩
  | .hbm, ⟨3, _⟩ => ⟨S4096x2560, .bf16⟩
  | .hbm, ⟨4, _⟩ => ⟨S1024x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S_, .f32⟩
  | .hbm, ⟨3, _⟩ => ⟨S1024x2560, .f32⟩
  | .hbm, ⟨4, _⟩ => ⟨S4096x2560, .f32⟩
  | .hbm, ⟨5, _⟩ => ⟨S2560x1024, .f32⟩
  | .hbm, ⟨6, _⟩ => ⟨S1024x2560, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S1024x2560 : Shape := ⟨2, ![1024, 2560]⟩
abbrev S4096x2560 : Shape := ⟨2, ![4096, 2560]⟩
abbrev S4096x1024 : Shape := ⟨2, ![4096, 1024]⟩
abbrev S1024x1280 : Shape := ⟨2, ![1024, 1280]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x2560, .f32⟩
  | .hbm, ⟨1, _⟩ => ⟨S4096x2560, .f32⟩
  | .hbm, ⟨2, _⟩ => ⟨S4096x2560, .bf16⟩
  | .hbm, ⟨3, _⟩ => ⟨S1024x2560, .bf16⟩
  | .hbm, ⟨4, _⟩ => ⟨S4096x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1024, .f32⟩
  | .local _ .vmem, ⟨5, _⟩ => ⟨S1024x1024, .f32⟩
  | _, _ => ⟨S1024x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x2560 : Shape := ⟨2, ![1024, 2560]⟩
abbrev S4096x2560 : Shape := ⟨2, ![4096, 2560]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2560, .f32⟩
  | .hbm, ⟨1, _⟩ => ⟨S4096x2560, .f32⟩
  | .hbm, ⟨2, _⟩ => ⟨S_, .f32⟩
  | .hbm, ⟨3, _⟩ => ⟨S4096x1024, .f32⟩
  | .hbm, ⟨4, _⟩ => ⟨S4096x2560, .f32⟩
  | .hbm, ⟨5, _⟩ => ⟨S4096x1024, .f32⟩
  | _, _ => ⟨S1024x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S1024x1024 : Shape := ⟨2, ![1024, 1024]⟩
abbrev S4096x1024 : Shape := ⟨2, ![4096, 1024]⟩
abbrev S4x256x1024 : Shape := ⟨3, ![4, 256, 1024]⟩
abbrev S_ : Shape := ⟨0, ![]⟩
abbrev S4x3328x1024 : Shape := ⟨3, ![4, 3328, 1024]⟩

abbrev nBuf : Space → Nat
  | .hbm => 9
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .bf16⟩
  | .hbm, ⟨3, _⟩ => ⟨S4x256x1024, .f32⟩
  | .hbm, ⟨4, _⟩ => ⟨S_, .i32⟩
  | .hbm, ⟨5, _⟩ => ⟨S_, .f32⟩
  | .hbm, ⟨6, _⟩ => ⟨S4x3328x1024, .f32⟩
  | .hbm, ⟨7, _⟩ => ⟨S4x3328x1024, .bf16⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_9 : BitVec 32 := 0#32
  let v14 : BitVec 1 := Scalar.cmpi .eq arg2 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let c0_i32 : BitVec 32 := 0#32
  ![arg1.toNat, c11_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S1024x1024 : Shape := ⟨2, ![1024, 1024]⟩
abbrev S4096x1024 : Shape := ⟨2, ![4096, 1024]⟩
abbrev S4x256x1024 : Shape := ⟨3, ![4, 256, 1024]⟩
abbrev S_ : Shape := ⟨0, ![]⟩
abbrev S4x3328x1024 : Shape := ⟨3, ![4, 3328, 1024]⟩

abbrev nBuf : Space → Nat
  | .hbm => 9
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .bf16⟩
  | .hbm, ⟨3, _⟩ => ⟨S4x256x1024, .f32⟩
  | .hbm, ⟨4, _⟩ => ⟨S_, .i32⟩
  | .hbm, ⟨5, _⟩ => ⟨S_, .f32⟩
  | .hbm, ⟨6, _⟩ => ⟨S4x3328x1024, .f32⟩
  | .hbm, ⟨7, _⟩ => ⟨S4x3328x1024, .bf16⟩
  | .hbm, ⟨8, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  ![arg1.toNat, c8_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S1024x1024 : Shape := ⟨2, ![1024, 1024]⟩
abbrev S4096x1024 : Shape := ⟨2, ![4096, 1024]⟩
abbrev S1024x4096 : Shape := ⟨2, ![1024, 4096]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S1024x1024, .bf16⟩
  | .hbm, ⟨3, _⟩ => ⟨S4096x1024, .bf16⟩
  | .hbm, ⟨4, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S1024x1024 : Shape := ⟨2, ![1024, 1024]⟩
abbrev S4096x1024 : Shape := ⟨2, ![4096, 1024]⟩
abbrev S_ : Shape := ⟨0, ![]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x4096, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S4096x1024, .f32⟩
  | .hbm, ⟨2, _⟩ => ⟨S4096x1024, .bf16⟩
  | .hbm, ⟨3, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S1024x4096 : Shape := ⟨2, ![1024, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S_ : Shape := ⟨0, ![]⟩
abbrev S4x3328x1024 : Shape := ⟨3, ![4, 3328, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4x1024, .f32⟩
  | .hbm, ⟨3, _⟩ => ⟨S4x1024x1024, .f32⟩
  | .hbm, ⟨4, _⟩ => ⟨S_, .i32⟩
  | .hbm, ⟨5, _⟩ => ⟨S_, .f32⟩
  | .hbm, ⟨6, _⟩ => ⟨S4x3328x1024, .f32⟩
  | .hbm, ⟨7, _⟩ => ⟨S4096x1024, .bf16⟩
  | .hbm, ⟨8, _⟩ => ⟨S4x3328x1024, .bf16⟩
  | .hbm, ⟨9, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_9 : BitVec 32 := 0#32
  let v14 : BitVec 1 := Scalar.cmpi .eq arg2 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi c1_i32_5 arg2
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S4096x4096 : Shape := ⟨2, ![4096, 4096]⟩
abbrev S4096x1024 : Shape := ⟨2, ![4096, 1024]⟩
abbrev S4x1024x1024 : Shape := ⟨3, ![4, 1024, 1024]⟩
abbrev S_ : Shape := ⟨0, ![]⟩
abbrev S4x3328x1024 : Shape := ⟨3, ![4, 3328, 1024]⟩
abbrev S1024x1024 : Shape := ⟨2, ![1024, 1024]⟩
abbrev S1x1024x1024 : Shape := ⟨3, ![1, 1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4x1024x1024, .f32⟩
  | .hbm, ⟨4, _⟩ => ⟨S_, .i32⟩
  | .hbm, ⟨5, _⟩ => ⟨S_, .f32⟩
  | .hbm, ⟨6, _⟩ => ⟨S4x3328x1024, .f32⟩
  | .hbm, ⟨7, _⟩ => ⟨S4x3328x1024, .bf16⟩
  | .hbm, ⟨8, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel14.lean ====
abbrev S4096x1024 : Shape := ⟨2, ![4096, 1024]⟩
abbrev S1024x2560 : Shape := ⟨2, ![1024, 2560]⟩
abbrev S4096x2560 : Shape := ⟨2, ![4096, 2560]⟩
abbrev S1024x1024 : Shape := ⟨2, ![1024, 1024]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2560, .f32⟩
  | .hbm, ⟨2, _⟩ => ⟨S4096x1024, .bf16⟩
  | .hbm, ⟨3, _⟩ => ⟨S1024x2560, .bf16⟩
  | .hbm, ⟨4, _⟩ => ⟨S4096x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x2560 : Shape := ⟨2, ![1024, 2560]⟩
abbrev S4096x2560 : Shape := ⟨2, ![4096, 2560]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2560, .f32⟩
  | .hbm, ⟨2, _⟩ => ⟨S4096x2560, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S1024x1024 : Shape := ⟨2, ![1024, 1024]⟩
abbrev S4096x1024 : Shape := ⟨2, ![4096, 1024]⟩
abbrev S4x256x1024 : Shape := ⟨3, ![4, 256, 1024]⟩
abbrev S_ : Shape := ⟨0, ![]⟩
abbrev S4x3328x1024 : Shape := ⟨3, ![4, 3328, 1024]⟩
abbrev S4096x512 : Shape := ⟨2, ![4096, 512]⟩
abbrev S2x256x1024 : Shape := ⟨3, ![2, 256, 1024]⟩
abbrev S1024x512 : Shape := ⟨2, ![1024, 512]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .bf16⟩
  | .hbm, ⟨3, _⟩ => ⟨S4x256x1024, .f32⟩
  | .hbm, ⟨4, _⟩ => ⟨S_, .i32⟩
  | .hbm, ⟨5, _⟩ => ⟨S_, .f32⟩
  | .hbm, ⟨6, _⟩ => ⟨S4x3328x1024, .f32⟩
  | .hbm, ⟨7, _⟩ => ⟨S4x3328x1024, .bf16⟩
  | .hbm, ⟨8, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S2x256x1024, .bf16⟩
  | .local _ .vmem, ⟨3, _⟩ => ⟨S1024x512, .f32⟩
  | .local _ .vmem, ⟨4, _⟩ => ⟨S1024x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg1.toNat, c12_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S1024x1024 : Shape := ⟨2, ![1024, 1024]⟩
abbrev S4096x1024 : Shape := ⟨2, ![4096, 1024]⟩
abbrev S_ : Shape := ⟨0, ![]⟩
abbrev S4096x512 : Shape := ⟨2, ![4096, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x512, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4096x384 : Shape := ⟨2, ![4096, 384]⟩
abbrev S4096x1024 : Shape := ⟨2, ![4096, 1024]⟩
abbrev S384x1024 : Shape := ⟨2, ![384, 1024]⟩
abbrev S1024x384 : Shape := ⟨2, ![1024, 384]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x384, .f32⟩
  | .hbm, ⟨1, _⟩ => ⟨S4096x1024, .f32⟩
  | .hbm, ⟨2, _⟩ => ⟨S4096x384, .bf16⟩
  | .hbm, ⟨3, _⟩ => ⟨S4096x1024, .bf16⟩
  | .hbm, ⟨4, _⟩ => ⟨S384x1024, .f32⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4096x384 : Shape := ⟨2, ![4096, 384]⟩
abbrev S4096x1024 : Shape := ⟨2, ![4096, 1024]⟩
abbrev S_ : Shape := ⟨0, ![]⟩
abbrev S384x1024 : Shape := ⟨2, ![384, 1024]⟩
abbrev S1024x384 : Shape := ⟨2, ![1024, 384]⟩

abbrev nBuf : Space → Nat
  | .hbm => 7
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x1024, .f32⟩
  | .hbm, ⟨2, _⟩ => ⟨S_, .f32⟩
  | .hbm, ⟨3, _⟩ => ⟨S384x1024, .f32⟩
  | .hbm, ⟨4, _⟩ => ⟨S4096x1024, .f32⟩
  | .hbm, ⟨5, _⟩ => ⟨S1024x384, .f32⟩
  | .hbm, ⟨6, _⟩ => ⟨S384x1024, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S384x1024 : Shape := ⟨2, ![384, 1024]⟩
abbrev S4096x1024 : Shape := ⟨2, ![4096, 1024]⟩
abbrev S4096x384 : Shape := ⟨2, ![4096, 384]⟩
abbrev S1024x1024 : Shape := ⟨2, ![1024, 1024]⟩
abbrev S1024x384 : Shape := ⟨2, ![1024, 384]⟩

abbrev nBuf : Space → Nat
  | .hbm => 5
  | .vmem => 5
  | .smem => 0
  | _ => 0

abbrev bufTy : (tb : Table) → Fin (tcTables nBuf tb) → BufTy
  | .hbm, ⟨0, _⟩ => ⟨S384x1024, .f32⟩
  | .hbm, ⟨1, _⟩ => ⟨S4096x1024, .f32⟩
  | .hbm, ⟨2, _⟩ => ⟨S4096x1024, .bf16⟩
  | .hbm, ⟨3, _⟩ => ⟨S384x1024, .bf16⟩
  | .hbm, ⟨4, _⟩ => ⟨S4096x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S384x1024 : Shape := ⟨2, ![384, 1024]⟩
abbrev S4096x1024 : Shape := ⟨2, ![4096, 1024]⟩
abbrev S_ : Shape := ⟨0, ![]⟩
abbrev S4096x384 : Shape := ⟨2, ![4096, 384]⟩

abbrev nBuf : Space → Nat
  | .hbm => 6
  | .vmem => 0
  | .smem => 0
  | _ => 0

abbrev bufTy : (tb : Table) → Fin (tcTables nBuf tb) → BufTy
  | .hbm, ⟨0, _⟩ => ⟨S384x1024, .f32⟩
  | .hbm, ⟨1, _⟩ => ⟨S4096x1024, .f32⟩
  | .hbm, ⟨2, _⟩ => ⟨S_, .f32⟩
  | .hbm, ⟨3, _⟩ => ⟨S4096x384, .f32⟩
  | .hbm, ⟨4, _⟩ => ⟨S4096x1024, .f32⟩
  | .hbm, ⟨5, _⟩ => ⟨S4096x384, .f32⟩
  | _, _ => ⟨S384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S4096x256, .bf16⟩
  | .hbm, ⟨3, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S256x1024 : Shape := ⟨2, ![256, 1024]⟩
abbrev S4096x1024 : Shape := ⟨2, ![4096, 1024]⟩
abbrev S4096x256 : Shape := ⟨2, ![4096, 256]⟩
abbrev S1024x1024 : Shape := ⟨2, ![1024, 1024]⟩
abbrev S1024x256 : Shape := ⟨2, ![1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S4096x1024, .f32⟩
  | .hbm, ⟨2, _⟩ => ⟨S256x1024, .bf16⟩
  | .hbm, ⟨3, _⟩ => ⟨S4096x256, .f32⟩
  | .local _ .vmem, ⟨0, _⟩ => ⟨S1024x1024, .f32⟩
  | .local _ .vmem, ⟨1, _⟩ => ⟨S1024x1024, .f32⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S256x1024 : Shape := ⟨2, ![256, 1024]⟩
abbrev S4096x1024 : Shape := ⟨2, ![4096, 1024]⟩
abbrev S_ : Shape := ⟨0, ![]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4096x1024, .f32⟩
  | .hbm, ⟨2, _⟩ => ⟨S_, .f32⟩
  | .hbm, ⟨3, _⟩ => ⟨S4096x256, .f32⟩
  | .hbm, ⟨4, _⟩ => ⟨S4096x1024, .f32⟩
  | .hbm, ⟨5, _⟩ => ⟨S4096x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S4096x256 : Shape := ⟨2, ![4096, 256]⟩
abbrev S1024x4096 : Shape := ⟨2, ![1024, 4096]⟩
abbrev S1024x256 : Shape := ⟨2, ![1024, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S1024x4096, .f32⟩
  | .hbm, ⟨2, _⟩ => ⟨S4096x256, .bf16⟩
  | .hbm, ⟨3, _⟩ => ⟨S1024x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S4096x256 : Shape := ⟨2, ![4096, 256]⟩
abbrev S1024x4096 : Shape := ⟨2, ![1024, 4096]⟩
abbrev S_ : Shape := ⟨0, ![]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1024x4096, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S1024x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S1024x256 : Shape := ⟨2, ![1024, 256]⟩
abbrev S1024x4096 : Shape := ⟨2, ![1024, 4096]⟩
abbrev S4096x256 : Shape := ⟨2, ![4096, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x256, .f32⟩
  | .hbm, ⟨1, _⟩ => ⟨S1024x4096, .f32⟩
  | .hbm, ⟨2, _⟩ => ⟨S1024x256, .bf16⟩
  | .hbm, ⟨3, _⟩ => ⟨S4096x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S1024x256 : Shape := ⟨2, ![1024, 256]⟩
abbrev S1024x4096 : Shape := ⟨2, ![1024, 4096]⟩
abbrev S_ : Shape := ⟨0, ![]⟩
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x4096, .f32⟩
  | .hbm, ⟨2, _⟩ => ⟨S_, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S4096x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S4096x384 : Shape := ⟨2, ![4096, 384]⟩
abbrev S384x1024 : Shape := ⟨2, ![384, 1024]⟩
abbrev S4096x1024 : Shape := ⟨2, ![4096, 1024]⟩
abbrev S1024x384 : Shape := ⟨2, ![1024, 384]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x384, .f32⟩
  | .hbm, ⟨1, _⟩ => ⟨S384x1024, .f32⟩
  | .hbm, ⟨2, _⟩ => ⟨S4096x384, .bf16⟩
  | .hbm, ⟨3, _⟩ => ⟨S384x1024, .bf16⟩
  | .hbm, ⟨4, _⟩ => ⟨S4096x1024, .f32⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S1024x1024, .f32⟩
  | .local _ .vmem, ⟨4, _⟩ => ⟨S1024x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x384 : Shape := ⟨2, ![4096, 384]⟩
abbrev S384x1024 : Shape := ⟨2, ![384, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S384x1024, .f32⟩
  | .hbm, ⟨2, _⟩ => ⟨S4096x1024, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel23.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x256, .bf16⟩
  | .hbm, ⟨3, _⟩ => ⟨S256x1024, .bf16⟩
  | .hbm, ⟨4, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x256, .bf16⟩
  | .hbm, ⟨3, _⟩ => ⟨S256x1024, .bf16⟩
  | .hbm, ⟨4, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel25.lean ====
abbrev S4096x256 : Shape := ⟨2, ![4096, 256]⟩
abbrev S1024x256 : Shape := ⟨2, ![1024, 256]⟩
abbrev S1024x4096 : Shape := ⟨2, ![1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S1024x256, .f32⟩
  | .hbm, ⟨2, _⟩ => ⟨S1024x256, .bf16⟩
  | .hbm, ⟨3, _⟩ => ⟨S4096x256, .bf16⟩
  | .hbm, ⟨4, _⟩ => ⟨S1024x4096, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x256 : Shape := ⟨2, ![4096, 256]⟩
abbrev S1024x256 : Shape := ⟨2, ![1024, 256]⟩
abbrev S256x1024 : Shape := ⟨2, ![256, 1024]⟩
abbrev S4096x1024 : Shape := ⟨2, ![4096, 1024]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1024x256, .f32⟩
  | .hbm, ⟨2, _⟩ => ⟨S256x1024, .f32⟩
  | .hbm, ⟨3, _⟩ => ⟨S4096x1024, .f32⟩
  | .hbm, ⟨4, _⟩ => ⟨S1024x4096, .f32⟩
  | .hbm, ⟨5, _⟩ => ⟨S1024x4096, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel26.lean ====
abbrev S1024x4096 : Shape := ⟨2, ![1024, 4096]⟩
abbrev S1024x1024 : Shape := ⟨2, ![1024, 1024]⟩
abbrev S4096x1024 : Shape := ⟨2, ![4096, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S1024x4096 : Shape := ⟨2, ![1024, 4096]⟩
abbrev S1024x1024 : Shape := ⟨2, ![1024, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel27.lean ====
abbrev S4096x512 : Shape := ⟨2, ![4096, 512]⟩
abbrev S1024x1024 : Shape := ⟨2, ![1024, 1024]⟩
abbrev S4x256x1024 : Shape := ⟨3, ![4, 256, 1024]⟩
abbrev S_ : Shape := ⟨0, ![]⟩
abbrev S4x3328x1024 : Shape := ⟨3, ![4, 3328, 1024]⟩
abbrev S4096x1024 : Shape := ⟨2, ![4096, 1024]⟩
abbrev S1024x512 : Shape := ⟨2, ![1024, 512]⟩
abbrev S2x256x1024 : Shape := ⟨3, ![2, 256, 1024]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S1024x1024, .f32⟩
  | .hbm, ⟨2, _⟩ => ⟨S4096x512, .bf16⟩
  | .hbm, ⟨3, _⟩ => ⟨S4x256x1024, .f32⟩
  | .hbm, ⟨4, _⟩ => ⟨S_, .i32⟩
  | .hbm, ⟨5, _⟩ => ⟨S_, .f32⟩
  | .hbm, ⟨6, _⟩ => ⟨S4x3328x1024, .f32⟩
  | .hbm, ⟨7, _⟩ => ⟨S4x3328x1024, .bf16⟩
  | .hbm, ⟨8, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S2x256x1024, .bf16⟩
  | .local _ .vmem, ⟨3, _⟩ => ⟨S1024x1024, .f32⟩
  | .local _ .vmem, ⟨4, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg2.toNat, c12_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x512 : Shape := ⟨2, ![4096, 512]⟩
abbrev S1024x1024 : Shape := ⟨2, ![1024, 1024]⟩
abbrev S512x1024 : Shape := ⟨2, ![512, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1024x1024, .f32⟩
  | .hbm, ⟨2, _⟩ => ⟨S512x1024, .f32⟩
  | .hbm, ⟨3, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel28.lean ====
abbrev S4096x1024 : Shape := ⟨2, ![4096, 1024]⟩
abbrev S1024x1024 : Shape := ⟨2, ![1024, 1024]⟩
abbrev S4x256x1024 : Shape := ⟨3, ![4, 256, 1024]⟩
abbrev S_ : Shape := ⟨0, ![]⟩
abbrev S4x3328x1024 : Shape := ⟨3, ![4, 3328, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S4x256x1024, .f32⟩
  | .hbm, ⟨4, _⟩ => ⟨S_, .i32⟩
  | .hbm, ⟨5, _⟩ => ⟨S_, .f32⟩
  | .hbm, ⟨6, _⟩ => ⟨S4x3328x1024, .f32⟩
  | .hbm, ⟨7, _⟩ => ⟨S4x3328x1024, .bf16⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_9 : BitVec 32 := 0#32
  let v14 : BitVec 1 := Scalar.cmpi .eq arg2 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  ![arg2.toNat, c8_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel29.lean ====
abbrev S256x1024 : Shape := ⟨2, ![256, 1024]⟩
abbrev S1024x1024 : Shape := ⟨2, ![1024, 1024]⟩
abbrev S4x256x1024 : Shape := ⟨3, ![4, 256, 1024]⟩
abbrev S_ : Shape := ⟨0, ![]⟩
abbrev S4x3328x1024 : Shape := ⟨3, ![4, 3328, 1024]⟩

abbrev nBuf : Space → Nat
  | .hbm => 8
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S4x256x1024, .f32⟩
  | .hbm, ⟨3, _⟩ => ⟨S_, .i32⟩
  | .hbm, ⟨4, _⟩ => ⟨S_, .f32⟩
  | .hbm, ⟨5, _⟩ => ⟨S4x3328x1024, .f32⟩
  | .hbm, ⟨6, _⟩ => ⟨S4x3328x1024, .bf16⟩
  | .hbm, ⟨7, _⟩ => ⟨S256x1024, .bf16⟩
  | .local _ .vmem, ⟨0, _⟩ => ⟨S256x1024, .f32⟩
  | .local _ .vmem, ⟨1, _⟩ => ⟨S4x256x1024, .bf16⟩
  | .local _ .vmem, ⟨2, _⟩ => ⟨S256x1024, .bf16⟩
  | .local _ .vmem, ⟨3, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_9 : BitVec 32 := 0#32
  let v14 : BitVec 1 := Scalar.cmpi .eq arg2 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let c0_i32 : BitVec 32 := 0#32
  ![arg2.toNat, c9_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference29Ideal.lean ====
abbrev S256x1024 : Shape := ⟨2, ![256, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel30.lean ====
abbrev S256x1024 : Shape := ⟨2, ![256, 1024]⟩
abbrev S1024x1024 : Shape := ⟨2, ![1024, 1024]⟩
abbrev S4x256x1024 : Shape := ⟨3, ![4, 256, 1024]⟩
abbrev S_ : Shape := ⟨0, ![]⟩
abbrev S4x3328x1024 : Shape := ⟨3, ![4, 3328, 1024]⟩

abbrev nBuf : Space → Nat
  | .hbm => 8
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S4x256x1024, .f32⟩
  | .hbm, ⟨3, _⟩ => ⟨S_, .i32⟩
  | .hbm, ⟨4, _⟩ => ⟨S_, .f32⟩
  | .hbm, ⟨5, _⟩ => ⟨S4x3328x1024, .f32⟩
  | .hbm, ⟨6, _⟩ => ⟨S4x3328x1024, .bf16⟩
  | .hbm, ⟨7, _⟩ => ⟨S256x1024, .bf16⟩
  | .local _ .vmem, ⟨0, _⟩ => ⟨S256x1024, .f32⟩
  | .local _ .vmem, ⟨1, _⟩ => ⟨S4x256x1024, .bf16⟩
  | .local _ .vmem, ⟨2, _⟩ => ⟨S256x1024, .bf16⟩
  | .local _ .vmem, ⟨3, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_9 : BitVec 32 := 0#32
  let v14 : BitVec 1 := Scalar.cmpi .eq arg2 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let c0_i32 : BitVec 32 := 0#32
  ![arg2.toNat, c10_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference30Ideal.lean ====
abbrev S256x1024 : Shape := ⟨2, ![256, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel31.lean ====
abbrev S4096x1024 : Shape := ⟨2, ![4096, 1024]⟩
abbrev S1024x1024 : Shape := ⟨2, ![1024, 1024]⟩
abbrev S4x256x1024 : Shape := ⟨3, ![4, 256, 1024]⟩
abbrev S_ : Shape := ⟨0, ![]⟩
abbrev S4x3328x1024 : Shape := ⟨3, ![4, 3328, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S4x256x1024, .f32⟩
  | .hbm, ⟨4, _⟩ => ⟨S_, .i32⟩
  | .hbm, ⟨5, _⟩ => ⟨S_, .f32⟩
  | .hbm, ⟨6, _⟩ => ⟨S4x3328x1024, .f32⟩
  | .hbm, ⟨7, _⟩ => ⟨S4x3328x1024, .bf16⟩
  | .hbm, ⟨8, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let c0_i32 : BitVec 32 := 0#32
  ![arg2.toNat, c11_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel32.lean ====
abbrev S4096x1024 : Shape := ⟨2, ![4096, 1024]⟩
abbrev S4x3328x1024 : Shape := ⟨3, ![4, 3328, 1024]⟩
abbrev S1024x1024 : Shape := ⟨2, ![1024, 1024]⟩
abbrev S4x256x1024 : Shape := ⟨3, ![4, 256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x3328x1024, .f32⟩
  | .hbm, ⟨3, _⟩ => ⟨S4096x1024, .bf16⟩
  | .hbm, ⟨4, _⟩ => ⟨S4096x1024, .bf16⟩
  | .hbm, ⟨5, _⟩ => ⟨S4x3328x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let c0_i32 : BitVec 32 := 0#32
  ![arg0.toNat, c11_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference32Ideal.lean ====
abbrev S4096x1024 : Shape := ⟨2, ![4096, 1024]⟩
abbrev S4x3328x1024 : Shape := ⟨3, ![4, 3328, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x3328x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4x3328x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel33.lean ====
abbrev S4096x1024 : Shape := ⟨2, ![4096, 1024]⟩
abbrev S4x3328x1024 : Shape := ⟨3, ![4, 3328, 1024]⟩
abbrev S1024x1024 : Shape := ⟨2, ![1024, 1024]⟩
abbrev S4x256x1024 : Shape := ⟨3, ![4, 256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x3328x1024, .f32⟩
  | .hbm, ⟨3, _⟩ => ⟨S4096x1024, .bf16⟩
  | .hbm, ⟨4, _⟩ => ⟨S4096x1024, .bf16⟩
  | .hbm, ⟨5, _⟩ => ⟨S4x3328x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  ![arg0.toNat, c8_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference33Ideal.lean ====
abbrev S4096x1024 : Shape := ⟨2, ![4096, 1024]⟩
abbrev S4x3328x1024 : Shape := ⟨3, ![4, 3328, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x3328x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4x3328x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel34.lean ====
abbrev S256x1024 : Shape := ⟨2, ![256, 1024]⟩
abbrev S4x3328x1024 : Shape := ⟨3, ![4, 3328, 1024]⟩
abbrev S4x256x1024 : Shape := ⟨3, ![4, 256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x3328x1024, .f32⟩
  | .hbm, ⟨3, _⟩ => ⟨S4x3328x1024, .f32⟩
  | .local _ .vmem, ⟨0, _⟩ => ⟨S256x1024, .f32⟩
  | .local _ .vmem, ⟨1, _⟩ => ⟨S256x1024, .f32⟩
  | .local _ .vmem, ⟨2, _⟩ => ⟨S4x256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let c0_i32 : BitVec 32 := 0#32
  ![arg0.toNat, c9_i32.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference34Ideal.lean ====
abbrev S256x1024 : Shape := ⟨2, ![256, 1024]⟩
abbrev S4x3328x1024 : Shape := ⟨3, ![4, 3328, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x3328x1024, .f32⟩
  | .hbm, ⟨3, _⟩ => ⟨S_, .f32⟩
  | .hbm, ⟨4, _⟩ => ⟨S1024x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4x3328x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel35.lean ====
abbrev S256x1024 : Shape := ⟨2, ![256, 1024]⟩
abbrev S4x3328x1024 : Shape := ⟨3, ![4, 3328, 1024]⟩
abbrev S4x256x1024 : Shape := ⟨3, ![4, 256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x3328x1024, .f32⟩
  | .hbm, ⟨3, _⟩ => ⟨S4x3328x1024, .f32⟩
  | .local _ .vmem, ⟨0, _⟩ => ⟨S256x1024, .f32⟩
  | .local _ .vmem, ⟨1, _⟩ => ⟨S256x1024, .f32⟩
  | .local _ .vmem, ⟨2, _⟩ => ⟨S4x256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let c0_i32 : BitVec 32 := 0#32
  ![arg0.toNat, c10_i32.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference35Ideal.lean ====
abbrev S256x1024 : Shape := ⟨2, ![256, 1024]⟩
abbrev S4x3328x1024 : Shape := ⟨3, ![4, 3328, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x3328x1024, .f32⟩
  | .hbm, ⟨3, _⟩ => ⟨S_, .f32⟩
  | .hbm, ⟨4, _⟩ => ⟨S1024x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4x3328x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel36.lean ====
abbrev S4096x512 : Shape := ⟨2, ![4096, 512]⟩
abbrev S4096x1024 : Shape := ⟨2, ![4096, 1024]⟩
abbrev S4x3328x1024 : Shape := ⟨3, ![4, 3328, 1024]⟩
abbrev S1024x512 : Shape := ⟨2, ![1024, 512]⟩
abbrev S1024x1024 : Shape := ⟨2, ![1024, 1024]⟩
abbrev S2x256x1024 : Shape := ⟨3, ![2, 256, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4x3328x1024, .f32⟩
  | .hbm, ⟨3, _⟩ => ⟨S4096x512, .bf16⟩
  | .hbm, ⟨4, _⟩ => ⟨S4096x1024, .bf16⟩
  | .hbm, ⟨5, _⟩ => ⟨S4x3328x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S2x256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg0.toNat, c12_i32.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference36Ideal.lean ====
abbrev S4096x512 : Shape := ⟨2, ![4096, 512]⟩
abbrev S4096x1024 : Shape := ⟨2, ![4096, 1024]⟩
abbrev S4x3328x1024 : Shape := ⟨3, ![4, 3328, 1024]⟩
abbrev S_ : Shape := ⟨0, ![]⟩
abbrev S512x1024 : Shape := ⟨2, ![512, 1024]⟩
abbrev S1024x512 : Shape := ⟨2, ![1024, 512]⟩
abbrev S2x256x1024 : Shape := ⟨3, ![2, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4x3328x1024, .f32⟩
  | .hbm, ⟨3, _⟩ => ⟨S_, .f32⟩
  | .hbm, ⟨4, _⟩ => ⟨S512x1024, .f32⟩
  | .hbm, ⟨5, _⟩ => ⟨S4096x1024, .f32⟩
  | .hbm, ⟨6, _⟩ => ⟨S1024x512, .f32⟩
  | .hbm, ⟨7, _⟩ => ⟨S512x1024, .f32⟩
  | .hbm, ⟨8, _⟩ => ⟨S2x256x1024, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4x3328x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel39.lean ====
abbrev S4096x1024 : Shape := ⟨2, ![4096, 1024]⟩
abbrev S256x1024 : Shape := ⟨2, ![256, 1024]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256x1024, .f32⟩
  | .hbm, ⟨3, _⟩ => ⟨S4096x1024, .bf16⟩
  | .hbm, ⟨4, _⟩ => ⟨S256x1024, .bf16⟩
  | .hbm, ⟨5, _⟩ => ⟨S256x1024, .bf16⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference39Ideal.lean ====
abbrev S4096x1024 : Shape := ⟨2, ![4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256x1024, .f32⟩
  | .hbm, ⟨3, _⟩ => ⟨S4096x4x256, .f32⟩
  | .hbm, ⟨4, _⟩ => ⟨S256x4x256, .f32⟩
  | .hbm, ⟨5, _⟩ => ⟨S256x4x256, .f32⟩
  | .hbm, ⟨6, _⟩ => ⟨S4x4096x256, .f32⟩
  | .hbm, ⟨7, _⟩ => ⟨S_, .f32⟩
  | .hbm, ⟨8, _⟩ => ⟨S4x4096x256, .f32⟩
  | .hbm, ⟨9, _⟩ => ⟨S4x4096x256, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S4x4096, .f32⟩
  | .hbm, ⟨15, _⟩ => ⟨S4x4096x1, .f32⟩
  | .hbm, ⟨16, _⟩ => ⟨S4x4096x256, .f32⟩
  | .hbm, ⟨17, _⟩ => ⟨S4x4096x256, .f32⟩
  | .hbm, ⟨18, _⟩ => ⟨S4x4096x256, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S4x4096x256, .f32⟩
  | .hbm, ⟨23, _⟩ => ⟨S4x4096x256, .f32⟩
  | .hbm, ⟨24, _⟩ => ⟨S4x256x4096, .f32⟩
  | .hbm, ⟨25, _⟩ => ⟨S4096x4x256, .f32⟩
  | .hbm, ⟨26, _⟩ => ⟨S4096x1024, .f32⟩
  | .hbm, ⟨27, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.Ideal.Offsets.lean ====
/- The offsets of the call's loads and stores and the conditions of its branches, in closed form: a grid point is a head
   and a tile of queries, the loop steps over four blocks of keys at a time, and every chain of words the kernel computes
   is a multiple of 512 in these. -/
module

public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.Proof.KernelIdeal

open Cert.KernelIdeal Idealize.ShloMosaic Idealize.ShloMosaic.Tactic

/-- The tile of queries of a grid point. -/
abbrev qi (i : grid0.Coords) : ℕ := (i 1).val

theorem trips_t1 : ∀ i : grid0.Coords, (k0_t1_loop i).trips = qi i / 4 := by decide +kernel
theorem trips_t2 : ∀ i : grid0.Coords, (k0_t2_loop i).trips = 0 := by decide +kernel
/-- The condition of the branch that zeroes the two accumulators. -/
abbrev cond1 (i : grid0.Coords) : BitVec 1 :=
  Scalar.cmpi .ne (Scalar.extui (Scalar.cmpi .eq (BitVec.ofNat 32 (i 1).val) 0#32)) 0#32
theorem cond1_iff : ∀ i : grid0.Coords, cond1 i = 1#1 ↔ qi i = 0 := by decide +kernel
theorem cond2_iff : ∀ i : grid0.Coords, k0_cond2 i = 1#1 ↔ 2 ≤ qi i % 4 := by decide +kernel
theorem cond3_iff : ∀ i : grid0.Coords, k0_cond3 i = 1#1 ↔ qi i % 2 = 1 := by decide +kernel
theorem cond4_iff : ∀ i : grid0.Coords, k0_cond4 i = 1#1 ↔ qi i = 7 := by decide +kernel

theorem off1_eq : ∀ (i : grid0.Coords) (t : Fin (k0_t1_loop i).trips), k0_off1 i t = ![512 * (4 * t.val), 0] := by
  decide +kernel
theorem off2_eq : ∀ (i : grid0.Coords) (t : Fin (k0_t1_loop i).trips), k0_off2 i t = ![0, 512 * (4 * t.val)] := by
  decide +kernel
theorem off3_eq1 : ∀ (i : grid0.Coords) (t : Fin (k0_t1_loop i).trips), k0_off3 i t 1#32 = ![512 * (4 * t.val + 1), 0] := by
  decide +kernel
theorem off3_eq2 : ∀ (i : grid0.Coords) (t : Fin (k0_t1_loop i).trips), k0_off3 i t 2#32 = ![512 * (4 * t.val + 2), 0] := by
  decide +kernel
theorem off3_eq3 : ∀ (i : grid0.Coords) (t : Fin (k0_t1_loop i).trips), k0_off3 i t 3#32 = ![512 * (4 * t.val + 3), 0] := by
  decide +kernel
theorem off4_eq1 : ∀ (i : grid0.Coords) (t : Fin (k0_t1_loop i).trips), k0_off4 i t 1#32 = ![0, 512 * (4 * t.val + 1)] := by
  decide +kernel
theorem off4_eq2 : ∀ (i : grid0.Coords) (t : Fin (k0_t1_loop i).trips), k0_off4 i t 2#32 = ![0, 512 * (4 * t.val + 2)] := by
  decide +kernel
theorem off4_eq3 : ∀ (i : grid0.Coords) (t : Fin (k0_t1_loop i).trips), k0_off4 i t 3#32 = ![0, 512 * (4 * t.val + 3)] := by
  decide +kernel
theorem off9_eq : ∀ i : grid0.Coords, k0_off9 i = ![512 * (4 * (qi i / 4)), 0] := by decide +kernel
theorem off10_eq : ∀ i : grid0.Coords, k0_off10 i = ![0, 512 * (4 * (qi i / 4))] := by decide +kernel
theorem off11_eq : ∀ i : grid0.Coords, k0_off11 i = ![512 * (4 * (qi i / 4) + 1), 0] := by decide +kernel
theorem off12_eq : ∀ i : grid0.Coords, k0_off12 i = ![0, 512 * (4 * (qi i / 4) + 1)] := by decide +kernel
theorem off13_eq : ∀ i : grid0.Coords, k0_cond3 i = 1#1 → k0_off13 i = ![512 * (qi i - 1), 0] := by decide +kernel
theorem off14_eq : ∀ i : grid0.Coords, k0_cond3 i = 1#1 → k0_off14 i = ![0, 512 * (qi i - 1)] := by decide +kernel
theorem off15_eq : ∀ i : grid0.Coords, k0_off15 i = ![512 * qi i, 0] := by decide +kernel
theorem off16_eq : ∀ i : grid0.Coords, k0_off16 i = ![0, 512 * qi i] := by decide +kernel

instance (i : grid0.Coords) (t : Fin (k0_t1_loop i).trips) : ClosedOff (k0_off2 i t) := ⟨_, off2_eq i t⟩
instance (i : grid0.Coords) (t : Fin (k0_t1_loop i).trips) : ClosedOff (k0_off4 i t 1#32) := ⟨_, off4_eq1 i t⟩
instance (i : grid0.Coords) (t : Fin (k0_t1_loop i).trips) : ClosedOff (k0_off4 i t 2#32) := ⟨_, off4_eq2 i t⟩
instance (i : grid0.Coords) (t : Fin (k0_t1_loop i).trips) : ClosedOff (k0_off4 i t 3#32) := ⟨_, off4_eq3 i t⟩
instance (i : grid0.Coords) : ClosedOff (k0_off10 i) := ⟨_, off10_eq i⟩
instance (i : grid0.Coords) : ClosedOff (k0_off12 i) := ⟨_, off12_eq i⟩
instance (i : grid0.Coords) : ClosedOff (k0_off16 i) := ⟨_, off16_eq i⟩

end Cert.Proof.KernelIdeal
-- ==== Proof.Ideal.Step.lean ====
/- What the call's body computes from a head's buffers, apart from how it stores it. The keys and values of a head are read a block of 512
   rows at a time (`rows`), the two accumulators a block of 512 columns at a time (`cols`); of a grid point's tile of
   queries the body passes the blocks 0, 1, …, and what it leaves in an accumulator after `n` of them is `upd`: the first
   `n` blocks of columns replaced, the rest as they were. -/
module

public import proofs.«01_k».proof.Proof.Ideal.Offsets
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.VecWindow

variable {F : FTy → Type} [FloatOps F] [Named F]

/-- Rows `512 n` to `512 n + 511` of the keys (or values). -/
def rows (K : Vec F S4096x128 .bf16) (n : ℕ) : Vec F S512x128 .bf16 :=
  fun y => K fun a => ⟨((![512 * n, 0] : Fin 2 → ℕ) a + (y a).val) % S4096x128.size a, Nat.mod_lt _ (by fin_cases a <;> decide)⟩

/-- Columns `512 n` to `512 n + 511` of an accumulator. -/
def cols (X : Vec F S128x4096 .f32) (n : ℕ) : Vec F S128x512 .f32 :=
  fun y => X fun a => ⟨((![0, 512 * n] : Fin 2 → ℕ) a + (y a).val) % S128x4096.size a, Nat.mod_lt _ (by fin_cases a <;> decide)⟩

/-- The place of an accumulator's entry in its block of columns. -/
def loc (y : S128x4096.Idx) : S128x512.Idx :=
  fun a => ⟨(y a).val % S128x512.size a, Nat.mod_lt _ (by fin_cases a <;> decide)⟩

/-- `X` with its first `n` blocks of columns replaced by those of `g`. -/
def upd (X : Vec F S128x4096 .f32) (n : ℕ) (g : ℕ → Vec F S128x512 .f32) : Vec F S128x4096 .f32 :=
  fun y => if (y 1).val / 512 < n then g ((y 1).val / 512) (loc y) else X y

/-- `X` with its block of columns `n` replaced by `w`. -/
def setBlk (X : Vec F S128x4096 .f32) (n : ℕ) (w : Vec F S128x512 .f32) : Vec F S128x4096 .f32 :=
  fun y => if (y 1).val / 512 = n then w (loc y) else X y

omit [FloatOps F] [Named F] in
theorem window_rows (K : Vec F S4096x128 .bf16) (n : ℕ) (inb : ∀ a, (![512 * n, 0] : Fin 2 → ℕ) a + S512x128.size a ≤ S4096x128.size a) :
    window K ![512 * n, 0] S512x128.size inb = rows K n := by
  funext y
  refine congrArg K (funext fun a => Fin.ext ?_)
  have h1 := inb a
  have h2 : (y a).val < S512x128.size a := (y a).isLt
  show (![512 * n, 0] : Fin 2 → ℕ) a + 1 * (y a).val = _
  rw [one_mul]
  exact (Nat.mod_eq_of_lt (by omega)).symm

omit [FloatOps F] [Named F] in
theorem window_cols (X : Vec F S128x4096 .f32) (n : ℕ) (inb : ∀ a, (![0, 512 * n] : Fin 2 → ℕ) a + S128x512.size a ≤ S128x4096.size a) :
    window X ![0, 512 * n] S128x512.size inb = cols X n := by
  funext y
  refine congrArg X (funext fun a => Fin.ext ?_)
  have h1 := inb a
  have h2 : (y a).val < S128x512.size a := (y a).isLt
  show (![0, 512 * n] : Fin 2 → ℕ) a + 1 * (y a).val = _
  rw [one_mul]
  exact (Nat.mod_eq_of_lt (by omega)).symm

omit [FloatOps F] [Named F] in
theorem put_setBlk (X : Vec F S128x4096 .f32) (n : ℕ) (w : Vec F S128x512 .f32) :
    put X ![0, 512 * n] S128x512.size w = setBlk X n w := by
  funext y
  have h0 : (y 0).val < 128 := (y 0).isLt
  have h1 : (y 1).val < 4096 := (y 1).isLt
  by_cases hn : (y 1).val / 512 = n
  · have hin : ∀ a, (![0, 512 * n] : Fin 2 → ℕ) a ≤ (y a).val ∧ (y a).val < (![0, 512 * n] : Fin 2 → ℕ) a + S128x512.size a := by
      intro a
      fin_cases a
      · exact ⟨Nat.zero_le _, by show (y 0).val < 0 + 128; omega⟩
      · exact ⟨by show 512 * n ≤ (y 1).val; omega, by show (y 1).val < 512 * n + 512; omega⟩
    show (if h : _ then w _ else _) = if _ then _ else _
    rw [dif_pos hin, if_pos hn]
    refine congrArg w (funext fun a => Fin.ext ?_)
    fin_cases a
    · show (y 0).val - 0 = (y 0).val % 128; omega
    · show (y 1).val - 512 * n = (y 1).val % 512; omega
  · have hin : ¬ ∀ a, (![0, 512 * n] : Fin 2 → ℕ) a ≤ (y a).val ∧ (y a).val < (![0, 512 * n] : Fin 2 → ℕ) a + S128x512.size a := by
      intro h
      have h' : 512 * n ≤ (y 1).val ∧ (y 1).val < 512 * n + 512 := h 1
      omega
    show (if h : _ then w _ else _) = if _ then _ else _
    rw [dif_neg hin, if_neg hn]

omit [FloatOps F] [Named F] in
theorem upd_zero (X : Vec F S128x4096 .f32) (g : ℕ → Vec F S128x512 .f32) : upd X 0 g = X := by
  funext y; exact if_neg (Nat.not_lt_zero _)

omit [FloatOps F] [Named F] in
theorem setBlk_upd (X : Vec F S128x4096 .f32) (n : ℕ) (g : ℕ → Vec F S128x512 .f32) : setBlk (upd X n g) n (g n) = upd X (n + 1) g := by
  funext y
  unfold setBlk upd
  by_cases h : (y 1).val / 512 = n
  · rw [if_pos h, if_pos (by omega), h]
  · rw [if_neg h]
    by_cases h' : (y 1).val / 512 < n
    · rw [if_pos h', if_pos (by omega)]
    · rw [if_neg h', if_neg (by omega)]

omit [FloatOps F] [Named F] in
/-- A block of columns not passed yet is as it was. -/
theorem cols_upd (X : Vec F S128x4096 .f32) (n k : ℕ) (g : ℕ → Vec F S128x512 .f32) (hk : k < 8) (hn : n ≤ k) : cols (upd X n g) k = cols X k := by
  funext y
  refine if_neg ?_
  have h2 : (y 1).val < 512 := (y 1).isLt
  show ¬ (512 * k + (y 1).val) % 4096 / 512 < n
  omega

/-! ## The step over one block of keys -/

section Step

variable (v4 : FVec F S512x128 .bf16) (v5 : FVec F S128x512 .bf16) (v12 : FVec F S1x512 .f32) (v13 : FVec F S128x512 .bf16)
  (v15 : FVec F S1x512 .f32) (K V : Vec F S4096x128 .bf16) (X Y : Vec F S128x4096 .f32)

/-- Block `n` of the values' gradient after the step over it. -/
def gX (n : ℕ) : Vec F S128x512 .f32 := k0_pay9 v4 v13 v15 (rows K n) (cols X n)

/-- Block `n` of the keys' gradient after the step over it. -/
def gY (n : ℕ) : Vec F S128x512 .f32 := k0_pay11 (k0_pay10 v4 v5 v12 v13 v15 (rows K n) (rows V n) (cols Y n))

/-- The queries' gradient (transposed) after the steps over the first `n` blocks. -/
def accum : ℕ → FVec F S128x512 .f32
  | 0 => k0_pay58 (F := F)
  | n + 1 => k0_pay12 (accum n) (k0_pay6 (rows K n)) (k0_pay8 v4 v12 v13 v15 (rows K n) (rows V n))

end Step

end Cert.Proof.KernelIdeal
-- ==== Proof.Ideal.Loop.lean ====
/- One trip of the loop over four blocks of keys, and the loop. -/
module

public import proofs.«01_k».proof.Proof.Ideal.Step

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S128x512 .f32) (harg5 : arg5.IsWhole)
  (arg6 : Memref sig .tc .vmem S128x512 .f32) (harg6 : arg6.IsWhole) (arg7 : Memref sig .tc .vmem S1x1x512 .f32) (harg7 : arg7.IsWhole)
  (arg8 : Memref sig .tc .vmem S512x128 .f32) (harg8 : arg8.IsWhole) (arg9 : Memref sig .tc .vmem S4096x128 .f32) (harg9 : arg9.IsWhole)
  (arg10 : Memref sig .tc .vmem S128x4096 .f32) (harg10 : arg10.IsWhole) (arg11 : Memref sig .tc .vmem S128x4096 .f32) (harg11 : arg11.IsWhole)
  (v4 : FVec F S512x128 .bf16) (v5 : FVec F S128x512 .bf16) (v12 : FVec F S1x512 .f32) (v13 : FVec F S128x512 .bf16)
  (v15 : FVec F S1x512 .f32)
  (K V : Vec F S4096x128 .bf16) (X Y : Vec F S128x4096 .f32)

/-- The keys, the values and the two accumulators after the first `n` blocks of the grid point's tile. -/
abbrev St (n : ℕ) : sProp 𝕄 :=
  iprop(owns (c : Thread nD τ) arg3 fullShare K ∗ owns (c : Thread nD τ) arg4 fullShare V
    ∗ owns (c : Thread nD τ) arg10 fullShare (upd X n (gX v4 v13 v15 K X))
    ∗ owns (c : Thread nD τ) arg11 fullShare (upd Y n (gY v4 v5 v12 v13 v15 K V Y)))

omit [FloatOps F] [Named F] in
/-- A load of a block of keys (or values). -/
theorem load_rows {f : arg3.view.ty.Contents (Elt F)} {off : Fin 2 → ℕ} (inb : ∀ a, off a + S512x128.size a ≤ S4096x128.size a) (n : ℕ)
    (h : off = ![512 * n, 0]) (K : Vec F S4096x128 .bf16) (hf : arg3.view.read (Elt F) f = K) :
    arg3.view.readAt (Elt F) (Rect.unit (s := S4096x128) off S512x128.size inb).toLoadRect f = rows K n := by
  subst h hf
  rw [View.readAt_unit _ _ inb rfl inb, window_rows]

omit [FloatOps F] [Named F] in
/-- A load of a block of columns. -/
theorem load_cols {f : arg10.view.ty.Contents (Elt F)} {off : Fin 2 → ℕ} (inb : ∀ a, off a + S128x512.size a ≤ S128x4096.size a) (n : ℕ)
    (h : off = ![0, 512 * n]) (X : Vec F S128x4096 .f32) (hf : arg10.view.read (Elt F) f = X) :
    arg10.view.readAt (Elt F) (Rect.unit (s := S128x4096) off S128x512.size inb).toLoadRect f = cols X n := by
  subst h hf
  rw [View.readAt_unit _ _ inb rfl inb, window_cols]

omit [FloatOps F] [Named F] in
/-- A store of a block of columns. -/
theorem store_cols (f : arg10.view.ty.Contents (Elt F)) {off : Fin 2 → ℕ} (inb : ∀ a, off a + S128x512.size a ≤ S128x4096.size a)
    (w : Vec F S128x512 .f32) (L : List (View.Piece (Elt F) S128x4096 .f32)) (n : ℕ) (h : off = ![0, 512 * n]) :
    arg10.view.read (Elt F) (arg10.view.writes (Elt F) f (⟨Rect.unit (s := S128x4096) off S128x512.size inb, w⟩ :: L))
      = setBlk (arg10.view.read (Elt F) (arg10.view.writes (Elt F) f L)) n w := by
  rw [View.read_writes_cons_put _ f inb w L h, put_setBlk]

/-- The stores of the four blocks of a trip, in order. -/
theorem setBlk_four (n : ℕ) (g : ℕ → Vec F S128x512 .f32) (w0 w1 w2 w3 : Vec F S128x512 .f32) (h0 : w0 = g n) (h1 : w1 = g (n + 1))
    (h2 : w2 = g (n + 2)) (h3 : w3 = g (n + 3)) :
    setBlk (setBlk (setBlk (setBlk (upd X n g) n w0) (n + 1) w1) (n + 2) w2) (n + 3) w3 = upd X (n + 4) g := by
  subst h0 h1 h2 h3
  rw [setBlk_upd, setBlk_upd, setBlk_upd, setBlk_upd]

theorem setBlk_two (n : ℕ) (g : ℕ → Vec F S128x512 .f32) (w0 w1 : Vec F S128x512 .f32) (h0 : w0 = g n) (h1 : w1 = g (n + 1)) :
    setBlk (setBlk (upd X n g) n w0) (n + 1) w1 = upd X (n + 2) g := by
  subst h0 h1
  rw [setBlk_upd, setBlk_upd]

theorem setBlk_one (n : ℕ) (g : ℕ → Vec F S128x512 .f32) (w0 : Vec F S128x512 .f32) (h0 : w0 = g n) :
    setBlk (upd X n g) n w0 = upd X (n + 1) g := by
  subst h0
  rw [setBlk_upd]

theorem trip (k : Fin (k0_t1_loop i).trips) (v16 : FVec F S128x512 .f32) (v17 v34 c0_i32_16 : BitVec 32) (acc : FVec F S128x512 .f32) :
    iprop(⌜acc = accum v4 v12 v13 v15 K V (4 * k.val)⌝ ∗ St c arg3 arg4 arg10 arg11 v4 v5 v12 v13 v15 K V X Y (4 * k.val))
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 v4 v5 v12 v13 v15 v16 v17 v34 c0_i32_16 k acc)
          (fun acc' => iprop(⌜acc' = accum v4 v12 v13 v15 K V (4 * (k.val + 1))⌝
            ∗ St c arg3 arg4 arg10 arg11 v4 v5 v12 v13 v15 K V X Y (4 * (k.val + 1)))) := by
  unfold k0_t1_body St owns
  iintro ⟨%hacc, ⟨%f3, %h3, H3⟩, ⟨%f4, %h4, H4⟩, ⟨%f10, %h10, H10⟩, ⟨%f11, %h11, H11⟩⟩
  sl_exec
  sl_step
  have hk : 4 * k.val + 3 < 8 := by
    have h1 := k.isLt
    have h2 : (k0_t1_loop i).trips = qi i / 4 := trips_t1 i
    have h3 : qi i < 8 := (i 1).isLt
    omega
  rw [show 4 * (k.val + 1) = 4 * k.val + 4 by omega]
  have r0 := load_rows arg3 (k0_off1_inb i k) (4 * k.val) (off1_eq i k) K h3
  have r1 := load_rows arg3 (k0_off3_inb i k 0) (4 * k.val + 1) (off3_eq1 i k) K h3
  have r2 := load_rows arg3 (k0_off3_inb i k 1) (4 * k.val + 2) (off3_eq2 i k) K h3
  have r3 := load_rows arg3 (k0_off3_inb i k 2) (4 * k.val + 3) (off3_eq3 i k) K h3
  have s0 := load_rows arg4 (k0_off1_inb i k) (4 * k.val) (off1_eq i k) V h4
  have s1 := load_rows arg4 (k0_off3_inb i k 0) (4 * k.val + 1) (off3_eq1 i k) V h4
  have s2 := load_rows arg4 (k0_off3_inb i k 1) (4 * k.val + 2) (off3_eq2 i k) V h4
  have s3 := load_rows arg4 (k0_off3_inb i k 2) (4 * k.val + 3) (off3_eq3 i k) V h4
  have x0 := load_cols arg10 (k0_off2_inb i k) (4 * k.val) (off2_eq i k) _ h10
  have x1 := load_cols arg10 (k0_off4_inb i k 0) (4 * k.val + 1) (off4_eq1 i k) _ h10
  have x2 := load_cols arg10 (k0_off4_inb i k 1) (4 * k.val + 2) (off4_eq2 i k) _ h10
  have x3 := load_cols arg10 (k0_off4_inb i k 2) (4 * k.val + 3) (off4_eq3 i k) _ h10
  have y0 := load_cols arg11 (k0_off2_inb i k) (4 * k.val) (off2_eq i k) _ h11
  have y1 := load_cols arg11 (k0_off4_inb i k 0) (4 * k.val + 1) (off4_eq1 i k) _ h11
  have y2 := load_cols arg11 (k0_off4_inb i k 1) (4 * k.val + 2) (off4_eq2 i k) _ h11
  have y3 := load_cols arg11 (k0_off4_inb i k 2) (4 * k.val + 3) (off4_eq3 i k) _ h11
  rw [cols_upd _ _ _ _ (by omega) (by omega)] at x0 x1 x2 x3 y0 y1 y2 y3
  isplitr
  · ipureintro
    subst hacc
    show _ = k0_pay12 (k0_pay12 (k0_pay12 (k0_pay12 (accum v4 v12 v13 v15 K V (4 * k.val)) (k0_pay6 (rows K (4 * k.val)))
      (k0_pay8 v4 v12 v13 v15 (rows K (4 * k.val)) (rows V (4 * k.val)))) (k0_pay6 (rows K (4 * k.val + 1)))
      (k0_pay8 v4 v12 v13 v15 (rows K (4 * k.val + 1)) (rows V (4 * k.val + 1)))) (k0_pay6 (rows K (4 * k.val + 2)))
      (k0_pay8 v4 v12 v13 v15 (rows K (4 * k.val + 2)) (rows V (4 * k.val + 2)))) (k0_pay6 (rows K (4 * k.val + 3)))
      (k0_pay8 v4 v12 v13 v15 (rows K (4 * k.val + 3)) (rows V (4 * k.val + 3)))
    rw [← r0, ← r1, ← r2, ← r3, ← s0, ← s1, ← s2, ← s3]
    rfl
  isplitl [H3]; · iexists f3; isplitr; · ipureintro; exact h3
                  iexact H3
  isplitl [H4]; · iexists f4; isplitr; · ipureintro; exact h4
                  iexact H4
  isplitl [H10]
  · iexists _; isplitr; swap; · iexact H10
    ipureintro
    rw [store_cols arg10 _ _ _ _ _ (off4_eq3 i k), store_cols arg10 _ _ _ _ _ (off4_eq2 i k), store_cols arg10 _ _ _ _ _ (off4_eq1 i k),
      store_cols arg10 _ _ _ _ _ (off2_eq i k), View.writes_nil, h10]
    refine setBlk_four X _ _ _ _ _ _ ?_ ?_ ?_ ?_
    · show _ = k0_pay9 v4 v13 v15 (rows K (4 * k.val)) (cols X (4 * k.val))
      rw [← r0, ← x0]; try rfl
    · show _ = k0_pay9 v4 v13 v15 (rows K (4 * k.val + 1)) (cols X (4 * k.val + 1))
      rw [← r1, ← x1]; try rfl
    · show _ = k0_pay9 v4 v13 v15 (rows K (4 * k.val + 2)) (cols X (4 * k.val + 2))
      rw [← r2, ← x2]; try rfl
    · show _ = k0_pay9 v4 v13 v15 (rows K (4 * k.val + 3)) (cols X (4 * k.val + 3))
      rw [← r3, ← x3]; try rfl
  · iexists _; isplitr; swap; · iexact H11
    ipureintro
    rw [store_cols arg11 _ _ _ _ _ (off4_eq3 i k), store_cols arg11 _ _ _ _ _ (off4_eq2 i k), store_cols arg11 _ _ _ _ _ (off4_eq1 i k),
      store_cols arg11 _ _ _ _ _ (off2_eq i k), View.writes_nil, h11]
    refine setBlk_four Y _ _ _ _ _ _ ?_ ?_ ?_ ?_
    · show _ = k0_pay11 (k0_pay10 v4 v5 v12 v13 v15 (rows K (4 * k.val)) (rows V (4 * k.val)) (cols Y (4 * k.val)))
      rw [← r0, ← s0, ← y0]; rfl
    · show _ = k0_pay11 (k0_pay10 v4 v5 v12 v13 v15 (rows K (4 * k.val + 1)) (rows V (4 * k.val + 1)) (cols Y (4 * k.val + 1)))
      rw [← r1, ← s1, ← y1]; rfl
    · show _ = k0_pay11 (k0_pay10 v4 v5 v12 v13 v15 (rows K (4 * k.val + 2)) (rows V (4 * k.val + 2)) (cols Y (4 * k.val + 2)))
      rw [← r2, ← s2, ← y2]; rfl
    · show _ = k0_pay11 (k0_pay10 v4 v5 v12 v13 v15 (rows K (4 * k.val + 3)) (rows V (4 * k.val + 3)) (cols Y (4 * k.val + 3)))
      rw [← r3, ← s3, ← y3]; rfl

end Cert.Proof.KernelIdeal
-- ==== Proof.Ideal.Parts.lean ====
/- What the parts of the call's body do: the loop and the branches behind it, over the blocks of keys before the grid
   point's own. -/
module

public import proofs.«01_k».proof.Proof.Ideal.Loop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S128x512 .f32) (harg5 : arg5.IsWhole)
  (arg6 : Memref sig .tc .vmem S128x512 .f32) (harg6 : arg6.IsWhole) (arg7 : Memref sig .tc .vmem S1x1x512 .f32) (harg7 : arg7.IsWhole)
  (arg8 : Memref sig .tc .vmem S512x128 .f32) (harg8 : arg8.IsWhole) (arg9 : Memref sig .tc .vmem S4096x128 .f32) (harg9 : arg9.IsWhole)
  (arg10 : Memref sig .tc .vmem S128x4096 .f32) (harg10 : arg10.IsWhole) (arg11 : Memref sig .tc .vmem S128x4096 .f32) (harg11 : arg11.IsWhole)
  (v4 : FVec F S512x128 .bf16) (v5 : FVec F S128x512 .bf16) (v12 : FVec F S1x512 .f32) (v13 : FVec F S128x512 .bf16)
  (v15 : FVec F S1x512 .f32)
  (K V : Vec F S4096x128 .bf16) (X Y : Vec F S128x4096 .f32)

/-- How many blocks the loop and the branch behind it pass: all but the last when the count is odd. -/
abbrev n9 : ℕ := 4 * (qi i / 4) + if 2 ≤ qi i % 4 then 2 else 0

theorem part9_sound (v17 v34 c0_i32_16 : BitVec 32) :
    St c arg3 arg4 arg10 arg11 v4 v5 v12 v13 v15 K V X Y 0
      ⊢ wp frame (wpE (defs₀ (F := F)) Variants.none (c : Thread nD τ) none) Set.univ
          (k0_part9 (F := F) i arg2 harg2 arg3 harg3 arg4 harg4 arg5 harg5 arg6 harg6 arg7 harg7 arg8 harg8 arg9 harg9 arg10 harg10 arg11 harg11 v4 v5 v12 v13 v15 (k0_pay58 (F := F)) v17 v34 c0_i32_16)
          (fun acc => iprop(⌜acc = accum v4 v12 v13 v15 K V (n9 i)⌝ ∗ St c arg3 arg4 arg10 arg11 v4 v5 v12 v13 v15 K V X Y (n9 i))) := by
  have ht1 := trips_t1 i
  have ht2 := trips_t2 i
  have hq : qi i < 8 := (i 1).isLt
  rw [k0_part9_eq_skeleton]
  unfold k0_part9_skel
  dsimp only
  iintro H
  sl_for (fun k acc => iprop(⌜acc = accum v4 v12 v13 v15 K V (4 * k)⌝ ∗ St c arg3 arg4 arg10 arg11 v4 v5 v12 v13 v15 K V X Y (4 * k))) $$ [H]
  · intro k acc
    exact trip c i arg2 harg2 arg3 harg3 arg4 harg4 arg5 harg5 arg6 harg6 arg7 harg7 arg8 harg8 arg9 harg9 arg10 harg10 arg11 harg11 v4 v5 v12 v13 v15 K V X Y k _ v17 v34 c0_i32_16 acc
  · isplitr
    · ipureintro; rfl
    · iexact H
  iintro %acc H
  sl_for (fun k acc' => iprop(⌜acc' = acc⌝ ∗ (⌜acc = accum v4 v12 v13 v15 K V (4 * (k0_t1_loop i).trips)⌝
    ∗ St c arg3 arg4 arg10 arg11 v4 v5 v12 v13 v15 K V X Y (4 * (k0_t1_loop i).trips)))) $$ [H]
  · intro k; exact absurd (Nat.lt_of_lt_of_eq k.isLt ht2) (Nat.not_lt_zero _)
  · isplitr
    · ipureintro; rfl
    · iexact H
  iintro %acc' ⟨%he, %hacc, H⟩
  subst he
  rw [ht1] at hacc ⊢
  by_cases h2 : k0_cond2 i = 1#1
  · have hm := (cond2_iff i).mp h2
    have hn : n9 i = 4 * (qi i / 4) + 2 := by unfold n9; rw [if_pos hm]
    rw [hn]
    unfold St owns
    icases H with ⟨⟨%f3, %h3, H3⟩, ⟨%f4, %h4, H4⟩, ⟨%f10, %h10, H10⟩, ⟨%f11, %h11, H11⟩⟩
    sl_exec
    sl_step
    have r0 := load_rows arg3 (k0_off9_inb i h2) (4 * (qi i / 4)) (off9_eq i) K h3
    have r1 := load_rows arg3 (k0_off11_inb i h2) (4 * (qi i / 4) + 1) (off11_eq i) K h3
    have s0 := load_rows arg4 (k0_off9_inb i h2) (4 * (qi i / 4)) (off9_eq i) V h4
    have s1 := load_rows arg4 (k0_off11_inb i h2) (4 * (qi i / 4) + 1) (off11_eq i) V h4
    have x0 := load_cols arg10 (k0_off10_inb i h2) (4 * (qi i / 4)) (off10_eq i) _ h10
    have x1 := load_cols arg10 (k0_off12_inb i h2) (4 * (qi i / 4) + 1) (off12_eq i) _ h10
    have y0 := load_cols arg11 (k0_off10_inb i h2) (4 * (qi i / 4)) (off10_eq i) _ h11
    have y1 := load_cols arg11 (k0_off12_inb i h2) (4 * (qi i / 4) + 1) (off12_eq i) _ h11
    rw [cols_upd _ _ _ _ (by omega) (by omega)] at x0 x1 y0 y1
    isplitr
    · ipureintro
      subst hacc
      show _ = k0_pay12 (k0_pay12 (accum v4 v12 v13 v15 K V (4 * (qi i / 4))) (k0_pay6 (rows K (4 * (qi i / 4))))
        (k0_pay8 v4 v12 v13 v15 (rows K (4 * (qi i / 4))) (rows V (4 * (qi i / 4))))) (k0_pay6 (rows K (4 * (qi i / 4) + 1)))
        (k0_pay8 v4 v12 v13 v15 (rows K (4 * (qi i / 4) + 1)) (rows V (4 * (qi i / 4) + 1)))
      rw [← r0, ← r1, ← s0, ← s1]
      rfl
    isplitl [H3]
    · iexists f3; isplitr; · ipureintro; exact h3
      iexact H3
    isplitl [H4]
    · iexists f4; isplitr; · ipureintro; exact h4
      iexact H4
    isplitl [H10]
    · iexists _; isplitr; swap; · iexact H10
      ipureintro
      rw [store_cols arg10 _ _ _ _ _ (off12_eq i), store_cols arg10 _ _ _ _ _ (off10_eq i), View.writes_nil, h10]
      refine setBlk_two X _ _ _ _ ?_ ?_
      · show _ = k0_pay9 v4 v13 v15 (rows K (4 * (qi i / 4))) (cols X (4 * (qi i / 4)))
        rw [← r0, ← x0]; rfl
      · show _ = k0_pay9 v4 v13 v15 (rows K (4 * (qi i / 4) + 1)) (cols X (4 * (qi i / 4) + 1))
        rw [← r1, ← x1]; rfl
    · iexists _; isplitr; swap; · iexact H11
      ipureintro
      rw [store_cols arg11 _ _ _ _ _ (off12_eq i), store_cols arg11 _ _ _ _ _ (off10_eq i), View.writes_nil, h11]
      refine setBlk_two Y _ _ _ _ ?_ ?_
      · show _ = k0_pay11 (k0_pay10 v4 v5 v12 v13 v15 (rows K (4 * (qi i / 4))) (rows V (4 * (qi i / 4))) (cols Y (4 * (qi i / 4))))
        rw [← r0, ← s0, ← y0]; rfl
      · show _ = k0_pay11 (k0_pay10 v4 v5 v12 v13 v15 (rows K (4 * (qi i / 4) + 1)) (rows V (4 * (qi i / 4) + 1)) (cols Y (4 * (qi i / 4) + 1)))
        rw [← r1, ← s1, ← y1]; rfl
  · have hm := mt (cond2_iff i).mpr h2
    have hn : n9 i = 4 * (qi i / 4) := by unfold n9; rw [if_neg hm]; rfl
    rw [hn]
    sl_exec
    sl_step
    isplitr
    · ipureintro; exact hacc
    · iexact H

/-- What the body's last part before the stores leaves: the steps over the blocks before the grid point's own done, and of
    its own block what the masked step computes. -/
theorem part10_sound (arg1 v17 : BitVec 32) :
    St c arg3 arg4 arg10 arg11 v4 v5 v12 v13 v15 K V X Y (n9 i)
      ⊢ wp frame (wpE (defs₀ (F := F)) Variants.none (c : Thread nD τ) none) Set.univ
          (k0_part10 (F := F) i arg2 harg2 arg3 harg3 arg4 harg4 arg5 harg5 arg6 harg6 arg7 harg7 arg8 harg8 arg9 harg9 arg10 harg10 arg11 harg11 arg1 v4 v5 v12 v13 v15 v17 (accum v4 v12 v13 v15 K V (n9 i)))
          (fun r => iprop(⌜r = ⟨accum v4 v12 v13 v15 K V (qi i), k0_pay83 (rows K (qi i)), k0_pay84 arg1 v4 v15 (rows K (qi i)),
              k0_pay85 arg1 v4 v12 v13 v15 (rows K (qi i)) (rows V (qi i))⟩⌝
            ∗ St c arg3 arg4 arg10 arg11 v4 v5 v12 v13 v15 K V X Y (qi i))) := by
  have hq : qi i < 8 := (i 1).isLt
  rw [k0_part10_eq_skeleton]
  unfold k0_part10_skel St owns
  iintro ⟨⟨%f3, %h3, H3⟩, ⟨%f4, %h4, H4⟩, ⟨%f10, %h10, H10⟩, ⟨%f11, %h11, H11⟩⟩
  have r1 := load_rows arg3 (k0_off15_inb i) (qi i) (off15_eq i) K h3
  have s1 := load_rows arg4 (k0_off15_inb i) (qi i) (off15_eq i) V h4
  by_cases hc : k0_cond3 i = 1#1
  · have hm := (cond3_iff i).mp hc
    have hn : n9 i = qi i - 1 := by unfold n9; split <;> omega
    have hn' : qi i = qi i - 1 + 1 := by omega
    rw [hn] at h10 h11 ⊢
    sl_exec
    sl_step
    have r0 := load_rows arg3 (k0_off13_inb i hc) (qi i - 1) (off13_eq i hc) K h3
    have s0 := load_rows arg4 (k0_off13_inb i hc) (qi i - 1) (off13_eq i hc) V h4
    have x0 := load_cols arg10 (k0_off14_inb i hc) (qi i - 1) (off14_eq i hc) _ h10
    have y0 := load_cols arg11 (k0_off14_inb i hc) (qi i - 1) (off14_eq i hc) _ h11
    rw [cols_upd _ _ _ _ (by omega) (by omega)] at x0 y0
    isplitr
    · ipureintro
      have ha : accum v4 v12 v13 v15 K V (qi i) = k0_pay12 (accum v4 v12 v13 v15 K V (qi i - 1)) (k0_pay6 (rows K (qi i - 1)))
          (k0_pay8 v4 v12 v13 v15 (rows K (qi i - 1)) (rows V (qi i - 1))) := by
        conv_lhs => rw [hn']
        rfl
      rw [ha, ← r0, ← s0, ← r1, ← s1]
      rfl
    isplitl [H3]
    · iexists f3; isplitr; · ipureintro; exact h3
      iexact H3
    isplitl [H4]
    · iexists f4; isplitr; · ipureintro; exact h4
      iexact H4
    isplitl [H10]
    · iexists _; isplitr; swap; · iexact H10
      ipureintro
      rw [store_cols arg10 _ _ _ _ _ (off14_eq i hc), View.writes_nil, h10]
      refine (setBlk_one X _ _ _ ?_).trans (by rw [← hn'])
      show _ = k0_pay9 v4 v13 v15 (rows K (qi i - 1)) (cols X (qi i - 1))
      rw [← r0, ← x0]; rfl
    · iexists _; isplitr; swap; · iexact H11
      ipureintro
      rw [store_cols arg11 _ _ _ _ _ (off14_eq i hc), View.writes_nil, h11]
      refine (setBlk_one Y _ _ _ ?_).trans (by rw [← hn'])
      show _ = k0_pay11 (k0_pay10 v4 v5 v12 v13 v15 (rows K (qi i - 1)) (rows V (qi i - 1)) (cols Y (qi i - 1)))
      rw [← r0, ← s0, ← y0]; rfl
  · have hm := mt (cond3_iff i).mpr hc
    have hn : n9 i = qi i := by unfold n9; split <;> omega
    rw [hn] at h10 h11 ⊢
    sl_exec
    sl_step
    isplitr
    · ipureintro
      rw [← r1, ← s1]
    isplitl [H3]
    · iexists f3; isplitr; · ipureintro; exact h3
      iexact H3
    isplitl [H4]
    · iexists f4; isplitr; · ipureintro; exact h4
      iexact H4
    isplitl [H10]
    · iexists _; isplitr; swap; · iexact H10
      ipureintro; exact h10
    · iexists _; isplitr; swap; · iexact H11
      ipureintro; exact h11

end Cert.Proof.KernelIdeal
-- ==== Proof.Ideal.Body.lean ====
/- What the call's body does at a grid point: from the buffers it finds to the buffers it leaves. -/
module

public import proofs.«01_k».proof.Proof.Ideal.Parts

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## What a grid point leaves -/

section Values

variable (i : grid0.Coords) (q : Vec F S512x128 .bf16) (K V : Vec F S4096x128 .bf16) (o g : Vec F S128x512 .f32) (l : Vec F S1x1x512 .f32)
  (X Y : Vec F S128x4096 .f32)

/-- The tile of the queries' gradient. -/
def outDq : Vec F S512x128 .f32 :=
  k0_pay4 (accum (k0_pay52 q) (k0_pay55 g o) (k0_pay56 g) (k0_pay57 l) K V (qi i)) (k0_pay83 (rows K (qi i)))
    (k0_pay85 (BitVec.ofNat 32 (i 1).val) (k0_pay52 q) (k0_pay55 g o) (k0_pay56 g) (k0_pay57 l) (rows K (qi i)) (rows V (qi i)))

/-- The values' gradient, from `X`. -/
def outX : Vec F S128x4096 .f32 :=
  setBlk (upd X (qi i) (gX (k0_pay52 q) (k0_pay56 g) (k0_pay57 l) K X)) (qi i)
    (k0_pay2 (k0_pay56 g) (k0_pay84 (BitVec.ofNat 32 (i 1).val) (k0_pay52 q) (k0_pay57 l) (rows K (qi i))) (cols X (qi i)))

/-- The keys' gradient (transposed), from `Y`. -/
def outY : Vec F S128x4096 .f32 :=
  setBlk (upd Y (qi i) (gY (k0_pay52 q) (k0_pay53 q) (k0_pay55 g o) (k0_pay56 g) (k0_pay57 l) K V Y)) (qi i)
    (k0_pay3 (k0_pay53 q)
      (k0_pay85 (BitVec.ofNat 32 (i 1).val) (k0_pay52 q) (k0_pay55 g o) (k0_pay56 g) (k0_pay57 l) (rows K (qi i)) (rows V (qi i)))
      (cols Y (qi i)))

/-- An accumulator as the steps find it: zero at a head's first tile of queries. -/
def start (z X : Vec F S128x4096 .f32) : Vec F S128x4096 .f32 := if qi i = 0 then z else X

end Values

/-! ## The body -/

variable (c : Dev nD) (i : grid0.Coords)
  (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S128x512 .f32) (harg5 : arg5.IsWhole)
  (arg6 : Memref sig .tc .vmem S128x512 .f32) (harg6 : arg6.IsWhole) (arg7 : Memref sig .tc .vmem S1x1x512 .f32) (harg7 : arg7.IsWhole)
  (arg8 : Memref sig .tc .vmem S512x128 .f32) (harg8 : arg8.IsWhole) (arg9 : Memref sig .tc .vmem S4096x128 .f32) (harg9 : arg9.IsWhole)
  (arg10 : Memref sig .tc .vmem S128x4096 .f32) (harg10 : arg10.IsWhole) (arg11 : Memref sig .tc .vmem S128x4096 .f32) (harg11 : arg11.IsWhole)
  (q : Vec F S512x128 .bf16) (K V : Vec F S4096x128 .bf16) (o g : Vec F S128x512 .f32) (l : Vec F S1x1x512 .f32)
  (X Y : Vec F S128x4096 .f32)

/-- The first part: the accumulators zeroed at a head's first tile, the tile's operands read. -/
theorem part8_sound :
    (iprop(owns (c : Thread nD τ) arg2 fullShare q ∗ owns (c : Thread nD τ) arg5 fullShare o ∗ owns (c : Thread nD τ) arg6 fullShare g ∗ owns (c : Thread nD τ) arg7 fullShare l
        ∗ owns (c : Thread nD τ) arg10 fullShare X ∗ owns (c : Thread nD τ) arg11 fullShare Y) : sProp 𝕄)
      ⊢ wp frame (wpE (defs₀ (F := F)) Variants.none (c : Thread nD τ) none) Set.univ (k0_part8 (F := F) i arg2 harg2 arg3 harg3 arg4 harg4 arg5 harg5 arg6 harg6 arg7 harg7 arg8 harg8 arg9 harg9 arg10 harg10 arg11 harg11)
          (fun r => iprop(⌜∃ v17 v34 z, r = ⟨BitVec.ofNat 32 (i 1).val, k0_pay52 q, k0_pay53 q, k0_pay55 g o, k0_pay56 g, k0_pay57 l,
              k0_pay58 (F := F), v17, v34, z⟩⌝
            ∗ owns (c : Thread nD τ) arg2 fullShare q ∗ owns (c : Thread nD τ) arg5 fullShare o ∗ owns (c : Thread nD τ) arg6 fullShare g ∗ owns (c : Thread nD τ) arg7 fullShare l
            ∗ owns (c : Thread nD τ) arg10 fullShare (start i (k0_pay51 (F := F)) X) ∗ owns (c : Thread nD τ) arg11 fullShare (start i (k0_pay50 (F := F)) Y))) := by
  rw [k0_part8_eq_skeleton]
  unfold k0_part8_skel owns
  iintro ⟨⟨%f2, %h2, H2⟩, ⟨%f5, %h5, H5⟩, ⟨%f6, %h6, H6⟩, ⟨%f7, %h7, H7⟩, ⟨%f10, %h10, H10⟩, ⟨%f11, %h11, H11⟩⟩
  have r2 := View.readAt_full arg2.view f2 inb_S512x128_S512x128_0_0
  have r5 := View.readAt_full arg5.view f5 inb_S128x512_S128x512_0_0
  have r6 := View.readAt_full arg6.view f6 inb_S128x512_S128x512_0_0
  have r7 := View.readAt_full arg7.view f7 inb_S1x1x512_S1x1x512_0_0_0
  by_cases hc : cond1 i = 1#1
  · have hs : ∀ z X : Vec F S128x4096 .f32, start i z X = z := fun z X => if_pos ((cond1_iff i).mp hc)
    rw [hs, hs]
    sl_exec
    sl_step
    isplitr
    · ipureintro
      rw [← h2, ← h5, ← h6, ← h7, ← r2, ← r5, ← r6, ← r7]
      exact ⟨_, _, _, rfl⟩
    isplitl [H2]
    · iexists f2; isplitr; · ipureintro; exact h2
      iexact H2
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H10]
    · iexists _; isplitr; swap; · iexact H10
      ipureintro; exact View.read_writes_full arg10.view _ inb_S128x4096_S128x4096_0_0 _ _
    · iexists _; isplitr; swap; · iexact H11
      ipureintro; exact View.read_writes_full arg11.view _ inb_S128x4096_S128x4096_0_0 _ _
  · have hs : ∀ z X : Vec F S128x4096 .f32, start i z X = X := fun z X => if_neg (mt (cond1_iff i).mpr hc)
    rw [hs, hs]
    sl_exec
    sl_step
    isplitr
    · ipureintro
      rw [← h2, ← h5, ← h6, ← h7, ← r2, ← r5, ← r6, ← r7]
      exact ⟨_, _, _, rfl⟩
    isplitl [H2]
    · iexists f2; isplitr; · ipureintro; exact h2
      iexact H2
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H10]
    · iexists _; isplitr; swap; · iexact H10
      ipureintro; exact h10
    · iexists _; isplitr; swap; · iexact H11
      ipureintro; exact h11

/-- What the keys' gradient's buffer holds after the body: at a head's last tile the accumulator transposed, else what it held. -/
def outDk (i : grid0.Coords) (Y : Vec F S128x4096 .f32) (D : Vec F S4096x128 .f32) : Vec F S4096x128 .f32 :=
  if qi i = 7 then k0_pay5 Y else D

theorem body_sound (D8 : Vec F S512x128 .f32) (D : Vec F S4096x128 .f32) :
    (iprop(owns (c : Thread nD τ) arg2 fullShare q ∗ owns (c : Thread nD τ) arg3 fullShare K ∗ owns (c : Thread nD τ) arg4 fullShare V
      ∗ owns (c : Thread nD τ) arg5 fullShare o ∗ owns (c : Thread nD τ) arg6 fullShare g ∗ owns (c : Thread nD τ) arg7 fullShare l
        ∗ owns (c : Thread nD τ) arg8 fullShare D8 ∗ owns (c : Thread nD τ) arg9 fullShare D ∗ owns (c : Thread nD τ) arg10 fullShare X ∗ owns (c : Thread nD τ) arg11 fullShare Y) : sProp 𝕄)
      ⊢ wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11)
          (fun _ => iprop(owns (c : Thread nD τ) arg2 fullShare q ∗ owns (c : Thread nD τ) arg3 fullShare K ∗ owns (c : Thread nD τ) arg4 fullShare V
      ∗ owns (c : Thread nD τ) arg5 fullShare o ∗ owns (c : Thread nD τ) arg6 fullShare g ∗ owns (c : Thread nD τ) arg7 fullShare l
            ∗ owns (c : Thread nD τ) arg8 fullShare (outDq i q K V o g l)
            ∗ owns (c : Thread nD τ) arg9 fullShare (outDk i (outY i q K V o g l (start i (k0_pay50 (F := F)) Y)) D)
            ∗ owns (c : Thread nD τ) arg10 fullShare (outX i q K g l (start i (k0_pay51 (F := F)) X))
            ∗ owns (c : Thread nD τ) arg11 fullShare (outY i q K V o g l (start i (k0_pay50 (F := F)) Y)))) := by
  have hq : qi i < 8 := (i 1).isLt
  rw [cc0_attn_bwd_eq_skeleton]
  unfold cc0_attn_bwd_skel
  rw [wp_bind]
  iintro ⟨H2, H3, H4, H5, H6, H7, H8, H9, H10, H11⟩
  iapply (wp_wand frame (wpE (defs₀ (F := F)) Variants.none (c : Thread nD τ) none) Set.univ) $$ [H2 H5 H6 H7 H10 H11]
  · iapply (part8_sound c i arg2 harg2 arg3 harg3 arg4 harg4 arg5 harg5 arg6 harg6 arg7 harg7 arg8 harg8 arg9 harg9 arg10 harg10 arg11 harg11 q o g l X Y)
    isplitl [H2]; · iexact H2
    isplitl [H5]; · iexact H5
    isplitl [H6]; · iexact H6
    isplitl [H7]; · iexact H7
    isplitl [H10]; · iexact H10
    iexact H11
  iintro %r ⟨%hr, H2, H5, H6, H7, H10, H11⟩
  obtain ⟨v17, v34, z, rfl⟩ := hr
  dsimp only
  generalize start i (k0_pay51 (F := F)) X = X
  generalize start i (k0_pay50 (F := F)) Y = Y
  rw [wp_bind]
  iapply (wp_wand frame (wpE (defs₀ (F := F)) Variants.none (c : Thread nD τ) none) Set.univ) $$ [H3 H4 H10 H11]
  · iapply (part9_sound c i arg2 harg2 arg3 harg3 arg4 harg4 arg5 harg5 arg6 harg6 arg7 harg7 arg8 harg8 arg9 harg9 arg10 harg10 arg11 harg11 (k0_pay52 q) (k0_pay53 q) (k0_pay55 g o) (k0_pay56 g) (k0_pay57 l) K V X Y v17 v34 z)
    unfold St
    rw [upd_zero, upd_zero]
    isplitl [H3]; · iexact H3
    isplitl [H4]; · iexact H4
    isplitl [H10]; · iexact H10
    iexact H11
  iintro %v74 ⟨%ha, H⟩
  subst ha
  rw [wp_bind]
  iapply (wp_wand frame (wpE (defs₀ (F := F)) Variants.none (c : Thread nD τ) none) Set.univ) $$ [H]
  · iapply (part10_sound c i arg2 harg2 arg3 harg3 arg4 harg4 arg5 harg5 arg6 harg6 arg7 harg7 arg8 harg8 arg9 harg9 arg10 harg10 arg11 harg11 (k0_pay52 q) (k0_pay53 q) (k0_pay55 g o) (k0_pay56 g) (k0_pay57 l) K V X Y (BitVec.ofNat 32 (i 1).val) v17)
    iexact H
  iintro %r ⟨%hr, H⟩
  subst hr
  dsimp only
  unfold St
  icases H with ⟨H3, H4, H10, H11⟩
  unfold owns
  icases H8 with ⟨%f8, %h8, H8⟩
  icases H9 with ⟨%f9, %h9, H9⟩
  icases H10 with ⟨%f10, %h10, H10⟩
  icases H11 with ⟨%f11, %h11, H11⟩
  have x0 := load_cols arg10 (k0_off16_inb i) (qi i) (off16_eq i) _ h10
  have y0 := load_cols arg11 (k0_off16_inb i) (qi i) (off16_eq i) _ h11
  rw [cols_upd _ _ _ _ (by omega) (by omega)] at x0 y0
  by_cases hc : k0_cond4 i = 1#1
  · have hd : ∀ Y D, outDk (F := F) i Y D = k0_pay5 Y := fun Y D => if_pos ((cond4_iff i).mp hc)
    rw [hd]
    sl_exec
    sl_step
    have hY : arg11.view.read (Elt F) (arg11.view.writes (Elt F) f11
        [⟨Rect.unit (s := S128x4096) (k0_off16 i) S128x512.size (k0_off16_inb i),
          k0_pay3 (k0_pay53 q) (k0_pay85 (BitVec.ofNat 32 (i 1).val) (k0_pay52 q) (k0_pay55 g o) (k0_pay56 g) (k0_pay57 l)
            (rows K (qi i)) (rows V (qi i))) (cols Y (qi i))⟩]) = outY i q K V o g l Y := by
      rw [store_cols arg11 _ _ _ _ _ (off16_eq i), View.writes_nil, h11]; rfl
    isplitl [H2]; · iexact H2
    isplitl [H3]; · iexact H3
    isplitl [H4]; · iexact H4
    isplitl [H5]; · iexact H5
    isplitl [H6]; · iexact H6
    isplitl [H7]; · iexact H7
    isplitl [H8]
    · iexists _; isplitr; swap; · iexact H8
      ipureintro; exact View.read_writes_full arg8.view _ inb_S512x128_S512x128_0_0 _ _
    isplitl [H9]
    · iexists _; isplitr; swap; · iexact H9
      ipureintro
      refine (View.read_writes_full arg9.view _ inb_S4096x128_S4096x128_0_0 _ _).trans (congrArg k0_pay5 ?_)
      exact (View.readAt_full arg11.view _ inb_S128x4096_S128x4096_0_0).trans hY
    isplitl [H10]
    · iexists _; isplitr; swap; · iexact H10
      ipureintro; rw [store_cols arg10 _ _ _ _ _ (off16_eq i), View.writes_nil, h10]; rfl
    · iexists _; isplitr; swap; · iexact H11
      ipureintro
      exact hY
  · have hd : ∀ Y D, outDk (F := F) i Y D = D := fun Y D => if_neg (mt (cond4_iff i).mpr hc)
    rw [hd]
    sl_exec
    sl_step
    have hY : arg11.view.read (Elt F) (arg11.view.writes (Elt F) f11
        [⟨Rect.unit (s := S128x4096) (k0_off16 i) S128x512.size (k0_off16_inb i),
          k0_pay3 (k0_pay53 q) (k0_pay85 (BitVec.ofNat 32 (i 1).val) (k0_pay52 q) (k0_pay55 g o) (k0_pay56 g) (k0_pay57 l)
            (rows K (qi i)) (rows V (qi i))) (cols Y (qi i))⟩]) = outY i q K V o g l Y := by
      rw [store_cols arg11 _ _ _ _ _ (off16_eq i), View.writes_nil, h11]; rfl
    isplitl [H2]; · iexact H2
    isplitl [H3]; · iexact H3
    isplitl [H4]; · iexact H4
    isplitl [H5]; · iexact H5
    isplitl [H6]; · iexact H6
    isplitl [H7]; · iexact H7
    isplitl [H8]
    · iexists _; isplitr; swap; · iexact H8
      ipureintro; exact View.read_writes_full arg8.view _ inb_S512x128_S512x128_0_0 _ _
    isplitl [H9]
    · iexists _; isplitr; swap; · iexact H9
      ipureintro; exact h9
    isplitl [H10]
    · iexists _; isplitr; swap; · iexact H10
      ipureintro; rw [store_cols arg10 _ _ _ _ _ (off16_eq i), View.writes_nil, h10]; rfl
    · iexists _; isplitr; swap; · iexact H11
      ipureintro
      exact hY

end Cert.Proof.KernelIdeal
-- ==== Proof.Ideal.Frame.lean ====
/- The call's proof data — what each staging buffer and the scratch accumulator hold point by point — the body's obligation
   at them, and the run of the program: it ends with its arguments as launched and every counter at zero. -/
module

public import proofs.«01_k».proof.Proof.Gen.KernelIdeal.Frame
public import proofs.«01_k».proof.Proof.Ideal.Body

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Point by point -/

/-- The grid's points in order (past the end, again from the start). -/
def point (n : ℕ) : Fin cfg0.N := ⟨n % 64, by rw [show cfg0.N = 64 from N_0]; exact Nat.mod_lt _ (by decide)⟩

theorem point_val (t : Fin cfg0.N) : point t.val = t := Fin.ext (Nat.mod_eq_of_lt (t.isLt.trans_eq N_0))

theorem qi_coords : ∀ t : Fin cfg0.N, qi (grid0.coords t) = t.val % 8 := by decide +kernel

def qBlk (c : Dev nD) (t : Fin cfg0.N) : Vec F S512x128 .bf16 := iblk m c 0 t
def kBlk (c : Dev nD) (t : Fin cfg0.N) : Vec F S4096x128 .bf16 := iblk m c 1 t
def vBlk (c : Dev nD) (t : Fin cfg0.N) : Vec F S4096x128 .bf16 := iblk m c 2 t
def oBlk (c : Dev nD) (t : Fin cfg0.N) : Vec F S128x512 .f32 := iblk m c 3 t
def gBlk (c : Dev nD) (t : Fin cfg0.N) : Vec F S128x512 .f32 := iblk m c 4 t
def lBlk (c : Dev nD) (t : Fin cfg0.N) : Vec F S1x1x512 .f32 := iblk m c 5 t

/-- The values' gradient after point `t`, from what the point before left. -/
def stepX (c : Dev nD) (t : Fin cfg0.N) (X : Vec F S128x4096 .f32) : Vec F S128x4096 .f32 :=
  outX (grid0.coords t) (qBlk m c t) (kBlk m c t) (gBlk m c t) (lBlk m c t) (start (grid0.coords t) (k0_pay51 (F := F)) X)

/-- The keys' gradient (transposed) after point `t`, likewise. -/
def stepY (c : Dev nD) (t : Fin cfg0.N) (Y : Vec F S128x4096 .f32) : Vec F S128x4096 .f32 :=
  outY (grid0.coords t) (qBlk m c t) (kBlk m c t) (vBlk m c t) (oBlk m c t) (gBlk m c t) (lBlk m c t)
    (start (grid0.coords t) (k0_pay50 (F := F)) Y)

def accX (c : Dev nD) : ℕ → Vec F S128x4096 .f32
  | 0 => k0_pay51 (F := F)
  | n + 1 => stepX m c (point n) (accX c n)

def accY (c : Dev nD) : ℕ → Vec F S128x4096 .f32
  | 0 => k0_pay50 (F := F)
  | n + 1 => stepY m c (point n) (accY c n)

theorem accX_succ (c : Dev nD) (t : Fin cfg0.N) : accX m c (t.val + 1) = stepX m c t (accX m c t.val) := by
  show stepX m c (point t.val) (accX m c t.val) = _
  rw [point_val]
theorem accY_succ (c : Dev nD) (t : Fin cfg0.N) : accY m c (t.val + 1) = stepY m c t (accY m c t.val) := by
  show stepY m c (point t.val) (accY m c t.val) = _
  rw [point_val]

/-- A head's first tile starts from zeros: what the accumulator held does not matter. -/
theorem start_first (t : Fin cfg0.N) (h : t.val % 8 = 0) (z X X' : Vec F S128x4096 .f32) :
    start (grid0.coords t) z X = start (grid0.coords t) z X' := by
  unfold start; rw [if_pos ((qi_coords t).trans h), if_pos ((qi_coords t).trans h)]
theorem stepX_first (c : Dev nD) (t : Fin cfg0.N) (h : t.val % 8 = 0) (X X' : Vec F S128x4096 .f32) : stepX m c t X = stepX m c t X' := by
  unfold stepX; rw [start_first t h _ X X']
theorem stepY_first (c : Dev nD) (t : Fin cfg0.N) (h : t.val % 8 = 0) (Y Y' : Vec F S128x4096 .f32) : stepY m c t Y = stepY m c t Y' := by
  unfold stepY; rw [start_first t h _ Y Y']

/-- The tile of the queries' gradient point `t` leaves. -/
def dqBlk (c : Dev nD) (t : Fin cfg0.N) : Vec F S512x128 .f32 :=
  outDq (grid0.coords t) (qBlk m c t) (kBlk m c t) (vBlk m c t) (oBlk m c t) (gBlk m c t) (lBlk m c t)

/-! ## The proof data -/

/-- Between points: the scratch accumulator at what the point before left (at a head's first tile, at anything), and the
    generator's register. -/
def carried (c : Dev nD) (n : ℕ) : sProp 𝕄 :=
  iprop((∃ Y, ⌜n % 8 ≠ 0 → Y = accY m c n⌝ ∗ owns (c : Thread nD τ) (Memref.whole cc0_scratch0) fullShare Y) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => qBlk m c t
    | ⟨1, _⟩ => kBlk m c t
    | ⟨2, _⟩ => vBlk m c t
    | ⟨3, _⟩ => oBlk m c t
    | ⟨4, _⟩ => gBlk m c t
    | ⟨5, _⟩ => lBlk m c t
    | ⟨6, _⟩ => dqBlk m c t
    | ⟨7, _⟩ => k0_pay5 (accY m c (t.val + 1))
    | ⟨8, _⟩ => accX m c (t.val + 1)
  Φ t := carried m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = qBlk m c t := by dsimp only [dats]
theorem after_1 (c : Dev nD) (t : Fin cfg0.N) : (dats m 0 c).after 1 t = kBlk m c t := by dsimp only [dats]
theorem after_2 (c : Dev nD) (t : Fin cfg0.N) : (dats m 0 c).after 2 t = vBlk m c t := by dsimp only [dats]
theorem after_3 (c : Dev nD) (t : Fin cfg0.N) : (dats m 0 c).after 3 t = oBlk m c t := by dsimp only [dats]
theorem after_4 (c : Dev nD) (t : Fin cfg0.N) : (dats m 0 c).after 4 t = gBlk m c t := by dsimp only [dats]
theorem after_5 (c : Dev nD) (t : Fin cfg0.N) : (dats m 0 c).after 5 t = lBlk m c t := by dsimp only [dats]
theorem after_6 (c : Dev nD) (t : Fin cfg0.N) : (dats m 0 c).after 6 t = dqBlk m c t := by dsimp only [dats]
theorem after_7 (c : Dev nD) (t : Fin cfg0.N) : (dats m 0 c).after 7 t = k0_pay5 (accY m c (t.val + 1)) := by dsimp only [dats]
theorem after_8 (c : Dev nD) (t : Fin cfg0.N) : (dats m 0 c).after 8 t = accX m c (t.val + 1) := by dsimp only [dats]

theorem carried_before (c : Dev nD) (t : Fin cfg0.N) : (dats m 0 c).Φ t.castSucc = carried m c t.val := by
  dsimp only [dats]; exact Dat.Φ_castSucc (fun n _ => carried m c n) t
theorem carried_after (c : Dev nD) (t : Fin cfg0.N) : (dats m 0 c).Φ t.succ = carried m c (t.val + 1) := by dsimp only [dats]; rfl

theorem before_0 (c : Dev nD) (t : Fin cfg0.N) (d) : (dats m 0 c).before 0 t d = qBlk m c t := before0_0_of m (dats m 0 c) (A_eq m c 0) (after_0 m c) t d
theorem before_1 (c : Dev nD) (t : Fin cfg0.N) (d) : (dats m 0 c).before 1 t d = kBlk m c t := before0_1_of m (dats m 0 c) (A_eq m c 1) (after_1 m c) t d
theorem before_2 (c : Dev nD) (t : Fin cfg0.N) (d) : (dats m 0 c).before 2 t d = vBlk m c t := before0_2_of m (dats m 0 c) (A_eq m c 2) (after_2 m c) t d
theorem before_3 (c : Dev nD) (t : Fin cfg0.N) (d) : (dats m 0 c).before 3 t d = oBlk m c t := before0_3_of m (dats m 0 c) (A_eq m c 3) (after_3 m c) t d
theorem before_4 (c : Dev nD) (t : Fin cfg0.N) (d) : (dats m 0 c).before 4 t d = gBlk m c t := before0_4_of m (dats m 0 c) (A_eq m c 4) (after_4 m c) t d
theorem before_5 (c : Dev nD) (t : Fin cfg0.N) (d) : (dats m 0 c).before 5 t d = lBlk m c t := before0_5_of m (dats m 0 c) (A_eq m c 5) (after_5 m c) t d

/-- Inside a head the values' gradient's buffer holds what the point before left. -/
theorem before_8 (c : Dev nD) (t : Fin cfg0.N) (h : t.val % 8 ≠ 0) (d) : (dats m 0 c).before 8 t d = accX m c t.val := by
  have ht : t.val ≠ 0 := fun h0 => h (by rw [h0])
  have hf : (cfg0.win 8).flush ⟨t.val - 1, Nat.lt_of_le_of_lt (Nat.sub_le _ _) t.isLt⟩ = false :=
    Bool.eq_false_iff.mpr fun hf => absurd ((flush0_8 _).mp hf) (by dsimp only; omega)
  rw [(dats m 0 c).before_out_kept 8 rfl t ht hf (fun _ => rfl) (fun _ _ => rfl) d, after_8]
  exact congrArg (accX m c) (by dsimp only; omega)

theorem idle_dk (t : Fin cfg0.N) (h : t.val % 8 ≠ 7) : cfg0.idle 7 (cfg0.grid.coords t) = true := by
  show (!(k0_cond4 (grid0.coords t) == 1#1)) = true
  rw [Bool.not_eq_true', beq_eq_false_iff_ne]
  exact fun hc => h ((qi_coords t).symm.trans ((cond4_iff _).mp hc))
theorem live_dk (t : Fin cfg0.N) (h : t.val % 8 = 7) : cfg0.idle 7 (cfg0.grid.coords t) = false := by
  show (!(k0_cond4 (grid0.coords t) == 1#1)) = false
  rw [(cond4_iff _).mpr ((qi_coords t).trans h)]
  rfl

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ owns (c : Thread nD τ) (st0_8 t) fullShare ((dats m 0 c).after 8 t))

/-- What the keys' gradient's buffer is left at is what the obligation asks: off a head's last tile, what it held. -/
theorem leaves_dk (c : Dev nD) (t : Fin cfg0.N) (Y : Vec F S128x4096 .f32) (hY : Y = accY m c (t.val + 1)) (d) :
    (owns (c : Thread nD τ) (st0_7 t) fullShare (outDk (grid0.coords t) Y ((dats m 0 c).before 7 t d)) : sProp 𝕄)
      ⊢ (dats m 0 c).leavesExact 7 t := by
  subst hY
  unfold outDk
  by_cases h : t.val % 8 = 7
  · rw [if_pos ((qi_coords t).trans h)]
    unfold Dat.leavesExact
    rw [live_dk t h]
    dsimp only
    rw [after_7]
  · rw [if_neg fun hq => h ((qi_coords t).symm.trans hq)]
    rw [(dats m 0 c).leavesExact_idle 7 t (idle_dk t h) (Bool.eq_false_iff.mpr fun hf => h ((flush0_7 t).mp hf))]
    iintro H
    iexists d
    iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [carried_before, carried_after, after_0 m c t, after_1 m c t, after_2 m c t, after_3 m c t, after_4 m c t, after_5 m c t, after_6 m c t, after_8 m c t]
  unfold Dat.owesAt Pipeline.owesWithin carried
  rw [show (dats m 0 c).owed t.castSucc = 0 from rfl, show (dats m 0 c).owed t.succ = 0 from rfl]
  iintro ⟨⟨⟨%Y, %hY, HY⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0 m c t d0, before_1 m c t d1, before_2 m c t d2, before_3 m c t d3, before_4 m c t d4, before_5 m c t d5]
  generalize hX : (dats m 0 c).before 8 t d8 = X
  have eX : stepX m c t X = accX m c (t.val + 1) := by
    rw [accX_succ]
    by_cases h : t.val % 8 = 0
    · exact stepX_first m c t h _ _
    · rw [← hX, before_8 m c t h d8]
  have eY : stepY m c t Y = accY m c (t.val + 1) := by
    rw [accY_succ]
    by_cases h : t.val % 8 = 0
    · exact stepY_first m c t h _ _
    · rw [hY h]
  iapply (wp_wand frame (wpE (defs₀ (F := F)) Variants.none (c : Thread nD τ) none) Set.univ) $$ [H0 H1 H2 H3 H4 H5 H6 H7 H8 HY]
  · iapply (body_sound c (grid0.coords t) _ _ _ _ _ _ _ _ _ _ _ _ _ _ _ _ _ _ _ _ (qBlk m c t) (kBlk m c t) (vBlk m c t) (oBlk m c t) (gBlk m c t) (lBlk m c t) X Y
      ((dats m 0 c).before 6 t d6) ((dats m 0 c).before 7 t d7))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HY
  iintro %r ⟨H0, H1, H2, H3, H4, H5, H6, H7, H8, HY⟩
  isplitl [HY Hg]
  · isplitl [HY]
    · iexists (accY m c (t.val + 1))
      isplitr; · ipureintro; exact fun _ => rfl
      rw [← eY]
      iexact HY
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_dk m c t _ eY d7)
    iexact H7
  rw [← eX]
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem carried_in (c : Dev nD) : (Pipeline.ΦA spec0 c : sProp 𝕄) ⊢ (dats m 0 c).Φ 0 := by
  show (Pipeline.ΦA spec0 c : sProp 𝕄) ⊢ carried m c 0
  unfold Pipeline.ΦA carried
  rw [scopedRest0_eq]
  iintro ⟨⟨%f, H⟩, Hg⟩
  isplitl [H]
  · iexists f
    isplitr; · ipureintro; exact fun h => absurd rfl h
    rw [owns_whole]
    iexact H
  iexact Hg

theorem carried_out (c : Dev nD) : (dats m 0 c).Φ (Fin.last cfg0.N) ⊢ (Pipeline.ΦA spec0 c : sProp 𝕄) := by
  show carried m c cfg0.N ⊢ (Pipeline.ΦA spec0 c : sProp 𝕄)
  unfold Pipeline.ΦA carried
  rw [scopedRest0_eq]
  iintro ⟨⟨%Y, %hY, H⟩, Hg⟩
  isplitl [H]
  · iexists Y
    iapply (Entails.of_eq (owns_whole (c : Thread nD τ) cc0_scratch0 fullShare Y))
    iexact H
  iexact Hg

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := carried_in m) (hout := carried_out m)

theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  have kept (b : Ref sig .tc) (hb : b ∈ Pipeline.restRefs sig spec0) (hV : V m c b = m ((c : Thread nD τ).loc b)) :
      r.2.mem ((c.tc : Thread nD τ).loc b) = m ((c.tc : Thread nD τ).loc b) := ((h c).2 b hb).trans hV
  ⟨kept main_arg0 (Pipeline.mem_restRefs_of main_arg0 (by decide) (by decide)) (V_main_arg0 m c),
    kept main_arg1 (Pipeline.mem_restRefs_of main_arg1 (by decide) (by decide)) (V_main_arg1 m c),
    kept main_arg2 (Pipeline.mem_restRefs_of main_arg2 (by decide) (by decide)) (V_main_arg2 m c),
    kept main_arg3 (Pipeline.mem_restRefs_of main_arg3 (by decide) (by decide)) (V_main_arg3 m c)⟩

/-- The frame, with every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_kept m r h.1, h.2⟩) (run_main m ρ)

end Cert.Proof.KernelIdeal

end
-- ==== Proof.Value.Attn.lean ====
/- The causal attention's gradient over the reals: the masked scores, their softmax, what the backward pass computes of it,
   and the two spellings of the scores' gradient — through the saved row sums, and through the quotient's derivative. -/
module

public import Idealize.ShloMosaic.PureOps.Ideal

@[expose] public section

noncomputable section

namespace Cert.Proof.Attn

open Finset

/-- Positions, heads, features. -/
abbrev Arr := Fin 4096 → Fin 8 → Fin 128 → ℝ

variable (Q K V G : Arr)

def score (h : Fin 8) (i j : Fin 4096) : ℝ := ∑ d, Q i h d * K j h d

/-- A query's largest score among the keys it sees. -/
def top (h : Fin 8) (i : Fin 4096) : ℝ := (univ.filter (· ≤ i)).sup' ⟨i, by simp⟩ (score Q K h i)

def e (h : Fin 8) (i j : Fin 4096) : ℝ := if j ≤ i then Real.exp (score Q K h i j - top Q K h i) else 0

def l (h : Fin 8) (i : Fin 4096) : ℝ := ∑ j, e Q K h i j

def p (h : Fin 8) (i j : Fin 4096) : ℝ := e Q K h i j / l Q K h i

def lse (h : Fin 8) (i : Fin 4096) : ℝ := top Q K h i + Real.log (l Q K h i)

def out (h : Fin 8) (i : Fin 4096) (d : Fin 128) : ℝ := ∑ j, V j h d * p Q K h i j

def dp (h : Fin 8) (i j : Fin 4096) : ℝ := ∑ d, G i h d * V j h d

def delta (h : Fin 8) (i : Fin 4096) : ℝ := ∑ d, G i h d * out Q K V h i d

/-- The scores' gradient. -/
def ds (h : Fin 8) (i j : Fin 4096) : ℝ := p Q K h i j * (dp V G h i j - delta Q K V G h i)

def dq (i : Fin 4096) (h : Fin 8) (d : Fin 128) : ℝ := ∑ j, K j h d * ds Q K V G h i j
def dk (j : Fin 4096) (h : Fin 8) (d : Fin 128) : ℝ := ∑ i, Q i h d * ds Q K V G h i j
def dv (j : Fin 4096) (h : Fin 8) (d : Fin 128) : ℝ := ∑ i, G i h d * p Q K h i j

theorem e_nonneg (h : Fin 8) (i j : Fin 4096) : 0 ≤ e Q K h i j := by
  unfold e; split
  · exact (Real.exp_pos _).le
  · exact le_refl _

theorem l_pos (h : Fin 8) (i : Fin 4096) : 0 < l Q K h i :=
  sum_pos' (fun j _ => e_nonneg Q K h i j) ⟨i, mem_univ i, by unfold e; rw [if_pos le_rfl]; exact Real.exp_pos _⟩

theorem p_masked (h : Fin 8) (i j : Fin 4096) (hj : ¬j ≤ i) : p Q K h i j = 0 := by
  unfold p e; rw [if_neg hj, zero_div]

theorem ds_masked (h : Fin 8) (i j : Fin 4096) (hj : ¬j ≤ i) : ds Q K V G h i j = 0 := by
  unfold ds; rw [p_masked Q K h i j hj, zero_mul]

/-- The probability from the saved row sum. -/
theorem exp_sub_lse (h : Fin 8) (i j : Fin 4096) (hj : j ≤ i) : Real.exp (score Q K h i j - lse Q K h i) = p Q K h i j := by
  unfold lse p e
  rw [if_pos hj, ← sub_sub, Real.exp_sub, Real.exp_log (l_pos Q K h i)]

/-- What a query's output and its gradient multiply to is the probabilities' gradient averaged. -/
theorem delta_eq (h : Fin 8) (i : Fin 4096) : delta Q K V G h i = ∑ j, dp V G h i j * p Q K h i j := by
  unfold delta out dp
  simp only [mul_sum, sum_mul]
  rw [sum_comm]
  exact sum_congr rfl fun j _ => sum_congr rfl fun d _ => by ring

/-- The gradient through the quotient: both factors' derivatives. -/
theorem ds_eq (h : Fin 8) (i j : Fin 4096) :
    (dp V G h i j / l Q K h i + -(∑ k, dp V G h i k * (1 / (l Q K h i * l Q K h i)) * e Q K h i k)) * e Q K h i j = ds Q K V G h i j := by
  have hl := (l_pos Q K h i).ne'
  have : ∑ k, dp V G h i k * (1 / (l Q K h i * l Q K h i)) * e Q K h i k = delta Q K V G h i / l Q K h i := by
    rw [delta_eq, sum_div]
    exact sum_congr rfl fun k _ => by unfold p; field_simp
  rw [this]
  unfold ds p
  field_simp
  ring

/-- The column of head `h`'s feature `d` in a row of all heads. -/
def col (h : Fin 8) (d : Fin 128) : Fin 1024 := ⟨128 * h + d, by omega⟩

/-- Every column is one. -/
theorem col_split (n : Fin 1024) : n = col ⟨n / 128, by omega⟩ ⟨n % 128, by omega⟩ := Fin.ext (by simp only [col]; omega)

/-! ## Sums over the positions, a tile of 512 at a time -/

/-- Position `r` of tile `n`. -/
def pos (n : ℕ) (r : Fin 512) : Fin 4096 := ⟨(512 * n + r) % 4096, Nat.mod_lt _ (by decide)⟩

theorem pos_val {n : ℕ} (hn : n < 8) (r : Fin 512) : (pos n r).val = 512 * n + r := Nat.mod_eq_of_lt (by omega)

/-- The sum over the first `n` tiles. -/
def part (f : Fin 4096 → ℝ) (n : ℕ) : ℝ := ∑ a ∈ range n, ∑ r : Fin 512, f (pos a r)

@[simp] theorem part_zero (f : Fin 4096 → ℝ) : part f 0 = 0 := rfl
theorem part_succ (f : Fin 4096 → ℝ) (n : ℕ) : part f (n + 1) = part f n + ∑ r : Fin 512, f (pos n r) := sum_range_succ _ _

theorem part_all (f : Fin 4096 → ℝ) : part f 8 = ∑ i, f i := by
  unfold part
  rw [sum_range, ← sum_product', univ_product_univ]
  refine (Fintype.sum_equiv (finProdFinEquiv (m := 8) (n := 512)) _ _ fun x => congrArg f (Fin.ext ?_))
  rw [pos_val x.1.isLt]
  show _ = x.2.val + 512 * x.1.val
  omega

/-- Tiles that add nothing. -/
theorem part_of_zero (f : Fin 4096 → ℝ) (n : ℕ) (hn : n ≤ 8) (h : ∀ i : Fin 4096, 512 * n ≤ i.val → f i = 0) : part f n = ∑ i, f i := by
  rw [← part_all]
  unfold part
  refine sum_subset (range_mono hn) fun a ha hna => sum_eq_zero fun r _ => h _ ?_
  rw [mem_range] at ha hna
  rw [pos_val ha]
  omega

end Cert.Proof.Attn

end
-- ==== Proof.Value.Ref.lean ====
/- The reference read stage by stage at real arguments: each stage is the real number `Attn` names. -/
module

public import proofs.«01_k».proof.Proof.Value.Attn
public import proofs.«01_k».proof.Proof.Gen.ReferenceIdeal.Read
public import Idealize.ShloMosaic.Lib.Pointwise
public import Idealize.ShloMosaic.Lib.IdealHost

@[expose] public section

set_option maxRecDepth 16384

noncomputable section

namespace Cert.Proof.Ref

open Cert.ReferenceIdeal Cert.ReferenceIdeal.Gen Cert.ReferenceIdeal.Read
open Idealize.ShloMosaic
open Cert.Proof.Attn

theorem coe_sum {ι : Type} [Fintype ι] (f : ι → ℝ) : ((∑ i, f i : ℝ) : EReal) = ∑ i, (f i : EReal) :=
  map_sum (⟨⟨Real.toEReal, rfl⟩, EReal.coe_add⟩ : ℝ →+ EReal) f Finset.univ

/-- A real array as an argument. -/
def up (X : Arr) : (⟨S4096x8x128, .f32⟩ : BufTy).Contents (Elt Ideal) := fun i => ((X (i 0) (i 1) (i 2) : ℝ) : EReal)

variable (Q K V G : Arr) (h : Fin 8) (i j : Fin 4096)

theorem v0 : val_main_v0 (F := Ideal) (up Q) (up K) (ix3 h i j) = (score Q K h i j : ℝ) := by
  rw [val_main_v0_apply]
  unfold score
  rw [coe_sum]
  exact Finset.sum_congr rfl fun d _ => (EReal.coe_mul _ _).symm

theorem neg_inf : Ideal.ofBits .f32 0xFF800000#32 = ⊥ := by simp [Ideal.ofBits, Ideal.ieee]

theorem sle_word {a b : ℕ} (ha : a < 4096) (hb : b < 4096) :
    IntOp.cmpi .sle (BitVec.ofNat 32 a) (BitVec.ofNat 32 b) = BitVec.ofBool (decide (a ≤ b)) := by
  simp only [IntOp.cmpi]
  congr 1
  rw [BitVec.sle_eq_decide]
  congr 1
  rw [BitVec.toInt_eq_toNat_of_lt (by rw [BitVec.toNat_ofNat]; omega), BitVec.toInt_eq_toNat_of_lt (by rw [BitVec.toNat_ofNat]; omega)]
  simp only [BitVec.toNat_ofNat]
  rw [eq_iff_iff]
  omega

theorem v7_1 : val_main_v7_1 (F := Ideal) (ix3 h i j) = BitVec.ofBool (decide (j ≤ i)) := by
  rw [val_main_v7_1_apply, val_main_v6_apply, val_main_v4_apply, val_main_v5_apply, val_main_v2_apply, val_main_v3_apply,
    val_main_v1_apply, val_main_v1_apply]
  exact sle_word j.isLt i.isLt

theorem v7_0 : val_main_v7_0 (F := Ideal) (up Q) (up K) (ix3 h i j) = if j ≤ i then ((score Q K h i j : ℝ) : EReal) else ⊥ := by
  rw [val_main_v7_0_apply, v7_1, v0, val_main_call0_v2_apply, val_main_call0_v0_apply, val_main_cst_apply, Ideal.ofBits_def, neg_inf]
  by_cases hj : j ≤ i
  · rw [if_pos hj, decide_eq_true hj]; rfl
  · rw [if_neg hj, decide_eq_false hj]; rfl

theorem fold_top : Finset.univ.fold max ⊥ (fun j => if j ≤ i then ((score Q K h i j : ℝ) : EReal) else ⊥) = (top Q K h i : ℝ) := by
  show Finset.univ.sup _ = _
  refine le_antisymm (Finset.sup_le fun j _ => ?_) ?_
  · split
    · rename_i hj
      exact EReal.coe_le_coe_iff.mpr (Finset.le_sup' (score Q K h i) (by simp [hj]))
    · exact bot_le
  · obtain ⟨k, hk, ek⟩ := Finset.exists_mem_eq_sup' ⟨i, by simp⟩ (score Q K h i) (s := Finset.univ.filter (· ≤ i))
    rw [top, ek]
    refine le_trans (le_of_eq ?_) (Finset.le_sup (Finset.mem_univ k))
    rw [if_pos (by simpa using hk)]

theorem v8 : val_main_v8 (F := Ideal) (up Q) (up K) (ix2 h i) = (top Q K h i : ℝ) := by
  rw [← fold_top]
  simp only [← v7_0]
  unfold val_main_v8
  generalize val_main_v7_0 (F := Ideal) (up Q) (up K) = y
  rw [← neg_inf]
  pointwise [val_main_cst_0]

theorem v15 : val_main_v15 (F := Ideal) (up Q) (up K) (ix2 h i) = (top Q K h i : ℝ) := by
  rw [val_main_v15_apply, v8, val_main_v14_apply, val_main_cst_2_apply, Ideal.ofBits_def, neg_inf, Ideal.maximumf_def]
  exact max_eq_right bot_le

theorem v28 : val_main_v28 (F := Ideal) (up Q) (up K) (ix3 h i j) = (e Q K h i j : ℝ) := by
  rw [val_main_v28_apply, val_main_v27_apply, v7_0, val_main_v26_apply, val_main_v25_apply]
  rw [show idx_main_v25 (idx_main_v26 (ix3 h i j)) = ix2 h i from eq_ix2 _, v15]
  show Ideal.exp (_ - _) = _
  unfold e
  by_cases hj : j ≤ i
  · rw [if_pos hj, if_pos hj, ← EReal.coe_sub, Ideal.exp_coe]
  · rw [if_neg hj, if_neg hj, EReal.bot_sub, Ideal.exp_bot, EReal.coe_zero]

theorem v29 : val_main_v29 (F := Ideal) (up Q) (up K) (ix2 h i) = (l Q K h i : ℝ) := by
  rw [val_main_v29_apply, val_main_cst_8_apply, Ideal.ofBits_def, Ideal.ofBits_zero_f32, zero_add]
  unfold l
  rw [coe_sum]
  refine Finset.sum_congr rfl fun k _ => ?_
  rw [show idx_main_v29 (ix2 h i) k = ix3 h i k from eq_ix3 _, v28]

theorem v30 (u : Fin 1) : val_main_v30 (F := Ideal) (up Q) (up K) (ix3 h i u) = (l Q K h i : ℝ) := by
  rw [val_main_v30_apply, show idx_main_v30 (ix3 h i u) = ix2 h i from eq_ix2 _, v29]

theorem div_real (x : ℝ) {y : ℝ} (hy : y ≠ 0) : Ideal.div (x : EReal) (y : EReal) = ((x / y : ℝ) : EReal) := by
  rw [Ideal.div_coe hy, ← EReal.coe_mul, mul_one_div]

theorem v32 : val_main_v32 (F := Ideal) (up Q) (up K) (ix3 h i j) = (p Q K h i j : ℝ) := by
  rw [val_main_v32_apply, v28, val_main_v31_apply]
  rw [show idx_main_v31 (ix3 h i j) = ix3 h i 0 from eq_ix3 _, v30, Ideal.hostDivf_def, div_real _ (l_pos Q K h i).ne']
  rfl

theorem one_f32 : Ideal.ofBits .f32 0x3F800000#32 = ((1 : ℝ) : EReal) := Ideal.ofBits_one_f32

theorem v35 (u : Fin 1) : val_main_v35 (F := Ideal) (up Q) (up K) (ix3 h i u) = (1 / (l Q K h i * l Q K h i) : ℝ) := by
  rw [val_main_v35_apply, val_main_v33_apply, v30, val_main_v34_apply, val_main_cst_9_apply, Ideal.ofBits_def, one_f32, Ideal.hostDivf_def,
    Ideal.mulf_def, ← EReal.coe_mul, div_real _ (mul_pos (l_pos Q K h i) (l_pos Q K h i)).ne']

theorem v39 : val_main_v39 (F := Ideal) (up V) (up G) (ix3 h i j) = (dp V G h i j : ℝ) := by
  rw [val_main_v39_apply]
  unfold dp
  rw [coe_sum]
  refine Finset.sum_congr rfl fun d _ => ?_
  rw [val_main_v38_apply, EReal.coe_mul]
  rfl

theorem v45 : val_main_v45 (F := Ideal) (up Q) (up K) (up V) (up G) (ix2 h i)
    = (∑ k, dp V G h i k * (1 / (l Q K h i * l Q K h i)) * e Q K h i k : ℝ) := by
  rw [val_main_v45_apply, val_main_cst_10_apply, Ideal.ofBits_def, Ideal.ofBits_zero_f32, zero_add, coe_sum]
  refine Finset.sum_congr rfl fun k _ => ?_
  rw [show idx_main_v45 (ix2 h i) k = ix3 h i k from eq_ix3 _, val_main_v44_apply, val_main_v43_apply, v39, v28, val_main_v42_apply,
    show idx_main_v42 (ix3 h i k) = ix3 h i 0 from eq_ix3 _, v35]
  simp only [Ideal.mulf_def, EReal.coe_mul]

theorem v46 (k : Fin 1) : val_main_v46 (F := Ideal) (up Q) (up K) (up V) (up G) (idx_main_v50 (ix2 h i) k)
    = val_main_v45 (F := Ideal) (up Q) (up K) (up V) (up G) (ix2 h i) := by
  rw [val_main_v46_apply]
  refine congrArg _ (funext fun a => Fin.ext ?_)
  fin_cases a
  · show ((h.val * 4096 + i.val) * 1 + k.val) / 4096 = h.val
    omega
  · show ((h.val * 4096 + i.val) * 1 + k.val) % 4096 = i.val
    omega

theorem v54 : val_main_v54 (F := Ideal) (up Q) (up K) (up V) (up G) (ix3 h i j) = (ds Q K V G h i j : ℝ) := by
  rw [val_main_v54_apply, v7_1, val_main_v53_apply, val_main_v52_apply, v28, val_main_v49_apply, v39, val_main_v48_apply,
    show idx_main_v48 (ix3 h i j) = ix3 h i 0 from eq_ix3 _, v30, Ideal.hostDivf_def, div_real _ (l_pos Q K h i).ne',
    val_main_v51_apply, show idx_main_v51 (ix3 h i j) = ix2 h i from eq_ix2 _, val_main_v50_apply, val_main_cst_11_apply, Ideal.ofBits_def,
    Ideal.ofBits_zero_f32, zero_add, Fin.sum_univ_one, val_main_v47_apply, v46, v45, val_main_call1_v0_apply, val_main_call1_cst_apply, Ideal.ofBits_def,
    Ideal.ofBits_zero_f32]
  by_cases hj : j ≤ i
  · rw [decide_eq_true hj, ← ds_eq, EReal.coe_mul, EReal.coe_add, EReal.coe_neg]
    rfl
  · rw [decide_eq_false hj, ds_masked Q K V G h i j hj, EReal.coe_zero]
    rfl

/-! ## The results -/

theorem ix3_of {n0 n1 n2 : ℕ} (x : (⟨3, ![n0, n1, n2]⟩ : Shape).Idx) (a : Fin n0) (b : Fin n1) (c : Fin n2)
    (h0 : (x 0).val = a.val) (h1 : (x 1).val = b.val) (h2 : (x 2).val = c.val) : x = ix3 a b c := by
  rw [eq_ix3 x]
  exact (ix3_inj _ _ _ _ _ _).mpr ⟨Fin.ext h0, Fin.ext h1, Fin.ext h2⟩

theorem flat (x : S4096x8x128.Idx) (i : Fin 4096) (h : Fin 8) (d : Fin 128)
    (h0 : (x 0).val = (i.val * 1024 + (col h d).val) / 1024) (h1 : (x 1).val = (i.val * 1024 + (col h d).val) / 128 % 8)
    (h2 : (x 2).val = (i.val * 1024 + (col h d).val) % 128) : x = ix3 i h d := by
  unfold col at h0 h1 h2
  dsimp only at h0 h1 h2
  exact ix3_of x i h d (by omega) (by omega) (by omega)

variable (d : Fin 128)

/-- The queries' gradient. -/
theorem v59 : val_main_v59 (F := Ideal) (up Q) (up K) (up V) (up G) (ix2 i (col h d)) = (dq Q K V G i h d : ℝ) := by
  rw [val_main_v59_apply, show idx_main_v59 (ix2 i (col h d)) = ix3 i h d from flat _ i h d rfl rfl rfl, val_main_v58_apply,
    show idx_main_v58 (ix3 i h d) = ix3 h i d from eq_ix3 (idx_main_v58 (ix3 i h d)), val_main_v57_apply]
  unfold dq
  rw [coe_sum]
  refine Finset.sum_congr rfl fun k _ => ?_
  rw [show lidx_main_v57 (ix3 h i d) k = ix3 h i k from eq_ix3 (lidx_main_v57 (ix3 h i d) k), v54, EReal.coe_mul, mul_comm]
  rfl

/-- The keys' gradient. -/
theorem v60 : val_main_v60 (F := Ideal) (up Q) (up K) (up V) (up G) (ix2 i (col h d)) = (dk Q K V G i h d : ℝ) := by
  rw [val_main_v60_apply, show idx_main_v60 (ix2 i (col h d)) = ix3 i h d from flat _ i h d rfl rfl rfl, val_main_v56_apply,
    show idx_main_v56 (ix3 i h d) = ix3 h i d from eq_ix3 (idx_main_v56 (ix3 i h d)), val_main_v55_apply]
  unfold dk
  rw [coe_sum]
  refine Finset.sum_congr rfl fun k _ => ?_
  rw [show lidx_main_v55 (ix3 h i d) k = ix3 h k i from eq_ix3 (lidx_main_v55 (ix3 h i d) k), v54, EReal.coe_mul, mul_comm]
  rfl

/-- The values' gradient, transposed. -/
theorem v62 : val_main_v62 (F := Ideal) (up Q) (up K) (up G) (ix2 (col h d) i) = (dv Q K G i h d : ℝ) := by
  rw [val_main_v62_apply, show idx_main_v62 (ix2 (col h d) i) = ix2 i (col h d) from eq_ix2 (idx_main_v62 (ix2 (col h d) i)), val_main_v61_apply,
    show idx_main_v61 (ix2 i (col h d)) = ix3 i h d from flat _ i h d rfl rfl rfl, val_main_v41_apply,
    show idx_main_v41 (ix3 i h d) = ix3 h d i from eq_ix3 (idx_main_v41 (ix3 i h d)), val_main_v40_apply]
  unfold dv
  rw [coe_sum]
  refine Finset.sum_congr rfl fun k _ => ?_
  rw [show ridx_main_v40 (ix3 h d i) k = ix3 h k i from eq_ix3 (ridx_main_v40 (ix3 h d i) k), v32, val_main_v38_apply, EReal.coe_mul]
  rfl

end Cert.Proof.Ref

end
-- ==== Proof.Value.Tile.lean ====
/- What one pair of tiles computes at real arguments: a tile of queries against a tile of keys, head by head — the
   probabilities, the scores' gradient, and what they add to the three accumulators. -/
module

public import proofs.«01_k».proof.Proof.Value.Ref
public import proofs.«01_k».proof.Proof.Ideal.Body
public import proofs.«01_k».proof.Proof.Gen.KernelIdeal.Skeleton

@[expose] public section

set_option maxRecDepth 16384

noncomputable section

namespace Cert.Proof.Tile

open Cert.KernelIdeal Cert.KernelIdeal.Gen
open Idealize.ShloMosaic
open Cert.Proof.Attn Cert.Proof.Ref
open Cert.Proof.KernelIdeal

variable (Q K V G : Arr) (h : Fin 8) (a b : ℕ)

/-- A tile's rows of a head, positions down, in either width. -/
def down (φ : FTy) (X : Arr) : FVec Ideal S512x128 φ := fun y => ((X (pos a (y 0)) h (y 1) : ℝ) : EReal)
/-- A tile's rows of a head, positions across. -/
def across (φ : FTy) (X : Arr) : FVec Ideal S128x512 φ := fun y => ((X (pos a (y 1)) h (y 0) : ℝ) : EReal)
/-- One number per query of a tile. -/
def line (x : Fin 8 → Fin 4096 → ℝ) : FVec Ideal S1x512 .f32 := fun y => ((x h (pos a (y 1)) : ℝ) : EReal)
/-- One number per pair, keys down and queries across. -/
def pairs (φ : FTy) (x : Fin 8 → Fin 4096 → Fin 4096 → ℝ) : FVec Ideal S512x512 φ := fun y => ((x h (pos a (y 1)) (pos b (y 0)) : ℝ) : EReal)

theorem pay52_eq (X : FVec Ideal S512x128 .bf16) : k0_pay52 X = X := by
  funext y; idx_vars y; pointwise [k0_pay52]
theorem pay53_eq : k0_pay53 (down h a .bf16 Q) = across h a .bf16 Q := by
  funext y; idx_vars y; pointwise [k0_pay53, k0_pay52]; rfl
theorem pay56_eq : k0_pay56 (across h a .f32 G) = across h a .bf16 G := by
  funext y; idx_vars y; pointwise [k0_pay56, k0_pay54]; rfl
theorem pay55_eq (O : Arr) : k0_pay55 (across h a .f32 G) (across h a .f32 O) = line h a (fun h i => ∑ d, G i h d * O i h d) := by
  funext y; idx_vars y; pointwise [k0_pay55, k0_pay54]
  unfold line
  rw [coe_sum]
  exact Finset.sum_congr rfl fun d _ => (EReal.coe_mul _ _).symm
theorem pay6_eq (X : FVec Ideal S512x128 .bf16) : k0_pay6 X = X := by
  funext y; idx_vars y; pointwise [k0_pay6]
theorem pay83_eq (X : FVec Ideal S512x128 .bf16) : k0_pay83 X = X := by
  funext y; idx_vars y; pointwise [k0_pay83]
theorem pay11_eq (X : FVec Ideal S128x512 .f32) : k0_pay11 X = X := by
  funext y; idx_vars y; pointwise [k0_pay11]

/-- Keys before the tile of queries are seen by each of them. -/
theorem before {a b : ℕ} (ha : a < 8) (hb : b < a) (r c : Fin 512) : pos b c ≤ pos a r := by
  rw [Fin.le_def, pos_val ha, pos_val (hb.trans ha)]; omega

theorem score_sum (r c : Fin 512) :
    ∑ d, down h b .bf16 K (ix2 c d) * down h a .bf16 Q (ix2 r d) = ((score Q K h (pos a r) (pos b c) : ℝ) : EReal) := by
  unfold score
  rw [coe_sum]
  refine Finset.sum_congr rfl fun d _ => ?_
  rw [mul_comm, EReal.coe_mul]
  rfl

theorem pay7_eq (ha : a < 8) (hb : b < a) : k0_pay7 (down h a .bf16 Q) (line h a (lse Q K)) (down h b .bf16 K) = pairs h a b .f32 (p Q K) := by
  funext y; idx_vars y; pointwise [k0_pay7, k0_pay6]
  rw [score_sum]
  show Ideal.exp (_ - ((lse Q K h (pos a y1) : ℝ) : EReal)) = ((p Q K h (pos a y1) (pos b y0) : ℝ) : EReal)
  rw [← exp_sub_lse Q K h _ _ (before ha hb y1 y0), ← EReal.coe_sub, Ideal.exp_coe]

theorem dp_sum (r c : Fin 512) : ∑ d, down h b .bf16 V (ix2 c d) * across h a .bf16 G (ix2 d r) = ((dp V G h (pos a r) (pos b c) : ℝ) : EReal) := by
  unfold dp
  rw [coe_sum]
  refine Finset.sum_congr rfl fun d _ => ?_
  rw [mul_comm, EReal.coe_mul]
  rfl

theorem pay8_eq (ha : a < 8) (hb : b < a) :
    k0_pay8 (down h a .bf16 Q) (line h a (delta Q K V G)) (across h a .bf16 G) (line h a (lse Q K)) (down h b .bf16 K) (down h b .bf16 V)
      = pairs h a b .bf16 (ds Q K V G) := by
  unfold k0_pay8
  rw [pay7_eq Q K h a b ha hb]
  funext y; idx_vars y; pointwise
  rw [dp_sum]
  unfold line pairs ds
  rw [EReal.coe_mul, EReal.coe_sub]
  rfl

/-- A block of an accumulator, features down. -/
def block (x : Fin 128 → Fin 512 → ℝ) : FVec Ideal S128x512 .f32 := fun y => ((x (y 0) (y 1) : ℝ) : EReal)

theorem pay9_eq (ha : a < 8) (hb : b < a) (x : Fin 128 → Fin 512 → ℝ) :
    k0_pay9 (down h a .bf16 Q) (across h a .bf16 G) (line h a (lse Q K)) (down h b .bf16 K) (block x)
      = block fun d c => x d c + ∑ r, G (pos a r) h d * p Q K h (pos a r) (pos b c) := by
  unfold k0_pay9
  rw [pay7_eq Q K h a b ha hb]
  funext y; idx_vars y; pointwise
  unfold block
  rw [EReal.coe_add, coe_sum]
  refine congrArg (fun s : EReal => _ + s) (Finset.sum_congr rfl fun r _ => ?_)
  rw [EReal.coe_mul]
  rfl

theorem pay10_eq (ha : a < 8) (hb : b < a) (x : Fin 128 → Fin 512 → ℝ) :
    k0_pay10 (down h a .bf16 Q) (across h a .bf16 Q) (line h a (delta Q K V G)) (across h a .bf16 G) (line h a (lse Q K)) (down h b .bf16 K)
        (down h b .bf16 V) (block x)
      = block fun d c => x d c + ∑ r, Q (pos a r) h d * ds Q K V G h (pos a r) (pos b c) := by
  unfold k0_pay10
  rw [pay8_eq Q K V G h a b ha hb]
  funext y; idx_vars y; pointwise
  unfold block
  rw [EReal.coe_add, coe_sum]
  refine congrArg (fun s : EReal => _ + s) (Finset.sum_congr rfl fun r _ => ?_)
  rw [EReal.coe_mul]
  rfl

theorem pay12_eq (x : Fin 128 → Fin 512 → ℝ) :
    k0_pay12 (block x) (down h b .bf16 K) (pairs h a b .bf16 (ds Q K V G))
      = block fun d r => x d r + ∑ c, K (pos b c) h d * ds Q K V G h (pos a r) (pos b c) := by
  funext y; idx_vars y; pointwise [k0_pay12]
  unfold block
  rw [EReal.coe_add, coe_sum]
  refine congrArg (fun s : EReal => _ + s) (Finset.sum_congr rfl fun c _ => ?_)
  rw [EReal.coe_mul]
  rfl

/-! ## A tile against itself -/

theorem place_word {a : ℕ} (ha : a < 8) (r : Fin 512) :
    IntOp.addi (IntOp.muli (BitVec.ofNat 32 a) 512#32) (BitVec.ofNat 32 r.val) = BitVec.ofNat 32 (pos a r).val := by
  rw [pos_val ha]
  apply BitVec.eq_of_toNat_eq
  simp only [IntOp.addi, IntOp.muli, BitVec.toNat_add, BitVec.toNat_mul, BitVec.toNat_ofNat]
  omega

theorem mask : Named.named (F := Ideal) Cert.KernelIdeal.κ "mask" (φ := .f32) 0xF149F2CA#32 = (⊥ : EReal) :=
  IdealRules.named_const.ideal_named_scalar _ _ _ _ rfl

theorem pay84_eq (ha : a < 8) :
    k0_pay84 (BitVec.ofNat 32 a) (down h a .bf16 Q) (line h a (lse Q K)) (down h a .bf16 K) = pairs h a a .f32 (p Q K) := by
  funext y; idx_vars y; pointwise [k0_pay84, k0_pay83]
  rw [score_sum, mask]
  show Ideal.exp (Scalar.select (IntOp.cmpi .sle (IntOp.addi (IntOp.muli (BitVec.ofNat 32 a) 512#32) (BitVec.ofNat 32 y0.val))
    (IntOp.addi (IntOp.muli (BitVec.ofNat 32 a) 512#32) (BitVec.ofNat 32 y1.val))) _ _ - ((lse Q K h (pos a y1) : ℝ) : EReal))
      = ((p Q K h (pos a y1) (pos a y0) : ℝ) : EReal)
  rw [place_word ha, place_word ha, sle_word (pos a y0).isLt (pos a y1).isLt]
  by_cases hj : pos a y0 ≤ pos a y1
  · rw [decide_eq_true (show (pos a y0).val ≤ (pos a y1).val from hj), ← exp_sub_lse Q K h _ _ hj, ← Ideal.exp_coe, EReal.coe_sub]
    rfl
  · rw [decide_eq_false (show ¬(pos a y0).val ≤ (pos a y1).val from hj), p_masked Q K h _ _ hj, EReal.coe_zero]
    show Ideal.exp (⊥ - _) = 0
    rw [EReal.bot_sub, Ideal.exp_bot]

theorem pay85_eq (ha : a < 8) :
    k0_pay85 (BitVec.ofNat 32 a) (down h a .bf16 Q) (line h a (delta Q K V G)) (across h a .bf16 G) (line h a (lse Q K)) (down h a .bf16 K)
        (down h a .bf16 V)
      = pairs h a a .f32 (ds Q K V G) := by
  unfold k0_pay85
  rw [pay84_eq Q K h a ha]
  funext y; idx_vars y; pointwise
  rw [dp_sum]
  unfold line pairs ds
  rw [EReal.coe_mul, EReal.coe_sub]
  rfl

theorem pay2_eq (x : Fin 128 → Fin 512 → ℝ) :
    k0_pay2 (across h a .bf16 G) (pairs h a b .f32 (p Q K)) (block x)
      = block fun d c => x d c + ∑ r, G (pos a r) h d * p Q K h (pos a r) (pos b c) := by
  funext y; idx_vars y; pointwise [k0_pay2]
  unfold block
  rw [EReal.coe_add, coe_sum]
  refine congrArg (fun s : EReal => _ + s) (Finset.sum_congr rfl fun r _ => ?_)
  rw [EReal.coe_mul]
  rfl

theorem pay3_eq (x : Fin 128 → Fin 512 → ℝ) :
    k0_pay3 (across h a .bf16 Q) (pairs h a b .f32 (ds Q K V G)) (block x)
      = block fun d c => x d c + ∑ r, Q (pos a r) h d * ds Q K V G h (pos a r) (pos b c) := by
  funext y; idx_vars y; pointwise [k0_pay3, k0_pay1]
  unfold block
  rw [EReal.coe_add, coe_sum]
  refine congrArg (fun s : EReal => _ + s) (Finset.sum_congr rfl fun r _ => ?_)
  rw [EReal.coe_mul]
  rfl

theorem pay4_apply (x : Fin 128 → Fin 512 → ℝ) (r : Fin 512) (d : Fin 128) :
    k0_pay4 (block x) (down h b .bf16 K) (pairs h a b .f32 (ds Q K V G)) (ix2 r d)
      = ((x d r + ∑ c, K (pos b c) h d * ds Q K V G h (pos a r) (pos b c) : ℝ) : EReal) := by
  pointwise [k0_pay4, k0_pay1]
  unfold block
  rw [EReal.coe_add, coe_sum]
  refine congrArg (fun s : EReal => _ + s) (Finset.sum_congr rfl fun c _ => ?_)
  rw [EReal.coe_mul]
  rfl

theorem pay5_apply (Y : FVec Ideal S128x4096 .f32) (j : Fin 4096) (d : Fin 128) : k0_pay5 Y (ix2 j d) = Y (ix2 d j) := by
  pointwise [k0_pay5]

theorem pay50_eq : k0_pay50 (F := Ideal) = fun _ => ((0 : ℝ) : EReal) := by
  funext y; idx_vars y; pointwise [k0_pay50]; rfl
theorem pay51_eq : k0_pay51 (F := Ideal) = fun _ => ((0 : ℝ) : EReal) := by
  funext y; idx_vars y; pointwise [k0_pay51]; rfl
theorem pay58_eq : k0_pay58 (F := Ideal) = block fun _ _ => 0 := by
  funext y; idx_vars y; pointwise [k0_pay58]; rfl

end Cert.Proof.Tile

end
-- ==== Proof.Value.Sweep.lean ====
/- What a grid point computes at real arguments: a tile of queries added to a head's two accumulators, and its own gradient. -/
module

public import proofs.«01_k».proof.Proof.Value.Tile

@[expose] public section

set_option maxRecDepth 16384

noncomputable section

namespace Cert.Proof.Sweep

open Cert.KernelIdeal Cert.KernelIdeal.Gen
open Idealize.ShloMosaic
open Cert.Proof.Attn Cert.Proof.Ref Cert.Proof.Tile
open Cert.Proof.KernelIdeal

variable (Q K V G : Arr) (h : Fin 8) (a : ℕ)

/-- A head's rows, positions down. -/
def full (X : Arr) : Vec Ideal S4096x128 .bf16 := fun y => ((X (y 0) h (y 1) : ℝ) : EReal)
/-- An accumulator, positions across. -/
def wide (x : Fin 128 → Fin 4096 → ℝ) : Vec Ideal S128x4096 .f32 := fun y => ((x (y 0) (y 1) : ℝ) : EReal)
/-- The saved row sums of a tile. -/
def stat (x : Fin 8 → Fin 4096 → ℝ) : Vec Ideal S1x1x512 .f32 := fun y => ((x h (pos a (y 2)) : ℝ) : EReal)

theorem pay57_eq (x : Fin 8 → Fin 4096 → ℝ) : k0_pay57 (stat h a x) = line h a x := by
  funext y; idx_vars y; pointwise [k0_pay57]; rfl

theorem rows_eq (X : Arr) (n : ℕ) : rows (full h X) n = down h n .bf16 X := by
  funext y
  have h1 : (y 1).val < 128 := (y 1).isLt
  show ((X ⟨(512 * n + (y 0).val) % 4096, _⟩ h ⟨(0 + (y 1).val) % 128, _⟩ : ℝ) : EReal) = ((X (pos n (y 0)) h (y 1) : ℝ) : EReal)
  have e : (⟨(0 + (y 1).val) % 128, Nat.mod_lt _ (by decide)⟩ : Fin 128) = y 1 := Fin.ext (by show (0 + (y 1).val) % 128 = (y 1).val; omega)
  exact congrArg (fun d : Fin 128 => ((X (pos n (y 0)) h d : ℝ) : EReal)) e

theorem cols_eq (x : Fin 128 → Fin 4096 → ℝ) (n : ℕ) : cols (wide x) n = block fun d c => x d (pos n c) := by
  funext y
  have h1 : (y 0).val < 128 := (y 0).isLt
  show ((x ⟨(0 + (y 0).val) % 128, _⟩ ⟨(512 * n + (y 1).val) % 4096, _⟩ : ℝ) : EReal) = ((x (y 0) (pos n (y 1)) : ℝ) : EReal)
  have e : (⟨(0 + (y 0).val) % 128, Nat.mod_lt _ (by decide)⟩ : Fin 128) = y 0 := Fin.ext (by show (0 + (y 0).val) % 128 = (y 0).val; omega)
  exact congrArg (fun d : Fin 128 => ((x d (pos n (y 1)) : ℝ) : EReal)) e

theorem block_loc (x : Fin 128 → Fin 512 → ℝ) (d : Fin 128) (j : Fin 4096) :
    block x (loc (ix2 d j)) = ((x d ⟨j % 512, Nat.mod_lt _ (by decide)⟩ : ℝ) : EReal) := by
  show ((x ⟨d.val % 128, _⟩ ⟨j.val % 512, _⟩ : ℝ) : EReal) = _
  have e : (⟨d.val % 128, Nat.mod_lt _ (by decide)⟩ : Fin 128) = d := Fin.ext (Nat.mod_eq_of_lt d.isLt)
  exact congrArg (fun d : Fin 128 => ((x d ⟨j.val % 512, Nat.mod_lt _ (by decide)⟩ : ℝ) : EReal)) e

theorem ext2 {f g : S128x4096.Idx → EReal} (e : ∀ (d : Fin 128) (j : Fin 4096), f (ix2 d j) = g (ix2 d j)) : f = g := by
  funext y; rw [eq_ix2 y]; exact e _ _

theorem pos_split (j : Fin 4096) : pos (j.val / 512) ⟨j.val % 512, Nat.mod_lt _ (by decide)⟩ = j :=
  Fin.ext (by show (512 * (j.val / 512) + j.val % 512) % 4096 = j.val; omega)

/-- A tile of queries sees no key of a later tile. -/
theorem unseen {a : ℕ} (ha : a < 8) (j : Fin 4096) (hj : a < j.val / 512) (r : Fin 512) : ¬j ≤ pos a r := by
  rw [Fin.le_def, pos_val ha]; omega

theorem outX_eq (i : grid0.Coords) (hi : qi i = a) (ha : a < 8) (x : Fin 128 → Fin 4096 → ℝ) :
    outX i (down h a .bf16 Q) (full h K) (across h a .f32 G) (stat h a (lse Q K)) (wide x)
      = wide fun d j => x d j + ∑ r, G (pos a r) h d * p Q K h (pos a r) j := by
  unfold outX gX
  have hi' : BitVec.ofNat 32 (i 1).val = BitVec.ofNat 32 a := congrArg _ hi
  rw [hi, hi', pay52_eq, pay56_eq, pay57_eq]
  simp only [rows_eq, cols_eq]
  rw [pay84_eq Q K h a ha, pay2_eq]
  refine ext2 fun d j => ?_
  unfold setBlk upd
  by_cases h1 : j.val / 512 = a
  · rw [if_pos (show ((ix2 d j : S128x4096.Idx) 1).val / 512 = a from h1), block_loc]
    subst h1
    rw [pos_split]
    rfl
  · rw [if_neg (show ¬((ix2 d j : S128x4096.Idx) 1).val / 512 = a from h1)]
    by_cases h2 : j.val / 512 < a
    · rw [if_pos (show ((ix2 d j : S128x4096.Idx) 1).val / 512 < a from h2)]
      show k0_pay9 (down h a .bf16 Q) (across h a .bf16 G) (line h a (lse Q K)) (down h (j.val / 512) .bf16 K) (block fun d c => x d (pos (j.val / 512) c)) (loc (ix2 d j)) = _
      rw [pay9_eq Q K G h a _ ha h2, block_loc, pos_split]
      rfl
    · rw [if_neg (show ¬((ix2 d j : S128x4096.Idx) 1).val / 512 < a from h2)]
      show ((x d j : ℝ) : EReal) = ((x d j + ∑ r, G (pos a r) h d * p Q K h (pos a r) j : ℝ) : EReal)
      rw [Finset.sum_eq_zero fun r _ => by rw [p_masked Q K h _ _ (unseen ha j (by omega) r), mul_zero], add_zero]

/-- The head's outputs as an array. -/
def outs : Arr := fun i h d => out Q K V h i d

theorem pay55_delta : k0_pay55 (across h a .f32 G) (across h a .f32 (outs Q K V)) = line h a (delta Q K V G) := pay55_eq G h a _

theorem outY_eq (i : grid0.Coords) (hi : qi i = a) (ha : a < 8) (x : Fin 128 → Fin 4096 → ℝ) :
    outY i (down h a .bf16 Q) (full h K) (full h V) (across h a .f32 (outs Q K V)) (across h a .f32 G) (stat h a (lse Q K)) (wide x)
      = wide fun d j => x d j + ∑ r, Q (pos a r) h d * ds Q K V G h (pos a r) j := by
  unfold outY gY
  have hi' : BitVec.ofNat 32 (i 1).val = BitVec.ofNat 32 a := congrArg _ hi
  rw [hi, hi', pay52_eq, pay53_eq, pay55_delta, pay56_eq, pay57_eq]
  simp only [rows_eq, cols_eq]
  rw [pay85_eq Q K V G h a ha, pay3_eq]
  refine ext2 fun d j => ?_
  unfold setBlk upd
  by_cases h1 : j.val / 512 = a
  · rw [if_pos (show ((ix2 d j : S128x4096.Idx) 1).val / 512 = a from h1), block_loc]
    subst h1
    rw [pos_split]
    rfl
  · rw [if_neg (show ¬((ix2 d j : S128x4096.Idx) 1).val / 512 = a from h1)]
    by_cases h2 : j.val / 512 < a
    · rw [if_pos (show ((ix2 d j : S128x4096.Idx) 1).val / 512 < a from h2)]
      show k0_pay11 (k0_pay10 (down h a .bf16 Q) (across h a .bf16 Q) (line h a (delta Q K V G)) (across h a .bf16 G) (line h a (lse Q K))
        (down h (j.val / 512) .bf16 K) (down h (j.val / 512) .bf16 V) (block fun d c => x d (pos (j.val / 512) c))) (loc (ix2 d j)) = _
      rw [pay10_eq Q K V G h a _ ha h2, pay11_eq, block_loc, pos_split]
      rfl
    · rw [if_neg (show ¬((ix2 d j : S128x4096.Idx) 1).val / 512 < a from h2)]
      show ((x d j : ℝ) : EReal) = ((x d j + ∑ r, Q (pos a r) h d * ds Q K V G h (pos a r) j : ℝ) : EReal)
      rw [Finset.sum_eq_zero fun r _ => by rw [ds_masked Q K V G h _ _ (unseen ha j (by omega) r), mul_zero], add_zero]

theorem accum_eq (ha : a < 8) (n : ℕ) (hn : n ≤ a) :
    accum (down h a .bf16 Q) (line h a (delta Q K V G)) (across h a .bf16 G) (line h a (lse Q K)) (full h K) (full h V) n
      = block fun d r => part (fun j => K j h d * ds Q K V G h (pos a r) j) n := by
  induction n with
  | zero => exact pay58_eq
  | succ n ih =>
    show k0_pay12 (accum _ _ _ _ _ _ n) (k0_pay6 (rows _ n)) (k0_pay8 _ _ _ _ (rows _ n) (rows _ n)) = _
    rw [ih (by omega), rows_eq, rows_eq, pay6_eq, pay8_eq Q K V G h a n ha hn, pay12_eq]
    simp only [part_succ]

/-- The tile of the queries' gradient. -/
theorem outDq_apply (i : grid0.Coords) (hi : qi i = a) (ha : a < 8) (r : Fin 512) (d : Fin 128) :
    outDq i (down h a .bf16 Q) (full h K) (full h V) (across h a .f32 (outs Q K V)) (across h a .f32 G) (stat h a (lse Q K)) (ix2 r d)
      = ((dq Q K V G (pos a r) h d : ℝ) : EReal) := by
  unfold outDq
  have hi' : BitVec.ofNat 32 (i 1).val = BitVec.ofNat 32 a := congrArg _ hi
  rw [hi, hi', pay52_eq, pay55_delta, pay56_eq, pay57_eq, rows_eq, rows_eq, pay83_eq, pay85_eq Q K V G h a ha,
    accum_eq Q K V G h a ha a le_rfl, pay4_apply, ← part_succ (fun j => K j h d * ds Q K V G h (pos a r) j)]
  refine congrArg _ (part_of_zero _ _ (by omega) fun j hj => ?_)
  rw [ds_masked Q K V G h _ _ (unseen ha j (by omega) r), mul_zero]

end Cert.Proof.Sweep

end
-- ==== Proof.Value.Host.lean ====
/- What the lines before the call hand it, at real arguments. -/
module

public import proofs.«01_k».proof.Proof.Value.Sweep
public import proofs.«01_k».proof.Proof.Ideal.Frame
public import Idealize.ShloMosaic.Lib.Claim
public import Idealize.ShloMosaic.Lib.Pipeline.ValueKit

@[expose] public section

set_option maxRecDepth 16384

noncomputable section

namespace Cert.Proof.Sweep

open Cert.KernelIdeal Cert.KernelIdeal.Gen
open Idealize.ShloMosaic Idealize.ShloMosaic.TcCoe
open Cert.Proof.Attn Cert.Proof.Ref Cert.Proof.Tile
open Cert.Proof.KernelIdeal

variable (m : (ℓ : Loc nD τ sig) → Buf (Elt Ideal) ℓ) (c : Dev nD) (Q K V G : Arr)

section
variable {F : FTy → Type} [FloatOps F]

/-- The saved row sums the call is handed, `y` the rows' maxima inside the exponential. -/
def saved (x0 x1 : (⟨S4096x8x128, .f32⟩ : BufTy).Contents (Elt F)) (y : FVec F S8x4096 .f32) : FVec F S8x4096x1 .f32 :=
  addf (broadcastInDim S8x4096x1 ![0, 1] bcast_S8x4096_S8x4096x1_0_1 (Cert.ReferenceIdeal.Read.val_main_v8 (F := F) x0 x1))
    (Host.log (broadcastInDim S8x4096x1 ![0, 1] bcast_S8x4096_S8x4096x1_0_1
      (Host.reduceAdd (Host.exp (subf (Cert.ReferenceIdeal.Read.val_main_v7_0 (F := F) x0 x1)
        (broadcastInDim S8x4096x4096 ![0, 1, 2] bcast_S8x4096x1_S8x4096x4096_0_1_2 (broadcastInDim S8x4096x1 ![0, 1] bcast_S8x4096_S8x4096x1_0_1 y))))
        (constant S_ .f32 0x00000000#32) reducesTo_S8x4096x4096_S8x4096_d2 h_S_)))

theorem saved_def (x0 x1 : (⟨S4096x8x128, .f32⟩ : BufTy).Contents (Elt F)) :
    saved x0 x1 (Cert.ReferenceIdeal.Read.val_main_v15 (F := F) x0 x1)
      = addf (broadcastInDim S8x4096x1 ![0, 1] bcast_S8x4096_S8x4096x1_0_1 (Cert.ReferenceIdeal.Read.val_main_v8 (F := F) x0 x1))
        (Host.log (Cert.ReferenceIdeal.Read.val_main_v30 (F := F) x0 x1)) := by
  unfold saved Cert.ReferenceIdeal.Read.val_main_v30 Cert.ReferenceIdeal.Read.val_main_v29 Cert.ReferenceIdeal.Read.val_main_v28
    Cert.ReferenceIdeal.Read.val_main_v27 Cert.ReferenceIdeal.Read.val_main_v26 Cert.ReferenceIdeal.Read.val_main_v25
  rfl
end

theorem host_q : Gen.V m c main_v43 = truncf (F := Ideal) (φ := .f32) .bf16 (shapeCast S4096x1024 (m ((c : Thread nD τ).loc main_arg0)) shapeCasts_S4096x8x128_S4096x1024) bitsLt_bf16_f32 := by
  unfold Gen.V
  simp only [hostOps0, hostOps0_1, hostOps0_2, hostOps0_3, hostOps0_4, List.flatten_cons, List.flatten_nil, List.append_nil, List.cons_append,
    List.nil_append]
  entry_read
  rfl
theorem host_k : Gen.V m c main_v45 = truncf (F := Ideal) (φ := .f32) .bf16 (shapeCast S4096x1024 (m ((c : Thread nD τ).loc main_arg1)) shapeCasts_S4096x8x128_S4096x1024) bitsLt_bf16_f32 := by
  unfold Gen.V
  simp only [hostOps0, hostOps0_1, hostOps0_2, hostOps0_3, hostOps0_4, List.flatten_cons, List.flatten_nil, List.append_nil, List.cons_append,
    List.nil_append]
  entry_read
  rfl
theorem host_v : Gen.V m c main_v47 = truncf (F := Ideal) (φ := .f32) .bf16 (shapeCast S4096x1024 (m ((c : Thread nD τ).loc main_arg2)) shapeCasts_S4096x8x128_S4096x1024) bitsLt_bf16_f32 := by
  unfold Gen.V
  simp only [hostOps0, hostOps0_1, hostOps0_2, hostOps0_3, hostOps0_4, List.flatten_cons, List.flatten_nil, List.append_nil, List.cons_append,
    List.nil_append]
  entry_read
  rfl
theorem host_g : Gen.V m c main_v41 = transpose S1024x4096 [1, 0] (shapeCast S4096x1024 (m ((c : Thread nD τ).loc main_arg3)) shapeCasts_S4096x8x128_S4096x1024) transposes_S4096x1024_S1024x4096_1_0 := by
  unfold Gen.V
  simp only [hostOps0, hostOps0_1, hostOps0_2, hostOps0_3, hostOps0_4, List.flatten_cons, List.flatten_nil, List.append_nil, List.cons_append,
    List.nil_append]
  entry_read
  rfl
theorem host_o : Gen.V m c main_v39 = transpose S1024x4096 [1, 0] (shapeCast S4096x1024
    (Cert.ReferenceIdeal.Read.val_main_v37 (F := Ideal) (m ((c : Thread nD τ).loc main_arg0)) (m ((c : Thread nD τ).loc main_arg1)) (m ((c : Thread nD τ).loc main_arg2)))
    shapeCasts_S4096x8x128_S4096x1024) transposes_S4096x1024_S1024x4096_1_0 := by
  unfold Gen.V
  simp only [hostOps0, hostOps0_1, hostOps0_2, hostOps0_3, hostOps0_4, List.flatten_cons, List.flatten_nil, List.append_nil, List.cons_append,
    List.nil_append]
  entry_read
  rfl
theorem host_l : Gen.V m c main_v48 = shapeCast S8x1x4096 (saved (m ((c : Thread nD τ).loc main_arg0)) (m ((c : Thread nD τ).loc main_arg1))
    (Cert.ReferenceIdeal.Read.val_main_v8 (F := Ideal) (m ((c : Thread nD τ).loc main_arg0)) (m ((c : Thread nD τ).loc main_arg1)))) shapeCasts_S8x4096x1_S8x1x4096 := by
  unfold Gen.V
  simp only [hostOps0, hostOps0_1, hostOps0_2, hostOps0_3, hostOps0_4, List.flatten_cons, List.flatten_nil, List.append_nil, List.cons_append,
    List.nil_append]
  entry_read
  rfl

theorem flatten_eq (X : Arr) (i : Fin 4096) (h : Fin 8) (d : Fin 128) :
    shapeCast S4096x1024 (up X) shapeCasts_S4096x8x128_S4096x1024 (ix2 i (col h d)) = ((X i h d : ℝ) : EReal) := by
  pointwise []
  have e1 : (⟨(col h d).val / 128, by omega⟩ : Fin 8) = h := Fin.ext (by show (128 * h.val + d.val) / 128 = h.val; omega)
  have e2 : (⟨(col h d).val % 128, by omega⟩ : Fin 128) = d := Fin.ext (by show (128 * h.val + d.val) % 128 = d.val; omega)
  show ((X i ⟨(col h d).val / 128, _⟩ ⟨(col h d).val % 128, _⟩ : ℝ) : EReal) = _
  rw [e1, e2]

theorem add_log (y8 : FVec Ideal S8x4096 .f32) (y30 : FVec Ideal S8x4096x1 .f32) (a : Fin 8) (b : Fin 4096) (u : Fin 1) :
    addf (F := Ideal) (φ := .f32) (broadcastInDim S8x4096x1 ![0, 1] bcast_S8x4096_S8x4096x1_0_1 y8) (Host.log y30) (ix3 a b u)
      = y8 (ix2 a b) + Ideal.log (y30 (ix3 a b u)) := by
  pointwise []

theorem saved_eq : saved (up Q) (up K) (Cert.ReferenceIdeal.Read.val_main_v8 (F := Ideal) (up Q) (up K)) = fun y => ((lse Q K (y 0) (y 1) : ℝ) : EReal) := by
  have e : Cert.ReferenceIdeal.Read.val_main_v8 (F := Ideal) (up Q) (up K) = Cert.ReferenceIdeal.Read.val_main_v15 (F := Ideal) (up Q) (up K) := by
    funext y; rw [eq_ix2 y]; exact (v8 Q K (y 0) (y 1)).trans (v15 Q K (y 0) (y 1)).symm
  conv_lhs => arg 3; rw [e]
  rw [saved_def]
  have h8 := v8 Q K
  have h30 := v30 Q K
  generalize Cert.ReferenceIdeal.Read.val_main_v8 (F := Ideal) (up Q) (up K) = y8 at h8 ⊢
  generalize Cert.ReferenceIdeal.Read.val_main_v30 (F := Ideal) (up Q) (up K) = y30 at h30 ⊢
  have key : ∀ (a : Fin 8) (b : Fin 4096) (u : Fin 1), y8 (ix2 a b) + Ideal.log (y30 (ix3 a b u)) = ((lse Q K a b : ℝ) : EReal) := fun a b u => by
    rw [h8, h30, Ideal.log_coe, if_neg (not_le.mpr (l_pos Q K _ _)), ← EReal.coe_add]
    rfl
  refine funext fun y => ?_
  rw [eq_ix3 y]
  exact (add_log y8 y30 _ _ _).trans (key _ _ _)

/-- The outputs the call is handed. -/
theorem outs_eq (i : Fin 4096) (h : Fin 8) (d : Fin 128) :
    Cert.ReferenceIdeal.Read.val_main_v37 (F := Ideal) (up Q) (up K) (up V) (ix3 i h d) = ((outs Q K V i h d : ℝ) : EReal) := by
  rw [Cert.ReferenceIdeal.Read.val_main_v37_apply,
    show Cert.ReferenceIdeal.Read.idx_main_v37 (ix3 i h d) = ix3 h d i from eq_ix3 (Cert.ReferenceIdeal.Read.idx_main_v37 (ix3 i h d)), Cert.ReferenceIdeal.Read.val_main_v36_apply]
  unfold outs out
  rw [coe_sum]
  refine Finset.sum_congr rfl fun j _ => ?_
  rw [show Cert.ReferenceIdeal.Read.ridx_main_v36 (ix3 h d i) j = ix3 h i j from eq_ix3 (Cert.ReferenceIdeal.Read.ridx_main_v36 (ix3 h d i) j), v32, EReal.coe_mul]
  rfl

section
variable (h : Fin 8) (i : Fin 4096) (d : Fin 128)

theorem entry_q (e : m ((c : Thread nD τ).loc main_arg0) = up Q) : Gen.V m c main_v43 (ix2 i (col h d)) = ((Q i h d : ℝ) : EReal) := by
  rw [host_q, e]; exact flatten_eq Q i h d
theorem entry_k (e : m ((c : Thread nD τ).loc main_arg1) = up K) : Gen.V m c main_v45 (ix2 i (col h d)) = ((K i h d : ℝ) : EReal) := by
  rw [host_k, e]; exact flatten_eq K i h d
theorem entry_v (e : m ((c : Thread nD τ).loc main_arg2) = up V) : Gen.V m c main_v47 (ix2 i (col h d)) = ((V i h d : ℝ) : EReal) := by
  rw [host_v, e]; exact flatten_eq V i h d

theorem across_eq (x : FVec Ideal S4096x1024 .f32) (n : Fin 1024) :
    transpose S1024x4096 [1, 0] x transposes_S4096x1024_S1024x4096_1_0 (ix2 n i) = x (ix2 i n) := by
  pointwise []

theorem entry_g (e : m ((c : Thread nD τ).loc main_arg3) = up G) : Gen.V m c main_v41 (ix2 (col h d) i) = ((G i h d : ℝ) : EReal) := by
  rw [host_g, e]; exact (across_eq i _ _).trans (flatten_eq G i h d)
theorem entry_o (e0 : m ((c : Thread nD τ).loc main_arg0) = up Q) (e1 : m ((c : Thread nD τ).loc main_arg1) = up K)
    (e2 : m ((c : Thread nD τ).loc main_arg2) = up V) : Gen.V m c main_v39 (ix2 (col h d) i) = ((outs Q K V i h d : ℝ) : EReal) := by
  have e : Cert.ReferenceIdeal.Read.val_main_v37 (F := Ideal) (up Q) (up K) (up V) = up (outs Q K V) :=
    funext fun y => (congrArg _ (eq_ix3 y)).trans (outs_eq Q K V _ _ _)
  rw [host_o, e0, e1, e2, e]; exact (across_eq i _ _).trans (flatten_eq _ i h d)
theorem entry_l (u : Fin 1) (e0 : m ((c : Thread nD τ).loc main_arg0) = up Q) (e1 : m ((c : Thread nD τ).loc main_arg1) = up K) :
    Gen.V m c main_v48 (ix3 h u i) = ((lse Q K h i : ℝ) : EReal) := by
  rw [host_l, e0, e1, saved_eq]
  pointwise []
end

end Cert.Proof.Sweep

end
-- ==== Proof.Value.Blocks.lean ====
/- The blocks a grid point is handed, at real arguments. -/
module

public import proofs.«01_k».proof.Proof.Value.Host
public import Idealize.ShloMosaic.Lib.Pipeline.ValueKit

@[expose] public section

set_option maxRecDepth 16384

noncomputable section

namespace Cert.Proof.Sweep

open Cert.KernelIdeal Cert.KernelIdeal.Gen
open Idealize.ShloMosaic Idealize.ShloMosaic.TcCoe
open Idealize.ShloMosaic.Pipeline (Dat Cfg Window)
open Cert.Proof.Attn Cert.Proof.Ref Cert.Proof.Tile
open Cert.Proof.KernelIdeal

/-! ## The blocks -/

theorem idx_0 : ∀ t, win0_0.index t = ![t.val % 8, t.val / 8] := by decide +kernel
theorem idx_1 : ∀ t, win0_1.index t = ![0, t.val / 8] := by decide +kernel
theorem idx_2 : ∀ t, win0_2.index t = ![0, t.val / 8] := by decide +kernel
theorem idx_3 : ∀ t, win0_3.index t = ![t.val / 8, t.val % 8] := by decide +kernel
theorem idx_4 : ∀ t, win0_4.index t = ![t.val / 8, t.val % 8] := by decide +kernel
theorem idx_5 : ∀ t, win0_5.index t = ![t.val / 8, 0, t.val % 8] := by decide +kernel
theorem idx_6 : ∀ t, win0_6.index t = ![t.val % 8, t.val / 8] := by decide +kernel
theorem idx_7 : ∀ t, win0_7.index t = ![0, t.val / 8] := by decide +kernel
theorem idx_8 : ∀ t, win0_8.index t = ![t.val / 8, 0] := by decide +kernel

/-- The head of a point. -/
def head (t : Fin cfg0.N) : Fin 8 := ⟨t.val / 8, by have := t.isLt.trans_eq N_0; omega⟩

variable (m : (ℓ : Loc nD τ sig) → Buf (Elt Ideal) ℓ) (c : Dev nD) (Q K V G : Arr)

/-- The arguments are real. -/
structure Args : Prop where
  q : m ((c : Thread nD τ).loc main_arg0) = up Q
  k : m ((c : Thread nD τ).loc main_arg1) = up K
  v : m ((c : Thread nD τ).loc main_arg2) = up V
  g : m ((c : Thread nD τ).loc main_arg3) = up G

variable {m c Q K V G} (hR : Args m c Q K V G) (t : Fin cfg0.N)
include hR

theorem qBlk_eq : qBlk m c t = down (head t) (t.val % 8) .bf16 Q := by
  funext y
  rw [eq_ix2 y]
  refine Eq.trans ?_ (entry_q m c Q (head t) (pos (t.val % 8) (y 0)) (y 1) hR.q)
  unfold qBlk
  blk_ext [iblk, idx_0 t, head, col, pos]

theorem kBlk_eq : kBlk m c t = full (head t) K := by
  funext y
  rw [eq_ix2 y]
  refine Eq.trans ?_ (entry_k m c K (head t) (y 0) (y 1) hR.k)
  unfold kBlk
  blk_ext [iblk, idx_1 t, head, col]
theorem vBlk_eq : vBlk m c t = full (head t) V := by
  funext y
  rw [eq_ix2 y]
  refine Eq.trans ?_ (entry_v m c V (head t) (y 0) (y 1) hR.v)
  unfold vBlk
  blk_ext [iblk, idx_2 t, head, col]
theorem oBlk_eq : oBlk m c t = across (head t) (t.val % 8) .f32 (outs Q K V) := by
  funext y
  rw [eq_ix2 y]
  refine Eq.trans ?_ (entry_o m c Q K V (head t) (pos (t.val % 8) (y 1)) (y 0) hR.q hR.k hR.v)
  unfold oBlk
  blk_ext [iblk, idx_3 t, head, col, pos]
theorem gBlk_eq : gBlk m c t = across (head t) (t.val % 8) .f32 G := by
  funext y
  rw [eq_ix2 y]
  refine Eq.trans ?_ (entry_g m c G (head t) (pos (t.val % 8) (y 1)) (y 0) hR.g)
  unfold gBlk
  blk_ext [iblk, idx_4 t, head, col, pos]
omit hR in
theorem read_l (z : Vec Ideal S8x1x4096 .f32) (u v : Fin 1) (r : Fin 512) :
    ((cfg0.win 5).blk t).view.read (Elt Ideal) z (ix3 u v r) = z (ix3 (head t) 0 (pos (t.val % 8) r)) := by
  show z (((cfg0.win 5).blk t).view.emb (ix3 u v r)) = _
  refine congrArg z ?_
  generalize hX : ((cfg0.win 5).blk t).view.emb (ix3 u v r) = X
  have h0 : (X 0).val = t.val / 8 * 1 + u.val := by
    rw [← hX]
    refine (Pipeline.Window.rect_emb_val ..).trans ?_
    rw [show (cfg0.win 5).index t 0 = t.val / 8 from congrFun (idx_5 t) 0]
    rfl
  have h1 : (X 1).val = 0 := by have := (X 1).isLt; exact Nat.lt_one_iff.mp this
  have h2 : (X 2).val = t.val % 8 * 512 + r.val := by
    rw [← hX]
    refine (Pipeline.Window.rect_emb_val ..).trans ?_
    rw [show (cfg0.win 5).index t 2 = t.val % 8 from congrFun (idx_5 t) 2]
    rfl
  refine ix3_of X _ _ _ ?_ ?_ ?_
  · rw [h0]; show _ = t.val / 8; omega
  · rw [h1]; rfl
  · rw [h2]; show _ = (512 * (t.val % 8) + r.val) % 4096; omega
theorem lBlk_apply (u v : Fin 1) (r : Fin 512) : lBlk m c t (ix3 u v r) = ((lse Q K (head t) (pos (t.val % 8) r) : ℝ) : EReal) :=
  (read_l t (Gen.V m c main_v48) u v r).trans (entry_l m c Q K _ _ 0 hR.q hR.k)
theorem lBlk_eq : lBlk m c t = stat (head t) (t.val % 8) (lse Q K) := by
  funext y
  rw [eq_ix3 y]
  exact lBlk_apply hR t _ _ _

end Cert.Proof.Sweep

end
-- ==== Proof.Value.Final.lean ====
/- The call's three result arrays at real arguments: the gradients of the queries, the keys and the values. -/
module

public import proofs.«01_k».proof.Proof.Value.Blocks
public import Idealize.ShloMosaic.Lib.Pipeline.ValueKit

@[expose] public section

set_option maxRecDepth 16384

noncomputable section

namespace Cert.Proof.Sweep

open Cert.KernelIdeal Cert.KernelIdeal.Gen
open Idealize.ShloMosaic Idealize.ShloMosaic.TcCoe
open Idealize.ShloMosaic.Pipeline (Dat Cfg Window)
open Cert.Proof.Attn Cert.Proof.Ref Cert.Proof.Tile
open Cert.Proof.KernelIdeal

variable {m : (ℓ : Loc nD τ sig) → Buf (Elt Ideal) ℓ} {c : Dev nD} {Q K V G : Arr} (hR : Args m c Q K V G) (t : Fin cfg0.N)
include hR

/-! ## The accumulators -/

theorem start_eq (i : grid0.Coords) (x : Fin 128 → Fin 4096 → ℝ) (z : Vec Ideal S128x4096 .f32) (hz : z = fun _ => ((0 : ℝ) : EReal)) :
    start i z (wide x) = wide fun d j => if qi i = 0 then 0 else x d j := by
  unfold start
  split
  · rw [hz]; rfl
  · rfl

/-- What a tile adds to the values' gradient. -/
def addV (h : Fin 8) (d : Fin 128) (j i : Fin 4096) : ℝ := G i h d * p Q K h i j
/-- What a tile adds to the keys' gradient. -/
def addK (h : Fin 8) (d : Fin 128) (j i : Fin 4096) : ℝ := Q i h d * ds Q K V G h i j

omit hR in
/-- An accumulator that starts anew at each head's first tile holds the sum over the head's tiles so far. -/
theorem carry (A : ℕ → Vec Ideal S128x4096 .f32) (f : Fin 8 → Fin 128 → Fin 4096 → Fin 4096 → ℝ) (h0 : ∃ x, A 0 = wide x)
    (hs : ∀ (t : Fin cfg0.N) x, A t.val = wide x →
      A (t.val + 1) = wide fun d j => (if t.val % 8 = 0 then 0 else x d j) + ∑ r, f (head t) d j (pos (t.val % 8) r))
    (n : ℕ) (hn : n < cfg0.N) : A (n + 1) = wide fun d j => part (f (head ⟨n, hn⟩) d j) (n % 8 + 1) := by
  induction n with
  | zero =>
    obtain ⟨x, hx⟩ := h0
    rw [hs ⟨0, hn⟩ x hx]
    simp only [part_succ]
    congr 1
  | succ n ih =>
    have hn' : n < cfg0.N := by omega
    rw [hs ⟨n + 1, hn⟩ _ (ih hn')]
    simp only [part_succ _ ((n + 1) % 8)]
    congr 1
    funext d j
    by_cases hm : (n + 1) % 8 = 0
    · simp only [hm, if_true, part_zero]
    · have e1 : head ⟨n + 1, hn⟩ = head ⟨n, hn'⟩ := Fin.ext (by show (n + 1) / 8 = n / 8; omega)
      have e2 : (n + 1) % 8 = n % 8 + 1 := by omega
      rw [if_neg hm, e1, e2]

theorem stepX_eq (x : Fin 128 → Fin 4096 → ℝ) :
    stepX m c t (wide x) = wide fun d j => (if t.val % 8 = 0 then 0 else x d j) + ∑ r, addV (Q := Q) (K := K) (G := G) (head t) d j (pos (t.val % 8) r) := by
  unfold stepX
  rw [start_eq hR _ _ _ pay51_eq, qBlk_eq hR, kBlk_eq hR, gBlk_eq hR, lBlk_eq hR,
    outX_eq Q K G (head t) (t.val % 8) _ (qi_coords t) (Nat.mod_lt _ (by decide)), qi_coords]
  rfl
theorem stepY_eq (x : Fin 128 → Fin 4096 → ℝ) :
    stepY m c t (wide x) = wide fun d j => (if t.val % 8 = 0 then 0 else x d j) + ∑ r, addK (Q := Q) (K := K) (V := V) (G := G) (head t) d j (pos (t.val % 8) r) := by
  unfold stepY
  rw [start_eq hR _ _ _ pay50_eq, qBlk_eq hR, kBlk_eq hR, vBlk_eq hR, oBlk_eq hR, gBlk_eq hR, lBlk_eq hR,
    outY_eq Q K V G (head t) (t.val % 8) _ (qi_coords t) (Nat.mod_lt _ (by decide)), qi_coords]
  rfl

theorem accX_eq : accX m c (t.val + 1) = wide fun d j => part (addV (Q := Q) (K := K) (G := G) (head t) d j) (t.val % 8 + 1) :=
  carry (accX m c) _ ⟨fun _ _ => 0, pay51_eq⟩ (fun t x hx => by rw [accX_succ, hx, stepX_eq hR]) t.val t.isLt
theorem accY_eq : accY m c (t.val + 1) = wide fun d j => part (addK (Q := Q) (K := K) (V := V) (G := G) (head t) d j) (t.val % 8 + 1) :=
  carry (accY m c) _ ⟨fun _ _ => 0, pay50_eq⟩ (fun t x hx => by rw [accY_succ, hx, stepY_eq hR]) t.val t.isLt

/-! ## The result arrays -/

/-- A gradient with its heads side by side, positions down. -/
def byRow (x : Arr) : Vec Ideal S4096x1024 .f32 := fun i =>
  ((x (i 0) ⟨(i 1).val / 128, by have : (i 1).val < 1024 := (i 1).isLt; omega⟩ ⟨(i 1).val % 128, Nat.mod_lt _ (by decide)⟩ : ℝ) : EReal)
/-- A gradient with its heads one above the other, positions across. -/
def byCol (x : Arr) : Vec Ideal S1024x4096 .f32 := fun i =>
  ((x (i 1) ⟨(i 0).val / 128, by have : (i 0).val < 1024 := (i 0).isLt; omega⟩ ⟨(i 0).val % 128, Nat.mod_lt _ (by decide)⟩ : ℝ) : EReal)

omit hR in
theorem byRow_col (x : Arr) (i : Fin 4096) (h : Fin 8) (d : Fin 128) : byRow x (ix2 i (col h d)) = ((x i h d : ℝ) : EReal) := by
  have e1 : (⟨(col h d).val / 128, by omega⟩ : Fin 8) = h := Fin.ext (by show (128 * h.val + d.val) / 128 = h.val; omega)
  have e2 : (⟨(col h d).val % 128, by omega⟩ : Fin 128) = d := Fin.ext (by show (128 * h.val + d.val) % 128 = d.val; omega)
  show ((x i ⟨(col h d).val / 128, _⟩ ⟨(col h d).val % 128, _⟩ : ℝ) : EReal) = _
  rw [e1, e2]
omit hR in
theorem byCol_col (x : Arr) (i : Fin 4096) (h : Fin 8) (d : Fin 128) : byCol x (ix2 (col h d) i) = ((x i h d : ℝ) : EReal) :=
  byRow_col x i h d

omit hR in
theorem emb_6 (a : Fin 512) (b : Fin 128) : (win0_6.blk t).view.emb (ix2 a b) = ix2 (pos (t.val % 8) a) (col (head t) b) := by
  generalize hX : (win0_6.blk t).view.emb (ix2 a b) = X
  have h0 : (X 0).val = t.val % 8 * 512 + a.val := by
    rw [← hX]
    refine (Pipeline.Window.rect_emb_val ..).trans ?_
    rw [show win0_6.index t 0 = t.val % 8 from congrFun (idx_6 t) 0]
    rfl
  have h1 : (X 1).val = t.val / 8 * 128 + b.val := by
    rw [← hX]
    refine (Pipeline.Window.rect_emb_val ..).trans ?_
    rw [show win0_6.index t 1 = t.val / 8 from congrFun (idx_6 t) 1]
    rfl
  rw [eq_ix2 X]
  refine (ix2_inj _ _ _ _).mpr ⟨Fin.ext ?_, Fin.ext ?_⟩
  · rw [h0]; show _ = (512 * (t.val % 8) + a.val) % 4096; omega
  · rw [h1]; show _ = 128 * (t.val / 8) + b.val; omega
omit hR in
theorem emb_7 (a : Fin 4096) (b : Fin 128) : (win0_7.blk t).view.emb (ix2 a b) = ix2 a (col (head t) b) := by
  generalize hX : (win0_7.blk t).view.emb (ix2 a b) = X
  have h0 : (X 0).val = 0 * 4096 + a.val := by
    rw [← hX]
    refine (Pipeline.Window.rect_emb_val ..).trans ?_
    rw [show win0_7.index t 0 = 0 from congrFun (idx_7 t) 0]
    rfl
  have h1 : (X 1).val = t.val / 8 * 128 + b.val := by
    rw [← hX]
    refine (Pipeline.Window.rect_emb_val ..).trans ?_
    rw [show win0_7.index t 1 = t.val / 8 from congrFun (idx_7 t) 1]
    rfl
  rw [eq_ix2 X]
  refine (ix2_inj _ _ _ _).mpr ⟨Fin.ext ?_, Fin.ext ?_⟩
  · rw [h0]; show _ = a.val; omega
  · rw [h1]; show _ = 128 * (t.val / 8) + b.val; omega
omit hR in
theorem emb_8 (a : Fin 128) (b : Fin 4096) : (win0_8.blk t).view.emb (ix2 a b) = ix2 (col (head t) a) b := by
  generalize hX : (win0_8.blk t).view.emb (ix2 a b) = X
  have h0 : (X 0).val = t.val / 8 * 128 + a.val := by
    rw [← hX]
    refine (Pipeline.Window.rect_emb_val ..).trans ?_
    rw [show win0_8.index t 0 = t.val / 8 from congrFun (idx_8 t) 0]
    rfl
  have h1 : (X 1).val = 0 * 4096 + b.val := by
    rw [← hX]
    refine (Pipeline.Window.rect_emb_val ..).trans ?_
    rw [show win0_8.index t 1 = 0 from congrFun (idx_8 t) 1]
    rfl
  rw [eq_ix2 X]
  refine (ix2_inj _ _ _ _).mpr ⟨Fin.ext ?_, Fin.ext ?_⟩
  · rw [h0]; show _ = 128 * (t.val / 8) + a.val; omega
  · rw [h1]; show _ = b.val; omega

theorem dqBlk_apply (r : Fin 512) (d : Fin 128) : dqBlk m c t (ix2 r d) = ((dq Q K V G (pos (t.val % 8) r) (head t) d : ℝ) : EReal) := by
  unfold dqBlk
  rw [qBlk_eq hR, kBlk_eq hR, vBlk_eq hR, oBlk_eq hR, gBlk_eq hR, lBlk_eq hR]
  exact outDq_apply Q K V G (head t) (t.val % 8) _ (qi_coords t) (Nat.mod_lt _ (by decide)) r d

theorem arr_dq : (dats m 0 c).arrAt 6 cfg0.N = byRow (dq Q K V G) := by
  refine (dats m 0 c).arrAt_eq_of_covers 6 _ (by decide +kernel) fun t hf y => ?_
  blk_simp
  rw [after_6]
  refine (congrArg _ (eq_ix2 y)).trans ((dqBlk_apply hR t (y 0) (y 1)).trans ?_)
  refine (byRow_col _ _ _ _).symm.trans ?_
  refine (congrArg _ (emb_6 t _ _).symm).trans ?_
  exact congrArg (fun z => byRow _ ((win0_6.blk t).view.emb z)) (eq_ix2 y).symm

theorem dkBlk_apply (ht : t.val % 8 = 7) (j : Fin 4096) (d : Fin 128) :
    k0_pay5 (accY m c (t.val + 1)) (ix2 j d) = ((dk Q K V G j (head t) d : ℝ) : EReal) := by
  rw [pay5_apply, accY_eq hR, ht]
  show ((part _ 8 : ℝ) : EReal) = _
  rw [part_all]
  refine congrArg _ (Finset.sum_congr rfl fun i _ => ?_)
  rfl
theorem dvBlk_apply (ht : t.val % 8 = 7) (d : Fin 128) (j : Fin 4096) :
    accX m c (t.val + 1) (ix2 d j) = ((dv Q K G j (head t) d : ℝ) : EReal) := by
  rw [accX_eq hR, ht]
  show ((part _ 8 : ℝ) : EReal) = _
  rw [part_all]
  refine congrArg _ (Finset.sum_congr rfl fun i _ => ?_)
  rfl

theorem arr_dk : (dats m 0 c).arrAt 7 cfg0.N = byRow (dk Q K V G) := by
  refine (dats m 0 c).arrAt_eq_of_covers 7 _ (by decide +kernel) fun t hf y => ?_
  blk_simp
  rw [after_7]
  refine (congrArg _ (eq_ix2 y)).trans ((dkBlk_apply hR t ((flush0_7 t).mp hf) (y 0) (y 1)).trans ?_)
  refine (byRow_col _ _ _ _).symm.trans ?_
  refine (congrArg _ (emb_7 t _ _).symm).trans ?_
  exact congrArg (fun z => byRow _ ((win0_7.blk t).view.emb z)) (eq_ix2 y).symm
theorem arr_dv : (dats m 0 c).arrAt 8 cfg0.N = byCol (dv Q K G) := by
  refine (dats m 0 c).arrAt_eq_of_covers 8 _ (by decide +kernel) fun t hf y => ?_
  blk_simp
  rw [after_8]
  refine (congrArg _ (eq_ix2 y)).trans ((dvBlk_apply hR t ((flush0_8 t).mp hf) (y 0) (y 1)).trans ?_)
  refine (byCol_col _ _ _ _).symm.trans ?_
  refine (congrArg _ (emb_8 t _ _).symm).trans ?_
  exact congrArg (fun z => byCol _ ((win0_8.blk t).view.emb z)) (eq_ix2 y).symm

end Cert.Proof.Sweep

end
-- ==== Proof.Value.Finite.lean ====
/- The precondition read: an array whose entries are all finite is an array of reals. -/
module

public import proofs.«01_k».proof.Defs
public import proofs.«01_k».proof.Proof.Value.Ref
public import proofs.«01_k».proof.Proof.Gen.Pre_finite
public import Idealize.ShloMosaic.Lib.ReduceAll
public import Idealize.ShloMosaic.Lib.Affine

@[expose] public section

set_option maxRecDepth 16384

noncomputable section

namespace Cert.Proof.Finite

open Cert.Pre_finite Cert.Pre_finite.Gen
open Idealize.ShloMosaic
open Cert.Proof.Attn Cert.Proof.Ref

/-- The check of one array. -/
def check (x : FVec Ideal S4096x8x128 .f32) : IVec S_ 1 :=
  Host.reduce IntOp.andi (cmpf .olt (Host.absf x) (broadcastInDim S4096x8x128 ![] bcast_S_S4096x8x128 (constant (F := Ideal) S_ .f32 0x7F800000#32)))
    (constantI S_ 1 1#1) reducesTo_S4096x8x128_S_d0_1_2 h_S_

theorem inf_f32 : Ideal.ofBits .f32 0x7F800000#32 = ⊤ := by simp [Ideal.ofBits, Ideal.ieee]

theorem check_apply (x : FVec Ideal S4096x8x128 .f32) (h : check x = fun _ => 1#1) (i : S4096x8x128.Idx) : x i ≠ ⊤ ∧ x i ≠ ⊥ := by
  have h1 := Host.reduce_andi_all _ _ _ _ _ (congrFun h default) i
  have h2 : Ideal.cmp .olt (max (x i) (-x i)) (Ideal.ofBits .f32 0x7F800000#32) = 1#1 := h1
  rw [inf_f32] at h2
  have hlt : max (x i) (-x i) < ⊤ := by
    by_contra hn
    have h3 : BitVec.ofBool (decide (max (x i) (-x i) < ⊤)) = 1#1 := h2
    rw [decide_eq_false hn] at h3
    exact absurd h3 (by decide)
  have := max_lt_iff.mp hlt
  refine ⟨this.1.ne, fun hb => ?_⟩
  rw [hb] at this
  exact absurd this.2 (by simp)

/-- Such an array is one of reals. -/
theorem check_up (x : FVec Ideal S4096x8x128 .f32) (h : check x = fun _ => 1#1) : ∃ X : Arr, x = up X :=
  ⟨fun i a d => (x (ix3 i a d)).toReal, funext fun y => by
    show x y = (((x (ix3 (y 0) (y 1) (y 2))).toReal : ℝ) : EReal)
    rw [← eq_ix3 y]
    exact (EReal.coe_toReal (check_apply x h y).1 (check_apply x h y).2).symm⟩

theorem fn_split (x0 x1 x2 x3 : FVec Ideal S4096x8x128 .f32) (h : Cert.Pre_finite.fn (F := Ideal) x0 x1 x2 x3 = fun _ => 1#1) :
    check x0 = (fun _ => 1#1) ∧ check x1 = (fun _ => 1#1) ∧ check x2 = (fun _ => 1#1) ∧ check x3 = (fun _ => 1#1) := by
  have h' : andi (andi (andi (check x0) (check x1)) (check x2)) (check x3) = fun _ => 1#1 := h
  have key : ∀ a b : IVec S_ 1, andi a b = (fun _ => 1#1) → a = (fun _ => 1#1) ∧ b = (fun _ => 1#1) := fun a b e =>
    ⟨funext fun j => (IntOp.andi_eq_one.mp (congrFun e j)).1, funext fun j => (IntOp.andi_eq_one.mp (congrFun e j)).2⟩
  obtain ⟨h012, h3⟩ := key _ _ h'
  obtain ⟨h01, h2⟩ := key _ _ h012
  obtain ⟨h0, h1⟩ := key _ _ h01
  exact ⟨h0, h1, h2, h3⟩

end Cert.Proof.Finite

end
-- ==== Proof.Value.Online.lean ====
/- The softmax taken a tile of keys at a time: whatever height the weights are measured from, the weights' sum and the
   weighted sum of the values give the output, and the height with the sum's logarithm gives the row's log-sum. -/
module

public import proofs.«01_k».proof.Proof.Value.Ref

@[expose] public section

noncomputable section

namespace Cert.Proof.Online

open Idealize.ShloMosaic
open Cert.Proof.Attn Cert.Proof.Ref
open Finset

variable (Q K V : Arr) (h : Fin 8) (i : Fin 4096)

/-- A key's weight measured from the height `μ`. -/
def w (μ : ℝ) (j : Fin 4096) : ℝ := if j ≤ i then Real.exp (score Q K h i j - μ) else 0

/-- The masked score. -/
def masked (j : Fin 4096) : EReal := if j ≤ i then ((score Q K h i j : ℝ) : EReal) else ⊥

theorem exp_masked (μ : ℝ) (j : Fin 4096) : Ideal.exp (masked Q K h i j - μ) = (w Q K h i μ j : ℝ) := by
  unfold masked w
  by_cases hj : j ≤ i
  · rw [if_pos hj, if_pos hj, ← EReal.coe_sub, Ideal.exp_coe]
  · rw [if_neg hj, if_neg hj, EReal.bot_sub, Ideal.exp_bot, EReal.coe_zero]

theorem w_shift (μ ν : ℝ) (j : Fin 4096) : Real.exp (μ - ν) * w Q K h i μ j = w Q K h i ν j := by
  unfold w
  split
  · rw [← Real.exp_add]
    congr 1
    ring
  · rw [mul_zero]

theorem part_mul (c : ℝ) (f : Fin 4096 → ℝ) (n : ℕ) : c * part f n = part (fun j => c * f j) n := by
  unfold part
  rw [mul_sum]
  exact sum_congr rfl fun a _ => mul_sum _ _ _

/-- What a query holds after the first `n` tiles of keys: a height, the weights' sum, and the values' weighted sum. -/
def Held (n : ℕ) (m l : EReal) (acc : Fin 128 → EReal) : Prop :=
  (n = 0 ∧ m = ⊥ ∧ l = 0 ∧ ∀ d, acc d = 0) ∨
    ∃ μ : ℝ, m = μ ∧ l = (part (w Q K h i μ) n : ℝ) ∧ ∀ d, acc d = (part (fun j => V j h d * w Q K h i μ j) n : ℝ)

/-- The largest of a tile's masked scores is real when a key of the tile is seen. -/
theorem fold_real (n : ℕ) (hv : ∃ r, pos n r ≤ i) : ∃ ν : ℝ, univ.fold max ⊥ (fun r : Fin 512 => masked Q K h i (pos n r)) = (ν : EReal) := by
  obtain ⟨r, hr⟩ := hv
  obtain ⟨k, _, hk⟩ := exists_mem_eq_sup univ ⟨r, mem_univ r⟩ (fun r : Fin 512 => masked Q K h i (pos n r))
  have hm : ((score Q K h i (pos n r) : ℝ) : EReal) ≤ masked Q K h i (pos n k) := by
    rw [← hk]
    refine le_trans (le_of_eq ?_) (le_sup (mem_univ r))
    exact (if_pos hr).symm
  refine ⟨score Q K h i (pos n k), ?_⟩
  show univ.sup _ = _
  rw [hk]
  by_cases hj : pos n k ≤ i
  · exact if_pos hj
  · rw [masked, if_neg hj] at hm
    exact absurd hm (not_le.mpr (EReal.bot_lt_coe _))

theorem Held.step {n : ℕ} {m l : EReal} {acc : Fin 128 → EReal} (H : Held Q K V h i n m l acc) (hv : ∃ r, pos n r ≤ i) (m' : EReal)
    (hm : m' = max m (univ.fold max ⊥ (fun r : Fin 512 => masked Q K h i (pos n r)))) :
    Held Q K V h i (n + 1) m' (Ideal.exp (m - m') * l + ∑ r : Fin 512, Ideal.exp (masked Q K h i (pos n r) - m'))
      (fun d => Ideal.exp (m - m') * acc d + ∑ r : Fin 512, ((V (pos n r) h d : ℝ) : EReal) * Ideal.exp (masked Q K h i (pos n r) - m')) := by
  obtain ⟨ν, hν⟩ := fold_real Q K h i n hv
  rw [hν] at hm
  rcases H with ⟨rfl, rfl, rfl, ha⟩ | ⟨μ, rfl, rfl, ha⟩
  · rw [max_eq_right bot_le] at hm
    subst hm
    refine Or.inr ⟨ν, rfl, ?_, fun d => ?_⟩
    · rw [mul_zero, zero_add, part_succ, part_zero, zero_add, coe_sum]
      exact sum_congr rfl fun r _ => exp_masked Q K h i ν _
    · beta_reduce
      rw [ha d, mul_zero, zero_add, part_succ, part_zero, zero_add, coe_sum]
      exact sum_congr rfl fun r _ => by rw [exp_masked, EReal.coe_mul]
  · rw [show max (μ : EReal) (ν : EReal) = ((max μ ν : ℝ) : EReal) from (EReal.coe_strictMono.monotone.map_max).symm] at hm
    subst hm
    refine Or.inr ⟨max μ ν, rfl, ?_, fun d => ?_⟩
    · rw [← EReal.coe_sub, Ideal.exp_coe, ← EReal.coe_mul, part_mul, part_succ, EReal.coe_add, coe_sum]
      simp only [w_shift]
      exact congrArg (fun s : EReal => _ + s) (sum_congr rfl fun r _ => exp_masked Q K h i _ _)
    · beta_reduce
      rw [ha d, ← EReal.coe_sub, Ideal.exp_coe, ← EReal.coe_mul, part_mul, part_succ, EReal.coe_add, coe_sum]
      simp only [mul_left_comm (Real.exp _), w_shift]
      exact congrArg (fun s : EReal => _ + s) (sum_congr rfl fun r _ => by rw [exp_masked, EReal.coe_mul])

theorem w_eq (μ : ℝ) (j : Fin 4096) : w Q K h i μ j = Real.exp (top Q K h i - μ) * e Q K h i j := by
  unfold w e
  split
  · rw [← Real.exp_add]
    congr 1
    ring
  · rw [mul_zero]

/-- After the tiles that hold the keys a query sees: its output and its log-sum. -/
theorem Held.final {n : ℕ} {m l : EReal} {acc : Fin 128 → EReal} (H : Held Q K V h i n m l acc) (h0 : n ≠ 0) (hn : n ≤ 8)
    (hj : ∀ j : Fin 4096, 512 * n ≤ j.val → ¬j ≤ i) :
    (∀ d, Ideal.div (acc d) l = (out Q K V h i d : ℝ)) ∧ m + Ideal.log l = (lse Q K h i : ℝ) := by
  rcases H with ⟨rfl, _⟩ | ⟨μ, rfl, rfl, ha⟩
  · exact absurd rfl h0
  have hc := Real.exp_pos (top Q K h i - μ)
  have hl := l_pos Q K h i
  have es : part (w Q K h i μ) n = Real.exp (top Q K h i - μ) * l Q K h i := by
    rw [part_of_zero (w Q K h i μ) n hn fun j hj' => if_neg (hj j hj'), l, mul_sum]
    exact sum_congr rfl fun j _ => w_eq Q K h i μ j
  have ea : ∀ d, part (fun j => V j h d * w Q K h i μ j) n = Real.exp (top Q K h i - μ) * (out Q K V h i d * l Q K h i) := fun d => by
    rw [part_of_zero _ n hn fun j hj' => by rw [w, if_neg (hj j hj'), mul_zero], out, sum_mul, mul_sum]
    refine sum_congr rfl fun j _ => ?_
    rw [w_eq, p]
    field_simp
  refine ⟨fun d => ?_, ?_⟩
  · rw [ha d, ea, es, div_real _ (mul_pos hc hl).ne', mul_div_mul_left _ _ hc.ne', mul_div_cancel_right₀ _ hl.ne']
  · rw [es, Ideal.log_coe, if_neg (not_le.mpr (mul_pos hc hl)), ← EReal.coe_add, Real.log_mul hc.ne' hl.ne', Real.log_exp, lse]
    congr 1
    ring

end Cert.Proof.Online

end
-- ==== Proof.Forward.IdealRun.lean ====
/- What the body of the attention's forward call does at a grid point. A point is a head and a tile of 512 queries; the body
   passes the head's keys in blocks of 512 rows (`rows`) and its values in blocks of 512 columns (`cols`), keeping for every
   query of the tile a maximum, a sum and a sum of values (`absorb`, `sweep`): four blocks a trip of the loop, then two and
   one more by the branches behind it, and last the tile's own block under the mask. -/
module

public import proofs.«01_k».proof.Proof.Gen.Kernel37Ideal.Skeleton
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.Proof.Kernel37Ideal

open Cert.Kernel37Ideal Cert.Kernel37Ideal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

/-! ## Offsets and conditions -/

/-- The tile of queries of a grid point. -/
abbrev qi (i : grid0.Coords) : ℕ := (i 1).val

theorem trips_loop : ∀ i : grid0.Coords, (k0_t1_loop i).trips = qi i / 4 := by decide +kernel
theorem trips_rest : ∀ i : grid0.Coords, (k0_t2_loop i).trips = 0 := by decide +kernel
theorem two_iff : ∀ i : grid0.Coords, k0_cond1 i = 1#1 ↔ 2 ≤ qi i % 4 := by decide +kernel
theorem one_iff : ∀ i : grid0.Coords, k0_cond2 i = 1#1 ↔ qi i % 2 = 1 := by decide +kernel

theorem trip_key : ∀ (i : grid0.Coords) (t : Fin (k0_t1_loop i).trips), k0_off1 i t = ![512 * (4 * t.val), 0] := by decide +kernel
theorem trip_key1 : ∀ (i : grid0.Coords) (t : Fin (k0_t1_loop i).trips), k0_off3 i t 1#32 = ![512 * (4 * t.val + 1), 0] := by decide +kernel
theorem trip_key2 : ∀ (i : grid0.Coords) (t : Fin (k0_t1_loop i).trips), k0_off3 i t 2#32 = ![512 * (4 * t.val + 2), 0] := by decide +kernel
theorem trip_key3 : ∀ (i : grid0.Coords) (t : Fin (k0_t1_loop i).trips), k0_off3 i t 3#32 = ![512 * (4 * t.val + 3), 0] := by decide +kernel
theorem trip_val : ∀ (i : grid0.Coords) (t : Fin (k0_t1_loop i).trips), k0_off2 i t = ![0, 512 * (4 * t.val)] := by decide +kernel
theorem trip_val1 : ∀ (i : grid0.Coords) (t : Fin (k0_t1_loop i).trips), k0_off4 i t 1#32 = ![0, 512 * (4 * t.val + 1)] := by decide +kernel
theorem trip_val2 : ∀ (i : grid0.Coords) (t : Fin (k0_t1_loop i).trips), k0_off4 i t 2#32 = ![0, 512 * (4 * t.val + 2)] := by decide +kernel
theorem trip_val3 : ∀ (i : grid0.Coords) (t : Fin (k0_t1_loop i).trips), k0_off4 i t 3#32 = ![0, 512 * (4 * t.val + 3)] := by decide +kernel
theorem two_key : ∀ i : grid0.Coords, k0_off9 i = ![512 * (4 * (qi i / 4)), 0] := by decide +kernel
theorem two_key1 : ∀ i : grid0.Coords, k0_off11 i = ![512 * (4 * (qi i / 4) + 1), 0] := by decide +kernel
theorem two_val : ∀ i : grid0.Coords, k0_off10 i = ![0, 512 * (4 * (qi i / 4))] := by decide +kernel
theorem two_val1 : ∀ i : grid0.Coords, k0_off12 i = ![0, 512 * (4 * (qi i / 4) + 1)] := by decide +kernel
theorem one_key : ∀ i : grid0.Coords, k0_cond2 i = 1#1 → k0_off13 i = ![512 * (qi i - 1), 0] := by decide +kernel
theorem one_val : ∀ i : grid0.Coords, k0_cond2 i = 1#1 → k0_off14 i = ![0, 512 * (qi i - 1)] := by decide +kernel
theorem own_key : ∀ i : grid0.Coords, k0_off15 i = ![512 * qi i, 0] := by decide +kernel
theorem own_val : ∀ i : grid0.Coords, k0_off16 i = ![0, 512 * qi i] := by decide +kernel

variable {F : FTy → Type} [FloatOps F] [Named F]

/-! ## Blocks of keys and values -/

/-- Rows `512 n` to `512 n + 511` of the keys. -/
def rows (K : Vec F S4096x128 .bf16) (n : ℕ) : Vec F S512x128 .bf16 :=
  fun y => K fun a => ⟨((![512 * n, 0] : Fin 2 → ℕ) a + (y a).val) % S4096x128.size a, Nat.mod_lt _ (by fin_cases a <;> decide)⟩

/-- Columns `512 n` to `512 n + 511` of the values. -/
def cols (V : Vec F S128x4096 .bf16) (n : ℕ) : Vec F S128x512 .bf16 :=
  fun y => V fun a => ⟨((![0, 512 * n] : Fin 2 → ℕ) a + (y a).val) % S128x4096.size a, Nat.mod_lt _ (by fin_cases a <;> decide)⟩

omit [FloatOps F] [Named F] in
/-- A load of a block of keys. -/
theorem load_rows (arg3 : Memref sig .tc .vmem S4096x128 .bf16) {f : arg3.view.ty.Contents (Elt F)} {off : Fin 2 → ℕ}
    (inb : ∀ a, off a + S512x128.size a ≤ S4096x128.size a) (n : ℕ)
    (h : off = ![512 * n, 0]) (K : Vec F S4096x128 .bf16) (hf : arg3.view.read (Elt F) f = K) :
    arg3.view.readAt (Elt F) (Rect.unit (s := S4096x128) off S512x128.size inb).toLoadRect f = rows K n := by
  subst h hf
  rw [View.readAt_unit _ _ inb rfl inb]
  funext y
  refine congrArg (arg3.view.read (Elt F) f) (funext fun a => Fin.ext ?_)
  have h1 := inb a
  have h2 : (y a).val < S512x128.size a := (y a).isLt
  show (![512 * n, 0] : Fin 2 → ℕ) a + 1 * (y a).val = _
  rw [one_mul]
  exact (Nat.mod_eq_of_lt (by omega)).symm

omit [FloatOps F] [Named F] in
/-- A load of a block of values. -/
theorem load_cols (arg4 : Memref sig .tc .vmem S128x4096 .bf16) {f : arg4.view.ty.Contents (Elt F)} {off : Fin 2 → ℕ}
    (inb : ∀ a, off a + S128x512.size a ≤ S128x4096.size a) (n : ℕ)
    (h : off = ![0, 512 * n]) (V : Vec F S128x4096 .bf16) (hf : arg4.view.read (Elt F) f = V) :
    arg4.view.readAt (Elt F) (Rect.unit (s := S128x4096) off S128x512.size inb).toLoadRect f = cols V n := by
  subst h hf
  rw [View.readAt_unit _ _ inb rfl inb]
  funext y
  refine congrArg (arg4.view.read (Elt F) f) (funext fun a => Fin.ext ?_)
  have h1 := inb a
  have h2 : (y a).val < S128x512.size a := (y a).isLt
  show (![0, 512 * n] : Fin 2 → ℕ) a + 1 * (y a).val = _
  rw [one_mul]
  exact (Nat.mod_eq_of_lt (by omega)).symm

/-! ## The step over one block -/

/-- A tile's running maximum, sum and sum of values after one more block. -/
def absorb (v1 : FVec F S512x128 .bf16) (k : Vec F S512x128 .bf16) (v : Vec F S128x512 .bf16)
    (s : FVec F S1x512 .f32 × FVec F S1x512 .f32 × FVec F S128x512 .f32) : FVec F S1x512 .f32 × FVec F S1x512 .f32 × FVec F S128x512 .f32 :=
  (k0_pay3 v1 s.1 k, k0_pay6 v1 s.1 s.2.1 k, k0_pay7 v1 s.1 s.2.2 k v)

/-- The three after the first `n` blocks. -/
def sweep (v1 : FVec F S512x128 .bf16) (K : Vec F S4096x128 .bf16) (V : Vec F S128x4096 .bf16) :
    ℕ → FVec F S1x512 .f32 × FVec F S1x512 .f32 × FVec F S128x512 .f32
  | 0 => (k0_pay46 (F := F), k0_pay47 (F := F), k0_pay48 (F := F))
  | n + 1 => absorb v1 (rows K n) (cols V n) (sweep v1 K V n)

/-! ## The parts of the body -/

local notation "𝕄" => MT nD τ sig Unit (Elt F) ℕ (UR sig nD τ) ℕ

variable (c : Dev nD) (i : grid0.Coords)
  (arg2 : Memref sig .tc .vmem S512x128 .bf16) (harg2 : arg2.IsWhole) (arg3 : Memref sig .tc .vmem S4096x128 .bf16) (harg3 : arg3.IsWhole)
  (arg4 : Memref sig .tc .vmem S128x4096 .bf16) (harg4 : arg4.IsWhole) (arg5 : Memref sig .tc .vmem S128x512 .f32) (harg5 : arg5.IsWhole)
  (arg6 : Memref sig .tc .vmem S1x1x512 .f32) (harg6 : arg6.IsWhole)
  (q : Vec F S512x128 .bf16) (K : Vec F S4096x128 .bf16) (V : Vec F S128x4096 .bf16)

/-- The keys' and the values' buffers, only read. -/
abbrev KV : sProp 𝕄 :=
  iprop(owns (c : Thread nD τ) arg3 fullShare K ∗ owns (c : Thread nD τ) arg4 fullShare V)

theorem trip (k : Fin (k0_t1_loop i).trips) (s : FVec F S1x512 .f32 × FVec F S1x512 .f32 × FVec F S128x512 .f32) :
    iprop(⌜s = sweep (k0_pay45 q) K V (4 * k.val)⌝ ∗ KV c arg3 arg4 K V)
      ⊢ wp frame (wpE (defs₀ (F := F)) Variants.none (c : Thread nD τ) none) Set.univ
          (k0_t1_body (F := F) i arg2 harg2 arg3 harg3 arg4 harg4 arg5 harg5 arg6 harg6 q k s)
          (fun s' => iprop(⌜s' = sweep (k0_pay45 q) K V (4 * (k.val + 1))⌝ ∗ KV c arg3 arg4 K V)) := by
  obtain ⟨m, l, a⟩ := s
  unfold k0_t1_body KV owns
  iintro ⟨%hs, ⟨%f3, %h3, H3⟩, ⟨%f4, %h4, H4⟩⟩
  sl_exec
  sl_step
  have r0 := load_rows arg3 (k0_off1_inb i k) (4 * k.val) (trip_key i k) K h3
  have r1 := load_rows arg3 (k0_off3_inb i k 0) (4 * k.val + 1) (trip_key1 i k) K h3
  have r2 := load_rows arg3 (k0_off3_inb i k 1) (4 * k.val + 2) (trip_key2 i k) K h3
  have r3 := load_rows arg3 (k0_off3_inb i k 2) (4 * k.val + 3) (trip_key3 i k) K h3
  have s0 := load_cols arg4 (k0_off2_inb i k) (4 * k.val) (trip_val i k) V h4
  have s1 := load_cols arg4 (k0_off4_inb i k 0) (4 * k.val + 1) (trip_val1 i k) V h4
  have s2 := load_cols arg4 (k0_off4_inb i k 1) (4 * k.val + 2) (trip_val2 i k) V h4
  have s3 := load_cols arg4 (k0_off4_inb i k 2) (4 * k.val + 3) (trip_val3 i k) V h4
  rw [show 4 * (k.val + 1) = 4 * k.val + 4 by omega]
  isplitr
  · ipureintro
    show _ = absorb (k0_pay45 q) (rows K (4 * k.val + 3)) (cols V (4 * k.val + 3)) (absorb (k0_pay45 q) (rows K (4 * k.val + 2)) (cols V (4 * k.val + 2))
      (absorb (k0_pay45 q) (rows K (4 * k.val + 1)) (cols V (4 * k.val + 1)) (absorb (k0_pay45 q) (rows K (4 * k.val)) (cols V (4 * k.val))
        (sweep (k0_pay45 q) K V (4 * k.val)))))
    rw [← hs, ← r0, ← r1, ← r2, ← r3, ← s0, ← s1, ← s2, ← s3]
    unfold absorb
    rfl
  isplitl [H3]
  · iexists f3; isplitr; · ipureintro; exact h3
    iexact H3
  · iexists f4; isplitr; · ipureintro; exact h4
    iexact H4

/-- The first part: the tile's queries read, and the loop. -/
theorem loop_sound :
    (iprop(owns (c : Thread nD τ) arg2 fullShare q ∗ KV c arg3 arg4 K V) : sProp 𝕄)
      ⊢ wp frame (wpE (defs₀ (F := F)) Variants.none (c : Thread nD τ) none) Set.univ
          (k0_part6 (F := F) i arg2 harg2 arg3 harg3 arg4 harg4 arg5 harg5 arg6 harg6)
          (fun r => iprop(⌜∃ v5 v30 v35 v36, r = ⟨BitVec.ofNat 32 (i 1).val, k0_pay45 q, v5, (sweep (k0_pay45 q) K V (4 * (qi i / 4))).1,
              (sweep (k0_pay45 q) K V (4 * (qi i / 4))).2.1, (sweep (k0_pay45 q) K V (4 * (qi i / 4))).2.2, 4#32, v30, v35, v36⟩⌝
            ∗ owns (c : Thread nD τ) arg2 fullShare q ∗ KV c arg3 arg4 K V)) := by
  have ht1 := trips_loop i
  have ht2 := trips_rest i
  rw [k0_part6_eq_skeleton]
  unfold k0_part6_skel
  iintro ⟨H2, H⟩
  unfold owns
  icases H2 with ⟨%f2, %h2, H2⟩
  have r2 := (View.readAt_full arg2.view f2 inb_S512x128_S512x128_0_0).trans h2
  sl_exec
  sl_for (fun k s => iprop(⌜s = sweep (k0_pay45 q) K V (4 * k)⌝ ∗ KV c arg3 arg4 K V)) $$ [H]
  · intro k s
    exact trip c i arg2 harg2 arg3 harg3 arg4 harg4 arg5 harg5 arg6 harg6 q K V k s
  · isplitr
    · ipureintro; rfl
    · iexact H
  iintro %s ⟨%hs, H⟩
  replace hs : s = sweep (k0_pay45 q) K V (4 * (k0_t1_loop i).trips) := hs
  rw [ht1] at hs
  obtain ⟨m, l, a⟩ := s
  rw [← hs]
  sl_exec
  sl_step
  isplitr
  · ipureintro; exact ⟨_, _, _, _, rfl⟩
  isplitl [H2]
  · iexists f2; isplitr; · ipureintro; exact h2
    iexact H2
  iexact H

/-- How many blocks the loop and the branch behind it pass: all but the last when the count is odd. -/
abbrev most : ℕ := 4 * (qi i / 4) + if 2 ≤ qi i % 4 then 2 else 0

theorem two_sound (v1 : FVec F S512x128 .bf16) (v5 z v30 v35 : BitVec 32) (v36 : BitVec 1) :
    KV c arg3 arg4 K V
      ⊢ wp frame (wpE (defs₀ (F := F)) Variants.none (c : Thread nD τ) none) Set.univ
          (k0_part7 (F := F) i arg2 harg2 arg3 harg3 arg4 harg4 arg5 harg5 arg6 harg6 v1 v5 (sweep v1 K V (4 * (qi i / 4))).1
            (sweep v1 K V (4 * (qi i / 4))).2.1 (sweep v1 K V (4 * (qi i / 4))).2.2 z v30 v35 v36)
          (fun r => iprop(⌜r = ⟨(sweep v1 K V (most i)).1, (sweep v1 K V (most i)).2.1, (sweep v1 K V (most i)).2.2⟩⌝ ∗ KV c arg3 arg4 K V)) := by
  rw [k0_part7_eq_skeleton]
  unfold k0_part7_skel
  by_cases hc : k0_cond1 i = 1#1
  · have hm := (two_iff i).mp hc
    have hn : most i = 4 * (qi i / 4) + 2 := by unfold most; rw [if_pos hm]
    rw [hn]
    unfold KV owns
    iintro ⟨⟨%f3, %h3, H3⟩, ⟨%f4, %h4, H4⟩⟩
    sl_exec
    sl_step
    have r0 := load_rows arg3 (k0_off9_inb i hc) (4 * (qi i / 4)) (two_key i) K h3
    have r1 := load_rows arg3 (k0_off11_inb i hc) (4 * (qi i / 4) + 1) (two_key1 i) K h3
    have s0 := load_cols arg4 (k0_off10_inb i hc) (4 * (qi i / 4)) (two_val i) V h4
    have s1 := load_cols arg4 (k0_off12_inb i hc) (4 * (qi i / 4) + 1) (two_val1 i) V h4
    isplitr
    · ipureintro
      have ha : sweep v1 K V (4 * (qi i / 4) + 2) = absorb v1 (rows K (4 * (qi i / 4) + 1)) (cols V (4 * (qi i / 4) + 1))
        (absorb v1 (rows K (4 * (qi i / 4))) (cols V (4 * (qi i / 4))) (sweep v1 K V (4 * (qi i / 4)))) := rfl
      rw [ha, ← r0, ← r1, ← s0, ← s1]
      unfold absorb
      rfl
    isplitl [H3]
    · iexists f3; isplitr; · ipureintro; exact h3
      iexact H3
    · iexists f4; isplitr; · ipureintro; exact h4
      iexact H4
  · have hm := mt (two_iff i).mpr hc
    have hn : most i = 4 * (qi i / 4) := by unfold most; rw [if_neg hm]; rfl
    rw [hn]
    iintro H
    sl_exec
    sl_step
    isplitr
    · ipureintro; rfl
    · iexact H

/-- The tile of the output a point leaves, -/
def outO : Vec F S128x512 .f32 :=
  k0_pay74 (BitVec.ofNat 32 (i 1).val) (k0_pay45 q) (sweep (k0_pay45 q) K V (qi i)).1 (sweep (k0_pay45 q) K V (qi i)).2.1
    (sweep (k0_pay45 q) K V (qi i)).2.2 (rows K (qi i)) (cols V (qi i))

/-- and of the logarithms of the sums. -/
def outLse : Vec F S1x1x512 .f32 :=
  k0_pay1 (k0_pay75 (BitVec.ofNat 32 (i 1).val) (k0_pay45 q) (sweep (k0_pay45 q) K V (qi i)).1 (sweep (k0_pay45 q) K V (qi i)).2.1
    (rows K (qi i)))

theorem own_sound (arg1 : BitVec 32) (v1 : FVec F S512x128 .bf16) (D : Vec F S128x512 .f32) :
    (iprop(KV c arg3 arg4 K V ∗ owns (c : Thread nD τ) arg5 fullShare D) : sProp 𝕄)
      ⊢ wp frame (wpE (defs₀ (F := F)) Variants.none (c : Thread nD τ) none) Set.univ
          (k0_part8 (F := F) i arg2 harg2 arg3 harg3 arg4 harg4 arg5 harg5 arg6 harg6 arg1 v1 (sweep v1 K V (most i)).1
            (sweep v1 K V (most i)).2.1 (sweep v1 K V (most i)).2.2)
          (fun r => iprop(⌜r = k0_pay75 arg1 v1 (sweep v1 K V (qi i)).1 (sweep v1 K V (qi i)).2.1 (rows K (qi i))⌝
            ∗ KV c arg3 arg4 K V ∗ owns (c : Thread nD τ) arg5 fullShare
              (k0_pay74 arg1 v1 (sweep v1 K V (qi i)).1 (sweep v1 K V (qi i)).2.1 (sweep v1 K V (qi i)).2.2 (rows K (qi i)) (cols V (qi i))))) := by
  have hq : qi i < 8 := (i 1).isLt
  rw [k0_part8_eq_skeleton]
  unfold k0_part8_skel KV owns
  iintro ⟨⟨⟨%f3, %h3, H3⟩, ⟨%f4, %h4, H4⟩⟩, ⟨%f5, %h5, H5⟩⟩
  have r1 := load_rows arg3 (k0_off15_inb i) (qi i) (own_key i) K h3
  have s1 := load_cols arg4 (k0_off16_inb i) (qi i) (own_val i) V h4
  by_cases hc : k0_cond2 i = 1#1
  · have hm := (one_iff i).mp hc
    have hn : most i = qi i - 1 := by unfold most; split <;> omega
    have hn' : qi i = qi i - 1 + 1 := by omega
    rw [hn]
    sl_exec
    sl_step
    have r0 := load_rows arg3 (k0_off13_inb i hc) (qi i - 1) (one_key i hc) K h3
    have s0 := load_cols arg4 (k0_off14_inb i hc) (qi i - 1) (one_val i hc) V h4
    have ha : sweep v1 K V (qi i) = absorb v1 (rows K (qi i - 1)) (cols V (qi i - 1)) (sweep v1 K V (qi i - 1)) := by
      conv_lhs => rw [hn']
      rfl
    isplitr
    · ipureintro
      rw [ha, ← r0, ← s0, ← r1]
      unfold absorb
      rfl
    isplitl [H3 H4]
    · isplitl [H3]
      · iexists f3; isplitr; · ipureintro; exact h3
        iexact H3
      · iexists f4; isplitr; · ipureintro; exact h4
        iexact H4
    · iexists _; isplitr; swap; · iexact H5
      ipureintro
      refine (View.read_writes_full arg5.view _ inb_S128x512_S128x512_0_0 _ _).trans ?_
      rw [ha, ← r0, ← s0, ← r1, ← s1]
      unfold absorb
      rfl
  · have hm := mt (one_iff i).mpr hc
    have hn : most i = qi i := by unfold most; split <;> omega
    rw [hn]
    sl_exec
    sl_step
    isplitr
    · ipureintro
      rw [← r1]
    isplitl [H3 H4]
    · isplitl [H3]
      · iexists f3; isplitr; · ipureintro; exact h3
        iexact H3
      · iexists f4; isplitr; · ipureintro; exact h4
        iexact H4
    · iexists _; isplitr; swap; · iexact H5
      ipureintro
      refine (View.read_writes_full arg5.view _ inb_S128x512_S128x512_0_0 _ _).trans ?_
      rw [← r1, ← s1]

theorem body_sound (D : Vec F S128x512 .f32) (D' : Vec F S1x1x512 .f32) :
    (iprop(owns (c : Thread nD τ) arg2 fullShare q ∗ owns (c : Thread nD τ) arg3 fullShare K ∗ owns (c : Thread nD τ) arg4 fullShare V
        ∗ owns (c : Thread nD τ) arg5 fullShare D ∗ owns (c : Thread nD τ) arg6 fullShare D') : sProp 𝕄)
      ⊢ wp frame (wpE (defs₀ (F := F)) Variants.none (c : Thread nD τ) none) Set.univ
          (cc0_attn_fwd (F := F) i arg2 harg2 arg3 harg3 arg4 harg4 arg5 harg5 arg6 harg6)
          (fun _ => iprop(owns (c : Thread nD τ) arg2 fullShare q ∗ owns (c : Thread nD τ) arg3 fullShare K ∗ owns (c : Thread nD τ) arg4 fullShare V
            ∗ owns (c : Thread nD τ) arg5 fullShare (outO i q K V) ∗ owns (c : Thread nD τ) arg6 fullShare (outLse i q K V))) := by
  rw [cc0_attn_fwd_eq_skeleton]
  unfold cc0_attn_fwd_skel
  rw [wp_bind]
  iintro ⟨H2, H3, H4, H5, H6⟩
  iapply (wp_wand frame (wpE (defs₀ (F := F)) Variants.none (c : Thread nD τ) none) Set.univ) $$ [H2 H3 H4]
  · iapply (loop_sound c i arg2 harg2 arg3 harg3 arg4 harg4 arg5 harg5 arg6 harg6 q K V)
    isplitl [H2]; · iexact H2
    isplitl [H3]; · iexact H3
    iexact H4
  iintro %r ⟨%hr, H2, H⟩
  obtain ⟨v5, v30, v35, v36, rfl⟩ := hr
  dsimp only
  rw [wp_bind]
  iapply (wp_wand frame (wpE (defs₀ (F := F)) Variants.none (c : Thread nD τ) none) Set.univ) $$ [H]
  · iapply (two_sound c i arg2 harg2 arg3 harg3 arg4 harg4 arg5 harg5 arg6 harg6 K V (k0_pay45 q) v5 4#32 v30 v35 v36)
    iexact H
  iintro %r ⟨%hr, H⟩
  subst hr
  dsimp only
  rw [wp_bind]
  iapply (wp_wand frame (wpE (defs₀ (F := F)) Variants.none (c : Thread nD τ) none) Set.univ) $$ [H H5]
  · iapply (own_sound c i arg2 harg2 arg3 harg3 arg4 harg4 arg5 harg5 arg6 harg6 K V (BitVec.ofNat 32 (i 1).val) (k0_pay45 q) D)
    isplitl [H]; · iexact H
    iexact H5
  iintro %r ⟨%hr, ⟨H3, H4⟩, H5⟩
  subst hr
  unfold owns
  icases H6 with ⟨%f6, %h6, H6⟩
  sl_exec
  sl_step
  isplitl [H2]; · iexact H2
  isplitl [H3]; · iexact H3
  isplitl [H4]; · iexact H4
  isplitl [H5]; · iexact H5
  iexists _; isplitr; swap; · iexact H6
  ipureintro; exact View.read_writes_full arg6.view _ inb_S1x1x512_S1x1x512_0_0_0 _ _

end Cert.Proof.Kernel37Ideal

end
-- ==== Proof.Value.FwdTiles.lean ====
/- What a grid point of the attention's forward call computes at real arguments: after each block of keys the tile holds a
   height, a sum of weights and a sum of weighted values; at its own block the outputs and their log-sums. -/
module

public import proofs.«01_k».proof.Proof.Value.Online
public import proofs.«01_k».proof.Proof.Forward.IdealRun
public import Idealize.ShloMosaic.Lib.IdealHost

@[expose] public section

set_option maxRecDepth 16384

noncomputable section

namespace Cert.Proof.Forward

open Cert.Kernel37Ideal Cert.Kernel37Ideal.Gen
open Idealize.ShloMosaic
open Cert.Proof.Attn Cert.Proof.Ref Cert.Proof.Online
open Cert.Proof.Kernel37Ideal

variable (Q K V : Arr) (h : Fin 8) (a b : ℕ)

/-- A tile's rows of a head, positions down. -/
def down (X : Arr) : FVec Ideal S512x128 .bf16 := fun y => ((X (pos a (y 0)) h (y 1) : ℝ) : EReal)
/-- A tile's rows of a head, positions across. -/
def across (X : Arr) : FVec Ideal S128x512 .bf16 := fun y => ((X (pos a (y 1)) h (y 0) : ℝ) : EReal)
/-- A head's rows, positions down. -/
def tall (X : Arr) : Vec Ideal S4096x128 .bf16 := fun y => ((X (y 0) h (y 1) : ℝ) : EReal)
/-- A head's rows, positions across. -/
def wide (X : Arr) : Vec Ideal S128x4096 .bf16 := fun y => ((X (y 1) h (y 0) : ℝ) : EReal)
/-- The masked scores of a pair of tiles, keys down and queries across. -/
def seen : FVec Ideal S512x512 .f32 := fun y => masked Q K h (pos a (y 1)) (pos b (y 0))

theorem rows_eq (X : Arr) (n : ℕ) : rows (tall h X) n = down h n X := by
  funext y
  have h1 : (y 1).val < 128 := (y 1).isLt
  show ((X ⟨(512 * n + (y 0).val) % 4096, _⟩ h ⟨(0 + (y 1).val) % 128, _⟩ : ℝ) : EReal) = ((X (pos n (y 0)) h (y 1) : ℝ) : EReal)
  have e : (⟨(0 + (y 1).val) % 128, Nat.mod_lt _ (by decide)⟩ : Fin 128) = y 1 := Fin.ext (by show (0 + (y 1).val) % 128 = (y 1).val; omega)
  exact congrArg (fun d : Fin 128 => ((X (pos n (y 0)) h d : ℝ) : EReal)) e

theorem cols_eq (X : Arr) (n : ℕ) : cols (wide h X) n = across h n X := by
  funext y
  have h1 : (y 0).val < 128 := (y 0).isLt
  show ((X ⟨(512 * n + (y 1).val) % 4096, _⟩ h ⟨(0 + (y 0).val) % 128, _⟩ : ℝ) : EReal) = ((X (pos n (y 1)) h (y 0) : ℝ) : EReal)
  have e : (⟨(0 + (y 0).val) % 128, Nat.mod_lt _ (by decide)⟩ : Fin 128) = y 0 := Fin.ext (by show (0 + (y 0).val) % 128 = (y 0).val; omega)
  exact congrArg (fun d : Fin 128 => ((X (pos n (y 1)) h d : ℝ) : EReal)) e

theorem pay45_eq (X : FVec Ideal S512x128 .bf16) : k0_pay45 X = X := by
  funext y; idx_vars y; pointwise [k0_pay45]

/-! ## The steps read at an index -/

section Read

variable (m l : FVec Ideal S1x512 .f32) (s : FVec Ideal S128x512 .f32) (v : FVec Ideal S128x512 .bf16) (u : Fin 1) (r c : Fin 512) (d : Fin 128)

theorem max_read (X : FVec Ideal S512x512 .f32) :
    maximumf m (shapeCast S1x512 (multiReduction .maximumf [0] S512 X 0xFF800000#32 reduces_S512x512_S512 (.inl rfl) rfl) shapeCasts_S512_S1x512) (ix2 u r)
      = max (m (ix2 u r)) (Finset.univ.fold max ⊥ fun c => X (ix2 c r)) := by
  rw [← neg_inf]
  pointwise []

theorem weight_read (X : FVec Ideal S512x512 .f32) (M : FVec Ideal S1x512 .f32) :
    exp (subf X (broadcastTo S512x512 M broadcasts_S1x512_S512x512)) (ix2 c r) = Ideal.exp (X (ix2 c r) - M (ix2 0 r)) := by
  pointwise []

theorem ratio_read (M : FVec Ideal S1x512 .f32) : exp (subf m M) (ix2 u r) = Ideal.exp (m (ix2 u r) - M (ix2 u r)) := by
  pointwise []

theorem sum_read (R : FVec Ideal S1x512 .f32) (W : FVec Ideal S512x512 .f32) :
    addf (mulf R l) (shapeCast S1x512 (multiReduction .add [0] S512 W 0x00000000#32 reduces_S512x512_S512 (.inl rfl) rfl) shapeCasts_S512_S1x512) (ix2 u r)
      = R (ix2 u r) * l (ix2 u r) + ∑ c, W (ix2 c r) := by
  pointwise []

theorem value_read (R : FVec Ideal S1x512 .f32) (W : FVec Ideal S512x512 .f32) :
    addf (mulf (broadcastTo S128x512 R broadcasts_S1x512_S128x512) s) (matmul dot_S128x512_S512x512_S128x512_1_0_0_1_n_n none
      (shapeCast S128x512 v shapeCasts_S128x512_S128x512) (truncf .bf16 W bitsLt_bf16_f32) (constant S128x512 .f32 0x00000000#32)) (ix2 d r)
      = R (ix2 0 r) * s (ix2 d r) + ∑ c, v (ix2 d c) * W (ix2 c r) := by
  pointwise []

end Read

/-! ## The scores -/

theorem score_sum (r c : Fin 512) :
    ∑ d, down h b K (ix2 c d) * down h a Q (ix2 r d) = ((score Q K h (pos a r) (pos b c) : ℝ) : EReal) := by
  unfold score
  rw [coe_sum]
  refine Finset.sum_congr rfl fun d _ => ?_
  rw [mul_comm, EReal.coe_mul]
  rfl

/-- Keys before the tile of queries are seen by each of them. -/
theorem before {a b : ℕ} (ha : a < 8) (hb : b < a) (r c : Fin 512) : pos b c ≤ pos a r := by
  rw [Fin.le_def, pos_val ha, pos_val (hb.trans ha)]; omega

theorem pay2_eq (ha : a < 8) (hb : b < a) : k0_pay2 (down h a Q) (down h b K) = seen Q K h a b := by
  funext y; idx_vars y; pointwise [k0_pay2]
  rw [score_sum]
  exact (if_pos (before ha hb y1 y0)).symm

theorem place_word {a : ℕ} (ha : a < 8) (r : Fin 512) :
    IntOp.addi (IntOp.muli (BitVec.ofNat 32 a) 512#32) (BitVec.ofNat 32 r.val) = BitVec.ofNat 32 (pos a r).val := by
  rw [pos_val ha]
  apply BitVec.eq_of_toNat_eq
  simp only [IntOp.addi, IntOp.muli, BitVec.toNat_add, BitVec.toNat_mul, BitVec.toNat_ofNat]
  omega

theorem mask : Named.named (F := Ideal) Cert.Kernel37Ideal.κ "mask" (φ := .f32) 0xF149F2CA#32 = (⊥ : EReal) :=
  IdealRules.named_const.ideal_named_scalar _ _ _ _ rfl

theorem pay69_eq (ha : a < 8) : k0_pay69 (BitVec.ofNat 32 a) (down h a Q) (down h a K) = seen Q K h a a := by
  funext y; idx_vars y; pointwise [k0_pay69]
  rw [score_sum, mask]
  show Scalar.select (IntOp.cmpi .sle (IntOp.addi (IntOp.muli (BitVec.ofNat 32 a) 512#32) (BitVec.ofNat 32 y0.val))
    (IntOp.addi (IntOp.muli (BitVec.ofNat 32 a) 512#32) (BitVec.ofNat 32 y1.val))) _ _ = masked Q K h (pos a y1) (pos a y0)
  rw [place_word ha, place_word ha, sle_word (pos a y0).isLt (pos a y1).isLt]
  unfold masked
  by_cases hj : pos a y0 ≤ pos a y1
  · rw [decide_eq_true (show (pos a y0).val ≤ (pos a y1).val from hj), if_pos hj]
    rfl
  · rw [decide_eq_false (show ¬(pos a y0).val ≤ (pos a y1).val from hj), if_neg hj]
    rfl

/-! ## The blocks in order -/

/-- What query `r` of the tile holds in the three arrays. -/
def Holds (n : ℕ) (r : Fin 512) (s : FVec Ideal S1x512 .f32 × FVec Ideal S1x512 .f32 × FVec Ideal S128x512 .f32) : Prop :=
  Held Q K V h (pos a r) n (s.1 (ix2 0 r)) (s.2.1 (ix2 0 r)) (fun d => s.2.2 (ix2 d r))

theorem holds_start (r : Fin 512) : Holds Q K V h a 0 r (k0_pay46 (F := Ideal), k0_pay47 (F := Ideal), k0_pay48 (F := Ideal)) := by
  refine Or.inl ⟨rfl, ?_, ?_, fun d => ?_⟩
  · pointwise [k0_pay46]
    exact mask
  · pointwise [k0_pay47]
  · pointwise [k0_pay48]

/-- The three arrays after a block of masked scores `X`. -/
def advance (X : FVec Ideal S512x512 .f32) (v : FVec Ideal S128x512 .bf16) (s : FVec Ideal S1x512 .f32 × FVec Ideal S1x512 .f32 × FVec Ideal S128x512 .f32)
    (M : FVec Ideal S1x512 .f32) : FVec Ideal S1x512 .f32 × FVec Ideal S1x512 .f32 × FVec Ideal S128x512 .f32 :=
  (M, addf (mulf (exp (subf s.1 M)) s.2.1) (shapeCast S1x512 (multiReduction .add [0] S512 (exp (subf X (broadcastTo S512x512 M broadcasts_S1x512_S512x512)))
      0x00000000#32 reduces_S512x512_S512 (.inl rfl) rfl) shapeCasts_S512_S1x512),
    addf (mulf (broadcastTo S128x512 (exp (subf s.1 M)) broadcasts_S1x512_S128x512) s.2.2) (matmul dot_S128x512_S512x512_S128x512_1_0_0_1_n_n none
      (shapeCast S128x512 v shapeCasts_S128x512_S128x512) (truncf .bf16 (exp (subf X (broadcastTo S512x512 M broadcasts_S1x512_S512x512))) bitsLt_bf16_f32)
      (constant S128x512 .f32 0x00000000#32)))

/-- The new heights. -/
def highest (X : FVec Ideal S512x512 .f32) (m : FVec Ideal S1x512 .f32) : FVec Ideal S1x512 .f32 :=
  maximumf m (shapeCast S1x512 (multiReduction .maximumf [0] S512 X 0xFF800000#32 reduces_S512x512_S512 (.inl rfl) rfl) shapeCasts_S512_S1x512)

theorem holds_advance {n : ℕ} (r : Fin 512) (s : FVec Ideal S1x512 .f32 × FVec Ideal S1x512 .f32 × FVec Ideal S128x512 .f32)
    (H : Holds Q K V h a n r s) (hv : ∃ c, pos n c ≤ pos a r) :
    Holds Q K V h a (n + 1) r (advance (seen Q K h a n) (across h n V) s (highest (seen Q K h a n) s.1)) := by
  have hM : highest (seen Q K h a n) s.1 (ix2 0 r) = _ := max_read s.1 0 r (seen Q K h a n)
  generalize highest (seen Q K h a n) s.1 = M at hM ⊢
  have E := Held.step Q K V h (pos a r) H hv _ hM
  have el := sum_read s.2.1 0 r (exp (subf s.1 M)) (exp (subf (seen Q K h a n) (broadcastTo S512x512 M broadcasts_S1x512_S512x512)))
  have ea := fun d => value_read s.2.2 (across h n V) r d (exp (subf s.1 M)) (exp (subf (seen Q K h a n) (broadcastTo S512x512 M broadcasts_S1x512_S512x512)))
  simp only [weight_read, ratio_read] at el ea
  unfold Holds advance
  dsimp only
  rw [el, funext ea]
  exact E

theorem holds_absorb (ha : a < 8) {n : ℕ} (hn : n < a) (r : Fin 512)
    (s : FVec Ideal S1x512 .f32 × FVec Ideal S1x512 .f32 × FVec Ideal S128x512 .f32) (H : Holds Q K V h a n r s) :
    Holds Q K V h a (n + 1) r (absorb (down h a Q) (down h n K) (across h n V) s) := by
  have e : absorb (down h a Q) (down h n K) (across h n V) s
      = advance (k0_pay2 (down h a Q) (down h n K)) (across h n V) s (highest (k0_pay2 (down h a Q) (down h n K)) s.1) := rfl
  rw [e, pay2_eq Q K h a n ha hn]
  exact holds_advance Q K V h a r s H ⟨0, before ha hn r 0⟩

theorem sweep_holds (ha : a < 8) (r : Fin 512) (n : ℕ) (hn : n ≤ a) : Holds Q K V h a n r (sweep (down h a Q) (tall h K) (wide h V) n) := by
  induction n with
  | zero => exact holds_start Q K V h a r
  | succ n ih =>
    show Holds Q K V h a (n + 1) r (absorb (down h a Q) (rows (tall h K) n) (cols (wide h V) n) (sweep (down h a Q) (tall h K) (wide h V) n))
    rw [rows_eq, cols_eq]
    exact holds_absorb Q K V h a ha hn r _ (ih (by omega))

/-- The three after the tile's own block, under the mask. -/
def own (s : FVec Ideal S1x512 .f32 × FVec Ideal S1x512 .f32 × FVec Ideal S128x512 .f32) :
    FVec Ideal S1x512 .f32 × FVec Ideal S1x512 .f32 × FVec Ideal S128x512 .f32 :=
  advance (seen Q K h a a) (across h a V) s (highest (seen Q K h a a) s.1)

theorem quotient_read (x : FVec Ideal S128x512 .f32) (l : FVec Ideal S1x512 .f32) (d : Fin 128) (r : Fin 512) :
    divf x (broadcastTo S128x512 l broadcasts_S1x512_S128x512) (ix2 d r) = Ideal.div (x (ix2 d r)) (l (ix2 0 r)) := by
  pointwise []

theorem log_read (m l : FVec Ideal S1x512 .f32) (u v : Fin 1) (r : Fin 512) :
    k0_pay1 (addf m (log l)) (ix3 u v r) = m (ix2 0 r) + Ideal.log (l (ix2 0 r)) := by
  pointwise [k0_pay1]

/-- A tile of queries sees no key of a later tile. -/
theorem unseen {a : ℕ} (ha : a < 8) (j : Fin 4096) (hj : 512 * (a + 1) ≤ j.val) (r : Fin 512) : ¬j ≤ pos a r := by
  rw [Fin.le_def, pos_val ha]; omega

theorem last (ha : a < 8) (r : Fin 512) : Holds Q K V h a (a + 1) r (own Q K V h a (sweep (down h a Q) (tall h K) (wide h V) a)) :=
  holds_advance Q K V h a r _ (sweep_holds Q K V h a ha r a le_rfl) ⟨r, le_rfl⟩

/-- The tile's outputs. -/
theorem outO_apply (i : grid0.Coords) (hi : qi i = a) (ha : a < 8) (d : Fin 128) (r : Fin 512) :
    outO i (down h a Q) (tall h K) (wide h V) (ix2 d r) = ((out Q K V h (pos a r) d : ℝ) : EReal) := by
  have hi' : BitVec.ofNat 32 (i 1).val = BitVec.ofNat 32 a := congrArg _ hi
  have H := (Held.final Q K V h (pos a r) (last Q K V h a ha r) (Nat.succ_ne_zero a) (by omega) fun j hj => unseen ha j hj r).1 d
  unfold outO
  rw [hi, hi', pay45_eq, rows_eq, cols_eq]
  generalize sweep (down h a Q) (tall h K) (wide h V) a = s at H ⊢
  have e : k0_pay74 (BitVec.ofNat 32 a) (down h a Q) s.1 s.2.1 s.2.2 (down h a K) (across h a V)
      = (fun X : FVec Ideal S512x512 .f32 => divf (advance X (across h a V) s (highest X s.1)).2.2
          (broadcastTo S128x512 (advance X (across h a V) s (highest X s.1)).2.1 broadcasts_S1x512_S128x512))
        (k0_pay69 (BitVec.ofNat 32 a) (down h a Q) (down h a K)) := rfl
  rw [e, pay69_eq Q K h a ha]
  exact (quotient_read _ _ d r).trans H

/-- The tile's log-sums. -/
theorem outLse_apply (i : grid0.Coords) (hi : qi i = a) (ha : a < 8) (u v : Fin 1) (r : Fin 512) :
    outLse i (down h a Q) (tall h K) (wide h V) (ix3 u v r) = ((lse Q K h (pos a r) : ℝ) : EReal) := by
  have hi' : BitVec.ofNat 32 (i 1).val = BitVec.ofNat 32 a := congrArg _ hi
  have H := (Held.final Q K V h (pos a r) (last Q K V h a ha r) (Nat.succ_ne_zero a) (by omega) fun j hj => unseen ha j hj r).2
  unfold outLse
  rw [hi, hi', pay45_eq, rows_eq]
  generalize sweep (down h a Q) (tall h K) (wide h V) a = s at H ⊢
  have e : k0_pay75 (BitVec.ofNat 32 a) (down h a Q) s.1 s.2.1 (down h a K)
      = (fun X : FVec Ideal S512x512 .f32 => addf (highest X s.1) (log (advance X (across h a V) s (highest X s.1)).2.1))
        (k0_pay69 (BitVec.ofNat 32 a) (down h a Q) (down h a K)) := rfl
  rw [e, pay69_eq Q K h a ha]
  exact (log_read _ _ u v r).trans H

end Cert.Proof.Forward

end
-- ==== Proof.Forward.IdealFrame.lean ====
/- The forward call's proof data — what each staging buffer holds point by point — the body's obligation at them, and the
   run of the program: it ends with its arguments as launched and every counter at zero. -/
module

public import proofs.«01_k».proof.Proof.Gen.Kernel37Ideal.Frame
public import proofs.«01_k».proof.Proof.Forward.IdealRun

@[expose] public section

set_option maxRecDepth 16384

noncomputable section

namespace Cert.Proof.Kernel37Ideal

open Cert.Kernel37Ideal Cert.Kernel37Ideal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

def qBlk (c : Dev nD) (t : Fin cfg0.N) : Vec F S512x128 .bf16 := iblk m c 0 t
def kBlk (c : Dev nD) (t : Fin cfg0.N) : Vec F S4096x128 .bf16 := iblk m c 1 t
def vBlk (c : Dev nD) (t : Fin cfg0.N) : Vec F S128x4096 .bf16 := iblk m c 2 t

/-- The tile of the output point `t` leaves, and of the logarithms. -/
def oBlk (c : Dev nD) (t : Fin cfg0.N) : Vec F S128x512 .f32 := outO (grid0.coords t) (qBlk m c t) (kBlk m c t) (vBlk m c t)
def lseBlk (c : Dev nD) (t : Fin cfg0.N) : Vec F S1x1x512 .f32 := outLse (grid0.coords t) (qBlk m c t) (kBlk m c t) (vBlk m c t)

def dats (_ : Fin 1) (c : Dev nD) : Dat τ (Elt F) Unit ℕ (UR sig nD τ) ℕ cfg0 c where
  A w := V m c (Pipeline.arrRef spec0 w)
  after w t := match w with
    | ⟨0, _⟩ => qBlk m c t
    | ⟨1, _⟩ => kBlk m c t
    | ⟨2, _⟩ => vBlk m c t
    | ⟨3, _⟩ => oBlk m c t
    | ⟨4, _⟩ => lseBlk m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = qBlk m c t := by dsimp only [dats]
theorem after_1 (c : Dev nD) (t : Fin cfg0.N) : (dats m 0 c).after 1 t = kBlk m c t := by dsimp only [dats]
theorem after_2 (c : Dev nD) (t : Fin cfg0.N) : (dats m 0 c).after 2 t = vBlk m c t := by dsimp only [dats]
theorem after_3 (c : Dev nD) (t : Fin cfg0.N) : (dats m 0 c).after 3 t = oBlk m c t := by dsimp only [dats]
theorem after_4 (c : Dev nD) (t : Fin cfg0.N) : (dats m 0 c).after 4 t = lseBlk m c t := by dsimp only [dats]

theorem before_0 (c : Dev nD) (t : Fin cfg0.N) (d) : (dats m 0 c).before 0 t d = qBlk m c t := before0_0_of m (dats m 0 c) (A_eq m c 0) (after_0 m c) t d
theorem before_1 (c : Dev nD) (t : Fin cfg0.N) (d) : (dats m 0 c).before 1 t d = kBlk m c t := before0_1_of m (dats m 0 c) (A_eq m c 1) (after_1 m c) t d
theorem before_2 (c : Dev nD) (t : Fin cfg0.N) (d) : (dats m 0 c).before 2 t d = vBlk m c t := before0_2_of m (dats m 0 c) (A_eq m c 2) (after_2 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    after_0 m c t, after_1 m c t, after_2 m c t, after_3 m c t, after_4 m c t]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2]
  iapply (wp_wand frame (wpE (defs₀ (F := F)) Variants.none (c : Thread nD τ) none) Set.univ) $$ [H0 H1 H2 H3 H4]
  · iapply (body_sound c (grid0.coords t) _ _ _ _ _ _ _ _ _ _ (qBlk m c t) (kBlk m c t) (vBlk m c t)
      ((dats m 0 c).before 3 t d3) ((dats m 0 c).before 4 t d4))
    isplitl [H0]; · iexact H0
    isplitl [H1]; · iexact H1
    isplitl [H2]; · iexact H2
    isplitl [H3]; · iexact H3
    iexact H4
  iintro %r ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  have kept (b : Ref sig .tc) (hb : b ∈ Pipeline.restRefs sig spec0) (hV : V m c b = m ((c : Thread nD τ).loc b)) :
      r.2.mem ((c.tc : Thread nD τ).loc b) = m ((c.tc : Thread nD τ).loc b) := ((h c).2 b hb).trans hV
  ⟨kept main_arg0 (Pipeline.mem_restRefs_of main_arg0 (by decide) (by decide)) (V_main_arg0 m c),
    kept main_arg1 (Pipeline.mem_restRefs_of main_arg1 (by decide) (by decide)) (V_main_arg1 m c),
    kept main_arg2 (Pipeline.mem_restRefs_of main_arg2 (by decide) (by decide)) (V_main_arg2 m c)⟩

/-- The frame, with every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨args_kept m r h.1, h.2⟩) (run_main m ρ)

end Cert.Proof.Kernel37Ideal

end
-- ==== Proof.Value.FwdArrays.lean ====
/- The forward call at real arguments: what the lines before it hand a grid point, and its two result arrays. -/
module

public import proofs.«01_k».proof.Proof.Value.FwdTiles
public import proofs.«01_k».proof.Proof.Value.Final
public import proofs.«01_k».proof.Proof.Forward.IdealFrame
public import Idealize.ShloMosaic.Lib.Claim
public import Idealize.ShloMosaic.Lib.Pipeline.ValueKit

@[expose] public section

set_option maxRecDepth 16384

noncomputable section

namespace Cert.Proof.Forward

open Cert.Kernel37Ideal Cert.Kernel37Ideal.Gen
open Idealize.ShloMosaic Idealize.ShloMosaic.TcCoe
open Idealize.ShloMosaic.Pipeline (Dat Cfg Window)
open Cert.Proof.Attn Cert.Proof.Ref
open Cert.Proof.Kernel37Ideal
open Cert.Proof.Sweep (byCol byCol_col)

variable (m : (ℓ : Loc nD τ sig) → Buf (Elt Ideal) ℓ) (c : Dev nD) (Q K V : Arr)

/-! ## The lines before the call -/

theorem host_q : Gen.V m c main_v1 = truncf (F := Ideal) (φ := .f32) .bf16 (shapeCast S4096x1024 (m ((c : Thread nD τ).loc main_arg0)) shapeCasts_S4096x8x128_S4096x1024) bitsLt_bf16_f32 := by
  unfold Gen.V
  simp only [hostOps0]
  entry_read
  rfl
theorem host_k : Gen.V m c main_v3 = truncf (F := Ideal) (φ := .f32) .bf16 (shapeCast S4096x1024 (m ((c : Thread nD τ).loc main_arg1)) shapeCasts_S4096x8x128_S4096x1024) bitsLt_bf16_f32 := by
  unfold Gen.V
  simp only [hostOps0]
  entry_read
  rfl
theorem host_v : Gen.V m c main_v6 = truncf (F := Ideal) (φ := .f32) .bf16 (transpose S1024x4096 [1, 0]
    (shapeCast S4096x1024 (m ((c : Thread nD τ).loc main_arg2)) shapeCasts_S4096x8x128_S4096x1024) transposes_S4096x1024_S1024x4096_1_0) bitsLt_bf16_f32 := by
  unfold Gen.V
  simp only [hostOps0]
  entry_read
  rfl

section
variable (h : Fin 8) (i : Fin 4096) (d : Fin 128)

theorem flatten_eq (X : Arr) : shapeCast S4096x1024 (up X) shapeCasts_S4096x8x128_S4096x1024 (ix2 i (col h d)) = ((X i h d : ℝ) : EReal) := by
  pointwise []
  have e1 : (⟨(col h d).val / 128, by omega⟩ : Fin 8) = h := Fin.ext (by show (128 * h.val + d.val) / 128 = h.val; omega)
  have e2 : (⟨(col h d).val % 128, by omega⟩ : Fin 128) = d := Fin.ext (by show (128 * h.val + d.val) % 128 = d.val; omega)
  show ((X i ⟨(col h d).val / 128, _⟩ ⟨(col h d).val % 128, _⟩ : ℝ) : EReal) = _
  rw [e1, e2]

theorem across_eq (x : FVec Ideal S4096x1024 .f32) (n : Fin 1024) :
    transpose S1024x4096 [1, 0] x transposes_S4096x1024_S1024x4096_1_0 (ix2 n i) = x (ix2 i n) := by
  pointwise []

theorem entry_q (e : m ((c : Thread nD τ).loc main_arg0) = up Q) : Gen.V m c main_v1 (ix2 i (col h d)) = ((Q i h d : ℝ) : EReal) := by
  rw [host_q, e]; exact flatten_eq h i d Q
theorem entry_k (e : m ((c : Thread nD τ).loc main_arg1) = up K) : Gen.V m c main_v3 (ix2 i (col h d)) = ((K i h d : ℝ) : EReal) := by
  rw [host_k, e]; exact flatten_eq h i d K
theorem entry_v (e : m ((c : Thread nD τ).loc main_arg2) = up V) : Gen.V m c main_v6 (ix2 (col h d) i) = ((V i h d : ℝ) : EReal) := by
  rw [host_v, e]; exact (across_eq i _ _).trans (flatten_eq h i d V)
end

/-! ## The blocks -/

theorem idx_0 : ∀ t, win0_0.index t = ![t.val % 8, t.val / 8] := by decide +kernel
theorem idx_1 : ∀ t, win0_1.index t = ![0, t.val / 8] := by decide +kernel
theorem idx_2 : ∀ t, win0_2.index t = ![t.val / 8, 0] := by decide +kernel
theorem idx_3 : ∀ t, win0_3.index t = ![t.val / 8, t.val % 8] := by decide +kernel
theorem idx_4 : ∀ t, win0_4.index t = ![t.val / 8, 0, t.val % 8] := by decide +kernel
theorem qi_coords : ∀ t : Fin cfg0.N, qi (grid0.coords t) = t.val % 8 := by decide +kernel

/-- The head of a point. -/
def head (t : Fin cfg0.N) : Fin 8 := ⟨t.val / 8, by have := t.isLt.trans_eq N_0; omega⟩

/-- The arguments are real. -/
structure Args : Prop where
  q : m ((c : Thread nD τ).loc main_arg0) = up Q
  k : m ((c : Thread nD τ).loc main_arg1) = up K
  v : m ((c : Thread nD τ).loc main_arg2) = up V

variable {m c Q K V} (hR : Args m c Q K V) (t : Fin cfg0.N)
include hR

theorem qBlk_eq : qBlk m c t = down (head t) (t.val % 8) Q := by
  funext y
  rw [eq_ix2 y]
  refine Eq.trans ?_ (entry_q m c Q (head t) (pos (t.val % 8) (y 0)) (y 1) hR.q)
  unfold qBlk
  blk_ext [iblk, idx_0 t, head, col, pos]
theorem kBlk_eq : kBlk m c t = tall (head t) K := by
  funext y
  rw [eq_ix2 y]
  refine Eq.trans ?_ (entry_k m c K (head t) (y 0) (y 1) hR.k)
  unfold kBlk
  blk_ext [iblk, idx_1 t, head, col]
theorem vBlk_eq : vBlk m c t = wide (head t) V := by
  funext y
  rw [eq_ix2 y]
  refine Eq.trans ?_ (entry_v m c V (head t) (y 1) (y 0) hR.v)
  unfold vBlk
  blk_ext [iblk, idx_2 t, head, col]

theorem oBlk_apply (d : Fin 128) (r : Fin 512) : oBlk m c t (ix2 d r) = ((out Q K V (head t) (pos (t.val % 8) r) d : ℝ) : EReal) := by
  unfold oBlk
  rw [qBlk_eq hR, kBlk_eq hR, vBlk_eq hR]
  exact outO_apply Q K V (head t) (t.val % 8) _ (qi_coords t) (Nat.mod_lt _ (by decide)) d r
theorem lseBlk_apply (u v : Fin 1) (r : Fin 512) : lseBlk m c t (ix3 u v r) = ((lse Q K (head t) (pos (t.val % 8) r) : ℝ) : EReal) := by
  unfold lseBlk
  rw [qBlk_eq hR, kBlk_eq hR, vBlk_eq hR]
  exact outLse_apply Q K V (head t) (t.val % 8) _ (qi_coords t) (Nat.mod_lt _ (by decide)) u v r

/-! ## The result arrays -/

/-- The outputs, positions first. -/
def outs (Q K V : Arr) : Arr := fun i h d => out Q K V h i d
/-- The log-sums, a head at a time. -/
def byHead (x : Fin 8 → Fin 4096 → ℝ) : Vec Ideal S8x1x4096 .f32 := fun i => ((x (i 0) (i 2) : ℝ) : EReal)

omit hR in
theorem emb_3 (a : Fin 128) (b : Fin 512) : (win0_3.blk t).view.emb (ix2 a b) = ix2 (col (head t) a) (pos (t.val % 8) b) := by
  generalize hX : (win0_3.blk t).view.emb (ix2 a b) = X
  have h0 : (X 0).val = t.val / 8 * 128 + a.val := by
    rw [← hX]
    refine (Pipeline.Window.rect_emb_val ..).trans ?_
    rw [show win0_3.index t 0 = t.val / 8 from congrFun (idx_3 t) 0]
    rfl
  have h1 : (X 1).val = t.val % 8 * 512 + b.val := by
    rw [← hX]
    refine (Pipeline.Window.rect_emb_val ..).trans ?_
    rw [show win0_3.index t 1 = t.val % 8 from congrFun (idx_3 t) 1]
    rfl
  rw [eq_ix2 X]
  refine (ix2_inj _ _ _ _).mpr ⟨Fin.ext ?_, Fin.ext ?_⟩
  · rw [h0]; show _ = 128 * (t.val / 8) + a.val; omega
  · rw [h1]; show _ = (512 * (t.val % 8) + b.val) % 4096; omega
omit hR in
theorem emb_4 (u v : Fin 1) (r : Fin 512) : (win0_4.blk t).view.emb (ix3 u v r) = ix3 (head t) 0 (pos (t.val % 8) r) := by
  generalize hX : (win0_4.blk t).view.emb (ix3 u v r) = X
  have h0 : (X 0).val = t.val / 8 * 1 + u.val := by
    rw [← hX]
    refine (Pipeline.Window.rect_emb_val ..).trans ?_
    rw [show win0_4.index t 0 = t.val / 8 from congrFun (idx_4 t) 0]
    rfl
  have h1 : (X 1).val = 0 := by have := (X 1).isLt; exact Nat.lt_one_iff.mp this
  have h2 : (X 2).val = t.val % 8 * 512 + r.val := by
    rw [← hX]
    refine (Pipeline.Window.rect_emb_val ..).trans ?_
    rw [show win0_4.index t 2 = t.val % 8 from congrFun (idx_4 t) 2]
    rfl
  refine ix3_of X _ _ _ ?_ ?_ ?_
  · rw [h0]; show _ = t.val / 8; omega
  · rw [h1]; rfl
  · rw [h2]; show _ = (512 * (t.val % 8) + r.val) % 4096; omega

theorem arr_o : (dats m 0 c).arrAt 3 cfg0.N = byCol (outs Q K V) := by
  refine (dats m 0 c).arrAt_eq_of_covers 3 _ (by decide +kernel) fun t hf y => ?_
  blk_simp
  rw [after_3]
  refine (congrArg _ (eq_ix2 y)).trans ((oBlk_apply hR t (y 0) (y 1)).trans ?_)
  refine (byCol_col (outs Q K V) _ _ _).symm.trans ?_
  refine (congrArg _ (emb_3 t _ _).symm).trans ?_
  exact congrArg (fun z => byCol _ ((win0_3.blk t).view.emb z)) (eq_ix2 y).symm
theorem arr_lse : (dats m 0 c).arrAt 4 cfg0.N = byHead (lse Q K) := by
  refine (dats m 0 c).arrAt_eq_of_covers 4 _ (by decide +kernel) fun t hf y => ?_
  blk_simp
  rw [after_4]
  refine (congrArg _ (eq_ix3 y)).trans ((lseBlk_apply hR t (y 0) (y 1) (y 2)).trans ?_)
  show byHead (lse Q K) (ix3 (head t) 0 (pos (t.val % 8) (y 2))) = _
  refine (congrArg _ (emb_4 t (y 0) (y 1) _).symm).trans ?_
  exact congrArg (fun z => byHead _ ((win0_4.blk t).view.emb z)) (eq_ix3 y).symm

end Cert.Proof.Forward

end
-- ==== Proof.Value.FwdRef.lean ====
/- The forward call's reference at real arguments: its lines are the attention's own, read where the gradient's reference
   begins. -/
module

public import proofs.«01_k».proof.Proof.Value.Host
public import proofs.«01_k».proof.Proof.Gen.Reference37Ideal.Read

@[expose] public section

set_option maxRecDepth 16384

noncomputable section

namespace Cert.Proof.ForwardRef

open Cert.Reference37Ideal Cert.Reference37Ideal.Gen Cert.Reference37Ideal.Read
open Idealize.ShloMosaic
open Cert.Proof.Attn Cert.Proof.Ref

section
variable {F : FTy → Type} [FloatOps F] (x0 x1 x2 : (⟨S4096x8x128, .f32⟩ : BufTy).Contents (Elt F))

theorem scores_eq : val_main_v7 (F := F) x0 x1 = Cert.ReferenceIdeal.Read.val_main_v7_0 (F := F) x0 x1 := rfl
theorem scores_again : val_main_v24 (F := F) x0 x1 = Cert.ReferenceIdeal.Read.val_main_v7_0 (F := F) x0 x1 := rfl

theorem sums_eq : val_main_v16 (F := F) x0 x1 = Sweep.saved x0 x1 (Cert.ReferenceIdeal.Read.val_main_v8 (F := F) x0 x1) := by
  unfold val_main_v16 val_main_v15 val_main_v14 val_main_v13 val_main_v12 val_main_v11 val_main_v10 val_main_v9 val_main_v8
  rw [scores_eq]
  rfl

theorem heads_eq : val_main_v37 (F := F) x0 x1 x2 = Cert.ReferenceIdeal.Read.val_main_v37 (F := F) x0 x1 x2 := by
  unfold val_main_v37 val_main_v36 val_main_v35 val_main_v34 val_main_v33 val_main_v32 val_main_v31 val_main_v30 val_main_v29 val_main_v28
    val_main_v27 val_main_v25
  rw [scores_again]
  rfl
end

variable (Q K V : Arr) (h : Fin 8) (i : Fin 4096) (d : Fin 128)

/-- The outputs, transposed. -/
theorem outs_read : val_main_v39 (F := Ideal) (up Q) (up K) (up V) (ix2 (col h d) i) = ((out Q K V h i d : ℝ) : EReal) := by
  rw [val_main_v39_apply, show idx_main_v39 (ix2 (col h d) i) = ix2 i (col h d) from eq_ix2 (idx_main_v39 (ix2 (col h d) i)), val_main_v38_apply,
    show idx_main_v38 (ix2 i (col h d)) = ix3 i h d from flat _ i h d rfl rfl rfl, heads_eq]
  exact Sweep.outs_eq Q K V i h d

/-- The log-sums. -/
theorem sums_read (u : Fin 1) : val_main_v40 (F := Ideal) (up Q) (up K) (ix3 h u i) = ((lse Q K h i : ℝ) : EReal) := by
  have hx : idx_main_v40 (ix3 h u i) = ix3 h i 0 := by
    refine ix3_of _ _ _ _ ?_ ?_ rfl
    · show ((h.val * 1 + u.val) * 4096 + i.val) / 4096 = h.val; omega
    · show ((h.val * 1 + u.val) * 4096 + i.val) / 1 % 4096 = i.val; omega
  rw [val_main_v40_apply, hx, sums_eq, Sweep.saved_eq]
  rfl

end Cert.Proof.ForwardRef

end
-- ==== Proof.Value.FwdFinite.lean ====
/- The forward call's precondition read: three arrays whose entries are all finite are arrays of reals. -/
module

public import proofs.«01_k».proof.Defs
public import proofs.«01_k».proof.Proof.Value.Finite
public import proofs.«01_k».proof.Proof.Gen.Pre_finite_qkv

@[expose] public section

set_option maxRecDepth 16384

noncomputable section

namespace Cert.Proof.Finite

open Cert.Pre_finite_qkv Cert.Pre_finite_qkv.Gen
open Idealize.ShloMosaic

theorem fn_split_qkv (x0 x1 x2 : FVec Ideal S4096x8x128 .f32) (h : Cert.Pre_finite_qkv.fn (F := Ideal) x0 x1 x2 = fun _ => 1#1) :
    check x0 = (fun _ => 1#1) ∧ check x1 = (fun _ => 1#1) ∧ check x2 = (fun _ => 1#1) := by
  have h' : andi (andi (check x0) (check x1)) (check x2) = fun _ => 1#1 := h
  have key : ∀ a b : IVec S_ 1, andi a b = (fun _ => 1#1) → a = (fun _ => 1#1) ∧ b = (fun _ => 1#1) := fun a b e =>
    ⟨funext fun j => (IntOp.andi_eq_one.mp (congrFun e j)).1, funext fun j => (IntOp.andi_eq_one.mp (congrFun e j)).2⟩
  obtain ⟨h01, h2⟩ := key _ _ h'
  obtain ⟨h0, h1⟩ := key _ _ h01
  exact ⟨h0, h1, h2⟩

end Cert.Proof.Finite

end
-- ==== Proof.Value.Forward.lean ====
/- The attention's forward call: its frames, its named constant, and its outputs and log-sums against the reference's. -/
module

public import proofs.«01_k».proof.Defs
public import proofs.«01_k».proof.Proof.Forward.WordFrame
public import proofs.«01_k».proof.Proof.Value.FwdArrays
public import proofs.«01_k».proof.Proof.Value.FwdRef
public import proofs.«01_k».proof.Proof.Value.FwdFinite
public import proofs.«01_k».proof.Proof.Gen.Reference37Ideal.Run

@[expose] public section

set_option maxRecDepth 16384

noncomputable section

namespace Cert.Proof.Forward

open Idealize.ShloMosaic Idealize.SL.Sem
open Cert.Proof.Attn Cert.Proof.Ref
open Cert.Proof.Sweep (byCol byCol_col)

theorem frame_word : Cert.quiescent_Kernel37 := fun m ρ _ => Cert.Proof.Kernel37.frame (F := Bits) m ρ
theorem frame_ideal : Cert.quiescent_Kernel37Ideal := fun m ρ _ => Cert.Proof.Kernel37Ideal.frame (F := Ideal) m ρ
theorem frame_ideal_finite : Cert.quiescent_Kernel37Ideal_pre_finite_qkv := fun m ρ _ => frame_ideal m ρ trivial
theorem frame_reference : Cert.quiescent_Reference37Ideal := fun m ρ _ =>
  (θ_run Cert.Reference37Ideal.defs _ _).mono (fun r h => ⟨fun c => (h c).2.2, sem_eq_zero_of_no_sems (by decide) r.2⟩)
    (Cert.Reference37Ideal.Value.run (F := Ideal) m ρ)
theorem frame_reference_finite : Cert.quiescent_Reference37Ideal_pre_finite_qkv := fun m ρ _ => frame_reference m ρ trivial

/-- The mask's literal stands for minus infinity. -/
theorem mask_preserved : Cert.preserves_Kernel37_Kernel37Ideal :=
  IdealRules.named_const.statement Cert.Kernel37Ideal.κ "mask" .f32 0xF149F2CA#32 ⊥ rfl

/-- Finite arguments are arrays of reals, on each device. -/
theorem real_args (m : (ℓ : Loc Cert.Kernel37Ideal.nD Cert.Kernel37Ideal.τ Cert.Kernel37Ideal.sig) → Buf (Elt Ideal) ℓ)
    (h : Cert.Pre_Kernel37Ideal_finite_qkv m) (c : Dev Cert.Kernel37Ideal.nD) : ∃ Q K V, Args m c Q K V := by
  obtain ⟨h0, h1, h2⟩ := Finite.fn_split_qkv _ _ _ (h c)
  obtain ⟨Q, hQ⟩ := Finite.check_up _ h0
  obtain ⟨K, hK⟩ := Finite.check_up _ h1
  obtain ⟨V, hV⟩ := Finite.check_up _ h2
  exact ⟨Q, K, V, ⟨hQ, hK, hV⟩⟩

section
open Cert.Reference37Ideal.Read

variable (Q K V : Arr)

theorem ref_outs : val_main_v39 (F := Ideal) (up Q) (up K) (up V) = byCol (outs Q K V) := by
  have key : ∀ (n : Fin 1024) (i : Fin 4096), val_main_v39 (F := Ideal) (up Q) (up K) (up V) (ix2 n i) = byCol (outs Q K V) (ix2 n i) := fun n i => by
    rw [col_split n, ForwardRef.outs_read, byCol_col]
    rfl
  exact funext fun y => (congrArg _ (eq_ix2 y)).trans ((key _ _).trans (congrArg (byCol (outs Q K V)) (eq_ix2 y).symm))

theorem ref_sums : val_main_v40 (F := Ideal) (up Q) (up K) = byHead (lse Q K) :=
  funext fun y => (congrArg _ (eq_ix3 y)).trans (ForwardRef.sums_read Q K (y 0) (y 2) (y 1))

end

/-- The call's outputs and log-sums are the reference's. -/
theorem value : Cert.algebraic_Kernel37Ideal_Reference37Ideal_pre_finite_qkv := by
  intro m ρ m' ρ' hf hagree
  choose Q K V hR using real_args m hf
  refine ⟨fun c => byCol (outs (Q c) (K c) (V c)), fun c => byHead (lse (Q c) (K c)), ?_, ?_⟩
  · refine (θ_run Cert.Kernel37Ideal.defs _ _).mono (fun r h c => ?_) (Cert.Proof.Kernel37Ideal.run_main (F := Ideal) m ρ)
    exact ⟨((h.1 c).1 3).trans (arr_o (hR c)), ((h.1 c).1 4).trans (arr_lse (hR c)), Cert.Proof.Kernel37Ideal.args_kept m r h.1 c⟩
  · refine (θ_run Cert.Reference37Ideal.defs _ _).mono (fun r h c => ?_) (Cert.Reference37Ideal.Value.run (F := Ideal) m' ρ')
    obtain ⟨h0, h1, h2⟩ := hagree c
    have e0 := h0.trans (hR c).q
    have e1 := h1.trans (hR c).k
    have e2 := h2.trans (hR c).v
    refine ⟨(h c).1.trans ?_, (h c).2.1.trans ?_, (h c).2.2⟩
    · rw [Cert.Reference37Ideal.Read.val_main_v39_eq, e0, e1, e2]; exact ref_outs _ _ _
    · rw [Cert.Reference37Ideal.Read.val_main_v40_eq, e0, e1]; exact ref_sums _ _

end Cert.Proof.Forward

end
-- ==== Proof.Value.Kit.lean ====
/- What the modules on one call's arrays import in common. -/
module

public import proofs.«01_k».proof.Defs
public import Idealize.ShloMosaic.Lib.Pipeline.ValueKit
public import Idealize.ShloMosaic.Lib.Claim
public import Idealize.ShloMosaic.Lib.Pointwise
-- ==== Proof.Value.Down.lean ====
/- The gradient of the hidden layer: what the call leaves, at an index. -/
module

public import proofs.«01_k».proof.Proof.Value.Kit
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

namespace Cert.Proof.Down

open Cert.Kernel2Ideal Cert.Kernel2Ideal.Gen
open Idealize.ShloMosaic Idealize.ShloMosaic.TcCoe Idealize.SL.Sem
open Idealize.ShloMosaic.Pipeline (Dat Window)

theorem idx_0 : ∀ t, win0_0.index t = ![t.val / 4, 0] := by decide +kernel
theorem idx_1 : ∀ t, win0_1.index t = ![t.val % 4, 0, 0] := by decide +kernel
theorem idx_2 : ∀ t, win0_2.index t = ![t.val / 4, t.val % 4] := by decide +kernel
theorem idx_3 : ∀ t, win0_3.index t = ![t.val / 4, t.val % 4] := by decide +kernel

/-- The weights packed by shards, over zeros. -/
def packed (w : FVec Ideal S4096x1024 .f32) : FVec Ideal S4x3328x1024 .f32 :=
  pad S4x3328x1024 ![0, 0, 0] ![0, 2304, 0] ![0, 0, 0] (shapeCast S4x1024x1024 w shapeCasts_S4096x1024_S4x1024x1024)
    (sitofp .f32 (constantI S_ 32 0#32)) pads_S4x1024x1024_S4x3328x1024_000_023040_000 h_S_

theorem pay (a b : Vec Ideal S1024x1024 .bf16) (w : Vec Ideal S1x1024x1024 .bf16) (i j : Fin 1024) :
    k0_pay3 (F := Ideal) (k0_pay2 (F := Ideal) a w (k0_pay1 (F := Ideal))) b (ix2 i j)
      = (∑ k : Fin 1024, a (ix2 i k) * w (ix3 0 j k)) * Ideal.ofBits .f32 1073741824#32 * max (b (ix2 i j)) 0 := by
  pointwise [k0_pay3, k0_pay2, k0_pay1]

variable (m : (ℓ : Loc nD τ sig) → Buf (Elt Ideal) ℓ) (c : Dev nD)

theorem host_dy : Gen.V m c main_v2 = truncf (F := Ideal) (φ := .f32) .bf16 (m ((c : Thread nD τ).loc main_arg2)) bitsLt_bf16_f32 := by
  unfold Gen.V
  simp only [hostOps0, hostOps0_1, hostOps0_2, List.flatten_cons, List.flatten_nil, List.append_nil, List.cons_append, List.nil_append]
  entry_read
  rfl
theorem host_u : Gen.V m c main_v4 = truncf (F := Ideal) (φ := .f32) .bf16 (m ((c : Thread nD τ).loc main_arg0)) bitsLt_bf16_f32 := by
  unfold Gen.V
  simp only [hostOps0, hostOps0_1, hostOps0_2, List.flatten_cons, List.flatten_nil, List.append_nil, List.cons_append, List.nil_append]
  entry_read
  rfl
theorem host_w : Gen.V m c main_v3 = truncf (F := Ideal) (φ := .f32) .bf16 (packed (m ((c : Thread nD τ).loc main_arg1))) bitsLt_bf16_f32 := by
  unfold Gen.V
  simp only [hostOps0, hostOps0_1, hostOps0_2, List.flatten_cons, List.flatten_nil, List.append_nil, List.cons_append, List.nil_append]
  entry_read
  rfl

theorem packed_apply (w : FVec Ideal S4096x1024 .f32) (s : Fin 4) (r : Fin 3328) (k : Fin 1024) (h : r.val < 1024) :
    packed w (ix3 s r k) = w (ix2 ⟨s.val * 1024 + r.val, by omega⟩ k) := by
  unfold packed
  pointwise []
  exact dif_pos h

theorem row (t : Fin cfg0.N) (i : Fin 1024) : t.val / 4 * 1024 + i.val < 4096 := by
  have h : t.val < 16 := t.isLt
  omega

theorem weights (t : Fin cfg0.N) (u : Fin 1) (r k : Fin 1024) : X0_1 m c t (ix3 u r k)
    = m ((c : Thread nD τ).loc main_arg1) (ix2 ⟨t.val % 4 * 1024 + r.val, by omega⟩ k) := by
  unfold X0_1 Window.fill
  rw [dif_pos (((cfg0.win 1).moved_iff _ _).mpr fun a => by rw [xsize0_1]; exact (ix3 u r k a).isLt)]
  unfold iblk
  refine Eq.trans (b := Gen.V m c main_v3 (ix3 ⟨t.val % 4, by omega⟩ ⟨r.val, by omega⟩ k)) ?_ ?_
  · blk_ext [idx_1 t]
  · rw [host_w]
    exact packed_apply _ _ _ _ r.isLt

/-- The gradient of the hidden layer at an index. -/
def grad (u : FVec Ideal S4096x4096 .f32) (w dy : FVec Ideal S4096x1024 .f32) : FVec Ideal S4096x4096 .bf16 := fun y =>
  (∑ k : Fin 1024, dy (ix2 (y 0) k) * w (ix2 (y 1) k)) * Ideal.ofBits .f32 1073741824#32 * max (u y) 0

theorem block_dy (t : Fin cfg0.N) (i k : Fin 1024) : iblk m c 0 t (ix2 i k)
    = m ((c : Thread nD τ).loc main_arg2) (ix2 ⟨t.val / 4 * 1024 + i.val, row t i⟩ k) := by
  unfold iblk
  refine Eq.trans (b := Gen.V m c main_v2 (ix2 ⟨t.val / 4 * 1024 + i.val, row t i⟩ k)) ?_ ?_
  · blk_ext [idx_0 t]
  · rw [host_dy]
    rfl

theorem block_u (t : Fin cfg0.N) (i j : Fin 1024) : iblk m c 2 t (ix2 i j)
    = m ((c : Thread nD τ).loc main_arg0) (ix2 ⟨t.val / 4 * 1024 + i.val, row t i⟩ ⟨t.val % 4 * 1024 + j.val, by omega⟩) := by
  unfold iblk
  refine Eq.trans (b := Gen.V m c main_v4 (ix2 ⟨t.val / 4 * 1024 + i.val, row t i⟩ ⟨t.val % 4 * 1024 + j.val, by omega⟩)) ?_ ?_
  · blk_ext [idx_2 t]
  · rw [host_u]
    rfl

theorem place (t : Fin cfg0.N) (i j : Fin 1024) : ((View.whole main_v5).slice (win0_3.rect t)).emb (ix2 i j)
    = ix2 ⟨t.val / 4 * 1024 + i.val, row t i⟩ ⟨t.val % 4 * 1024 + j.val, by omega⟩ := by
  blk_ext [idx_3 t]

theorem point (t : Fin cfg0.N) (i j : Fin 1024) : k0_pay3 (k0_pay2 (iblk m c 0 t) (X0_1 m c t) (k0_pay1 (F := Ideal))) (iblk m c 2 t) (ix2 i j)
    = grad (m ((c : Thread nD τ).loc main_arg0)) (m ((c : Thread nD τ).loc main_arg1)) (m ((c : Thread nD τ).loc main_arg2))
      (((View.whole main_v5).slice (win0_3.rect t)).emb (ix2 i j)) := by
  rw [place]
  refine (pay _ _ _ i j).trans ?_
  rw [block_u]
  simp only [block_dy, weights]
  rfl

theorem final : (dats m 0 c).arrAt 3 (cfgs 0).N
    = grad (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  rw [eq_ix2 y]
  exact point m c t (y 0) (y 1)

/-- The reference's choice where the hidden layer is positive. -/
def select1 (x z : EReal) : EReal := Scalar.select (Ideal.cmp .ogt x 0) z 0

theorem select1_eq (x s b : EReal) : select1 x (s * (b * max x 0)) = s * b * max x 0 := by
  unfold select1
  rw [← mul_assoc]
  by_cases h : 0 < x
  · simp [Ideal.cmp, Scalar.select, h]
  · simp [Ideal.cmp, Scalar.select, h, max_eq_right (not_lt.mp h)]

section
open Cert.Reference2Ideal.Read

theorem reference (u : FVec Ideal S4096x4096 .f32) (w dy : FVec Ideal S4096x1024 .f32) : val_main_v12 (F := Ideal) u w dy = grad u w dy := by
  funext y
  rw [val_main_v12_apply, val_main_v11_apply, val_main_v2_apply, val_main_v9_apply, val_main_v6_apply, val_main_v5_apply, val_main_cst_1_apply,
    val_main_v0_apply, val_main_v1_apply, val_main_cst_apply, val_main_v10_apply, val_main_cst_2_apply, val_main_call0_v0_apply,
    val_main_call0_cst_apply, val_main_v8_apply]
  refine Eq.trans (b := select1 (u y) ((∑ k : Fin 1024, dy (ix2 (y 0) k) * w (ix2 (y 1) k)) * (Ideal.ofBits .f32 1073741824#32 * max (u y) 0))) ?_ (select1_eq _ _ _)
  refine congrArg₂ (fun s z => Scalar.select (Ideal.cmp .ogt (u y) z) (s * (Ideal.ofBits .f32 1073741824#32 * max (u y) z)) z)
    (Finset.sum_congr rfl fun k _ => congrArg₂ (dy · * w ·) ?_ ?_) (Ideal.ofBits_zero .f32)
  all_goals exact funext fun a => match a with | 0 => rfl | 1 => rfl
end

theorem value : Cert.algebraic_Kernel2Ideal_Reference2Ideal := by
  intro m ρ m' ρ' _ hagree
  refine ⟨fun c => grad (m ((c : Thread nD τ).loc main_arg0)) (m ((c : Thread nD τ).loc main_arg1)) (m ((c : Thread nD τ).loc main_arg2)), ?_, ?_⟩
  · refine (θ_run Cert.Kernel2Ideal.defs _ _).mono (fun r h c => ?_) (Cert.Kernel2Ideal.Value.run_blocks (F := Ideal) m ρ)
    exact ⟨(h c).1.trans (final m c), (h c).2⟩
  · refine (θ_run Cert.Reference2Ideal.defs _ _).mono (fun r h c => ?_) (Cert.Reference2Ideal.Value.run (F := Ideal) m' ρ')
    obtain ⟨h0, h1, h2⟩ := hagree c
    refine ⟨(h c).1.trans ?_, (h c).2⟩
    rw [Cert.Reference2Ideal.Read.val_main_v12_eq, h0, h1, h2]
    exact reference _ _ _

end Cert.Proof.Down

end
-- ==== Proof.Value.Up.lean ====
/- The gradient of the layer's input: what the call leaves, at an index. -/
module

public import proofs.«01_k».proof.Proof.Value.Kit
public import proofs.«01_k».proof.Proof.Gen.Kernel5Ideal.Value
public import proofs.«01_k».proof.Proof.Gen.Reference5Ideal.Run
public import proofs.«01_k».proof.Proof.Gen.Reference5Ideal.Read

@[expose] public section

set_option maxRecDepth 16384

noncomputable section

namespace Cert.Proof.Up

open Cert.Kernel5Ideal Cert.Kernel5Ideal.Gen
open Idealize.ShloMosaic Idealize.ShloMosaic.TcCoe Idealize.SL.Sem
open Idealize.ShloMosaic.Pipeline (Dat Window)

theorem idx_0 : ∀ t, win0_0.index t = ![t.val / 4, t.val % 4] := by decide +kernel
theorem idx_1 : ∀ t, win0_1.index t = ![t.val % 4, 1, 0] := by decide +kernel
theorem idx_2 : ∀ t, win0_2.index t = ![t.val / 4, 0] := by decide +kernel

theorem zero (i j : Fin 1024) : k0_pay1 (F := Ideal) (ix2 i j) = 0 := by
  pointwise [k0_pay1]

theorem pay (a : Vec Ideal S1024x1024 .bf16) (w : Vec Ideal S1x1024x1024 .bf16) (s : Vec Ideal S1024x1024 .f32) (i j : Fin 1024) :
    k0_pay2 (F := Ideal) a w s (ix2 i j) = s (ix2 i j) + ∑ k : Fin 1024, a (ix2 i k) * w (ix3 0 j k) := by
  pointwise [k0_pay2]

/-- The weights packed by shards: each shard's columns, transposed to rows, between zeros. -/
def packed (w : FVec Ideal S1024x4096 .f32) : FVec Ideal S4x3328x1024 .f32 :=
  pad S4x3328x1024 ![0, 1024, 0] ![0, 1280, 0] ![0, 0, 0]
    (transpose S4x1024x1024 [1, 0, 2] (shapeCast S1024x4x1024 w shapeCasts_S1024x4096_S1024x4x1024) transposes_S1024x4x1024_S4x1024x1024_1_0_2)
    (sitofp .f32 (constantI S_ 32 0#32)) pads_S4x1024x1024_S4x3328x1024_000_102412800_000 h_S_

variable (m : (ℓ : Loc nD τ sig) → Buf (Elt Ideal) ℓ) (c : Dev nD)

theorem host_du : Gen.V m c main_v3 = truncf (F := Ideal) (φ := .f32) .bf16 (m ((c : Thread nD τ).loc main_arg1)) bitsLt_bf16_f32 := by
  unfold Gen.V
  simp only [hostOps0, hostOps0_1, hostOps0_2, List.flatten_cons, List.flatten_nil, List.append_nil, List.cons_append, List.nil_append]
  entry_read
  rfl

theorem host_w : Gen.V m c main_v4 = truncf (F := Ideal) (φ := .f32) .bf16 (packed (m ((c : Thread nD τ).loc main_arg0))) bitsLt_bf16_f32 := by
  unfold Gen.V
  simp only [hostOps0, hostOps0_1, hostOps0_2, List.flatten_cons, List.flatten_nil, List.append_nil, List.cons_append, List.nil_append]
  entry_read
  rfl

theorem packed_apply (w : FVec Ideal S1024x4096 .f32) (s : Fin 4) (r k : Fin 1024) (h : 1024 + r.val < 3328) :
    packed w (ix3 s ⟨1024 + r.val, h⟩ k) = w (ix2 r ⟨s.val * 1024 + k.val, by omega⟩) := by
  unfold packed
  pointwise []

theorem row (t : Fin cfg0.N) (i : Fin 1024) : t.val / 4 * 1024 + i.val < 4096 := by
  have h : t.val < 16 := t.isLt
  omega

theorem weights (t : Fin cfg0.N) (u : Fin 1) (r k : Fin 1024) : X0_1 m c t (ix3 u r k)
    = m ((c : Thread nD τ).loc main_arg0) (ix2 r ⟨t.val % 4 * 1024 + k.val, by omega⟩) := by
  unfold X0_1 Window.fill
  rw [dif_pos (((cfg0.win 1).moved_iff _ _).mpr fun a => by rw [xsize0_1]; exact (ix3 u r k a).isLt)]
  unfold iblk
  refine Eq.trans (b := Gen.V m c main_v4 (ix3 ⟨t.val % 4, by omega⟩ ⟨1024 + r.val, by omega⟩ k)) ?_ ?_
  · blk_ext [idx_1 t]
  · rw [host_w]
    exact packed_apply _ _ _ _ _

theorem block_du (t : Fin cfg0.N) (i k : Fin 1024) : iblk m c 0 t (ix2 i k)
    = m ((c : Thread nD τ).loc main_arg1) (ix2 ⟨t.val / 4 * 1024 + i.val, row t i⟩ ⟨t.val % 4 * 1024 + k.val, by omega⟩) := by
  unfold iblk
  refine Eq.trans (b := Gen.V m c main_v3 (ix2 ⟨t.val / 4 * 1024 + i.val, row t i⟩ ⟨t.val % 4 * 1024 + k.val, by omega⟩)) ?_ ?_
  · blk_ext [idx_0 t]
  · rw [host_du]
    rfl

theorem place (t : Fin cfg0.N) (i j : Fin 1024) : ((View.whole main_v5).slice (win0_2.rect t)).emb (ix2 i j)
    = ix2 ⟨t.val / 4 * 1024 + i.val, row t i⟩ j := by
  blk_ext [idx_2 t]

/-- A block's rows times another's rows. -/
def prod (a : Vec Ideal S1024x1024 .bf16) (w : Vec Ideal S1x1024x1024 .bf16) : FVec Ideal S1024x1024 .f32 := fun y =>
  ∑ k : Fin 1024, a (ix2 (y 0) k) * w (ix3 0 (y 1) k)

/-- What the run has added at a point. -/
def part (t : Fin cfg0.N) : FVec Ideal S1024x1024 .f32 := fun y =>
  prod (iblk m c 0 t) (X0_1 m c t) y

theorem add (t : Fin cfg0.N) (s : Vec Ideal S1024x1024 .f32) (y : S1024x1024.Idx) :
    k0_pay2 (F := Ideal) (iblk m c 0 t) (X0_1 m c t) s y = s y + part m c t y := by
  rw [eq_ix2 y]
  exact pay _ _ _ _ _

theorem zero' (y : S1024x1024.Idx) : k0_pay1 (F := Ideal) y = 0 := by
  rw [eq_ix2 y]
  exact zero _ _

/-- The gradient of the layer's input at an index. -/
def grad (w : FVec Ideal S1024x4096 .f32) (du : FVec Ideal S4096x4096 .f32) : FVec Ideal S4096x1024 .f32 := fun y =>
  ∑ k : Fin 4096, du (ix2 (y 0) k) * w (ix2 (y 1) k)

theorem point_lt (t : Fin cfg0.N) (s : Fin 4) : 4 * (t.val / 4) + s.val < cfg0.N := by
  have h : t.val < 16 := t.isLt
  show _ < 16
  omega

theorem sum_parts (t : Fin cfg0.N) (i j : Fin 1024) :
    (0 : EReal) + ∑ s : Fin 4, part m c ⟨4 * (t.val / 4) + s.val, point_lt t s⟩ (ix2 i j)
      = grad (m ((c : Thread nD τ).loc main_arg0)) (m ((c : Thread nD τ).loc main_arg1)) (ix2 ⟨t.val / 4 * 1024 + i.val, row t i⟩ j) := by
  rw [zero_add]
  refine Fin.sum_mul_add_congr fun s k hl => ?_
  have hd : (4 * (t.val / 4) + s.val) / 4 = t.val / 4 := by omega
  have hm : (4 * (t.val / 4) + s.val) % 4 = s.val := by omega
  refine (congrArg₂ (fun a b : EReal => a * b) (block_du m c _ i k) (weights m c _ 0 j k)).trans ?_
  simp only [hd, hm]
  rfl

theorem final : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [Gen.after0_2]
  rw [Pipeline.eq_sum_fin_of_reset_step_apply_of_flush (fun n h => Gen.outsAt0 m c n h) 4 (fun _ => 0) (part m c)
    (fun t h j => by rw [outsAt0_A m c t h]; frame_out; rw [add, zero'])
    (fun t h j => by rw [outsAt0_B m c t h]; frame_out; rw [add]) t ((flush0_2 t).mp hf) y]
  rw [eq_ix2 y]
  refine (sum_parts m c t (y 0) (y 1)).trans ?_
  exact (congrArg (grad _ _) (place t (y 0) (y 1))).symm

section
open Cert.Reference5Ideal.Read

theorem reference (w : FVec Ideal S1024x4096 .f32) (du : FVec Ideal S4096x4096 .f32) : val_main_v2 (F := Ideal) w du = grad w du := by
  funext y
  rw [val_main_v2_apply]
  refine Finset.sum_congr rfl fun k _ => congrArg₂ (du · * w ·) ?_ ?_
  all_goals exact funext fun a => match a with | 0 => rfl | 1 => rfl
end

theorem value : Cert.algebraic_Kernel5Ideal_Reference5Ideal := by
  intro m ρ m' ρ' _ hagree
  refine ⟨fun c => grad (m ((c : Thread nD τ).loc main_arg0)) (m ((c : Thread nD τ).loc main_arg1)), ?_, ?_⟩
  · refine (θ_run Cert.Kernel5Ideal.defs _ _).mono (fun r h c => ?_) (Cert.Kernel5Ideal.Value.run_blocks (F := Ideal) m ρ)
    exact ⟨(h c).1.trans (final m c), (h c).2⟩
  · refine (θ_run Cert.Reference5Ideal.defs _ _).mono (fun r h c => ?_) (Cert.Reference5Ideal.Value.run (F := Ideal) m' ρ')
    obtain ⟨h0, h1⟩ := hagree c
    refine ⟨(h c).1.trans ?_, (h c).2⟩
    rw [Cert.Reference5Ideal.Read.val_main_v2_eq, h0, h1]
    exact reference _ _

end Cert.Proof.Up

end
-- ==== Proof.Packed.DownRun.lean ====
/- The gradient of the MLP's second weights, written into its rows of the packed buffer: what the body does at a grid
   point, the call's proof data, and its run. -/
module

public import proofs.«01_k».proof.Proof.Gen.Kernel3Ideal.Frame
public import proofs.«01_k».proof.Proof.Gen.Kernel3Ideal.Skeleton
public import Idealize.ShloMosaic.Lib.VecWindow
public import Idealize.ShloMosaic.Lib.Claim

@[expose] public section

set_option maxRecDepth 16384

noncomputable section

namespace Cert.Proof.DownRun

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The rows a grid point leaves: a new block of the result starts from zeros. -/
def step (i : grid0.Coords) (a b : Vec F S1024x1024 .bf16) (X : Vec F S1x1024x1024 .f32) : Vec F S1x1024x1024 .f32 :=
  k0_pay2 a b (if (i 2).val = 0 then k0_pay1 (F := F) else X)

theorem first_iff (i : grid0.Coords) :
    Scalar.cmpi .ne (Scalar.extui (Scalar.cmpi .eq (BitVec.ofNat 32 (i 2).val) 0#32)) 0#32 = 1#1 ↔ (i 2).val = 0 := by
  revert i; decide +kernel

section
variable (c : Dev nD) (i : grid0.Coords) (arg3 : Memref sig .tc .vmem S1024x1024 .bf16) (harg3 : arg3.IsWhole)
  (arg4 : Memref sig .tc .vmem S1024x1024 .bf16) (harg4 : arg4.IsWhole) (arg5 : Memref sig .tc .hbm S4x3328x1024 .f32) (harg5 : arg5.IsWhole)
  (arg6 : Memref sig .tc .vmem S1x1024x1024 .f32) (harg6 : arg6.IsWhole) (a b : Vec F S1024x1024 .bf16) (X : Vec F S1x1024x1024 .f32)

theorem body_sound :
    (iprop(owns (c : Thread nD τ) arg3 fullShare a ∗ owns (c : Thread nD τ) arg4 fullShare b ∗ owns (c : Thread nD τ) arg6 fullShare X) : sProp 𝕄)
      ⊢ wp frame (wpE (defs₀ (F := F)) Variants.none (c : Thread nD τ) none) Set.univ (cc0_mm_down_dw (F := F) i arg3 harg3 arg4 harg4 arg5 harg5 arg6 harg6)
          (fun _ => iprop(owns (c : Thread nD τ) arg3 fullShare a ∗ owns (c : Thread nD τ) arg4 fullShare b
            ∗ owns (c : Thread nD τ) arg6 fullShare (step i a b X))) := by
  rw [cc0_mm_down_dw_eq_skeleton]
  unfold cc0_mm_down_dw_skel owns
  iintro ⟨⟨%f3, %h3, H3⟩, ⟨%f4, %h4, H4⟩, ⟨%f6, %h6, H6⟩⟩
  have r3 := View.readAt_full arg3.view f3 inb_S1024x1024_S1024x1024_0_0
  have r4 := View.readAt_full arg4.view f4 inb_S1024x1024_S1024x1024_0_0
  rw [h3] at r3
  rw [h4] at r4
  by_cases h : (i 2).val = 0
  · have hs : step i a b X = k0_pay2 a b (k0_pay1 (F := F)) := by unfold step; rw [if_pos h]
    have hc := (first_iff i).mpr h
    sl_exec
    sl_step
    isplitl [H3]; · iexists _; isplitr; swap; · iexact H3
                    ipureintro; exact h3
    isplitl [H4]; · iexists _; isplitr; swap; · iexact H4
                    ipureintro; exact h4
    iexists _; isplitr; swap; · iexact H6
    ipureintro
    refine (View.read_writes_full arg6.view _ inb_S1x1024x1024_S1x1024x1024_0_0_0 _ _).trans ?_
    rw [hs]
    refine congrArg (k0_pay2 a b) ?_
    exact View.readCov_full arg6.view _ _ _ _
  · have hs : step i a b X = k0_pay2 a b X := by unfold step; rw [if_neg h]
    have hc := mt (first_iff i).mp h
    sl_exec
    sl_step
    isplitl [H3]; · iexists _; isplitr; swap; · iexact H3
                    ipureintro; exact h3
    isplitl [H4]; · iexists _; isplitr; swap; · iexact H4
                    ipureintro; exact h4
    iexists _; isplitr; swap; · iexact H6
    ipureintro
    refine (View.read_writes_full arg6.view _ inb_S1x1024x1024_S1x1024x1024_0_0_0 _ _).trans ?_
    rw [hs]
    exact congrArg (k0_pay2 a b) ((View.readAt_full arg6.view f6 inb_S1x1024x1024_S1x1024x1024_0_0_0).trans h6)
end

variable (m : (ℓ : Loc nD τ sig) → Buf (Elt F) ℓ) (ρ : Dev nD → PrngReg)

/-! ## Point by point -/

def aBlk (c : Dev nD) (t : Fin cfg0.N) : Vec F S1024x1024 .bf16 := iblk m c 0 t
def bBlk (c : Dev nD) (t : Fin cfg0.N) : Vec F S1024x1024 .bf16 := iblk m c 1 t

/-- The rows after the points before `n`. -/
def acc (c : Dev nD) : ℕ → Vec F S1x1024x1024 .f32
  | 0 => k0_pay1 (F := F)
  | n + 1 => if h : n < cfg0.N then step (grid0.coords ⟨n, h⟩) (aBlk m c ⟨n, h⟩) (bBlk m c ⟨n, h⟩) (acc c n) else k0_pay1 (F := F)

theorem acc_succ (c : Dev nD) (t : Fin cfg0.N) : acc m c (t.val + 1) = step (grid0.coords t) (aBlk m c t) (bBlk m c t) (acc m c t.val) := by
  show (if h : t.val < cfg0.N then _ else _) = _
  rw [dif_pos t.isLt]

theorem last_coord : ∀ t : Fin cfg0.N, (grid0.coords t 2).val = t.val % 4 := by decide +kernel

/-! ## The proof data -/

def dats (_ : Fin 1) (c : Dev nD) : Dat τ (Elt F) Unit ℕ (UR sig nD τ) ℕ cfg0 c where
  A w := V m c (Pipeline.arrRef spec0 w)
  after w t := match w with
    | ⟨0, _⟩ => aBlk m c t
    | ⟨1, _⟩ => bBlk m c t
    | ⟨2, _⟩ => acc m c (t.val + 1)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = aBlk m c t := by dsimp only [dats]
theorem after_1 (c : Dev nD) (t : Fin cfg0.N) : (dats m 0 c).after 1 t = bBlk m c t := by dsimp only [dats]
theorem after_2 (c : Dev nD) (t : Fin cfg0.N) : (dats m 0 c).after 2 t = acc m c (t.val + 1) := by dsimp only [dats]

theorem before_0 (c : Dev nD) (t : Fin cfg0.N) (d) : (dats m 0 c).before 0 t d = aBlk m c t := before0_0_of m (dats m 0 c) (A_eq m c 0) (after_0 m c) t d
theorem before_1 (c : Dev nD) (t : Fin cfg0.N) (d) : (dats m 0 c).before 1 t d = bBlk m c t := before0_1_of m (dats m 0 c) (A_eq m c 1) (after_1 m c) t d

/-- The rows lie inside the packed buffer: every write-back moves a whole block. -/
theorem whole : ∀ t : Fin cfg0.N, ∀ a, (cfg0.win 2).xsize (cfg0.grid.coords t) a = (cfg0.win 2).size a := by decide +kernel

theorem fill_whole (t : Fin cfg0.N) (d d' : (cfg0.win 2).block.Idx → Elt F (cfg0.win 2).elt) (g) :
    (cfg0.win 2).fill (cfg0.grid.coords t) d g = (cfg0.win 2).fill (cfg0.grid.coords t) d' g := by
  funext j
  have hm : (cfg0.win 2).moved (cfg0.grid.coords t) j = true :=
    ((cfg0.win 2).moved_iff _ j).mpr fun a => by rw [whole t a]; exact (j a).isLt
  unfold Window.fill
  rw [dif_pos hm, dif_pos hm]

/-- Between a block's points its buffer holds what the point before left. -/
theorem before_2 (c : Dev nD) (t : Fin cfg0.N) (h : t.val % 4 ≠ 0) (d) : (dats m 0 c).before 2 t d = acc m c t.val := by
  have ht : t.val ≠ 0 := fun h0 => h (by rw [h0])
  have hf : (cfg0.win 2).flush ⟨t.val - 1, Nat.lt_of_le_of_lt (Nat.sub_le _ _) t.isLt⟩ = false :=
    Bool.eq_false_iff.mpr fun hf => absurd ((flush0_2 _).mp hf) (by dsimp only; omega)
  rw [(dats m 0 c).before_out_acc 2 rfl t ht hf (fun _ => rfl) d]
  unfold Dat.kept
  rw [fill_whole _ d ((dats m 0 c).after 2 _), Window.fill_cut, after_2]
  exact congrArg (acc m c) (by dsimp only; omega)

theorem step_first (c : Dev nD) (t : Fin cfg0.N) (h : t.val % 4 = 0) (a b : Vec F S1024x1024 .bf16) (X X' : Vec F S1x1024x1024 .f32) :
    step (grid0.coords t) a b X = step (grid0.coords t) a b X' := by
  unfold step
  rw [if_pos ((last_coord t).trans h), if_pos ((last_coord t).trans h)]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [after_0 m c t, after_1 m c t, after_2 m c t, show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  generalize hX : (dats m 0 c).before 2 t d2 = X
  have eX : step (grid0.coords t) (aBlk m c t) (bBlk m c t) X = acc m c (t.val + 1) := by
    rw [acc_succ]
    by_cases h : t.val % 4 = 0
    · exact step_first c t h _ _ _ _
    · rw [← hX, before_2 m c t h d2]
  iapply (wp_wand frame (wpE (defs₀ (F := F)) Variants.none (c : Thread nD τ) none) Set.univ) $$ [H0 H1 H2]
  · iapply (body_sound c (grid0.coords t) _ _ _ _ _ _ _ _ (aBlk m c t) (bBlk m c t) X)
    isplitl [H0]; · iexact H0
    isplitl [H1]; · iexact H1
    iexact H2
  iintro %r ⟨H0, H1, H2⟩
  rw [eX]
  isplitl [HΦ]; · iexact HΦ
  isplitl [Ho]; · iexact Ho
  isplitl [H0]; · iexact H0
  isplitl [H1]; · iexact H1
  iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, with every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.DownRun

end
-- ==== Proof.Packed.DownFrame.lean ====
/- The frame of the call as printed: its program is the idealized one, no rule applying, so the run is the same run. -/
module

public import proofs.«01_k».proof.Defs
public import proofs.«01_k».proof.Proof.Packed.DownRun
public import proofs.«01_k».proof.Proof.Gen.Kernel3.Frame

@[expose] public section

namespace Cert.Proof.DownRun

open Idealize.ShloMosaic Idealize.SL.Sem

variable {F : FTy → Type} [FloatOps F]

theorem defs₀_same : @Cert.Kernel3.defs₀ F _ _ = @Cert.Kernel3Ideal.defs₀ F _ _ := by
  unfold Cert.Kernel3.defs₀ Cert.Kernel3Ideal.defs₀
  refine congrArg Defs.onTc (funext fun l => funext fun x => ?_)
  match l, x with
  | 0, (t, s) => rfl

theorem defs_same : @Cert.Kernel3.defs F _ _ = @Cert.Kernel3Ideal.defs F _ _ :=
  congrArg (Pipeline.defs Cert.Kernel3.pcfgs) defs₀_same

theorem frame_word : Cert.quiescent_Kernel3 := fun m ρ _ => by
  have h := frame (F := Bits) m ρ
  rw [← defs_same] at h
  exact h

theorem frame_ideal : Cert.quiescent_Kernel3Ideal := fun m ρ _ => frame (F := Ideal) m ρ

end Cert.Proof.DownRun
-- ==== Proof.Packed.DownValue.lean ====
/- The gradient of the MLP's second weights: what the call leaves in the packed buffer, at an index. -/
module

public import proofs.«01_k».proof.Defs
public import proofs.«01_k».proof.Proof.Packed.DownRun
public import proofs.«01_k».proof.Proof.Gen.Reference3Ideal.Run
public import proofs.«01_k».proof.Proof.Gen.Reference3Ideal.Read
public import Idealize.ShloMosaic.Lib.Pipeline.ValueKit
public import Idealize.ShloMosaic.Lib.WordCmp
public import Idealize.ShloMosaic.Lib.Pointwise

@[expose] public section

set_option maxRecDepth 16384

noncomputable section

namespace Cert.Proof.DownRun

open Cert.Kernel3Ideal Cert.Kernel3Ideal.Gen
open Idealize.ShloMosaic Idealize.ShloMosaic.TcCoe Idealize.SL.Sem
open Idealize.ShloMosaic.Pipeline (Dat Window)

theorem idx_0 : ∀ t, win0_0.index t = ![t.val % 4, t.val / 4] := by decide +kernel
theorem idx_1 : ∀ t, win0_1.index t = ![t.val % 4, 0] := by decide +kernel
theorem idx_2 : ∀ t, win0_2.index t = ![t.val / 4, 0, 0] := by decide +kernel

/-- The activation: the square of the positive part. -/
def act (x : EReal) : EReal := max x 0 * max x 0

theorem zero (u : Fin 1) (i j : Fin 1024) : k0_pay1 (F := Ideal) (ix3 u i j) = 0 := by
  pointwise [k0_pay1]

theorem pay (a b : Vec Ideal S1024x1024 .bf16) (s : Vec Ideal S1x1024x1024 .f32) (u : Fin 1) (i j : Fin 1024) :
    k0_pay2 (F := Ideal) a b s (ix3 u i j) = s (ix3 u i j) + ∑ k : Fin 1024, act (a (ix2 k i)) * b (ix2 k j) := by
  unfold act
  pointwise [k0_pay2]

variable (m : (ℓ : Loc nD τ sig) → Buf (Elt Ideal) ℓ) (c : Dev nD)

theorem host_u : V m c main_v0 = truncf (F := Ideal) (φ := .f32) .bf16 (m ((c : Thread nD τ).loc main_arg0)) bitsLt_bf16_f32 := by
  unfold V
  entry_read
  rfl

theorem host_dy : V m c main_v1 = truncf (F := Ideal) (φ := .f32) .bf16 (m ((c : Thread nD τ).loc main_arg1)) bitsLt_bf16_f32 := by
  unfold V
  entry_read
  rfl

theorem host_buf : V m c main_v2 = m ((c : Thread nD τ).loc main_arg2) := by
  unfold V
  entry_read
  rfl

theorem row (t : Fin cfg0.N) (i : Fin 1024) : t.val / 4 * 1024 + i.val < 4096 := by
  have h : t.val < 16 := t.isLt
  omega

theorem block_u (t : Fin cfg0.N) (k i : Fin 1024) : aBlk m c t (ix2 k i)
    = m ((c : Thread nD τ).loc main_arg0) (ix2 ⟨t.val % 4 * 1024 + k.val, by omega⟩ ⟨t.val / 4 * 1024 + i.val, row t i⟩) := by
  unfold aBlk iblk
  refine Eq.trans (b := V m c main_v0 (ix2 ⟨t.val % 4 * 1024 + k.val, by omega⟩ ⟨t.val / 4 * 1024 + i.val, row t i⟩)) ?_ ?_
  · blk_ext [idx_0 t]
  · rw [host_u]
    rfl

theorem block_dy (t : Fin cfg0.N) (k j : Fin 1024) : bBlk m c t (ix2 k j)
    = m ((c : Thread nD τ).loc main_arg1) (ix2 ⟨t.val % 4 * 1024 + k.val, by omega⟩ j) := by
  unfold bBlk iblk
  refine Eq.trans (b := V m c main_v1 (ix2 ⟨t.val % 4 * 1024 + k.val, by omega⟩ j)) ?_ ?_
  · blk_ext [idx_1 t]
  · rw [host_dy]
    rfl

theorem shard (t : Fin cfg0.N) : t.val / 4 < 4 := by
  have h : t.val < 16 := t.isLt
  omega

theorem row_lt (i : Fin 1024) : i.val < 3328 := by omega

/-- The place in a block of an index of what a point writes back: the same, the written part being the whole block. -/
def within (t : Fin cfg0.N) (y : ((cfg0.win 2).xblock (cfg0.grid.coords t)).Idx) : S1x1024x1024.Idx :=
  (cfg0.win 2).xinj (cfg0.grid.coords t) y

theorem within_val (t : Fin cfg0.N) (y : ((cfg0.win 2).xblock (cfg0.grid.coords t)).Idx) (a : Fin 3) : (within t y a).val = (y a).val := rfl

theorem place (t : Fin cfg0.N) (y : ((cfg0.win 2).xblock (cfg0.grid.coords t)).Idx) : (win0_2.blk t).view.emb y
    = ix3 ⟨t.val / 4, shard t⟩ ⟨(within t y 1 : Fin 1024).val, row_lt (within t y 1)⟩ (within t y 2 : Fin 1024) := by
  have h0 : (y 0).val = 0 := Nat.lt_one_iff.mp (within t y 0).isLt
  have h1 := within_val t y 1
  have h2 := within_val t y 2
  blk_ext [idx_2 t]

/-- What a grid point adds to its block. -/
def prod (a b : Vec Ideal S1024x1024 .bf16) : FVec Ideal S1x1024x1024 .f32 := fun y =>
  ∑ k : Fin 1024, act (a (ix2 k (y 1))) * b (ix2 k (y 2))

theorem pay' (a b : Vec Ideal S1024x1024 .bf16) (s : Vec Ideal S1x1024x1024 .f32) (y : S1x1024x1024.Idx) :
    k0_pay2 (F := Ideal) a b s y = s y + prod a b y := by
  rw [eq_ix3 y]
  exact pay _ _ _ _ _ _

theorem zero' (y : S1x1024x1024.Idx) : k0_pay1 (F := Ideal) y = 0 := by
  rw [eq_ix3 y]
  exact zero _ _ _

/-- The gradient of the second weights at an index: the activation's column times the cotangent's. -/
def entry (u : FVec Ideal S4096x4096 .f32) (dy : FVec Ideal S4096x1024 .f32) (r : Fin 4096) (j : Fin 1024) : EReal :=
  ∑ k : Fin 4096, act (u (ix2 k r)) * dy (ix2 k j)

theorem shard_row {s r : ℕ} (hs : s < 4) (hr : r < 1024) : s * 1024 + r < 4096 := by omega

/-- The packed buffer with the gradient in each shard's first rows. -/
def grad (u : FVec Ideal S4096x4096 .f32) (dy : FVec Ideal S4096x1024 .f32) (gp : FVec Ideal S4x3328x1024 .f32) :
    FVec Ideal S4x3328x1024 .f32 := fun y =>
  if h : (y 1).val < 1024 then entry u dy ⟨(y 0).val * 1024 + (y 1).val, shard_row (y 0).isLt h⟩ (y 2) else gp y

theorem grad_rows (u : FVec Ideal S4096x4096 .f32) (dy : FVec Ideal S4096x1024 .f32) (gp : FVec Ideal S4x3328x1024 .f32)
    (s : Fin 4) (r j : Fin 1024) (h : r.val < 3328) :
    grad u dy gp (ix3 s ⟨r.val, h⟩ j) = entry u dy ⟨s.val * 1024 + r.val, shard_row s.isLt r.isLt⟩ j := dif_pos r.isLt

theorem grad_of_not (u : FVec Ideal S4096x4096 .f32) (dy : FVec Ideal S4096x1024 .f32) (gp : FVec Ideal S4x3328x1024 .f32)
    (y : S4x3328x1024.Idx) (h : ¬ (y 1).val < 1024) : grad u dy gp y = gp y := dif_neg h

theorem point_lt (t : Fin cfg0.N) (s : Fin 4) : 4 * (t.val / 4) + s.val < cfg0.N := by
  have h : t.val < 16 := t.isLt
  show _ < 16
  omega

theorem sum_parts (t : Fin cfg0.N) (u : Fin 1) (i j : Fin 1024) :
    (0 : EReal) + ∑ s : Fin 4, prod (aBlk m c ⟨4 * (t.val / 4) + s.val, point_lt t s⟩) (bBlk m c ⟨4 * (t.val / 4) + s.val, point_lt t s⟩) (ix3 u i j)
      = entry (m ((c : Thread nD τ).loc main_arg0)) (m ((c : Thread nD τ).loc main_arg1)) ⟨t.val / 4 * 1024 + i.val, row t i⟩ j := by
  rw [zero_add]
  refine Fin.sum_mul_add_congr fun s k hl => ?_
  have hd : (4 * (t.val / 4) + s.val) / 4 = t.val / 4 := by omega
  have hm : (4 * (t.val / 4) + s.val) % 4 = s.val := by omega
  refine (congrArg₂ (fun a b : EReal => act a * b) (block_u m c _ k i) (block_dy m c _ k j)).trans ?_
  simp only [hd, hm]

theorem acc_flush (t : Fin cfg0.N) (hf : t.val % 4 = 3) (y : S1x1024x1024.Idx) : acc m c (t.val + 1) y
    = (0 : EReal) + ∑ s : Fin 4, prod (aBlk m c ⟨4 * (t.val / 4) + s.val, point_lt t s⟩) (bBlk m c ⟨4 * (t.val / 4) + s.val, point_lt t s⟩) y := by
  refine Pipeline.eq_sum_fin_of_reset_step_apply_of_flush (M := EReal) (fun n (_ : n < cfg0.N) y => acc m c (n + 1) y) 4 (fun _ => 0)
    (fun t => prod (aBlk m c t) (bBlk m c t)) (fun t h y => ?_) (fun t h y => ?_) t hf y
  · show acc m c (t.val + 1) y = _
    rw [acc_succ]
    unfold step
    rw [if_pos ((last_coord t).trans h), pay', zero']
  · show acc m c (t.val + 1) y = acc m c (t.val - 1 + 1) y + _
    rw [acc_succ, Nat.sub_add_cancel (Nat.pos_of_ne_zero fun h0 => h (by rw [h0]))]
    unfold step
    rw [if_neg fun h' => h ((last_coord t).symm.trans h'), pay']

theorem point (t : Fin cfg0.N) (z : S1x1024x1024.Idx) :
    (0 : EReal) + ∑ s : Fin 4, prod (aBlk m c ⟨4 * (t.val / 4) + s.val, point_lt t s⟩) (bBlk m c ⟨4 * (t.val / 4) + s.val, point_lt t s⟩) z
      = grad (m ((c : Thread nD τ).loc main_arg0)) (m ((c : Thread nD τ).loc main_arg1)) (m ((c : Thread nD τ).loc main_arg2))
          (ix3 ⟨t.val / 4, shard t⟩ ⟨(z 1 : Fin 1024).val, row_lt (z 1)⟩ (z 2 : Fin 1024)) := by
  refine Eq.trans ?_ (grad_rows _ _ _ ⟨t.val / 4, shard t⟩ (z 1) (z 2) (row_lt (z 1))).symm
  exact sum_parts m c t (z 0) (z 1) (z 2)

theorem final : (dats m 0 c).arrAt 2 (cfgs 0).N
    = grad (m ((c : Thread nD τ).loc main_arg0)) (m ((c : Thread nD τ).loc main_arg1)) (m ((c : Thread nD τ).loc main_arg2)) := by
  refine (dats m 0 c).arrAt_eq_of_coversWhere_of_agree 2 _ (fun β => β (1 : Fin 3) = 0) (by decide +kernel) (fun t hf y => ?_) (fun j hj => ?_)
  · blk_simp
    rw [after_2, acc_flush m c t ((flush0_2 t).mp hf)]
    show (0 : EReal) + ∑ s : Fin 4, prod _ _ (within t y) = _
    exact (point m c t _).trans (congrArg (grad _ _ _) (place t y)).symm
  · have h : ¬ (j 1).val < 1024 := fun h => hj (Nat.div_eq_of_lt h)
    refine (congrFun (host_buf m c) j).trans ?_
    exact (grad_of_not _ _ _ _ h).symm

section
open Cert.Reference3Ideal.Read

theorem reference_entry (u : FVec Ideal S4096x4096 .f32) (dy : FVec Ideal S4096x1024 .f32) (s : Fin 4) (r j : Fin 1024) :
    val_main_v6 (F := Ideal) u dy (ix3 s r j) = entry u dy ⟨s.val * 1024 + r.val, by omega⟩ j := by
  unfold entry act
  pointwise [val_main_v6, val_main_v5, val_main_v4, val_main_v2, val_main_v1, val_main_call0_v0, val_main_call0_cst]
  exact Finset.sum_congr rfl fun k _ => mul_comm _ _

theorem reference (u : FVec Ideal S4096x4096 .f32) (dy : FVec Ideal S4096x1024 .f32) (gp : FVec Ideal S4x3328x1024 .f32) :
    val_main_v7 (F := Ideal) u dy gp = grad u dy gp := by
  funext y
  unfold val_main_v7
  rw [WordCmp.dynamicUpdateSlice_eq_update _ _ _ _ (fun _ => 0) Cert.Reference3Ideal.Gen.updateFits_S4x3328x1024_S4x1024x1024 (fun a => by fin_cases a <;> rfl)]
  unfold updateSlice grad
  by_cases h : (y 1).val < 1024
  · rw [dif_pos h, dif_pos fun a => ⟨Nat.zero_le _, match a with
      | 0 => Nat.lt_of_lt_of_eq (y 0).isLt (Nat.zero_add _).symm
      | 1 => Nat.lt_of_lt_of_eq h (Nat.zero_add _).symm
      | 2 => Nat.lt_of_lt_of_eq (y 2).isLt (Nat.zero_add _).symm⟩]
    refine Eq.trans (congrArg _ ?_) (reference_entry u dy (y 0) ⟨(y 1).val, h⟩ (y 2))
    exact funext fun a => match a with | 0 => rfl | 1 => rfl | 2 => rfl
  · rw [dif_neg h, dif_neg fun h' => h (Nat.lt_of_lt_of_eq (h' 1).2 (Nat.zero_add _))]
end

theorem value : Cert.algebraic_Kernel3Ideal_Reference3Ideal := by
  intro m ρ m' ρ' _ hagree
  refine ⟨fun c => grad (m ((c : Thread nD τ).loc main_arg0)) (m ((c : Thread nD τ).loc main_arg1)) (m ((c : Thread nD τ).loc main_arg2)), ?_, ?_⟩
  · refine (θ_run Cert.Kernel3Ideal.defs _ _).mono (fun r h c => ?_) (θ_run_and (run_main (F := Ideal) m ρ) (frame m ρ))
    exact ⟨((h.1.1 c).1 2).trans (final m c), h.2.1 c⟩
  · refine (θ_run Cert.Reference3Ideal.defs _ _).mono (fun r h c => ?_) (Cert.Reference3Ideal.Value.run (F := Ideal) m' ρ')
    obtain ⟨h0, h1, h2⟩ := hagree c
    refine ⟨((h c).1.trans (Cert.Reference3Ideal.Read.val_main_v7_eq (F := Ideal) _ _ _)).trans ?_, (h c).2⟩
    rw [h0, h1, h2]
    exact reference _ _ _

end Cert.Proof.DownRun

end
-- ==== Proof.Packed.UpRun.lean ====
/- The gradient of the MLP's first weights, written into its rows of the packed buffer: what the body does at a grid
   point, the call's proof data, and its run. -/
module

public import proofs.«01_k».proof.Proof.Gen.Kernel4Ideal.Frame
public import proofs.«01_k».proof.Proof.Gen.Kernel4Ideal.Skeleton
public import Idealize.ShloMosaic.Lib.VecWindow
public import Idealize.ShloMosaic.Lib.Claim

@[expose] public section

set_option maxRecDepth 16384

noncomputable section

namespace Cert.Proof.UpRun

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The rows a grid point leaves: a new block of the result starts from zeros. -/
def step (i : grid0.Coords) (a b : Vec F S1024x1024 .bf16) (X : Vec F S1x1024x1024 .f32) : Vec F S1x1024x1024 .f32 :=
  k0_pay2 a b (if (i 2).val = 0 then k0_pay1 (F := F) else X)

theorem first_iff (i : grid0.Coords) :
    Scalar.cmpi .ne (Scalar.extui (Scalar.cmpi .eq (BitVec.ofNat 32 (i 2).val) 0#32)) 0#32 = 1#1 ↔ (i 2).val = 0 := by
  revert i; decide +kernel

section
variable (c : Dev nD) (i : grid0.Coords) (arg3 : Memref sig .tc .vmem S1024x1024 .bf16) (harg3 : arg3.IsWhole)
  (arg4 : Memref sig .tc .vmem S1024x1024 .bf16) (harg4 : arg4.IsWhole) (arg5 : Memref sig .tc .hbm S4x3328x1024 .f32) (harg5 : arg5.IsWhole)
  (arg6 : Memref sig .tc .vmem S1x1024x1024 .f32) (harg6 : arg6.IsWhole) (a b : Vec F S1024x1024 .bf16) (X : Vec F S1x1024x1024 .f32)

theorem body_sound :
    (iprop(owns (c : Thread nD τ) arg3 fullShare a ∗ owns (c : Thread nD τ) arg4 fullShare b ∗ owns (c : Thread nD τ) arg6 fullShare X) : sProp 𝕄)
      ⊢ wp frame (wpE (defs₀ (F := F)) Variants.none (c : Thread nD τ) none) Set.univ (cc0_mm_up_dw (F := F) i arg3 harg3 arg4 harg4 arg5 harg5 arg6 harg6)
          (fun _ => iprop(owns (c : Thread nD τ) arg3 fullShare a ∗ owns (c : Thread nD τ) arg4 fullShare b
            ∗ owns (c : Thread nD τ) arg6 fullShare (step i a b X))) := by
  rw [cc0_mm_up_dw_eq_skeleton]
  unfold cc0_mm_up_dw_skel owns
  iintro ⟨⟨%f3, %h3, H3⟩, ⟨%f4, %h4, H4⟩, ⟨%f6, %h6, H6⟩⟩
  have r3 := View.readAt_full arg3.view f3 inb_S1024x1024_S1024x1024_0_0
  have r4 := View.readAt_full arg4.view f4 inb_S1024x1024_S1024x1024_0_0
  rw [h3] at r3
  rw [h4] at r4
  by_cases h : (i 2).val = 0
  · have hs : step i a b X = k0_pay2 a b (k0_pay1 (F := F)) := by unfold step; rw [if_pos h]
    have hc := (first_iff i).mpr h
    sl_exec
    sl_step
    isplitl [H3]; · iexists _; isplitr; swap; · iexact H3
                    ipureintro; exact h3
    isplitl [H4]; · iexists _; isplitr; swap; · iexact H4
                    ipureintro; exact h4
    iexists _; isplitr; swap; · iexact H6
    ipureintro
    refine (View.read_writes_full arg6.view _ inb_S1x1024x1024_S1x1024x1024_0_0_0 _ _).trans ?_
    rw [hs]
    refine congrArg (k0_pay2 a b) ?_
    exact View.readCov_full arg6.view _ _ _ _
  · have hs : step i a b X = k0_pay2 a b X := by unfold step; rw [if_neg h]
    have hc := mt (first_iff i).mp h
    sl_exec
    sl_step
    isplitl [H3]; · iexists _; isplitr; swap; · iexact H3
                    ipureintro; exact h3
    isplitl [H4]; · iexists _; isplitr; swap; · iexact H4
                    ipureintro; exact h4
    iexists _; isplitr; swap; · iexact H6
    ipureintro
    refine (View.read_writes_full arg6.view _ inb_S1x1024x1024_S1x1024x1024_0_0_0 _ _).trans ?_
    rw [hs]
    exact congrArg (k0_pay2 a b) ((View.readAt_full arg6.view f6 inb_S1x1024x1024_S1x1024x1024_0_0_0).trans h6)
end

variable (m : (ℓ : Loc nD τ sig) → Buf (Elt F) ℓ) (ρ : Dev nD → PrngReg)

/-! ## Point by point -/

def aBlk (c : Dev nD) (t : Fin cfg0.N) : Vec F S1024x1024 .bf16 := iblk m c 0 t
def bBlk (c : Dev nD) (t : Fin cfg0.N) : Vec F S1024x1024 .bf16 := iblk m c 1 t

/-- The rows after the points before `n`. -/
def acc (c : Dev nD) : ℕ → Vec F S1x1024x1024 .f32
  | 0 => k0_pay1 (F := F)
  | n + 1 => if h : n < cfg0.N then step (grid0.coords ⟨n, h⟩) (aBlk m c ⟨n, h⟩) (bBlk m c ⟨n, h⟩) (acc c n) else k0_pay1 (F := F)

theorem acc_succ (c : Dev nD) (t : Fin cfg0.N) : acc m c (t.val + 1) = step (grid0.coords t) (aBlk m c t) (bBlk m c t) (acc m c t.val) := by
  show (if h : t.val < cfg0.N then _ else _) = _
  rw [dif_pos t.isLt]

theorem last_coord : ∀ t : Fin cfg0.N, (grid0.coords t 2).val = t.val % 4 := by decide +kernel

/-! ## The proof data -/

def dats (_ : Fin 1) (c : Dev nD) : Dat τ (Elt F) Unit ℕ (UR sig nD τ) ℕ cfg0 c where
  A w := V m c (Pipeline.arrRef spec0 w)
  after w t := match w with
    | ⟨0, _⟩ => aBlk m c t
    | ⟨1, _⟩ => bBlk m c t
    | ⟨2, _⟩ => acc m c (t.val + 1)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = aBlk m c t := by dsimp only [dats]
theorem after_1 (c : Dev nD) (t : Fin cfg0.N) : (dats m 0 c).after 1 t = bBlk m c t := by dsimp only [dats]
theorem after_2 (c : Dev nD) (t : Fin cfg0.N) : (dats m 0 c).after 2 t = acc m c (t.val + 1) := by dsimp only [dats]

theorem before_0 (c : Dev nD) (t : Fin cfg0.N) (d) : (dats m 0 c).before 0 t d = aBlk m c t := before0_0_of m (dats m 0 c) (A_eq m c 0) (after_0 m c) t d
theorem before_1 (c : Dev nD) (t : Fin cfg0.N) (d) : (dats m 0 c).before 1 t d = bBlk m c t := before0_1_of m (dats m 0 c) (A_eq m c 1) (after_1 m c) t d

/-- The rows lie inside the packed buffer: every write-back moves a whole block. -/
theorem whole : ∀ t : Fin cfg0.N, ∀ a, (cfg0.win 2).xsize (cfg0.grid.coords t) a = (cfg0.win 2).size a := by decide +kernel

theorem fill_whole (t : Fin cfg0.N) (d d' : (cfg0.win 2).block.Idx → Elt F (cfg0.win 2).elt) (g) :
    (cfg0.win 2).fill (cfg0.grid.coords t) d g = (cfg0.win 2).fill (cfg0.grid.coords t) d' g := by
  funext j
  have hm : (cfg0.win 2).moved (cfg0.grid.coords t) j = true :=
    ((cfg0.win 2).moved_iff _ j).mpr fun a => by rw [whole t a]; exact (j a).isLt
  unfold Window.fill
  rw [dif_pos hm, dif_pos hm]

/-- Between a block's points its buffer holds what the point before left. -/
theorem before_2 (c : Dev nD) (t : Fin cfg0.N) (h : t.val % 4 ≠ 0) (d) : (dats m 0 c).before 2 t d = acc m c t.val := by
  have ht : t.val ≠ 0 := fun h0 => h (by rw [h0])
  have hf : (cfg0.win 2).flush ⟨t.val - 1, Nat.lt_of_le_of_lt (Nat.sub_le _ _) t.isLt⟩ = false :=
    Bool.eq_false_iff.mpr fun hf => absurd ((flush0_2 _).mp hf) (by dsimp only; omega)
  rw [(dats m 0 c).before_out_acc 2 rfl t ht hf (fun _ => rfl) d]
  unfold Dat.kept
  rw [fill_whole _ d ((dats m 0 c).after 2 _), Window.fill_cut, after_2]
  exact congrArg (acc m c) (by dsimp only; omega)

theorem step_first (c : Dev nD) (t : Fin cfg0.N) (h : t.val % 4 = 0) (a b : Vec F S1024x1024 .bf16) (X X' : Vec F S1x1024x1024 .f32) :
    step (grid0.coords t) a b X = step (grid0.coords t) a b X' := by
  unfold step
  rw [if_pos ((last_coord t).trans h), if_pos ((last_coord t).trans h)]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [after_0 m c t, after_1 m c t, after_2 m c t, show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  generalize hX : (dats m 0 c).before 2 t d2 = X
  have eX : step (grid0.coords t) (aBlk m c t) (bBlk m c t) X = acc m c (t.val + 1) := by
    rw [acc_succ]
    by_cases h : t.val % 4 = 0
    · exact step_first c t h _ _ _ _
    · rw [← hX, before_2 m c t h d2]
  iapply (wp_wand frame (wpE (defs₀ (F := F)) Variants.none (c : Thread nD τ) none) Set.univ) $$ [H0 H1 H2]
  · iapply (body_sound c (grid0.coords t) _ _ _ _ _ _ _ _ (aBlk m c t) (bBlk m c t) X)
    isplitl [H0]; · iexact H0
    isplitl [H1]; · iexact H1
    iexact H2
  iintro %r ⟨H0, H1, H2⟩
  rw [eX]
  isplitl [HΦ]; · iexact HΦ
  isplitl [Ho]; · iexact Ho
  isplitl [H0]; · iexact H0
  isplitl [H1]; · iexact H1
  iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, with every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.UpRun

end
-- ==== Proof.Packed.UpFrame.lean ====
/- The frame of the call as printed: its program is the idealized one, no rule applying, so the run is the same run. -/
module

public import proofs.«01_k».proof.Defs
public import proofs.«01_k».proof.Proof.Packed.UpRun
public import proofs.«01_k».proof.Proof.Gen.Kernel4.Frame

@[expose] public section

namespace Cert.Proof.UpRun

open Idealize.ShloMosaic Idealize.SL.Sem

variable {F : FTy → Type} [FloatOps F]

theorem defs₀_same : @Cert.Kernel4.defs₀ F _ _ = @Cert.Kernel4Ideal.defs₀ F _ _ := by
  unfold Cert.Kernel4.defs₀ Cert.Kernel4Ideal.defs₀
  refine congrArg Defs.onTc (funext fun l => funext fun x => ?_)
  match l, x with
  | 0, (t, s) => rfl

theorem defs_same : @Cert.Kernel4.defs F _ _ = @Cert.Kernel4Ideal.defs F _ _ :=
  congrArg (Pipeline.defs Cert.Kernel4.pcfgs) defs₀_same

theorem frame_word : Cert.quiescent_Kernel4 := fun m ρ _ => by
  have h := frame (F := Bits) m ρ
  rw [← defs_same] at h
  exact h

theorem frame_ideal : Cert.quiescent_Kernel4Ideal := fun m ρ _ => frame (F := Ideal) m ρ

end Cert.Proof.UpRun
-- ==== Proof.Packed.UpValue.lean ====
/- The gradient of the MLP's first weights: what the call leaves in the packed buffer, at an index. -/
module

public import proofs.«01_k».proof.Defs
public import proofs.«01_k».proof.Proof.Packed.UpRun
public import proofs.«01_k».proof.Proof.Gen.Reference4Ideal.Run
public import proofs.«01_k».proof.Proof.Gen.Reference4Ideal.Read
public import Idealize.ShloMosaic.Lib.Pipeline.ValueKit
public import Idealize.ShloMosaic.Lib.WordCmp
public import Idealize.ShloMosaic.Lib.Pointwise

@[expose] public section

set_option maxRecDepth 16384

noncomputable section

namespace Cert.Proof.UpRun

open Cert.Kernel4Ideal Cert.Kernel4Ideal.Gen
open Idealize.ShloMosaic Idealize.ShloMosaic.TcCoe Idealize.SL.Sem
open Idealize.ShloMosaic.Pipeline (Dat Window)

theorem idx_0 : ∀ t, win0_0.index t = ![t.val % 4, 0] := by decide +kernel
theorem idx_1 : ∀ t, win0_1.index t = ![t.val % 4, t.val / 4] := by decide +kernel
theorem idx_2 : ∀ t, win0_2.index t = ![t.val / 4, 1, 0] := by decide +kernel

theorem zero (u : Fin 1) (i j : Fin 1024) : k0_pay1 (F := Ideal) (ix3 u i j) = 0 := by
  pointwise [k0_pay1]

theorem pay (a b : Vec Ideal S1024x1024 .bf16) (s : Vec Ideal S1x1024x1024 .f32) (u : Fin 1) (i j : Fin 1024) :
    k0_pay2 (F := Ideal) a b s (ix3 u i j) = s (ix3 u i j) + ∑ k : Fin 1024, a (ix2 k i) * b (ix2 k j) := by
  pointwise [k0_pay2]

variable (m : (ℓ : Loc nD τ sig) → Buf (Elt Ideal) ℓ) (c : Dev nD)

theorem host_h : V m c main_v0 = truncf (F := Ideal) (φ := .f32) .bf16 (m ((c : Thread nD τ).loc main_arg0)) bitsLt_bf16_f32 := by
  unfold V
  entry_read
  rfl

theorem host_du : V m c main_v1 = truncf (F := Ideal) (φ := .f32) .bf16 (m ((c : Thread nD τ).loc main_arg1)) bitsLt_bf16_f32 := by
  unfold V
  entry_read
  rfl

theorem host_buf : V m c main_v2 = m ((c : Thread nD τ).loc main_arg2) := by
  unfold V
  entry_read
  rfl

theorem row (t : Fin cfg0.N) (i : Fin 1024) : t.val / 4 * 1024 + i.val < 4096 := by
  have h : t.val < 16 := t.isLt
  omega

theorem block_h (t : Fin cfg0.N) (k i : Fin 1024) : aBlk m c t (ix2 k i)
    = m ((c : Thread nD τ).loc main_arg0) (ix2 ⟨t.val % 4 * 1024 + k.val, by omega⟩ i) := by
  unfold aBlk iblk
  refine Eq.trans (b := V m c main_v0 (ix2 ⟨t.val % 4 * 1024 + k.val, by omega⟩ i)) ?_ ?_
  · blk_ext [idx_0 t]
  · rw [host_h]
    rfl

theorem block_du (t : Fin cfg0.N) (k j : Fin 1024) : bBlk m c t (ix2 k j)
    = m ((c : Thread nD τ).loc main_arg1) (ix2 ⟨t.val % 4 * 1024 + k.val, by omega⟩ ⟨t.val / 4 * 1024 + j.val, row t j⟩) := by
  unfold bBlk iblk
  refine Eq.trans (b := V m c main_v1 (ix2 ⟨t.val % 4 * 1024 + k.val, by omega⟩ ⟨t.val / 4 * 1024 + j.val, row t j⟩)) ?_ ?_
  · blk_ext [idx_1 t]
  · rw [host_du]
    rfl

theorem shard (t : Fin cfg0.N) : t.val / 4 < 4 := by
  have h : t.val < 16 := t.isLt
  omega

theorem row_lt (i : Fin 1024) : 1024 + i.val < 3328 := by omega

/-- The place in a block of an index of what a point writes back: the same, the written part being the whole block. -/
def within (t : Fin cfg0.N) (y : ((cfg0.win 2).xblock (cfg0.grid.coords t)).Idx) : S1x1024x1024.Idx :=
  (cfg0.win 2).xinj (cfg0.grid.coords t) y

theorem within_val (t : Fin cfg0.N) (y : ((cfg0.win 2).xblock (cfg0.grid.coords t)).Idx) (a : Fin 3) : (within t y a).val = (y a).val := rfl

theorem place (t : Fin cfg0.N) (y : ((cfg0.win 2).xblock (cfg0.grid.coords t)).Idx) : (win0_2.blk t).view.emb y
    = ix3 ⟨t.val / 4, shard t⟩ ⟨1024 + (within t y 1 : Fin 1024).val, row_lt (within t y 1)⟩ (within t y 2 : Fin 1024) := by
  have h0 : (y 0).val = 0 := Nat.lt_one_iff.mp (within t y 0).isLt
  have h1 := within_val t y 1
  have h2 := within_val t y 2
  blk_ext [idx_2 t]

/-- What a grid point adds to its block. -/
def prod (a b : Vec Ideal S1024x1024 .bf16) : FVec Ideal S1x1024x1024 .f32 := fun y =>
  ∑ k : Fin 1024, a (ix2 k (y 1)) * b (ix2 k (y 2))

theorem pay' (a b : Vec Ideal S1024x1024 .bf16) (s : Vec Ideal S1x1024x1024 .f32) (y : S1x1024x1024.Idx) :
    k0_pay2 (F := Ideal) a b s y = s y + prod a b y := by
  rw [eq_ix3 y]
  exact pay _ _ _ _ _ _

theorem zero' (y : S1x1024x1024.Idx) : k0_pay1 (F := Ideal) y = 0 := by
  rw [eq_ix3 y]
  exact zero _ _ _

/-- The gradient of the first weights at an index: the layer input's column times the cotangent's. -/
def entry (h : FVec Ideal S4096x1024 .f32) (du : FVec Ideal S4096x4096 .f32) (r : Fin 1024) (j : Fin 4096) : EReal :=
  ∑ k : Fin 4096, h (ix2 k r) * du (ix2 k j)

theorem shard_col {s j : ℕ} (hs : s < 4) (hj : j < 1024) : s * 1024 + j < 4096 := by omega
theorem second_rows {r : ℕ} (h : 1024 ≤ r ∧ r < 2048) : r / 1024 = 1 := by omega
theorem in_rows {r : ℕ} (h : 1024 ≤ r ∧ r < 2048) : r - 1024 < 1024 := by omega

/-- The packed buffer with the gradient in each shard's second rows. -/
def grad (h : FVec Ideal S4096x1024 .f32) (du : FVec Ideal S4096x4096 .f32) (gp : FVec Ideal S4x3328x1024 .f32) :
    FVec Ideal S4x3328x1024 .f32 := fun y =>
  if hy : 1024 ≤ (y 1).val ∧ (y 1).val < 2048 then
    entry h du ⟨(y 1).val - 1024, in_rows hy⟩ ⟨(y 0).val * 1024 + (y 2).val, shard_col (y 0).isLt (y 2).isLt⟩
  else gp y

theorem grad_rows (h : FVec Ideal S4096x1024 .f32) (du : FVec Ideal S4096x4096 .f32) (gp : FVec Ideal S4x3328x1024 .f32)
    (s : Fin 4) (r j : Fin 1024) (hr : 1024 + r.val < 3328) :
    grad h du gp (ix3 s ⟨1024 + r.val, hr⟩ j) = entry h du r ⟨s.val * 1024 + j.val, shard_col s.isLt j.isLt⟩ := by
  refine (dif_pos (⟨by omega, by omega⟩ : 1024 ≤ 1024 + r.val ∧ 1024 + r.val < 2048)).trans ?_
  exact congrArg (entry h du · _) (Fin.ext (Nat.add_sub_cancel_left 1024 r.val))

theorem grad_of_not (h : FVec Ideal S4096x1024 .f32) (du : FVec Ideal S4096x4096 .f32) (gp : FVec Ideal S4x3328x1024 .f32)
    (y : S4x3328x1024.Idx) (hy : ¬ (1024 ≤ (y 1).val ∧ (y 1).val < 2048)) : grad h du gp y = gp y := dif_neg hy

theorem point_lt (t : Fin cfg0.N) (s : Fin 4) : 4 * (t.val / 4) + s.val < cfg0.N := by
  have h : t.val < 16 := t.isLt
  show _ < 16
  omega

theorem sum_parts (t : Fin cfg0.N) (u : Fin 1) (i j : Fin 1024) :
    (0 : EReal) + ∑ s : Fin 4, prod (aBlk m c ⟨4 * (t.val / 4) + s.val, point_lt t s⟩) (bBlk m c ⟨4 * (t.val / 4) + s.val, point_lt t s⟩) (ix3 u i j)
      = entry (m ((c : Thread nD τ).loc main_arg0)) (m ((c : Thread nD τ).loc main_arg1)) i ⟨t.val / 4 * 1024 + j.val, row t j⟩ := by
  rw [zero_add]
  refine Fin.sum_mul_add_congr fun s k hl => ?_
  have hd : (4 * (t.val / 4) + s.val) / 4 = t.val / 4 := by omega
  have hm : (4 * (t.val / 4) + s.val) % 4 = s.val := by omega
  refine (congrArg₂ (fun a b : EReal => a * b) (block_h m c _ k i) (block_du m c _ k j)).trans ?_
  simp only [hd, hm]

theorem acc_flush (t : Fin cfg0.N) (hf : t.val % 4 = 3) (y : S1x1024x1024.Idx) : acc m c (t.val + 1) y
    = (0 : EReal) + ∑ s : Fin 4, prod (aBlk m c ⟨4 * (t.val / 4) + s.val, point_lt t s⟩) (bBlk m c ⟨4 * (t.val / 4) + s.val, point_lt t s⟩) y := by
  refine Pipeline.eq_sum_fin_of_reset_step_apply_of_flush (M := EReal) (fun n (_ : n < cfg0.N) y => acc m c (n + 1) y) 4 (fun _ => 0)
    (fun t => prod (aBlk m c t) (bBlk m c t)) (fun t h y => ?_) (fun t h y => ?_) t hf y
  · show acc m c (t.val + 1) y = _
    rw [acc_succ]
    unfold step
    rw [if_pos ((last_coord t).trans h), pay', zero']
  · show acc m c (t.val + 1) y = acc m c (t.val - 1 + 1) y + _
    rw [acc_succ, Nat.sub_add_cancel (Nat.pos_of_ne_zero fun h0 => h (by rw [h0]))]
    unfold step
    rw [if_neg fun h' => h ((last_coord t).symm.trans h'), pay']

theorem point (t : Fin cfg0.N) (z : S1x1024x1024.Idx) :
    (0 : EReal) + ∑ s : Fin 4, prod (aBlk m c ⟨4 * (t.val / 4) + s.val, point_lt t s⟩) (bBlk m c ⟨4 * (t.val / 4) + s.val, point_lt t s⟩) z
      = grad (m ((c : Thread nD τ).loc main_arg0)) (m ((c : Thread nD τ).loc main_arg1)) (m ((c : Thread nD τ).loc main_arg2))
          (ix3 ⟨t.val / 4, shard t⟩ ⟨1024 + (z 1 : Fin 1024).val, row_lt (z 1)⟩ (z 2 : Fin 1024)) := by
  refine Eq.trans ?_ (grad_rows _ _ _ ⟨t.val / 4, shard t⟩ (z 1) (z 2) (row_lt (z 1))).symm
  exact sum_parts m c t (z 0) (z 1) (z 2)

theorem final : (dats m 0 c).arrAt 2 (cfgs 0).N
    = grad (m ((c : Thread nD τ).loc main_arg0)) (m ((c : Thread nD τ).loc main_arg1)) (m ((c : Thread nD τ).loc main_arg2)) := by
  refine (dats m 0 c).arrAt_eq_of_coversWhere_of_agree 2 _ (fun β => β (1 : Fin 3) = 1) (by decide +kernel) (fun t hf y => ?_) (fun j hj => ?_)
  · blk_simp
    rw [after_2, acc_flush m c t ((flush0_2 t).mp hf)]
    show (0 : EReal) + ∑ s : Fin 4, prod _ _ (within t y) = _
    exact (point m c t _).trans (congrArg (grad _ _ _) (place t y)).symm
  · have h : ¬ (1024 ≤ (j 1).val ∧ (j 1).val < 2048) := fun h => hj (second_rows h)
    refine (congrFun (host_buf m c) j).trans ?_
    exact (grad_of_not _ _ _ _ h).symm

section
open Cert.Reference4Ideal.Read

theorem reference_entry (h : FVec Ideal S4096x1024 .f32) (du : FVec Ideal S4096x4096 .f32) (s : Fin 4) (r j : Fin 1024) :
    val_main_v5 (F := Ideal) h du (ix3 s r j) = entry h du r ⟨s.val * 1024 + j.val, by omega⟩ := by
  unfold entry
  pointwise [val_main_v5, val_main_v4, val_main_v3, val_main_v2]
  exact Finset.sum_congr rfl fun k _ => mul_comm _ _

theorem reference (h : FVec Ideal S4096x1024 .f32) (du : FVec Ideal S4096x4096 .f32) (gp : FVec Ideal S4x3328x1024 .f32) :
    val_main_v6 (F := Ideal) h du gp = grad h du gp := by
  funext y
  unfold val_main_v6
  rw [WordCmp.dynamicUpdateSlice_eq_update _ _ _ _ ![0, 1024, 0] (by decide) (fun a => by fin_cases a <;> rfl)]
  unfold updateSlice grad
  by_cases hy : 1024 ≤ (y 1).val ∧ (y 1).val < 2048
  · rw [dif_pos hy, dif_pos fun a => match a with
      | 0 => ⟨Nat.zero_le _, Nat.lt_of_lt_of_eq (y 0).isLt (Nat.zero_add _).symm⟩
      | 1 => hy
      | 2 => ⟨Nat.zero_le _, Nat.lt_of_lt_of_eq (y 2).isLt (Nat.zero_add _).symm⟩]
    refine Eq.trans (congrArg _ ?_) (reference_entry h du (y 0) ⟨(y 1).val - 1024, in_rows hy⟩ (y 2))
    exact funext fun a => match a with | 0 => rfl | 1 => rfl | 2 => rfl
  · rw [dif_neg hy, dif_neg fun h' => hy (h' 1)]
end

theorem value : Cert.algebraic_Kernel4Ideal_Reference4Ideal := by
  intro m ρ m' ρ' _ hagree
  refine ⟨fun c => grad (m ((c : Thread nD τ).loc main_arg0)) (m ((c : Thread nD τ).loc main_arg1)) (m ((c : Thread nD τ).loc main_arg2)), ?_, ?_⟩
  · refine (θ_run Cert.Kernel4Ideal.defs _ _).mono (fun r h c => ?_) (θ_run_and (run_main (F := Ideal) m ρ) (frame m ρ))
    exact ⟨((h.1.1 c).1 2).trans (final m c), h.2.1 c⟩
  · refine (θ_run Cert.Reference4Ideal.defs _ _).mono (fun r h c => ?_) (Cert.Reference4Ideal.Value.run (F := Ideal) m' ρ')
    obtain ⟨h0, h1, h2⟩ := hagree c
    refine ⟨((h c).1.trans (Cert.Reference4Ideal.Read.val_main_v6_eq (F := Ideal) _ _ _)).trans ?_, (h c).2⟩
    rw [h0, h1, h2]
    exact reference _ _ _

end Cert.Proof.UpRun

end
-- ==== Proof.Value.InDw.lean ====
/- The gradient of the combined projection's weights: what the call leaves, at an index. -/
module

public import proofs.«01_k».proof.Proof.Value.Kit
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

namespace Cert.Proof.InDw

open Cert.Kernel6Ideal Cert.Kernel6Ideal.Gen
open Idealize.ShloMosaic Idealize.ShloMosaic.TcCoe Idealize.SL.Sem

theorem idx_0 : ∀ t, win0_0.index t = ![t.val % 4, 0] := by decide +kernel
theorem idx_1 : ∀ t, win0_1.index t = ![t.val % 4, t.val / 4] := by decide +kernel
theorem idx_2 : ∀ t, win0_2.index t = ![0, t.val / 4] := by decide +kernel

theorem pay (a : Vec Ideal S1024x1024 .bf16) (b : Vec Ideal S1024x1280 .bf16) (s : Vec Ideal S1024x1280 .f32) (i : Fin 1024) (j : Fin 1280) :
    k0_pay2 (F := Ideal) a b s (ix2 i j) = s (ix2 i j) + ∑ k : Fin 1024, a (ix2 k i) * b (ix2 k j) := by
  pointwise [k0_pay2]
theorem zero (y : S1024x1280.Idx) : k0_pay1 (F := Ideal) y = 0 := by
  rw [eq_ix2 y]
  pointwise [k0_pay1]

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  entry_read
  rfl
theorem host_b : Gen.V m c main_v1 = truncf (F := Ideal) (φ := .f32) .bf16 (m ((c : Thread nD τ).loc main_arg1)) bitsLt_bf16_f32 := by
  unfold Gen.V
  entry_read
  rfl

theorem bound (t : Fin cfg0.N) (i : Fin 1280) : t.val / 4 * 1280 + i.val < 2560 := by
  have h : t.val < 8 := t.isLt
  omega

theorem block_a (t : Fin cfg0.N) (k i : Fin 1024) : iblk m c 0 t (ix2 k i)
    = m ((c : Thread nD τ).loc main_arg0) (ix2 ⟨t.val % 4 * 1024 + k.val, by omega⟩ i) := by
  unfold iblk
  refine Eq.trans (b := Gen.V m c main_v0 (ix2 ⟨t.val % 4 * 1024 + k.val, by omega⟩ i)) ?_ ?_
  · blk_ext [idx_0 t]
  · rw [host_a]
    rfl

theorem block_b (t : Fin cfg0.N) (k : Fin 1024) (j : Fin 1280) : iblk m c 1 t (ix2 k j)
    = m ((c : Thread nD τ).loc main_arg1) (ix2 ⟨t.val % 4 * 1024 + k.val, by omega⟩ ⟨t.val / 4 * 1280 + j.val, bound t j⟩) := by
  unfold iblk
  refine Eq.trans (b := Gen.V m c main_v1 (ix2 ⟨t.val % 4 * 1024 + k.val, by omega⟩ ⟨t.val / 4 * 1280 + j.val, bound t j⟩)) ?_ ?_
  · blk_ext [idx_1 t]
  · rw [host_b]
    rfl

theorem place (t : Fin cfg0.N) (i : Fin 1024) (j : Fin 1280) : ((View.whole main_v2).slice (win0_2.rect t)).emb (ix2 i j)
    = ix2 i ⟨t.val / 4 * 1280 + j.val, bound t j⟩ := by
  blk_ext [idx_2 t]

/-- The gradient of the projection's weights at an index. -/
def grad (h : FVec Ideal S4096x1024 .f32) (dp : FVec Ideal S4096x2560 .f32) : FVec Ideal S1024x2560 .f32 := fun y =>
  ∑ k : Fin 4096, h (ix2 k (y 0)) * dp (ix2 k (y 1))

/-- A block times another. -/
def prod (a : Vec Ideal S1024x1024 .bf16) (b : Vec Ideal S1024x1280 .bf16) : FVec Ideal S1024x1280 .f32 := fun y =>
  ∑ k : Fin 1024, a (ix2 k (y 0)) * b (ix2 k (y 1))

/-- What the run adds at a point. -/
def part (t : Fin cfg0.N) : FVec Ideal S1024x1280 .f32 := fun y => prod (iblk m c 0 t) (iblk m c 1 t) y

theorem add (t : Fin cfg0.N) (s : Vec Ideal S1024x1280 .f32) (y : S1024x1280.Idx) :
    k0_pay2 (F := Ideal) (iblk m c 0 t) (iblk m c 1 t) s y = s y + part m c t y := by
  rw [eq_ix2 y]
  exact pay _ _ _ _ _

theorem point_lt (t : Fin cfg0.N) (s : Fin 4) : 4 * (t.val / 4) + s.val < cfg0.N := by
  have h : t.val < 8 := t.isLt
  show _ < 8
  omega

theorem sum_parts (t : Fin cfg0.N) (i : Fin 1024) (j : Fin 1280) :
    (0 : EReal) + ∑ s : Fin 4, part m c ⟨4 * (t.val / 4) + s.val, point_lt t s⟩ (ix2 i j)
      = grad (m ((c : Thread nD τ).loc main_arg0)) (m ((c : Thread nD τ).loc main_arg1)) (ix2 i ⟨t.val / 4 * 1280 + j.val, bound t j⟩) := by
  rw [zero_add]
  refine Fin.sum_mul_add_congr fun s k hl => ?_
  have hd : (4 * (t.val / 4) + s.val) / 4 = t.val / 4 := by omega
  have hm : (4 * (t.val / 4) + s.val) % 4 = s.val := by omega
  refine (congrArg₂ (fun x y : EReal => x * y) (block_a m c _ k i) (block_b m c _ k j)).trans ?_
  simp only [hd, hm]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [Gen.after0_2]
  rw [Pipeline.eq_sum_fin_of_reset_step_apply_of_flush (fun n h => Gen.outsAt0 m c n h) 4 (fun _ => 0) (part m c)
    (fun t h j => by rw [outsAt0_A m c t h]; frame_out; rw [add, zero])
    (fun t h j => by rw [outsAt0_B m c t h]; frame_out; rw [add]) t ((flush0_2 t).mp hf) y]
  rw [eq_ix2 y]
  refine (sum_parts m c t (y 0) (y 1)).trans ?_
  exact (congrArg (grad _ _) (place t (y 0) (y 1))).symm

section
open Cert.Reference6Ideal.Read

theorem reference (h : FVec Ideal S4096x1024 .f32) (dp : FVec Ideal S4096x2560 .f32) : val_main_v3 (F := Ideal) h dp = grad h dp := by
  funext y
  rw [val_main_v3_apply, val_main_v2_apply]
  refine Finset.sum_congr rfl fun k _ => (mul_comm _ _).trans (congrArg₂ (h · * dp ·) ?_ ?_)
  all_goals exact funext fun a => match a with | 0 => rfl | 1 => rfl
end

theorem value : Cert.algebraic_Kernel6Ideal_Reference6Ideal := by
  intro m ρ m' ρ' _ hagree
  refine ⟨fun c => grad (m ((c : Thread nD τ).loc main_arg0)) (m ((c : Thread nD τ).loc main_arg1)), ?_, ?_⟩
  · refine (θ_run Cert.Kernel6Ideal.defs _ _).mono (fun r h c => ?_) (Cert.Kernel6Ideal.Value.run_blocks (F := Ideal) m ρ)
    exact ⟨(h c).1.trans (final m c), (h c).2⟩
  · refine (θ_run Cert.Reference6Ideal.defs _ _).mono (fun r h c => ?_) (Cert.Reference6Ideal.Value.run (F := Ideal) m' ρ')
    obtain ⟨h0, h1⟩ := hagree c
    refine ⟨(h c).1.trans ?_, (h c).2⟩
    rw [h0, h1]
    exact (Cert.Reference6Ideal.Read.val_main_v3_eq (F := Ideal) _ _).trans (reference _ _)

end Cert.Proof.InDw

end
-- ==== Proof.Value.InDx.lean ====
/- The gradient of the combined projection's input: what the call leaves, at an index. -/
module

public import proofs.«01_k».proof.Proof.Value.Kit
public import proofs.«01_k».proof.Proof.Gen.Kernel7Ideal.Value
public import proofs.«01_k».proof.Proof.Gen.Reference7Ideal.Run
public import proofs.«01_k».proof.Proof.Gen.Reference7Ideal.Read

@[expose] public section

set_option maxRecDepth 16384

noncomputable section

namespace Cert.Proof.InDx

open Cert.Kernel7Ideal Cert.Kernel7Ideal.Gen
open Idealize.ShloMosaic Idealize.ShloMosaic.TcCoe Idealize.SL.Sem

theorem idx_0 : ∀ t, win0_0.index t = ![t.val / 2, t.val % 2] := by decide +kernel
theorem idx_1 : ∀ t, win0_1.index t = ![0, t.val % 2] := by decide +kernel
theorem idx_2 : ∀ t, win0_2.index t = ![t.val / 2, 0] := by decide +kernel

theorem pay (a : Vec Ideal S1024x1280 .bf16) (b : Vec Ideal S1024x1280 .bf16) (s : Vec Ideal S1024x1024 .f32) (i : Fin 1024) (j : Fin 1024) :
    k0_pay2 (F := Ideal) a b s (ix2 i j) = s (ix2 i j) + ∑ k : Fin 1280, a (ix2 i k) * b (ix2 j k) := by
  pointwise [k0_pay2]
theorem zero (y : S1024x1024.Idx) : k0_pay1 (F := Ideal) y = 0 := by
  rw [eq_ix2 y]
  pointwise [k0_pay1]

variable (m : (ℓ : Loc nD τ sig) → Buf (Elt Ideal) ℓ) (c : Dev nD)

theorem host_a : Gen.V m c main_v0 = truncf (F := Ideal) (φ := .f32) .bf16 (m ((c : Thread nD τ).loc main_arg1)) bitsLt_bf16_f32 := by
  unfold Gen.V
  entry_read
  rfl
theorem host_b : Gen.V m c main_v1 = truncf (F := Ideal) (φ := .f32) .bf16 (m ((c : Thread nD τ).loc main_arg0)) bitsLt_bf16_f32 := by
  unfold Gen.V
  entry_read
  rfl

theorem bound (t : Fin cfg0.N) (i : Fin 1024) : t.val / 2 * 1024 + i.val < 4096 := by
  have h : t.val < 8 := t.isLt
  omega

theorem block_a (t : Fin cfg0.N) (i : Fin 1024) (k : Fin 1280) : iblk m c 0 t (ix2 i k)
    = m ((c : Thread nD τ).loc main_arg1) (ix2 ⟨t.val / 2 * 1024 + i.val, bound t i⟩ ⟨t.val % 2 * 1280 + k.val, by omega⟩) := by
  unfold iblk
  refine Eq.trans (b := Gen.V m c main_v0 (ix2 ⟨t.val / 2 * 1024 + i.val, bound t i⟩ ⟨t.val % 2 * 1280 + k.val, by omega⟩)) ?_ ?_
  · blk_ext [idx_0 t]
  · rw [host_a]
    rfl

theorem block_b (t : Fin cfg0.N) (j : Fin 1024) (k : Fin 1280) : iblk m c 1 t (ix2 j k)
    = m ((c : Thread nD τ).loc main_arg0) (ix2 j ⟨t.val % 2 * 1280 + k.val, by omega⟩) := by
  unfold iblk
  refine Eq.trans (b := Gen.V m c main_v1 (ix2 j ⟨t.val % 2 * 1280 + k.val, by omega⟩)) ?_ ?_
  · blk_ext [idx_1 t]
  · rw [host_b]
    rfl

theorem place (t : Fin cfg0.N) (i j : Fin 1024) : ((View.whole main_v2).slice (win0_2.rect t)).emb (ix2 i j)
    = ix2 ⟨t.val / 2 * 1024 + i.val, bound t i⟩ j := by
  blk_ext [idx_2 t]

/-- The gradient of the projection's input at an index. -/
def grad (w : FVec Ideal S1024x2560 .f32) (dp : FVec Ideal S4096x2560 .f32) : FVec Ideal S4096x1024 .f32 := fun y =>
  ∑ k : Fin 2560, dp (ix2 (y 0) k) * w (ix2 (y 1) k)

/-- A block times another. -/
def prod (a : Vec Ideal S1024x1280 .bf16) (b : Vec Ideal S1024x1280 .bf16) : FVec Ideal S1024x1024 .f32 := fun y =>
  ∑ k : Fin 1280, a (ix2 (y 0) k) * b (ix2 (y 1) k)

/-- What the run adds at a point. -/
def part (t : Fin cfg0.N) : FVec Ideal S1024x1024 .f32 := fun y => prod (iblk m c 0 t) (iblk m c 1 t) y

theorem add (t : Fin cfg0.N) (s : Vec Ideal S1024x1024 .f32) (y : S1024x1024.Idx) :
    k0_pay2 (F := Ideal) (iblk m c 0 t) (iblk m c 1 t) s y = s y + part m c t y := by
  rw [eq_ix2 y]
  exact pay _ _ _ _ _

theorem point_lt (t : Fin cfg0.N) (s : Fin 2) : 2 * (t.val / 2) + s.val < cfg0.N := by
  have h : t.val < 8 := t.isLt
  show _ < 8
  omega

theorem sum_parts (t : Fin cfg0.N) (i j : Fin 1024) :
    (0 : EReal) + ∑ s : Fin 2, part m c ⟨2 * (t.val / 2) + s.val, point_lt t s⟩ (ix2 i j)
      = grad (m ((c : Thread nD τ).loc main_arg0)) (m ((c : Thread nD τ).loc main_arg1)) (ix2 ⟨t.val / 2 * 1024 + i.val, bound t i⟩ j) := by
  rw [zero_add]
  refine Fin.sum_mul_add_congr fun s k hl => ?_
  have hd : (2 * (t.val / 2) + s.val) / 2 = t.val / 2 := by omega
  have hm : (2 * (t.val / 2) + s.val) % 2 = s.val := by omega
  refine (congrArg₂ (fun x y : EReal => x * y) (block_a m c _ i k) (block_b m c _ j k)).trans ?_
  simp only [hd, hm]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [Gen.after0_2]
  rw [Pipeline.eq_sum_fin_of_reset_step_apply_of_flush (fun n h => Gen.outsAt0 m c n h) 2 (fun _ => 0) (part m c)
    (fun t h j => by rw [outsAt0_A m c t h]; frame_out; rw [add, zero])
    (fun t h j => by rw [outsAt0_B m c t h]; frame_out; rw [add]) t ((flush0_2 t).mp hf) y]
  rw [eq_ix2 y]
  refine (sum_parts m c t (y 0) (y 1)).trans ?_
  exact (congrArg (grad _ _) (place t (y 0) (y 1))).symm

section
open Cert.Reference7Ideal.Read

theorem reference (w : FVec Ideal S1024x2560 .f32) (dp : FVec Ideal S4096x2560 .f32) : val_main_v2 (F := Ideal) w dp = grad w dp := by
  funext y
  rw [val_main_v2_apply]
  refine Finset.sum_congr rfl fun k _ => congrArg₂ (dp · * w ·) ?_ ?_
  all_goals exact funext fun a => match a with | 0 => rfl | 1 => rfl
end

theorem value : Cert.algebraic_Kernel7Ideal_Reference7Ideal := by
  intro m ρ m' ρ' _ hagree
  refine ⟨fun c => grad (m ((c : Thread nD τ).loc main_arg0)) (m ((c : Thread nD τ).loc main_arg1)), ?_, ?_⟩
  · refine (θ_run Cert.Kernel7Ideal.defs _ _).mono (fun r h c => ?_) (Cert.Kernel7Ideal.Value.run_blocks (F := Ideal) m ρ)
    exact ⟨(h c).1.trans (final m c), (h c).2⟩
  · refine (θ_run Cert.Reference7Ideal.defs _ _).mono (fun r h c => ?_) (Cert.Reference7Ideal.Value.run (F := Ideal) m' ρ')
    obtain ⟨h0, h1⟩ := hagree c
    refine ⟨(h c).1.trans ?_, (h c).2⟩
    rw [h0, h1]
    exact (Cert.Reference7Ideal.Read.val_main_v2_eq (F := Ideal) _ _).trans (reference _ _)

end Cert.Proof.InDx

end
-- ==== Proof.Value.MemOut.lean ====
/- The gradient of the memory attention's output: what the call leaves, at an index. -/
module

public import proofs.«01_k».proof.Proof.Value.Kit
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384

noncomputable section

namespace Cert.Proof.MemOut

open Cert.Kernel8Ideal Cert.Kernel8Ideal.Gen
open Idealize.ShloMosaic Idealize.ShloMosaic.TcCoe Idealize.SL.Sem

theorem idx_0 : ∀ t, win0_0.index t = ![t.val, 0] := by decide +kernel
theorem idx_1 : ∀ t, win0_1.index t = ![0, 11, 0] := by decide +kernel
theorem idx_2 : ∀ t, win0_2.index t = ![t.val, 0] := by decide +kernel

theorem pay (a : Vec Ideal S1024x1024 .bf16) (b : Vec Ideal S4x256x1024 .bf16) (i : Fin 1024) (j : Fin 1024) :
    k0_pay3 (F := Ideal) (k0_pay2 (F := Ideal) a b (k0_pay1 (F := Ideal))) (ix2 i j) = ∑ k : Fin 1024, a (ix2 i k) * b (ix3 ⟨j.val / 256, by omega⟩ ⟨j.val % 256, by omega⟩ k) := by
  pointwise [k0_pay3, k0_pay2, k0_pay1]

/-- The weights packed by shards of 256 rows, between zeros. -/
def packed (w : FVec Ideal S1024x1024 .f32) : FVec Ideal S4x3328x1024 .f32 :=
  pad S4x3328x1024 ![0, 2816, 0] ![0, 256, 0] ![0, 0, 0] (shapeCast S4x256x1024 w shapeCasts_S1024x1024_S4x256x1024)
    (sitofp .f32 (constantI S_ 32 0#32)) pads_S4x256x1024_S4x3328x1024_000_28162560_000 h_S_

theorem packed_apply (w : FVec Ideal S1024x1024 .f32) (s : Fin 4) (r : Fin 256) (k : Fin 1024) (h : 2816 + r.val < 3328) :
    packed w (ix3 s ⟨2816 + r.val, h⟩ k) = w (ix2 ⟨s.val * 256 + r.val, by omega⟩ k) := by
  unfold packed
  pointwise []

theorem whole (j : Fin 1024) : (⟨j.val / 256 * 256 + j.val % 256, by omega⟩ : Fin 1024) = j :=
  Fin.ext (by show j.val / 256 * 256 + j.val % 256 = j.val; omega)

variable (m : (ℓ : Loc nD τ sig) → Buf (Elt Ideal) ℓ) (c : Dev nD)

theorem host_a : Gen.V m c main_v0 = truncf (F := Ideal) (φ := .f32) .bf16 (m ((c : Thread nD τ).loc main_arg1)) bitsLt_bf16_f32 := by
  unfold Gen.V
  simp only [hostOps0, hostOps0_1, hostOps0_2, List.flatten_cons, List.flatten_nil, List.append_nil, List.cons_append, List.nil_append]
  entry_read
  rfl
theorem host_b : Gen.V m c main_v3 = truncf (F := Ideal) (φ := .f32) .bf16 (packed (m ((c : Thread nD τ).loc main_arg0))) bitsLt_bf16_f32 := by
  unfold Gen.V
  simp only [hostOps0, hostOps0_1, hostOps0_2, List.flatten_cons, List.flatten_nil, List.append_nil, List.cons_append, List.nil_append]
  entry_read
  rfl

theorem bound (t : Fin cfg0.N) (i : Fin 1024) : t.val * 1024 + i.val < 4096 := by
  have h : t.val < 4 := t.isLt
  omega

theorem block_a (t : Fin cfg0.N) (i k : Fin 1024) : iblk m c 0 t (ix2 i k)
    = m ((c : Thread nD τ).loc main_arg1) (ix2 ⟨t.val * 1024 + i.val, bound t i⟩ k) := by
  unfold iblk
  refine Eq.trans (b := Gen.V m c main_v0 (ix2 ⟨t.val * 1024 + i.val, bound t i⟩ k)) ?_ ?_
  · blk_ext [idx_0 t]
  · rw [host_a]
    rfl

theorem block_b (t : Fin cfg0.N) (s : Fin 4) (r : Fin 256) (k : Fin 1024) : iblk m c 1 t (ix3 s r k)
    = m ((c : Thread nD τ).loc main_arg0) (ix2 ⟨s.val * 256 + r.val, by omega⟩ k) := by
  unfold iblk
  refine Eq.trans (b := Gen.V m c main_v3 (ix3 s ⟨2816 + r.val, by omega⟩ k)) ?_ ?_
  · blk_ext [idx_1 t]
  · rw [host_b]
    exact packed_apply _ _ _ _ _

theorem place (t : Fin cfg0.N) (i j : Fin 1024) : ((View.whole main_v4).slice (win0_2.rect t)).emb (ix2 i j)
    = ix2 ⟨t.val * 1024 + i.val, bound t i⟩ j := by
  blk_ext [idx_2 t]

/-- The gradient of the memory attention's output at an index. -/
def grad (w : FVec Ideal S1024x1024 .f32) (dx : FVec Ideal S4096x1024 .f32) : FVec Ideal S4096x1024 .bf16 := fun y =>
  ∑ k : Fin 1024, dx (ix2 (y 0) k) * w (ix2 (y 1) k)

theorem point (t : Fin cfg0.N) (i j : Fin 1024) : k0_pay3 (F := Ideal) (k0_pay2 (F := Ideal) (iblk m c 0 t) (iblk m c 1 t) (k0_pay1 (F := Ideal))) (ix2 i j)
    = grad (m ((c : Thread nD τ).loc main_arg0)) (m ((c : Thread nD τ).loc main_arg1)) (((View.whole main_v4).slice (win0_2.rect t)).emb (ix2 i j)) := by
  rw [place]
  refine (pay _ _ i j).trans ?_
  simp only [block_a, block_b, whole]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference8Ideal.Read

theorem reference (w : FVec Ideal S1024x1024 .f32) (dx : FVec Ideal S4096x1024 .f32) : val_main_v3 (F := Ideal) w dx = grad w dx := by
  funext y
  rw [val_main_v3_apply, val_main_v2_apply]
  refine Finset.sum_congr rfl fun k _ => congrArg₂ (dx · * w ·) ?_ ?_
  all_goals exact funext fun a => match a with | 0 => rfl | 1 => rfl
end

theorem value : Cert.algebraic_Kernel8Ideal_Reference8Ideal := by
  intro m ρ m' ρ' _ hagree
  refine ⟨fun c => grad (m ((c : Thread nD τ).loc main_arg0)) (m ((c : Thread nD τ).loc main_arg1)), ?_, ?_⟩
  · refine (θ_run Cert.Kernel8Ideal.defs _ _).mono (fun r h c => ?_) (Cert.Kernel8Ideal.Value.run_blocks (F := Ideal) m ρ)
    exact ⟨(h c).1.trans (final m c), (h c).2⟩
  · refine (θ_run Cert.Reference8Ideal.defs _ _).mono (fun r h c => ?_) (Cert.Reference8Ideal.Value.run (F := Ideal) m' ρ')
    obtain ⟨h0, h1⟩ := hagree c
    refine ⟨(h c).1.trans ?_, (h c).2⟩
    rw [h0, h1]
    exact (Cert.Reference8Ideal.Read.val_main_v3_eq (F := Ideal) _ _).trans (reference _ _)

end Cert.Proof.MemOut

end
-- ==== Proof.Value.MemQuery.lean ====
/- The gradient of the memory attention's input: what the call leaves, at an index. -/
module

public import proofs.«01_k».proof.Proof.Value.Kit
public import proofs.«01_k».proof.Proof.Gen.Kernel9Ideal.Value
public import proofs.«01_k».proof.Proof.Gen.Reference9Ideal.Run
public import proofs.«01_k».proof.Proof.Gen.Reference9Ideal.Read

@[expose] public section

set_option maxRecDepth 16384

noncomputable section

namespace Cert.Proof.MemQuery

open Cert.Kernel9Ideal Cert.Kernel9Ideal.Gen
open Idealize.ShloMosaic Idealize.ShloMosaic.TcCoe Idealize.SL.Sem

theorem idx_0 : ∀ t, win0_0.index t = ![t.val, 0] := by decide +kernel
theorem idx_1 : ∀ t, win0_1.index t = ![0, 8, 0] := by decide +kernel
theorem idx_2 : ∀ t, win0_2.index t = ![t.val, 0] := by decide +kernel

theorem pay (a : Vec Ideal S1024x1024 .bf16) (b : Vec Ideal S4x256x1024 .bf16) (i : Fin 1024) (j : Fin 1024) :
    k0_pay2 (F := Ideal) a b (k0_pay1 (F := Ideal)) (ix2 i j) = ∑ k : Fin 1024, a (ix2 i k) * b (ix3 ⟨j.val / 256, by omega⟩ ⟨j.val % 256, by omega⟩ k) := by
  pointwise [k0_pay2, k0_pay1]

/-- The weights packed by shards of 256 rows, between zeros. -/
def packed (w : FVec Ideal S1024x1024 .f32) : FVec Ideal S4x3328x1024 .f32 :=
  pad S4x3328x1024 ![0, 2048, 0] ![0, 1024, 0] ![0, 0, 0] (shapeCast S4x256x1024 w shapeCasts_S1024x1024_S4x256x1024)
    (sitofp .f32 (constantI S_ 32 0#32)) pads_S4x256x1024_S4x3328x1024_000_204810240_000 h_S_

theorem packed_apply (w : FVec Ideal S1024x1024 .f32) (s : Fin 4) (r : Fin 256) (k : Fin 1024) (h : 2048 + r.val < 3328) :
    packed w (ix3 s ⟨2048 + r.val, h⟩ k) = w (ix2 ⟨s.val * 256 + r.val, by omega⟩ k) := by
  unfold packed
  pointwise []

theorem whole (j : Fin 1024) : (⟨j.val / 256 * 256 + j.val % 256, by omega⟩ : Fin 1024) = j :=
  Fin.ext (by show j.val / 256 * 256 + j.val % 256 = j.val; omega)

variable (m : (ℓ : Loc nD τ sig) → Buf (Elt Ideal) ℓ) (c : Dev nD)

theorem host_a : Gen.V m c main_v0 = truncf (F := Ideal) (φ := .f32) .bf16 (m ((c : Thread nD τ).loc main_arg1)) bitsLt_bf16_f32 := by
  unfold Gen.V
  simp only [hostOps0, hostOps0_1, hostOps0_2, List.flatten_cons, List.flatten_nil, List.append_nil, List.cons_append, List.nil_append]
  entry_read
  rfl
theorem host_b : Gen.V m c main_v3 = truncf (F := Ideal) (φ := .f32) .bf16 (packed (m ((c : Thread nD τ).loc main_arg0))) bitsLt_bf16_f32 := by
  unfold Gen.V
  simp only [hostOps0, hostOps0_1, hostOps0_2, List.flatten_cons, List.flatten_nil, List.append_nil, List.cons_append, List.nil_append]
  entry_read
  rfl

theorem bound (t : Fin cfg0.N) (i : Fin 1024) : t.val * 1024 + i.val < 4096 := by
  have h : t.val < 4 := t.isLt
  omega

theorem block_a (t : Fin cfg0.N) (i k : Fin 1024) : iblk m c 0 t (ix2 i k)
    = m ((c : Thread nD τ).loc main_arg1) (ix2 ⟨t.val * 1024 + i.val, bound t i⟩ k) := by
  unfold iblk
  refine Eq.trans (b := Gen.V m c main_v0 (ix2 ⟨t.val * 1024 + i.val, bound t i⟩ k)) ?_ ?_
  · blk_ext [idx_0 t]
  · rw [host_a]
    rfl

theorem block_b (t : Fin cfg0.N) (s : Fin 4) (r : Fin 256) (k : Fin 1024) : iblk m c 1 t (ix3 s r k)
    = m ((c : Thread nD τ).loc main_arg0) (ix2 ⟨s.val * 256 + r.val, by omega⟩ k) := by
  unfold iblk
  refine Eq.trans (b := Gen.V m c main_v3 (ix3 s ⟨2048 + r.val, by omega⟩ k)) ?_ ?_
  · blk_ext [idx_1 t]
  · rw [host_b]
    exact packed_apply _ _ _ _ _

theorem place (t : Fin cfg0.N) (i j : Fin 1024) : ((View.whole main_v4).slice (win0_2.rect t)).emb (ix2 i j)
    = ix2 ⟨t.val * 1024 + i.val, bound t i⟩ j := by
  blk_ext [idx_2 t]

/-- The gradient of the memory attention's input at an index. -/
def grad (w : FVec Ideal S1024x1024 .f32) (dq : FVec Ideal S4096x1024 .f32) : FVec Ideal S4096x1024 .f32 := fun y =>
  ∑ k : Fin 1024, dq (ix2 (y 0) k) * w (ix2 (y 1) k)

theorem point (t : Fin cfg0.N) (i j : Fin 1024) : k0_pay2 (F := Ideal) (iblk m c 0 t) (iblk m c 1 t) (k0_pay1 (F := Ideal)) (ix2 i j)
    = grad (m ((c : Thread nD τ).loc main_arg0)) (m ((c : Thread nD τ).loc main_arg1)) (((View.whole main_v4).slice (win0_2.rect t)).emb (ix2 i j)) := by
  rw [place]
  refine (pay _ _ i j).trans ?_
  simp only [block_a, block_b, whole]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference9Ideal.Read

theorem reference (w : FVec Ideal S1024x1024 .f32) (dq : FVec Ideal S4096x1024 .f32) : val_main_v2 (F := Ideal) w dq = grad w dq := by
  funext y
  rw [val_main_v2_apply]
  refine Finset.sum_congr rfl fun k _ => congrArg₂ (dq · * w ·) ?_ ?_
  all_goals exact funext fun a => match a with | 0 => rfl | 1 => rfl
end

theorem value : Cert.algebraic_Kernel9Ideal_Reference9Ideal := by
  intro m ρ m' ρ' _ hagree
  refine ⟨fun c => grad (m ((c : Thread nD τ).loc main_arg0)) (m ((c : Thread nD τ).loc main_arg1)), ?_, ?_⟩
  · refine (θ_run Cert.Kernel9Ideal.defs _ _).mono (fun r h c => ?_) (Cert.Kernel9Ideal.Value.run_blocks (F := Ideal) m ρ)
    exact ⟨(h c).1.trans (final m c), (h c).2⟩
  · refine (θ_run Cert.Reference9Ideal.defs _ _).mono (fun r h c => ?_) (Cert.Reference9Ideal.Value.run (F := Ideal) m' ρ')
    obtain ⟨h0, h1⟩ := hagree c
    refine ⟨(h c).1.trans ?_, (h c).2⟩
    rw [h0, h1]
    exact (Cert.Reference9Ideal.Read.val_main_v2_eq (F := Ideal) _ _).trans (reference _ _)

end Cert.Proof.MemQuery

end
-- ==== Proof.Value.MixDx.lean ====
/- The gradient of the attention's output before the mixing product: what the call leaves, at an index. -/
module

public import proofs.«01_k».proof.Proof.Value.Kit
public import proofs.«01_k».proof.Proof.Gen.Kernel10Ideal.Value
public import proofs.«01_k».proof.Proof.Gen.Reference10Ideal.Run
public import proofs.«01_k».proof.Proof.Gen.Reference10Ideal.Read

@[expose] public section

set_option maxRecDepth 16384

noncomputable section

namespace Cert.Proof.MixDx

open Cert.Kernel10Ideal Cert.Kernel10Ideal.Gen
open Idealize.ShloMosaic Idealize.ShloMosaic.TcCoe Idealize.SL.Sem

theorem idx_0 : ∀ t, win0_0.index t = ![0, 0] := by decide +kernel
theorem idx_1 : ∀ t, win0_1.index t = ![t.val, 0] := by decide +kernel
theorem idx_2 : ∀ t, win0_2.index t = ![0, t.val] := by decide +kernel

theorem pay (a : Vec Ideal S1024x1024 .bf16) (b : Vec Ideal S1024x1024 .bf16) (i : Fin 1024) (j : Fin 1024) :
    k0_pay2 (F := Ideal) a b (k0_pay1 (F := Ideal)) (ix2 i j) = ∑ k : Fin 1024, a (ix2 i k) * b (ix2 j k) := by
  pointwise [k0_pay2, k0_pay1]

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  entry_read
  rfl
theorem host_b : Gen.V m c main_v1 = truncf (F := Ideal) (φ := .f32) .bf16 (m ((c : Thread nD τ).loc main_arg1)) bitsLt_bf16_f32 := by
  unfold Gen.V
  entry_read
  rfl

theorem bound (t : Fin cfg0.N) (i : Fin 1024) : t.val * 1024 + i.val < 4096 := by
  have h : t.val < 4 := t.isLt
  omega

theorem block_a (t : Fin cfg0.N) (i k : Fin 1024) : iblk m c 0 t (ix2 i k)
    = m ((c : Thread nD τ).loc main_arg0) (ix2 i k) := by
  unfold iblk
  refine Eq.trans (b := Gen.V m c main_v0 (ix2 i k)) ?_ ?_
  · blk_ext [idx_0 t]
  · rw [host_a]
    rfl

theorem block_b (t : Fin cfg0.N) (j k : Fin 1024) : iblk m c 1 t (ix2 j k)
    = m ((c : Thread nD τ).loc main_arg1) (ix2 ⟨t.val * 1024 + j.val, bound t j⟩ k) := by
  unfold iblk
  refine Eq.trans (b := Gen.V m c main_v1 (ix2 ⟨t.val * 1024 + j.val, bound t j⟩ k)) ?_ ?_
  · blk_ext [idx_1 t]
  · rw [host_b]
    rfl

theorem place (t : Fin cfg0.N) (i j : Fin 1024) : ((View.whole main_v2).slice (win0_2.rect t)).emb (ix2 i j)
    = ix2 i ⟨t.val * 1024 + j.val, bound t j⟩ := by
  blk_ext [idx_2 t]

/-- The gradient of the attention's output, transposed, at an index. -/
def grad (w : FVec Ideal S1024x1024 .f32) (dx : FVec Ideal S4096x1024 .f32) : FVec Ideal S1024x4096 .f32 := fun y =>
  ∑ k : Fin 1024, w (ix2 (y 0) k) * dx (ix2 (y 1) k)

theorem point (t : Fin cfg0.N) (i j : Fin 1024) : k0_pay2 (F := Ideal) (iblk m c 0 t) (iblk m c 1 t) (k0_pay1 (F := Ideal)) (ix2 i j)
    = grad (m ((c : Thread nD τ).loc main_arg0)) (m ((c : Thread nD τ).loc main_arg1)) (((View.whole main_v2).slice (win0_2.rect t)).emb (ix2 i j)) := by
  rw [place]
  refine (pay _ _ i j).trans ?_
  simp only [block_a, block_b]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference10Ideal.Read

theorem reference (w : FVec Ideal S1024x1024 .f32) (dx : FVec Ideal S4096x1024 .f32) : val_main_v3 (F := Ideal) w dx = grad w dx := by
  funext y
  rw [val_main_v3_apply, val_main_v2_apply]
  refine Finset.sum_congr rfl fun k _ => (mul_comm _ _).trans (congrArg₂ (w · * dx ·) ?_ ?_)
  all_goals exact funext fun a => match a with | 0 => rfl | 1 => rfl
end

theorem value : Cert.algebraic_Kernel10Ideal_Reference10Ideal := by
  intro m ρ m' ρ' _ hagree
  refine ⟨fun c => grad (m ((c : Thread nD τ).loc main_arg0)) (m ((c : Thread nD τ).loc main_arg1)), ?_, ?_⟩
  · refine (θ_run Cert.Kernel10Ideal.defs _ _).mono (fun r h c => ?_) (Cert.Kernel10Ideal.Value.run_blocks (F := Ideal) m ρ)
    exact ⟨(h c).1.trans (final m c), (h c).2⟩
  · refine (θ_run Cert.Reference10Ideal.defs _ _).mono (fun r h c => ?_) (Cert.Reference10Ideal.Value.run (F := Ideal) m' ρ')
    obtain ⟨h0, h1⟩ := hagree c
    refine ⟨(h c).1.trans ?_, (h c).2⟩
    rw [h0, h1]
    exact (Cert.Reference10Ideal.Read.val_main_v3_eq (F := Ideal) _ _).trans (reference _ _)

end Cert.Proof.MixDx

end
-- ==== Proof.Value.MixDw.lean ====
/- The gradient of the mixing product's weights: what the call leaves, at an index. -/
module

public import proofs.«01_k».proof.Proof.Value.Kit
public import proofs.«01_k».proof.Proof.Gen.Kernel11Ideal.Value
public import proofs.«01_k».proof.Proof.Gen.Reference11Ideal.Run
public import proofs.«01_k».proof.Proof.Gen.Reference11Ideal.Read

@[expose] public section

set_option maxRecDepth 16384

noncomputable section

namespace Cert.Proof.MixDw

open Cert.Kernel11Ideal Cert.Kernel11Ideal.Gen
open Idealize.ShloMosaic Idealize.ShloMosaic.TcCoe Idealize.SL.Sem

theorem idx_0 : ∀ t, win0_0.index t = ![0, t.val % 4] := by decide +kernel
theorem idx_1 : ∀ t, win0_1.index t = ![t.val % 4, 0] := by decide +kernel
theorem idx_2 : ∀ t, win0_2.index t = ![0, 0] := by decide +kernel

theorem pay (a : Vec Ideal S1024x1024 .f32) (b : Vec Ideal S1024x1024 .bf16) (s : Vec Ideal S1024x1024 .f32) (i : Fin 1024) (j : Fin 1024) :
    k0_pay2 (F := Ideal) a b s (ix2 i j) = s (ix2 i j) + ∑ k : Fin 1024, (a (ix2 i k) : EReal) * (b (ix2 k j) : EReal) := by
  pointwise [k0_pay2]
theorem zero (y : S1024x1024.Idx) : k0_pay1 (F := Ideal) y = 0 := by
  rw [eq_ix2 y]
  pointwise [k0_pay1]

variable (m : (ℓ : Loc nD τ sig) → Buf (Elt Ideal) ℓ) (c : Dev nD)

theorem host_b : Gen.V m c main_v0 = truncf (F := Ideal) (φ := .f32) .bf16 (m ((c : Thread nD τ).loc main_arg1)) bitsLt_bf16_f32 := by
  unfold Gen.V
  entry_read
  rfl

theorem block_a (t : Fin cfg0.N) (i k : Fin 1024) : iblk m c 0 t (ix2 i k)
    = m ((c : Thread nD τ).loc main_arg0) (ix2 i ⟨t.val % 4 * 1024 + k.val, by omega⟩) := by
  unfold iblk
  refine Eq.trans (b := Gen.V m c main_arg0 (ix2 i ⟨t.val % 4 * 1024 + k.val, by omega⟩)) ?_ ?_
  · blk_ext [idx_0 t]
  · rw [V_main_arg0 m c]

theorem block_b (t : Fin cfg0.N) (k j : Fin 1024) : iblk m c 1 t (ix2 k j)
    = m ((c : Thread nD τ).loc main_arg1) (ix2 ⟨t.val % 4 * 1024 + k.val, by omega⟩ j) := by
  unfold iblk
  refine Eq.trans (b := Gen.V m c main_v0 (ix2 ⟨t.val % 4 * 1024 + k.val, by omega⟩ j)) ?_ ?_
  · blk_ext [idx_1 t]
  · rw [host_b]
    rfl

theorem place (t : Fin cfg0.N) (i j : Fin 1024) : ((View.whole main_v1).slice (win0_2.rect t)).emb (ix2 i j)
    = ix2 i j := by
  blk_ext [idx_2 t]

/-- The gradient of the mixing weights at an index. -/
def grad (o : FVec Ideal S1024x4096 .f32) (dx : FVec Ideal S4096x1024 .f32) : FVec Ideal S1024x1024 .f32 := fun y =>
  ∑ k : Fin 4096, o (ix2 (y 0) k) * dx (ix2 k (y 1))

/-- A block times another. -/
def prod (a : Vec Ideal S1024x1024 .f32) (b : Vec Ideal S1024x1024 .bf16) : FVec Ideal S1024x1024 .f32 := fun y =>
  ∑ k : Fin 1024, (a (ix2 (y 0) k) : EReal) * (b (ix2 k (y 1)) : EReal)

/-- What the run adds at a point. -/
def part (t : Fin cfg0.N) : FVec Ideal S1024x1024 .f32 := fun y => prod (iblk m c 0 t) (iblk m c 1 t) y

theorem add (t : Fin cfg0.N) (s : Vec Ideal S1024x1024 .f32) (y : S1024x1024.Idx) :
    k0_pay2 (F := Ideal) (iblk m c 0 t) (iblk m c 1 t) s y = s y + part m c t y := by
  rw [eq_ix2 y]
  exact pay _ _ _ _ _

theorem point_lt (t : Fin cfg0.N) (s : Fin 4) : 4 * (t.val / 4) + s.val < cfg0.N := by
  have h : t.val < 4 := t.isLt
  show _ < 4
  omega

theorem sum_parts (t : Fin cfg0.N) (i j : Fin 1024) :
    (0 : EReal) + ∑ s : Fin 4, part m c ⟨4 * (t.val / 4) + s.val, point_lt t s⟩ (ix2 i j)
      = grad (m ((c : Thread nD τ).loc main_arg0)) (m ((c : Thread nD τ).loc main_arg1)) (ix2 i j) := by
  rw [zero_add]
  refine Fin.sum_mul_add_congr fun s k hl => ?_
  have hd : (4 * (t.val / 4) + s.val) / 4 = t.val / 4 := by omega
  have hm : (4 * (t.val / 4) + s.val) % 4 = s.val := by omega
  refine (congrArg₂ (fun x y : EReal => x * y) (block_a m c _ i k) (block_b m c _ k j)).trans ?_
  simp only [hd, hm]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [Gen.after0_2]
  rw [Pipeline.eq_sum_fin_of_reset_step_apply_of_flush (fun n h => Gen.outsAt0 m c n h) 4 (fun _ => 0) (part m c)
    (fun t h j => by rw [outsAt0_A m c t h]; frame_out; rw [add, zero])
    (fun t h j => by rw [outsAt0_B m c t h]; frame_out; rw [add]) t ((flush0_2 t).mp hf) y]
  rw [eq_ix2 y]
  refine (sum_parts m c t (y 0) (y 1)).trans ?_
  exact (congrArg (grad _ _) (place t (y 0) (y 1))).symm

section
open Cert.Reference11Ideal.Read

theorem reference (o : FVec Ideal S1024x4096 .f32) (dx : FVec Ideal S4096x1024 .f32) : val_main_v4 (F := Ideal) o dx = grad o dx := by
  funext y
  rw [val_main_v4_apply, val_main_v3_apply]
  refine Finset.sum_congr rfl fun k _ => (mul_comm _ _).trans (congrArg₂ (fun x y : EReal => x * y) ((val_main_v1_apply (F := Ideal) o _).trans (congrArg o ?_)) (congrArg dx ?_))
  all_goals exact funext fun a => match a with | 0 => rfl | 1 => rfl
end

theorem value : Cert.algebraic_Kernel11Ideal_Reference11Ideal := by
  intro m ρ m' ρ' _ hagree
  refine ⟨fun c => grad (m ((c : Thread nD τ).loc main_arg0)) (m ((c : Thread nD τ).loc main_arg1)), ?_, ?_⟩
  · refine (θ_run Cert.Kernel11Ideal.defs _ _).mono (fun r h c => ?_) (Cert.Kernel11Ideal.Value.run_blocks (F := Ideal) m ρ)
    exact ⟨(h c).1.trans (final m c), (h c).2⟩
  · refine (θ_run Cert.Reference11Ideal.defs _ _).mono (fun r h c => ?_) (Cert.Reference11Ideal.Value.run (F := Ideal) m' ρ')
    obtain ⟨h0, h1⟩ := hagree c
    refine ⟨(h c).1.trans ?_, (h c).2⟩
    rw [h0, h1]
    exact (Cert.Reference11Ideal.Read.val_main_v4_eq (F := Ideal) _ _).trans (reference _ _)

end Cert.Proof.MixDw

end
-- ==== Proof.Value.Hidden.lean ====
/- The MLP's hidden layer: what the call leaves, at an index. -/
module

public import proofs.«01_k».proof.Proof.Value.Kit
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

namespace Cert.Proof.Hidden

open Cert.Kernel12Ideal Cert.Kernel12Ideal.Gen
open Idealize.ShloMosaic Idealize.ShloMosaic.TcCoe Idealize.SL.Sem
open Idealize.ShloMosaic.Pipeline (Dat Window)

theorem idx_0 : ∀ t, win0_0.index t = ![t.val / 4, 0] := by decide +kernel
theorem idx_1 : ∀ t, win0_1.index t = ![t.val % 4, 1, 0] := by decide +kernel
theorem idx_2 : ∀ t, win0_2.index t = ![t.val / 4, t.val % 4] := by decide +kernel

theorem pay (a : Vec Ideal S1024x1024 .bf16) (b : Vec Ideal S1x1024x1024 .bf16) (i : Fin 1024) (j : Fin 1024) :
    k0_pay3 (F := Ideal) (k0_pay2 (F := Ideal) a b (k0_pay1 (F := Ideal))) (ix2 i j) = ∑ k : Fin 1024, a (ix2 i k) * b (ix3 0 k j) := by
  pointwise [k0_pay3, k0_pay2, k0_pay1]

/-- The weights packed by shards: each shard's columns, transposed to rows, between zeros. -/
def packed (w : FVec Ideal S1024x4096 .f32) : FVec Ideal S4x3328x1024 .f32 :=
  pad S4x3328x1024 ![0, 1024, 0] ![0, 1280, 0] ![0, 0, 0]
    (transpose S4x1024x1024 [1, 0, 2] (shapeCast S1024x4x1024 w shapeCasts_S1024x4096_S1024x4x1024) transposes_S1024x4x1024_S4x1024x1024_1_0_2)
    (sitofp .f32 (constantI S_ 32 0#32)) pads_S4x1024x1024_S4x3328x1024_000_102412800_000 h_S_

theorem packed_apply (w : FVec Ideal S1024x4096 .f32) (s : Fin 4) (r k : Fin 1024) (h : 1024 + r.val < 3328) :
    packed w (ix3 s ⟨1024 + r.val, h⟩ k) = w (ix2 r ⟨s.val * 1024 + k.val, by omega⟩) := by
  unfold packed
  pointwise []

variable (m : (ℓ : Loc nD τ sig) → Buf (Elt Ideal) ℓ) (c : Dev nD)

theorem host_a : Gen.V m c main_v3 = truncf (F := Ideal) (φ := .f32) .bf16 (m ((c : Thread nD τ).loc main_arg0)) bitsLt_bf16_f32 := by
  unfold Gen.V
  simp only [hostOps0, hostOps0_1, hostOps0_2, List.flatten_cons, List.flatten_nil, List.append_nil, List.cons_append, List.nil_append]
  entry_read
  rfl
theorem host_b : Gen.V m c main_v4 = truncf (F := Ideal) (φ := .f32) .bf16 (packed (m ((c : Thread nD τ).loc main_arg1))) bitsLt_bf16_f32 := by
  unfold Gen.V
  simp only [hostOps0, hostOps0_1, hostOps0_2, List.flatten_cons, List.flatten_nil, List.append_nil, List.cons_append, List.nil_append]
  entry_read
  rfl

theorem bound (t : Fin cfg0.N) (i : Fin 1024) : t.val / 4 * 1024 + i.val < 4096 := by
  have h : t.val < 16 := t.isLt
  omega

theorem block_a (t : Fin cfg0.N) (i k : Fin 1024) : iblk m c 0 t (ix2 i k)
    = m ((c : Thread nD τ).loc main_arg0) (ix2 ⟨t.val / 4 * 1024 + i.val, bound t i⟩ k) := by
  unfold iblk
  refine Eq.trans (b := Gen.V m c main_v3 (ix2 ⟨t.val / 4 * 1024 + i.val, bound t i⟩ k)) ?_ ?_
  · blk_ext [idx_0 t]
  · rw [host_a]
    rfl

theorem block_b (t : Fin cfg0.N) (u : Fin 1) (r k : Fin 1024) : X0_1 m c t (ix3 u r k)
    = m ((c : Thread nD τ).loc main_arg1) (ix2 r ⟨t.val % 4 * 1024 + k.val, by omega⟩) := by
  unfold X0_1 Window.fill
  rw [dif_pos (((cfg0.win 1).moved_iff _ _).mpr fun a => by rw [xsize0_1]; exact (ix3 u r k a).isLt)]
  unfold iblk
  refine Eq.trans (b := Gen.V m c main_v4 (ix3 ⟨t.val % 4, by omega⟩ ⟨1024 + r.val, by omega⟩ k)) ?_ ?_
  · blk_ext [idx_1 t]
  · rw [host_b]
    exact packed_apply _ _ _ _ _

theorem place (t : Fin cfg0.N) (i j : Fin 1024) : ((View.whole main_v5).slice (win0_2.rect t)).emb (ix2 i j)
    = ix2 ⟨t.val / 4 * 1024 + i.val, bound t i⟩ ⟨t.val % 4 * 1024 + j.val, by omega⟩ := by
  blk_ext [idx_2 t]

/-- The hidden layer at an index. -/
def grad (h : FVec Ideal S4096x1024 .f32) (w : FVec Ideal S1024x4096 .f32) : FVec Ideal S4096x4096 .bf16 := fun y =>
  ∑ k : Fin 1024, h (ix2 (y 0) k) * w (ix2 k (y 1))

theorem point (t : Fin cfg0.N) (i j : Fin 1024) : k0_pay3 (F := Ideal) (k0_pay2 (F := Ideal) (iblk m c 0 t) (X0_1 m c t) (k0_pay1 (F := Ideal))) (ix2 i j)
    = grad (m ((c : Thread nD τ).loc main_arg0)) (m ((c : Thread nD τ).loc main_arg1)) (((View.whole main_v5).slice (win0_2.rect t)).emb (ix2 i j)) := by
  rw [place]
  refine (pay _ _ i j).trans ?_
  simp only [block_a, block_b]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference12Ideal.Read

theorem reference (h : FVec Ideal S4096x1024 .f32) (w : FVec Ideal S1024x4096 .f32) : val_main_v1 (F := Ideal) h w = grad h w := by
  funext y
  rw [val_main_v1_apply, val_main_v0_apply]
  refine Finset.sum_congr rfl fun k _ => congrArg₂ (h · * w ·) ?_ ?_
  all_goals exact funext fun a => match a with | 0 => rfl | 1 => rfl
end

theorem value : Cert.algebraic_Kernel12Ideal_Reference12Ideal := by
  intro m ρ m' ρ' _ hagree
  refine ⟨fun c => grad (m ((c : Thread nD τ).loc main_arg0)) (m ((c : Thread nD τ).loc main_arg1)), ?_, ?_⟩
  · refine (θ_run Cert.Kernel12Ideal.defs _ _).mono (fun r h c => ?_) (Cert.Kernel12Ideal.Value.run_blocks (F := Ideal) m ρ)
    exact ⟨(h c).1.trans (final m c), (h c).2⟩
  · refine (θ_run Cert.Reference12Ideal.defs _ _).mono (fun r h c => ?_) (Cert.Reference12Ideal.Value.run (F := Ideal) m' ρ')
    obtain ⟨h0, h1⟩ := hagree c
    refine ⟨(h c).1.trans ?_, (h c).2⟩
    rw [h0, h1]
    exact (Cert.Reference12Ideal.Read.val_main_v1_eq (F := Ideal) _ _).trans (reference _ _)

end Cert.Proof.Hidden

end
-- ==== Proof.Value.Output.lean ====
/- The MLP's output: what the call leaves, at an index. -/
module

public import proofs.«01_k».proof.Proof.Value.Kit
public import proofs.«01_k».proof.Proof.Gen.Kernel13Ideal.Value
public import proofs.«01_k».proof.Proof.Gen.Reference13Ideal.Run
public import proofs.«01_k».proof.Proof.Gen.Reference13Ideal.Read

@[expose] public section

set_option maxRecDepth 16384

noncomputable section

namespace Cert.Proof.Output

open Cert.Kernel13Ideal Cert.Kernel13Ideal.Gen
open Idealize.ShloMosaic Idealize.ShloMosaic.TcCoe Idealize.SL.Sem
open Idealize.ShloMosaic.Pipeline (Dat Window)

theorem idx_0 : ∀ t, win0_0.index t = ![t.val / 4, t.val % 4] := by decide +kernel
theorem idx_1 : ∀ t, win0_1.index t = ![t.val % 4, 0, 0] := by decide +kernel
theorem idx_2 : ∀ t, win0_2.index t = ![t.val / 4, 0] := by decide +kernel

theorem pay (a : Vec Ideal S1024x1024 .bf16) (b : Vec Ideal S1x1024x1024 .bf16) (s : Vec Ideal S1024x1024 .f32) (i : Fin 1024) (j : Fin 1024) :
    k0_pay2 (F := Ideal) a b s (ix2 i j) = s (ix2 i j) + ∑ k : Fin 1024, (max (a (ix2 i k)) 0 * max (a (ix2 i k)) 0) * b (ix3 0 k j) := by
  pointwise [k0_pay2]
theorem zero (y : S1024x1024.Idx) : k0_pay1 (F := Ideal) y = 0 := by
  rw [eq_ix2 y]
  pointwise [k0_pay1]

/-- The weights packed by shards, over zeros. -/
def packed (w : FVec Ideal S4096x1024 .f32) : FVec Ideal S4x3328x1024 .f32 :=
  pad S4x3328x1024 ![0, 0, 0] ![0, 2304, 0] ![0, 0, 0] (shapeCast S4x1024x1024 w shapeCasts_S4096x1024_S4x1024x1024)
    (sitofp .f32 (constantI S_ 32 0#32)) pads_S4x1024x1024_S4x3328x1024_000_023040_000 h_S_

theorem packed_apply (w : FVec Ideal S4096x1024 .f32) (s : Fin 4) (r : Fin 3328) (k : Fin 1024) (h : r.val < 1024) :
    packed w (ix3 s r k) = w (ix2 ⟨s.val * 1024 + r.val, by omega⟩ k) := by
  unfold packed
  pointwise []
  exact dif_pos h

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  simp only [hostOps0, hostOps0_1, hostOps0_2, List.flatten_cons, List.flatten_nil, List.append_nil, List.cons_append, List.nil_append]
  entry_read
  rfl
theorem host_b : Gen.V m c main_v3 = truncf (F := Ideal) (φ := .f32) .bf16 (packed (m ((c : Thread nD τ).loc main_arg1))) bitsLt_bf16_f32 := by
  unfold Gen.V
  simp only [hostOps0, hostOps0_1, hostOps0_2, List.flatten_cons, List.flatten_nil, List.append_nil, List.cons_append, List.nil_append]
  entry_read
  rfl

theorem bound (t : Fin cfg0.N) (i : Fin 1024) : t.val / 4 * 1024 + i.val < 4096 := by
  have h : t.val < 16 := t.isLt
  omega

theorem block_a (t : Fin cfg0.N) (i k : Fin 1024) : iblk m c 0 t (ix2 i k)
    = m ((c : Thread nD τ).loc main_arg0) (ix2 ⟨t.val / 4 * 1024 + i.val, bound t i⟩ ⟨t.val % 4 * 1024 + k.val, by omega⟩) := by
  unfold iblk
  refine Eq.trans (b := Gen.V m c main_v0 (ix2 ⟨t.val / 4 * 1024 + i.val, bound t i⟩ ⟨t.val % 4 * 1024 + k.val, by omega⟩)) ?_ ?_
  · blk_ext [idx_0 t]
  · rw [host_a]
    rfl

theorem block_b (t : Fin cfg0.N) (u : Fin 1) (r k : Fin 1024) : X0_1 m c t (ix3 u r k)
    = m ((c : Thread nD τ).loc main_arg1) (ix2 ⟨t.val % 4 * 1024 + r.val, by omega⟩ k) := by
  unfold X0_1 Window.fill
  rw [dif_pos (((cfg0.win 1).moved_iff _ _).mpr fun a => by rw [xsize0_1]; exact (ix3 u r k a).isLt)]
  unfold iblk
  refine Eq.trans (b := Gen.V m c main_v3 (ix3 ⟨t.val % 4, by omega⟩ ⟨r.val, by omega⟩ k)) ?_ ?_
  · blk_ext [idx_1 t]
  · rw [host_b]
    exact packed_apply _ _ _ _ r.isLt

theorem place (t : Fin cfg0.N) (i j : Fin 1024) : ((View.whole main_v4).slice (win0_2.rect t)).emb (ix2 i j)
    = ix2 ⟨t.val / 4 * 1024 + i.val, bound t i⟩ j := by
  blk_ext [idx_2 t]

/-- The MLP's output at an index. -/
def grad (u : FVec Ideal S4096x4096 .f32) (w : FVec Ideal S4096x1024 .f32) : FVec Ideal S4096x1024 .f32 := fun y =>
  ∑ k : Fin 4096, (max (u (ix2 (y 0) k)) 0 * max (u (ix2 (y 0) k)) 0) * w (ix2 k (y 1))

/-- A block times another. -/
def prod (a : Vec Ideal S1024x1024 .bf16) (b : Vec Ideal S1x1024x1024 .bf16) : FVec Ideal S1024x1024 .f32 := fun y =>
  ∑ k : Fin 1024, (max (a (ix2 (y 0) k)) 0 * max (a (ix2 (y 0) k)) 0) * b (ix3 0 k (y 1))

/-- What the run adds at a point. -/
def part (t : Fin cfg0.N) : FVec Ideal S1024x1024 .f32 := fun y => prod (iblk m c 0 t) (X0_1 m c t) y

theorem add (t : Fin cfg0.N) (s : Vec Ideal S1024x1024 .f32) (y : S1024x1024.Idx) :
    k0_pay2 (F := Ideal) (iblk m c 0 t) (X0_1 m c t) s y = s y + part m c t y := by
  rw [eq_ix2 y]
  exact pay _ _ _ _ _

theorem point_lt (t : Fin cfg0.N) (s : Fin 4) : 4 * (t.val / 4) + s.val < cfg0.N := by
  have h : t.val < 16 := t.isLt
  show _ < 16
  omega

theorem sum_parts (t : Fin cfg0.N) (i j : Fin 1024) :
    (0 : EReal) + ∑ s : Fin 4, part m c ⟨4 * (t.val / 4) + s.val, point_lt t s⟩ (ix2 i j)
      = grad (m ((c : Thread nD τ).loc main_arg0)) (m ((c : Thread nD τ).loc main_arg1)) (ix2 ⟨t.val / 4 * 1024 + i.val, bound t i⟩ j) := by
  rw [zero_add]
  refine Fin.sum_mul_add_congr fun s k hl => ?_
  have hd : (4 * (t.val / 4) + s.val) / 4 = t.val / 4 := by omega
  have hm : (4 * (t.val / 4) + s.val) % 4 = s.val := by omega
  refine (congrArg₂ (fun x y : EReal => (max (x) 0 * max (x) 0) * y) (block_a m c _ i k) (block_b m c _ 0 k j)).trans ?_
  simp only [hd, hm]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [Gen.after0_2]
  rw [Pipeline.eq_sum_fin_of_reset_step_apply_of_flush (fun n h => Gen.outsAt0 m c n h) 4 (fun _ => 0) (part m c)
    (fun t h j => by rw [outsAt0_A m c t h]; frame_out; rw [add, zero])
    (fun t h j => by rw [outsAt0_B m c t h]; frame_out; rw [add]) t ((flush0_2 t).mp hf) y]
  rw [eq_ix2 y]
  refine (sum_parts m c t (y 0) (y 1)).trans ?_
  exact (congrArg (grad _ _) (place t (y 0) (y 1))).symm

section
open Cert.Reference13Ideal.Read

theorem reference (u : FVec Ideal S4096x4096 .f32) (w : FVec Ideal S4096x1024 .f32) : val_main_v2 (F := Ideal) u w = grad u w := by
  funext y
  rw [val_main_v2_apply]
  refine Finset.sum_congr rfl fun k _ => congrArg₂ (fun x y : EReal => x * y) ?_ (congrArg w ?_)
  · rw [val_main_v1_apply, val_main_v0_apply, val_main_call0_v0_apply, val_main_call0_cst_apply]
    refine congrArg₂ (fun x z : EReal => max x z * max x z) (congrArg u ?_) (Ideal.ofBits_zero .f32)
    exact funext fun a => match a with | 0 => rfl | 1 => rfl
  · exact funext fun a => match a with | 0 => rfl | 1 => rfl
end

theorem value : Cert.algebraic_Kernel13Ideal_Reference13Ideal := by
  intro m ρ m' ρ' _ hagree
  refine ⟨fun c => grad (m ((c : Thread nD τ).loc main_arg0)) (m ((c : Thread nD τ).loc main_arg1)), ?_, ?_⟩
  · refine (θ_run Cert.Kernel13Ideal.defs _ _).mono (fun r h c => ?_) (Cert.Kernel13Ideal.Value.run_blocks (F := Ideal) m ρ)
    exact ⟨(h c).1.trans (final m c), (h c).2⟩
  · refine (θ_run Cert.Reference13Ideal.defs _ _).mono (fun r h c => ?_) (Cert.Reference13Ideal.Value.run (F := Ideal) m' ρ')
    obtain ⟨h0, h1⟩ := hagree c
    refine ⟨(h c).1.trans ?_, (h c).2⟩
    rw [h0, h1]
    exact (Cert.Reference13Ideal.Read.val_main_v2_eq (F := Ideal) _ _).trans (reference _ _)

end Cert.Proof.Output

end
-- ==== Proof.Value.Projection.lean ====
/- The combined projection: what the call leaves, at an index. -/
module

public import proofs.«01_k».proof.Proof.Value.Kit
public import proofs.«01_k».proof.Proof.Gen.Kernel14Ideal.Value
public import proofs.«01_k».proof.Proof.Gen.Reference14Ideal.Run
public import proofs.«01_k».proof.Proof.Gen.Reference14Ideal.Read

@[expose] public section

set_option maxRecDepth 16384

noncomputable section

namespace Cert.Proof.Projection

open Cert.Kernel14Ideal Cert.Kernel14Ideal.Gen
open Idealize.ShloMosaic Idealize.ShloMosaic.TcCoe Idealize.SL.Sem

theorem idx_0 : ∀ t, win0_0.index t = ![t.val / 2, 0] := by decide +kernel
theorem idx_1 : ∀ t, win0_1.index t = ![0, t.val % 2] := by decide +kernel
theorem idx_2 : ∀ t, win0_2.index t = ![t.val / 2, t.val % 2] := by decide +kernel

theorem pay (a : Vec Ideal S1024x1024 .bf16) (b : Vec Ideal S1024x1280 .bf16) (i : Fin 1024) (j : Fin 1280) :
    k0_pay2 (F := Ideal) a b (k0_pay1 (F := Ideal)) (ix2 i j) = ∑ k : Fin 1024, a (ix2 i k) * b (ix2 k j) := by
  pointwise [k0_pay2, k0_pay1]

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  entry_read
  rfl
theorem host_b : Gen.V m c main_v1 = truncf (F := Ideal) (φ := .f32) .bf16 (m ((c : Thread nD τ).loc main_arg1)) bitsLt_bf16_f32 := by
  unfold Gen.V
  entry_read
  rfl

theorem bound (t : Fin cfg0.N) (i : Fin 1024) : t.val / 2 * 1024 + i.val < 4096 := by
  have h : t.val < 8 := t.isLt
  omega

theorem block_a (t : Fin cfg0.N) (i k : Fin 1024) : iblk m c 0 t (ix2 i k)
    = m ((c : Thread nD τ).loc main_arg0) (ix2 ⟨t.val / 2 * 1024 + i.val, bound t i⟩ k) := by
  unfold iblk
  refine Eq.trans (b := Gen.V m c main_v0 (ix2 ⟨t.val / 2 * 1024 + i.val, bound t i⟩ k)) ?_ ?_
  · blk_ext [idx_0 t]
  · rw [host_a]
    rfl

theorem block_b (t : Fin cfg0.N) (k : Fin 1024) (j : Fin 1280) : iblk m c 1 t (ix2 k j)
    = m ((c : Thread nD τ).loc main_arg1) (ix2 k ⟨t.val % 2 * 1280 + j.val, by omega⟩) := by
  unfold iblk
  refine Eq.trans (b := Gen.V m c main_v1 (ix2 k ⟨t.val % 2 * 1280 + j.val, by omega⟩)) ?_ ?_
  · blk_ext [idx_1 t]
  · rw [host_b]
    rfl

theorem place (t : Fin cfg0.N) (i : Fin 1024) (j : Fin 1280) : ((View.whole main_v2).slice (win0_2.rect t)).emb (ix2 i j)
    = ix2 ⟨t.val / 2 * 1024 + i.val, bound t i⟩ ⟨t.val % 2 * 1280 + j.val, by omega⟩ := by
  blk_ext [idx_2 t]

/-- The projection at an index. -/
def grad (h : FVec Ideal S4096x1024 .f32) (w : FVec Ideal S1024x2560 .f32) : FVec Ideal S4096x2560 .f32 := fun y =>
  ∑ k : Fin 1024, h (ix2 (y 0) k) * w (ix2 k (y 1))

theorem point (t : Fin cfg0.N) (i : Fin 1024) (j : Fin 1280) : k0_pay2 (F := Ideal) (iblk m c 0 t) (iblk m c 1 t) (k0_pay1 (F := Ideal)) (ix2 i j)
    = grad (m ((c : Thread nD τ).loc main_arg0)) (m ((c : Thread nD τ).loc main_arg1)) (((View.whole main_v2).slice (win0_2.rect t)).emb (ix2 i j)) := by
  rw [place]
  refine (pay _ _ i j).trans ?_
  simp only [block_a, block_b]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference14Ideal.Read

theorem reference (h : FVec Ideal S4096x1024 .f32) (w : FVec Ideal S1024x2560 .f32) : val_main_v0 (F := Ideal) h w = grad h w := by
  funext y
  rw [val_main_v0_apply]
  refine Finset.sum_congr rfl fun k _ => congrArg₂ (h · * w ·) ?_ ?_
  all_goals exact funext fun a => match a with | 0 => rfl | 1 => rfl
end

theorem value : Cert.algebraic_Kernel14Ideal_Reference14Ideal := by
  intro m ρ m' ρ' _ hagree
  refine ⟨fun c => grad (m ((c : Thread nD τ).loc main_arg0)) (m ((c : Thread nD τ).loc main_arg1)), ?_, ?_⟩
  · refine (θ_run Cert.Kernel14Ideal.defs _ _).mono (fun r h c => ?_) (Cert.Kernel14Ideal.Value.run_blocks (F := Ideal) m ρ)
    exact ⟨(h c).1.trans (final m c), (h c).2⟩
  · refine (θ_run Cert.Reference14Ideal.defs _ _).mono (fun r h c => ?_) (Cert.Reference14Ideal.Value.run (F := Ideal) m' ρ')
    obtain ⟨h0, h1⟩ := hagree c
    refine ⟨(h c).1.trans ?_, (h c).2⟩
    rw [h0, h1]
    exact (Cert.Reference14Ideal.Read.val_main_v0_eq (F := Ideal) _ _).trans (reference _ _)

end Cert.Proof.Projection

end
-- ==== Proof.Value.MixYDx.lean ====
/- The gradient of the scan's output before the mixing product: what the call leaves, at an index. -/
module

public import proofs.«01_k».proof.Proof.Value.Kit
public import proofs.«01_k».proof.Proof.Gen.Kernel15Ideal.Value
public import proofs.«01_k».proof.Proof.Gen.Reference15Ideal.Run
public import proofs.«01_k».proof.Proof.Gen.Reference15Ideal.Read

@[expose] public section

set_option maxRecDepth 16384

noncomputable section

namespace Cert.Proof.MixYDx

open Cert.Kernel15Ideal Cert.Kernel15Ideal.Gen
open Idealize.ShloMosaic Idealize.ShloMosaic.TcCoe Idealize.SL.Sem

theorem idx_0 : ∀ t, win0_0.index t = ![t.val, 0] := by decide +kernel
theorem idx_1 : ∀ t, win0_1.index t = ![0, 12, 0] := by decide +kernel
theorem idx_2 : ∀ t, win0_2.index t = ![t.val, 0] := by decide +kernel

theorem pay (a : Vec Ideal S1024x1024 .bf16) (b : Vec Ideal S2x256x1024 .bf16) (i : Fin 1024) (j : Fin 512) :
    k0_pay2 (F := Ideal) a b (k0_pay1 (F := Ideal)) (ix2 i j) = ∑ k : Fin 1024, a (ix2 i k) * b (ix3 ⟨j.val / 256, by omega⟩ ⟨j.val % 256, by omega⟩ k) := by
  pointwise [k0_pay2, k0_pay1]

/-- The weights packed by shards of 256 rows, between zeros. -/
def packed (w : FVec Ideal S1024x1024 .f32) : FVec Ideal S4x3328x1024 .f32 :=
  pad S4x3328x1024 ![0, 3072, 0] ![0, 0, 0] ![0, 0, 0] (shapeCast S4x256x1024 w shapeCasts_S1024x1024_S4x256x1024)
    (sitofp .f32 (constantI S_ 32 0#32)) pads_S4x256x1024_S4x3328x1024_000_307200_000 h_S_

theorem packed_apply (w : FVec Ideal S1024x1024 .f32) (s : Fin 4) (r : Fin 256) (k : Fin 1024) (h : 3072 + r.val < 3328) :
    packed w (ix3 s ⟨3072 + r.val, h⟩ k) = w (ix2 ⟨s.val * 256 + r.val, by omega⟩ k) := by
  unfold packed
  pointwise []

theorem whole (j : Fin 512) : (⟨j.val / 256 * 256 + j.val % 256, by omega⟩ : Fin 1024) = Fin.castLE (show 512 ≤ 1024 by decide) j :=
  Fin.ext (by show j.val / 256 * 256 + j.val % 256 = j.val; omega)

variable (m : (ℓ : Loc nD τ sig) → Buf (Elt Ideal) ℓ) (c : Dev nD)

theorem host_a : Gen.V m c main_v0 = truncf (F := Ideal) (φ := .f32) .bf16 (m ((c : Thread nD τ).loc main_arg1)) bitsLt_bf16_f32 := by
  unfold Gen.V
  simp only [hostOps0, hostOps0_1, hostOps0_2, List.flatten_cons, List.flatten_nil, List.append_nil, List.cons_append, List.nil_append]
  entry_read
  rfl
theorem host_b : Gen.V m c main_v3 = truncf (F := Ideal) (φ := .f32) .bf16 (packed (m ((c : Thread nD τ).loc main_arg0))) bitsLt_bf16_f32 := by
  unfold Gen.V
  simp only [hostOps0, hostOps0_1, hostOps0_2, List.flatten_cons, List.flatten_nil, List.append_nil, List.cons_append, List.nil_append]
  entry_read
  rfl

theorem bound (t : Fin cfg0.N) (i : Fin 1024) : t.val * 1024 + i.val < 4096 := by
  have h : t.val < 4 := t.isLt
  omega

theorem block_a (t : Fin cfg0.N) (i k : Fin 1024) : iblk m c 0 t (ix2 i k)
    = m ((c : Thread nD τ).loc main_arg1) (ix2 ⟨t.val * 1024 + i.val, bound t i⟩ k) := by
  unfold iblk
  refine Eq.trans (b := Gen.V m c main_v0 (ix2 ⟨t.val * 1024 + i.val, bound t i⟩ k)) ?_ ?_
  · blk_ext [idx_0 t]
  · rw [host_a]
    rfl

theorem block_b (t : Fin cfg0.N) (s : Fin 2) (r : Fin 256) (k : Fin 1024) : iblk m c 1 t (ix3 s r k)
    = m ((c : Thread nD τ).loc main_arg0) (ix2 ⟨s.val * 256 + r.val, by omega⟩ k) := by
  unfold iblk
  refine Eq.trans (b := Gen.V m c main_v3 (ix3 ⟨s.val, by omega⟩ ⟨3072 + r.val, by omega⟩ k)) ?_ ?_
  · blk_ext [idx_1 t]
  · rw [host_b]
    exact packed_apply _ _ _ _ _

theorem place (t : Fin cfg0.N) (i : Fin 1024) (j : Fin 512) : ((View.whole main_v4).slice (win0_2.rect t)).emb (ix2 i j)
    = ix2 ⟨t.val * 1024 + i.val, bound t i⟩ j := by
  blk_ext [idx_2 t]

/-- The gradient of the scan's output at an index. -/
def grad (w : FVec Ideal S1024x1024 .f32) (dx : FVec Ideal S4096x1024 .f32) : FVec Ideal S4096x512 .f32 := fun y =>
  ∑ k : Fin 1024, dx (ix2 (y 0) k) * w (ix2 (Fin.castLE (show 512 ≤ 1024 by decide) (y 1)) k)

theorem point (t : Fin cfg0.N) (i : Fin 1024) (j : Fin 512) : k0_pay2 (F := Ideal) (iblk m c 0 t) (iblk m c 1 t) (k0_pay1 (F := Ideal)) (ix2 i j)
    = grad (m ((c : Thread nD τ).loc main_arg0)) (m ((c : Thread nD τ).loc main_arg1)) (((View.whole main_v4).slice (win0_2.rect t)).emb (ix2 i j)) := by
  rw [place]
  refine (pay _ _ i j).trans ?_
  simp only [block_a, block_b, whole]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference15Ideal.Read

theorem reference (w : FVec Ideal S1024x1024 .f32) (dx : FVec Ideal S4096x1024 .f32) : val_main_v3 (F := Ideal) w dx = grad w dx := by
  funext y
  rw [val_main_v3_apply]
  refine Finset.sum_congr rfl fun k _ => congrArg₂ (fun x y : EReal => x * y) (congrArg dx ?_) ((val_main_v1_apply (F := Ideal) w _).trans (congrArg w ?_))
  all_goals exact funext fun a => match a with | 0 => rfl | 1 => rfl
end

theorem value : Cert.algebraic_Kernel15Ideal_Reference15Ideal := by
  intro m ρ m' ρ' _ hagree
  refine ⟨fun c => grad (m ((c : Thread nD τ).loc main_arg0)) (m ((c : Thread nD τ).loc main_arg1)), ?_, ?_⟩
  · refine (θ_run Cert.Kernel15Ideal.defs _ _).mono (fun r h c => ?_) (Cert.Kernel15Ideal.Value.run_blocks (F := Ideal) m ρ)
    exact ⟨(h c).1.trans (final m c), (h c).2⟩
  · refine (θ_run Cert.Reference15Ideal.defs _ _).mono (fun r h c => ?_) (Cert.Reference15Ideal.Value.run (F := Ideal) m' ρ')
    obtain ⟨h0, h1⟩ := hagree c
    refine ⟨(h c).1.trans ?_, (h c).2⟩
    rw [h0, h1]
    exact (Cert.Reference15Ideal.Read.val_main_v3_eq (F := Ideal) _ _).trans (reference _ _)

end Cert.Proof.MixYDx

end
-- ==== Proof.Value.QDw.lean ====
/- The gradient of the query projection's weights: what the call leaves, at an index. -/
module

public import proofs.«01_k».proof.Proof.Value.Kit
public import proofs.«01_k».proof.Proof.Gen.Kernel16Ideal.Value
public import proofs.«01_k».proof.Proof.Gen.Reference16Ideal.Run
public import proofs.«01_k».proof.Proof.Gen.Reference16Ideal.Read

@[expose] public section

set_option maxRecDepth 16384

noncomputable section

namespace Cert.Proof.QDw

open Cert.Kernel16Ideal Cert.Kernel16Ideal.Gen
open Idealize.ShloMosaic Idealize.ShloMosaic.TcCoe Idealize.SL.Sem

theorem idx_0 : ∀ t, win0_0.index t = ![t.val % 4, 0] := by decide +kernel
theorem idx_1 : ∀ t, win0_1.index t = ![t.val % 4, 0] := by decide +kernel
theorem idx_2 : ∀ t, win0_2.index t = ![0, 0] := by decide +kernel

theorem pay (a : Vec Ideal S1024x384 .bf16) (b : Vec Ideal S1024x1024 .bf16) (s : Vec Ideal S384x1024 .f32) (i : Fin 384) (j : Fin 1024) :
    k0_pay2 (F := Ideal) a b s (ix2 i j) = s (ix2 i j) + ∑ k : Fin 1024, a (ix2 k i) * b (ix2 k j) := by
  pointwise [k0_pay2]
theorem zero (y : S384x1024.Idx) : k0_pay1 (F := Ideal) y = 0 := by
  rw [eq_ix2 y]
  pointwise [k0_pay1]

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  entry_read
  rfl
theorem host_b : Gen.V m c main_v1 = truncf (F := Ideal) (φ := .f32) .bf16 (m ((c : Thread nD τ).loc main_arg1)) bitsLt_bf16_f32 := by
  unfold Gen.V
  entry_read
  rfl

theorem block_a (t : Fin cfg0.N) (k : Fin 1024) (i : Fin 384) : iblk m c 0 t (ix2 k i)
    = m ((c : Thread nD τ).loc main_arg0) (ix2 ⟨t.val % 4 * 1024 + k.val, by omega⟩ i) := by
  unfold iblk
  refine Eq.trans (b := Gen.V m c main_v0 (ix2 ⟨t.val % 4 * 1024 + k.val, by omega⟩ i)) ?_ ?_
  · blk_ext [idx_0 t]
  · rw [host_a]
    rfl

theorem block_b (t : Fin cfg0.N) (k j : Fin 1024) : iblk m c 1 t (ix2 k j)
    = m ((c : Thread nD τ).loc main_arg1) (ix2 ⟨t.val % 4 * 1024 + k.val, by omega⟩ j) := by
  unfold iblk
  refine Eq.trans (b := Gen.V m c main_v1 (ix2 ⟨t.val % 4 * 1024 + k.val, by omega⟩ j)) ?_ ?_
  · blk_ext [idx_1 t]
  · rw [host_b]
    rfl

theorem place (t : Fin cfg0.N) (i : Fin 384) (j : Fin 1024) : ((View.whole main_v2).slice (win0_2.rect t)).emb (ix2 i j)
    = ix2 i j := by
  blk_ext [idx_2 t]

/-- The gradient of the query projection's weights at an index. -/
def grad (q : FVec Ideal S4096x384 .f32) (dy : FVec Ideal S4096x1024 .f32) : FVec Ideal S384x1024 .f32 := fun y =>
  ∑ k : Fin 4096, q (ix2 k (y 0)) * dy (ix2 k (y 1))

/-- A block times another. -/
def prod (a : Vec Ideal S1024x384 .bf16) (b : Vec Ideal S1024x1024 .bf16) : FVec Ideal S384x1024 .f32 := fun y =>
  ∑ k : Fin 1024, a (ix2 k (y 0)) * b (ix2 k (y 1))

/-- What the run adds at a point. -/
def part (t : Fin cfg0.N) : FVec Ideal S384x1024 .f32 := fun y => prod (iblk m c 0 t) (iblk m c 1 t) y

theorem add (t : Fin cfg0.N) (s : Vec Ideal S384x1024 .f32) (y : S384x1024.Idx) :
    k0_pay2 (F := Ideal) (iblk m c 0 t) (iblk m c 1 t) s y = s y + part m c t y := by
  rw [eq_ix2 y]
  exact pay _ _ _ _ _

theorem point_lt (t : Fin cfg0.N) (s : Fin 4) : 4 * (t.val / 4) + s.val < cfg0.N := by
  have h : t.val < 4 := t.isLt
  show _ < 4
  omega

theorem sum_parts (t : Fin cfg0.N) (i : Fin 384) (j : Fin 1024) :
    (0 : EReal) + ∑ s : Fin 4, part m c ⟨4 * (t.val / 4) + s.val, point_lt t s⟩ (ix2 i j)
      = grad (m ((c : Thread nD τ).loc main_arg0)) (m ((c : Thread nD τ).loc main_arg1)) (ix2 i j) := by
  rw [zero_add]
  refine Fin.sum_mul_add_congr fun s k hl => ?_
  have hd : (4 * (t.val / 4) + s.val) / 4 = t.val / 4 := by omega
  have hm : (4 * (t.val / 4) + s.val) % 4 = s.val := by omega
  refine (congrArg₂ (fun x y : EReal => x * y) (block_a m c _ k i) (block_b m c _ k j)).trans ?_
  simp only [hd, hm]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [Gen.after0_2]
  rw [Pipeline.eq_sum_fin_of_reset_step_apply_of_flush (fun n h => Gen.outsAt0 m c n h) 4 (fun _ => 0) (part m c)
    (fun t h j => by rw [outsAt0_A m c t h]; frame_out; rw [add, zero])
    (fun t h j => by rw [outsAt0_B m c t h]; frame_out; rw [add]) t ((flush0_2 t).mp hf) y]
  rw [eq_ix2 y]
  refine (sum_parts m c t (y 0) (y 1)).trans ?_
  exact (congrArg (grad _ _) (place t (y 0) (y 1))).symm

section
open Cert.Reference16Ideal.Read

theorem reference (q : FVec Ideal S4096x384 .f32) (dy : FVec Ideal S4096x1024 .f32) : val_main_v3 (F := Ideal) q dy = grad q dy := by
  funext y
  rw [val_main_v3_apply, val_main_v2_apply]
  refine Finset.sum_congr rfl fun k _ => (mul_comm _ _).trans (congrArg₂ (q · * dy ·) ?_ ?_)
  all_goals exact funext fun a => match a with | 0 => rfl | 1 => rfl
end

theorem value : Cert.algebraic_Kernel16Ideal_Reference16Ideal := by
  intro m ρ m' ρ' _ hagree
  refine ⟨fun c => grad (m ((c : Thread nD τ).loc main_arg0)) (m ((c : Thread nD τ).loc main_arg1)), ?_, ?_⟩
  · refine (θ_run Cert.Kernel16Ideal.defs _ _).mono (fun r h c => ?_) (Cert.Kernel16Ideal.Value.run_blocks (F := Ideal) m ρ)
    exact ⟨(h c).1.trans (final m c), (h c).2⟩
  · refine (θ_run Cert.Reference16Ideal.defs _ _).mono (fun r h c => ?_) (Cert.Reference16Ideal.Value.run (F := Ideal) m' ρ')
    obtain ⟨h0, h1⟩ := hagree c
    refine ⟨(h c).1.trans ?_, (h c).2⟩
    rw [h0, h1]
    exact (Cert.Reference16Ideal.Read.val_main_v3_eq (F := Ideal) _ _).trans (reference _ _)

end Cert.Proof.QDw

end
-- ==== Proof.Value.QDx.lean ====
/- The gradient of the query projection's input: what the call leaves, at an index. -/
module

public import proofs.«01_k».proof.Proof.Value.Kit
public import proofs.«01_k».proof.Proof.Gen.Kernel17Ideal.Value
public import proofs.«01_k».proof.Proof.Gen.Reference17Ideal.Run
public import proofs.«01_k».proof.Proof.Gen.Reference17Ideal.Read

@[expose] public section

set_option maxRecDepth 16384

noncomputable section

namespace Cert.Proof.QDx

open Cert.Kernel17Ideal Cert.Kernel17Ideal.Gen
open Idealize.ShloMosaic Idealize.ShloMosaic.TcCoe Idealize.SL.Sem

theorem idx_0 : ∀ t, win0_0.index t = ![t.val, 0] := by decide +kernel
theorem idx_1 : ∀ t, win0_1.index t = ![0, 0] := by decide +kernel
theorem idx_2 : ∀ t, win0_2.index t = ![t.val, 0] := by decide +kernel

theorem pay (a : Vec Ideal S1024x1024 .bf16) (b : Vec Ideal S384x1024 .bf16) (i : Fin 1024) (j : Fin 384) :
    k0_pay2 (F := Ideal) a b (k0_pay1 (F := Ideal)) (ix2 i j) = ∑ k : Fin 1024, a (ix2 i k) * b (ix2 j k) := by
  pointwise [k0_pay2, k0_pay1]

variable (m : (ℓ : Loc nD τ sig) → Buf (Elt Ideal) ℓ) (c : Dev nD)

theorem host_a : Gen.V m c main_v0 = truncf (F := Ideal) (φ := .f32) .bf16 (m ((c : Thread nD τ).loc main_arg1)) bitsLt_bf16_f32 := by
  unfold Gen.V
  entry_read
  rfl
theorem host_b : Gen.V m c main_v1 = truncf (F := Ideal) (φ := .f32) .bf16 (m ((c : Thread nD τ).loc main_arg0)) bitsLt_bf16_f32 := by
  unfold Gen.V
  entry_read
  rfl

theorem bound (t : Fin cfg0.N) (i : Fin 1024) : t.val * 1024 + i.val < 4096 := by
  have h : t.val < 4 := t.isLt
  omega

theorem block_a (t : Fin cfg0.N) (i k : Fin 1024) : iblk m c 0 t (ix2 i k)
    = m ((c : Thread nD τ).loc main_arg1) (ix2 ⟨t.val * 1024 + i.val, bound t i⟩ k) := by
  unfold iblk
  refine Eq.trans (b := Gen.V m c main_v0 (ix2 ⟨t.val * 1024 + i.val, bound t i⟩ k)) ?_ ?_
  · blk_ext [idx_0 t]
  · rw [host_a]
    rfl

theorem block_b (t : Fin cfg0.N) (j : Fin 384) (k : Fin 1024) : iblk m c 1 t (ix2 j k)
    = m ((c : Thread nD τ).loc main_arg0) (ix2 j k) := by
  unfold iblk
  refine Eq.trans (b := Gen.V m c main_v1 (ix2 j k)) ?_ ?_
  · blk_ext [idx_1 t]
  · rw [host_b]
    rfl

theorem place (t : Fin cfg0.N) (i : Fin 1024) (j : Fin 384) : ((View.whole main_v2).slice (win0_2.rect t)).emb (ix2 i j)
    = ix2 ⟨t.val * 1024 + i.val, bound t i⟩ j := by
  blk_ext [idx_2 t]

/-- The gradient of the query projection's input at an index. -/
def grad (w : FVec Ideal S384x1024 .f32) (dy : FVec Ideal S4096x1024 .f32) : FVec Ideal S4096x384 .f32 := fun y =>
  ∑ k : Fin 1024, dy (ix2 (y 0) k) * w (ix2 (y 1) k)

theorem point (t : Fin cfg0.N) (i : Fin 1024) (j : Fin 384) : k0_pay2 (F := Ideal) (iblk m c 0 t) (iblk m c 1 t) (k0_pay1 (F := Ideal)) (ix2 i j)
    = grad (m ((c : Thread nD τ).loc main_arg0)) (m ((c : Thread nD τ).loc main_arg1)) (((View.whole main_v2).slice (win0_2.rect t)).emb (ix2 i j)) := by
  rw [place]
  refine (pay _ _ i j).trans ?_
  simp only [block_a, block_b]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference17Ideal.Read

theorem reference (w : FVec Ideal S384x1024 .f32) (dy : FVec Ideal S4096x1024 .f32) : val_main_v2 (F := Ideal) w dy = grad w dy := by
  funext y
  rw [val_main_v2_apply]
  refine Finset.sum_congr rfl fun k _ => congrArg₂ (dy · * w ·) ?_ ?_
  all_goals exact funext fun a => match a with | 0 => rfl | 1 => rfl
end

theorem value : Cert.algebraic_Kernel17Ideal_Reference17Ideal := by
  intro m ρ m' ρ' _ hagree
  refine ⟨fun c => grad (m ((c : Thread nD τ).loc main_arg0)) (m ((c : Thread nD τ).loc main_arg1)), ?_, ?_⟩
  · refine (θ_run Cert.Kernel17Ideal.defs _ _).mono (fun r h c => ?_) (Cert.Kernel17Ideal.Value.run_blocks (F := Ideal) m ρ)
    exact ⟨(h c).1.trans (final m c), (h c).2⟩
  · refine (θ_run Cert.Reference17Ideal.defs _ _).mono (fun r h c => ?_) (Cert.Reference17Ideal.Value.run (F := Ideal) m' ρ')
    obtain ⟨h0, h1⟩ := hagree c
    refine ⟨(h c).1.trans ?_, (h c).2⟩
    rw [h0, h1]
    exact (Cert.Reference17Ideal.Read.val_main_v2_eq (F := Ideal) _ _).trans (reference _ _)

end Cert.Proof.QDx

end
-- ==== Proof.Value.KDw.lean ====
/- The gradient of the key projection's weights: what the call leaves, at an index. -/
module

public import proofs.«01_k».proof.Proof.Value.Kit
public import proofs.«01_k».proof.Proof.Gen.Kernel18Ideal.Value
public import proofs.«01_k».proof.Proof.Gen.Reference18Ideal.Run
public import proofs.«01_k».proof.Proof.Gen.Reference18Ideal.Read

@[expose] public section

set_option maxRecDepth 16384

noncomputable section

namespace Cert.Proof.KDw

open Cert.Kernel18Ideal Cert.Kernel18Ideal.Gen
open Idealize.ShloMosaic Idealize.ShloMosaic.TcCoe Idealize.SL.Sem

theorem idx_0 : ∀ t, win0_0.index t = ![t.val % 4, 0] := by decide +kernel
theorem idx_1 : ∀ t, win0_1.index t = ![t.val % 4, 0] := by decide +kernel
theorem idx_2 : ∀ t, win0_2.index t = ![0, 0] := by decide +kernel

theorem pay (a : Vec Ideal S1024x256 .bf16) (b : Vec Ideal S1024x1024 .f32) (s : Vec Ideal S256x1024 .f32) (i : Fin 256) (j : Fin 1024) :
    k0_pay2 (F := Ideal) a b s (ix2 i j) = s (ix2 i j) + ∑ k : Fin 1024, (a (ix2 k i) : EReal) * (b (ix2 k j) : EReal) := by
  pointwise [k0_pay2]
theorem zero (y : S256x1024.Idx) : k0_pay1 (F := Ideal) y = 0 := by
  rw [eq_ix2 y]
  pointwise [k0_pay1]

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  entry_read
  rfl
theorem block_a (t : Fin cfg0.N) (k : Fin 1024) (i : Fin 256) : iblk m c 0 t (ix2 k i)
    = m ((c : Thread nD τ).loc main_arg0) (ix2 ⟨t.val % 4 * 1024 + k.val, by omega⟩ i) := by
  unfold iblk
  refine Eq.trans (b := Gen.V m c main_v0 (ix2 ⟨t.val % 4 * 1024 + k.val, by omega⟩ i)) ?_ ?_
  · blk_ext [idx_0 t]
  · rw [host_a]
    rfl

theorem block_b (t : Fin cfg0.N) (k j : Fin 1024) : iblk m c 1 t (ix2 k j)
    = m ((c : Thread nD τ).loc main_arg1) (ix2 ⟨t.val % 4 * 1024 + k.val, by omega⟩ j) := by
  unfold iblk
  refine Eq.trans (b := Gen.V m c main_arg1 (ix2 ⟨t.val % 4 * 1024 + k.val, by omega⟩ j)) ?_ ?_
  · blk_ext [idx_1 t]
  · rw [V_main_arg1 m c]

theorem place (t : Fin cfg0.N) (i : Fin 256) (j : Fin 1024) : ((View.whole main_v1).slice (win0_2.rect t)).emb (ix2 i j)
    = ix2 i j := by
  blk_ext [idx_2 t]

/-- The gradient of the key projection's weights at an index. -/
def grad (kv : FVec Ideal S4096x256 .f32) (dy : FVec Ideal S4096x1024 .f32) : FVec Ideal S256x1024 .f32 := fun y =>
  ∑ k : Fin 4096, kv (ix2 k (y 0)) * dy (ix2 k (y 1))

/-- A block times another. -/
def prod (a : Vec Ideal S1024x256 .bf16) (b : Vec Ideal S1024x1024 .f32) : FVec Ideal S256x1024 .f32 := fun y =>
  ∑ k : Fin 1024, (a (ix2 k (y 0)) : EReal) * (b (ix2 k (y 1)) : EReal)

/-- What the run adds at a point. -/
def part (t : Fin cfg0.N) : FVec Ideal S256x1024 .f32 := fun y => prod (iblk m c 0 t) (iblk m c 1 t) y

theorem add (t : Fin cfg0.N) (s : Vec Ideal S256x1024 .f32) (y : S256x1024.Idx) :
    k0_pay2 (F := Ideal) (iblk m c 0 t) (iblk m c 1 t) s y = s y + part m c t y := by
  rw [eq_ix2 y]
  exact pay _ _ _ _ _

theorem point_lt (t : Fin cfg0.N) (s : Fin 4) : 4 * (t.val / 4) + s.val < cfg0.N := by
  have h : t.val < 4 := t.isLt
  show _ < 4
  omega

theorem sum_parts (t : Fin cfg0.N) (i : Fin 256) (j : Fin 1024) :
    (0 : EReal) + ∑ s : Fin 4, part m c ⟨4 * (t.val / 4) + s.val, point_lt t s⟩ (ix2 i j)
      = grad (m ((c : Thread nD τ).loc main_arg0)) (m ((c : Thread nD τ).loc main_arg1)) (ix2 i j) := by
  rw [zero_add]
  refine Fin.sum_mul_add_congr fun s k hl => ?_
  have hd : (4 * (t.val / 4) + s.val) / 4 = t.val / 4 := by omega
  have hm : (4 * (t.val / 4) + s.val) % 4 = s.val := by omega
  refine (congrArg₂ (fun x y : EReal => x * y) (block_a m c _ k i) (block_b m c _ k j)).trans ?_
  simp only [hd, hm]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [Gen.after0_2]
  rw [Pipeline.eq_sum_fin_of_reset_step_apply_of_flush (fun n h => Gen.outsAt0 m c n h) 4 (fun _ => 0) (part m c)
    (fun t h j => by rw [outsAt0_A m c t h]; frame_out; rw [add, zero])
    (fun t h j => by rw [outsAt0_B m c t h]; frame_out; rw [add]) t ((flush0_2 t).mp hf) y]
  rw [eq_ix2 y]
  refine (sum_parts m c t (y 0) (y 1)).trans ?_
  exact (congrArg (grad _ _) (place t (y 0) (y 1))).symm

section
open Cert.Reference18Ideal.Read

theorem reference (kv : FVec Ideal S4096x256 .f32) (dy : FVec Ideal S4096x1024 .f32) : val_main_v3 (F := Ideal) kv dy = grad kv dy := by
  funext y
  rw [val_main_v3_apply, val_main_v2_apply]
  refine Finset.sum_congr rfl fun k _ => (mul_comm _ _).trans (congrArg₂ (kv · * dy ·) ?_ ?_)
  all_goals exact funext fun a => match a with | 0 => rfl | 1 => rfl
end

theorem value : Cert.algebraic_Kernel18Ideal_Reference18Ideal := by
  intro m ρ m' ρ' _ hagree
  refine ⟨fun c => grad (m ((c : Thread nD τ).loc main_arg0)) (m ((c : Thread nD τ).loc main_arg1)), ?_, ?_⟩
  · refine (θ_run Cert.Kernel18Ideal.defs _ _).mono (fun r h c => ?_) (Cert.Kernel18Ideal.Value.run_blocks (F := Ideal) m ρ)
    exact ⟨(h c).1.trans (final m c), (h c).2⟩
  · refine (θ_run Cert.Reference18Ideal.defs _ _).mono (fun r h c => ?_) (Cert.Reference18Ideal.Value.run (F := Ideal) m' ρ')
    obtain ⟨h0, h1⟩ := hagree c
    refine ⟨(h c).1.trans ?_, (h c).2⟩
    rw [h0, h1]
    exact (Cert.Reference18Ideal.Read.val_main_v3_eq (F := Ideal) _ _).trans (reference _ _)

end Cert.Proof.KDw

end
-- ==== Proof.Value.KDx.lean ====
/- The gradient of the key projection's input: what the call leaves, at an index. -/
module

public import proofs.«01_k».proof.Proof.Value.Kit
public import proofs.«01_k».proof.Proof.Gen.Kernel19Ideal.Value
public import proofs.«01_k».proof.Proof.Gen.Reference19Ideal.Run
public import proofs.«01_k».proof.Proof.Gen.Reference19Ideal.Read

@[expose] public section

set_option maxRecDepth 16384

noncomputable section

namespace Cert.Proof.KDx

open Cert.Kernel19Ideal Cert.Kernel19Ideal.Gen
open Idealize.ShloMosaic Idealize.ShloMosaic.TcCoe Idealize.SL.Sem

theorem idx_0 : ∀ t, win0_0.index t = ![t.val, 0] := by decide +kernel
theorem idx_1 : ∀ t, win0_1.index t = ![0, 0] := by decide +kernel
theorem idx_2 : ∀ t, win0_2.index t = ![t.val, 0] := by decide +kernel

theorem pay (a : Vec Ideal S1024x1024 .f32) (b : Vec Ideal S256x1024 .bf16) (i : Fin 1024) (j : Fin 256) :
    k0_pay2 (F := Ideal) a b (k0_pay1 (F := Ideal)) (ix2 i j) = ∑ k : Fin 1024, (a (ix2 i k) : EReal) * (b (ix2 j k) : EReal) := by
  pointwise [k0_pay2, k0_pay1]

variable (m : (ℓ : Loc nD τ sig) → Buf (Elt Ideal) ℓ) (c : Dev nD)

theorem host_b : Gen.V m c main_v0 = truncf (F := Ideal) (φ := .f32) .bf16 (m ((c : Thread nD τ).loc main_arg0)) bitsLt_bf16_f32 := by
  unfold Gen.V
  entry_read
  rfl

theorem bound (t : Fin cfg0.N) (i : Fin 1024) : t.val * 1024 + i.val < 4096 := by
  have h : t.val < 4 := t.isLt
  omega

theorem block_a (t : Fin cfg0.N) (i k : Fin 1024) : iblk m c 0 t (ix2 i k)
    = m ((c : Thread nD τ).loc main_arg1) (ix2 ⟨t.val * 1024 + i.val, bound t i⟩ k) := by
  unfold iblk
  refine Eq.trans (b := Gen.V m c main_arg1 (ix2 ⟨t.val * 1024 + i.val, bound t i⟩ k)) ?_ ?_
  · blk_ext [idx_0 t]
  · rw [V_main_arg1 m c]

theorem block_b (t : Fin cfg0.N) (j : Fin 256) (k : Fin 1024) : iblk m c 1 t (ix2 j k)
    = m ((c : Thread nD τ).loc main_arg0) (ix2 j k) := by
  unfold iblk
  refine Eq.trans (b := Gen.V m c main_v0 (ix2 j k)) ?_ ?_
  · blk_ext [idx_1 t]
  · rw [host_b]
    rfl

theorem place (t : Fin cfg0.N) (i : Fin 1024) (j : Fin 256) : ((View.whole main_v1).slice (win0_2.rect t)).emb (ix2 i j)
    = ix2 ⟨t.val * 1024 + i.val, bound t i⟩ j := by
  blk_ext [idx_2 t]

/-- The gradient of the key projection's input at an index. -/
def grad (w : FVec Ideal S256x1024 .f32) (dy : FVec Ideal S4096x1024 .f32) : FVec Ideal S4096x256 .f32 := fun y =>
  ∑ k : Fin 1024, dy (ix2 (y 0) k) * w (ix2 (y 1) k)

theorem point (t : Fin cfg0.N) (i : Fin 1024) (j : Fin 256) : k0_pay2 (F := Ideal) (iblk m c 0 t) (iblk m c 1 t) (k0_pay1 (F := Ideal)) (ix2 i j)
    = grad (m ((c : Thread nD τ).loc main_arg0)) (m ((c : Thread nD τ).loc main_arg1)) (((View.whole main_v1).slice (win0_2.rect t)).emb (ix2 i j)) := by
  rw [place]
  refine (pay _ _ i j).trans ?_
  simp only [block_a, block_b]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference19Ideal.Read

theorem reference (w : FVec Ideal S256x1024 .f32) (dy : FVec Ideal S4096x1024 .f32) : val_main_v2 (F := Ideal) w dy = grad w dy := by
  funext y
  rw [val_main_v2_apply]
  refine Finset.sum_congr rfl fun k _ => congrArg₂ (dy · * w ·) ?_ ?_
  all_goals exact funext fun a => match a with | 0 => rfl | 1 => rfl
end

theorem value : Cert.algebraic_Kernel19Ideal_Reference19Ideal := by
  intro m ρ m' ρ' _ hagree
  refine ⟨fun c => grad (m ((c : Thread nD τ).loc main_arg0)) (m ((c : Thread nD τ).loc main_arg1)), ?_, ?_⟩
  · refine (θ_run Cert.Kernel19Ideal.defs _ _).mono (fun r h c => ?_) (Cert.Kernel19Ideal.Value.run_blocks (F := Ideal) m ρ)
    exact ⟨(h c).1.trans (final m c), (h c).2⟩
  · refine (θ_run Cert.Reference19Ideal.defs _ _).mono (fun r h c => ?_) (Cert.Reference19Ideal.Value.run (F := Ideal) m' ρ')
    obtain ⟨h0, h1⟩ := hagree c
    refine ⟨(h c).1.trans ?_, (h c).2⟩
    rw [h0, h1]
    exact (Cert.Reference19Ideal.Read.val_main_v2_eq (F := Ideal) _ _).trans (reference _ _)

end Cert.Proof.KDx

end
-- ==== Proof.Value.VDw.lean ====
/- The gradient of the value projection's weights, transposed: what the call leaves, at an index. -/
module

public import proofs.«01_k».proof.Proof.Value.Kit
public import proofs.«01_k».proof.Proof.Gen.Kernel20Ideal.Value
public import proofs.«01_k».proof.Proof.Gen.Reference20Ideal.Run
public import proofs.«01_k».proof.Proof.Gen.Reference20Ideal.Read

@[expose] public section

set_option maxRecDepth 16384

noncomputable section

namespace Cert.Proof.VDw

open Cert.Kernel20Ideal Cert.Kernel20Ideal.Gen
open Idealize.ShloMosaic Idealize.ShloMosaic.TcCoe Idealize.SL.Sem

theorem idx_0 : ∀ t, win0_0.index t = ![0, t.val % 4] := by decide +kernel
theorem idx_1 : ∀ t, win0_1.index t = ![t.val % 4, 0] := by decide +kernel
theorem idx_2 : ∀ t, win0_2.index t = ![0, 0] := by decide +kernel

theorem pay (a : Vec Ideal S1024x1024 .f32) (b : Vec Ideal S1024x256 .bf16) (s : Vec Ideal S1024x256 .f32) (i : Fin 1024) (j : Fin 256) :
    k0_pay2 (F := Ideal) a b s (ix2 i j) = s (ix2 i j) + ∑ k : Fin 1024, (a (ix2 i k) : EReal) * (b (ix2 k j) : EReal) := by
  pointwise [k0_pay2]
theorem zero (y : S1024x256.Idx) : k0_pay1 (F := Ideal) y = 0 := by
  rw [eq_ix2 y]
  pointwise [k0_pay1]

variable (m : (ℓ : Loc nD τ sig) → Buf (Elt Ideal) ℓ) (c : Dev nD)

theorem host_b : Gen.V m c main_v0 = truncf (F := Ideal) (φ := .f32) .bf16 (m ((c : Thread nD τ).loc main_arg0)) bitsLt_bf16_f32 := by
  unfold Gen.V
  entry_read
  rfl

theorem block_a (t : Fin cfg0.N) (i k : Fin 1024) : iblk m c 0 t (ix2 i k)
    = m ((c : Thread nD τ).loc main_arg1) (ix2 i ⟨t.val % 4 * 1024 + k.val, by omega⟩) := by
  unfold iblk
  refine Eq.trans (b := Gen.V m c main_arg1 (ix2 i ⟨t.val % 4 * 1024 + k.val, by omega⟩)) ?_ ?_
  · blk_ext [idx_0 t]
  · rw [V_main_arg1 m c]

theorem block_b (t : Fin cfg0.N) (k : Fin 1024) (j : Fin 256) : iblk m c 1 t (ix2 k j)
    = m ((c : Thread nD τ).loc main_arg0) (ix2 ⟨t.val % 4 * 1024 + k.val, by omega⟩ j) := by
  unfold iblk
  refine Eq.trans (b := Gen.V m c main_v0 (ix2 ⟨t.val % 4 * 1024 + k.val, by omega⟩ j)) ?_ ?_
  · blk_ext [idx_1 t]
  · rw [host_b]
    rfl

theorem place (t : Fin cfg0.N) (i : Fin 1024) (j : Fin 256) : ((View.whole main_v1).slice (win0_2.rect t)).emb (ix2 i j)
    = ix2 i j := by
  blk_ext [idx_2 t]

/-- The gradient of the value projection's weights, transposed, at an index. -/
def grad (kv : FVec Ideal S4096x256 .f32) (dy : FVec Ideal S1024x4096 .f32) : FVec Ideal S1024x256 .f32 := fun y =>
  ∑ k : Fin 4096, dy (ix2 (y 0) k) * kv (ix2 k (y 1))

/-- A block times another. -/
def prod (a : Vec Ideal S1024x1024 .f32) (b : Vec Ideal S1024x256 .bf16) : FVec Ideal S1024x256 .f32 := fun y =>
  ∑ k : Fin 1024, (a (ix2 (y 0) k) : EReal) * (b (ix2 k (y 1)) : EReal)

/-- What the run adds at a point. -/
def part (t : Fin cfg0.N) : FVec Ideal S1024x256 .f32 := fun y => prod (iblk m c 0 t) (iblk m c 1 t) y

theorem add (t : Fin cfg0.N) (s : Vec Ideal S1024x256 .f32) (y : S1024x256.Idx) :
    k0_pay2 (F := Ideal) (iblk m c 0 t) (iblk m c 1 t) s y = s y + part m c t y := by
  rw [eq_ix2 y]
  exact pay _ _ _ _ _

theorem point_lt (t : Fin cfg0.N) (s : Fin 4) : 4 * (t.val / 4) + s.val < cfg0.N := by
  have h : t.val < 4 := t.isLt
  show _ < 4
  omega

theorem sum_parts (t : Fin cfg0.N) (i : Fin 1024) (j : Fin 256) :
    (0 : EReal) + ∑ s : Fin 4, part m c ⟨4 * (t.val / 4) + s.val, point_lt t s⟩ (ix2 i j)
      = grad (m ((c : Thread nD τ).loc main_arg0)) (m ((c : Thread nD τ).loc main_arg1)) (ix2 i j) := by
  rw [zero_add]
  refine Fin.sum_mul_add_congr fun s k hl => ?_
  have hd : (4 * (t.val / 4) + s.val) / 4 = t.val / 4 := by omega
  have hm : (4 * (t.val / 4) + s.val) % 4 = s.val := by omega
  refine (congrArg₂ (fun x y : EReal => x * y) (block_a m c _ i k) (block_b m c _ k j)).trans ?_
  simp only [hd, hm]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [Gen.after0_2]
  rw [Pipeline.eq_sum_fin_of_reset_step_apply_of_flush (fun n h => Gen.outsAt0 m c n h) 4 (fun _ => 0) (part m c)
    (fun t h j => by rw [outsAt0_A m c t h]; frame_out; rw [add, zero])
    (fun t h j => by rw [outsAt0_B m c t h]; frame_out; rw [add]) t ((flush0_2 t).mp hf) y]
  rw [eq_ix2 y]
  refine (sum_parts m c t (y 0) (y 1)).trans ?_
  exact (congrArg (grad _ _) (place t (y 0) (y 1))).symm

section
open Cert.Reference20Ideal.Read

theorem reference (kv : FVec Ideal S4096x256 .f32) (dy : FVec Ideal S1024x4096 .f32) : val_main_v5 (F := Ideal) kv dy = grad kv dy := by
  funext y
  rw [val_main_v5_apply, val_main_v4_apply, val_main_v3_apply]
  refine Finset.sum_congr rfl fun k _ => congrArg₂ (fun x y : EReal => x * y) ((val_main_v2_apply (F := Ideal) dy _).trans (congrArg dy ?_)) (congrArg kv ?_)
  all_goals exact funext fun a => match a with | 0 => rfl | 1 => rfl
end

theorem value : Cert.algebraic_Kernel20Ideal_Reference20Ideal := by
  intro m ρ m' ρ' _ hagree
  refine ⟨fun c => grad (m ((c : Thread nD τ).loc main_arg0)) (m ((c : Thread nD τ).loc main_arg1)), ?_, ?_⟩
  · refine (θ_run Cert.Kernel20Ideal.defs _ _).mono (fun r h c => ?_) (Cert.Kernel20Ideal.Value.run_blocks (F := Ideal) m ρ)
    exact ⟨(h c).1.trans (final m c), (h c).2⟩
  · refine (θ_run Cert.Reference20Ideal.defs _ _).mono (fun r h c => ?_) (Cert.Reference20Ideal.Value.run (F := Ideal) m' ρ')
    obtain ⟨h0, h1⟩ := hagree c
    refine ⟨(h c).1.trans ?_, (h c).2⟩
    rw [h0, h1]
    exact (Cert.Reference20Ideal.Read.val_main_v5_eq (F := Ideal) _ _).trans (reference _ _)

end Cert.Proof.VDw

end
-- ==== Proof.Value.VDx.lean ====
/- The gradient of the value projection's input: what the call leaves, at an index. -/
module

public import proofs.«01_k».proof.Proof.Value.Kit
public import proofs.«01_k».proof.Proof.Gen.Kernel21Ideal.Value
public import proofs.«01_k».proof.Proof.Gen.Reference21Ideal.Run
public import proofs.«01_k».proof.Proof.Gen.Reference21Ideal.Read

@[expose] public section

set_option maxRecDepth 16384

noncomputable section

namespace Cert.Proof.VDx

open Cert.Kernel21Ideal Cert.Kernel21Ideal.Gen
open Idealize.ShloMosaic Idealize.ShloMosaic.TcCoe Idealize.SL.Sem

theorem idx_0 : ∀ t, win0_0.index t = ![0, t.val] := by decide +kernel
theorem idx_1 : ∀ t, win0_1.index t = ![0, 0] := by decide +kernel
theorem idx_2 : ∀ t, win0_2.index t = ![t.val, 0] := by decide +kernel

theorem pay (a : Vec Ideal S1024x1024 .f32) (b : Vec Ideal S1024x256 .bf16) (i : Fin 1024) (j : Fin 256) :
    k0_pay2 (F := Ideal) a b (k0_pay1 (F := Ideal)) (ix2 i j) = ∑ k : Fin 1024, (a (ix2 k i) : EReal) * (b (ix2 k j) : EReal) := by
  pointwise [k0_pay2, k0_pay1]

variable (m : (ℓ : Loc nD τ sig) → Buf (Elt Ideal) ℓ) (c : Dev nD)

theorem host_b : Gen.V m c main_v0 = truncf (F := Ideal) (φ := .f32) .bf16 (m ((c : Thread nD τ).loc main_arg0)) bitsLt_bf16_f32 := by
  unfold Gen.V
  entry_read
  rfl

theorem bound (t : Fin cfg0.N) (i : Fin 1024) : t.val * 1024 + i.val < 4096 := by
  have h : t.val < 4 := t.isLt
  omega

theorem block_a (t : Fin cfg0.N) (k i : Fin 1024) : iblk m c 0 t (ix2 k i)
    = m ((c : Thread nD τ).loc main_arg1) (ix2 k ⟨t.val * 1024 + i.val, bound t i⟩) := by
  unfold iblk
  refine Eq.trans (b := Gen.V m c main_arg1 (ix2 k ⟨t.val * 1024 + i.val, bound t i⟩)) ?_ ?_
  · blk_ext [idx_0 t]
  · rw [V_main_arg1 m c]

theorem block_b (t : Fin cfg0.N) (k : Fin 1024) (j : Fin 256) : iblk m c 1 t (ix2 k j)
    = m ((c : Thread nD τ).loc main_arg0) (ix2 k j) := by
  unfold iblk
  refine Eq.trans (b := Gen.V m c main_v0 (ix2 k j)) ?_ ?_
  · blk_ext [idx_1 t]
  · rw [host_b]
    rfl

theorem place (t : Fin cfg0.N) (i : Fin 1024) (j : Fin 256) : ((View.whole main_v1).slice (win0_2.rect t)).emb (ix2 i j)
    = ix2 ⟨t.val * 1024 + i.val, bound t i⟩ j := by
  blk_ext [idx_2 t]

/-- The gradient of the value projection's input at an index. -/
def grad (w : FVec Ideal S1024x256 .f32) (dy : FVec Ideal S1024x4096 .f32) : FVec Ideal S4096x256 .f32 := fun y =>
  ∑ k : Fin 1024, dy (ix2 k (y 0)) * w (ix2 k (y 1))

theorem point (t : Fin cfg0.N) (i : Fin 1024) (j : Fin 256) : k0_pay2 (F := Ideal) (iblk m c 0 t) (iblk m c 1 t) (k0_pay1 (F := Ideal)) (ix2 i j)
    = grad (m ((c : Thread nD τ).loc main_arg0)) (m ((c : Thread nD τ).loc main_arg1)) (((View.whole main_v1).slice (win0_2.rect t)).emb (ix2 i j)) := by
  rw [place]
  refine (pay _ _ i j).trans ?_
  simp only [block_a, block_b]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference21Ideal.Read

theorem reference (w : FVec Ideal S1024x256 .f32) (dy : FVec Ideal S1024x4096 .f32) : val_main_v4 (F := Ideal) w dy = grad w dy := by
  funext y
  rw [val_main_v4_apply]
  refine Finset.sum_congr rfl fun k _ => congrArg₂ (fun x y : EReal => x * y) ((val_main_v3_apply (F := Ideal) dy _).trans (congrArg dy ?_)) ((val_main_v1_apply (F := Ideal) w _).trans (congrArg w ?_))
  all_goals exact funext fun a => match a with | 0 => rfl | 1 => rfl
end

theorem value : Cert.algebraic_Kernel21Ideal_Reference21Ideal := by
  intro m ρ m' ρ' _ hagree
  refine ⟨fun c => grad (m ((c : Thread nD τ).loc main_arg0)) (m ((c : Thread nD τ).loc main_arg1)), ?_, ?_⟩
  · refine (θ_run Cert.Kernel21Ideal.defs _ _).mono (fun r h c => ?_) (Cert.Kernel21Ideal.Value.run_blocks (F := Ideal) m ρ)
    exact ⟨(h c).1.trans (final m c), (h c).2⟩
  · refine (θ_run Cert.Reference21Ideal.defs _ _).mono (fun r h c => ?_) (Cert.Reference21Ideal.Value.run (F := Ideal) m' ρ')
    obtain ⟨h0, h1⟩ := hagree c
    refine ⟨(h c).1.trans ?_, (h c).2⟩
    rw [h0, h1]
    exact (Cert.Reference21Ideal.Read.val_main_v4_eq (F := Ideal) _ _).trans (reference _ _)

end Cert.Proof.VDx

end
-- ==== Proof.Value.Query.lean ====
/- The queries: what the call leaves, at an index. -/
module

public import proofs.«01_k».proof.Proof.Value.Kit
public import proofs.«01_k».proof.Proof.Gen.Kernel22Ideal.Value
public import proofs.«01_k».proof.Proof.Gen.Reference22Ideal.Run
public import proofs.«01_k».proof.Proof.Gen.Reference22Ideal.Read

@[expose] public section

set_option maxRecDepth 16384

noncomputable section

namespace Cert.Proof.Query

open Cert.Kernel22Ideal Cert.Kernel22Ideal.Gen
open Idealize.ShloMosaic Idealize.ShloMosaic.TcCoe Idealize.SL.Sem

theorem idx_0 : ∀ t, win0_0.index t = ![t.val, 0] := by decide +kernel
theorem idx_1 : ∀ t, win0_1.index t = ![0, 0] := by decide +kernel
theorem idx_2 : ∀ t, win0_2.index t = ![t.val, 0] := by decide +kernel

theorem pay (a : Vec Ideal S1024x384 .bf16) (b : Vec Ideal S384x1024 .bf16) (i : Fin 1024) (j : Fin 1024) :
    k0_pay2 (F := Ideal) a b (k0_pay1 (F := Ideal)) (ix2 i j) = ∑ k : Fin 384, a (ix2 i k) * b (ix2 k j) := by
  pointwise [k0_pay2, k0_pay1]

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  entry_read
  rfl
theorem host_b : Gen.V m c main_v1 = truncf (F := Ideal) (φ := .f32) .bf16 (m ((c : Thread nD τ).loc main_arg1)) bitsLt_bf16_f32 := by
  unfold Gen.V
  entry_read
  rfl

theorem bound (t : Fin cfg0.N) (i : Fin 1024) : t.val * 1024 + i.val < 4096 := by
  have h : t.val < 4 := t.isLt
  omega

theorem block_a (t : Fin cfg0.N) (i : Fin 1024) (k : Fin 384) : iblk m c 0 t (ix2 i k)
    = m ((c : Thread nD τ).loc main_arg0) (ix2 ⟨t.val * 1024 + i.val, bound t i⟩ k) := by
  unfold iblk
  refine Eq.trans (b := Gen.V m c main_v0 (ix2 ⟨t.val * 1024 + i.val, bound t i⟩ k)) ?_ ?_
  · blk_ext [idx_0 t]
  · rw [host_a]
    rfl

theorem block_b (t : Fin cfg0.N) (k : Fin 384) (j : Fin 1024) : iblk m c 1 t (ix2 k j)
    = m ((c : Thread nD τ).loc main_arg1) (ix2 k j) := by
  unfold iblk
  refine Eq.trans (b := Gen.V m c main_v1 (ix2 k j)) ?_ ?_
  · blk_ext [idx_1 t]
  · rw [host_b]
    rfl

theorem place (t : Fin cfg0.N) (i j : Fin 1024) : ((View.whole main_v2).slice (win0_2.rect t)).emb (ix2 i j)
    = ix2 ⟨t.val * 1024 + i.val, bound t i⟩ j := by
  blk_ext [idx_2 t]

/-- The queries at an index. -/
def grad (q : FVec Ideal S4096x384 .f32) (w : FVec Ideal S384x1024 .f32) : FVec Ideal S4096x1024 .f32 := fun y =>
  ∑ k : Fin 384, q (ix2 (y 0) k) * w (ix2 k (y 1))

theorem point (t : Fin cfg0.N) (i j : Fin 1024) : k0_pay2 (F := Ideal) (iblk m c 0 t) (iblk m c 1 t) (k0_pay1 (F := Ideal)) (ix2 i j)
    = grad (m ((c : Thread nD τ).loc main_arg0)) (m ((c : Thread nD τ).loc main_arg1)) (((View.whole main_v2).slice (win0_2.rect t)).emb (ix2 i j)) := by
  rw [place]
  refine (pay _ _ i j).trans ?_
  simp only [block_a, block_b]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference22Ideal.Read

theorem reference (q : FVec Ideal S4096x384 .f32) (w : FVec Ideal S384x1024 .f32) : val_main_v0 (F := Ideal) q w = grad q w := by
  funext y
  rw [val_main_v0_apply]
  refine Finset.sum_congr rfl fun k _ => congrArg₂ (q · * w ·) ?_ ?_
  all_goals exact funext fun a => match a with | 0 => rfl | 1 => rfl
end

theorem value : Cert.algebraic_Kernel22Ideal_Reference22Ideal := by
  intro m ρ m' ρ' _ hagree
  refine ⟨fun c => grad (m ((c : Thread nD τ).loc main_arg0)) (m ((c : Thread nD τ).loc main_arg1)), ?_, ?_⟩
  · refine (θ_run Cert.Kernel22Ideal.defs _ _).mono (fun r h c => ?_) (Cert.Kernel22Ideal.Value.run_blocks (F := Ideal) m ρ)
    exact ⟨(h c).1.trans (final m c), (h c).2⟩
  · refine (θ_run Cert.Reference22Ideal.defs _ _).mono (fun r h c => ?_) (Cert.Reference22Ideal.Value.run (F := Ideal) m' ρ')
    obtain ⟨h0, h1⟩ := hagree c
    refine ⟨(h c).1.trans ?_, (h c).2⟩
    rw [h0, h1]
    exact (Cert.Reference22Ideal.Read.val_main_v0_eq (F := Ideal) _ _).trans (reference _ _)

end Cert.Proof.Query

end
-- ==== Proof.Value.Key.lean ====
/- The keys: what the call leaves, at an index. -/
module

public import proofs.«01_k».proof.Proof.Value.Kit
public import proofs.«01_k».proof.Proof.Gen.Kernel23Ideal.Value
public import proofs.«01_k».proof.Proof.Gen.Reference23Ideal.Run
public import proofs.«01_k».proof.Proof.Gen.Reference23Ideal.Read

@[expose] public section

set_option maxRecDepth 16384

noncomputable section

namespace Cert.Proof.Key

open Cert.Kernel23Ideal Cert.Kernel23Ideal.Gen
open Idealize.ShloMosaic Idealize.ShloMosaic.TcCoe Idealize.SL.Sem

theorem idx_0 : ∀ t, win0_0.index t = ![t.val, 0] := by decide +kernel
theorem idx_1 : ∀ t, win0_1.index t = ![0, 0] := by decide +kernel
theorem idx_2 : ∀ t, win0_2.index t = ![t.val, 0] := by decide +kernel

theorem pay (a : Vec Ideal S1024x256 .bf16) (b : Vec Ideal S256x1024 .bf16) (i : Fin 1024) (j : Fin 1024) :
    k0_pay2 (F := Ideal) a b (k0_pay1 (F := Ideal)) (ix2 i j) = ∑ k : Fin 256, a (ix2 i k) * b (ix2 k j) := by
  pointwise [k0_pay2, k0_pay1]

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  entry_read
  rfl
theorem host_b : Gen.V m c main_v1 = truncf (F := Ideal) (φ := .f32) .bf16 (m ((c : Thread nD τ).loc main_arg1)) bitsLt_bf16_f32 := by
  unfold Gen.V
  entry_read
  rfl

theorem bound (t : Fin cfg0.N) (i : Fin 1024) : t.val * 1024 + i.val < 4096 := by
  have h : t.val < 4 := t.isLt
  omega

theorem block_a (t : Fin cfg0.N) (i : Fin 1024) (k : Fin 256) : iblk m c 0 t (ix2 i k)
    = m ((c : Thread nD τ).loc main_arg0) (ix2 ⟨t.val * 1024 + i.val, bound t i⟩ k) := by
  unfold iblk
  refine Eq.trans (b := Gen.V m c main_v0 (ix2 ⟨t.val * 1024 + i.val, bound t i⟩ k)) ?_ ?_
  · blk_ext [idx_0 t]
  · rw [host_a]
    rfl

theorem block_b (t : Fin cfg0.N) (k : Fin 256) (j : Fin 1024) : iblk m c 1 t (ix2 k j)
    = m ((c : Thread nD τ).loc main_arg1) (ix2 k j) := by
  unfold iblk
  refine Eq.trans (b := Gen.V m c main_v1 (ix2 k j)) ?_ ?_
  · blk_ext [idx_1 t]
  · rw [host_b]
    rfl

theorem place (t : Fin cfg0.N) (i j : Fin 1024) : ((View.whole main_v2).slice (win0_2.rect t)).emb (ix2 i j)
    = ix2 ⟨t.val * 1024 + i.val, bound t i⟩ j := by
  blk_ext [idx_2 t]

/-- The keys at an index. -/
def grad (kv : FVec Ideal S4096x256 .f32) (w : FVec Ideal S256x1024 .f32) : FVec Ideal S4096x1024 .f32 := fun y =>
  ∑ k : Fin 256, kv (ix2 (y 0) k) * w (ix2 k (y 1))

theorem point (t : Fin cfg0.N) (i j : Fin 1024) : k0_pay2 (F := Ideal) (iblk m c 0 t) (iblk m c 1 t) (k0_pay1 (F := Ideal)) (ix2 i j)
    = grad (m ((c : Thread nD τ).loc main_arg0)) (m ((c : Thread nD τ).loc main_arg1)) (((View.whole main_v2).slice (win0_2.rect t)).emb (ix2 i j)) := by
  rw [place]
  refine (pay _ _ i j).trans ?_
  simp only [block_a, block_b]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference23Ideal.Read

theorem reference (kv : FVec Ideal S4096x256 .f32) (w : FVec Ideal S256x1024 .f32) : val_main_v0 (F := Ideal) kv w = grad kv w := by
  funext y
  rw [val_main_v0_apply]
  refine Finset.sum_congr rfl fun k _ => congrArg₂ (kv · * w ·) ?_ ?_
  all_goals exact funext fun a => match a with | 0 => rfl | 1 => rfl
end

theorem value : Cert.algebraic_Kernel23Ideal_Reference23Ideal := by
  intro m ρ m' ρ' _ hagree
  refine ⟨fun c => grad (m ((c : Thread nD τ).loc main_arg0)) (m ((c : Thread nD τ).loc main_arg1)), ?_, ?_⟩
  · refine (θ_run Cert.Kernel23Ideal.defs _ _).mono (fun r h c => ?_) (Cert.Kernel23Ideal.Value.run_blocks (F := Ideal) m ρ)
    exact ⟨(h c).1.trans (final m c), (h c).2⟩
  · refine (θ_run Cert.Reference23Ideal.defs _ _).mono (fun r h c => ?_) (Cert.Reference23Ideal.Value.run (F := Ideal) m' ρ')
    obtain ⟨h0, h1⟩ := hagree c
    refine ⟨(h c).1.trans ?_, (h c).2⟩
    rw [h0, h1]
    exact (Cert.Reference23Ideal.Read.val_main_v0_eq (F := Ideal) _ _).trans (reference _ _)

end Cert.Proof.Key

end
-- ==== Proof.Value.Values.lean ====
/- The values: what the call leaves, at an index. -/
module

public import proofs.«01_k».proof.Proof.Value.Kit
public import proofs.«01_k».proof.Proof.Gen.Kernel24Ideal.Value
public import proofs.«01_k».proof.Proof.Gen.Reference24Ideal.Run
public import proofs.«01_k».proof.Proof.Gen.Reference24Ideal.Read

@[expose] public section

set_option maxRecDepth 16384

noncomputable section

namespace Cert.Proof.Values

open Cert.Kernel24Ideal Cert.Kernel24Ideal.Gen
open Idealize.ShloMosaic Idealize.ShloMosaic.TcCoe Idealize.SL.Sem

theorem idx_0 : ∀ t, win0_0.index t = ![t.val, 0] := by decide +kernel
theorem idx_1 : ∀ t, win0_1.index t = ![0, 0] := by decide +kernel
theorem idx_2 : ∀ t, win0_2.index t = ![t.val, 0] := by decide +kernel

theorem pay (a : Vec Ideal S1024x256 .bf16) (b : Vec Ideal S256x1024 .bf16) (i : Fin 1024) (j : Fin 1024) :
    k0_pay3 (F := Ideal) (k0_pay2 (F := Ideal) a b (k0_pay1 (F := Ideal))) (ix2 i j) = ∑ k : Fin 256, a (ix2 i k) * b (ix2 k j) := by
  pointwise [k0_pay3, k0_pay2, k0_pay1]

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  entry_read
  rfl
theorem host_b : Gen.V m c main_v1 = truncf (F := Ideal) (φ := .f32) .bf16 (m ((c : Thread nD τ).loc main_arg1)) bitsLt_bf16_f32 := by
  unfold Gen.V
  entry_read
  rfl

theorem bound (t : Fin cfg0.N) (i : Fin 1024) : t.val * 1024 + i.val < 4096 := by
  have h : t.val < 4 := t.isLt
  omega

theorem block_a (t : Fin cfg0.N) (i : Fin 1024) (k : Fin 256) : iblk m c 0 t (ix2 i k)
    = m ((c : Thread nD τ).loc main_arg0) (ix2 ⟨t.val * 1024 + i.val, bound t i⟩ k) := by
  unfold iblk
  refine Eq.trans (b := Gen.V m c main_v0 (ix2 ⟨t.val * 1024 + i.val, bound t i⟩ k)) ?_ ?_
  · blk_ext [idx_0 t]
  · rw [host_a]
    rfl

theorem block_b (t : Fin cfg0.N) (k : Fin 256) (j : Fin 1024) : iblk m c 1 t (ix2 k j)
    = m ((c : Thread nD τ).loc main_arg1) (ix2 k j) := by
  unfold iblk
  refine Eq.trans (b := Gen.V m c main_v1 (ix2 k j)) ?_ ?_
  · blk_ext [idx_1 t]
  · rw [host_b]
    rfl

theorem place (t : Fin cfg0.N) (i j : Fin 1024) : ((View.whole main_v2).slice (win0_2.rect t)).emb (ix2 i j)
    = ix2 ⟨t.val * 1024 + i.val, bound t i⟩ j := by
  blk_ext [idx_2 t]

/-- The values at an index. -/
def grad (kv : FVec Ideal S4096x256 .f32) (w : FVec Ideal S256x1024 .f32) : FVec Ideal S4096x1024 .bf16 := fun y =>
  ∑ k : Fin 256, kv (ix2 (y 0) k) * w (ix2 k (y 1))

theorem point (t : Fin cfg0.N) (i j : Fin 1024) : k0_pay3 (F := Ideal) (k0_pay2 (F := Ideal) (iblk m c 0 t) (iblk m c 1 t) (k0_pay1 (F := Ideal))) (ix2 i j)
    = grad (m ((c : Thread nD τ).loc main_arg0)) (m ((c : Thread nD τ).loc main_arg1)) (((View.whole main_v2).slice (win0_2.rect t)).emb (ix2 i j)) := by
  rw [place]
  refine (pay _ _ i j).trans ?_
  simp only [block_a, block_b]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference24Ideal.Read

theorem reference (kv : FVec Ideal S4096x256 .f32) (w : FVec Ideal S256x1024 .f32) : val_main_v1 (F := Ideal) kv w = grad kv w := by
  funext y
  rw [val_main_v1_apply, val_main_v0_apply]
  refine Finset.sum_congr rfl fun k _ => congrArg₂ (kv · * w ·) ?_ ?_
  all_goals exact funext fun a => match a with | 0 => rfl | 1 => rfl
end

theorem value : Cert.algebraic_Kernel24Ideal_Reference24Ideal := by
  intro m ρ m' ρ' _ hagree
  refine ⟨fun c => grad (m ((c : Thread nD τ).loc main_arg0)) (m ((c : Thread nD τ).loc main_arg1)), ?_, ?_⟩
  · refine (θ_run Cert.Kernel24Ideal.defs _ _).mono (fun r h c => ?_) (Cert.Kernel24Ideal.Value.run_blocks (F := Ideal) m ρ)
    exact ⟨(h c).1.trans (final m c), (h c).2⟩
  · refine (θ_run Cert.Reference24Ideal.defs _ _).mono (fun r h c => ?_) (Cert.Reference24Ideal.Value.run (F := Ideal) m' ρ')
    obtain ⟨h0, h1⟩ := hagree c
    refine ⟨(h c).1.trans ?_, (h c).2⟩
    rw [h0, h1]
    exact (Cert.Reference24Ideal.Read.val_main_v1_eq (F := Ideal) _ _).trans (reference _ _)

end Cert.Proof.Values

end
-- ==== Proof.Value.ValuesT.lean ====
/- The values, transposed: what the call leaves, at an index. -/
module

public import proofs.«01_k».proof.Proof.Value.Kit
public import proofs.«01_k».proof.Proof.Gen.Kernel25Ideal.Value
public import proofs.«01_k».proof.Proof.Gen.Reference25Ideal.Run
public import proofs.«01_k».proof.Proof.Gen.Reference25Ideal.Read

@[expose] public section

set_option maxRecDepth 16384

noncomputable section

namespace Cert.Proof.ValuesT

open Cert.Kernel25Ideal Cert.Kernel25Ideal.Gen
open Idealize.ShloMosaic Idealize.ShloMosaic.TcCoe Idealize.SL.Sem

theorem idx_0 : ∀ t, win0_0.index t = ![0, 0] := by decide +kernel
theorem idx_1 : ∀ t, win0_1.index t = ![t.val, 0] := by decide +kernel
theorem idx_2 : ∀ t, win0_2.index t = ![0, t.val] := by decide +kernel

theorem pay (a : Vec Ideal S1024x256 .bf16) (b : Vec Ideal S1024x256 .bf16) (i : Fin 1024) (j : Fin 1024) :
    k0_pay3 (F := Ideal) (k0_pay2 (F := Ideal) a b (k0_pay1 (F := Ideal))) (ix2 i j) = ∑ k : Fin 256, a (ix2 i k) * b (ix2 j k) := by
  pointwise [k0_pay3, k0_pay2, k0_pay1]

variable (m : (ℓ : Loc nD τ sig) → Buf (Elt Ideal) ℓ) (c : Dev nD)

theorem host_a : Gen.V m c main_v0 = truncf (F := Ideal) (φ := .f32) .bf16 (m ((c : Thread nD τ).loc main_arg1)) bitsLt_bf16_f32 := by
  unfold Gen.V
  entry_read
  rfl
theorem host_b : Gen.V m c main_v1 = truncf (F := Ideal) (φ := .f32) .bf16 (m ((c : Thread nD τ).loc main_arg0)) bitsLt_bf16_f32 := by
  unfold Gen.V
  entry_read
  rfl

theorem bound (t : Fin cfg0.N) (i : Fin 1024) : t.val * 1024 + i.val < 4096 := by
  have h : t.val < 4 := t.isLt
  omega

theorem block_a (t : Fin cfg0.N) (i : Fin 1024) (k : Fin 256) : iblk m c 0 t (ix2 i k)
    = m ((c : Thread nD τ).loc main_arg1) (ix2 i k) := by
  unfold iblk
  refine Eq.trans (b := Gen.V m c main_v0 (ix2 i k)) ?_ ?_
  · blk_ext [idx_0 t]
  · rw [host_a]
    rfl

theorem block_b (t : Fin cfg0.N) (j : Fin 1024) (k : Fin 256) : iblk m c 1 t (ix2 j k)
    = m ((c : Thread nD τ).loc main_arg0) (ix2 ⟨t.val * 1024 + j.val, bound t j⟩ k) := by
  unfold iblk
  refine Eq.trans (b := Gen.V m c main_v1 (ix2 ⟨t.val * 1024 + j.val, bound t j⟩ k)) ?_ ?_
  · blk_ext [idx_1 t]
  · rw [host_b]
    rfl

theorem place (t : Fin cfg0.N) (i j : Fin 1024) : ((View.whole main_v2).slice (win0_2.rect t)).emb (ix2 i j)
    = ix2 i ⟨t.val * 1024 + j.val, bound t j⟩ := by
  blk_ext [idx_2 t]

/-- The values, transposed, at an index. -/
def grad (kv : FVec Ideal S4096x256 .f32) (w : FVec Ideal S1024x256 .f32) : FVec Ideal S1024x4096 .bf16 := fun y =>
  ∑ k : Fin 256, w (ix2 (y 0) k) * kv (ix2 (y 1) k)

theorem point (t : Fin cfg0.N) (i j : Fin 1024) : k0_pay3 (F := Ideal) (k0_pay2 (F := Ideal) (iblk m c 0 t) (iblk m c 1 t) (k0_pay1 (F := Ideal))) (ix2 i j)
    = grad (m ((c : Thread nD τ).loc main_arg0)) (m ((c : Thread nD τ).loc main_arg1)) (((View.whole main_v2).slice (win0_2.rect t)).emb (ix2 i j)) := by
  rw [place]
  refine (pay _ _ i j).trans ?_
  simp only [block_a, block_b]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference25Ideal.Read

theorem reference (kv : FVec Ideal S4096x256 .f32) (w : FVec Ideal S1024x256 .f32) : val_main_v3 (F := Ideal) kv w = grad kv w := by
  funext y
  rw [val_main_v3_apply, val_main_v2_apply, val_main_v1_apply]
  refine Finset.sum_congr rfl fun k _ => (mul_comm _ _).trans (congrArg₂ (fun x y : EReal => x * y) ((val_main_v0_apply (F := Ideal) w _).trans (congrArg w ?_)) (congrArg kv ?_))
  all_goals exact funext fun a => match a with | 0 => rfl | 1 => rfl
end

theorem value : Cert.algebraic_Kernel25Ideal_Reference25Ideal := by
  intro m ρ m' ρ' _ hagree
  refine ⟨fun c => grad (m ((c : Thread nD τ).loc main_arg0)) (m ((c : Thread nD τ).loc main_arg1)), ?_, ?_⟩
  · refine (θ_run Cert.Kernel25Ideal.defs _ _).mono (fun r h c => ?_) (Cert.Kernel25Ideal.Value.run_blocks (F := Ideal) m ρ)
    exact ⟨(h c).1.trans (final m c), (h c).2⟩
  · refine (θ_run Cert.Reference25Ideal.defs _ _).mono (fun r h c => ?_) (Cert.Reference25Ideal.Value.run (F := Ideal) m' ρ')
    obtain ⟨h0, h1⟩ := hagree c
    refine ⟨(h c).1.trans ?_, (h c).2⟩
    rw [h0, h1]
    exact (Cert.Reference25Ideal.Read.val_main_v3_eq (F := Ideal) _ _).trans (reference _ _)

end Cert.Proof.ValuesT

end
-- ==== Proof.Value.Mix.lean ====
/- The mixing product over the attention's output: what the call leaves, at an index. -/
module

public import proofs.«01_k».proof.Proof.Value.Kit
public import proofs.«01_k».proof.Proof.Gen.Kernel26Ideal.Value
public import proofs.«01_k».proof.Proof.Gen.Reference26Ideal.Run
public import proofs.«01_k».proof.Proof.Gen.Reference26Ideal.Read

@[expose] public section

set_option maxRecDepth 16384

noncomputable section

namespace Cert.Proof.Mix

open Cert.Kernel26Ideal Cert.Kernel26Ideal.Gen
open Idealize.ShloMosaic Idealize.ShloMosaic.TcCoe Idealize.SL.Sem

theorem idx_0 : ∀ t, win0_0.index t = ![0, t.val] := by decide +kernel
theorem idx_1 : ∀ t, win0_1.index t = ![0, 0] := by decide +kernel
theorem idx_2 : ∀ t, win0_2.index t = ![t.val, 0] := by decide +kernel

theorem pay (a : Vec Ideal S1024x1024 .f32) (b : Vec Ideal S1024x1024 .bf16) (i : Fin 1024) (j : Fin 1024) :
    k0_pay2 (F := Ideal) a b (k0_pay1 (F := Ideal)) (ix2 i j) = ∑ k : Fin 1024, (a (ix2 k i) : EReal) * (b (ix2 k j) : EReal) := by
  pointwise [k0_pay2, k0_pay1]

variable (m : (ℓ : Loc nD τ sig) → Buf (Elt Ideal) ℓ) (c : Dev nD)

theorem host_b : Gen.V m c main_v0 = truncf (F := Ideal) (φ := .f32) .bf16 (m ((c : Thread nD τ).loc main_arg1)) bitsLt_bf16_f32 := by
  unfold Gen.V
  entry_read
  rfl

theorem bound (t : Fin cfg0.N) (i : Fin 1024) : t.val * 1024 + i.val < 4096 := by
  have h : t.val < 4 := t.isLt
  omega

theorem block_a (t : Fin cfg0.N) (k i : Fin 1024) : iblk m c 0 t (ix2 k i)
    = m ((c : Thread nD τ).loc main_arg0) (ix2 k ⟨t.val * 1024 + i.val, bound t i⟩) := by
  unfold iblk
  refine Eq.trans (b := Gen.V m c main_arg0 (ix2 k ⟨t.val * 1024 + i.val, bound t i⟩)) ?_ ?_
  · blk_ext [idx_0 t]
  · rw [V_main_arg0 m c]

theorem block_b (t : Fin cfg0.N) (k j : Fin 1024) : iblk m c 1 t (ix2 k j)
    = m ((c : Thread nD τ).loc main_arg1) (ix2 k j) := by
  unfold iblk
  refine Eq.trans (b := Gen.V m c main_v0 (ix2 k j)) ?_ ?_
  · blk_ext [idx_1 t]
  · rw [host_b]
    rfl

theorem place (t : Fin cfg0.N) (i j : Fin 1024) : ((View.whole main_v1).slice (win0_2.rect t)).emb (ix2 i j)
    = ix2 ⟨t.val * 1024 + i.val, bound t i⟩ j := by
  blk_ext [idx_2 t]

/-- The mixing product at an index. -/
def grad (o : FVec Ideal S1024x4096 .f32) (w : FVec Ideal S1024x1024 .f32) : FVec Ideal S4096x1024 .f32 := fun y =>
  ∑ k : Fin 1024, o (ix2 k (y 0)) * w (ix2 k (y 1))

theorem point (t : Fin cfg0.N) (i j : Fin 1024) : k0_pay2 (F := Ideal) (iblk m c 0 t) (iblk m c 1 t) (k0_pay1 (F := Ideal)) (ix2 i j)
    = grad (m ((c : Thread nD τ).loc main_arg0)) (m ((c : Thread nD τ).loc main_arg1)) (((View.whole main_v1).slice (win0_2.rect t)).emb (ix2 i j)) := by
  rw [place]
  refine (pay _ _ i j).trans ?_
  simp only [block_a, block_b]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference26Ideal.Read

theorem reference (o : FVec Ideal S1024x4096 .f32) (w : FVec Ideal S1024x1024 .f32) : val_main_v1 (F := Ideal) o w = grad o w := by
  funext y
  rw [val_main_v1_apply]
  refine Finset.sum_congr rfl fun k _ => congrArg₂ (fun x y : EReal => x * y) ((val_main_v0_apply (F := Ideal) o _).trans (congrArg o ?_)) (congrArg w ?_)
  all_goals exact funext fun a => match a with | 0 => rfl | 1 => rfl
end

theorem value : Cert.algebraic_Kernel26Ideal_Reference26Ideal := by
  intro m ρ m' ρ' _ hagree
  refine ⟨fun c => grad (m ((c : Thread nD τ).loc main_arg0)) (m ((c : Thread nD τ).loc main_arg1)), ?_, ?_⟩
  · refine (θ_run Cert.Kernel26Ideal.defs _ _).mono (fun r h c => ?_) (Cert.Kernel26Ideal.Value.run_blocks (F := Ideal) m ρ)
    exact ⟨(h c).1.trans (final m c), (h c).2⟩
  · refine (θ_run Cert.Reference26Ideal.defs _ _).mono (fun r h c => ?_) (Cert.Reference26Ideal.Value.run (F := Ideal) m' ρ')
    obtain ⟨h0, h1⟩ := hagree c
    refine ⟨(h c).1.trans ?_, (h c).2⟩
    rw [h0, h1]
    exact (Cert.Reference26Ideal.Read.val_main_v1_eq (F := Ideal) _ _).trans (reference _ _)

end Cert.Proof.Mix

end
-- ==== Proof.Value.MixY.lean ====
/- The mixing product over the scan's output: what the call leaves, at an index. -/
module

public import proofs.«01_k».proof.Proof.Value.Kit
public import proofs.«01_k».proof.Proof.Gen.Kernel27Ideal.Value
public import proofs.«01_k».proof.Proof.Gen.Reference27Ideal.Run
public import proofs.«01_k».proof.Proof.Gen.Reference27Ideal.Read

@[expose] public section

set_option maxRecDepth 16384

noncomputable section

namespace Cert.Proof.MixY

open Cert.Kernel27Ideal Cert.Kernel27Ideal.Gen
open Idealize.ShloMosaic Idealize.ShloMosaic.TcCoe Idealize.SL.Sem

theorem idx_0 : ∀ t, win0_0.index t = ![t.val, 0] := by decide +kernel
theorem idx_1 : ∀ t, win0_1.index t = ![0, 12, 0] := by decide +kernel
theorem idx_2 : ∀ t, win0_2.index t = ![t.val, 0] := by decide +kernel

theorem pay (a : Vec Ideal S1024x512 .bf16) (b : Vec Ideal S2x256x1024 .bf16) (i : Fin 1024) (j : Fin 1024) :
    k0_pay2 (F := Ideal) a b (k0_pay1 (F := Ideal)) (ix2 i j) = ∑ k : Fin 512, a (ix2 i k) * b (ix3 ⟨k.val / 256, by omega⟩ ⟨k.val % 256, by omega⟩ j) := by
  pointwise [k0_pay2, k0_pay1]

/-- The weights packed by shards of 256 rows, between zeros. -/
def packed (w : FVec Ideal S1024x1024 .f32) : FVec Ideal S4x3328x1024 .f32 :=
  pad S4x3328x1024 ![0, 3072, 0] ![0, 0, 0] ![0, 0, 0] (shapeCast S4x256x1024 w shapeCasts_S1024x1024_S4x256x1024)
    (sitofp .f32 (constantI S_ 32 0#32)) pads_S4x256x1024_S4x3328x1024_000_307200_000 h_S_

theorem packed_apply (w : FVec Ideal S1024x1024 .f32) (s : Fin 4) (r : Fin 256) (k : Fin 1024) (h : 3072 + r.val < 3328) :
    packed w (ix3 s ⟨3072 + r.val, h⟩ k) = w (ix2 ⟨s.val * 256 + r.val, by omega⟩ k) := by
  unfold packed
  pointwise []

theorem whole (j : Fin 512) : (⟨j.val / 256 * 256 + j.val % 256, by omega⟩ : Fin 1024) = Fin.castLE (show 512 ≤ 1024 by decide) j :=
  Fin.ext (by show j.val / 256 * 256 + j.val % 256 = j.val; omega)

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  simp only [hostOps0, hostOps0_1, hostOps0_2, List.flatten_cons, List.flatten_nil, List.append_nil, List.cons_append, List.nil_append]
  entry_read
  rfl
theorem host_b : Gen.V m c main_v3 = truncf (F := Ideal) (φ := .f32) .bf16 (packed (m ((c : Thread nD τ).loc main_arg1))) bitsLt_bf16_f32 := by
  unfold Gen.V
  simp only [hostOps0, hostOps0_1, hostOps0_2, List.flatten_cons, List.flatten_nil, List.append_nil, List.cons_append, List.nil_append]
  entry_read
  rfl

theorem bound (t : Fin cfg0.N) (i : Fin 1024) : t.val * 1024 + i.val < 4096 := by
  have h : t.val < 4 := t.isLt
  omega

theorem block_a (t : Fin cfg0.N) (i : Fin 1024) (k : Fin 512) : iblk m c 0 t (ix2 i k)
    = m ((c : Thread nD τ).loc main_arg0) (ix2 ⟨t.val * 1024 + i.val, bound t i⟩ k) := by
  unfold iblk
  refine Eq.trans (b := Gen.V m c main_v0 (ix2 ⟨t.val * 1024 + i.val, bound t i⟩ k)) ?_ ?_
  · blk_ext [idx_0 t]
  · rw [host_a]
    rfl

theorem block_b (t : Fin cfg0.N) (s : Fin 2) (r : Fin 256) (k : Fin 1024) : iblk m c 1 t (ix3 s r k)
    = m ((c : Thread nD τ).loc main_arg1) (ix2 ⟨s.val * 256 + r.val, by omega⟩ k) := by
  unfold iblk
  refine Eq.trans (b := Gen.V m c main_v3 (ix3 ⟨s.val, by omega⟩ ⟨3072 + r.val, by omega⟩ k)) ?_ ?_
  · blk_ext [idx_1 t]
  · rw [host_b]
    exact packed_apply _ _ _ _ _

theorem place (t : Fin cfg0.N) (i j : Fin 1024) : ((View.whole main_v4).slice (win0_2.rect t)).emb (ix2 i j)
    = ix2 ⟨t.val * 1024 + i.val, bound t i⟩ j := by
  blk_ext [idx_2 t]

/-- The mixing product at an index. -/
def grad (z : FVec Ideal S4096x512 .f32) (w : FVec Ideal S1024x1024 .f32) : FVec Ideal S4096x1024 .f32 := fun y =>
  ∑ k : Fin 512, z (ix2 (y 0) k) * w (ix2 (Fin.castLE (show 512 ≤ 1024 by decide) k) (y 1))

theorem point (t : Fin cfg0.N) (i j : Fin 1024) : k0_pay2 (F := Ideal) (iblk m c 0 t) (iblk m c 1 t) (k0_pay1 (F := Ideal)) (ix2 i j)
    = grad (m ((c : Thread nD τ).loc main_arg0)) (m ((c : Thread nD τ).loc main_arg1)) (((View.whole main_v4).slice (win0_2.rect t)).emb (ix2 i j)) := by
  rw [place]
  refine (pay _ _ i j).trans ?_
  simp only [block_a, block_b, whole]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference27Ideal.Read

theorem reference (z : FVec Ideal S4096x512 .f32) (w : FVec Ideal S1024x1024 .f32) : val_main_v1 (F := Ideal) z w = grad z w := by
  funext y
  rw [val_main_v1_apply]
  refine Finset.sum_congr rfl fun k _ => congrArg₂ (fun x y : EReal => x * y) (congrArg z ?_) ((val_main_v0_apply (F := Ideal) w _).trans (congrArg w ?_))
  all_goals exact funext fun a => match a with | 0 => rfl | 1 => rfl
end

theorem value : Cert.algebraic_Kernel27Ideal_Reference27Ideal := by
  intro m ρ m' ρ' _ hagree
  refine ⟨fun c => grad (m ((c : Thread nD τ).loc main_arg0)) (m ((c : Thread nD τ).loc main_arg1)), ?_, ?_⟩
  · refine (θ_run Cert.Kernel27Ideal.defs _ _).mono (fun r h c => ?_) (Cert.Kernel27Ideal.Value.run_blocks (F := Ideal) m ρ)
    exact ⟨(h c).1.trans (final m c), (h c).2⟩
  · refine (θ_run Cert.Reference27Ideal.defs _ _).mono (fun r h c => ?_) (Cert.Reference27Ideal.Value.run (F := Ideal) m' ρ')
    obtain ⟨h0, h1⟩ := hagree c
    refine ⟨(h c).1.trans ?_, (h c).2⟩
    rw [h0, h1]
    exact (Cert.Reference27Ideal.Read.val_main_v1_eq (F := Ideal) _ _).trans (reference _ _)

end Cert.Proof.MixY

end
-- ==== Proof.Value.Queries.lean ====
/- The memory attention's queries: what the call leaves, at an index. -/
module

public import proofs.«01_k».proof.Proof.Value.Kit
public import proofs.«01_k».proof.Proof.Gen.Kernel28Ideal.Value
public import proofs.«01_k».proof.Proof.Gen.Reference28Ideal.Run
public import proofs.«01_k».proof.Proof.Gen.Reference28Ideal.Read

@[expose] public section

set_option maxRecDepth 16384

noncomputable section

namespace Cert.Proof.Queries

open Cert.Kernel28Ideal Cert.Kernel28Ideal.Gen
open Idealize.ShloMosaic Idealize.ShloMosaic.TcCoe Idealize.SL.Sem

theorem idx_0 : ∀ t, win0_0.index t = ![t.val, 0] := by decide +kernel
theorem idx_1 : ∀ t, win0_1.index t = ![0, 8, 0] := by decide +kernel
theorem idx_2 : ∀ t, win0_2.index t = ![t.val, 0] := by decide +kernel

theorem pay (a : Vec Ideal S1024x1024 .bf16) (b : Vec Ideal S4x256x1024 .bf16) (i : Fin 1024) (j : Fin 1024) :
    k0_pay3 (F := Ideal) (k0_pay2 (F := Ideal) a b (k0_pay1 (F := Ideal))) (ix2 i j) = ∑ k : Fin 1024, a (ix2 i k) * b (ix3 ⟨k.val / 256, by omega⟩ ⟨k.val % 256, by omega⟩ j) := by
  pointwise [k0_pay3, k0_pay2, k0_pay1]

/-- The weights packed by shards of 256 rows, between zeros. -/
def packed (w : FVec Ideal S1024x1024 .f32) : FVec Ideal S4x3328x1024 .f32 :=
  pad S4x3328x1024 ![0, 2048, 0] ![0, 1024, 0] ![0, 0, 0] (shapeCast S4x256x1024 w shapeCasts_S1024x1024_S4x256x1024)
    (sitofp .f32 (constantI S_ 32 0#32)) pads_S4x256x1024_S4x3328x1024_000_204810240_000 h_S_

theorem packed_apply (w : FVec Ideal S1024x1024 .f32) (s : Fin 4) (r : Fin 256) (k : Fin 1024) (h : 2048 + r.val < 3328) :
    packed w (ix3 s ⟨2048 + r.val, h⟩ k) = w (ix2 ⟨s.val * 256 + r.val, by omega⟩ k) := by
  unfold packed
  pointwise []

theorem whole (j : Fin 1024) : (⟨j.val / 256 * 256 + j.val % 256, by omega⟩ : Fin 1024) = j :=
  Fin.ext (by show j.val / 256 * 256 + j.val % 256 = j.val; omega)

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  simp only [hostOps0, hostOps0_1, hostOps0_2, List.flatten_cons, List.flatten_nil, List.append_nil, List.cons_append, List.nil_append]
  entry_read
  rfl
theorem host_b : Gen.V m c main_v3 = truncf (F := Ideal) (φ := .f32) .bf16 (packed (m ((c : Thread nD τ).loc main_arg1))) bitsLt_bf16_f32 := by
  unfold Gen.V
  simp only [hostOps0, hostOps0_1, hostOps0_2, List.flatten_cons, List.flatten_nil, List.append_nil, List.cons_append, List.nil_append]
  entry_read
  rfl

theorem bound (t : Fin cfg0.N) (i : Fin 1024) : t.val * 1024 + i.val < 4096 := by
  have h : t.val < 4 := t.isLt
  omega

theorem block_a (t : Fin cfg0.N) (i k : Fin 1024) : iblk m c 0 t (ix2 i k)
    = m ((c : Thread nD τ).loc main_arg0) (ix2 ⟨t.val * 1024 + i.val, bound t i⟩ k) := by
  unfold iblk
  refine Eq.trans (b := Gen.V m c main_v0 (ix2 ⟨t.val * 1024 + i.val, bound t i⟩ k)) ?_ ?_
  · blk_ext [idx_0 t]
  · rw [host_a]
    rfl

theorem block_b (t : Fin cfg0.N) (s : Fin 4) (r : Fin 256) (k : Fin 1024) : iblk m c 1 t (ix3 s r k)
    = m ((c : Thread nD τ).loc main_arg1) (ix2 ⟨s.val * 256 + r.val, by omega⟩ k) := by
  unfold iblk
  refine Eq.trans (b := Gen.V m c main_v3 (ix3 s ⟨2048 + r.val, by omega⟩ k)) ?_ ?_
  · blk_ext [idx_1 t]
  · rw [host_b]
    exact packed_apply _ _ _ _ _

theorem place (t : Fin cfg0.N) (i j : Fin 1024) : ((View.whole main_v4).slice (win0_2.rect t)).emb (ix2 i j)
    = ix2 ⟨t.val * 1024 + i.val, bound t i⟩ j := by
  blk_ext [idx_2 t]

/-- The queries at an index. -/
def grad (h : FVec Ideal S4096x1024 .f32) (w : FVec Ideal S1024x1024 .f32) : FVec Ideal S4096x1024 .bf16 := fun y =>
  ∑ k : Fin 1024, h (ix2 (y 0) k) * w (ix2 k (y 1))

theorem point (t : Fin cfg0.N) (i j : Fin 1024) : k0_pay3 (F := Ideal) (k0_pay2 (F := Ideal) (iblk m c 0 t) (iblk m c 1 t) (k0_pay1 (F := Ideal))) (ix2 i j)
    = grad (m ((c : Thread nD τ).loc main_arg0)) (m ((c : Thread nD τ).loc main_arg1)) (((View.whole main_v4).slice (win0_2.rect t)).emb (ix2 i j)) := by
  rw [place]
  refine (pay _ _ i j).trans ?_
  simp only [block_a, block_b, whole]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference28Ideal.Read

theorem reference (h : FVec Ideal S4096x1024 .f32) (w : FVec Ideal S1024x1024 .f32) : val_main_v1 (F := Ideal) h w = grad h w := by
  funext y
  rw [val_main_v1_apply, val_main_v0_apply]
  refine Finset.sum_congr rfl fun k _ => congrArg₂ (h · * w ·) ?_ ?_
  all_goals exact funext fun a => match a with | 0 => rfl | 1 => rfl
end

theorem value : Cert.algebraic_Kernel28Ideal_Reference28Ideal := by
  intro m ρ m' ρ' _ hagree
  refine ⟨fun c => grad (m ((c : Thread nD τ).loc main_arg0)) (m ((c : Thread nD τ).loc main_arg1)), ?_, ?_⟩
  · refine (θ_run Cert.Kernel28Ideal.defs _ _).mono (fun r h c => ?_) (Cert.Kernel28Ideal.Value.run_blocks (F := Ideal) m ρ)
    exact ⟨(h c).1.trans (final m c), (h c).2⟩
  · refine (θ_run Cert.Reference28Ideal.defs _ _).mono (fun r h c => ?_) (Cert.Reference28Ideal.Value.run (F := Ideal) m' ρ')
    obtain ⟨h0, h1⟩ := hagree c
    refine ⟨(h c).1.trans ?_, (h c).2⟩
    rw [h0, h1]
    exact (Cert.Reference28Ideal.Read.val_main_v1_eq (F := Ideal) _ _).trans (reference _ _)

end Cert.Proof.Queries

end
-- ==== Proof.Value.MemKeys.lean ====
/- The memory attention's keys: what the call leaves, at an index. -/
module

public import proofs.«01_k».proof.Proof.Value.Kit
public import proofs.«01_k».proof.Proof.Gen.Kernel29Ideal.Value
public import proofs.«01_k».proof.Proof.Gen.Reference29Ideal.Run
public import proofs.«01_k».proof.Proof.Gen.Reference29Ideal.Read

@[expose] public section

set_option maxRecDepth 16384

noncomputable section

namespace Cert.Proof.MemKeys

open Cert.Kernel29Ideal Cert.Kernel29Ideal.Gen
open Idealize.ShloMosaic Idealize.ShloMosaic.TcCoe Idealize.SL.Sem

theorem idx_0 : ∀ t, win0_0.index t = ![0, 0] := by decide +kernel
theorem idx_1 : ∀ t, win0_1.index t = ![0, 9, 0] := by decide +kernel
theorem idx_2 : ∀ t, win0_2.index t = ![0, 0] := by decide +kernel

theorem pay (a : Vec Ideal S256x1024 .f32) (b : Vec Ideal S4x256x1024 .bf16) (i : Fin 256) (j : Fin 1024) :
    k0_pay3 (F := Ideal) (k0_pay2 (F := Ideal) a b (k0_pay1 (F := Ideal))) (ix2 i j) = ∑ k : Fin 1024, (a (ix2 i k) : EReal) * (b (ix3 ⟨k.val / 256, by omega⟩ ⟨k.val % 256, by omega⟩ j) : EReal) := by
  pointwise [k0_pay3, k0_pay2, k0_pay1]

/-- The weights packed by shards of 256 rows, between zeros. -/
def packed (w : FVec Ideal S1024x1024 .f32) : FVec Ideal S4x3328x1024 .f32 :=
  pad S4x3328x1024 ![0, 2304, 0] ![0, 768, 0] ![0, 0, 0] (shapeCast S4x256x1024 w shapeCasts_S1024x1024_S4x256x1024)
    (sitofp .f32 (constantI S_ 32 0#32)) pads_S4x256x1024_S4x3328x1024_000_23047680_000 h_S_

theorem packed_apply (w : FVec Ideal S1024x1024 .f32) (s : Fin 4) (r : Fin 256) (k : Fin 1024) (h : 2304 + r.val < 3328) :
    packed w (ix3 s ⟨2304 + r.val, h⟩ k) = w (ix2 ⟨s.val * 256 + r.val, by omega⟩ k) := by
  unfold packed
  pointwise []

theorem whole (j : Fin 1024) : (⟨j.val / 256 * 256 + j.val % 256, by omega⟩ : Fin 1024) = j :=
  Fin.ext (by show j.val / 256 * 256 + j.val % 256 = j.val; omega)

variable (m : (ℓ : Loc nD τ sig) → Buf (Elt Ideal) ℓ) (c : Dev nD)

theorem host_b : Gen.V m c main_v2 = truncf (F := Ideal) (φ := .f32) .bf16 (packed (m ((c : Thread nD τ).loc main_arg1))) bitsLt_bf16_f32 := by
  unfold Gen.V
  simp only [hostOps0, hostOps0_1, hostOps0_2, List.flatten_cons, List.flatten_nil, List.append_nil, List.cons_append, List.nil_append]
  entry_read
  rfl

theorem block_a (t : Fin cfg0.N) (i : Fin 256) (k : Fin 1024) : iblk m c 0 t (ix2 i k)
    = m ((c : Thread nD τ).loc main_arg0) (ix2 i k) := by
  unfold iblk
  refine Eq.trans (b := Gen.V m c main_arg0 (ix2 i k)) ?_ ?_
  · blk_ext [idx_0 t]
  · rw [V_main_arg0 m c]

theorem block_b (t : Fin cfg0.N) (s : Fin 4) (r : Fin 256) (k : Fin 1024) : iblk m c 1 t (ix3 s r k)
    = m ((c : Thread nD τ).loc main_arg1) (ix2 ⟨s.val * 256 + r.val, by omega⟩ k) := by
  unfold iblk
  refine Eq.trans (b := Gen.V m c main_v2 (ix3 s ⟨2304 + r.val, by omega⟩ k)) ?_ ?_
  · blk_ext [idx_1 t]
  · rw [host_b]
    exact packed_apply _ _ _ _ _

theorem place (t : Fin cfg0.N) (i : Fin 256) (j : Fin 1024) : ((View.whole main_v3).slice (win0_2.rect t)).emb (ix2 i j)
    = ix2 i j := by
  blk_ext [idx_2 t]

/-- The keys at an index. -/
def grad (mem : FVec Ideal S256x1024 .f32) (w : FVec Ideal S1024x1024 .f32) : FVec Ideal S256x1024 .bf16 := fun y =>
  ∑ k : Fin 1024, mem (ix2 (y 0) k) * w (ix2 k (y 1))

theorem point (t : Fin cfg0.N) (i : Fin 256) (j : Fin 1024) : k0_pay3 (F := Ideal) (k0_pay2 (F := Ideal) (iblk m c 0 t) (iblk m c 1 t) (k0_pay1 (F := Ideal))) (ix2 i j)
    = grad (m ((c : Thread nD τ).loc main_arg0)) (m ((c : Thread nD τ).loc main_arg1)) (((View.whole main_v3).slice (win0_2.rect t)).emb (ix2 i j)) := by
  rw [place]
  refine (pay _ _ i j).trans ?_
  simp only [block_a, block_b, whole]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference29Ideal.Read

theorem reference (mem : FVec Ideal S256x1024 .f32) (w : FVec Ideal S1024x1024 .f32) : val_main_v1 (F := Ideal) mem w = grad mem w := by
  funext y
  rw [val_main_v1_apply, val_main_v0_apply]
  refine Finset.sum_congr rfl fun k _ => congrArg₂ (mem · * w ·) ?_ ?_
  all_goals exact funext fun a => match a with | 0 => rfl | 1 => rfl
end

theorem value : Cert.algebraic_Kernel29Ideal_Reference29Ideal := by
  intro m ρ m' ρ' _ hagree
  refine ⟨fun c => grad (m ((c : Thread nD τ).loc main_arg0)) (m ((c : Thread nD τ).loc main_arg1)), ?_, ?_⟩
  · refine (θ_run Cert.Kernel29Ideal.defs _ _).mono (fun r h c => ?_) (Cert.Kernel29Ideal.Value.run_blocks (F := Ideal) m ρ)
    exact ⟨(h c).1.trans (final m c), (h c).2⟩
  · refine (θ_run Cert.Reference29Ideal.defs _ _).mono (fun r h c => ?_) (Cert.Reference29Ideal.Value.run (F := Ideal) m' ρ')
    obtain ⟨h0, h1⟩ := hagree c
    refine ⟨(h c).1.trans ?_, (h c).2⟩
    rw [h0, h1]
    exact (Cert.Reference29Ideal.Read.val_main_v1_eq (F := Ideal) _ _).trans (reference _ _)

end Cert.Proof.MemKeys

end
-- ==== Proof.Value.MemValues.lean ====
/- The memory attention's values: what the call leaves, at an index. -/
module

public import proofs.«01_k».proof.Proof.Value.Kit
public import proofs.«01_k».proof.Proof.Gen.Kernel30Ideal.Value
public import proofs.«01_k».proof.Proof.Gen.Reference30Ideal.Run
public import proofs.«01_k».proof.Proof.Gen.Reference30Ideal.Read

@[expose] public section

set_option maxRecDepth 16384

noncomputable section

namespace Cert.Proof.MemValues

open Cert.Kernel30Ideal Cert.Kernel30Ideal.Gen
open Idealize.ShloMosaic Idealize.ShloMosaic.TcCoe Idealize.SL.Sem

theorem idx_0 : ∀ t, win0_0.index t = ![0, 0] := by decide +kernel
theorem idx_1 : ∀ t, win0_1.index t = ![0, 10, 0] := by decide +kernel
theorem idx_2 : ∀ t, win0_2.index t = ![0, 0] := by decide +kernel

theorem pay (a : Vec Ideal S256x1024 .f32) (b : Vec Ideal S4x256x1024 .bf16) (i : Fin 256) (j : Fin 1024) :
    k0_pay3 (F := Ideal) (k0_pay2 (F := Ideal) a b (k0_pay1 (F := Ideal))) (ix2 i j) = ∑ k : Fin 1024, (a (ix2 i k) : EReal) * (b (ix3 ⟨k.val / 256, by omega⟩ ⟨k.val % 256, by omega⟩ j) : EReal) := by
  pointwise [k0_pay3, k0_pay2, k0_pay1]

/-- The weights packed by shards of 256 rows, between zeros. -/
def packed (w : FVec Ideal S1024x1024 .f32) : FVec Ideal S4x3328x1024 .f32 :=
  pad S4x3328x1024 ![0, 2560, 0] ![0, 512, 0] ![0, 0, 0] (shapeCast S4x256x1024 w shapeCasts_S1024x1024_S4x256x1024)
    (sitofp .f32 (constantI S_ 32 0#32)) pads_S4x256x1024_S4x3328x1024_000_25605120_000 h_S_

theorem packed_apply (w : FVec Ideal S1024x1024 .f32) (s : Fin 4) (r : Fin 256) (k : Fin 1024) (h : 2560 + r.val < 3328) :
    packed w (ix3 s ⟨2560 + r.val, h⟩ k) = w (ix2 ⟨s.val * 256 + r.val, by omega⟩ k) := by
  unfold packed
  pointwise []

theorem whole (j : Fin 1024) : (⟨j.val / 256 * 256 + j.val % 256, by omega⟩ : Fin 1024) = j :=
  Fin.ext (by show j.val / 256 * 256 + j.val % 256 = j.val; omega)

variable (m : (ℓ : Loc nD τ sig) → Buf (Elt Ideal) ℓ) (c : Dev nD)

theorem host_b : Gen.V m c main_v2 = truncf (F := Ideal) (φ := .f32) .bf16 (packed (m ((c : Thread nD τ).loc main_arg1))) bitsLt_bf16_f32 := by
  unfold Gen.V
  simp only [hostOps0, hostOps0_1, hostOps0_2, List.flatten_cons, List.flatten_nil, List.append_nil, List.cons_append, List.nil_append]
  entry_read
  rfl

theorem block_a (t : Fin cfg0.N) (i : Fin 256) (k : Fin 1024) : iblk m c 0 t (ix2 i k)
    = m ((c : Thread nD τ).loc main_arg0) (ix2 i k) := by
  unfold iblk
  refine Eq.trans (b := Gen.V m c main_arg0 (ix2 i k)) ?_ ?_
  · blk_ext [idx_0 t]
  · rw [V_main_arg0 m c]

theorem block_b (t : Fin cfg0.N) (s : Fin 4) (r : Fin 256) (k : Fin 1024) : iblk m c 1 t (ix3 s r k)
    = m ((c : Thread nD τ).loc main_arg1) (ix2 ⟨s.val * 256 + r.val, by omega⟩ k) := by
  unfold iblk
  refine Eq.trans (b := Gen.V m c main_v2 (ix3 s ⟨2560 + r.val, by omega⟩ k)) ?_ ?_
  · blk_ext [idx_1 t]
  · rw [host_b]
    exact packed_apply _ _ _ _ _

theorem place (t : Fin cfg0.N) (i : Fin 256) (j : Fin 1024) : ((View.whole main_v3).slice (win0_2.rect t)).emb (ix2 i j)
    = ix2 i j := by
  blk_ext [idx_2 t]

/-- The values at an index. -/
def grad (mem : FVec Ideal S256x1024 .f32) (w : FVec Ideal S1024x1024 .f32) : FVec Ideal S256x1024 .bf16 := fun y =>
  ∑ k : Fin 1024, mem (ix2 (y 0) k) * w (ix2 k (y 1))

theorem point (t : Fin cfg0.N) (i : Fin 256) (j : Fin 1024) : k0_pay3 (F := Ideal) (k0_pay2 (F := Ideal) (iblk m c 0 t) (iblk m c 1 t) (k0_pay1 (F := Ideal))) (ix2 i j)
    = grad (m ((c : Thread nD τ).loc main_arg0)) (m ((c : Thread nD τ).loc main_arg1)) (((View.whole main_v3).slice (win0_2.rect t)).emb (ix2 i j)) := by
  rw [place]
  refine (pay _ _ i j).trans ?_
  simp only [block_a, block_b, whole]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference30Ideal.Read

theorem reference (mem : FVec Ideal S256x1024 .f32) (w : FVec Ideal S1024x1024 .f32) : val_main_v1 (F := Ideal) mem w = grad mem w := by
  funext y
  rw [val_main_v1_apply, val_main_v0_apply]
  refine Finset.sum_congr rfl fun k _ => congrArg₂ (mem · * w ·) ?_ ?_
  all_goals exact funext fun a => match a with | 0 => rfl | 1 => rfl
end

theorem value : Cert.algebraic_Kernel30Ideal_Reference30Ideal := by
  intro m ρ m' ρ' _ hagree
  refine ⟨fun c => grad (m ((c : Thread nD τ).loc main_arg0)) (m ((c : Thread nD τ).loc main_arg1)), ?_, ?_⟩
  · refine (θ_run Cert.Kernel30Ideal.defs _ _).mono (fun r h c => ?_) (Cert.Kernel30Ideal.Value.run_blocks (F := Ideal) m ρ)
    exact ⟨(h c).1.trans (final m c), (h c).2⟩
  · refine (θ_run Cert.Reference30Ideal.defs _ _).mono (fun r h c => ?_) (Cert.Reference30Ideal.Value.run (F := Ideal) m' ρ')
    obtain ⟨h0, h1⟩ := hagree c
    refine ⟨(h c).1.trans ?_, (h c).2⟩
    rw [h0, h1]
    exact (Cert.Reference30Ideal.Read.val_main_v1_eq (F := Ideal) _ _).trans (reference _ _)

end Cert.Proof.MemValues

end
-- ==== Proof.Value.MemOutput.lean ====
/- The memory attention's output product: what the call leaves, at an index. -/
module

public import proofs.«01_k».proof.Proof.Value.Kit
public import proofs.«01_k».proof.Proof.Gen.Kernel31Ideal.Value
public import proofs.«01_k».proof.Proof.Gen.Reference31Ideal.Run
public import proofs.«01_k».proof.Proof.Gen.Reference31Ideal.Read

@[expose] public section

set_option maxRecDepth 16384

noncomputable section

namespace Cert.Proof.MemOutput

open Cert.Kernel31Ideal Cert.Kernel31Ideal.Gen
open Idealize.ShloMosaic Idealize.ShloMosaic.TcCoe Idealize.SL.Sem

theorem idx_0 : ∀ t, win0_0.index t = ![t.val, 0] := by decide +kernel
theorem idx_1 : ∀ t, win0_1.index t = ![0, 11, 0] := by decide +kernel
theorem idx_2 : ∀ t, win0_2.index t = ![t.val, 0] := by decide +kernel

theorem pay (a : Vec Ideal S1024x1024 .bf16) (b : Vec Ideal S4x256x1024 .bf16) (i : Fin 1024) (j : Fin 1024) :
    k0_pay2 (F := Ideal) a b (k0_pay1 (F := Ideal)) (ix2 i j) = ∑ k : Fin 1024, a (ix2 i k) * b (ix3 ⟨k.val / 256, by omega⟩ ⟨k.val % 256, by omega⟩ j) := by
  pointwise [k0_pay2, k0_pay1]

/-- The weights packed by shards of 256 rows, between zeros. -/
def packed (w : FVec Ideal S1024x1024 .f32) : FVec Ideal S4x3328x1024 .f32 :=
  pad S4x3328x1024 ![0, 2816, 0] ![0, 256, 0] ![0, 0, 0] (shapeCast S4x256x1024 w shapeCasts_S1024x1024_S4x256x1024)
    (sitofp .f32 (constantI S_ 32 0#32)) pads_S4x256x1024_S4x3328x1024_000_28162560_000 h_S_

theorem packed_apply (w : FVec Ideal S1024x1024 .f32) (s : Fin 4) (r : Fin 256) (k : Fin 1024) (h : 2816 + r.val < 3328) :
    packed w (ix3 s ⟨2816 + r.val, h⟩ k) = w (ix2 ⟨s.val * 256 + r.val, by omega⟩ k) := by
  unfold packed
  pointwise []

theorem whole (j : Fin 1024) : (⟨j.val / 256 * 256 + j.val % 256, by omega⟩ : Fin 1024) = j :=
  Fin.ext (by show j.val / 256 * 256 + j.val % 256 = j.val; omega)

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  simp only [hostOps0, hostOps0_1, hostOps0_2, List.flatten_cons, List.flatten_nil, List.append_nil, List.cons_append, List.nil_append]
  entry_read
  rfl
theorem host_b : Gen.V m c main_v3 = truncf (F := Ideal) (φ := .f32) .bf16 (packed (m ((c : Thread nD τ).loc main_arg1))) bitsLt_bf16_f32 := by
  unfold Gen.V
  simp only [hostOps0, hostOps0_1, hostOps0_2, List.flatten_cons, List.flatten_nil, List.append_nil, List.cons_append, List.nil_append]
  entry_read
  rfl

theorem bound (t : Fin cfg0.N) (i : Fin 1024) : t.val * 1024 + i.val < 4096 := by
  have h : t.val < 4 := t.isLt
  omega

theorem block_a (t : Fin cfg0.N) (i k : Fin 1024) : iblk m c 0 t (ix2 i k)
    = m ((c : Thread nD τ).loc main_arg0) (ix2 ⟨t.val * 1024 + i.val, bound t i⟩ k) := by
  unfold iblk
  refine Eq.trans (b := Gen.V m c main_v0 (ix2 ⟨t.val * 1024 + i.val, bound t i⟩ k)) ?_ ?_
  · blk_ext [idx_0 t]
  · rw [host_a]
    rfl

theorem block_b (t : Fin cfg0.N) (s : Fin 4) (r : Fin 256) (k : Fin 1024) : iblk m c 1 t (ix3 s r k)
    = m ((c : Thread nD τ).loc main_arg1) (ix2 ⟨s.val * 256 + r.val, by omega⟩ k) := by
  unfold iblk
  refine Eq.trans (b := Gen.V m c main_v3 (ix3 s ⟨2816 + r.val, by omega⟩ k)) ?_ ?_
  · blk_ext [idx_1 t]
  · rw [host_b]
    exact packed_apply _ _ _ _ _

theorem place (t : Fin cfg0.N) (i j : Fin 1024) : ((View.whole main_v4).slice (win0_2.rect t)).emb (ix2 i j)
    = ix2 ⟨t.val * 1024 + i.val, bound t i⟩ j := by
  blk_ext [idx_2 t]

/-- The output at an index. -/
def grad (o : FVec Ideal S4096x1024 .f32) (w : FVec Ideal S1024x1024 .f32) : FVec Ideal S4096x1024 .f32 := fun y =>
  ∑ k : Fin 1024, o (ix2 (y 0) k) * w (ix2 k (y 1))

theorem point (t : Fin cfg0.N) (i j : Fin 1024) : k0_pay2 (F := Ideal) (iblk m c 0 t) (iblk m c 1 t) (k0_pay1 (F := Ideal)) (ix2 i j)
    = grad (m ((c : Thread nD τ).loc main_arg0)) (m ((c : Thread nD τ).loc main_arg1)) (((View.whole main_v4).slice (win0_2.rect t)).emb (ix2 i j)) := by
  rw [place]
  refine (pay _ _ i j).trans ?_
  simp only [block_a, block_b, whole]
  rfl

theorem final : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [eq_ix2 y]
  exact point m c t (y 0) (y 1)

section
open Cert.Reference31Ideal.Read

theorem reference (o : FVec Ideal S4096x1024 .f32) (w : FVec Ideal S1024x1024 .f32) : val_main_v0 (F := Ideal) o w = grad o w := by
  funext y
  rw [val_main_v0_apply]
  refine Finset.sum_congr rfl fun k _ => congrArg₂ (o · * w ·) ?_ ?_
  all_goals exact funext fun a => match a with | 0 => rfl | 1 => rfl
end

theorem value : Cert.algebraic_Kernel31Ideal_Reference31Ideal := by
  intro m ρ m' ρ' _ hagree
  refine ⟨fun c => grad (m ((c : Thread nD τ).loc main_arg0)) (m ((c : Thread nD τ).loc main_arg1)), ?_, ?_⟩
  · refine (θ_run Cert.Kernel31Ideal.defs _ _).mono (fun r h c => ?_) (Cert.Kernel31Ideal.Value.run_blocks (F := Ideal) m ρ)
    exact ⟨(h c).1.trans (final m c), (h c).2⟩
  · refine (θ_run Cert.Reference31Ideal.defs _ _).mono (fun r h c => ?_) (Cert.Reference31Ideal.Value.run (F := Ideal) m' ρ')
    obtain ⟨h0, h1⟩ := hagree c
    refine ⟨(h c).1.trans ?_, (h c).2⟩
    rw [h0, h1]
    exact (Cert.Reference31Ideal.Read.val_main_v0_eq (F := Ideal) _ _).trans (reference _ _)

end Cert.Proof.MemOutput

end
-- ==== Proof.Value.MemOutputDw.lean ====
/- The gradient of the memory attention's output weights: what the call leaves in the packed buffer, at an index. -/
module

public import proofs.«01_k».proof.Proof.Value.Kit
public import proofs.«01_k».proof.Proof.Gen.Kernel32Ideal.Value
public import proofs.«01_k».proof.Proof.Gen.Reference32Ideal.Run
public import proofs.«01_k».proof.Proof.Gen.Reference32Ideal.Read
public import Idealize.ShloMosaic.Lib.WordCmp

@[expose] public section

set_option maxRecDepth 16384

noncomputable section

namespace Cert.Proof.MemOutputDw

open Cert.Kernel32Ideal Cert.Kernel32Ideal.Gen
open Idealize.ShloMosaic Idealize.ShloMosaic.TcCoe Idealize.SL.Sem

theorem idx_0 : ∀ t, win0_0.index t = ![t.val % 4, 0] := by decide +kernel
theorem idx_1 : ∀ t, win0_1.index t = ![t.val % 4, 0] := by decide +kernel
theorem idx_2 : ∀ t, win0_2.index t = ![0, 11, 0] := by decide +kernel

theorem zero (y : S4x256x1024.Idx) : k0_pay1 (F := Ideal) y = 0 := by
  rw [eq_ix3 y]
  pointwise [k0_pay1]

theorem place_row (s : Fin 4) (i : Fin 256) : s.val * 256 + i.val < 1024 := by omega

theorem pay (a : Vec Ideal S1024x1024 .bf16) (b : Vec Ideal S1024x1024 .bf16) (z : Vec Ideal S4x256x1024 .f32) (s : Fin 4) (i : Fin 256) (j : Fin 1024) :
    k0_pay2 (F := Ideal) a b z (ix3 s i j)
      = z (ix3 s i j) + ∑ k : Fin 1024, (a (ix2 k ⟨s.val * 256 + i.val, place_row s i⟩) : EReal) * (b (ix2 k j) : EReal) := by
  pointwise [k0_pay2]

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  entry_read
  rfl

theorem host_b : Gen.V m c main_v1 = truncf (F := Ideal) (φ := .f32) .bf16 (m ((c : Thread nD τ).loc main_arg1)) bitsLt_bf16_f32 := by
  unfold Gen.V
  entry_read
  rfl

theorem host_buf : Gen.V m c main_v2 = m ((c : Thread nD τ).loc main_arg2) := by
  unfold Gen.V
  entry_read
  rfl

theorem block_a (t : Fin cfg0.N) (k : Fin 1024) (j : Fin 1024) : iblk m c 0 t (ix2 k j)
    = m ((c : Thread nD τ).loc main_arg0) (ix2 ⟨t.val % 4 * 1024 + k.val, by omega⟩ j) := by
  unfold iblk
  refine Eq.trans (b := Gen.V m c main_v0 (ix2 ⟨t.val % 4 * 1024 + k.val, by omega⟩ j)) ?_ ?_
  · blk_ext [idx_0 t]
  · rw [host_a]
    rfl

theorem block_b (t : Fin cfg0.N) (k : Fin 1024) (j : Fin 1024) : iblk m c 1 t (ix2 k j)
    = m ((c : Thread nD τ).loc main_arg1) (ix2 ⟨t.val % 4 * 1024 + k.val, by omega⟩ j) := by
  unfold iblk
  refine Eq.trans (b := Gen.V m c main_v1 (ix2 ⟨t.val % 4 * 1024 + k.val, by omega⟩ j)) ?_ ?_
  · blk_ext [idx_1 t]
  · rw [host_b]
    rfl

/-- The place in a block of an index of what a point writes back: the same, the written part being the whole block. -/
def within (t : Fin cfg0.N) (y : ((cfg0.win 2).xblock (cfg0.grid.coords t)).Idx) : S4x256x1024.Idx :=
  (cfg0.win 2).xinj (cfg0.grid.coords t) y

theorem within_val (t : Fin cfg0.N) (y : ((cfg0.win 2).xblock (cfg0.grid.coords t)).Idx) (a : Fin 3) : (within t y a).val = (y a).val := rfl

theorem shard_lt (s : Fin 4) : s.val < 4 := by omega
theorem row_lt (i : Fin 256) : 2816 + i.val < 3328 := by omega

theorem place (t : Fin cfg0.N) (y : ((cfg0.win 2).xblock (cfg0.grid.coords t)).Idx) : (win0_2.blk t).view.emb y
    = ix3 ⟨(within t y 0 : Fin 4).val, shard_lt (within t y 0)⟩ ⟨2816 + (within t y 1 : Fin 256).val, row_lt (within t y 1)⟩
        (within t y 2 : Fin 1024) := by
  have h0 := within_val t y 0
  have h1 := within_val t y 1
  have h2 := within_val t y 2
  blk_ext [idx_2 t]

/-- The gradient at an index. -/
def entry (o : FVec Ideal S4096x1024 .f32) (dx : FVec Ideal S4096x1024 .f32) (r : Fin 1024) (j : Fin 1024) : EReal :=
  ∑ k : Fin 4096, o (ix2 k r) * dx (ix2 k j)

/-- Whether an index of the packed buffer lies in the gradient's rows. -/
abbrev Lies (y : S4x3328x1024.Idx) : Prop := (y 0).val < 4 ∧ 2816 ≤ (y 1).val ∧ (y 1).val < 3072

theorem lies_row {y : S4x3328x1024.Idx} (h : Lies y) : (y 0).val * 256 + ((y 1).val - 2816) < 1024 := by
  obtain ⟨h0, h1, h2⟩ := h
  omega

open Classical in
/-- The packed buffer with the gradient in its rows of each shard. -/
def grad (o : FVec Ideal S4096x1024 .f32) (dx : FVec Ideal S4096x1024 .f32) (gp : FVec Ideal S4x3328x1024 .f32) :
    FVec Ideal S4x3328x1024 .f32 := fun y =>
  if h : Lies y then entry o dx ⟨(y 0).val * 256 + ((y 1).val - 2816), lies_row h⟩ (y 2) else gp y

theorem grad_rows (o : FVec Ideal S4096x1024 .f32) (dx : FVec Ideal S4096x1024 .f32) (gp : FVec Ideal S4x3328x1024 .f32)
    (s : Fin 4) (r : Fin 256) (j : Fin 1024) :
    grad o dx gp (ix3 ⟨s.val, shard_lt s⟩ ⟨2816 + r.val, row_lt r⟩ j) = entry o dx ⟨s.val * 256 + r.val, place_row s r⟩ j := by
  have h : Lies (ix3 (⟨s.val, shard_lt s⟩ : Fin 4) (⟨2816 + r.val, row_lt r⟩ : Fin 3328) j) :=
    ⟨s.isLt, Nat.le_add_right _ _, Nat.add_lt_add_left r.isLt _⟩
  refine (dif_pos h).trans (congrArg (fun r => entry o dx r j) (Fin.ext ?_))
  show s.val * 256 + (2816 + r.val - 2816) = s.val * 256 + r.val
  omega

theorem grad_of_not (o : FVec Ideal S4096x1024 .f32) (dx : FVec Ideal S4096x1024 .f32) (gp : FVec Ideal S4x3328x1024 .f32)
    (y : S4x3328x1024.Idx) (h : ¬ Lies y) : grad o dx gp y = gp y := dif_neg h

/-- A block's columns times another's. -/
def prod (a : Vec Ideal S1024x1024 .bf16) (b : Vec Ideal S1024x1024 .bf16) : FVec Ideal S4x256x1024 .f32 := fun y =>
  ∑ k : Fin 1024, (a (ix2 k ⟨(y 0).val * 256 + (y 1).val, place_row (y 0) (y 1)⟩) : EReal) * (b (ix2 k (y 2)) : EReal)

/-- What a grid point adds to its block. -/
def part (t : Fin cfg0.N) : FVec Ideal S4x256x1024 .f32 := fun y => prod (iblk m c 0 t) (iblk m c 1 t) y

theorem add (t : Fin cfg0.N) (z : Vec Ideal S4x256x1024 .f32) (y : S4x256x1024.Idx) :
    k0_pay2 (F := Ideal) (iblk m c 0 t) (iblk m c 1 t) z y = z y + part m c t y := by
  rw [eq_ix3 y]
  exact pay _ _ _ _ _ _

theorem point_lt (t : Fin cfg0.N) (s : Fin 4) : 4 * (t.val / 4) + s.val < cfg0.N := by
  have h : t.val < 4 := t.isLt
  show _ < 4
  omega

theorem sum_parts (t : Fin cfg0.N) (s : Fin 4) (i : Fin 256) (j : Fin 1024) :
    (0 : EReal) + ∑ r : Fin 4, part m c ⟨4 * (t.val / 4) + r.val, point_lt t r⟩ (ix3 s i j)
      = entry (m ((c : Thread nD τ).loc main_arg0)) (m ((c : Thread nD τ).loc main_arg1)) ⟨s.val * 256 + i.val, place_row s i⟩ j := by
  rw [zero_add]
  refine Fin.sum_mul_add_congr fun r k hl => ?_
  have hm : (4 * (t.val / 4) + r.val) % 4 = r.val := by omega
  refine (congrArg₂ (fun a b : EReal => a * b) (block_a m c _ k _) (block_b m c _ k j)).trans ?_
  simp only [hm]
  rfl

theorem outs (t : Fin cfg0.N) (hf : t.val % 4 = 3) (z : S4x256x1024.Idx) : Gen.outsAt0 m c t.val t.isLt z
    = grad (m ((c : Thread nD τ).loc main_arg0)) (m ((c : Thread nD τ).loc main_arg1)) (m ((c : Thread nD τ).loc main_arg2)) (ix3 ⟨(z 0 : Fin 4).val, shard_lt (z 0)⟩ ⟨2816 + (z 1 : Fin 256).val, row_lt (z 1)⟩ (z 2 : Fin 1024)) := by
  rw [Pipeline.eq_sum_fin_of_reset_step_apply_of_flush (fun n h => Gen.outsAt0 m c n h) 4 (fun _ => 0) (part m c)
    (fun t h j => by rw [outsAt0_A m c t h]; frame_out; rw [add, zero])
    (fun t h j => by rw [outsAt0_B m c t h]; frame_out; rw [add]) t hf z]
  refine Eq.trans ?_ (grad_rows _ _ _ (z 0) (z 1) (z 2)).symm
  rw [eq_ix3 z]
  exact sum_parts m c t (z 0) (z 1) (z 2)

theorem final : (dats m 0 c).arrAt 2 (cfgs 0).N = grad (m ((c : Thread nD τ).loc main_arg0)) (m ((c : Thread nD τ).loc main_arg1)) (m ((c : Thread nD τ).loc main_arg2)) := by
  refine (dats m 0 c).arrAt_eq_of_coversWhere_of_agree 2 _ (fun β => β (1 : Fin 3) = 11) (by decide +kernel) (fun t hf y => ?_) (fun j hj => ?_)
  · blk_simp
    rw [Gen.after0_2]
    show Gen.outsAt0 m c t.val t.isLt (within t y) = _
    exact (outs m c t ((flush0_2 t).mp hf) _).trans (congrArg (grad _ _ _) (place t y)).symm
  · have h : ¬ Lies j := fun h => hj (by
      obtain ⟨h0, h1, h2⟩ := h
      show (j 1).val / 256 = 11
      omega)
    refine (congrFun (host_buf m c) j).trans ?_
    exact (grad_of_not _ _ _ _ h).symm

section
open Cert.Reference32Ideal.Read

theorem reference_entry (o : FVec Ideal S4096x1024 .f32) (dx : FVec Ideal S4096x1024 .f32) (s : Fin 4) (r : Fin 256) (j : Fin 1024) :
    val_main_v4 (F := Ideal) o dx (ix3 s r j) = entry o dx ⟨s.val * 256 + r.val, by omega⟩ j := by
  unfold entry
  pointwise [val_main_v4, val_main_v3, val_main_v2]
  exact Finset.sum_congr rfl fun k _ => mul_comm _ _

theorem fits : S4x3328x1024.Slices ![0, 2816, 0] S4x256x1024 := by decide

theorem reference (o : FVec Ideal S4096x1024 .f32) (dx : FVec Ideal S4096x1024 .f32) (gp : FVec Ideal S4x3328x1024 .f32) :
    val_main_v5 (F := Ideal) o dx gp = grad o dx gp := by
  funext y
  unfold val_main_v5
  rw [WordCmp.dynamicUpdateSlice_eq_update _ _ _ _ ![0, 2816, 0] fits (fun a => by fin_cases a <;> rfl)]
  unfold updateSlice
  by_cases h : Lies y
  · rw [dif_pos fun a => match a with
      | 0 => ⟨Nat.zero_le _, Nat.lt_of_lt_of_eq h.1 (Nat.zero_add _).symm⟩
      | 1 => ⟨h.2.1, h.2.2⟩
      | 2 => ⟨Nat.zero_le _, Nat.lt_of_lt_of_eq (y 2).isLt (Nat.zero_add _).symm⟩]
    have e : grad o dx gp y = entry o dx ⟨(y 0).val * 256 + ((y 1).val - 2816), lies_row h⟩ (y 2) := dif_pos h
    refine Eq.trans (congrArg _ ?_) ((reference_entry o dx ⟨(y 0).val, h.1⟩ ⟨(y 1).val - 2816, by obtain ⟨h0, h1, h2⟩ := h; omega⟩ (y 2)).trans
      e.symm)
    exact funext fun a => match a with | 0 => rfl | 1 => rfl | 2 => rfl
  · rw [dif_neg fun h' => h ⟨Nat.lt_of_lt_of_eq (h' 0).2 (Nat.zero_add _), (h' 1).1, (h' 1).2⟩]
    exact (grad_of_not _ _ _ _ h).symm
end

theorem value : Cert.algebraic_Kernel32Ideal_Reference32Ideal := by
  intro m ρ m' ρ' _ hagree
  refine ⟨fun c => grad (m ((c : Thread nD τ).loc main_arg0)) (m ((c : Thread nD τ).loc main_arg1)) (m ((c : Thread nD τ).loc main_arg2)), ?_, ?_⟩
  · refine (θ_run Cert.Kernel32Ideal.defs _ _).mono (fun r h c => ?_) (Cert.Kernel32Ideal.Value.run_blocks (F := Ideal) m ρ)
    exact ⟨(h c).1.trans (final m c), (h c).2⟩
  · refine (θ_run Cert.Reference32Ideal.defs _ _).mono (fun r h c => ?_) (Cert.Reference32Ideal.Value.run (F := Ideal) m' ρ')
    obtain ⟨h0, h1, h2⟩ := hagree c
    refine ⟨((h c).1.trans (Cert.Reference32Ideal.Read.val_main_v5_eq (F := Ideal) _ _ _)).trans ?_, (h c).2⟩
    rw [h0, h1, h2]
    exact reference _ _ _

end Cert.Proof.MemOutputDw

end
-- ==== Proof.Value.MemQueryDw.lean ====
/- The gradient of the memory attention's query weights: what the call leaves in the packed buffer, at an index. -/
module

public import proofs.«01_k».proof.Proof.Value.Kit
public import proofs.«01_k».proof.Proof.Gen.Kernel33Ideal.Value
public import proofs.«01_k».proof.Proof.Gen.Reference33Ideal.Run
public import proofs.«01_k».proof.Proof.Gen.Reference33Ideal.Read
public import Idealize.ShloMosaic.Lib.WordCmp

@[expose] public section

set_option maxRecDepth 16384

noncomputable section

namespace Cert.Proof.MemQueryDw

open Cert.Kernel33Ideal Cert.Kernel33Ideal.Gen
open Idealize.ShloMosaic Idealize.ShloMosaic.TcCoe Idealize.SL.Sem

theorem idx_0 : ∀ t, win0_0.index t = ![t.val % 4, 0] := by decide +kernel
theorem idx_1 : ∀ t, win0_1.index t = ![t.val % 4, 0] := by decide +kernel
theorem idx_2 : ∀ t, win0_2.index t = ![0, 8, 0] := by decide +kernel

theorem zero (y : S4x256x1024.Idx) : k0_pay1 (F := Ideal) y = 0 := by
  rw [eq_ix3 y]
  pointwise [k0_pay1]

theorem place_row (s : Fin 4) (i : Fin 256) : s.val * 256 + i.val < 1024 := by omega

theorem pay (a : Vec Ideal S1024x1024 .bf16) (b : Vec Ideal S1024x1024 .bf16) (z : Vec Ideal S4x256x1024 .f32) (s : Fin 4) (i : Fin 256) (j : Fin 1024) :
    k0_pay2 (F := Ideal) a b z (ix3 s i j)
      = z (ix3 s i j) + ∑ k : Fin 1024, (a (ix2 k ⟨s.val * 256 + i.val, place_row s i⟩) : EReal) * (b (ix2 k j) : EReal) := by
  pointwise [k0_pay2]

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  entry_read
  rfl

theorem host_b : Gen.V m c main_v1 = truncf (F := Ideal) (φ := .f32) .bf16 (m ((c : Thread nD τ).loc main_arg1)) bitsLt_bf16_f32 := by
  unfold Gen.V
  entry_read
  rfl

theorem host_buf : Gen.V m c main_v2 = m ((c : Thread nD τ).loc main_arg2) := by
  unfold Gen.V
  entry_read
  rfl

theorem block_a (t : Fin cfg0.N) (k : Fin 1024) (j : Fin 1024) : iblk m c 0 t (ix2 k j)
    = m ((c : Thread nD τ).loc main_arg0) (ix2 ⟨t.val % 4 * 1024 + k.val, by omega⟩ j) := by
  unfold iblk
  refine Eq.trans (b := Gen.V m c main_v0 (ix2 ⟨t.val % 4 * 1024 + k.val, by omega⟩ j)) ?_ ?_
  · blk_ext [idx_0 t]
  · rw [host_a]
    rfl

theorem block_b (t : Fin cfg0.N) (k : Fin 1024) (j : Fin 1024) : iblk m c 1 t (ix2 k j)
    = m ((c : Thread nD τ).loc main_arg1) (ix2 ⟨t.val % 4 * 1024 + k.val, by omega⟩ j) := by
  unfold iblk
  refine Eq.trans (b := Gen.V m c main_v1 (ix2 ⟨t.val % 4 * 1024 + k.val, by omega⟩ j)) ?_ ?_
  · blk_ext [idx_1 t]
  · rw [host_b]
    rfl

/-- The place in a block of an index of what a point writes back: the same, the written part being the whole block. -/
def within (t : Fin cfg0.N) (y : ((cfg0.win 2).xblock (cfg0.grid.coords t)).Idx) : S4x256x1024.Idx :=
  (cfg0.win 2).xinj (cfg0.grid.coords t) y

theorem within_val (t : Fin cfg0.N) (y : ((cfg0.win 2).xblock (cfg0.grid.coords t)).Idx) (a : Fin 3) : (within t y a).val = (y a).val := rfl

theorem shard_lt (s : Fin 4) : s.val < 4 := by omega
theorem row_lt (i : Fin 256) : 2048 + i.val < 3328 := by omega

theorem place (t : Fin cfg0.N) (y : ((cfg0.win 2).xblock (cfg0.grid.coords t)).Idx) : (win0_2.blk t).view.emb y
    = ix3 ⟨(within t y 0 : Fin 4).val, shard_lt (within t y 0)⟩ ⟨2048 + (within t y 1 : Fin 256).val, row_lt (within t y 1)⟩
        (within t y 2 : Fin 1024) := by
  have h0 := within_val t y 0
  have h1 := within_val t y 1
  have h2 := within_val t y 2
  blk_ext [idx_2 t]

/-- The gradient at an index. -/
def entry (x : FVec Ideal S4096x1024 .f32) (dq : FVec Ideal S4096x1024 .f32) (r : Fin 1024) (j : Fin 1024) : EReal :=
  ∑ k : Fin 4096, x (ix2 k r) * dq (ix2 k j)

/-- Whether an index of the packed buffer lies in the gradient's rows. -/
abbrev Lies (y : S4x3328x1024.Idx) : Prop := (y 0).val < 4 ∧ 2048 ≤ (y 1).val ∧ (y 1).val < 2304

theorem lies_row {y : S4x3328x1024.Idx} (h : Lies y) : (y 0).val * 256 + ((y 1).val - 2048) < 1024 := by
  obtain ⟨h0, h1, h2⟩ := h
  omega

open Classical in
/-- The packed buffer with the gradient in its rows of each shard. -/
def grad (x : FVec Ideal S4096x1024 .f32) (dq : FVec Ideal S4096x1024 .f32) (gp : FVec Ideal S4x3328x1024 .f32) :
    FVec Ideal S4x3328x1024 .f32 := fun y =>
  if h : Lies y then entry x dq ⟨(y 0).val * 256 + ((y 1).val - 2048), lies_row h⟩ (y 2) else gp y

theorem grad_rows (x : FVec Ideal S4096x1024 .f32) (dq : FVec Ideal S4096x1024 .f32) (gp : FVec Ideal S4x3328x1024 .f32)
    (s : Fin 4) (r : Fin 256) (j : Fin 1024) :
    grad x dq gp (ix3 ⟨s.val, shard_lt s⟩ ⟨2048 + r.val, row_lt r⟩ j) = entry x dq ⟨s.val * 256 + r.val, place_row s r⟩ j := by
  have h : Lies (ix3 (⟨s.val, shard_lt s⟩ : Fin 4) (⟨2048 + r.val, row_lt r⟩ : Fin 3328) j) :=
    ⟨s.isLt, Nat.le_add_right _ _, Nat.add_lt_add_left r.isLt _⟩
  refine (dif_pos h).trans (congrArg (fun r => entry x dq r j) (Fin.ext ?_))
  show s.val * 256 + (2048 + r.val - 2048) = s.val * 256 + r.val
  omega

theorem grad_of_not (x : FVec Ideal S4096x1024 .f32) (dq : FVec Ideal S4096x1024 .f32) (gp : FVec Ideal S4x3328x1024 .f32)
    (y : S4x3328x1024.Idx) (h : ¬ Lies y) : grad x dq gp y = gp y := dif_neg h

/-- A block's columns times another's. -/
def prod (a : Vec Ideal S1024x1024 .bf16) (b : Vec Ideal S1024x1024 .bf16) : FVec Ideal S4x256x1024 .f32 := fun y =>
  ∑ k : Fin 1024, (a (ix2 k ⟨(y 0).val * 256 + (y 1).val, place_row (y 0) (y 1)⟩) : EReal) * (b (ix2 k (y 2)) : EReal)

/-- What a grid point adds to its block. -/
def part (t : Fin cfg0.N) : FVec Ideal S4x256x1024 .f32 := fun y => prod (iblk m c 0 t) (iblk m c 1 t) y

theorem add (t : Fin cfg0.N) (z : Vec Ideal S4x256x1024 .f32) (y : S4x256x1024.Idx) :
    k0_pay2 (F := Ideal) (iblk m c 0 t) (iblk m c 1 t) z y = z y + part m c t y := by
  rw [eq_ix3 y]
  exact pay _ _ _ _ _ _

theorem point_lt (t : Fin cfg0.N) (s : Fin 4) : 4 * (t.val / 4) + s.val < cfg0.N := by
  have h : t.val < 4 := t.isLt
  show _ < 4
  omega

theorem sum_parts (t : Fin cfg0.N) (s : Fin 4) (i : Fin 256) (j : Fin 1024) :
    (0 : EReal) + ∑ r : Fin 4, part m c ⟨4 * (t.val / 4) + r.val, point_lt t r⟩ (ix3 s i j)
      = entry (m ((c : Thread nD τ).loc main_arg0)) (m ((c : Thread nD τ).loc main_arg1)) ⟨s.val * 256 + i.val, place_row s i⟩ j := by
  rw [zero_add]
  refine Fin.sum_mul_add_congr fun r k hl => ?_
  have hm : (4 * (t.val / 4) + r.val) % 4 = r.val := by omega
  refine (congrArg₂ (fun a b : EReal => a * b) (block_a m c _ k _) (block_b m c _ k j)).trans ?_
  simp only [hm]
  rfl

theorem outs (t : Fin cfg0.N) (hf : t.val % 4 = 3) (z : S4x256x1024.Idx) : Gen.outsAt0 m c t.val t.isLt z
    = grad (m ((c : Thread nD τ).loc main_arg0)) (m ((c : Thread nD τ).loc main_arg1)) (m ((c : Thread nD τ).loc main_arg2)) (ix3 ⟨(z 0 : Fin 4).val, shard_lt (z 0)⟩ ⟨2048 + (z 1 : Fin 256).val, row_lt (z 1)⟩ (z 2 : Fin 1024)) := by
  rw [Pipeline.eq_sum_fin_of_reset_step_apply_of_flush (fun n h => Gen.outsAt0 m c n h) 4 (fun _ => 0) (part m c)
    (fun t h j => by rw [outsAt0_A m c t h]; frame_out; rw [add, zero])
    (fun t h j => by rw [outsAt0_B m c t h]; frame_out; rw [add]) t hf z]
  refine Eq.trans ?_ (grad_rows _ _ _ (z 0) (z 1) (z 2)).symm
  rw [eq_ix3 z]
  exact sum_parts m c t (z 0) (z 1) (z 2)

theorem final : (dats m 0 c).arrAt 2 (cfgs 0).N = grad (m ((c : Thread nD τ).loc main_arg0)) (m ((c : Thread nD τ).loc main_arg1)) (m ((c : Thread nD τ).loc main_arg2)) := by
  refine (dats m 0 c).arrAt_eq_of_coversWhere_of_agree 2 _ (fun β => β (1 : Fin 3) = 8) (by decide +kernel) (fun t hf y => ?_) (fun j hj => ?_)
  · blk_simp
    rw [Gen.after0_2]
    show Gen.outsAt0 m c t.val t.isLt (within t y) = _
    exact (outs m c t ((flush0_2 t).mp hf) _).trans (congrArg (grad _ _ _) (place t y)).symm
  · have h : ¬ Lies j := fun h => hj (by
      obtain ⟨h0, h1, h2⟩ := h
      show (j 1).val / 256 = 8
      omega)
    refine (congrFun (host_buf m c) j).trans ?_
    exact (grad_of_not _ _ _ _ h).symm

section
open Cert.Reference33Ideal.Read

theorem reference_entry (x : FVec Ideal S4096x1024 .f32) (dq : FVec Ideal S4096x1024 .f32) (s : Fin 4) (r : Fin 256) (j : Fin 1024) :
    val_main_v4 (F := Ideal) x dq (ix3 s r j) = entry x dq ⟨s.val * 256 + r.val, by omega⟩ j := by
  unfold entry
  pointwise [val_main_v4, val_main_v3, val_main_v2]
  exact Finset.sum_congr rfl fun k _ => mul_comm _ _

theorem fits : S4x3328x1024.Slices ![0, 2048, 0] S4x256x1024 := by decide

theorem reference (x : FVec Ideal S4096x1024 .f32) (dq : FVec Ideal S4096x1024 .f32) (gp : FVec Ideal S4x3328x1024 .f32) :
    val_main_v5 (F := Ideal) x dq gp = grad x dq gp := by
  funext y
  unfold val_main_v5
  rw [WordCmp.dynamicUpdateSlice_eq_update _ _ _ _ ![0, 2048, 0] fits (fun a => by fin_cases a <;> rfl)]
  unfold updateSlice
  by_cases h : Lies y
  · rw [dif_pos fun a => match a with
      | 0 => ⟨Nat.zero_le _, Nat.lt_of_lt_of_eq h.1 (Nat.zero_add _).symm⟩
      | 1 => ⟨h.2.1, h.2.2⟩
      | 2 => ⟨Nat.zero_le _, Nat.lt_of_lt_of_eq (y 2).isLt (Nat.zero_add _).symm⟩]
    have e : grad x dq gp y = entry x dq ⟨(y 0).val * 256 + ((y 1).val - 2048), lies_row h⟩ (y 2) := dif_pos h
    refine Eq.trans (congrArg _ ?_) ((reference_entry x dq ⟨(y 0).val, h.1⟩ ⟨(y 1).val - 2048, by obtain ⟨h0, h1, h2⟩ := h; omega⟩ (y 2)).trans
      e.symm)
    exact funext fun a => match a with | 0 => rfl | 1 => rfl | 2 => rfl
  · rw [dif_neg fun h' => h ⟨Nat.lt_of_lt_of_eq (h' 0).2 (Nat.zero_add _), (h' 1).1, (h' 1).2⟩]
    exact (grad_of_not _ _ _ _ h).symm
end

theorem value : Cert.algebraic_Kernel33Ideal_Reference33Ideal := by
  intro m ρ m' ρ' _ hagree
  refine ⟨fun c => grad (m ((c : Thread nD τ).loc main_arg0)) (m ((c : Thread nD τ).loc main_arg1)) (m ((c : Thread nD τ).loc main_arg2)), ?_, ?_⟩
  · refine (θ_run Cert.Kernel33Ideal.defs _ _).mono (fun r h c => ?_) (Cert.Kernel33Ideal.Value.run_blocks (F := Ideal) m ρ)
    exact ⟨(h c).1.trans (final m c), (h c).2⟩
  · refine (θ_run Cert.Reference33Ideal.defs _ _).mono (fun r h c => ?_) (Cert.Reference33Ideal.Value.run (F := Ideal) m' ρ')
    obtain ⟨h0, h1, h2⟩ := hagree c
    refine ⟨((h c).1.trans (Cert.Reference33Ideal.Read.val_main_v5_eq (F := Ideal) _ _ _)).trans ?_, (h c).2⟩
    rw [h0, h1, h2]
    exact reference _ _ _

end Cert.Proof.MemQueryDw

end
-- ==== Proof.Value.MemKeyDw.lean ====
/- The gradient of the memory attention's key weights: what the call leaves in the packed buffer, at an index. -/
module

public import proofs.«01_k».proof.Proof.Value.Kit
public import proofs.«01_k».proof.Proof.Gen.Kernel34Ideal.Value
public import proofs.«01_k».proof.Proof.Gen.Reference34Ideal.Run
public import proofs.«01_k».proof.Proof.Gen.Reference34Ideal.Read
public import Idealize.ShloMosaic.Lib.WordCmp

@[expose] public section

set_option maxRecDepth 16384

noncomputable section

namespace Cert.Proof.MemKeyDw

open Cert.Kernel34Ideal Cert.Kernel34Ideal.Gen
open Idealize.ShloMosaic Idealize.ShloMosaic.TcCoe Idealize.SL.Sem

theorem idx_0 : ∀ t, win0_0.index t = ![0, 0] := by decide +kernel
theorem idx_1 : ∀ t, win0_1.index t = ![0, 0] := by decide +kernel
theorem idx_2 : ∀ t, win0_2.index t = ![0, 9, 0] := by decide +kernel

theorem zero (y : S4x256x1024.Idx) : k0_pay1 (F := Ideal) y = 0 := by
  rw [eq_ix3 y]
  pointwise [k0_pay1]

theorem place_row (s : Fin 4) (i : Fin 256) : s.val * 256 + i.val < 1024 := by omega

theorem pay (a : Vec Ideal S256x1024 .f32) (b : Vec Ideal S256x1024 .f32) (z : Vec Ideal S4x256x1024 .f32) (s : Fin 4) (i : Fin 256) (j : Fin 1024) :
    k0_pay2 (F := Ideal) a b z (ix3 s i j)
      = z (ix3 s i j) + ∑ k : Fin 256, (a (ix2 k ⟨s.val * 256 + i.val, place_row s i⟩) : EReal) * (b (ix2 k j) : EReal) := by
  pointwise [k0_pay2]

variable (m : (ℓ : Loc nD τ sig) → Buf (Elt Ideal) ℓ) (c : Dev nD)

theorem host_buf : Gen.V m c main_v0 = m ((c : Thread nD τ).loc main_arg2) := by
  unfold Gen.V
  entry_read
  rfl

theorem block_a (t : Fin cfg0.N) (k : Fin 256) (j : Fin 1024) : iblk m c 0 t (ix2 k j)
    = m ((c : Thread nD τ).loc main_arg0) (ix2 k j) := by
  unfold iblk
  refine Eq.trans (b := Gen.V m c main_arg0 (ix2 k j)) ?_ ?_
  · blk_ext [idx_0 t]
  · rw [V_main_arg0 m c]

theorem block_b (t : Fin cfg0.N) (k : Fin 256) (j : Fin 1024) : iblk m c 1 t (ix2 k j)
    = m ((c : Thread nD τ).loc main_arg1) (ix2 k j) := by
  unfold iblk
  refine Eq.trans (b := Gen.V m c main_arg1 (ix2 k j)) ?_ ?_
  · blk_ext [idx_1 t]
  · rw [V_main_arg1 m c]

/-- The place in a block of an index of what a point writes back: the same, the written part being the whole block. -/
def within (t : Fin cfg0.N) (y : ((cfg0.win 2).xblock (cfg0.grid.coords t)).Idx) : S4x256x1024.Idx :=
  (cfg0.win 2).xinj (cfg0.grid.coords t) y

theorem within_val (t : Fin cfg0.N) (y : ((cfg0.win 2).xblock (cfg0.grid.coords t)).Idx) (a : Fin 3) : (within t y a).val = (y a).val := rfl

theorem shard_lt (s : Fin 4) : s.val < 4 := by omega
theorem row_lt (i : Fin 256) : 2304 + i.val < 3328 := by omega

theorem place (t : Fin cfg0.N) (y : ((cfg0.win 2).xblock (cfg0.grid.coords t)).Idx) : (win0_2.blk t).view.emb y
    = ix3 ⟨(within t y 0 : Fin 4).val, shard_lt (within t y 0)⟩ ⟨2304 + (within t y 1 : Fin 256).val, row_lt (within t y 1)⟩
        (within t y 2 : Fin 1024) := by
  have h0 := within_val t y 0
  have h1 := within_val t y 1
  have h2 := within_val t y 2
  blk_ext [idx_2 t]

/-- The gradient at an index. -/
def entry (mem : FVec Ideal S256x1024 .f32) (dk : FVec Ideal S256x1024 .f32) (r : Fin 1024) (j : Fin 1024) : EReal :=
  ∑ k : Fin 256, mem (ix2 k r) * dk (ix2 k j)

/-- Whether an index of the packed buffer lies in the gradient's rows. -/
abbrev Lies (y : S4x3328x1024.Idx) : Prop := (y 0).val < 4 ∧ 2304 ≤ (y 1).val ∧ (y 1).val < 2560

theorem lies_row {y : S4x3328x1024.Idx} (h : Lies y) : (y 0).val * 256 + ((y 1).val - 2304) < 1024 := by
  obtain ⟨h0, h1, h2⟩ := h
  omega

open Classical in
/-- The packed buffer with the gradient in its rows of each shard. -/
def grad (mem : FVec Ideal S256x1024 .f32) (dk : FVec Ideal S256x1024 .f32) (gp : FVec Ideal S4x3328x1024 .f32) :
    FVec Ideal S4x3328x1024 .f32 := fun y =>
  if h : Lies y then entry mem dk ⟨(y 0).val * 256 + ((y 1).val - 2304), lies_row h⟩ (y 2) else gp y

theorem grad_rows (mem : FVec Ideal S256x1024 .f32) (dk : FVec Ideal S256x1024 .f32) (gp : FVec Ideal S4x3328x1024 .f32)
    (s : Fin 4) (r : Fin 256) (j : Fin 1024) :
    grad mem dk gp (ix3 ⟨s.val, shard_lt s⟩ ⟨2304 + r.val, row_lt r⟩ j) = entry mem dk ⟨s.val * 256 + r.val, place_row s r⟩ j := by
  have h : Lies (ix3 (⟨s.val, shard_lt s⟩ : Fin 4) (⟨2304 + r.val, row_lt r⟩ : Fin 3328) j) :=
    ⟨s.isLt, Nat.le_add_right _ _, Nat.add_lt_add_left r.isLt _⟩
  refine (dif_pos h).trans (congrArg (fun r => entry mem dk r j) (Fin.ext ?_))
  show s.val * 256 + (2304 + r.val - 2304) = s.val * 256 + r.val
  omega

theorem grad_of_not (mem : FVec Ideal S256x1024 .f32) (dk : FVec Ideal S256x1024 .f32) (gp : FVec Ideal S4x3328x1024 .f32)
    (y : S4x3328x1024.Idx) (h : ¬ Lies y) : grad mem dk gp y = gp y := dif_neg h

/-- A block's columns times another's. -/
def prod (a : Vec Ideal S256x1024 .f32) (b : Vec Ideal S256x1024 .f32) : FVec Ideal S4x256x1024 .f32 := fun y =>
  ∑ k : Fin 256, (a (ix2 k ⟨(y 0).val * 256 + (y 1).val, place_row (y 0) (y 1)⟩) : EReal) * (b (ix2 k (y 2)) : EReal)

/-- What a grid point adds to its block. -/
def part (t : Fin cfg0.N) : FVec Ideal S4x256x1024 .f32 := fun y => prod (iblk m c 0 t) (iblk m c 1 t) y

theorem add (t : Fin cfg0.N) (z : Vec Ideal S4x256x1024 .f32) (y : S4x256x1024.Idx) :
    k0_pay2 (F := Ideal) (iblk m c 0 t) (iblk m c 1 t) z y = z y + part m c t y := by
  rw [eq_ix3 y]
  exact pay _ _ _ _ _ _

theorem outs (t : Fin cfg0.N) (z : S4x256x1024.Idx) : Gen.outsAt0 m c t z
    = grad (m ((c : Thread nD τ).loc main_arg0)) (m ((c : Thread nD τ).loc main_arg1)) (m ((c : Thread nD τ).loc main_arg2)) (ix3 ⟨(z 0 : Fin 4).val, shard_lt (z 0)⟩ ⟨2304 + (z 1 : Fin 256).val, row_lt (z 1)⟩ (z 2 : Fin 1024)) := by
  unfold Gen.outsAt0
  frame_out
  rw [add, zero, zero_add]
  refine Eq.trans ?_ (grad_rows _ _ _ (z 0) (z 1) (z 2)).symm
  unfold part prod entry
  exact Finset.sum_congr rfl fun k _ => congrArg₂ (fun a b : EReal => a * b) (block_a m c t k _) (block_b m c t k (z 2))

theorem final : (dats m 0 c).arrAt 2 (cfgs 0).N = grad (m ((c : Thread nD τ).loc main_arg0)) (m ((c : Thread nD τ).loc main_arg1)) (m ((c : Thread nD τ).loc main_arg2)) := by
  refine (dats m 0 c).arrAt_eq_of_coversWhere_of_agree 2 _ (fun β => β (1 : Fin 3) = 9) (by decide +kernel) (fun t hf y => ?_) (fun j hj => ?_)
  · blk_simp
    rw [Gen.after0_2]
    show Gen.outsAt0 m c t (within t y) = _
    exact (outs m c t _).trans (congrArg (grad _ _ _) (place t y)).symm
  · have h : ¬ Lies j := fun h => hj (by
      obtain ⟨h0, h1, h2⟩ := h
      show (j 1).val / 256 = 9
      omega)
    refine (congrFun (host_buf m c) j).trans ?_
    exact (grad_of_not _ _ _ _ h).symm

section
open Cert.Reference34Ideal.Read

theorem reference_entry (mem : FVec Ideal S256x1024 .f32) (dk : FVec Ideal S256x1024 .f32) (s : Fin 4) (r : Fin 256) (j : Fin 1024) :
    val_main_v4 (F := Ideal) mem dk (ix3 s r j) = entry mem dk ⟨s.val * 256 + r.val, by omega⟩ j := by
  unfold entry
  pointwise [val_main_v4, val_main_v3, val_main_v2]
  exact Finset.sum_congr rfl fun k _ => mul_comm _ _

theorem fits : S4x3328x1024.Slices ![0, 2304, 0] S4x256x1024 := by decide

theorem reference (mem : FVec Ideal S256x1024 .f32) (dk : FVec Ideal S256x1024 .f32) (gp : FVec Ideal S4x3328x1024 .f32) :
    val_main_v5 (F := Ideal) mem dk gp = grad mem dk gp := by
  funext y
  unfold val_main_v5
  rw [WordCmp.dynamicUpdateSlice_eq_update _ _ _ _ ![0, 2304, 0] fits (fun a => by fin_cases a <;> rfl)]
  unfold updateSlice
  by_cases h : Lies y
  · rw [dif_pos fun a => match a with
      | 0 => ⟨Nat.zero_le _, Nat.lt_of_lt_of_eq h.1 (Nat.zero_add _).symm⟩
      | 1 => ⟨h.2.1, h.2.2⟩
      | 2 => ⟨Nat.zero_le _, Nat.lt_of_lt_of_eq (y 2).isLt (Nat.zero_add _).symm⟩]
    have e : grad mem dk gp y = entry mem dk ⟨(y 0).val * 256 + ((y 1).val - 2304), lies_row h⟩ (y 2) := dif_pos h
    refine Eq.trans (congrArg _ ?_) ((reference_entry mem dk ⟨(y 0).val, h.1⟩ ⟨(y 1).val - 2304, by obtain ⟨h0, h1, h2⟩ := h; omega⟩ (y 2)).trans
      e.symm)
    exact funext fun a => match a with | 0 => rfl | 1 => rfl | 2 => rfl
  · rw [dif_neg fun h' => h ⟨Nat.lt_of_lt_of_eq (h' 0).2 (Nat.zero_add _), (h' 1).1, (h' 1).2⟩]
    exact (grad_of_not _ _ _ _ h).symm
end

theorem value : Cert.algebraic_Kernel34Ideal_Reference34Ideal := by
  intro m ρ m' ρ' _ hagree
  refine ⟨fun c => grad (m ((c : Thread nD τ).loc main_arg0)) (m ((c : Thread nD τ).loc main_arg1)) (m ((c : Thread nD τ).loc main_arg2)), ?_, ?_⟩
  · refine (θ_run Cert.Kernel34Ideal.defs _ _).mono (fun r h c => ?_) (Cert.Kernel34Ideal.Value.run_blocks (F := Ideal) m ρ)
    exact ⟨(h c).1.trans (final m c), (h c).2⟩
  · refine (θ_run Cert.Reference34Ideal.defs _ _).mono (fun r h c => ?_) (Cert.Reference34Ideal.Value.run (F := Ideal) m' ρ')
    obtain ⟨h0, h1, h2⟩ := hagree c
    refine ⟨((h c).1.trans (Cert.Reference34Ideal.Read.val_main_v5_eq (F := Ideal) _ _ _)).trans ?_, (h c).2⟩
    rw [h0, h1, h2]
    exact reference _ _ _

end Cert.Proof.MemKeyDw

end
-- ==== Proof.Value.MemValueDw.lean ====
/- The gradient of the memory attention's value weights: what the call leaves in the packed buffer, at an index. -/
module

public import proofs.«01_k».proof.Proof.Value.Kit
public import proofs.«01_k».proof.Proof.Gen.Kernel35Ideal.Value
public import proofs.«01_k».proof.Proof.Gen.Reference35Ideal.Run
public import proofs.«01_k».proof.Proof.Gen.Reference35Ideal.Read
public import Idealize.ShloMosaic.Lib.WordCmp

@[expose] public section

set_option maxRecDepth 16384

noncomputable section

namespace Cert.Proof.MemValueDw

open Cert.Kernel35Ideal Cert.Kernel35Ideal.Gen
open Idealize.ShloMosaic Idealize.ShloMosaic.TcCoe Idealize.SL.Sem

theorem idx_0 : ∀ t, win0_0.index t = ![0, 0] := by decide +kernel
theorem idx_1 : ∀ t, win0_1.index t = ![0, 0] := by decide +kernel
theorem idx_2 : ∀ t, win0_2.index t = ![0, 10, 0] := by decide +kernel

theorem zero (y : S4x256x1024.Idx) : k0_pay1 (F := Ideal) y = 0 := by
  rw [eq_ix3 y]
  pointwise [k0_pay1]

theorem place_row (s : Fin 4) (i : Fin 256) : s.val * 256 + i.val < 1024 := by omega

theorem pay (a : Vec Ideal S256x1024 .f32) (b : Vec Ideal S256x1024 .f32) (z : Vec Ideal S4x256x1024 .f32) (s : Fin 4) (i : Fin 256) (j : Fin 1024) :
    k0_pay2 (F := Ideal) a b z (ix3 s i j)
      = z (ix3 s i j) + ∑ k : Fin 256, (a (ix2 k ⟨s.val * 256 + i.val, place_row s i⟩) : EReal) * (b (ix2 k j) : EReal) := by
  pointwise [k0_pay2]

variable (m : (ℓ : Loc nD τ sig) → Buf (Elt Ideal) ℓ) (c : Dev nD)

theorem host_buf : Gen.V m c main_v0 = m ((c : Thread nD τ).loc main_arg2) := by
  unfold Gen.V
  entry_read
  rfl

theorem block_a (t : Fin cfg0.N) (k : Fin 256) (j : Fin 1024) : iblk m c 0 t (ix2 k j)
    = m ((c : Thread nD τ).loc main_arg0) (ix2 k j) := by
  unfold iblk
  refine Eq.trans (b := Gen.V m c main_arg0 (ix2 k j)) ?_ ?_
  · blk_ext [idx_0 t]
  · rw [V_main_arg0 m c]

theorem block_b (t : Fin cfg0.N) (k : Fin 256) (j : Fin 1024) : iblk m c 1 t (ix2 k j)
    = m ((c : Thread nD τ).loc main_arg1) (ix2 k j) := by
  unfold iblk
  refine Eq.trans (b := Gen.V m c main_arg1 (ix2 k j)) ?_ ?_
  · blk_ext [idx_1 t]
  · rw [V_main_arg1 m c]

/-- The place in a block of an index of what a point writes back: the same, the written part being the whole block. -/
def within (t : Fin cfg0.N) (y : ((cfg0.win 2).xblock (cfg0.grid.coords t)).Idx) : S4x256x1024.Idx :=
  (cfg0.win 2).xinj (cfg0.grid.coords t) y

theorem within_val (t : Fin cfg0.N) (y : ((cfg0.win 2).xblock (cfg0.grid.coords t)).Idx) (a : Fin 3) : (within t y a).val = (y a).val := rfl

theorem shard_lt (s : Fin 4) : s.val < 4 := by omega
theorem row_lt (i : Fin 256) : 2560 + i.val < 3328 := by omega

theorem place (t : Fin cfg0.N) (y : ((cfg0.win 2).xblock (cfg0.grid.coords t)).Idx) : (win0_2.blk t).view.emb y
    = ix3 ⟨(within t y 0 : Fin 4).val, shard_lt (within t y 0)⟩ ⟨2560 + (within t y 1 : Fin 256).val, row_lt (within t y 1)⟩
        (within t y 2 : Fin 1024) := by
  have h0 := within_val t y 0
  have h1 := within_val t y 1
  have h2 := within_val t y 2
  blk_ext [idx_2 t]

/-- The gradient at an index. -/
def entry (mem : FVec Ideal S256x1024 .f32) (dv : FVec Ideal S256x1024 .f32) (r : Fin 1024) (j : Fin 1024) : EReal :=
  ∑ k : Fin 256, mem (ix2 k r) * dv (ix2 k j)

/-- Whether an index of the packed buffer lies in the gradient's rows. -/
abbrev Lies (y : S4x3328x1024.Idx) : Prop := (y 0).val < 4 ∧ 2560 ≤ (y 1).val ∧ (y 1).val < 2816

theorem lies_row {y : S4x3328x1024.Idx} (h : Lies y) : (y 0).val * 256 + ((y 1).val - 2560) < 1024 := by
  obtain ⟨h0, h1, h2⟩ := h
  omega

open Classical in
/-- The packed buffer with the gradient in its rows of each shard. -/
def grad (mem : FVec Ideal S256x1024 .f32) (dv : FVec Ideal S256x1024 .f32) (gp : FVec Ideal S4x3328x1024 .f32) :
    FVec Ideal S4x3328x1024 .f32 := fun y =>
  if h : Lies y then entry mem dv ⟨(y 0).val * 256 + ((y 1).val - 2560), lies_row h⟩ (y 2) else gp y

theorem grad_rows (mem : FVec Ideal S256x1024 .f32) (dv : FVec Ideal S256x1024 .f32) (gp : FVec Ideal S4x3328x1024 .f32)
    (s : Fin 4) (r : Fin 256) (j : Fin 1024) :
    grad mem dv gp (ix3 ⟨s.val, shard_lt s⟩ ⟨2560 + r.val, row_lt r⟩ j) = entry mem dv ⟨s.val * 256 + r.val, place_row s r⟩ j := by
  have h : Lies (ix3 (⟨s.val, shard_lt s⟩ : Fin 4) (⟨2560 + r.val, row_lt r⟩ : Fin 3328) j) :=
    ⟨s.isLt, Nat.le_add_right _ _, Nat.add_lt_add_left r.isLt _⟩
  refine (dif_pos h).trans (congrArg (fun r => entry mem dv r j) (Fin.ext ?_))
  show s.val * 256 + (2560 + r.val - 2560) = s.val * 256 + r.val
  omega

theorem grad_of_not (mem : FVec Ideal S256x1024 .f32) (dv : FVec Ideal S256x1024 .f32) (gp : FVec Ideal S4x3328x1024 .f32)
    (y : S4x3328x1024.Idx) (h : ¬ Lies y) : grad mem dv gp y = gp y := dif_neg h

/-- A block's columns times another's. -/
def prod (a : Vec Ideal S256x1024 .f32) (b : Vec Ideal S256x1024 .f32) : FVec Ideal S4x256x1024 .f32 := fun y =>
  ∑ k : Fin 256, (a (ix2 k ⟨(y 0).val * 256 + (y 1).val, place_row (y 0) (y 1)⟩) : EReal) * (b (ix2 k (y 2)) : EReal)

/-- What a grid point adds to its block. -/
def part (t : Fin cfg0.N) : FVec Ideal S4x256x1024 .f32 := fun y => prod (iblk m c 0 t) (iblk m c 1 t) y

theorem add (t : Fin cfg0.N) (z : Vec Ideal S4x256x1024 .f32) (y : S4x256x1024.Idx) :
    k0_pay2 (F := Ideal) (iblk m c 0 t) (iblk m c 1 t) z y = z y + part m c t y := by
  rw [eq_ix3 y]
  exact pay _ _ _ _ _ _

theorem outs (t : Fin cfg0.N) (z : S4x256x1024.Idx) : Gen.outsAt0 m c t z
    = grad (m ((c : Thread nD τ).loc main_arg0)) (m ((c : Thread nD τ).loc main_arg1)) (m ((c : Thread nD τ).loc main_arg2)) (ix3 ⟨(z 0 : Fin 4).val, shard_lt (z 0)⟩ ⟨2560 + (z 1 : Fin 256).val, row_lt (z 1)⟩ (z 2 : Fin 1024)) := by
  unfold Gen.outsAt0
  frame_out
  rw [add, zero, zero_add]
  refine Eq.trans ?_ (grad_rows _ _ _ (z 0) (z 1) (z 2)).symm
  unfold part prod entry
  exact Finset.sum_congr rfl fun k _ => congrArg₂ (fun a b : EReal => a * b) (block_a m c t k _) (block_b m c t k (z 2))

theorem final : (dats m 0 c).arrAt 2 (cfgs 0).N = grad (m ((c : Thread nD τ).loc main_arg0)) (m ((c : Thread nD τ).loc main_arg1)) (m ((c : Thread nD τ).loc main_arg2)) := by
  refine (dats m 0 c).arrAt_eq_of_coversWhere_of_agree 2 _ (fun β => β (1 : Fin 3) = 10) (by decide +kernel) (fun t hf y => ?_) (fun j hj => ?_)
  · blk_simp
    rw [Gen.after0_2]
    show Gen.outsAt0 m c t (within t y) = _
    exact (outs m c t _).trans (congrArg (grad _ _ _) (place t y)).symm
  · have h : ¬ Lies j := fun h => hj (by
      obtain ⟨h0, h1, h2⟩ := h
      show (j 1).val / 256 = 10
      omega)
    refine (congrFun (host_buf m c) j).trans ?_
    exact (grad_of_not _ _ _ _ h).symm

section
open Cert.Reference35Ideal.Read

theorem reference_entry (mem : FVec Ideal S256x1024 .f32) (dv : FVec Ideal S256x1024 .f32) (s : Fin 4) (r : Fin 256) (j : Fin 1024) :
    val_main_v4 (F := Ideal) mem dv (ix3 s r j) = entry mem dv ⟨s.val * 256 + r.val, by omega⟩ j := by
  unfold entry
  pointwise [val_main_v4, val_main_v3, val_main_v2]
  exact Finset.sum_congr rfl fun k _ => mul_comm _ _

theorem fits : S4x3328x1024.Slices ![0, 2560, 0] S4x256x1024 := by decide

theorem reference (mem : FVec Ideal S256x1024 .f32) (dv : FVec Ideal S256x1024 .f32) (gp : FVec Ideal S4x3328x1024 .f32) :
    val_main_v5 (F := Ideal) mem dv gp = grad mem dv gp := by
  funext y
  unfold val_main_v5
  rw [WordCmp.dynamicUpdateSlice_eq_update _ _ _ _ ![0, 2560, 0] fits (fun a => by fin_cases a <;> rfl)]
  unfold updateSlice
  by_cases h : Lies y
  · rw [dif_pos fun a => match a with
      | 0 => ⟨Nat.zero_le _, Nat.lt_of_lt_of_eq h.1 (Nat.zero_add _).symm⟩
      | 1 => ⟨h.2.1, h.2.2⟩
      | 2 => ⟨Nat.zero_le _, Nat.lt_of_lt_of_eq (y 2).isLt (Nat.zero_add _).symm⟩]
    have e : grad mem dv gp y = entry mem dv ⟨(y 0).val * 256 + ((y 1).val - 2560), lies_row h⟩ (y 2) := dif_pos h
    refine Eq.trans (congrArg _ ?_) ((reference_entry mem dv ⟨(y 0).val, h.1⟩ ⟨(y 1).val - 2560, by obtain ⟨h0, h1, h2⟩ := h; omega⟩ (y 2)).trans
      e.symm)
    exact funext fun a => match a with | 0 => rfl | 1 => rfl | 2 => rfl
  · rw [dif_neg fun h' => h ⟨Nat.lt_of_lt_of_eq (h' 0).2 (Nat.zero_add _), (h' 1).1, (h' 1).2⟩]
    exact (grad_of_not _ _ _ _ h).symm
end

theorem value : Cert.algebraic_Kernel35Ideal_Reference35Ideal := by
  intro m ρ m' ρ' _ hagree
  refine ⟨fun c => grad (m ((c : Thread nD τ).loc main_arg0)) (m ((c : Thread nD τ).loc main_arg1)) (m ((c : Thread nD τ).loc main_arg2)), ?_, ?_⟩
  · refine (θ_run Cert.Kernel35Ideal.defs _ _).mono (fun r h c => ?_) (Cert.Kernel35Ideal.Value.run_blocks (F := Ideal) m ρ)
    exact ⟨(h c).1.trans (final m c), (h c).2⟩
  · refine (θ_run Cert.Reference35Ideal.defs _ _).mono (fun r h c => ?_) (Cert.Reference35Ideal.Value.run (F := Ideal) m' ρ')
    obtain ⟨h0, h1, h2⟩ := hagree c
    refine ⟨((h c).1.trans (Cert.Reference35Ideal.Read.val_main_v5_eq (F := Ideal) _ _ _)).trans ?_, (h c).2⟩
    rw [h0, h1, h2]
    exact reference _ _ _

end Cert.Proof.MemValueDw

end
-- ==== Proof.Value.MixYDw.lean ====
/- The gradient of the mixing product's weights over the scan's output: what the call leaves in the packed buffer, at an index. -/
module

public import proofs.«01_k».proof.Proof.Value.Kit
public import proofs.«01_k».proof.Proof.Gen.Kernel36Ideal.Value
public import proofs.«01_k».proof.Proof.Gen.Reference36Ideal.Run
public import proofs.«01_k».proof.Proof.Gen.Reference36Ideal.Read
public import Idealize.ShloMosaic.Lib.WordCmp

@[expose] public section

set_option maxRecDepth 16384

noncomputable section

namespace Cert.Proof.MixYDw

open Cert.Kernel36Ideal Cert.Kernel36Ideal.Gen
open Idealize.ShloMosaic Idealize.ShloMosaic.TcCoe Idealize.SL.Sem

theorem idx_0 : ∀ t, win0_0.index t = ![t.val % 4, 0] := by decide +kernel
theorem idx_1 : ∀ t, win0_1.index t = ![t.val % 4, 0] := by decide +kernel
theorem idx_2 : ∀ t, win0_2.index t = ![0, 12, 0] := by decide +kernel

theorem zero (y : S2x256x1024.Idx) : k0_pay1 (F := Ideal) y = 0 := by
  rw [eq_ix3 y]
  pointwise [k0_pay1]

theorem place_row (s : Fin 2) (i : Fin 256) : s.val * 256 + i.val < 512 := by omega

theorem pay (a : Vec Ideal S1024x512 .bf16) (b : Vec Ideal S1024x1024 .bf16) (z : Vec Ideal S2x256x1024 .f32) (s : Fin 2) (i : Fin 256) (j : Fin 1024) :
    k0_pay2 (F := Ideal) a b z (ix3 s i j)
      = z (ix3 s i j) + ∑ k : Fin 1024, (a (ix2 k ⟨s.val * 256 + i.val, place_row s i⟩) : EReal) * (b (ix2 k j) : EReal) := by
  pointwise [k0_pay2]

variable (m : (ℓ : Loc nD τ sig) → Buf (Elt Ideal) ℓ) (c : Dev nD)

theorem host_a : Gen.V m c main_v0 = truncf (F := Ideal) (φ := .f32) .bf16 (m ((c : Thread nD τ).loc main_arg0)) bitsLt_bf16_f32 := by
  unfold Gen.V
  entry_read
  rfl

theorem host_b : Gen.V m c main_v1 = truncf (F := Ideal) (φ := .f32) .bf16 (m ((c : Thread nD τ).loc main_arg1)) bitsLt_bf16_f32 := by
  unfold Gen.V
  entry_read
  rfl

theorem host_buf : Gen.V m c main_v2 = m ((c : Thread nD τ).loc main_arg2) := by
  unfold Gen.V
  entry_read
  rfl

theorem block_a (t : Fin cfg0.N) (k : Fin 1024) (j : Fin 512) : iblk m c 0 t (ix2 k j)
    = m ((c : Thread nD τ).loc main_arg0) (ix2 ⟨t.val % 4 * 1024 + k.val, by omega⟩ j) := by
  unfold iblk
  refine Eq.trans (b := Gen.V m c main_v0 (ix2 ⟨t.val % 4 * 1024 + k.val, by omega⟩ j)) ?_ ?_
  · blk_ext [idx_0 t]
  · rw [host_a]
    rfl

theorem block_b (t : Fin cfg0.N) (k : Fin 1024) (j : Fin 1024) : iblk m c 1 t (ix2 k j)
    = m ((c : Thread nD τ).loc main_arg1) (ix2 ⟨t.val % 4 * 1024 + k.val, by omega⟩ j) := by
  unfold iblk
  refine Eq.trans (b := Gen.V m c main_v1 (ix2 ⟨t.val % 4 * 1024 + k.val, by omega⟩ j)) ?_ ?_
  · blk_ext [idx_1 t]
  · rw [host_b]
    rfl

/-- The place in a block of an index of what a point writes back: the same, the written part being the whole block. -/
def within (t : Fin cfg0.N) (y : ((cfg0.win 2).xblock (cfg0.grid.coords t)).Idx) : S2x256x1024.Idx :=
  (cfg0.win 2).xinj (cfg0.grid.coords t) y

theorem within_val (t : Fin cfg0.N) (y : ((cfg0.win 2).xblock (cfg0.grid.coords t)).Idx) (a : Fin 3) : (within t y a).val = (y a).val := rfl

theorem shard_lt (s : Fin 2) : s.val < 4 := by omega
theorem row_lt (i : Fin 256) : 3072 + i.val < 3328 := by omega

theorem place (t : Fin cfg0.N) (y : ((cfg0.win 2).xblock (cfg0.grid.coords t)).Idx) : (win0_2.blk t).view.emb y
    = ix3 ⟨(within t y 0 : Fin 2).val, shard_lt (within t y 0)⟩ ⟨3072 + (within t y 1 : Fin 256).val, row_lt (within t y 1)⟩
        (within t y 2 : Fin 1024) := by
  have h0 := within_val t y 0
  have h1 := within_val t y 1
  have h2 := within_val t y 2
  blk_ext [idx_2 t]

/-- The gradient at an index. -/
def entry (ys : FVec Ideal S4096x512 .f32) (dx : FVec Ideal S4096x1024 .f32) (r : Fin 512) (j : Fin 1024) : EReal :=
  ∑ k : Fin 4096, ys (ix2 k r) * dx (ix2 k j)

/-- Whether an index of the packed buffer lies in the gradient's rows. -/
abbrev Lies (y : S4x3328x1024.Idx) : Prop := (y 0).val < 2 ∧ 3072 ≤ (y 1).val ∧ (y 1).val < 3328

theorem lies_row {y : S4x3328x1024.Idx} (h : Lies y) : (y 0).val * 256 + ((y 1).val - 3072) < 512 := by
  obtain ⟨h0, h1, h2⟩ := h
  omega

open Classical in
/-- The packed buffer with the gradient in its rows of each shard. -/
def grad (ys : FVec Ideal S4096x512 .f32) (dx : FVec Ideal S4096x1024 .f32) (gp : FVec Ideal S4x3328x1024 .f32) :
    FVec Ideal S4x3328x1024 .f32 := fun y =>
  if h : Lies y then entry ys dx ⟨(y 0).val * 256 + ((y 1).val - 3072), lies_row h⟩ (y 2) else gp y

theorem grad_rows (ys : FVec Ideal S4096x512 .f32) (dx : FVec Ideal S4096x1024 .f32) (gp : FVec Ideal S4x3328x1024 .f32)
    (s : Fin 2) (r : Fin 256) (j : Fin 1024) :
    grad ys dx gp (ix3 ⟨s.val, shard_lt s⟩ ⟨3072 + r.val, row_lt r⟩ j) = entry ys dx ⟨s.val * 256 + r.val, place_row s r⟩ j := by
  have h : Lies (ix3 (⟨s.val, shard_lt s⟩ : Fin 4) (⟨3072 + r.val, row_lt r⟩ : Fin 3328) j) :=
    ⟨s.isLt, Nat.le_add_right _ _, Nat.add_lt_add_left r.isLt _⟩
  refine (dif_pos h).trans (congrArg (fun r => entry ys dx r j) (Fin.ext ?_))
  show s.val * 256 + (3072 + r.val - 3072) = s.val * 256 + r.val
  omega

theorem grad_of_not (ys : FVec Ideal S4096x512 .f32) (dx : FVec Ideal S4096x1024 .f32) (gp : FVec Ideal S4x3328x1024 .f32)
    (y : S4x3328x1024.Idx) (h : ¬ Lies y) : grad ys dx gp y = gp y := dif_neg h

/-- A block's columns times another's. -/
def prod (a : Vec Ideal S1024x512 .bf16) (b : Vec Ideal S1024x1024 .bf16) : FVec Ideal S2x256x1024 .f32 := fun y =>
  ∑ k : Fin 1024, (a (ix2 k ⟨(y 0).val * 256 + (y 1).val, place_row (y 0) (y 1)⟩) : EReal) * (b (ix2 k (y 2)) : EReal)

/-- What a grid point adds to its block. -/
def part (t : Fin cfg0.N) : FVec Ideal S2x256x1024 .f32 := fun y => prod (iblk m c 0 t) (iblk m c 1 t) y

theorem add (t : Fin cfg0.N) (z : Vec Ideal S2x256x1024 .f32) (y : S2x256x1024.Idx) :
    k0_pay2 (F := Ideal) (iblk m c 0 t) (iblk m c 1 t) z y = z y + part m c t y := by
  rw [eq_ix3 y]
  exact pay _ _ _ _ _ _

theorem point_lt (t : Fin cfg0.N) (s : Fin 4) : 4 * (t.val / 4) + s.val < cfg0.N := by
  have h : t.val < 4 := t.isLt
  show _ < 4
  omega

theorem sum_parts (t : Fin cfg0.N) (s : Fin 2) (i : Fin 256) (j : Fin 1024) :
    (0 : EReal) + ∑ r : Fin 4, part m c ⟨4 * (t.val / 4) + r.val, point_lt t r⟩ (ix3 s i j)
      = entry (m ((c : Thread nD τ).loc main_arg0)) (m ((c : Thread nD τ).loc main_arg1)) ⟨s.val * 256 + i.val, place_row s i⟩ j := by
  rw [zero_add]
  refine Fin.sum_mul_add_congr fun r k hl => ?_
  have hm : (4 * (t.val / 4) + r.val) % 4 = r.val := by omega
  refine (congrArg₂ (fun a b : EReal => a * b) (block_a m c _ k _) (block_b m c _ k j)).trans ?_
  simp only [hm]
  rfl

theorem outs (t : Fin cfg0.N) (hf : t.val % 4 = 3) (z : S2x256x1024.Idx) : Gen.outsAt0 m c t.val t.isLt z
    = grad (m ((c : Thread nD τ).loc main_arg0)) (m ((c : Thread nD τ).loc main_arg1)) (m ((c : Thread nD τ).loc main_arg2)) (ix3 ⟨(z 0 : Fin 2).val, shard_lt (z 0)⟩ ⟨3072 + (z 1 : Fin 256).val, row_lt (z 1)⟩ (z 2 : Fin 1024)) := by
  rw [Pipeline.eq_sum_fin_of_reset_step_apply_of_flush (fun n h => Gen.outsAt0 m c n h) 4 (fun _ => 0) (part m c)
    (fun t h j => by rw [outsAt0_A m c t h]; frame_out; rw [add, zero])
    (fun t h j => by rw [outsAt0_B m c t h]; frame_out; rw [add]) t hf z]
  refine Eq.trans ?_ (grad_rows _ _ _ (z 0) (z 1) (z 2)).symm
  rw [eq_ix3 z]
  exact sum_parts m c t (z 0) (z 1) (z 2)

theorem final : (dats m 0 c).arrAt 2 (cfgs 0).N = grad (m ((c : Thread nD τ).loc main_arg0)) (m ((c : Thread nD τ).loc main_arg1)) (m ((c : Thread nD τ).loc main_arg2)) := by
  refine (dats m 0 c).arrAt_eq_of_coversWhere_of_agree 2 _ (fun β => β (0 : Fin 3) = 0 ∧ β (1 : Fin 3) = 12) (by decide +kernel) (fun t hf y => ?_) (fun j hj => ?_)
  · blk_simp
    rw [Gen.after0_2]
    show Gen.outsAt0 m c t.val t.isLt (within t y) = _
    exact (outs m c t ((flush0_2 t).mp hf) _).trans (congrArg (grad _ _ _) (place t y)).symm
  · have h : ¬ Lies j := fun h => hj (by
      obtain ⟨h0, h1, h2⟩ := h
      refine ⟨?_, ?_⟩
      · show (j 0).val / 2 = 0
        omega
      · show (j 1).val / 256 = 12
        omega)
    refine (congrFun (host_buf m c) j).trans ?_
    exact (grad_of_not _ _ _ _ h).symm

section
open Cert.Reference36Ideal.Read

theorem reference_entry (ys : FVec Ideal S4096x512 .f32) (dx : FVec Ideal S4096x1024 .f32) (s : Fin 2) (r : Fin 256) (j : Fin 1024) :
    val_main_v4 (F := Ideal) ys dx (ix3 s r j) = entry ys dx ⟨s.val * 256 + r.val, by omega⟩ j := by
  unfold entry
  pointwise [val_main_v4, val_main_v3, val_main_v2]
  exact Finset.sum_congr rfl fun k _ => mul_comm _ _

theorem fits : S4x3328x1024.Slices ![0, 3072, 0] S2x256x1024 := by decide

theorem reference (ys : FVec Ideal S4096x512 .f32) (dx : FVec Ideal S4096x1024 .f32) (gp : FVec Ideal S4x3328x1024 .f32) :
    val_main_v5 (F := Ideal) ys dx gp = grad ys dx gp := by
  funext y
  unfold val_main_v5
  rw [WordCmp.dynamicUpdateSlice_eq_update _ _ _ _ ![0, 3072, 0] fits (fun a => by fin_cases a <;> rfl)]
  unfold updateSlice
  by_cases h : Lies y
  · rw [dif_pos fun a => match a with
      | 0 => ⟨Nat.zero_le _, Nat.lt_of_lt_of_eq h.1 (Nat.zero_add _).symm⟩
      | 1 => ⟨h.2.1, h.2.2⟩
      | 2 => ⟨Nat.zero_le _, Nat.lt_of_lt_of_eq (y 2).isLt (Nat.zero_add _).symm⟩]
    have e : grad ys dx gp y = entry ys dx ⟨(y 0).val * 256 + ((y 1).val - 3072), lies_row h⟩ (y 2) := dif_pos h
    refine Eq.trans (congrArg _ ?_) ((reference_entry ys dx ⟨(y 0).val, h.1⟩ ⟨(y 1).val - 3072, by obtain ⟨h0, h1, h2⟩ := h; omega⟩ (y 2)).trans
      e.symm)
    exact funext fun a => match a with | 0 => rfl | 1 => rfl | 2 => rfl
  · rw [dif_neg fun h' => h ⟨Nat.lt_of_lt_of_eq (h' 0).2 (Nat.zero_add _), (h' 1).1, (h' 1).2⟩]
    exact (grad_of_not _ _ _ _ h).symm
end

theorem value : Cert.algebraic_Kernel36Ideal_Reference36Ideal := by
  intro m ρ m' ρ' _ hagree
  refine ⟨fun c => grad (m ((c : Thread nD τ).loc main_arg0)) (m ((c : Thread nD τ).loc main_arg1)) (m ((c : Thread nD τ).loc main_arg2)), ?_, ?_⟩
  · refine (θ_run Cert.Kernel36Ideal.defs _ _).mono (fun r h c => ?_) (Cert.Kernel36Ideal.Value.run_blocks (F := Ideal) m ρ)
    exact ⟨(h c).1.trans (final m c), (h c).2⟩
  · refine (θ_run Cert.Reference36Ideal.defs _ _).mono (fun r h c => ?_) (Cert.Reference36Ideal.Value.run (F := Ideal) m' ρ')
    obtain ⟨h0, h1, h2⟩ := hagree c
    refine ⟨((h c).1.trans (Cert.Reference36Ideal.Read.val_main_v5_eq (F := Ideal) _ _ _)).trans ?_, (h c).2⟩
    rw [h0, h1, h2]
    exact reference _ _ _

end Cert.Proof.MixYDw

end
-- ==== Proof.Value.Softmax.lean ====
/- The memory attention at a row: its scores, their softmax, what the backward pass computes of it, and the two spellings
   of the scores' gradient — through the probabilities, and through the quotient's derivative. -/
module

public import proofs.«01_k».proof.Proof.Value.Ref

@[expose] public section

noncomputable section

namespace Cert.Proof.Memory

open Finset
open Idealize.ShloMosaic
open Cert.Proof.Ref

/-- The column of head `h`'s feature `d`. -/
def col (h : Fin 4) (d : Fin 256) : Fin 1024 := ⟨256 * h.val + d.val, by omega⟩

def head (n : Fin 1024) : Fin 4 := ⟨n.val / 256, by omega⟩
def feat (n : Fin 1024) : Fin 256 := ⟨n.val % 256, by omega⟩

theorem col_split (n : Fin 1024) : n = col (head n) (feat n) := Fin.ext (by simp only [col, head, feat]; omega)
theorem head_col (h : Fin 4) (d : Fin 256) : head (col h d) = h := Fin.ext (by simp only [col, head]; omega)
theorem feat_col (h : Fin 4) (d : Fin 256) : feat (col h d) = d := Fin.ext (by simp only [col, feat]; omega)

/-- An array's rows. -/
def rowOf {n : ℕ} (x : FVec Ideal ⟨2, ![n, 1024]⟩ .f32) (i : Fin n) (j : Fin 1024) : EReal := x (ix2 i j)

/-- The scores' scale, one sixteenth. -/
def scale : EReal := Ideal.ofBits .f32 0x3D800000#32

/-- The largest of the scores. -/
def top (s : Fin 256 → EReal) : EReal := univ.fold max ⊥ s
/-- A score's exponential, the largest taken off. -/
def ex (s : Fin 256 → EReal) (m : Fin 256) : EReal := Ideal.exp (s m - top s)
def total (s : Fin 256 → EReal) : EReal := ∑ n, ex s n
def soft (s : Fin 256 → EReal) (m : Fin 256) : EReal := Ideal.div (ex s m) (total s)

variable (x g : Fin 1024 → EReal) (k v : Fin 256 → Fin 1024 → EReal) (h : Fin 4)

/-- A product of a row and the tokens over a head's features. -/
def along (m : Fin 256) : EReal := ∑ d : Fin 256, x (col h d) * k m (col h d)
def score (m : Fin 256) : EReal := along x k h m * scale
def prob (m : Fin 256) : EReal := soft (score x k h) m
def out (d : Fin 256) : EReal := ∑ m, prob x k h m * v m (col h d)

/-- The scores' gradient out of the probabilities' one. -/
def pull (s dp : Fin 256 → EReal) (m : Fin 256) : EReal := soft s m * (dp m - ∑ n, dp n * soft s n)
def dscore (m : Fin 256) : EReal := pull (score x k h) (along g v h) m * scale

theorem scale_real : scale = ((1 / 16 : ℝ) : EReal) := by
  unfold scale
  simp [Ideal.ofBits, Ideal.ieee]
  rw [← EReal.coe_mul]
  norm_num

theorem top_real (S : Fin 256 → ℝ) : ∃ T : ℝ, top (fun m => (S m : EReal)) = T := by
  obtain ⟨n, -, hn⟩ := exists_mem_eq_sup' (s := (univ : Finset (Fin 256))) ⟨0, mem_univ 0⟩ S
  refine ⟨S n, le_antisymm (Finset.sup_le fun j _ => ?_) (Finset.le_sup (f := fun m => (S m : EReal)) (mem_univ n))⟩
  exact EReal.coe_le_coe_iff.mpr (hn ▸ le_sup' S (mem_univ j))

theorem pull_over (E D : Fin 256 → ℝ) (L : ℝ) (hl : L ≠ 0) (m : Fin 256) :
    (D m / L + -(∑ n, D n * (1 / (L * L)) * E n)) * E m = E m / L * (D m - ∑ n, D n * (E n / L)) := by
  have : ∑ n, D n * (1 / (L * L)) * E n = (∑ n, D n * (E n / L)) / L := by
    rw [sum_div]
    exact sum_congr rfl fun n _ => by field_simp
  rw [this]
  generalize ∑ n, D n * (E n / L) = A
  field_simp
  ring

/-- At real scores and a real gradient the quotient's derivative is the softmax's. -/
theorem pull_eq (S D : Fin 256 → ℝ) (m : Fin 256) :
    (Ideal.div ((D m : ℝ) : EReal) (total fun n => (S n : EReal))
      + -(∑ n, (D n : EReal) * Ideal.div ((1 : ℝ) : EReal) ((total fun n => (S n : EReal)) * (total fun n => (S n : EReal))) * ex (fun n => (S n : EReal)) n))
        * ex (fun n => (S n : EReal)) m = pull (fun n => (S n : EReal)) (fun n => (D n : EReal)) m := by
  obtain ⟨T, hT⟩ := top_real S
  have he : ∀ n, ex (fun n => (S n : EReal)) n = ((Real.exp (S n - T) : ℝ) : EReal) := fun n => by
    unfold ex
    rw [hT, ← EReal.coe_sub, Ideal.exp_coe]
  have ht : (total fun n => (S n : EReal)) = ((∑ n, Real.exp (S n - T) : ℝ) : EReal) := by
    unfold total
    rw [coe_sum]
    exact sum_congr rfl fun n _ => he n
  unfold pull soft
  simp only [he, ht]
  generalize hL : (∑ n, Real.exp (S n - T) : ℝ) = L
  have hl : L ≠ 0 := (hL ▸ sum_pos (fun n _ => Real.exp_pos (S n - T)) ⟨0, mem_univ 0⟩ : 0 < L).ne'
  simp only [← EReal.coe_mul, div_real _ hl, div_real _ (mul_ne_zero hl hl), ← coe_sum, ← EReal.coe_neg, ← EReal.coe_add, ← EReal.coe_sub]
  exact congrArg Real.toEReal (pull_over (fun n => Real.exp (S n - T)) D L hl m)

end Cert.Proof.Memory

end
-- ==== Proof.Value.MemTile.lean ====
/- A tile of the memory attention: a head's columns of a block, the softmax of a head's scores and its gradient, and the
   heads' results side by side, at an index. -/
module

public import proofs.«01_k».proof.Proof.Value.Softmax
public import proofs.«01_k».proof.Proof.Gen.Kernel38Ideal.Value
public import Idealize.ShloMosaic.Lib.Pipeline.ValueKit
public import Idealize.ShloMosaic.Lib.Pointwise

@[expose] public section

set_option maxRecDepth 16384

noncomputable section

namespace Cert.Proof.MemTile

open Cert.Kernel38Ideal Cert.Kernel38Ideal.Gen
open Idealize.ShloMosaic
open Cert.Proof.Memory

/-! ## The heads' columns -/

def rows0 (x : FVec Ideal S1024x1024 .bf16) : FVec Ideal S1024x256 .bf16 := extractStridedSlice S1024x256 ![0, 0] x slices_S1024x1024_o0_0_S1024x256
def rows1 (x : FVec Ideal S1024x1024 .bf16) : FVec Ideal S1024x256 .bf16 := extractStridedSlice S1024x256 ![0, 256] x slices_S1024x1024_o0_256_S1024x256
def rows2 (x : FVec Ideal S1024x1024 .bf16) : FVec Ideal S1024x256 .bf16 := extractStridedSlice S1024x256 ![0, 512] x slices_S1024x1024_o0_512_S1024x256
def rows3 (x : FVec Ideal S1024x1024 .bf16) : FVec Ideal S1024x256 .bf16 := extractStridedSlice S1024x256 ![0, 768] x slices_S1024x1024_o0_768_S1024x256
def toks0 (k : FVec Ideal S256x1024 .bf16) : FVec Ideal S256x256 .bf16 := extractStridedSlice S256x256 ![0, 0] k slices_S256x1024_o0_0_S256x256
def toks1 (k : FVec Ideal S256x1024 .bf16) : FVec Ideal S256x256 .bf16 := extractStridedSlice S256x256 ![0, 256] k slices_S256x1024_o0_256_S256x256
def toks2 (k : FVec Ideal S256x1024 .bf16) : FVec Ideal S256x256 .bf16 := extractStridedSlice S256x256 ![0, 512] k slices_S256x1024_o0_512_S256x256
def toks3 (k : FVec Ideal S256x1024 .bf16) : FVec Ideal S256x256 .bf16 := extractStridedSlice S256x256 ![0, 768] k slices_S256x1024_o0_768_S256x256

/-- A head's columns of the rows. -/
def rows (h : Fin 4) : FVec Ideal S1024x1024 .bf16 → FVec Ideal S1024x256 .bf16 := match h with | 0 => rows0 | 1 => rows1 | 2 => rows2 | 3 => rows3
/-- A head's columns of the tokens. -/
def toks (h : Fin 4) : FVec Ideal S256x1024 .bf16 → FVec Ideal S256x256 .bf16 := match h with | 0 => toks0 | 1 => toks1 | 2 => toks2 | 3 => toks3

theorem rows_apply (h : Fin 4) (x : FVec Ideal S1024x1024 .bf16) (i : Fin 1024) (d : Fin 256) : rows h x (ix2 i d) = x (ix2 i (col h d)) := by
  match h with
  | 0 => show rows0 x (ix2 i d) = _; unfold col; pointwise [rows0]
  | 1 => show rows1 x (ix2 i d) = _; unfold col; pointwise [rows1]
  | 2 => show rows2 x (ix2 i d) = _; unfold col; pointwise [rows2]
  | 3 => show rows3 x (ix2 i d) = _; unfold col; pointwise [rows3]

theorem toks_apply (h : Fin 4) (k : FVec Ideal S256x1024 .bf16) (n : Fin 256) (d : Fin 256) : toks h k (ix2 n d) = k (ix2 n (col h d)) := by
  match h with
  | 0 => show toks0 k (ix2 n d) = _; unfold col; pointwise [toks0]
  | 1 => show toks1 k (ix2 n d) = _; unfold col; pointwise [toks1]
  | 2 => show toks2 k (ix2 n d) = _; unfold col; pointwise [toks2]
  | 3 => show toks3 k (ix2 n d) = _; unfold col; pointwise [toks3]

/-! ## A head -/

/-- Rows times tokens, feature by feature. -/
def dotT (a : FVec Ideal S1024x256 .bf16) (b : FVec Ideal S256x256 .bf16) : FVec Ideal S1024x256 .f32 :=
  matmul dot_S1024x256_S256x256_S1024x256_1_1_0_0_n_n none a b (constant S1024x256 .f32 0x00000000#32)
def scaleT (s : FVec Ideal S1024x256 .f32) : FVec Ideal S1024x256 .f32 := mulf s (broadcast S1024x256 (Scalar.ofBits .f32 0x3D800000#32))
/-- A row's number in each of its columns. -/
def spread (s : FVec Ideal S1024 .f32) : FVec Ideal S1024x256 .f32 :=
  broadcastTo S1024x256 (shapeCast S1024x1 s shapeCasts_S1024_S1024x1) broadcasts_S1024x1_S1024x256
def maxT (s : FVec Ideal S1024x256 .f32) : FVec Ideal S1024 .f32 := multiReduction .maximumf [1] S1024 s 0xFF800000#32 reduces_S1024x256_S1024 (.inl rfl) rfl
def sumT (s : FVec Ideal S1024x256 .f32) : FVec Ideal S1024 .f32 := multiReduction .add [1] S1024 s 0x00000000#32 reduces_S1024x256_S1024 (.inl rfl) rfl
def expT (s : FVec Ideal S1024x256 .f32) : FVec Ideal S1024x256 .f32 := exp (subf s (spread (maxT s)))
def softT (s : FVec Ideal S1024x256 .f32) : FVec Ideal S1024x256 .f32 := divf (expT s) (spread (sumT (expT s)))
def probT (a : FVec Ideal S1024x256 .bf16) (b : FVec Ideal S256x256 .bf16) : FVec Ideal S1024x256 .f32 := softT (scaleT (dotT a b))
def pullT (p dp : FVec Ideal S1024x256 .f32) : FVec Ideal S1024x256 .f32 := scaleT (mulf p (subf dp (spread (sumT (mulf dp p)))))
/-- Rows times tokens, token by token. -/
def mixT (p : FVec Ideal S1024x256 .f32) (b : FVec Ideal S256x256 .bf16) : FVec Ideal S1024x256 .f32 :=
  matmul dot_S1024x256_S256x256_S1024x256_1_0_0_1_n_n none (truncf .bf16 p bitsLt_bf16_f32) b (constant S1024x256 .f32 0x00000000#32)
/-- Rows times rows, row by row. -/
def overT (p : FVec Ideal S1024x256 .f32) (a : FVec Ideal S1024x256 .bf16) : FVec Ideal S256x256 .f32 :=
  matmul dot_S1024x256_S1024x256_S256x256_0_0_1_1_n_n none (truncf .bf16 p bitsLt_bf16_f32) a (constant S256x256 .f32 0x00000000#32)

section
variable (s t p dp : FVec Ideal S1024x256 .f32) (a : FVec Ideal S1024x256 .bf16) (b : FVec Ideal S256x256 .bf16) (i : Fin 1024) (m d : Fin 256)

theorem dotT_apply : dotT a b (ix2 i m) = ∑ d : Fin 256, a (ix2 i d) * b (ix2 m d) := by pointwise [dotT]
theorem scaleT_apply : scaleT s (ix2 i m) = s (ix2 i m) * scale := by unfold scale; pointwise [scaleT]
theorem spread_apply (r : FVec Ideal S1024 .f32) : spread r (ix2 i m) = r (ix1 i) := by pointwise [spread]
theorem maxT_apply : maxT s (ix1 i) = top (fun m => s (ix2 i m)) := by
  unfold top
  rw [← Ref.neg_inf]
  pointwise [maxT]
theorem sumT_apply : sumT s (ix1 i) = ∑ m : Fin 256, s (ix2 i m) := by pointwise [sumT]
theorem expT_apply : expT s (ix2 i m) = ex (fun m => s (ix2 i m)) m := by
  show Ideal.exp (s (ix2 i m) - spread (maxT s) (ix2 i m)) = _
  rw [spread_apply, maxT_apply]
  rfl
theorem softT_apply : softT s (ix2 i m) = soft (fun m => s (ix2 i m)) m := by
  show Ideal.div (expT s (ix2 i m)) (spread (sumT (expT s)) (ix2 i m)) = _
  rw [spread_apply, sumT_apply]
  simp only [expT_apply]
  rfl
theorem mixT_apply : mixT p b (ix2 i d) = ∑ m : Fin 256, p (ix2 i m) * b (ix2 m d) := by pointwise [mixT]
theorem overT_apply : overT p a (ix2 m d) = ∑ i : Fin 1024, p (ix2 i m) * a (ix2 i d) := by pointwise [overT]
theorem pullT_apply : pullT p dp (ix2 i m) = p (ix2 i m) * (dp (ix2 i m) - ∑ n : Fin 256, dp (ix2 i n) * p (ix2 i n)) * scale := by
  unfold pullT
  rw [scaleT_apply]
  show p (ix2 i m) * (dp (ix2 i m) - spread (sumT (mulf dp p)) (ix2 i m)) * scale = _
  rw [spread_apply, sumT_apply]
  rfl
end

/-! ## Every head -/

/-- A row of a block. -/
def row {n : ℕ} (x : Vec Ideal ⟨2, ![n, 1024]⟩ .bf16) (i : Fin n) (j : Fin 1024) : EReal := x (ix2 i j)

section
variable (q g : FVec Ideal S1024x1024 .bf16) (k v : FVec Ideal S256x1024 .bf16) (h : Fin 4) (i : Fin 1024) (m d : Fin 256)

def prb : FVec Ideal S1024x256 .f32 := probT (rows h q) (toks h k)
def dsc : FVec Ideal S1024x256 .f32 := pullT (prb q k h) (dotT (rows h g) (toks h v))

theorem along_eq : dotT (rows h q) (toks h k) (ix2 i m) = along (row q i) (row k) h m := by
  rw [dotT_apply]
  simp only [rows_apply, toks_apply]
  rfl
theorem prb_eq : prb q k h (ix2 i m) = prob (row q i) (row k) h m := by
  unfold prb probT
  rw [softT_apply]
  simp only [scaleT_apply, along_eq]
  rfl
theorem dsc_eq : dsc q g k v h (ix2 i m) = dscore (row q i) (row g i) (row k) (row v) h m := by
  unfold dsc
  rw [pullT_apply]
  simp only [prb_eq, along_eq]
  rfl
theorem out_eq : mixT (prb q k h) (toks h v) (ix2 i d) = out (row q i) (row k) (row v) h d := by
  rw [mixT_apply]
  simp only [prb_eq, toks_apply]
  rfl
theorem back_eq : mixT (dsc q g k v h) (toks h k) (ix2 i d) = ∑ m, dscore (row q i) (row g i) (row k) (row v) h m * row k m (col h d) := by
  rw [mixT_apply]
  simp only [dsc_eq, toks_apply]
  rfl
theorem keys_eq : overT (dsc q g k v h) (rows h q) (ix2 m d) = ∑ i, dscore (row q i) (row g i) (row k) (row v) h m * row q i (col h d) := by
  rw [overT_apply]
  simp only [dsc_eq, rows_apply]
  rfl
theorem vals_eq : overT (prb q k h) (rows h g) (ix2 m d) = ∑ i, prob (row q i) (row k) h m * row g i (col h d) := by
  rw [overT_apply]
  simp only [prb_eq, rows_apply]
  rfl
end

/-- The heads' results side by side. -/
def wideT (f : Fin 4 → FVec Ideal S1024x256 .f32) : FVec Ideal S1024x1024 .f32 :=
  concatenate S1024x1024 1 [⟨S1024x256, f 0⟩, ⟨S1024x256, f 1⟩, ⟨S1024x256, f 2⟩, ⟨S1024x256, f 3⟩] concatenates_S1024x256_S1024x256_S1024x256_S1024x256_S1024x1024_d1
def wideK (f : Fin 4 → FVec Ideal S256x256 .f32) : FVec Ideal S256x1024 .f32 :=
  concatenate S256x1024 1 [⟨S256x256, f 0⟩, ⟨S256x256, f 1⟩, ⟨S256x256, f 2⟩, ⟨S256x256, f 3⟩] concatenates_S256x256_S256x256_S256x256_S256x256_S256x1024_d1

theorem wideT_apply (f : Fin 4 → FVec Ideal S1024x256 .f32) (h : Fin 4) (i : Fin 1024) (d : Fin 256) : wideT f (ix2 i (col h d)) = f h (ix2 i d) := by
  match h with
  | 0 => unfold col; pointwise [wideT]
  | 1 => unfold col; pointwise [wideT]
  | 2 =>
    unfold col
    pointwise [wideT]
    rw [dif_neg (by omega), dif_neg (by omega), dif_pos (by omega)]
    exact congrArg (f 2) ((ix2_inj _ _ _ _).mpr ⟨rfl, Fin.ext (by show 512 + d.val - 256 - 256 = d.val; omega)⟩)
  | 3 =>
    unfold col
    pointwise [wideT]
    rw [dif_neg (by omega), dif_neg (by omega), dif_neg (by omega)]
    exact congrArg (f 3) ((ix2_inj _ _ _ _).mpr ⟨rfl, Fin.ext (by show 768 + d.val - 256 - 256 - 256 = d.val; omega)⟩)
theorem wideK_apply (f : Fin 4 → FVec Ideal S256x256 .f32) (h : Fin 4) (m d : Fin 256) : wideK f (ix2 m (col h d)) = f h (ix2 m d) := by
  match h with
  | 0 => unfold col; pointwise [wideK]
  | 1 => unfold col; pointwise [wideK]
  | 2 =>
    unfold col
    pointwise [wideK]
    rw [dif_neg (by omega), dif_neg (by omega), dif_pos (by omega)]
    exact congrArg (f 2) ((ix2_inj _ _ _ _).mpr ⟨rfl, Fin.ext (by show 512 + d.val - 256 - 256 = d.val; omega)⟩)
  | 3 =>
    unfold col
    pointwise [wideK]
    rw [dif_neg (by omega), dif_neg (by omega), dif_neg (by omega)]
    exact congrArg (f 3) ((ix2_inj _ _ _ _).mpr ⟨rfl, Fin.ext (by show 768 + d.val - 256 - 256 - 256 = d.val; omega)⟩)

end Cert.Proof.MemTile

end
-- ==== Proof.Value.MemBwdRef.lean ====
/- The memory attention's gradients read off the reference: finite arguments make its quotient's derivative the softmax's. -/
module

public import proofs.«01_k».proof.Defs
public import proofs.«01_k».proof.Proof.Value.Finite
public import proofs.«01_k».proof.Proof.Value.Softmax
public import proofs.«01_k».proof.Proof.Gen.Pre_finite_memory
public import proofs.«01_k».proof.Proof.Gen.Reference38Ideal.Run
public import proofs.«01_k».proof.Proof.Gen.Reference38Ideal.Read

@[expose] public section

set_option maxRecDepth 16384

noncomputable section

namespace Cert.Proof.MemBwd

open Cert.Reference38Ideal Cert.Reference38Ideal.Read
open Idealize.ShloMosaic
open Cert.Proof.Memory

def backQ (q : FVec Ideal S4096x1024 .f32) (k v : FVec Ideal S256x1024 .f32) (g : FVec Ideal S4096x1024 .f32) : FVec Ideal S4096x1024 .bf16 := fun y =>
  ∑ n : Fin 256, dscore (rowOf q (y 0)) (rowOf g (y 0)) (rowOf k) (rowOf v) (head (y 1)) n * rowOf k n (y 1)
def backK (q : FVec Ideal S4096x1024 .f32) (k v : FVec Ideal S256x1024 .f32) (g : FVec Ideal S4096x1024 .f32) : FVec Ideal S256x1024 .f32 := fun y =>
  ∑ i : Fin 4096, dscore (rowOf q i) (rowOf g i) (rowOf k) (rowOf v) (head (y 1)) (y 0) * rowOf q i (y 1)
def backV (q : FVec Ideal S4096x1024 .f32) (k : FVec Ideal S256x1024 .f32) (g : FVec Ideal S4096x1024 .f32) : FVec Ideal S256x1024 .f32 := fun y =>
  ∑ i : Fin 4096, prob (rowOf q i) (rowOf k) (head (y 1)) (y 0) * rowOf g i (y 1)

/-- Every entry is a real number. -/
def Real {n : ℕ} (x : FVec Ideal ⟨2, ![n, 1024]⟩ .f32) : Prop := ∀ i j, ∃ r : ℝ, rowOf x i j = r

theorem along_real {n : ℕ} {x : FVec Ideal ⟨2, ![n, 1024]⟩ .f32} {k : FVec Ideal S256x1024 .f32} (hx : Real x) (hk : Real k) (i : Fin n) (h : Fin 4) :
    ∃ D : Fin 256 → ℝ, along (rowOf x i) (rowOf k) h = fun m => (D m : EReal) := by
  choose X hX using hx
  choose K hK using hk
  refine ⟨fun m => ∑ d : Fin 256, X i (col h d) * K m (col h d), funext fun m => ?_⟩
  unfold along
  rw [Ref.coe_sum]
  exact Finset.sum_congr rfl fun d _ => by rw [hX, hK, EReal.coe_mul]

theorem score_real {n : ℕ} {x : FVec Ideal ⟨2, ![n, 1024]⟩ .f32} {k : FVec Ideal S256x1024 .f32} (hx : Real x) (hk : Real k) (i : Fin n) (h : Fin 4) :
    ∃ D : Fin 256 → ℝ, score (rowOf x i) (rowOf k) h = fun m => (D m : EReal) := by
  obtain ⟨D, hD⟩ := along_real hx hk i h
  refine ⟨fun m => D m * (1 / 16), funext fun m => ?_⟩
  unfold score
  rw [hD, scale_real, EReal.coe_mul]

variable (q : FVec Ideal S4096x1024 .f32) (k v : FVec Ideal S256x1024 .f32) (g : FVec Ideal S4096x1024 .f32) (h : Fin 4) (i : Fin 4096) (n d : Fin 256)

theorem v0 : val_main_v0 (F := Ideal) q (ix3 i h d) = rowOf q i (col h d) := by
  rw [val_main_v0_apply]
  unfold rowOf
  refine congrArg q ((eq_ix2 _).trans ((ix2_inj _ _ _ _).mpr ⟨Fin.ext ?_, Fin.ext ?_⟩))
  · show ((i.val * 4 + h.val) * 256 + d.val) / 1024 = i.val; omega
  · show ((i.val * 4 + h.val) * 256 + d.val) % 1024 = 256 * h.val + d.val; omega
theorem v1 : val_main_v1 (F := Ideal) k (ix3 n h d) = rowOf k n (col h d) := by
  rw [val_main_v1_apply]
  unfold rowOf
  refine congrArg k ((eq_ix2 _).trans ((ix2_inj _ _ _ _).mpr ⟨Fin.ext ?_, Fin.ext ?_⟩))
  · show ((n.val * 4 + h.val) * 256 + d.val) / 1024 = n.val; omega
  · show ((n.val * 4 + h.val) * 256 + d.val) % 1024 = 256 * h.val + d.val; omega
theorem v2 : val_main_v2 (F := Ideal) v (ix3 n h d) = rowOf v n (col h d) := v1 v h n d
theorem v38 : val_main_v38 (F := Ideal) g (ix3 h d i) = rowOf g i (col h d) := by
  rw [val_main_v38_apply, show idx_main_v38 (ix3 h d i) = ix3 i h d from eq_ix3 _]
  exact v0 g h i d

theorem v5 : val_main_v5 (F := Ideal) q k (ix3 h i n) = score (rowOf q i) (rowOf k) h n := by
  rw [val_main_v5_apply, val_main_v3_apply, val_main_v4_apply, val_main_cst_apply]
  unfold score along
  refine congrArg₂ (fun x y : EReal => x * y) (Finset.sum_congr rfl fun d _ => ?_) rfl
  rw [show lidx_main_v3 (ix3 h i n) d = ix3 i h d from eq_ix3 _, show ridx_main_v3 (ix3 h i n) d = ix3 n h d from eq_ix3 _, v0, v1]
theorem v6 : val_main_v6 (F := Ideal) q k (ix2 h i) = top (score (rowOf q i) (rowOf k) h) := by
  have : score (rowOf q i) (rowOf k) h = fun n => val_main_v5 (F := Ideal) q k (ix3 h i n) := funext fun n => (v5 q k h i n).symm
  rw [this]
  unfold val_main_v6 top
  generalize val_main_v5 (F := Ideal) q k = y
  rw [← Ref.neg_inf]
  pointwise [val_main_cst_0]
theorem v13 : val_main_v13 (F := Ideal) q k (ix2 h i) = top (score (rowOf q i) (rowOf k) h) := by
  rw [val_main_v13_apply, v6, val_main_v12_apply, val_main_cst_2_apply, Ideal.ofBits_def, Ref.neg_inf, Ideal.maximumf_def]
  exact max_eq_right bot_le
theorem v26 : val_main_v26 (F := Ideal) q k (ix3 h i n) = ex (score (rowOf q i) (rowOf k) h) n := by
  rw [val_main_v26_apply, val_main_v25_apply, v5, val_main_v24_apply, val_main_v23_apply]
  rw [show idx_main_v23 (idx_main_v24 (ix3 h i n)) = ix2 h i from eq_ix2 _, v13]
  rfl
theorem v27 : val_main_v27 (F := Ideal) q k (ix2 h i) = total (score (rowOf q i) (rowOf k) h) := by
  rw [val_main_v27_apply, val_main_cst_8_apply, Ideal.ofBits_def, Ideal.ofBits_zero_f32, zero_add]
  unfold total
  refine Finset.sum_congr rfl fun n _ => ?_
  rw [show idx_main_v27 (ix2 h i) n = ix3 h i n from eq_ix3 _, v26]
theorem v28 (u : Fin 1) : val_main_v28 (F := Ideal) q k (ix3 h i u) = total (score (rowOf q i) (rowOf k) h) := by
  rw [val_main_v28_apply, show idx_main_v28 (ix3 h i u) = ix2 h i from eq_ix2 _, v27]
theorem v30 : val_main_v30 (F := Ideal) q k (ix3 h i n) = prob (rowOf q i) (rowOf k) h n := by
  rw [val_main_v30_apply, v26, val_main_v29_apply, show idx_main_v29 (ix3 h i n) = ix3 h i (0 : Fin 1) from Ref.ix3_of _ _ _ _ rfl rfl rfl, v28]
  rfl
theorem v33 (u : Fin 1) : val_main_v33 (F := Ideal) q k (ix3 h i u)
    = Ideal.div ((1 : ℝ) : EReal) (total (score (rowOf q i) (rowOf k) h) * total (score (rowOf q i) (rowOf k) h)) := by
  rw [val_main_v33_apply, val_main_v31_apply, v28, val_main_v32_apply, val_main_cst_9_apply, Ideal.ofBits_def, Ref.one_f32, Ideal.hostDivf_def, Ideal.mulf_def]
theorem v39 : val_main_v39 (F := Ideal) v g (ix3 h i n) = along (rowOf g i) (rowOf v) h n := by
  rw [val_main_v39_apply]
  unfold along
  refine Finset.sum_congr rfl fun d _ => ?_
  rw [show lidx_main_v39 (ix3 h i n) d = ix3 h d i from eq_ix3 _, show ridx_main_v39 (ix3 h i n) d = ix3 n h d from eq_ix3 _, v38, v2]
theorem v44 : val_main_v44 (F := Ideal) q k v g (ix3 h i n) = along (rowOf g i) (rowOf v) h n
    * Ideal.div ((1 : ℝ) : EReal) (total (score (rowOf q i) (rowOf k) h) * total (score (rowOf q i) (rowOf k) h)) * ex (score (rowOf q i) (rowOf k) h) n := by
  rw [val_main_v44_apply, val_main_v43_apply, v39, val_main_v42_apply, show idx_main_v42 (ix3 h i n) = ix3 h i (0 : Fin 1) from Ref.ix3_of _ _ _ _ rfl rfl rfl, v33, v26]
  rfl
theorem i46 (u : Fin 1) : idx_main_v46 (ix3 h i u) = ix2 h i :=
  (eq_ix2 _).trans ((ix2_inj _ _ _ _).mpr ⟨Fin.ext (by show ((h.val * 4096 + i.val) * 1 + u.val) / 4096 = h.val; omega),
    Fin.ext (by show ((h.val * 4096 + i.val) * 1 + u.val) % 4096 = i.val; omega)⟩)
theorem v47 (u : Fin 1) : val_main_v47 (F := Ideal) q k v g (ix3 h i u) = -∑ n : Fin 256, along (rowOf g i) (rowOf v) h n
    * Ideal.div ((1 : ℝ) : EReal) (total (score (rowOf q i) (rowOf k) h) * total (score (rowOf q i) (rowOf k) h)) * ex (score (rowOf q i) (rowOf k) h) n := by
  rw [val_main_v47_apply, val_main_v46_apply, i46, val_main_v45_apply, val_main_cst_10_apply,
    Ideal.ofBits_def, Ideal.ofBits_zero_f32, zero_add]
  refine congrArg (fun x : EReal => -x) (Finset.sum_congr rfl fun n _ => ?_)
  rw [show idx_main_v45 (ix2 h i) n = ix3 h i n from eq_ix3 _, v44]

variable {q k v g}

theorem v53 (hq : Real q) (hk : Real k) (hv : Real v) (hg : Real g) : val_main_v53 (F := Ideal) q k v g (ix3 h i n)
    = pull (score (rowOf q i) (rowOf k) h) (along (rowOf g i) (rowOf v) h) n := by
  obtain ⟨S, hS⟩ := score_real hq hk i h
  obtain ⟨D, hD⟩ := along_real hg hv i h
  rw [hS, hD, ← pull_eq S D n, ← hS, val_main_v53_apply, v26, val_main_v52_apply, val_main_v49_apply, v39, val_main_v48_apply,
    show idx_main_v48 (ix3 h i n) = ix3 h i (0 : Fin 1) from Ref.ix3_of _ _ _ _ rfl rfl rfl, v28, val_main_v51_apply, val_main_v50_apply, val_main_cst_11_apply,
    Ideal.ofBits_def, Ideal.ofBits_zero_f32, zero_add, Fin.sum_univ_one,
    show idx_main_v50 (idx_main_v51 (ix3 h i n)) 0 = ix3 h i (0 : Fin 1) from Ref.ix3_of _ _ _ _ rfl rfl rfl, v47, hD]
  rfl
theorem v55 (hq : Real q) (hk : Real k) (hv : Real v) (hg : Real g) : val_main_v55 (F := Ideal) q k v g (ix3 h i n)
    = dscore (rowOf q i) (rowOf g i) (rowOf k) (rowOf v) h n := by
  rw [val_main_v55_apply, v53 h i n hq hk hv hg, val_main_v54_apply, val_main_cst_12_apply]
  rfl

theorem ref_q (hq : Real q) (hk : Real k) (hv : Real v) (hg : Real g) : val_main_v63 (F := Ideal) q k v g = backQ q k v g := by
  funext y
  obtain ⟨i, j, rfl⟩ : ∃ (i : Fin 4096) (j : Fin 1024), y = ix2 i j := ⟨y 0, y 1, eq_ix2 y⟩
  have hx : idx_main_v59 (idx_main_v62 (ix2 i j)) = ix3 (head j) i (feat j) :=
    (eq_ix3 _).trans ((ix3_inj _ _ _ _ _ _).mpr ⟨Fin.ext (by show (i.val * 1024 + j.val) / 256 % 4 = j.val / 256; omega),
      Fin.ext (by show (i.val * 1024 + j.val) / 1024 = i.val; omega), Fin.ext (by show (i.val * 1024 + j.val) % 256 = j.val % 256; omega)⟩)
  rw [val_main_v63_apply, val_main_v62_apply, val_main_v59_apply, hx, val_main_v58_apply]
  refine Finset.sum_congr rfl fun n _ => ?_
  rw [show lidx_main_v58 (ix3 (head j) i (feat j)) n = ix3 (head j) i n from eq_ix3 _,
    show ridx_main_v58 (ix3 (head j) i (feat j)) n = ix3 n (head j) (feat j) from eq_ix3 _, v55 _ _ _ hq hk hv hg, v1, ← col_split]
  rfl
theorem ref_k (hq : Real q) (hk : Real k) (hv : Real v) (hg : Real g) : val_main_v61 (F := Ideal) q k v g = backK q k v g := by
  funext y
  obtain ⟨m, j, rfl⟩ : ∃ (m : Fin 256) (j : Fin 1024), y = ix2 m j := ⟨y 0, y 1, eq_ix2 y⟩
  have hx : idx_main_v57 (idx_main_v61 (ix2 m j)) = ix3 (head j) m (feat j) :=
    (eq_ix3 _).trans ((ix3_inj _ _ _ _ _ _).mpr ⟨Fin.ext (by show (m.val * 1024 + j.val) / 256 % 4 = j.val / 256; omega),
      Fin.ext (by show (m.val * 1024 + j.val) / 1024 = m.val; omega), Fin.ext (by show (m.val * 1024 + j.val) % 256 = j.val % 256; omega)⟩)
  rw [val_main_v61_apply, val_main_v57_apply, hx, val_main_v56_apply]
  refine Finset.sum_congr rfl fun i _ => ?_
  rw [show lidx_main_v56 (ix3 (head j) m (feat j)) i = ix3 (head j) i m from eq_ix3 _,
    show ridx_main_v56 (ix3 (head j) m (feat j)) i = ix3 i (head j) (feat j) from eq_ix3 _, v55 _ _ _ hq hk hv hg, v0, ← col_split]
  rfl
theorem ref_v (q : FVec Ideal S4096x1024 .f32) (k : FVec Ideal S256x1024 .f32) (g : FVec Ideal S4096x1024 .f32) : val_main_v60 (F := Ideal) q k g = backV q k g := by
  funext y
  obtain ⟨m, j, rfl⟩ : ∃ (m : Fin 256) (j : Fin 1024), y = ix2 m j := ⟨y 0, y 1, eq_ix2 y⟩
  have hx : idx_main_v41 (idx_main_v60 (ix2 m j)) = ix3 (head j) (feat j) m :=
    (eq_ix3 _).trans ((ix3_inj _ _ _ _ _ _).mpr ⟨Fin.ext (by show (m.val * 1024 + j.val) / 256 % 4 = j.val / 256; omega),
      Fin.ext (by show (m.val * 1024 + j.val) % 256 = j.val % 256; omega), Fin.ext (by show (m.val * 1024 + j.val) / 1024 = m.val; omega)⟩)
  rw [val_main_v60_apply, val_main_v41_apply, hx, val_main_v40_apply]
  refine Finset.sum_congr rfl fun i _ => ?_
  rw [show lidx_main_v40 (ix3 (head j) (feat j) m) i = ix3 (head j) (feat j) i from eq_ix3 _,
    show ridx_main_v40 (ix3 (head j) (feat j) m) i = ix3 (head j) i m from eq_ix3 _, v38, v30, ← col_split, mul_comm]
  rfl

/-! The precondition read. -/

section
open Cert.Pre_finite_memory Cert.Pre_finite_memory.Gen

theorem lt_top_real {x : EReal} (h : Ideal.cmp .olt (max x (-x)) (Ideal.ofBits .f32 0x7F800000#32) = 1#1) : ∃ r : ℝ, x = r := by
  rw [Finite.inf_f32] at h
  have hlt : max x (-x) < ⊤ := by
    by_contra hn
    have h3 : BitVec.ofBool (decide (max x (-x) < ⊤)) = 1#1 := h
    rw [decide_eq_false hn] at h3
    exact absurd h3 (by decide)
  have := max_lt_iff.mp hlt
  have hb : x ≠ ⊥ := fun hb => absurd this.2 (by simp [hb])
  exact ⟨x.toReal, (EReal.coe_toReal this.1.ne hb).symm⟩

def checkRows (x : FVec Ideal Cert.Pre_finite_memory.S4096x1024 .f32) : IVec Cert.Pre_finite_memory.S_ 1 :=
  Host.reduce IntOp.andi (cmpf .olt (Host.absf x) (broadcastInDim Cert.Pre_finite_memory.S4096x1024 ![] bcast_S_S4096x1024 (constant (F := Ideal) Cert.Pre_finite_memory.S_ .f32 0x7F800000#32)))
    (constantI Cert.Pre_finite_memory.S_ 1 1#1) reducesTo_S4096x1024_S_d0_1 h_S_
def checkToks (x : FVec Ideal Cert.Pre_finite_memory.S256x1024 .f32) : IVec Cert.Pre_finite_memory.S_ 1 :=
  Host.reduce IntOp.andi (cmpf .olt (Host.absf x) (broadcastInDim Cert.Pre_finite_memory.S256x1024 ![] bcast_S_S256x1024 (constant (F := Ideal) Cert.Pre_finite_memory.S_ .f32 0x7F800000#32)))
    (constantI Cert.Pre_finite_memory.S_ 1 1#1) reducesTo_S256x1024_S_d0_1 h_S_

theorem checkRows_real {x : FVec Ideal Cert.Pre_finite_memory.S4096x1024 .f32} (h : checkRows x = fun _ => 1#1) : Real x := fun i j =>
  lt_top_real (Host.reduce_andi_all _ _ _ _ _ (congrFun h default) (ix2 i j))
theorem checkToks_real {x : FVec Ideal Cert.Pre_finite_memory.S256x1024 .f32} (h : checkToks x = fun _ => 1#1) : Real x := fun i j =>
  lt_top_real (Host.reduce_andi_all _ _ _ _ _ (congrFun h default) (ix2 i j))

theorem args_real {x0 : FVec Ideal Cert.Pre_finite_memory.S4096x1024 .f32} {x1 x2 : FVec Ideal Cert.Pre_finite_memory.S256x1024 .f32}
    {x3 : FVec Ideal Cert.Pre_finite_memory.S4096x1024 .f32} (h : Cert.Pre_finite_memory.fn (F := Ideal) x0 x1 x2 x3 = fun _ => 1#1) :
    Real x0 ∧ Real x1 ∧ Real x2 ∧ Real x3 := by
  have h' : andi (andi (andi (checkRows x0) (checkToks x1)) (checkToks x2)) (checkRows x3) = fun _ => 1#1 := h
  have key : ∀ a b : IVec Cert.Pre_finite_memory.S_ 1, andi a b = (fun _ => 1#1) → a = (fun _ => 1#1) ∧ b = (fun _ => 1#1) := fun a b e =>
    ⟨funext fun j => (IntOp.andi_eq_one.mp (congrFun e j)).1, funext fun j => (IntOp.andi_eq_one.mp (congrFun e j)).2⟩
  obtain ⟨h012, h3⟩ := key _ _ h'
  obtain ⟨h01, h2⟩ := key _ _ h012
  obtain ⟨h0, h1⟩ := key _ _ h01
  exact ⟨checkRows_real h0, checkToks_real h1, checkToks_real h2, checkRows_real h3⟩
end

end Cert.Proof.MemBwd

end
-- ==== Proof.Value.MemBwd.lean ====
/- The memory attention's gradients: what the call leaves, at an index. -/
module

public import proofs.«01_k».proof.Proof.Value.MemTile
public import proofs.«01_k».proof.Proof.Value.MemBwdRef
public import proofs.«01_k».proof.Proof.Gen.Kernel38Ideal.Value
public import Idealize.ShloMosaic.Lib.Claim

@[expose] public section

set_option maxRecDepth 16384

noncomputable section

namespace Cert.Proof.MemBwd

open Cert.Kernel38Ideal Cert.Kernel38Ideal.Gen
open Idealize.ShloMosaic Idealize.ShloMosaic.TcCoe Idealize.SL.Sem
open Cert.Proof.Memory Cert.Proof.MemTile

theorem idx_0 : ∀ t, win0_0.index t = ![t.val, 0] := by decide +kernel
theorem idx_1 : ∀ t, win0_1.index t = ![t.val, 0] := by decide +kernel
theorem idx_2 : ∀ t, win0_2.index t = ![0, 0] := by decide +kernel
theorem idx_3 : ∀ t, win0_3.index t = ![0, 0] := by decide +kernel
theorem idx_4 : ∀ t, win0_4.index t = ![t.val, 0] := by decide +kernel
theorem idx_5 : ∀ t, win0_5.index t = ![0, 0] := by decide +kernel
theorem idx_6 : ∀ t, win0_6.index t = ![0, 0] := by decide +kernel

theorem pay7_eq (q : Vec Ideal S1024x1024 .bf16) : k0_pay7 (F := Ideal) q = q := by
  funext y
  rw [eq_ix2 y]
  pointwise [k0_pay7]
theorem pay8_eq (g : Vec Ideal S1024x1024 .bf16) : k0_pay8 (F := Ideal) g = g := by
  funext y
  rw [eq_ix2 y]
  pointwise [k0_pay8]
theorem pay9_eq (k : Vec Ideal S256x1024 .bf16) : k0_pay9 (F := Ideal) k = k := by
  funext y
  rw [eq_ix2 y]
  pointwise [k0_pay9]
theorem pay10_eq (v : Vec Ideal S256x1024 .bf16) : k0_pay10 (F := Ideal) v = v := by
  funext y
  rw [eq_ix2 y]
  pointwise [k0_pay10]
theorem pay3_apply (y : S256x1024.Idx) : k0_pay3 (F := Ideal) y = 0 := by
  rw [eq_ix2 y]
  pointwise [k0_pay3]
theorem pay4_apply (y : S256x1024.Idx) : k0_pay4 (F := Ideal) y = 0 := by
  rw [eq_ix2 y]
  pointwise [k0_pay4]

section
variable (q g : Vec Ideal S1024x1024 .bf16) (k v : Vec Ideal S256x1024 .bf16) (s : Vec Ideal S256x1024 .f32)

/-- A tile's gradient of its rows. -/
theorem pay_q : k0_pay2 (F := Ideal) (k0_pay9 k) (k0_pay14 q g k v) (k0_pay21 (k0_pay7 q) (k0_pay8 g) (k0_pay9 k) (k0_pay10 v))
      (k0_pay28 (k0_pay8 g) (k0_pay9 k) (k0_pay10 v) (k0_pay23 (k0_pay7 q) (k0_pay9 k)) (k0_pay24 (k0_pay7 q) (k0_pay9 k)))
      (k0_pay30 (k0_pay7 q) (k0_pay9 k)) (k0_pay32 (k0_pay8 g) (k0_pay10 v)) (k0_pay33 (k0_pay7 q) (k0_pay8 g) (k0_pay9 k) (k0_pay10 v))
    = wideT fun h => mixT (dsc (k0_pay7 q) (k0_pay8 g) (k0_pay9 k) (k0_pay10 v) h) (toks h (k0_pay9 k)) := rfl

/-- What a tile adds to the keys' gradient. -/
theorem pay_k : k0_pay5 (F := Ideal) (k0_pay7 q) (k0_pay17 (k0_pay15 q) (k0_pay16 q g k v) (constant S256x256 .f32 0x00000000#32))
      (k0_pay22 (k0_pay7 q) (k0_pay8 g) (k0_pay9 k) (k0_pay10 v))
      (k0_pay29 (k0_pay7 q) (k0_pay8 g) (k0_pay10 v) (k0_pay23 (k0_pay7 q) (k0_pay9 k)) (k0_pay24 (k0_pay7 q) (k0_pay9 k)))
      (k0_pay30 (k0_pay7 q) (k0_pay9 k)) (k0_pay32 (k0_pay8 g) (k0_pay10 v)) (k0_pay33 (k0_pay7 q) (k0_pay8 g) (k0_pay9 k) (k0_pay10 v)) s
    = addf (shapeCast S256x1024 s shapeCasts_S256x1024_S256x1024)
        (wideK fun h => overT (dsc (k0_pay7 q) (k0_pay8 g) (k0_pay9 k) (k0_pay10 v) h) (rows h (k0_pay7 q))) := rfl

/-- What a tile adds to the values' gradient. -/
theorem pay_v : k0_pay6 (F := Ideal) (k0_pay12 q g k) (k0_pay19 (k0_pay7 q) (k0_pay8 g) (k0_pay9 k))
      (k0_pay26 (k0_pay8 g) (k0_pay23 (k0_pay7 q) (k0_pay9 k)) (k0_pay24 (k0_pay7 q) (k0_pay9 k)))
      (k0_pay31 (k0_pay7 q) (k0_pay8 g) (k0_pay9 k)) s
    = addf (shapeCast S256x1024 s shapeCasts_S256x1024_S256x1024)
        (wideK fun h => overT (prb (k0_pay7 q) (k0_pay9 k) h) (rows h (k0_pay8 g))) := rfl

theorem cast_apply (s x : Vec Ideal S256x1024 .f32) (y : S256x1024.Idx) :
    addf (F := Ideal) (φ := .f32) (shapeCast S256x1024 s shapeCasts_S256x1024_S256x1024) x y = s y + x y := by
  rw [eq_ix2 y]
  pointwise []
end

variable (m : (ℓ : Loc nD τ sig) → Buf (Elt Ideal) ℓ) (c : Dev nD)

abbrev arg_q : FVec Ideal S4096x1024 .f32 := m ((c : Thread nD τ).loc main_arg0)
abbrev arg_k : FVec Ideal S256x1024 .f32 := m ((c : Thread nD τ).loc main_arg1)
abbrev arg_v : FVec Ideal S256x1024 .f32 := m ((c : Thread nD τ).loc main_arg2)
abbrev arg_g : FVec Ideal S4096x1024 .f32 := m ((c : Thread nD τ).loc main_arg3)

theorem bound (t : Fin cfg0.N) (i : Fin 1024) : t.val * 1024 + i.val < 4096 := by
  have h : t.val < 4 := t.isLt
  omega

theorem block_q (t : Fin cfg0.N) (i j : Fin 1024) : iblk m c 0 t (ix2 i j)
    = arg_q m c (ix2 ⟨t.val * 1024 + i.val, bound t i⟩ j) := by
  unfold iblk
  refine Eq.trans (b := Gen.V m c main_v0 (ix2 ⟨t.val * 1024 + i.val, bound t i⟩ j)) ?_ ?_
  · blk_ext [idx_0 t]
  · unfold Gen.V
    entry_read
    rfl
theorem block_g (t : Fin cfg0.N) (i j : Fin 1024) : iblk m c 1 t (ix2 i j)
    = arg_g m c (ix2 ⟨t.val * 1024 + i.val, bound t i⟩ j) := by
  unfold iblk
  refine Eq.trans (b := Gen.V m c main_v3 (ix2 ⟨t.val * 1024 + i.val, bound t i⟩ j)) ?_ ?_
  · blk_ext [idx_1 t]
  · unfold Gen.V
    entry_read
    rfl
theorem block_k (t : Fin cfg0.N) (n : Fin 256) (j : Fin 1024) : iblk m c 2 t (ix2 n j) = arg_k m c (ix2 n j) := by
  unfold iblk
  refine Eq.trans (b := Gen.V m c main_v1 (ix2 n j)) ?_ ?_
  · blk_ext [idx_2 t]
  · unfold Gen.V
    entry_read
    rfl
theorem block_v (t : Fin cfg0.N) (n : Fin 256) (j : Fin 1024) : iblk m c 3 t (ix2 n j) = arg_v m c (ix2 n j) := by
  unfold iblk
  refine Eq.trans (b := Gen.V m c main_v2 (ix2 n j)) ?_ ?_
  · blk_ext [idx_3 t]
  · unfold Gen.V
    entry_read
    rfl

theorem place_q (t : Fin cfg0.N) (i j : Fin 1024) : ((View.whole main_v4_0).slice (win0_4.rect t)).emb (ix2 i j)
    = ix2 ⟨t.val * 1024 + i.val, bound t i⟩ j := by
  blk_ext [idx_4 t]
theorem place_k (t : Fin cfg0.N) (i : Fin 256) (j : Fin 1024) : ((View.whole main_v4_1).slice (win0_5.rect t)).emb (ix2 i j) = ix2 i j := by
  blk_ext [idx_5 t]
theorem place_v (t : Fin cfg0.N) (i : Fin 256) (j : Fin 1024) : ((View.whole main_v4_2).slice (win0_6.rect t)).emb (ix2 i j) = ix2 i j := by
  blk_ext [idx_6 t]

theorem row_q (t : Fin cfg0.N) (i : Fin 1024) : row (n := 1024) (iblk m c 0 t) i = rowOf (arg_q m c) ⟨t.val * 1024 + i.val, bound t i⟩ :=
  funext fun j => block_q m c t i j
theorem row_g (t : Fin cfg0.N) (i : Fin 1024) : row (n := 1024) (iblk m c 1 t) i = rowOf (arg_g m c) ⟨t.val * 1024 + i.val, bound t i⟩ :=
  funext fun j => block_g m c t i j
theorem row_k (t : Fin cfg0.N) : row (n := 256) (iblk m c 2 t) = rowOf (arg_k m c) :=
  funext fun n => funext fun j => block_k m c t n j
theorem row_v (t : Fin cfg0.N) : row (n := 256) (iblk m c 3 t) = rowOf (arg_v m c) :=
  funext fun n => funext fun j => block_v m c t n j

/-- What a tile leaves of the rows' gradient, and adds to the tokens'. -/
def tileQ (t : Fin cfg0.N) : FVec Ideal S1024x1024 .f32 :=
  wideT fun h => mixT (dsc (iblk m c 0 t) (iblk m c 1 t) (iblk m c 2 t) (iblk m c 3 t) h) (toks h (iblk m c 2 t))
def tileK (t : Fin cfg0.N) : FVec Ideal S256x1024 .f32 :=
  wideK fun h => overT (dsc (iblk m c 0 t) (iblk m c 1 t) (iblk m c 2 t) (iblk m c 3 t) h) (rows h (iblk m c 0 t))
def tileV (t : Fin cfg0.N) : FVec Ideal S256x1024 .f32 :=
  wideK fun h => overT (prb (iblk m c 0 t) (iblk m c 2 t) h) (rows h (iblk m c 1 t))

theorem point_q (t : Fin cfg0.N) (i j : Fin 1024) : tileQ m c t (ix2 i j)
    = backQ (arg_q m c) (arg_k m c) (arg_v m c) (arg_g m c)
        (ix2 ⟨t.val * 1024 + i.val, bound t i⟩ j) := by
  unfold tileQ
  refine (congrArg (fun j => wideT _ (ix2 i j)) (col_split j)).trans ((wideT_apply _ _ _ _).trans ((back_eq _ _ _ _ _ _ _).trans ?_))
  rw [row_q, row_g, row_k, row_v, ← col_split]
  rfl

theorem point_k (t : Fin cfg0.N) (n : Fin 256) (j : Fin 1024) : tileK m c t (ix2 n j)
    = ∑ i : Fin 1024, dscore (rowOf (arg_q m c) ⟨t.val * 1024 + i.val, bound t i⟩) (rowOf (arg_g m c) ⟨t.val * 1024 + i.val, bound t i⟩)
        (rowOf (arg_k m c)) (rowOf (arg_v m c)) (head j) n
        * rowOf (arg_q m c) ⟨t.val * 1024 + i.val, bound t i⟩ j := by
  unfold tileK
  refine (congrArg (fun j => wideK _ (ix2 n j)) (col_split j)).trans ((wideK_apply _ _ _ _).trans ((keys_eq _ _ _ _ _ _ _).trans ?_))
  rw [row_k, row_v, ← col_split]
  exact Finset.sum_congr rfl fun i _ => by rw [row_q, row_g]

theorem point_v (t : Fin cfg0.N) (n : Fin 256) (j : Fin 1024) : tileV m c t (ix2 n j)
    = ∑ i : Fin 1024, prob (rowOf (arg_q m c) ⟨t.val * 1024 + i.val, bound t i⟩) (rowOf (arg_k m c)) (head j) n
        * rowOf (arg_g m c) ⟨t.val * 1024 + i.val, bound t i⟩ j := by
  unfold tileV
  refine (congrArg (fun j => wideK _ (ix2 n j)) (col_split j)).trans ((wideK_apply _ _ _ _).trans ((vals_eq _ _ _ _ _ _).trans ?_))
  rw [row_k, ← col_split]
  exact Finset.sum_congr rfl fun i _ => by rw [row_q, row_g]

theorem point_lt (t : Fin cfg0.N) (s : Fin 4) : 4 * (t.val / 4) + s.val < cfg0.N := by
  have h : t.val < 4 := t.isLt
  show _ < 4
  omega

theorem sum_k (t : Fin cfg0.N) (n : Fin 256) (j : Fin 1024) :
    (0 : EReal) + ∑ s : Fin 4, tileK m c ⟨4 * (t.val / 4) + s.val, point_lt t s⟩ (ix2 n j)
      = backK (arg_q m c) (arg_k m c) (arg_v m c) (arg_g m c) (ix2 n j) := by
  have ht : t.val / 4 = 0 := by have h : t.val < 4 := t.isLt; omega
  rw [zero_add, Finset.sum_congr rfl fun s _ => point_k m c _ n j]
  refine Fin.sum_mul_add_congr fun s k hl => ?_
  simp only [ht, Nat.mul_zero, Nat.zero_add]
  rfl

theorem sum_v (t : Fin cfg0.N) (n : Fin 256) (j : Fin 1024) :
    (0 : EReal) + ∑ s : Fin 4, tileV m c ⟨4 * (t.val / 4) + s.val, point_lt t s⟩ (ix2 n j)
      = backV (arg_q m c) (arg_k m c) (arg_g m c) (ix2 n j) := by
  have ht : t.val / 4 = 0 := by have h : t.val < 4 := t.isLt; omega
  rw [zero_add, Finset.sum_congr rfl fun s _ => point_v m c _ n j]
  refine Fin.sum_mul_add_congr fun s k hl => ?_
  simp only [ht, Nat.mul_zero, Nat.zero_add]
  rfl

theorem left_q (t : Fin cfg0.N) (y : S1024x1024.Idx) : (Gen.outsAt0 m c t.val t.isLt).1 y = tileQ m c t y := by
  by_cases h : t.val % 4 = 0
  · rw [outsAt0_A m c t h]
    frame_out
    rw [pay_q, pay7_eq, pay8_eq, pay9_eq, pay10_eq]
    rfl
  · rw [outsAt0_B m c t h]
    frame_out
    rw [pay_q, pay7_eq, pay8_eq, pay9_eq, pay10_eq]
    rfl

theorem final_q : (dats m 0 c).arrAt 4 (cfgs 0).N
    = backQ (arg_q m c) (arg_k m c) (arg_v m c) (arg_g m c) := by
  refine (dats m 0 c).arrAt_eq_of_covers 4 _ (by decide +kernel) fun t _ y => ?_
  blk_simp
  rw [Gen.after0_4]
  refine (left_q m c t y).trans ?_
  rw [eq_ix2 y]
  exact (point_q m c t (y 0) (y 1)).trans (congrArg (backQ _ _ _ _) (place_q t (y 0) (y 1))).symm

theorem final_k : (dats m 0 c).arrAt 5 (cfgs 0).N
    = backK (arg_q m c) (arg_k m c) (arg_v m c) (arg_g m c) := by
  refine (dats m 0 c).arrAt_eq_of_covers 5 _ (by decide +kernel) fun t hf y => ?_
  blk_simp
  rw [Gen.after0_5]
  rw [Pipeline.eq_sum_fin_of_reset_step_apply_of_flush (fun n h => (Gen.outsAt0 m c n h).2.1) 4 (fun _ => 0) (tileK m c)
    (fun t h j => by rw [outsAt0_A m c t h]; frame_out; rw [pay_k, pay7_eq, pay8_eq, pay9_eq, pay10_eq, cast_apply, pay3_apply]; rfl)
    (fun t h j => by rw [outsAt0_B m c t h]; frame_out; rw [pay_k, pay7_eq, pay8_eq, pay9_eq, pay10_eq, cast_apply]; rfl) t ((flush0_5 t).mp hf) y]
  rw [eq_ix2 y]
  refine (sum_k m c t (y 0) (y 1)).trans ?_
  exact (congrArg (backK _ _ _ _) (place_k t (y 0) (y 1))).symm

theorem final_v : (dats m 0 c).arrAt 6 (cfgs 0).N
    = backV (arg_q m c) (arg_k m c) (arg_g m c) := by
  refine (dats m 0 c).arrAt_eq_of_covers 6 _ (by decide +kernel) fun t hf y => ?_
  blk_simp
  rw [Gen.after0_6]
  rw [Pipeline.eq_sum_fin_of_reset_step_apply_of_flush (fun n h => (Gen.outsAt0 m c n h).2.2) 4 (fun _ => 0) (tileV m c)
    (fun t h j => by rw [outsAt0_A m c t h]; frame_out; rw [pay_v, pay7_eq, pay8_eq, pay9_eq, cast_apply, pay4_apply]; rfl)
    (fun t h j => by rw [outsAt0_B m c t h]; frame_out; rw [pay_v, pay7_eq, pay8_eq, pay9_eq, cast_apply]; rfl) t ((flush0_6 t).mp hf) y]
  rw [eq_ix2 y]
  refine (sum_v m c t (y 0) (y 1)).trans ?_
  exact (congrArg (backV _ _ _) (place_v t (y 0) (y 1))).symm

theorem value : Cert.algebraic_Kernel38Ideal_Reference38Ideal_pre_finite_memory := by
  intro m ρ m' ρ' hf hagree
  refine ⟨fun c => backQ (arg_q m c) (arg_k m c) (arg_v m c) (arg_g m c),
    fun c => backK (arg_q m c) (arg_k m c) (arg_v m c) (arg_g m c),
    fun c => backV (arg_q m c) (arg_k m c) (arg_g m c), ?_, ?_⟩
  · refine (θ_run Cert.Kernel38Ideal.defs _ _).mono (fun r h c => ?_) (Cert.Kernel38Ideal.Value.run_blocks (F := Ideal) m ρ)
    exact ⟨(h c).1.trans (final_q m c), (h c).2.1.trans (final_k m c), (h c).2.2.1.trans (final_v m c), (h c).2.2.2⟩
  · refine (θ_run Cert.Reference38Ideal.defs _ _).mono (fun r h c => ?_) (Cert.Reference38Ideal.Value.run (F := Ideal) m' ρ')
    obtain ⟨h0, h1, h2, h3⟩ := hagree c
    obtain ⟨f0, f1, f2, f3⟩ := args_real (hf c)
    refine ⟨(h c).1.trans ?_, (h c).2.1.trans ?_, (h c).2.2.1.trans ?_, (h c).2.2.2⟩
    · rw [Cert.Reference38Ideal.Read.val_main_v63_eq, h0, h1, h2, h3]; exact ref_q f0 f1 f2 f3
    · rw [Cert.Reference38Ideal.Read.val_main_v61_eq, h0, h1, h2, h3]; exact ref_k f0 f1 f2 f3
    · rw [Cert.Reference38Ideal.Read.val_main_v60_eq, h0, h1, h3]; exact ref_v _ _ _

end Cert.Proof.MemBwd

end
-- ==== Proof.Value.MemFwd.lean ====
/- The memory attention: what the call leaves, at an index. -/
module

public import proofs.«01_k».proof.Proof.Value.MemTile
public import proofs.«01_k».proof.Proof.Value.MemBwdRef
public import proofs.«01_k».proof.Proof.Gen.Kernel39Ideal.Value
public import proofs.«01_k».proof.Proof.Gen.Reference39Ideal.Run
public import proofs.«01_k».proof.Proof.Gen.Reference39Ideal.Read

@[expose] public section

set_option maxRecDepth 16384

noncomputable section

namespace Cert.Proof.MemFwd

open Cert.Kernel39Ideal Cert.Kernel39Ideal.Gen
open Idealize.ShloMosaic Idealize.ShloMosaic.TcCoe Idealize.SL.Sem
open Cert.Proof.Memory Cert.Proof.MemTile

theorem idx_0 : ∀ t, win0_0.index t = ![t.val, 0] := by decide +kernel
theorem idx_1 : ∀ t, win0_1.index t = ![0, 0] := by decide +kernel
theorem idx_2 : ∀ t, win0_2.index t = ![0, 0] := by decide +kernel
theorem idx_3 : ∀ t, win0_3.index t = ![t.val, 0] := by decide +kernel

theorem pay2_eq (q : Vec Ideal S1024x1024 .bf16) : k0_pay2 (F := Ideal) q = q := by
  funext y
  rw [eq_ix2 y]
  pointwise [k0_pay2]
theorem pay3_eq (k : Vec Ideal S256x1024 .bf16) : k0_pay3 (F := Ideal) k = k := by
  funext y
  rw [eq_ix2 y]
  pointwise [k0_pay3]
theorem pay4_eq (v : Vec Ideal S256x1024 .bf16) : k0_pay4 (F := Ideal) v = v := by
  funext y
  rw [eq_ix2 y]
  pointwise [k0_pay4]

/-- A tile's results are its heads' outputs side by side. -/
theorem pay (q : Vec Ideal S1024x1024 .bf16) (k v : Vec Ideal S256x1024 .bf16) :
    k0_pay1 (F := Ideal) (k0_pay2 q) (k0_pay3 k) (k0_pay4 v) (k0_pay5 q k v) (k0_pay6 q k v) (k0_pay7 q) (k0_pay8 k)
        (constant S1024x256 .f32 0x00000000#32)
      = wideT fun h => mixT (prb (k0_pay2 q) (k0_pay3 k) h) (toks h (k0_pay4 v)) := rfl

variable (m : (ℓ : Loc nD τ sig) → Buf (Elt Ideal) ℓ) (c : Dev nD)

theorem bound (t : Fin cfg0.N) (i : Fin 1024) : t.val * 1024 + i.val < 4096 := by
  have h : t.val < 4 := t.isLt
  omega

theorem block_q (t : Fin cfg0.N) (i j : Fin 1024) : iblk m c 0 t (ix2 i j)
    = m ((c : Thread nD τ).loc main_arg0) (ix2 ⟨t.val * 1024 + i.val, bound t i⟩ j) := by
  unfold iblk
  refine Eq.trans (b := Gen.V m c main_v0 (ix2 ⟨t.val * 1024 + i.val, bound t i⟩ j)) ?_ ?_
  · blk_ext [idx_0 t]
  · unfold Gen.V
    entry_read
    rfl

theorem block_k (t : Fin cfg0.N) (n : Fin 256) (j : Fin 1024) : iblk m c 1 t (ix2 n j) = m ((c : Thread nD τ).loc main_arg1) (ix2 n j) := by
  unfold iblk
  refine Eq.trans (b := Gen.V m c main_v1 (ix2 n j)) ?_ ?_
  · blk_ext [idx_1 t]
  · unfold Gen.V
    entry_read
    rfl

theorem block_v (t : Fin cfg0.N) (n : Fin 256) (j : Fin 1024) : iblk m c 2 t (ix2 n j) = m ((c : Thread nD τ).loc main_arg2) (ix2 n j) := by
  unfold iblk
  refine Eq.trans (b := Gen.V m c main_v2 (ix2 n j)) ?_ ?_
  · blk_ext [idx_2 t]
  · unfold Gen.V
    entry_read
    rfl

theorem place (t : Fin cfg0.N) (i j : Fin 1024) : ((View.whole main_v3).slice (win0_3.rect t)).emb (ix2 i j)
    = ix2 ⟨t.val * 1024 + i.val, bound t i⟩ j := by
  blk_ext [idx_3 t]

/-- The memory attention's output at an index. -/
def attend (q : FVec Ideal S4096x1024 .f32) (k v : FVec Ideal S256x1024 .f32) : FVec Ideal S4096x1024 .bf16 := fun y =>
  out (rowOf q (y 0)) (rowOf k) (rowOf v) (head (y 1)) (feat (y 1))

theorem point (t : Fin cfg0.N) (i j : Fin 1024) :
    k0_pay1 (F := Ideal) (k0_pay2 (iblk m c 0 t)) (k0_pay3 (iblk m c 1 t)) (k0_pay4 (iblk m c 2 t)) (k0_pay5 (iblk m c 0 t) (iblk m c 1 t) (iblk m c 2 t))
        (k0_pay6 (iblk m c 0 t) (iblk m c 1 t) (iblk m c 2 t)) (k0_pay7 (iblk m c 0 t)) (k0_pay8 (iblk m c 1 t)) (constant S1024x256 .f32 0x00000000#32) (ix2 i j)
      = attend (m ((c : Thread nD τ).loc main_arg0)) (m ((c : Thread nD τ).loc main_arg1)) (m ((c : Thread nD τ).loc main_arg2))
          (((View.whole main_v3).slice (win0_3.rect t)).emb (ix2 i j)) := by
  have hq : row (n := 1024) (iblk m c 0 t) i = rowOf (m ((c : Thread nD τ).loc main_arg0)) ⟨t.val * 1024 + i.val, bound t i⟩ :=
    funext fun j => block_q m c t i j
  have hk : row (n := 256) (iblk m c 1 t) = rowOf (m ((c : Thread nD τ).loc main_arg1)) := funext fun n => funext fun j => block_k m c t n j
  have hv : row (n := 256) (iblk m c 2 t) = rowOf (m ((c : Thread nD τ).loc main_arg2)) := funext fun n => funext fun j => block_v m c t n j
  rw [place]
  refine (congrFun (pay _ _ _) _).trans ?_
  rw [pay2_eq, pay3_eq, pay4_eq, col_split j, wideT_apply, out_eq, hq, hk, hv]
  show _ = out _ _ _ (head (col (head j) (feat j))) (feat (col (head j) (feat j)))
  rw [head_col, feat_col]
  rfl

theorem final : (dats m 0 c).arrAt 3 (cfgs 0).N
    = attend (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  frame_out
  rw [eq_ix2 y]
  exact point m c t (y 0) (y 1)

section
open Cert.Reference39Ideal.Read

variable (q : FVec Ideal S4096x1024 .f32) (k v : FVec Ideal S256x1024 .f32) (h : Fin 4) (i : Fin 4096) (n d : Fin 256)

theorem probs : val_main_v16 (F := Ideal) q k (ix3 h i n) = prob (rowOf q i) (rowOf k) h n := MemBwd.v30 q k h i n

theorem reference : val_main_v20 (F := Ideal) q k v = attend q k v := by
  funext y
  obtain ⟨i, j, rfl⟩ : ∃ (i : Fin 4096) (j : Fin 1024), y = ix2 i j := ⟨y 0, y 1, eq_ix2 y⟩
  rw [col_split j]
  generalize head j = h
  generalize feat j = d
  show _ = out (rowOf q i) (rowOf k) (rowOf v) (head (col h d)) (feat (col h d))
  rw [head_col, feat_col]
  have hx : idx_main_v18 (idx_main_v19 (ix2 i (col h d))) = ix3 h d i := by
    refine (eq_ix3 _).trans ((ix3_inj _ _ _ _ _ _).mpr ⟨Fin.ext ?_, Fin.ext ?_, Fin.ext ?_⟩)
    · show (i.val * 1024 + (256 * h.val + d.val)) / 256 % 4 = h.val; omega
    · show (i.val * 1024 + (256 * h.val + d.val)) % 256 = d.val; omega
    · show (i.val * 1024 + (256 * h.val + d.val)) / 1024 = i.val; omega
  rw [val_main_v20_apply, val_main_v19_apply, val_main_v18_apply, hx, val_main_v17_apply]
  unfold out
  refine (Finset.sum_congr rfl fun n _ => ?_)
  rw [show lidx_main_v17 (ix3 h d i) n = ix3 n h d from eq_ix3 _, show ridx_main_v17 (ix3 h d i) n = ix3 h i n from eq_ix3 _, probs, mul_comm]
  exact congrArg (_ * ·) (MemBwd.v1 v h n d)
end

theorem value : Cert.algebraic_Kernel39Ideal_Reference39Ideal := by
  intro m ρ m' ρ' _ hagree
  refine ⟨fun c => attend (m ((c : Thread nD τ).loc main_arg0)) (m ((c : Thread nD τ).loc main_arg1)) (m ((c : Thread nD τ).loc main_arg2)), ?_, ?_⟩
  · refine (θ_run Cert.Kernel39Ideal.defs _ _).mono (fun r h c => ?_) (Cert.Kernel39Ideal.Value.run_blocks (F := Ideal) m ρ)
    exact ⟨(h c).1.trans (final m c), (h c).2⟩
  · refine (θ_run Cert.Reference39Ideal.defs _ _).mono (fun r h c => ?_) (Cert.Reference39Ideal.Value.run (F := Ideal) m' ρ')
    obtain ⟨h0, h1, h2⟩ := hagree c
    refine ⟨(h c).1.trans ?_, (h c).2⟩
    rw [h0, h1, h2]
    exact (Cert.Reference39Ideal.Read.val_main_v20_eq (F := Ideal) _ _ _).trans (reference _ _ _)

end Cert.Proof.MemFwd

end
-- ==== Proof.lean ====
module

public import proofs.«01_k».proof.Defs
public import proofs.«01_k».proof.Proof.Word.Frame
public import proofs.«01_k».proof.Proof.Ideal.Frame
public import proofs.«01_k».proof.Proof.Gen.ReferenceIdeal.Run
public import proofs.«01_k».proof.Proof.Gen.ReferenceIdeal.Read
public import proofs.«01_k».proof.Proof.Gen.Pre_finite
public import proofs.«01_k».proof.Proof.Value.Final
public import proofs.«01_k».proof.Proof.Value.Finite
public import proofs.«01_k».proof.Proof.Value.Forward
public import proofs.«01_k».proof.Proof.Gen.Kernel2.Frame
public import proofs.«01_k».proof.Proof.Gen.Kernel5.Frame
public import proofs.«01_k».proof.Proof.Value.Down
public import proofs.«01_k».proof.Proof.Value.Up
public import proofs.«01_k».proof.Proof.Packed.DownFrame
public import proofs.«01_k».proof.Proof.Packed.DownValue
public import proofs.«01_k».proof.Proof.Packed.UpFrame
public import proofs.«01_k».proof.Proof.Packed.UpValue
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame
public import proofs.«01_k».proof.Proof.Value.InDw
public import proofs.«01_k».proof.Proof.Value.InDx
public import proofs.«01_k».proof.Proof.Value.MemOut
public import proofs.«01_k».proof.Proof.Value.MemQuery
public import proofs.«01_k».proof.Proof.Value.MixDx
public import proofs.«01_k».proof.Proof.Value.MixDw
public import proofs.«01_k».proof.Proof.Value.Hidden
public import proofs.«01_k».proof.Proof.Value.Output
public import proofs.«01_k».proof.Proof.Value.Projection
public import proofs.«01_k».proof.Proof.Value.MixYDx
public import proofs.«01_k».proof.Proof.Value.QDw
public import proofs.«01_k».proof.Proof.Value.QDx
public import proofs.«01_k».proof.Proof.Value.KDw
public import proofs.«01_k».proof.Proof.Value.KDx
public import proofs.«01_k».proof.Proof.Value.VDw
public import proofs.«01_k».proof.Proof.Value.VDx
public import proofs.«01_k».proof.Proof.Value.Query
public import proofs.«01_k».proof.Proof.Value.Key
public import proofs.«01_k».proof.Proof.Value.Values
public import proofs.«01_k».proof.Proof.Value.ValuesT
public import proofs.«01_k».proof.Proof.Value.Mix
public import proofs.«01_k».proof.Proof.Value.MixY
public import proofs.«01_k».proof.Proof.Value.Queries
public import proofs.«01_k».proof.Proof.Value.MemKeys
public import proofs.«01_k».proof.Proof.Value.MemValues
public import proofs.«01_k».proof.Proof.Value.MemOutput
public import proofs.«01_k».proof.Proof.Value.MemOutputDw
public import proofs.«01_k».proof.Proof.Value.MemQueryDw
public import proofs.«01_k».proof.Proof.Value.MemKeyDw
public import proofs.«01_k».proof.Proof.Value.MemValueDw
public import proofs.«01_k».proof.Proof.Value.MixYDw
public import proofs.«01_k».proof.Proof.Gen.Kernel38.Frame
public import proofs.«01_k».proof.Proof.Gen.Kernel39.Frame
public import proofs.«01_k».proof.Proof.Value.MemBwd
public import proofs.«01_k».proof.Proof.Value.MemFwd
public import Idealize.ShloMosaic.Adequacy
public import Idealize.ShloMosaic.Init

@[expose] public section

noncomputable section

namespace Cert.Proof

open Idealize.ShloMosaic Idealize.SL.Sem

/-- The kernel as printed. -/
theorem frame_kernel : Cert.quiescent_Kernel := fun m ρ _ => Cert.Proof.Kernel.frame (F := Bits) m ρ

/-- The kernel over the extended reals. -/
theorem frame_kernel_ideal : Cert.quiescent_KernelIdeal := fun m ρ _ => Cert.Proof.KernelIdeal.frame (F := Ideal) m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_kernel_ideal_finite : Cert.quiescent_KernelIdeal_pre_finite := fun m ρ _ => frame_kernel_ideal m ρ trivial
theorem frame_reference_finite : Cert.quiescent_ReferenceIdeal_pre_finite := fun m ρ _ => frame_reference m ρ trivial

/-- The mask's literal stands for minus infinity. -/
theorem mask_preserved : Cert.preserves_Kernel_KernelIdeal :=
  IdealRules.named_const.statement Cert.KernelIdeal.κ "mask" .f32 0xF149F2CA#32 ⊥ rfl

/-- Finite arguments are arrays of reals, on each device. -/
theorem real_args (m : (ℓ : Loc Cert.KernelIdeal.nD Cert.KernelIdeal.τ Cert.KernelIdeal.sig) → Buf (Elt Ideal) ℓ)
    (h : Cert.Pre_KernelIdeal_finite m) (c : Dev Cert.KernelIdeal.nD) : ∃ Q K V G, Sweep.Args m c Q K V G := by
  obtain ⟨h0, h1, h2, h3⟩ := Finite.fn_split _ _ _ _ (h c)
  obtain ⟨Q, hQ⟩ := Finite.check_up _ h0
  obtain ⟨K, hK⟩ := Finite.check_up _ h1
  obtain ⟨V, hV⟩ := Finite.check_up _ h2
  obtain ⟨G, hG⟩ := Finite.check_up _ h3
  exact ⟨Q, K, V, G, ⟨hQ, hK, hV, hG⟩⟩

section
open Cert.ReferenceIdeal.Read Cert.Proof.Attn Cert.Proof.Ref

theorem eq_byRow (f : Vec Ideal Cert.KernelIdeal.S4096x1024 .f32) (x : Arr) (e : ∀ h i d, f (ix2 i (col h d)) = ((x i h d : ℝ) : EReal)) :
    f = Sweep.byRow x := by
  have key : ∀ (i : Fin 4096) (n : Fin 1024), f (ix2 i n) = Sweep.byRow x (ix2 i n) := fun i n => by
    rw [col_split n, e, Sweep.byRow_col]
  exact funext fun y => (congrArg f (eq_ix2 y)).trans ((key _ _).trans (congrArg (Sweep.byRow x) (eq_ix2 y).symm))
theorem eq_byCol (f : Vec Ideal Cert.KernelIdeal.S1024x4096 .f32) (x : Arr) (e : ∀ h i d, f (ix2 (col h d) i) = ((x i h d : ℝ) : EReal)) :
    f = Sweep.byCol x := by
  have key : ∀ (n : Fin 1024) (i : Fin 4096), f (ix2 n i) = Sweep.byCol x (ix2 n i) := fun n i => by
    rw [col_split n, e, Sweep.byCol_col]
  exact funext fun y => (congrArg f (eq_ix2 y)).trans ((key _ _).trans (congrArg (Sweep.byCol x) (eq_ix2 y).symm))

variable (Q K V G : Arr)

theorem ref_dq : val_main_v59 (F := Ideal) (up Q) (up K) (up V) (up G) = Sweep.byRow (dq Q K V G) := eq_byRow _ _ (v59 Q K V G)
theorem ref_dk : val_main_v60 (F := Ideal) (up Q) (up K) (up V) (up G) = Sweep.byRow (dk Q K V G) := eq_byRow _ _ (v60 Q K V G)
theorem ref_dv : val_main_v62 (F := Ideal) (up Q) (up K) (up G) = Sweep.byCol (dv Q K G) := eq_byCol _ _ (v62 Q K G)
end

/-- The call's gradients of q, k and v are the reference's. -/
theorem value : Cert.algebraic_KernelIdeal_ReferenceIdeal_pre_finite := by
  intro m ρ m' ρ' hf hagree
  choose Q K V G hR using real_args m hf
  refine ⟨fun c => Sweep.byRow (Attn.dq (Q c) (K c) (V c) (G c)), fun c => Sweep.byRow (Attn.dk (Q c) (K c) (V c) (G c)),
    fun c => Sweep.byCol (Attn.dv (Q c) (K c) (G c)), ?_, ?_⟩
  · refine (θ_run Cert.KernelIdeal.defs _ _).mono (fun r h c => ?_) (Cert.Proof.KernelIdeal.run_main (F := Ideal) m ρ)
    exact ⟨((h.1 c).1 6).trans (Sweep.arr_dq (hR c)), ((h.1 c).1 7).trans (Sweep.arr_dk (hR c)),
      ((h.1 c).1 8).trans (Sweep.arr_dv (hR c)), Cert.Proof.KernelIdeal.args_kept m r h.1 c⟩
  · refine (θ_run Cert.ReferenceIdeal.defs _ _).mono (fun r h c => ?_) (Cert.ReferenceIdeal.Value.run (F := Ideal) m' ρ')
    obtain ⟨h0, h1, h2, h3⟩ := hagree c
    have e0 := h0.trans (hR c).q
    have e1 := h1.trans (hR c).k
    have e2 := h2.trans (hR c).v
    have e3 := h3.trans (hR c).g
    refine ⟨(h c).1.trans ?_, (h c).2.1.trans ?_, (h c).2.2.1.trans ?_, (h c).2.2.2⟩
    · rw [Cert.ReferenceIdeal.Read.val_main_v59_eq, e0, e1, e2, e3]; exact ref_dq _ _ _ _
    · rw [Cert.ReferenceIdeal.Read.val_main_v60_eq, e0, e1, e2, e3]; exact ref_dk _ _ _ _
    · rw [Cert.ReferenceIdeal.Read.val_main_v62_eq, e0, e1, e3]; exact ref_dv _ _ _

/-! ## The MLP's backward products -/

theorem frame_kernel2 : Cert.quiescent_Kernel2 := fun m ρ _ => Cert.Kernel2.Gen.frame (F := Bits) m ρ
theorem frame_kernel2_ideal : Cert.quiescent_Kernel2Ideal := fun m ρ _ => Cert.Kernel2Ideal.Gen.frame (F := Ideal) m ρ
theorem frame_kernel5 : Cert.quiescent_Kernel5 := fun m ρ _ => Cert.Kernel5.Gen.frame (F := Bits) m ρ
theorem frame_kernel5_ideal : Cert.quiescent_Kernel5Ideal := fun m ρ _ => Cert.Kernel5Ideal.Gen.frame (F := Ideal) m ρ
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-! ## The further products -/

theorem frame_kernel6 : Cert.quiescent_Kernel6 := fun m ρ _ => Cert.Kernel6.Gen.frame (F := Bits) m ρ
theorem frame_kernel6_ideal : Cert.quiescent_Kernel6Ideal := fun m ρ _ => Cert.Kernel6Ideal.Gen.frame (F := Ideal) m ρ
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem frame_kernel7 : Cert.quiescent_Kernel7 := fun m ρ _ => Cert.Kernel7.Gen.frame (F := Bits) m ρ
theorem frame_kernel7_ideal : Cert.quiescent_Kernel7Ideal := fun m ρ _ => Cert.Kernel7Ideal.Gen.frame (F := Ideal) m ρ
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem frame_kernel8 : Cert.quiescent_Kernel8 := fun m ρ _ => Cert.Kernel8.Gen.frame (F := Bits) m ρ
theorem frame_kernel8_ideal : Cert.quiescent_Kernel8Ideal := fun m ρ _ => Cert.Kernel8Ideal.Gen.frame (F := Ideal) m ρ
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
theorem frame_kernel9 : Cert.quiescent_Kernel9 := fun m ρ _ => Cert.Kernel9.Gen.frame (F := Bits) m ρ
theorem frame_kernel9_ideal : Cert.quiescent_Kernel9Ideal := fun m ρ _ => Cert.Kernel9Ideal.Gen.frame (F := Ideal) m ρ
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)
theorem frame_kernel10 : Cert.quiescent_Kernel10 := fun m ρ _ => Cert.Kernel10.Gen.frame (F := Bits) m ρ
theorem frame_kernel10_ideal : Cert.quiescent_Kernel10Ideal := fun m ρ _ => Cert.Kernel10Ideal.Gen.frame (F := Ideal) m ρ
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)
theorem frame_kernel11 : Cert.quiescent_Kernel11 := fun m ρ _ => Cert.Kernel11.Gen.frame (F := Bits) m ρ
theorem frame_kernel11_ideal : Cert.quiescent_Kernel11Ideal := fun m ρ _ => Cert.Kernel11Ideal.Gen.frame (F := Ideal) m ρ
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)
theorem frame_kernel12 : Cert.quiescent_Kernel12 := fun m ρ _ => Cert.Kernel12.Gen.frame (F := Bits) m ρ
theorem frame_kernel12_ideal : Cert.quiescent_Kernel12Ideal := fun m ρ _ => Cert.Kernel12Ideal.Gen.frame (F := Ideal) m ρ
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)
theorem frame_kernel13 : Cert.quiescent_Kernel13 := fun m ρ _ => Cert.Kernel13.Gen.frame (F := Bits) m ρ
theorem frame_kernel13_ideal : Cert.quiescent_Kernel13Ideal := fun m ρ _ => Cert.Kernel13Ideal.Gen.frame (F := Ideal) m ρ
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)
theorem frame_kernel14 : Cert.quiescent_Kernel14 := fun m ρ _ => Cert.Kernel14.Gen.frame (F := Bits) m ρ
theorem frame_kernel14_ideal : Cert.quiescent_Kernel14Ideal := fun m ρ _ => Cert.Kernel14Ideal.Gen.frame (F := Ideal) m ρ
theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)
theorem frame_kernel15 : Cert.quiescent_Kernel15 := fun m ρ _ => Cert.Kernel15.Gen.frame (F := Bits) m ρ
theorem frame_kernel15_ideal : Cert.quiescent_Kernel15Ideal := fun m ρ _ => Cert.Kernel15Ideal.Gen.frame (F := Ideal) m ρ
theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)
theorem frame_kernel16 : Cert.quiescent_Kernel16 := fun m ρ _ => Cert.Kernel16.Gen.frame (F := Bits) m ρ
theorem frame_kernel16_ideal : Cert.quiescent_Kernel16Ideal := fun m ρ _ => Cert.Kernel16Ideal.Gen.frame (F := Ideal) m ρ
theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)
theorem frame_kernel17 : Cert.quiescent_Kernel17 := fun m ρ _ => Cert.Kernel17.Gen.frame (F := Bits) m ρ
theorem frame_kernel17_ideal : Cert.quiescent_Kernel17Ideal := fun m ρ _ => Cert.Kernel17Ideal.Gen.frame (F := Ideal) m ρ
theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)
theorem frame_kernel18 : Cert.quiescent_Kernel18 := fun m ρ _ => Cert.Kernel18.Gen.frame (F := Bits) m ρ
theorem frame_kernel18_ideal : Cert.quiescent_Kernel18Ideal := fun m ρ _ => Cert.Kernel18Ideal.Gen.frame (F := Ideal) m ρ
theorem frame_reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)
theorem frame_kernel19 : Cert.quiescent_Kernel19 := fun m ρ _ => Cert.Kernel19.Gen.frame (F := Bits) m ρ
theorem frame_kernel19_ideal : Cert.quiescent_Kernel19Ideal := fun m ρ _ => Cert.Kernel19Ideal.Gen.frame (F := Ideal) m ρ
theorem frame_reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)
theorem frame_kernel20 : Cert.quiescent_Kernel20 := fun m ρ _ => Cert.Kernel20.Gen.frame (F := Bits) m ρ
theorem frame_kernel20_ideal : Cert.quiescent_Kernel20Ideal := fun m ρ _ => Cert.Kernel20Ideal.Gen.frame (F := Ideal) m ρ
theorem frame_reference20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)
theorem frame_kernel21 : Cert.quiescent_Kernel21 := fun m ρ _ => Cert.Kernel21.Gen.frame (F := Bits) m ρ
theorem frame_kernel21_ideal : Cert.quiescent_Kernel21Ideal := fun m ρ _ => Cert.Kernel21Ideal.Gen.frame (F := Ideal) m ρ
theorem frame_reference21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)
theorem frame_kernel22 : Cert.quiescent_Kernel22 := fun m ρ _ => Cert.Kernel22.Gen.frame (F := Bits) m ρ
theorem frame_kernel22_ideal : Cert.quiescent_Kernel22Ideal := fun m ρ _ => Cert.Kernel22Ideal.Gen.frame (F := Ideal) m ρ
theorem frame_reference22 : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)
theorem frame_kernel23 : Cert.quiescent_Kernel23 := fun m ρ _ => Cert.Kernel23.Gen.frame (F := Bits) m ρ
theorem frame_kernel23_ideal : Cert.quiescent_Kernel23Ideal := fun m ρ _ => Cert.Kernel23Ideal.Gen.frame (F := Ideal) m ρ
theorem frame_reference23 : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)
theorem frame_kernel24 : Cert.quiescent_Kernel24 := fun m ρ _ => Cert.Kernel24.Gen.frame (F := Bits) m ρ
theorem frame_kernel24_ideal : Cert.quiescent_Kernel24Ideal := fun m ρ _ => Cert.Kernel24Ideal.Gen.frame (F := Ideal) m ρ
theorem frame_reference24 : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)
theorem frame_kernel25 : Cert.quiescent_Kernel25 := fun m ρ _ => Cert.Kernel25.Gen.frame (F := Bits) m ρ
theorem frame_kernel25_ideal : Cert.quiescent_Kernel25Ideal := fun m ρ _ => Cert.Kernel25Ideal.Gen.frame (F := Ideal) m ρ
theorem frame_reference25 : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)
theorem frame_kernel26 : Cert.quiescent_Kernel26 := fun m ρ _ => Cert.Kernel26.Gen.frame (F := Bits) m ρ
theorem frame_kernel26_ideal : Cert.quiescent_Kernel26Ideal := fun m ρ _ => Cert.Kernel26Ideal.Gen.frame (F := Ideal) m ρ
theorem frame_reference26 : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)
theorem frame_kernel27 : Cert.quiescent_Kernel27 := fun m ρ _ => Cert.Kernel27.Gen.frame (F := Bits) m ρ
theorem frame_kernel27_ideal : Cert.quiescent_Kernel27Ideal := fun m ρ _ => Cert.Kernel27Ideal.Gen.frame (F := Ideal) m ρ
theorem frame_reference27 : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)
theorem frame_kernel28 : Cert.quiescent_Kernel28 := fun m ρ _ => Cert.Kernel28.Gen.frame (F := Bits) m ρ
theorem frame_kernel28_ideal : Cert.quiescent_Kernel28Ideal := fun m ρ _ => Cert.Kernel28Ideal.Gen.frame (F := Ideal) m ρ
theorem frame_reference28 : Cert.quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)
theorem frame_kernel29 : Cert.quiescent_Kernel29 := fun m ρ _ => Cert.Kernel29.Gen.frame (F := Bits) m ρ
theorem frame_kernel29_ideal : Cert.quiescent_Kernel29Ideal := fun m ρ _ => Cert.Kernel29Ideal.Gen.frame (F := Ideal) m ρ
theorem frame_reference29 : Cert.quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)
theorem frame_kernel30 : Cert.quiescent_Kernel30 := fun m ρ _ => Cert.Kernel30.Gen.frame (F := Bits) m ρ
theorem frame_kernel30_ideal : Cert.quiescent_Kernel30Ideal := fun m ρ _ => Cert.Kernel30Ideal.Gen.frame (F := Ideal) m ρ
theorem frame_reference30 : Cert.quiescent_Reference30Ideal := fun m ρ _ =>
  (θ_run Cert.Reference30Ideal.defs _ _).mono (fun r h => ⟨fun c => (h c).2, sem_eq_zero_of_no_sems (by decide) r.2⟩)
    (Cert.Reference30Ideal.Value.run (F := Ideal) m ρ)
theorem frame_kernel31 : Cert.quiescent_Kernel31 := fun m ρ _ => Cert.Kernel31.Gen.frame (F := Bits) m ρ
theorem frame_kernel31_ideal : Cert.quiescent_Kernel31Ideal := fun m ρ _ => Cert.Kernel31Ideal.Gen.frame (F := Ideal) m ρ
theorem frame_reference31 : Cert.quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)
theorem frame_kernel32 : Cert.quiescent_Kernel32 := fun m ρ _ => Cert.Kernel32.Gen.frame (F := Bits) m ρ
theorem frame_kernel32_ideal : Cert.quiescent_Kernel32Ideal := fun m ρ _ => Cert.Kernel32Ideal.Gen.frame (F := Ideal) m ρ
theorem frame_reference32 : Cert.quiescent_Reference32Ideal := fun m ρ _ =>
  (θ_run Cert.Reference32Ideal.defs _ _).mono (fun r h => ⟨fun c => (h c).2, sem_eq_zero_of_no_sems (by decide) r.2⟩)
    (Cert.Reference32Ideal.Value.run (F := Ideal) m ρ)
theorem frame_kernel33 : Cert.quiescent_Kernel33 := fun m ρ _ => Cert.Kernel33.Gen.frame (F := Bits) m ρ
theorem frame_kernel33_ideal : Cert.quiescent_Kernel33Ideal := fun m ρ _ => Cert.Kernel33Ideal.Gen.frame (F := Ideal) m ρ
theorem frame_reference33 : Cert.quiescent_Reference33Ideal := fun m ρ _ =>
  (θ_run Cert.Reference33Ideal.defs _ _).mono (fun r h => ⟨fun c => (h c).2, sem_eq_zero_of_no_sems (by decide) r.2⟩)
    (Cert.Reference33Ideal.Value.run (F := Ideal) m ρ)
theorem frame_kernel34 : Cert.quiescent_Kernel34 := fun m ρ _ => Cert.Kernel34.Gen.frame (F := Bits) m ρ
theorem frame_kernel34_ideal : Cert.quiescent_Kernel34Ideal := fun m ρ _ => Cert.Kernel34Ideal.Gen.frame (F := Ideal) m ρ
theorem frame_reference34 : Cert.quiescent_Reference34Ideal := fun m ρ _ =>
  (θ_run Cert.Reference34Ideal.defs _ _).mono (fun r h => ⟨fun c => (h c).2, sem_eq_zero_of_no_sems (by decide) r.2⟩)
    (Cert.Reference34Ideal.Value.run (F := Ideal) m ρ)
theorem frame_kernel35 : Cert.quiescent_Kernel35 := fun m ρ _ => Cert.Kernel35.Gen.frame (F := Bits) m ρ
theorem frame_kernel35_ideal : Cert.quiescent_Kernel35Ideal := fun m ρ _ => Cert.Kernel35Ideal.Gen.frame (F := Ideal) m ρ
theorem frame_reference35 : Cert.quiescent_Reference35Ideal := fun m ρ _ =>
  (θ_run Cert.Reference35Ideal.defs _ _).mono (fun r h => ⟨fun c => (h c).2, sem_eq_zero_of_no_sems (by decide) r.2⟩)
    (Cert.Reference35Ideal.Value.run (F := Ideal) m ρ)
theorem frame_kernel38 : Cert.quiescent_Kernel38 := fun m ρ _ => Cert.Kernel38.Gen.frame (F := Bits) m ρ
theorem frame_kernel38_ideal : Cert.quiescent_Kernel38Ideal := fun m ρ _ => Cert.Kernel38Ideal.Gen.frame (F := Ideal) m ρ
theorem frame_kernel38_ideal_finite : Cert.quiescent_Kernel38Ideal_pre_finite_memory := fun m ρ _ => frame_kernel38_ideal m ρ trivial
theorem frame_reference38 : Cert.quiescent_Reference38Ideal := fun m ρ _ =>
  (θ_run Cert.Reference38Ideal.defs _ _).mono (fun r h => ⟨fun c => (h c).2.2.2, sem_eq_zero_of_no_sems (by decide) r.2⟩)
    (Cert.Reference38Ideal.Value.run (F := Ideal) m ρ)
theorem frame_reference38_finite : Cert.quiescent_Reference38Ideal_pre_finite_memory := fun m ρ _ => frame_reference38 m ρ trivial
theorem frame_kernel39 : Cert.quiescent_Kernel39 := fun m ρ _ => Cert.Kernel39.Gen.frame (F := Bits) m ρ
theorem frame_kernel39_ideal : Cert.quiescent_Kernel39Ideal := fun m ρ _ => Cert.Kernel39Ideal.Gen.frame (F := Ideal) m ρ
theorem frame_reference39 : Cert.quiescent_Reference39Ideal := fun m ρ _ =>
  (θ_run Cert.Reference39Ideal.defs _ _).mono (fun r h => ⟨fun c => (h c).2, sem_eq_zero_of_no_sems (by decide) r.2⟩)
    (Cert.Reference39Ideal.Value.run (F := Ideal) m ρ)
theorem frame_kernel36 : Cert.quiescent_Kernel36 := fun m ρ _ => Cert.Kernel36.Gen.frame (F := Bits) m ρ
theorem frame_kernel36_ideal : Cert.quiescent_Kernel36Ideal := fun m ρ _ => Cert.Kernel36Ideal.Gen.frame (F := Ideal) m ρ
theorem frame_reference36 : Cert.quiescent_Reference36Ideal := fun m ρ _ =>
  (θ_run Cert.Reference36Ideal.defs _ _).mono (fun r h => ⟨fun c => (h c).2, sem_eq_zero_of_no_sems (by decide) r.2⟩)
    (Cert.Reference36Ideal.Value.run (F := Ideal) m ρ)

theorem claim : Cert.Claim := ⟨Cert.Kernel.Gen.facts, Cert.KernelIdeal.Gen.facts, Cert.ReferenceIdeal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel39.Gen.facts, Cert.Kernel39Ideal.Gen.facts, Cert.Reference39Ideal.Gen.facts,
  Cert.Pre_finite.Gen.facts, Cert.Pre_finite_qkv.Gen.facts, Cert.Pre_finite_memory.Gen.facts,
  frame_kernel, frame_kernel_ideal, frame_kernel_ideal_finite, frame_reference, frame_reference_finite,
  Forward.frame_word, Forward.frame_ideal, Forward.frame_ideal_finite, Forward.frame_reference, Forward.frame_reference_finite,
  frame_kernel38, frame_kernel38_ideal, frame_kernel38_ideal_finite, frame_reference38, frame_reference38_finite,
  frame_kernel2, frame_kernel2_ideal, frame_reference2,
  DownRun.frame_word, DownRun.frame_ideal, frame_reference3,
  UpRun.frame_word, UpRun.frame_ideal, frame_reference4,
  frame_kernel5, frame_kernel5_ideal, frame_reference5,
  frame_kernel6, frame_kernel6_ideal, frame_reference6,
  frame_kernel7, frame_kernel7_ideal, frame_reference7,
  frame_kernel8, frame_kernel8_ideal, frame_reference8,
  frame_kernel9, frame_kernel9_ideal, frame_reference9,
  frame_kernel10, frame_kernel10_ideal, frame_reference10,
  frame_kernel11, frame_kernel11_ideal, frame_reference11,
  frame_kernel12, frame_kernel12_ideal, frame_reference12,
  frame_kernel13, frame_kernel13_ideal, frame_reference13,
  frame_kernel14, frame_kernel14_ideal, frame_reference14,
  frame_kernel15, frame_kernel15_ideal, frame_reference15,
  frame_kernel16, frame_kernel16_ideal, frame_reference16,
  frame_kernel17, frame_kernel17_ideal, frame_reference17,
  frame_kernel18, frame_kernel18_ideal, frame_reference18,
  frame_kernel19, frame_kernel19_ideal, frame_reference19,
  frame_kernel20, frame_kernel20_ideal, frame_reference20,
  frame_kernel21, frame_kernel21_ideal, frame_reference21,
  frame_kernel22, frame_kernel22_ideal, frame_reference22,
  frame_kernel23, frame_kernel23_ideal, frame_reference23,
  frame_kernel24, frame_kernel24_ideal, frame_reference24,
  frame_kernel25, frame_kernel25_ideal, frame_reference25,
  frame_kernel26, frame_kernel26_ideal, frame_reference26,
  frame_kernel27, frame_kernel27_ideal, frame_reference27,
  frame_kernel28, frame_kernel28_ideal, frame_reference28,
  frame_kernel29, frame_kernel29_ideal, frame_reference29,
  frame_kernel30, frame_kernel30_ideal, frame_reference30,
  frame_kernel31, frame_kernel31_ideal, frame_reference31,
  frame_kernel32, frame_kernel32_ideal, frame_reference32,
  frame_kernel33, frame_kernel33_ideal, frame_reference33,
  frame_kernel34, frame_kernel34_ideal, frame_reference34,
  frame_kernel35, frame_kernel35_ideal, frame_reference35,
  frame_kernel36, frame_kernel36_ideal, frame_reference36,
  frame_kernel39, frame_kernel39_ideal, frame_reference39,
  mask_preserved, value, Forward.mask_preserved, Forward.value, trivial, MemBwd.value, trivial, Down.value, trivial, DownRun.value, trivial, UpRun.value, trivial, Up.value,
  trivial, InDw.value, trivial, InDx.value, trivial, MemOut.value, trivial, MemQuery.value, trivial, MixDx.value,
  trivial, MixDw.value, trivial, Hidden.value, trivial, Output.value, trivial, Projection.value, trivial, MixYDx.value,
  trivial, QDw.value, trivial, QDx.value, trivial, KDw.value, trivial, KDx.value, trivial, VDw.value,
  trivial, VDx.value, trivial, Query.value, trivial, Key.value, trivial, Values.value, trivial, ValuesT.value,
  trivial, Mix.value, trivial, MixY.value, trivial, Queries.value, trivial, MemKeys.value, trivial, MemValues.value,
  trivial, MemOutput.value, trivial, MemOutputDw.value, trivial, MemQueryDw.value, trivial, MemKeyDw.value, trivial, MemValueDw.value,
  trivial, MixYDw.value, trivial, MemFwd.value⟩

end Cert.Proof

end
